-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_squares_are_normal [hPre_squares_are_normal : Cert.Pre_squares_are_normal.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_squares_are_normal.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_squares_are_normal [hPre_squares_are_normal : Cert.Pre_squares_are_normal.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_squares_are_normal.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_squares_are_normal [hKernel6Ideal : Cert.Kernel6Ideal.Facts] [hPre_squares_are_normal : Cert.Pre_squares_are_normal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_squares_are_normal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_squares_are_normal [hReference6Ideal : Cert.Reference6Ideal.Facts] [hPre_squares_are_normal : Cert.Pre_squares_are_normal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_squares_are_normal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_squares_are_normal [hKernel6Ideal : Cert.Kernel6Ideal.Facts] [hReference6Ideal : Cert.Reference6Ideal.Facts] [hPre_squares_are_normal : Cert.Pre_squares_are_normal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_squares_are_normal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v42) = v0 c
          ∧ r.2.mem ((c.tc : Thread Cert.Reference7Ideal.nD Cert.Reference7Ideal.τ).loc Cert.Reference7Ideal.main_v43) = v1 c
          ∧ r.2.mem ((c.tc : Thread Cert.Reference7Ideal.nD Cert.Reference7Ideal.τ).loc Cert.Reference7Ideal.main_v41) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_v61) = v1 c
          ∧ r.2.mem ((c.tc : Thread Cert.Reference8Ideal.nD Cert.Reference8Ideal.τ).loc Cert.Reference8Ideal.main_v59) = v2 c
          ∧ r.2.mem ((c.tc : Thread Cert.Reference8Ideal.nD Cert.Reference8Ideal.τ).loc Cert.Reference8Ideal.main_v63) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v18) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v5) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v5) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v5) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v5) = v1 c
          ∧ r.2.mem ((c.tc : Thread Cert.Reference25Ideal.nD Cert.Reference25Ideal.τ).loc Cert.Reference25Ideal.main_v11) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)) (v4 : (c : Dev Cert.Kernel26Ideal.nD) → Buf (Elt Ideal) ((c.tc : Thread Cert.Kernel26Ideal.nD Cert.Kernel26Ideal.τ).loc Cert.Kernel26Ideal.main_v0_4)) (v5 : (c : Dev Cert.Kernel26Ideal.nD) → Buf (Elt Ideal) ((c.tc : Thread Cert.Kernel26Ideal.nD Cert.Kernel26Ideal.τ).loc Cert.Kernel26Ideal.main_v0_5)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_v0_4) = v4 c
          ∧ r.2.mem ((c.tc : Thread Cert.Kernel26Ideal.nD Cert.Kernel26Ideal.τ).loc Cert.Kernel26Ideal.main_v0_5) = v5 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v92) = v0 c
          ∧ r.2.mem ((c.tc : Thread Cert.Reference26Ideal.nD Cert.Reference26Ideal.τ).loc Cert.Reference26Ideal.main_v93) = v1 c
          ∧ r.2.mem ((c.tc : Thread Cert.Reference26Ideal.nD Cert.Reference26Ideal.τ).loc Cert.Reference26Ideal.main_v181) = v2 c
          ∧ r.2.mem ((c.tc : Thread Cert.Reference26Ideal.nD Cert.Reference26Ideal.τ).loc Cert.Reference26Ideal.main_v182) = v3 c
          ∧ r.2.mem ((c.tc : Thread Cert.Reference26Ideal.nD Cert.Reference26Ideal.τ).loc Cert.Reference26Ideal.main_v57) = v4 c
          ∧ r.2.mem ((c.tc : Thread Cert.Reference26Ideal.nD Cert.Reference26Ideal.τ).loc Cert.Reference26Ideal.main_v146) = v5 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_squares_are_normal : Cert.Pre_squares_are_normal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_squares_are_normal (hKernel6Ideal := hKernel6Ideal) (hPre_squares_are_normal := hPre_squares_are_normal)
    ∧ quiescent_Reference6Ideal (hReference6Ideal := hReference6Ideal)
    ∧ quiescent_Reference6Ideal_pre_squares_are_normal (hReference6Ideal := hReference6Ideal) (hPre_squares_are_normal := hPre_squares_are_normal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_squares_are_normal (hKernel6Ideal := hKernel6Ideal) (hReference6Ideal := hReference6Ideal) (hPre_squares_are_normal := hPre_squares_are_normal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_squares_are_normal.lean ====
abbrev S8320x1024 : Shape := ⟨2, ![8320, 1024]⟩
abbrev S4096x1024 : Shape := ⟨2, ![4096, 1024]⟩
abbrev S8320x4096 : Shape := ⟨2, ![8320, 4096]⟩
abbrev S_ : Shape := ⟨0, ![]⟩

class Facts : Prop where
  bcast_S_S8320x4096 : S_.BroadcastsInDim S8320x4096 (![] : Fin 0 → Fin S8320x4096.rank)

variable [Facts]

def fn {F : FTy → Type} [FloatOps F] (main_arg0 : FVec F S8320x1024 .bf16) (main_arg1 : FVec F S4096x1024 .bf16) (main_arg2 : FVec F S8320x4096 .f32) : IVec S8320x4096 1 :=
  let main_cst : FVec F S_ .f32 := constant S_ .f32 0x00000000#32
  let main_v0 : FVec F S8320x4096 .f32 := broadcastInDim S8320x4096 ![] bcast_S_S8320x4096 main_cst
  let main_v1 : IVec S8320x4096 1 := cmpf .ole main_arg2 main_v0
  let main_cst_0 : FVec F S_ .f32 := constant S_ .f32 0x20000000#32
  let main_v2 : FVec F S8320x4096 .f32 := broadcastInDim S8320x4096 ![] bcast_S_S8320x4096 main_cst_0
  let main_v3 : IVec S8320x4096 1 := cmpf .oge main_arg2 main_v2
  let main_cst_1 : FVec F S_ .f32 := constant S_ .f32 0x7F800000#32
  let main_v4 : FVec F S8320x4096 .f32 := broadcastInDim S8320x4096 ![] bcast_S_S8320x4096 main_cst_1
  let main_v5 : IVec S8320x4096 1 := cmpf .olt main_arg2 main_v4
  let main_v6 : IVec S8320x4096 1 := andi main_v3 main_v5
  let main_v7 : IVec S8320x4096 1 := ori main_v1 main_v6
  main_v7
-- ==== Kernel.lean ====
abbrev S8320x256 : Shape := ⟨2, ![8320, 256]⟩
abbrev S130x1x256 : Shape := ⟨3, ![130, 1, 256]⟩
abbrev S8320x3840 : Shape := ⟨2, ![8320, 3840]⟩
abbrev S8320x512 : Shape := ⟨2, ![8320, 512]⟩
abbrev S2x65x128x256 : Shape := ⟨4, ![2, 65, 128, 256]⟩
abbrev S2x4160x512 : Shape := ⟨3, ![2, 4160, 512]⟩
abbrev S2x4160x256 : Shape := ⟨3, ![2, 4160, 256]⟩
abbrev S2x65x1x256 : Shape := ⟨4, ![2, 65, 1, 256]⟩
abbrev S2x4160x3840 : Shape := ⟨3, ![2, 4160, 3840]⟩
abbrev S2x320x512 : Shape := ⟨3, ![2, 320, 512]⟩
abbrev S2x320x256 : Shape := ⟨3, ![2, 320, 256]⟩
abbrev S2x5x1x256 : Shape := ⟨4, ![2, 5, 1, 256]⟩
abbrev S2x5x128x256 : Shape := ⟨4, ![2, 5, 128, 256]⟩
abbrev S2x128x256 : Shape := ⟨3, ![2, 128, 256]⟩
abbrev S1x1x128x256 : Shape := ⟨4, ![1, 1, 128, 256]⟩
abbrev S128x256 : Shape := ⟨2, ![128, 256]⟩
abbrev S1x128x256 : Shape := ⟨3, ![1, 128, 256]⟩
abbrev S1x64x256 : Shape := ⟨3, ![1, 64, 256]⟩
abbrev S64x256 : Shape := ⟨2, ![64, 256]⟩
abbrev S1x256 : Shape := ⟨2, ![1, 256]⟩
abbrev S1x64x128 : Shape := ⟨3, ![1, 64, 128]⟩
abbrev S64x128 : Shape := ⟨2, ![64, 128]⟩
abbrev S256 : Shape := ⟨1, ![256]⟩
abbrev S1x1x1x256 : Shape := ⟨4, ![1, 1, 1, 256]⟩

abbrev nBuf : Space → Nat
  | .hbm => 15
  | .vmem => 21
  | .smem => 0
  | _ => 0

abbrev bufTy : (tb : Table) → Fin (tcTables nBuf tb) → BufTy
  | .hbm, ⟨0, _⟩ => ⟨S8320x256, .bf16⟩
  | .hbm, ⟨1, _⟩ => ⟨S8320x256, .bf16⟩
  | .hbm, ⟨2, _⟩ => ⟨S130x1x256, .f32⟩
  | .hbm, ⟨3, _⟩ => ⟨S8320x3840, .bf16⟩
  | .hbm, ⟨4, _⟩ => ⟨S8320x512, .bf16⟩
  | .hbm, ⟨5, _⟩ => ⟨S2x65x128x256, .f32⟩
  | .hbm, ⟨6, _⟩ => ⟨S2x4160x512, .bf16⟩
  | .hbm, ⟨7, _⟩ => ⟨S2x4160x256, .bf16⟩
  | .hbm, ⟨8, _⟩ => ⟨S2x4160x256, .bf16⟩
  | .hbm, ⟨9, _⟩ => ⟨S2x65x1x256, .f32⟩
  | .hbm, ⟨10, _⟩ => ⟨S2x4160x3840, .bf16⟩
  | .hbm, ⟨11, _⟩ => ⟨S2x4160x256, .f32⟩
  | .hbm, ⟨12, _⟩ => ⟨S2x4160x256, .f32⟩
  | .hbm, ⟨13, _⟩ => ⟨S2x4160x512, .bf16⟩
  | .hbm, ⟨14, _⟩ => ⟨S2x65x1x256, .f32⟩
  | .local _ .vmem, ⟨0, _⟩ => ⟨S2x320x512, .bf16⟩
  | .local _ .vmem, ⟨1, _⟩ => ⟨S2x320x512, .bf16⟩
  | .local _ .vmem, ⟨2, _⟩ => ⟨S2x320x256, .bf16⟩
  | .local _ .vmem, ⟨3, _⟩ => ⟨S2x320x256, .bf16⟩
  | .local _ .vmem, ⟨4, _⟩ => ⟨S2x320x256, .bf16⟩
  | .local _ .vmem, ⟨5, _⟩ => ⟨S2x320x256, .bf16⟩
  | .local _ .vmem, ⟨6, _⟩ => ⟨S2x5x1x256, .f32⟩
  | .local _ .vmem, ⟨7, _⟩ => ⟨S2x5x1x256, .f32⟩
  | .local _ .vmem, ⟨8, _⟩ => ⟨S2x320x512, .bf16⟩
  | .local _ .vmem, ⟨9, _⟩ => ⟨S2x320x512, .bf16⟩
  | .local _ .vmem, ⟨10, _⟩ => ⟨S2x5x128x256, .f32⟩
  | .local _ .vmem, ⟨11, _⟩ => ⟨S2x5x128x256, .f32⟩
  | .local _ .vmem, ⟨12, _⟩ => ⟨S2x320x256, .f32⟩
  | .local _ .vmem, ⟨13, _⟩ => ⟨S2x320x256, .f32⟩
  | .local _ .vmem, ⟨14, _⟩ => ⟨S2x320x256, .f32⟩
  | .local _ .vmem, ⟨15, _⟩ => ⟨S2x320x256, .f32⟩
  | .local _ .vmem, ⟨16, _⟩ => ⟨S2x320x512, .bf16⟩
  | .local _ .vmem, ⟨17, _⟩ => ⟨S2x320x512, .bf16⟩
  | .local _ .vmem, ⟨18, _⟩ => ⟨S2x5x1x256, .f32⟩
  | .local _ .vmem, ⟨19, _⟩ => ⟨S2x5x1x256, .f32⟩
  | .local _ .vmem, ⟨20, _⟩ => ⟨S2x128x256, .f32⟩
  | _, _ => ⟨S8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 4 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c5_i32 : BitVec 32 := 5#32
  let c0_i32_0 : BitVec 32 := 0#32
  ![c0_i32.toNat, v0.toNat, c5_i32.toNat]

def cc0_transform_5 (i : grid0.Coords) : Fin 4 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 4 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S2x320x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x320x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x320x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x5x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x320x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x5x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x320x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x320x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x320x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x5x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8320x256 : Shape := ⟨2, ![8320, 256]⟩
abbrev S130x1x256 : Shape := ⟨3, ![130, 1, 256]⟩
abbrev S8320x3840 : Shape := ⟨2, ![8320, 3840]⟩
abbrev S8320x512 : Shape := ⟨2, ![8320, 512]⟩
abbrev S2x65x128x256 : Shape := ⟨4, ![2, 65, 128, 256]⟩
abbrev S2x65x64x4x64 : Shape := ⟨5, ![2, 65, 64, 4, 64]⟩
abbrev S2x4x65x64x64 : Shape := ⟨5, ![2, 4, 65, 64, 64]⟩
abbrev S2x65x64x4x128 : Shape := ⟨5, ![2, 65, 64, 4, 128]⟩
abbrev S2x4x65x64x128 : Shape := ⟨5, ![2, 4, 65, 64, 128]⟩
abbrev S2x65x4x64 : Shape := ⟨4, ![2, 65, 4, 64]⟩
abbrev S2x4x65x64 : Shape := ⟨4, ![2, 4, 65, 64]⟩
abbrev S65x2x4x64x64 : Shape := ⟨5, ![65, 2, 4, 64, 64]⟩
abbrev S65x2x4x64x128 : Shape := ⟨5, ![65, 2, 4, 64, 128]⟩
abbrev S65x2x4x64 : Shape := ⟨4, ![65, 2, 4, 64]⟩
abbrev S2x65x128x4x64 : Shape := ⟨5, ![2, 65, 128, 4, 64]⟩
abbrev S_ : Shape := ⟨0, ![]⟩
abbrev S2x4x64x128 : Shape := ⟨4, ![2, 4, 64, 128]⟩
abbrev S1x2x4x64x128 : Shape := ⟨5, ![1, 2, 4, 64, 128]⟩
abbrev S1x2x4x64x64 : Shape := ⟨5, ![1, 2, 4, 64, 64]⟩
abbrev S2x4x64x64 : Shape := ⟨4, ![2, 4, 64, 64]⟩
abbrev S1x2x4x64 : Shape := ⟨4, ![1, 2, 4, 64]⟩
abbrev S2x4x64 : Shape := ⟨3, ![2, 4, 64]⟩
abbrev S2x4x64x1 : Shape := ⟨4, ![2, 4, 64, 1]⟩
abbrev S2x4x128x64 : Shape := ⟨4, ![2, 4, 128, 64]⟩
abbrev S2x4160x256 : Shape := ⟨3, ![2, 4160, 256]⟩
abbrev S2x4160x512 : Shape := ⟨3, ![2, 4160, 512]⟩
abbrev S2x65x1x256 : Shape := ⟨4, ![2, 65, 1, 256]⟩

abbrev nBuf : Space → Nat
  | .hbm => 151
  | .vmem => 0
  | .smem => 0
  | _ => 0

abbrev hbmTy0_0 (i : Nat) : BufTy := match i % 128 with
  | 0 => ⟨S8320x256, .bf16⟩
  | 1 => ⟨S8320x256, .bf16⟩
  | 2 => ⟨S130x1x256, .f32⟩
  | 3 => ⟨S8320x3840, .bf16⟩
  | 4 => ⟨S8320x512, .bf16⟩
  | 5 => ⟨S2x65x128x256, .f32⟩
  | 6 => ⟨S8320x512, .bf16⟩
  | 7 => ⟨S8320x256, .f32⟩
  | 8 => ⟨S2x65x64x4x64, .f32⟩
  | 9 => ⟨S2x4x65x64x64, .f32⟩
  | 10 => ⟨S8320x256, .f32⟩
  | 11 => ⟨S2x65x64x4x64, .f32⟩
  | 12 => ⟨S2x4x65x64x64, .f32⟩
  | 13 => ⟨S8320x512, .f32⟩
  | 14 => ⟨S2x65x64x4x128, .f32⟩
  | 15 => ⟨S2x4x65x64x128, .f32⟩
  | 16 => ⟨S2x65x4x64, .f32⟩
  | 17 => ⟨S2x4x65x64, .f32⟩
  | 18 => ⟨S65x2x4x64x64, .f32⟩
  | 19 => ⟨S65x2x4x64x64, .f32⟩
  | 20 => ⟨S65x2x4x64x128, .f32⟩
  | 21 => ⟨S65x2x4x64, .f32⟩
  | 22 => ⟨S2x65x128x4x64, .f32⟩
  | 23 => ⟨S65x2x4x64x128, .f32⟩
  | 24 => ⟨S8320x512, .f32⟩
  | 25 => ⟨S2x65x64x4x128, .f32⟩
  | 26 => ⟨S2x4x65x64x128, .f32⟩
  | 27 => ⟨S65x2x4x64x128, .f32⟩
  | 28 => ⟨S_, .f32⟩
  | 29 => ⟨S2x4x64x128, .f32⟩
  | 30 => ⟨S_, .f32⟩
  | 31 => ⟨S65x2x4x64x64, .f32⟩
  | 32 => ⟨S_, .f32⟩
  | 33 => ⟨S65x2x4x64x64, .f32⟩
  | 34 => ⟨S_, .f32⟩
  | 35 => ⟨S65x2x4x64x128, .f32⟩
  | 36 => ⟨S_, .f32⟩
  | 37 => ⟨S65x2x4x64, .f32⟩
  | 38 => ⟨S_, .i32⟩
  | 39 => ⟨S65x2x4x64x128, .f32⟩
  | 40 => ⟨S65x2x4x64x128, .f32⟩
  | 41 => ⟨S65x2x4x64x64, .f32⟩
  | 42 => ⟨S65x2x4x64x64, .f32⟩
  | 43 => ⟨S65x2x4x64x128, .f32⟩
  | 44 => ⟨S65x2x4x64, .f32⟩
  | 45 => ⟨S_, .i32⟩
  | 46 => ⟨S2x4x64x128, .f32⟩
  | 47 => ⟨S65x2x4x64x64, .f32⟩
  | 48 => ⟨S65x2x4x64x64, .f32⟩
  | 49 => ⟨S65x2x4x64x128, .f32⟩
  | 50 => ⟨S65x2x4x64, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S1x2x4x64x128, .f32⟩
  | 62 => ⟨S2x4x64x128, .f32⟩
  | 63 => ⟨S_, .i32⟩
  | 64 => ⟨S_, .i32⟩
  | 65 => ⟨S_, .i32⟩
  | 66 => ⟨S_, .i32⟩
  | 67 => ⟨S1x2x4x64x128, .f32⟩
  | 68 => ⟨S2x4x64x128, .f32⟩
  | 69 => ⟨S_, .i32⟩
  | 70 => ⟨S_, .i32⟩
  | 71 => ⟨S_, .i32⟩
  | 72 => ⟨S_, .i32⟩
  | 73 => ⟨S1x2x4x64x64, .f32⟩
  | 74 => ⟨S2x4x64x64, .f32⟩
  | 75 => ⟨S_, .i32⟩
  | 76 => ⟨S_, .i32⟩
  | 77 => ⟨S_, .i32⟩
  | 78 => ⟨S_, .i32⟩
  | 79 => ⟨S1x2x4x64x64, .f32⟩
  | 80 => ⟨S2x4x64x64, .f32⟩
  | 81 => ⟨S_, .i32⟩
  | 82 => ⟨S_, .i32⟩
  | 83 => ⟨S_, .i32⟩
  | 84 => ⟨S_, .i32⟩
  | 85 => ⟨S1x2x4x64x128, .f32⟩
  | 86 => ⟨S2x4x64x128, .f32⟩
  | 87 => ⟨S_, .i32⟩
  | 88 => ⟨S_, .i32⟩
  | 89 => ⟨S_, .i32⟩
  | 90 => ⟨S1x2x4x64, .f32⟩
  | 91 => ⟨S2x4x64, .f32⟩
  | 92 => ⟨S2x4x64x128, .f32⟩
  | 93 => ⟨S2x4x64x1, .f32⟩
  | 94 => ⟨S2x4x64x128, .f32⟩
  | 95 => ⟨S2x4x64x128, .f32⟩
  | 96 => ⟨S2x4x64x128, .f32⟩
  | 97 => ⟨S2x4x64x128, .f32⟩
  | 98 => ⟨S2x4x128x64, .f32⟩
  | 99 => ⟨S2x4x64x128, .f32⟩
  | 100 => ⟨S2x4x64x64, .f32⟩
  | 101 => ⟨S2x4x64x64, .f32⟩
  | 102 => ⟨S2x4x64x128, .f32⟩
  | 103 => ⟨S_, .f32⟩
  | 104 => ⟨S2x4x64, .f32⟩
  | 105 => ⟨S2x4x64x1, .f32⟩
  | 106 => ⟨S2x4x64x128, .f32⟩
  | 107 => ⟨S2x4x64x128, .f32⟩
  | 108 => ⟨S_, .f32⟩
  | 109 => ⟨S2x4x64, .f32⟩
  | 110 => ⟨S2x4x128x64, .f32⟩
  | 111 => ⟨S2x4x64x128, .f32⟩
  | 112 => ⟨S2x4x64x128, .f32⟩
  | 113 => ⟨S2x4x64x64, .f32⟩
  | 114 => ⟨S1x2x4x64x64, .f32⟩
  | 115 => ⟨S_, .i32⟩
  | 116 => ⟨S_, .i32⟩
  | 117 => ⟨S_, .i32⟩
  | 118 => ⟨S_, .i32⟩
  | 119 => ⟨S65x2x4x64x64, .f32⟩
  | 120 => ⟨S1x2x4x64x64, .f32⟩
  | 121 => ⟨S_, .i32⟩
  | 122 => ⟨S_, .i32⟩
  | 123 => ⟨S_, .i32⟩
  | 124 => ⟨S_, .i32⟩
  | 125 => ⟨S65x2x4x64x64, .f32⟩
  | 126 => ⟨S1x2x4x64x128, .f32⟩
  | 127 => ⟨S_, .i32⟩
  | _ => ⟨S8320x256, .bf16⟩

abbrev hbmTy0_1 (i : Nat) : BufTy := match i % 128 with
  | 0 => ⟨S_, .i32⟩
  | 1 => ⟨S_, .i32⟩
  | 2 => ⟨S_, .i32⟩
  | 3 => ⟨S65x2x4x64x128, .f32⟩
  | 4 => ⟨S1x2x4x64, .f32⟩
  | 5 => ⟨S_, .i32⟩
  | 6 => ⟨S_, .i32⟩
  | 7 => ⟨S_, .i32⟩
  | 8 => ⟨S65x2x4x64, .f32⟩
  | 9 => ⟨S_, .i32⟩
  | 10 => ⟨S_, .i32⟩
  | 11 => ⟨S2x4x65x64x64, .f32⟩
  | 12 => ⟨S2x65x64x4x64, .f32⟩
  | 13 => ⟨S2x4160x256, .f32⟩
  | 14 => ⟨S2x4x65x64x64, .f32⟩
  | 15 => ⟨S2x65x64x4x64, .f32⟩
  | 16 => ⟨S2x4160x256, .f32⟩
  | 17 => ⟨S2x4x65x64x128, .f32⟩
  | 18 => ⟨S2x65x64x4x128, .f32⟩
  | 19 => ⟨S2x4160x512, .f32⟩
  | 20 => ⟨S2x4160x512, .bf16⟩
  | 21 => ⟨S2x65x4x64, .f32⟩
  | 22 => ⟨S2x65x1x256, .f32⟩
  | _ => ⟨S8320x256, .bf16⟩

abbrev hbmTy (i : Nat) : BufTy := match i / 128 with
  | 0 => hbmTy0_0 i
  | 1 => hbmTy0_1 i
  | _ => ⟨S8320x256, .bf16⟩

abbrev bufTy : (tb : Table) → Fin (tcTables nBuf tb) → BufTy
  | .hbm, ⟨i, _⟩ => hbmTy i
  | _, _ => ⟨S8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_c : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v27_3 : Ref sig .tc := ⟨.hbm, 42, rfl⟩
abbrev main_v27_4 : Ref sig .tc := ⟨.hbm, 43, rfl⟩
abbrev main_v27_5 : Ref sig .tc := ⟨.hbm, 44, rfl⟩
abbrev main_v27_6 : Ref sig .tc := ⟨.hbm, 45, rfl⟩
abbrev main_v27_7 : Ref sig .tc := ⟨.hbm, 46, rfl⟩
abbrev main_v27_8 : Ref sig .tc := ⟨.hbm, 47, rfl⟩
abbrev main_v27_9 : Ref sig .tc := ⟨.hbm, 48, rfl⟩
abbrev main_v27_10 : Ref sig .tc := ⟨.hbm, 49, rfl⟩
abbrev main_v27_11 : Ref sig .tc := ⟨.hbm, 50, rfl⟩
abbrev main_while0c_c_15 : Ref sig .tc := ⟨.hbm, 51, rfl⟩
abbrev main_while0c_v40 : Ref sig .tc := ⟨.hbm, 52, rfl⟩
abbrev main_while0b_c_15 : Ref sig .tc := ⟨.hbm, 53, rfl⟩
abbrev main_while0b_v40 : Ref sig .tc := ⟨.hbm, 54, rfl⟩
abbrev main_while0b_c_16 : Ref sig .tc := ⟨.hbm, 55, rfl⟩
abbrev main_while0b_v41 : Ref sig .tc := ⟨.hbm, 56, rfl⟩
abbrev main_while0b_call0_c : Ref sig .tc := ⟨.hbm, 57, rfl⟩
abbrev main_while0b_call0_c_0 : Ref sig .tc := ⟨.hbm, 58, rfl⟩
abbrev main_while0b_call0_c_1 : Ref sig .tc := ⟨.hbm, 59, rfl⟩
abbrev main_while0b_call0_c_2 : Ref sig .tc := ⟨.hbm, 60, rfl⟩
abbrev main_while0b_call0_v0 : Ref sig .tc := ⟨.hbm, 61, rfl⟩
abbrev main_while0b_v42 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_c_1 : Ref sig .tc := ⟨.hbm, 65, rfl⟩
abbrev main_while0b_call1_c_2 : Ref sig .tc := ⟨.hbm, 66, rfl⟩
abbrev main_while0b_call1_v0 : Ref sig .tc := ⟨.hbm, 67, rfl⟩
abbrev main_while0b_v43 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_c_2 : Ref sig .tc := ⟨.hbm, 72, rfl⟩
abbrev main_while0b_call2_v0 : Ref sig .tc := ⟨.hbm, 73, rfl⟩
abbrev main_while0b_v44 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_c_2 : Ref sig .tc := ⟨.hbm, 78, rfl⟩
abbrev main_while0b_call3_v0 : Ref sig .tc := ⟨.hbm, 79, rfl⟩
abbrev main_while0b_v45 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_c_2 : Ref sig .tc := ⟨.hbm, 84, rfl⟩
abbrev main_while0b_call4_v0 : Ref sig .tc := ⟨.hbm, 85, rfl⟩
abbrev main_while0b_v46 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_call5_v0 : Ref sig .tc := ⟨.hbm, 90, rfl⟩
abbrev main_while0b_v47 : Ref sig .tc := ⟨.hbm, 91, rfl⟩
abbrev main_while0b_v48 : Ref sig .tc := ⟨.hbm, 92, rfl⟩
abbrev main_while0b_v49 : Ref sig .tc := ⟨.hbm, 93, rfl⟩
abbrev main_while0b_v50 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_v54 : Ref sig .tc := ⟨.hbm, 98, rfl⟩
abbrev main_while0b_v55 : Ref sig .tc := ⟨.hbm, 99, rfl⟩
abbrev main_while0b_v56 : Ref sig .tc := ⟨.hbm, 100, rfl⟩
abbrev main_while0b_v57 : Ref sig .tc := ⟨.hbm, 101, rfl⟩
abbrev main_while0b_v58 : Ref sig .tc := ⟨.hbm, 102, rfl⟩
abbrev main_while0b_cst_17 : Ref sig .tc := ⟨.hbm, 103, rfl⟩
abbrev main_while0b_v59 : Ref sig .tc := ⟨.hbm, 104, rfl⟩
abbrev main_while0b_v60 : Ref sig .tc := ⟨.hbm, 105, rfl⟩
abbrev main_while0b_v61 : Ref sig .tc := ⟨.hbm, 106, rfl⟩
abbrev main_while0b_v62 : Ref sig .tc := ⟨.hbm, 107, rfl⟩
abbrev main_while0b_cst_18 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_call6_v0 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_call6_c_2 : Ref sig .tc := ⟨.hbm, 118, rfl⟩
abbrev main_while0b_v68 : Ref sig .tc := ⟨.hbm, 119, rfl⟩
abbrev main_while0b_call7_v0 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_call7_c_1 : Ref sig .tc := ⟨.hbm, 123, rfl⟩
abbrev main_while0b_call7_c_2 : Ref sig .tc := ⟨.hbm, 124, rfl⟩
abbrev main_while0b_v69 : Ref sig .tc := ⟨.hbm, 125, rfl⟩
abbrev main_while0b_call8_v0 : Ref sig .tc := ⟨.hbm, 126, rfl⟩
abbrev main_while0b_call8_c : Ref sig .tc := ⟨.hbm, 127, rfl⟩
abbrev main_while0b_call8_c_0 : Ref sig .tc := ⟨.hbm, 128, rfl⟩
abbrev main_while0b_call8_c_1 : Ref sig .tc := ⟨.hbm, 129, rfl⟩
abbrev main_while0b_call8_c_2 : Ref sig .tc := ⟨.hbm, 130, rfl⟩
abbrev main_while0b_v70 : Ref sig .tc := ⟨.hbm, 131, rfl⟩
abbrev main_while0b_call9_v0 : Ref sig .tc := ⟨.hbm, 132, rfl⟩
abbrev main_while0b_call9_c : Ref sig .tc := ⟨.hbm, 133, rfl⟩
abbrev main_while0b_call9_c_0 : Ref sig .tc := ⟨.hbm, 134, rfl⟩
abbrev main_while0b_call9_c_1 : Ref sig .tc := ⟨.hbm, 135, rfl⟩
abbrev main_while0b_v71 : Ref sig .tc := ⟨.hbm, 136, rfl⟩
abbrev main_while0b_c_19 : Ref sig .tc := ⟨.hbm, 137, rfl⟩
abbrev main_while0b_v72 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩

abbrev nD : Nat := 1
abbrev τ : Topo := Topo.v7x

variable {F : FTy → Type} [FloatOps F]

abbrev main_while0_count : Scf.Loop 32 := ⟨0#32, 65#32, 1#32⟩
-- ==== Kernel3.lean ====
abbrev S8320x1024 : Shape := ⟨2, ![8320, 1024]⟩
abbrev S8320x4096 : Shape := ⟨2, ![8320, 4096]⟩
abbrev S4x1024x1024 : Shape := ⟨3, ![4, 1024, 1024]⟩
abbrev S1664x1024 : Shape := ⟨2, ![1664, 1024]⟩
abbrev S1664x2048 : Shape := ⟨2, ![1664, 2048]⟩
abbrev S2x1024x1024 : Shape := ⟨3, ![2, 1024, 1024]⟩
abbrev S1024x2048 : Shape := ⟨2, ![1024, 2048]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x4096, .bf16⟩
  | .hbm, ⟨2, _⟩ => ⟨S4x1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x2048, .bf16⟩
  | .local _ .vmem, ⟨3, _⟩ => ⟨S1664x2048, .bf16⟩
  | .local _ .vmem, ⟨4, _⟩ => ⟨S2x1024x1024, .f32⟩
  | .local _ .vmem, ⟨5, _⟩ => ⟨S2x1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg2 : BitVec 32 := BitVec.ofNat 32 (i 2).val
  let c0_i32_8 : BitVec 32 := 0#32
  let v14 : BitVec 1 := Scalar.cmpi .sgt arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x1024 : Shape := ⟨2, ![8320, 1024]⟩
abbrev S8320x4096 : Shape := ⟨2, ![8320, 4096]⟩
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x4096, .bf16⟩
  | .hbm, ⟨2, _⟩ => ⟨S8320x1024, .f32⟩
  | .hbm, ⟨3, _⟩ => ⟨S8320x4096, .f32⟩
  | .hbm, ⟨4, _⟩ => ⟨S4096x1024, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S8320x4096 : Shape := ⟨2, ![8320, 4096]⟩
abbrev S8320x1024 : Shape := ⟨2, ![8320, 1024]⟩
abbrev S4096x1024 : Shape := ⟨2, ![4096, 1024]⟩
abbrev S1664x2048 : Shape := ⟨2, ![1664, 2048]⟩
abbrev S1664x1024 : Shape := ⟨2, ![1664, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S8320x1024, .bf16⟩
  | .hbm, ⟨2, _⟩ => ⟨S4096x1024, .f32⟩
  | .local _ .vmem, ⟨0, _⟩ => ⟨S1664x2048, .bf16⟩
  | .local _ .vmem, ⟨1, _⟩ => ⟨S1664x2048, .bf16⟩
  | .local _ .vmem, ⟨2, _⟩ => ⟨S1664x1024, .bf16⟩
  | .local _ .vmem, ⟨3, _⟩ => ⟨S1664x1024, .bf16⟩
  | .local _ .vmem, ⟨4, _⟩ => ⟨S2048x1024, .f32⟩
  | .local _ .vmem, ⟨5, _⟩ => ⟨S2048x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x4096 : Shape := ⟨2, ![8320, 4096]⟩
abbrev S8320x1024 : Shape := ⟨2, ![8320, 1024]⟩
abbrev S1024x4096 : Shape := ⟨2, ![1024, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S8320x1024, .bf16⟩
  | .hbm, ⟨2, _⟩ => ⟨S8320x4096, .f32⟩
  | .hbm, ⟨3, _⟩ => ⟨S8320x1024, .f32⟩
  | .hbm, ⟨4, _⟩ => ⟨S1024x4096, .f32⟩
  | .hbm, ⟨5, _⟩ => ⟨S4096x1024, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8320x1024 : Shape := ⟨2, ![8320, 1024]⟩
abbrev S1024x4096 : Shape := ⟨2, ![1024, 4096]⟩
abbrev S8320x4096 : Shape := ⟨2, ![8320, 4096]⟩
abbrev S416x1024 : Shape := ⟨2, ![416, 1024]⟩
abbrev S416x4096 : Shape := ⟨2, ![416, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x4096, .bf16⟩
  | .hbm, ⟨2, _⟩ => ⟨S8320x4096, .bf16⟩
  | .local _ .vmem, ⟨0, _⟩ => ⟨S416x1024, .bf16⟩
  | .local _ .vmem, ⟨1, _⟩ => ⟨S416x1024, .bf16⟩
  | .local _ .vmem, ⟨2, _⟩ => ⟨S1024x4096, .bf16⟩
  | .local _ .vmem, ⟨3, _⟩ => ⟨S416x4096, .bf16⟩
  | .local _ .vmem, ⟨4, _⟩ => ⟨S416x4096, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![20, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S416x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x1024 : Shape := ⟨2, ![8320, 1024]⟩
abbrev S1024x4096 : Shape := ⟨2, ![1024, 4096]⟩
abbrev S8320x4096 : Shape := ⟨2, ![8320, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x4096, .bf16⟩
  | .hbm, ⟨2, _⟩ => ⟨S8320x1024, .f32⟩
  | .hbm, ⟨3, _⟩ => ⟨S1024x4096, .f32⟩
  | .hbm, ⟨4, _⟩ => ⟨S8320x4096, .f32⟩
  | .hbm, ⟨5, _⟩ => ⟨S_, .f32⟩
  | .hbm, ⟨6, _⟩ => ⟨S8320x4096, .f32⟩
  | .hbm, ⟨7, _⟩ => ⟨S8320x4096, .f32⟩
  | .hbm, ⟨8, _⟩ => ⟨S8320x4096, .f32⟩
  | .hbm, ⟨9, _⟩ => ⟨S8320x4096, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8320x1024 : Shape := ⟨2, ![8320, 1024]⟩
abbrev S4096x1024 : Shape := ⟨2, ![4096, 1024]⟩
abbrev S8320x4096 : Shape := ⟨2, ![8320, 4096]⟩
abbrev S_ : Shape := ⟨0, ![]⟩
abbrev S416x1024 : Shape := ⟨2, ![416, 1024]⟩
abbrev S416x4096 : Shape := ⟨2, ![416, 4096]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S4096x1024, .bf16⟩
  | .hbm, ⟨2, _⟩ => ⟨S8320x4096, .f32⟩
  | .hbm, ⟨3, _⟩ => ⟨S_, .f32⟩
  | .hbm, ⟨4, _⟩ => ⟨S8320x4096, .f32⟩
  | .hbm, ⟨5, _⟩ => ⟨S8320x4096, .f32⟩
  | .hbm, ⟨6, _⟩ => ⟨S8320x4096, .f32⟩
  | .hbm, ⟨7, _⟩ => ⟨S8320x4096, .bf16⟩
  | .hbm, ⟨8, _⟩ => ⟨S8320x4096, .bf16⟩
  | .local _ .vmem, ⟨0, _⟩ => ⟨S416x1024, .bf16⟩
  | .local _ .vmem, ⟨1, _⟩ => ⟨S416x1024, .bf16⟩
  | .local _ .vmem, ⟨2, _⟩ => ⟨S4096x1024, .bf16⟩
  | .local _ .vmem, ⟨3, _⟩ => ⟨S416x4096, .bf16⟩
  | .local _ .vmem, ⟨4, _⟩ => ⟨S416x4096, .bf16⟩
  | .local _ .vmem, ⟨5, _⟩ => ⟨S416x4096, .bf16⟩
  | .local _ .vmem, ⟨6, _⟩ => ⟨S416x4096, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![20, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S416x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S416x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8320x1024 : Shape := ⟨2, ![8320, 1024]⟩
abbrev S4096x1024 : Shape := ⟨2, ![4096, 1024]⟩
abbrev S8320x4096 : Shape := ⟨2, ![8320, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S4096x1024, .bf16⟩
  | .hbm, ⟨2, _⟩ => ⟨S8320x4096, .f32⟩
  | .hbm, ⟨3, _⟩ => ⟨S_, .f32⟩
  | .hbm, ⟨4, _⟩ => ⟨S8320x4096, .f32⟩
  | .hbm, ⟨5, _⟩ => ⟨S8320x4096, .f32⟩
  | .hbm, ⟨6, _⟩ => ⟨S_, .f32⟩
  | .hbm, ⟨7, _⟩ => ⟨S8320x4096, .f32⟩
  | .hbm, ⟨8, _⟩ => ⟨S8320x4096, .i1⟩
  | .hbm, ⟨9, _⟩ => ⟨S_, .f32⟩
  | .hbm, ⟨10, _⟩ => ⟨S8320x4096, .f32⟩
  | .hbm, ⟨11, _⟩ => ⟨S8320x4096, .f32⟩
  | .hbm, ⟨12, _⟩ => ⟨S_, .f32⟩
  | .hbm, ⟨13, _⟩ => ⟨S8320x4096, .f32⟩
  | .hbm, ⟨14, _⟩ => ⟨S8320x4096, .f32⟩
  | .hbm, ⟨15, _⟩ => ⟨S4096x1024, .f32⟩
  | .hbm, ⟨16, _⟩ => ⟨S8320x1024, .f32⟩
  | .hbm, ⟨17, _⟩ => ⟨S8320x1024, .f32⟩
  | .hbm, ⟨18, _⟩ => ⟨S8320x4096, .f32⟩
  | .hbm, ⟨19, _⟩ => ⟨S8320x4096, .f32⟩
  | .hbm, ⟨20, _⟩ => ⟨S_, .f32⟩
  | .hbm, ⟨21, _⟩ => ⟨S8320x4096, .f32⟩
  | .hbm, ⟨22, _⟩ => ⟨S8320x4096, .f32⟩
  | .hbm, ⟨23, _⟩ => ⟨S8320x4096, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel7.lean ====
abbrev S8320x4096 : Shape := ⟨2, ![8320, 4096]⟩
abbrev S1024x4096 : Shape := ⟨2, ![1024, 4096]⟩
abbrev S8320x1024 : Shape := ⟨2, ![8320, 1024]⟩
abbrev S1x1024 : Shape := ⟨2, ![1, 1024]⟩
abbrev S416x1024 : Shape := ⟨2, ![416, 1024]⟩
abbrev S3x416x4096 : Shape := ⟨3, ![3, 416, 4096]⟩
abbrev S3 : Shape := ⟨1, ![3]⟩
abbrev S1 : Shape := ⟨1, ![1]⟩
abbrev S_ : Shape := ⟨0, ![]⟩
abbrev S1x416x4096 : Shape := ⟨3, ![1, 416, 4096]⟩
abbrev S416x4096 : Shape := ⟨2, ![416, 4096]⟩
abbrev S416 : Shape := ⟨1, ![416]⟩
abbrev S416x1 : Shape := ⟨2, ![416, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8320x4096, .bf16⟩
  | .hbm, ⟨1, _⟩ => ⟨S1024x4096, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x1024, .f32⟩
  | .hbm, ⟨6, _⟩ => ⟨S8320x1024, .bf16⟩
  | .hbm, ⟨7, _⟩ => ⟨S1x1024, .f32⟩
  | .local _ .vmem, ⟨0, _⟩ => ⟨S1024x4096, .bf16⟩
  | .local _ .vmem, ⟨1, _⟩ => ⟨S416x1024, .f32⟩
  | .local _ .vmem, ⟨2, _⟩ => ⟨S416x1024, .f32⟩
  | .local _ .vmem, ⟨3, _⟩ => ⟨S1x1024, .f32⟩
  | .local _ .vmem, ⟨4, _⟩ => ⟨S416x1024, .f32⟩
  | .local _ .vmem, ⟨5, _⟩ => ⟨S416x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .bf16⟩
  | .local _ .vmem, ⟨9, _⟩ => ⟨S416x1024, .bf16⟩
  | .local _ .vmem, ⟨10, _⟩ => ⟨S1x1024, .f32⟩
  | .local _ .vmem, ⟨11, _⟩ => ⟨S3x416x4096, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c20_i32 : BitVec 32 := 20#32
  let v5 : BitVec 1 := Scalar.cmpi .slt v4 c20_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c3_i32_40 : BitVec 32 := 3#32
  let v77 : BitVec 32 := Scalar.addi arg0 c3_i32_40
  let c1_i32_41 : BitVec 32 := 1#32
  let v78 : BitVec 32 := Scalar.subi v77 c1_i32_41
  let c3_i32_42 : BitVec 32 := 3#32
  let c0_i32_43 : BitVec 32 := 0#32
  let v79 : BitVec 1 := Scalar.cmpi .eq c3_i32_42 c0_i32_43
  let c1_i32_44 : BitVec 32 := 1#32
  let v80 : BitVec 32 := Scalar.select v79 c1_i32_44 c3_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  ![v88.toNat]
def k0_off2 (i : grid0.Coords) : Fin 3 → Nat :=
  let arg0 : BitVec 32 := BitVec.ofNat 32 (i 0).val
  let c3_i32_40 : BitVec 32 := 3#32
  let v77 : BitVec 32 := Scalar.addi arg0 c3_i32_40
  let c1_i32_41 : BitVec 32 := 1#32
  let v78 : BitVec 32 := Scalar.subi v77 c1_i32_41
  let c3_i32_42 : BitVec 32 := 3#32
  let c0_i32_43 : BitVec 32 := 0#32
  let v79 : BitVec 1 := Scalar.cmpi .eq c3_i32_42 c0_i32_43
  let c1_i32_44 : BitVec 32 := 1#32
  let v80 : BitVec 32 := Scalar.select v79 c1_i32_44 c3_i32_42
  let v81 : BitVec 32 := Scalar.remsi v78 v80
  let c0_i32_46 : BitVec 32 := 0#32
  let v83 : BitVec 1 := Scalar.cmpi .slt v81 c0_i32_46
  let c0_i32_47 : BitVec 32 := 0#32
  let v84 : BitVec 1 := Scalar.cmpi .slt v80 c0_i32_47
  let v85 : BitVec 1 := Scalar.xori v83 v84
  let c0_i32_45 : BitVec 32 := 0#32
  let v82 : BitVec 1 := Scalar.cmpi .ne v81 c0_i32_45
  let v86 : BitVec 1 := Scalar.andi v85 v82
  let v87 : BitVec 32 := Scalar.addi v81 v80
  let v88 : BitVec 32 := Scalar.select v86 v87 v81
  let c0_i32_49 : BitVec 32 := 0#32
  let c0_i32_50 : BitVec 32 := 0#32
  ![v88.toNat, 0, 0]
def k0_off3 (i : grid0.Coords) : Fin 2 → Nat :=
  let arg0 : BitVec 32 := BitVec.ofNat 32 (i 0).val
  let c3_i32_40 : BitVec 32 := 3#32
  let v77 : BitVec 32 := Scalar.addi arg0 c3_i32_40
  let c1_i32_41 : BitVec 32 := 1#32
  let v78 : BitVec 32 := Scalar.subi v77 c1_i32_41
  let c416_i32_48 : BitVec 32 := 416#32
  let v89 : BitVec 32 := Scalar.muli v78 c416_i32_48
  let c0_i32_51 : BitVec 32 := 0#32
  ![v89.toNat, 0]
def k0_off4 (i : grid0.Coords) : Fin 1 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![v17.toNat]
def k0_off5 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let c0_i32_9 : BitVec 32 := 0#32
  ![v17.toNat, 0, 0]
def k0_off6 (i : grid0.Coords) : Fin 2 → Nat :=
  let arg0 : BitVec 32 := BitVec.ofNat 32 (i 0).val
  let c416_i32 : BitVec 32 := 416#32
  let v18 : BitVec 32 := Scalar.muli arg0 c416_i32
  let c0_i32_10 : BitVec 32 := 0#32
  ![v18.toNat, 0]
def k0_off7 (i : grid0.Coords) : Fin 3 → Nat :=
  let arg0 : BitVec 32 := BitVec.ofNat 32 (i 0).val
  let c3_i32_11 : BitVec 32 := 3#32
  let c0_i32_12 : BitVec 32 := 0#32
  let v24 : BitVec 1 := Scalar.cmpi .eq c3_i32_11 c0_i32_12
  let c1_i32_13 : BitVec 32 := 1#32
  let v25 : BitVec 32 := Scalar.select v24 c1_i32_13 c3_i32_11
  let v26 : BitVec 32 := Scalar.remsi arg0 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let v34 : Index := Scalar.indexCast v33
  let c0 : Index := 0#32
  let c0_17 : Index := 0#32
  ![v34.toNat, 0, 0]
def k0_cond3 (i : grid0.Coords) : BitVec 1 :=
  let arg0 : BitVec 32 := BitVec.ofNat 32 (i 0).val
  let c0_i32_36 : BitVec 32 := 0#32
  let v71 : BitVec 1 := Scalar.cmpi .eq arg0 c0_i32_36
  let v72 : BitVec 32 := Scalar.extui v71
  let c0_i32_37 : BitVec 32 := 0#32
  let v73 : BitVec 1 := Scalar.cmpi .ne v72 c0_i32_37
  v73

def k0_cond4 (i : grid0.Coords) : BitVec 1 :=
  let arg0 : BitVec 32 := BitVec.ofNat 32 (i 0).val
  let c0_i32_38 : BitVec 32 := 0#32
  let v74 : BitVec 1 := Scalar.cmpi .sgt arg0 c0_i32_38
  let v75 : BitVec 32 := Scalar.extui v74
  let c0_i32_39 : BitVec 32 := 0#32
  let v76 : BitVec 1 := Scalar.cmpi .ne v75 c0_i32_39
  v76

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S8320x4096 : Shape := ⟨2, ![8320, 4096]⟩
abbrev S1024x4096 : Shape := ⟨2, ![1024, 4096]⟩
abbrev S8320x1024 : Shape := ⟨2, ![8320, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩

abbrev nBuf : Space → Nat
  | .hbm => 58
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1024x4096, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S1024, .f32⟩
  | .hbm, ⟨6, _⟩ => ⟨S8320x1024, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1024, .f32⟩
  | .hbm, ⟨22, _⟩ => ⟨S8320x1024, .f32⟩
  | .hbm, ⟨23, _⟩ => ⟨S1x1024, .f32⟩
  | .hbm, ⟨24, _⟩ => ⟨S8320x1024, .f32⟩
  | .hbm, ⟨25, _⟩ => ⟨S8320x1024, .f32⟩
  | .hbm, ⟨26, _⟩ => ⟨S1024x4096, .f32⟩
  | .hbm, ⟨27, _⟩ => ⟨S8320x4096, .f32⟩
  | .hbm, ⟨28, _⟩ => ⟨S8320x4096, .f32⟩
  | .hbm, ⟨29, _⟩ => ⟨S8320x1024, .f32⟩
  | .hbm, ⟨30, _⟩ => ⟨S8320x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8320x1024, .f32⟩
  | .hbm, ⟨35, _⟩ => ⟨S8320x1024, .f32⟩
  | .hbm, ⟨36, _⟩ => ⟨S_, .f32⟩
  | .hbm, ⟨37, _⟩ => ⟨S1024, .f32⟩
  | .hbm, ⟨38, _⟩ => ⟨S8320x1024, .f32⟩
  | .hbm, ⟨39, _⟩ => ⟨S_, .f32⟩
  | .hbm, ⟨40, _⟩ => ⟨S8320, .f32⟩
  | .hbm, ⟨41, _⟩ => ⟨S8320x1, .f32⟩
  | .hbm, ⟨42, _⟩ => ⟨S8320x1024, .f32⟩
  | .hbm, ⟨43, _⟩ => ⟨S8320x1024, .f32⟩
  | .hbm, ⟨44, _⟩ => ⟨S8320x1, .f32⟩
  | .hbm, ⟨45, _⟩ => ⟨S_, .f32⟩
  | .hbm, ⟨46, _⟩ => ⟨S8320x1, .f32⟩
  | .hbm, ⟨47, _⟩ => ⟨S8320x1, .f32⟩
  | .hbm, ⟨48, _⟩ => ⟨S_, .f32⟩
  | .hbm, ⟨49, _⟩ => ⟨S8320, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S1x1024, .f32⟩
  | .hbm, ⟨56, _⟩ => ⟨S8320x1024, .f32⟩
  | .hbm, ⟨57, _⟩ => ⟨S8320x1024, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel8.lean ====
abbrev S8320x4096 : Shape := ⟨2, ![8320, 4096]⟩
abbrev S4096x1024 : Shape := ⟨2, ![4096, 1024]⟩
abbrev S8320x1024 : Shape := ⟨2, ![8320, 1024]⟩
abbrev S1x1024 : Shape := ⟨2, ![1, 1024]⟩
abbrev S2x4096x1024 : Shape := ⟨3, ![2, 4096, 1024]⟩
abbrev S1x128 : Shape := ⟨2, ![1, 128]⟩
abbrev S416x1024 : Shape := ⟨2, ![416, 1024]⟩
abbrev S2x416x1024 : Shape := ⟨3, ![2, 416, 1024]⟩
abbrev S2 : Shape := ⟨1, ![2]⟩
abbrev S3x416x4096 : Shape := ⟨3, ![3, 416, 4096]⟩
abbrev S3 : Shape := ⟨1, ![3]⟩
abbrev S1 : Shape := ⟨1, ![1]⟩
abbrev S_ : Shape := ⟨0, ![]⟩
abbrev S1x416x4096 : Shape := ⟨3, ![1, 416, 4096]⟩
abbrev S416x4096 : Shape := ⟨2, ![416, 4096]⟩
abbrev S1x352x1024 : Shape := ⟨3, ![1, 352, 1024]⟩
abbrev S352x1024 : Shape := ⟨2, ![352, 1024]⟩
abbrev S1x416x1024 : Shape := ⟨3, ![1, 416, 1024]⟩
abbrev S64x1024 : Shape := ⟨2, ![64, 1024]⟩
abbrev S1x64x1024 : Shape := ⟨3, ![1, 64, 1024]⟩
abbrev S416 : Shape := ⟨1, ![416]⟩
abbrev S416x1 : Shape := ⟨2, ![416, 1]⟩
abbrev S1024 : Shape := ⟨1, ![1024]⟩
abbrev S1x1 : Shape := ⟨2, ![1, 1]⟩

abbrev nBuf : Space → Nat
  | .hbm => 9
  | .vmem => 12
  | .smem => 0
  | _ => 0

abbrev bufTy : (tb : Table) → Fin (tcTables nBuf tb) → BufTy
  | .hbm, ⟨0, _⟩ => ⟨S8320x4096, .bf16⟩
  | .hbm, ⟨1, _⟩ => ⟨S4096x1024, .bf16⟩
  | .hbm, ⟨2, _⟩ => ⟨S8320x1024, .f32⟩
  | .hbm, ⟨3, _⟩ => ⟨S1x1024, .f32⟩
  | .hbm, ⟨4, _⟩ => ⟨S2x4096x1024, .f32⟩
  | .hbm, ⟨5, _⟩ => ⟨S8320x1024, .f32⟩
  | .hbm, ⟨6, _⟩ => ⟨S8320x1024, .bf16⟩
  | .hbm, ⟨7, _⟩ => ⟨S1x1024, .f32⟩
  | .hbm, ⟨8, _⟩ => ⟨S1x128, .f32⟩
  | .local _ .vmem, ⟨0, _⟩ => ⟨S4096x1024, .bf16⟩
  | .local _ .vmem, ⟨1, _⟩ => ⟨S416x1024, .f32⟩
  | .local _ .vmem, ⟨2, _⟩ => ⟨S416x1024, .f32⟩
  | .local _ .vmem, ⟨3, _⟩ => ⟨S1x1024, .f32⟩
  | .local _ .vmem, ⟨4, _⟩ => ⟨S416x1024, .f32⟩
  | .local _ .vmem, ⟨5, _⟩ => ⟨S416x1024, .f32⟩
  | .local _ .vmem, ⟨6, _⟩ => ⟨S416x1024, .bf16⟩
  | .local _ .vmem, ⟨7, _⟩ => ⟨S416x1024, .bf16⟩
  | .local _ .vmem, ⟨8, _⟩ => ⟨S1x1024, .f32⟩
  | .local _ .vmem, ⟨9, _⟩ => ⟨S1x128, .f32⟩
  | .local _ .vmem, ⟨10, _⟩ => ⟨S2x416x1024, .f32⟩
  | .local _ .vmem, ⟨11, _⟩ => ⟨S3x416x4096, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c20_i32 : BitVec 32 := 20#32
  let v5 : BitVec 1 := Scalar.cmpi .slt v4 c20_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c3_i32_89 : BitVec 32 := 3#32
  let v183 : BitVec 32 := Scalar.addi arg0 c3_i32_89
  let c1_i32_90 : BitVec 32 := 1#32
  let v184 : BitVec 32 := Scalar.subi v183 c1_i32_90
  let c3_i32_91 : BitVec 32 := 3#32
  let c0_i32_92 : BitVec 32 := 0#32
  let v185 : BitVec 1 := Scalar.cmpi .eq c3_i32_91 c0_i32_92
  let c1_i32_93 : BitVec 32 := 1#32
  let v186 : BitVec 32 := Scalar.select v185 c1_i32_93 c3_i32_91
  let v187 : BitVec 32 := Scalar.remsi v184 v186
  let c0_i32_95 : BitVec 32 := 0#32
  let v189 : BitVec 1 := Scalar.cmpi .slt v187 c0_i32_95
  let c0_i32_96 : BitVec 32 := 0#32
  let v190 : BitVec 1 := Scalar.cmpi .slt v186 c0_i32_96
  let v191 : BitVec 1 := Scalar.xori v189 v190
  let c0_i32_94 : BitVec 32 := 0#32
  let v188 : BitVec 1 := Scalar.cmpi .ne v187 c0_i32_94
  let v192 : BitVec 1 := Scalar.andi v191 v188
  let v193 : BitVec 32 := Scalar.addi v187 v186
  let v194 : BitVec 32 := Scalar.select v192 v193 v187
  ![v194.toNat]
def k0_off2 (i : grid0.Coords) : Fin 3 → Nat :=
  let arg0 : BitVec 32 := BitVec.ofNat 32 (i 0).val
  let c3_i32_89 : BitVec 32 := 3#32
  let v183 : BitVec 32 := Scalar.addi arg0 c3_i32_89
  let c1_i32_90 : BitVec 32 := 1#32
  let v184 : BitVec 32 := Scalar.subi v183 c1_i32_90
  let c3_i32_91 : BitVec 32 := 3#32
  let c0_i32_92 : BitVec 32 := 0#32
  let v185 : BitVec 1 := Scalar.cmpi .eq c3_i32_91 c0_i32_92
  let c1_i32_93 : BitVec 32 := 1#32
  let v186 : BitVec 32 := Scalar.select v185 c1_i32_93 c3_i32_91
  let v187 : BitVec 32 := Scalar.remsi v184 v186
  let c0_i32_95 : BitVec 32 := 0#32
  let v189 : BitVec 1 := Scalar.cmpi .slt v187 c0_i32_95
  let c0_i32_96 : BitVec 32 := 0#32
  let v190 : BitVec 1 := Scalar.cmpi .slt v186 c0_i32_96
  let v191 : BitVec 1 := Scalar.xori v189 v190
  let c0_i32_94 : BitVec 32 := 0#32
  let v188 : BitVec 1 := Scalar.cmpi .ne v187 c0_i32_94
  let v192 : BitVec 1 := Scalar.andi v191 v188
  let v193 : BitVec 32 := Scalar.addi v187 v186
  let v194 : BitVec 32 := Scalar.select v192 v193 v187
  let c0_i32_98 : BitVec 32 := 0#32
  let c0_i32_99 : BitVec 32 := 0#32
  ![v194.toNat, 0, 0]
def k0_off3 (i : grid0.Coords) : Fin 2 → Nat :=
  let arg0 : BitVec 32 := BitVec.ofNat 32 (i 0).val
  let c3_i32_89 : BitVec 32 := 3#32
  let v183 : BitVec 32 := Scalar.addi arg0 c3_i32_89
  let c1_i32_90 : BitVec 32 := 1#32
  let v184 : BitVec 32 := Scalar.subi v183 c1_i32_90
  let c416_i32_97 : BitVec 32 := 416#32
  let v195 : BitVec 32 := Scalar.muli v184 c416_i32_97
  let c0_i32_100 : BitVec 32 := 0#32
  ![v195.toNat, 0]
def k0_off4 (i : grid0.Coords) : Fin 1 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![v17.toNat]
def k0_off5 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let c0_i32_9 : BitVec 32 := 0#32
  ![v17.toNat, 0, 0]
def k0_off6 (i : grid0.Coords) : Fin 2 → Nat :=
  let arg0 : BitVec 32 := BitVec.ofNat 32 (i 0).val
  let c416_i32 : BitVec 32 := 416#32
  let v18 : BitVec 32 := Scalar.muli arg0 c416_i32
  let c0_i32_10 : BitVec 32 := 0#32
  ![v18.toNat, 0]
def k0_cond3 (i : grid0.Coords) : BitVec 1 :=
  let arg0 : BitVec 32 := BitVec.ofNat 32 (i 0).val
  let c0_i32_22 : BitVec 32 := 0#32
  let v44 : BitVec 1 := Scalar.cmpi .eq arg0 c0_i32_22
  let v45 : BitVec 32 := Scalar.extui v44
  let c0_i32_23 : BitVec 32 := 0#32
  let v46 : BitVec 1 := Scalar.cmpi .ne v45 c0_i32_23
  v46

def k0_cond4 (i : grid0.Coords) : BitVec 1 :=
  let arg0 : BitVec 32 := BitVec.ofNat 32 (i 0).val
  let c10_i32_96 : BitVec 32 := 10#32
  let c0_i32_97 : BitVec 32 := 0#32
  let v200 : BitVec 1 := Scalar.cmpi .eq c10_i32_96 c0_i32_97
  let c1_i32_98 : BitVec 32 := 1#32
  let v201 : BitVec 32 := Scalar.select v200 c1_i32_98 c10_i32_96
  let v202 : BitVec 32 := Scalar.remsi arg0 v201
  let c0_i32_100 : BitVec 32 := 0#32
  let v204 : BitVec 1 := Scalar.cmpi .slt v202 c0_i32_100
  let c0_i32_101 : BitVec 32 := 0#32
  let v205 : BitVec 1 := Scalar.cmpi .slt v201 c0_i32_101
  let v206 : BitVec 1 := Scalar.xori v204 v205
  let c0_i32_99 : BitVec 32 := 0#32
  let v203 : BitVec 1 := Scalar.cmpi .ne v202 c0_i32_99
  let v207 : BitVec 1 := Scalar.andi v206 v203
  let v208 : BitVec 32 := Scalar.addi v202 v201
  let v209 : BitVec 32 := Scalar.select v207 v208 v202
  let c0_i32_102 : BitVec 32 := 0#32
  let v210 : BitVec 1 := Scalar.cmpi .eq v209 c0_i32_102
  let v211 : BitVec 32 := Scalar.extui v210
  let c0_i32_103 : BitVec 32 := 0#32
  let v212 : BitVec 1 := Scalar.cmpi .ne v211 c0_i32_103
  v212

def k0_off7 (i : grid0.Coords) : Fin 1 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  ![v43.toNat]
def k0_off8 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c64_i32_106 : BitVec 32 := 64#32
  let c0_i32_107 : BitVec 32 := 0#32
  ![v43.toNat, 64, 0]
def k0_off9 (i : grid0.Coords) : Fin 3 → Nat :=
  let arg0 : BitVec 32 := BitVec.ofNat 32 (i 0).val
  let c0_i32_90 : BitVec 32 := 0#32
  let v184 : BitVec 1 := Scalar.cmpi .sgt arg0 c0_i32_90
  let v185 : BitVec 32 := Scalar.extui v184
  let c0_i32_91 : BitVec 32 := 0#32
  let v186 : BitVec 1 := Scalar.cmpi .slt arg0 c0_i32_91
  let v187 : BitVec 32 := Scalar.extui v186
  let v188 : BitVec 32 := Scalar.subi v185 v187
  let c10_i32_89 : BitVec 32 := 10#32
  let c0_i32_92 : BitVec 32 := 0#32
  let v189 : BitVec 1 := Scalar.cmpi .sgt c10_i32_89 c0_i32_92
  let v190 : BitVec 32 := Scalar.extui v189
  let c0_i32_93 : BitVec 32 := 0#32
  let v191 : BitVec 1 := Scalar.cmpi .slt c10_i32_89 c0_i32_93
  let v192 : BitVec 32 := Scalar.extui v191
  let v193 : BitVec 32 := Scalar.subi v190 v192
  let v194 : BitVec 1 := Scalar.cmpi .ne v188 v193
  let v195 : BitVec 32 := Scalar.remsi arg0 c10_i32_89
  let c0_i32_94 : BitVec 32 := 0#32
  let v196 : BitVec 1 := Scalar.cmpi .ne v195 c0_i32_94
  let v197 : BitVec 1 := Scalar.andi v194 v196
  let v183 : BitVec 32 := Scalar.divsi arg0 c10_i32_89
  let c1_i32_95 : BitVec 32 := 1#32
  let v198 : BitVec 32 := Scalar.subi v183 c1_i32_95
  let v199 : BitVec 32 := Scalar.select v197 v198 v183
  let c0_i32_108 : BitVec 32 := 0#32
  let c0_i32_109 : BitVec 32 := 0#32
  ![v199.toNat, 0, 0]
def k0_cond5 (i : grid0.Coords) : BitVec 1 :=
  let arg0 : BitVec 32 := BitVec.ofNat 32 (i 0).val
  let c10_i32_96 : BitVec 32 := 10#32
  let c0_i32_97 : BitVec 32 := 0#32
  let v200 : BitVec 1 := Scalar.cmpi .eq c10_i32_96 c0_i32_97
  let c1_i32_98 : BitVec 32 := 1#32
  let v201 : BitVec 32 := Scalar.select v200 c1_i32_98 c10_i32_96
  let v202 : BitVec 32 := Scalar.remsi arg0 v201
  let c0_i32_100 : BitVec 32 := 0#32
  let v204 : BitVec 1 := Scalar.cmpi .slt v202 c0_i32_100
  let c0_i32_101 : BitVec 32 := 0#32
  let v205 : BitVec 1 := Scalar.cmpi .slt v201 c0_i32_101
  let v206 : BitVec 1 := Scalar.xori v204 v205
  let c0_i32_99 : BitVec 32 := 0#32
  let v203 : BitVec 1 := Scalar.cmpi .ne v202 c0_i32_99
  let v207 : BitVec 1 := Scalar.andi v206 v203
  let v208 : BitVec 32 := Scalar.addi v202 v201
  let v209 : BitVec 32 := Scalar.select v207 v208 v202
  let c0_i32_104 : BitVec 32 := 0#32
  let v213 : BitVec 1 := Scalar.cmpi .sgt v209 c0_i32_104
  let v214 : BitVec 32 := Scalar.extui v213
  let c0_i32_105 : BitVec 32 := 0#32
  let v215 : BitVec 1 := Scalar.cmpi .ne v214 c0_i32_105
  v215

def k0_off10 (i : grid0.Coords) : Fin 1 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  ![v43.toNat]
def k0_off11 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_108 : BitVec 32 := 0#32
  let c0_i32_109 : BitVec 32 := 0#32
  ![v43.toNat, 0, 0]
def k0_off12 (i : grid0.Coords) : Fin 3 → Nat :=
  let arg0 : BitVec 32 := BitVec.ofNat 32 (i 0).val
  let c0_i32_90 : BitVec 32 := 0#32
  let v184 : BitVec 1 := Scalar.cmpi .sgt arg0 c0_i32_90
  let v185 : BitVec 32 := Scalar.extui v184
  let c0_i32_91 : BitVec 32 := 0#32
  let v186 : BitVec 1 := Scalar.cmpi .slt arg0 c0_i32_91
  let v187 : BitVec 32 := Scalar.extui v186
  let v188 : BitVec 32 := Scalar.subi v185 v187
  let c10_i32_89 : BitVec 32 := 10#32
  let c0_i32_92 : BitVec 32 := 0#32
  let v189 : BitVec 1 := Scalar.cmpi .sgt c10_i32_89 c0_i32_92
  let v190 : BitVec 32 := Scalar.extui v189
  let c0_i32_93 : BitVec 32 := 0#32
  let v191 : BitVec 1 := Scalar.cmpi .slt c10_i32_89 c0_i32_93
  let v192 : BitVec 32 := Scalar.extui v191
  let v193 : BitVec 32 := Scalar.subi v190 v192
  let v194 : BitVec 1 := Scalar.cmpi .ne v188 v193
  let v195 : BitVec 32 := Scalar.remsi arg0 c10_i32_89
  let c0_i32_94 : BitVec 32 := 0#32
  let v196 : BitVec 1 := Scalar.cmpi .ne v195 c0_i32_94
  let v197 : BitVec 1 := Scalar.andi v194 v196
  let v183 : BitVec 32 := Scalar.divsi arg0 c10_i32_89
  let c1_i32_95 : BitVec 32 := 1#32
  let v198 : BitVec 32 := Scalar.subi v183 c1_i32_95
  let v199 : BitVec 32 := Scalar.select v197 v198 v183
  let c10_i32_96 : BitVec 32 := 10#32
  let c0_i32_97 : BitVec 32 := 0#32
  let v200 : BitVec 1 := Scalar.cmpi .eq c10_i32_96 c0_i32_97
  let c1_i32_98 : BitVec 32 := 1#32
  let v201 : BitVec 32 := Scalar.select v200 c1_i32_98 c10_i32_96
  let v202 : BitVec 32 := Scalar.remsi arg0 v201
  let c0_i32_100 : BitVec 32 := 0#32
  let v204 : BitVec 1 := Scalar.cmpi .slt v202 c0_i32_100
  let c0_i32_101 : BitVec 32 := 0#32
  let v205 : BitVec 1 := Scalar.cmpi .slt v201 c0_i32_101
  let v206 : BitVec 1 := Scalar.xori v204 v205
  let c0_i32_99 : BitVec 32 := 0#32
  let v203 : BitVec 1 := Scalar.cmpi .ne v202 c0_i32_99
  let v207 : BitVec 1 := Scalar.andi v206 v203
  let v208 : BitVec 32 := Scalar.addi v202 v201
  let v209 : BitVec 32 := Scalar.select v207 v208 v202
  let c416_i32_106 : BitVec 32 := 416#32
  let v216 : BitVec 32 := Scalar.muli v209 c416_i32_106
  let c64_i32_107 : BitVec 32 := 64#32
  let v217 : BitVec 32 := Scalar.subi v216 c64_i32_107
  let c0_i32_110 : BitVec 32 := 0#32
  ![v199.toNat, v217.toNat, 0]
def k0_cond6 (i : grid0.Coords) : BitVec 1 :=
  let arg0 : BitVec 32 := BitVec.ofNat 32 (i 0).val
  let c10_i32_30 : BitVec 32 := 10#32
  let c0_i32_31 : BitVec 32 := 0#32
  let v64 : BitVec 1 := Scalar.cmpi .eq c10_i32_30 c0_i32_31
  let c1_i32_32 : BitVec 32 := 1#32
  let v65 : BitVec 32 := Scalar.select v64 c1_i32_32 c10_i32_30
  let v66 : BitVec 32 := Scalar.remsi arg0 v65
  let c0_i32_34 : BitVec 32 := 0#32
  let v68 : BitVec 1 := Scalar.cmpi .slt v66 c0_i32_34
  let c0_i32_35 : BitVec 32 := 0#32
  let v69 : BitVec 1 := Scalar.cmpi .slt v65 c0_i32_35
  let v70 : BitVec 1 := Scalar.xori v68 v69
  let c0_i32_33 : BitVec 32 := 0#32
  let v67 : BitVec 1 := Scalar.cmpi .ne v66 c0_i32_33
  let v71 : BitVec 1 := Scalar.andi v70 v67
  let v72 : BitVec 32 := Scalar.addi v66 v65
  let v73 : BitVec 32 := Scalar.select v71 v72 v66
  let c0_i32_36 : BitVec 32 := 0#32
  let v74 : BitVec 1 := Scalar.cmpi .eq v73 c0_i32_36
  let v75 : BitVec 32 := Scalar.extui v74
  let c0_i32_37 : BitVec 32 := 0#32
  let v76 : BitVec 1 := Scalar.cmpi .ne v75 c0_i32_37
  v76

def k0_off13 (i : grid0.Coords) : Fin 1 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  ![v43.toNat]
def k0_off14 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c64_i32_89 : BitVec 32 := 64#32
  let c0_i32_90 : BitVec 32 := 0#32
  ![v43.toNat, 64, 0]
def k0_off15 (i : grid0.Coords) : Fin 3 → Nat :=
  let arg0 : BitVec 32 := BitVec.ofNat 32 (i 0).val
  let c0_i32_24 : BitVec 32 := 0#32
  let v48 : BitVec 1 := Scalar.cmpi .sgt arg0 c0_i32_24
  let v49 : BitVec 32 := Scalar.extui v48
  let c0_i32_25 : BitVec 32 := 0#32
  let v50 : BitVec 1 := Scalar.cmpi .slt arg0 c0_i32_25
  let v51 : BitVec 32 := Scalar.extui v50
  let v52 : BitVec 32 := Scalar.subi v49 v51
  let c10_i32 : BitVec 32 := 10#32
  let c0_i32_26 : BitVec 32 := 0#32
  let v53 : BitVec 1 := Scalar.cmpi .sgt c10_i32 c0_i32_26
  let v54 : BitVec 32 := Scalar.extui v53
  let c0_i32_27 : BitVec 32 := 0#32
  let v55 : BitVec 1 := Scalar.cmpi .slt c10_i32 c0_i32_27
  let v56 : BitVec 32 := Scalar.extui v55
  let v57 : BitVec 32 := Scalar.subi v54 v56
  let v58 : BitVec 1 := Scalar.cmpi .ne v52 v57
  let v59 : BitVec 32 := Scalar.remsi arg0 c10_i32
  let c0_i32_28 : BitVec 32 := 0#32
  let v60 : BitVec 1 := Scalar.cmpi .ne v59 c0_i32_28
  let v61 : BitVec 1 := Scalar.andi v58 v60
  let v47 : BitVec 32 := Scalar.divsi arg0 c10_i32
  let c1_i32_29 : BitVec 32 := 1#32
  let v62 : BitVec 32 := Scalar.subi v47 c1_i32_29
  let v63 : BitVec 32 := Scalar.select v61 v62 v47
  let c0_i32_91 : BitVec 32 := 0#32
  let c0_i32_92 : BitVec 32 := 0#32
  ![v63.toNat, 0, 0]
def k0_cond7 (i : grid0.Coords) : BitVec 1 :=
  let arg0 : BitVec 32 := BitVec.ofNat 32 (i 0).val
  let c10_i32_30 : BitVec 32 := 10#32
  let c0_i32_31 : BitVec 32 := 0#32
  let v64 : BitVec 1 := Scalar.cmpi .eq c10_i32_30 c0_i32_31
  let c1_i32_32 : BitVec 32 := 1#32
  let v65 : BitVec 32 := Scalar.select v64 c1_i32_32 c10_i32_30
  let v66 : BitVec 32 := Scalar.remsi arg0 v65
  let c0_i32_34 : BitVec 32 := 0#32
  let v68 : BitVec 1 := Scalar.cmpi .slt v66 c0_i32_34
  let c0_i32_35 : BitVec 32 := 0#32
  let v69 : BitVec 1 := Scalar.cmpi .slt v65 c0_i32_35
  let v70 : BitVec 1 := Scalar.xori v68 v69
  let c0_i32_33 : BitVec 32 := 0#32
  let v67 : BitVec 1 := Scalar.cmpi .ne v66 c0_i32_33
  let v71 : BitVec 1 := Scalar.andi v70 v67
  let v72 : BitVec 32 := Scalar.addi v66 v65
  let v73 : BitVec 32 := Scalar.select v71 v72 v66
  let c0_i32_38 : BitVec 32 := 0#32
  let v77 : BitVec 1 := Scalar.cmpi .sgt v73 c0_i32_38
  let v78 : BitVec 32 := Scalar.extui v77
  let c0_i32_39 : BitVec 32 := 0#32
  let v79 : BitVec 1 := Scalar.cmpi .ne v78 c0_i32_39
  v79

def k0_off16 (i : grid0.Coords) : Fin 1 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  ![v43.toNat]
def k0_off17 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_91 : BitVec 32 := 0#32
  let c0_i32_92 : BitVec 32 := 0#32
  ![v43.toNat, 0, 0]
def k0_off18 (i : grid0.Coords) : Fin 3 → Nat :=
  let arg0 : BitVec 32 := BitVec.ofNat 32 (i 0).val
  let c0_i32_24 : BitVec 32 := 0#32
  let v48 : BitVec 1 := Scalar.cmpi .sgt arg0 c0_i32_24
  let v49 : BitVec 32 := Scalar.extui v48
  let c0_i32_25 : BitVec 32 := 0#32
  let v50 : BitVec 1 := Scalar.cmpi .slt arg0 c0_i32_25
  let v51 : BitVec 32 := Scalar.extui v50
  let v52 : BitVec 32 := Scalar.subi v49 v51
  let c10_i32 : BitVec 32 := 10#32
  let c0_i32_26 : BitVec 32 := 0#32
  let v53 : BitVec 1 := Scalar.cmpi .sgt c10_i32 c0_i32_26
  let v54 : BitVec 32 := Scalar.extui v53
  let c0_i32_27 : BitVec 32 := 0#32
  let v55 : BitVec 1 := Scalar.cmpi .slt c10_i32 c0_i32_27
  let v56 : BitVec 32 := Scalar.extui v55
  let v57 : BitVec 32 := Scalar.subi v54 v56
  let v58 : BitVec 1 := Scalar.cmpi .ne v52 v57
  let v59 : BitVec 32 := Scalar.remsi arg0 c10_i32
  let c0_i32_28 : BitVec 32 := 0#32
  let v60 : BitVec 1 := Scalar.cmpi .ne v59 c0_i32_28
  let v61 : BitVec 1 := Scalar.andi v58 v60
  let v47 : BitVec 32 := Scalar.divsi arg0 c10_i32
  let c1_i32_29 : BitVec 32 := 1#32
  let v62 : BitVec 32 := Scalar.subi v47 c1_i32_29
  let v63 : BitVec 32 := Scalar.select v61 v62 v47
  let c10_i32_30 : BitVec 32 := 10#32
  let c0_i32_31 : BitVec 32 := 0#32
  let v64 : BitVec 1 := Scalar.cmpi .eq c10_i32_30 c0_i32_31
  let c1_i32_32 : BitVec 32 := 1#32
  let v65 : BitVec 32 := Scalar.select v64 c1_i32_32 c10_i32_30
  let v66 : BitVec 32 := Scalar.remsi arg0 v65
  let c0_i32_34 : BitVec 32 := 0#32
  let v68 : BitVec 1 := Scalar.cmpi .slt v66 c0_i32_34
  let c0_i32_35 : BitVec 32 := 0#32
  let v69 : BitVec 1 := Scalar.cmpi .slt v65 c0_i32_35
  let v70 : BitVec 1 := Scalar.xori v68 v69
  let c0_i32_33 : BitVec 32 := 0#32
  let v67 : BitVec 1 := Scalar.cmpi .ne v66 c0_i32_33
  let v71 : BitVec 1 := Scalar.andi v70 v67
  let v72 : BitVec 32 := Scalar.addi v66 v65
  let v73 : BitVec 32 := Scalar.select v71 v72 v66
  let c416_i32_89 : BitVec 32 := 416#32
  let v183 : BitVec 32 := Scalar.muli v73 c416_i32_89
  let c64_i32_90 : BitVec 32 := 64#32
  let v184 : BitVec 32 := Scalar.subi v183 c64_i32_90
  let c0_i32_93 : BitVec 32 := 0#32
  ![v63.toNat, v184.toNat, 0]
def k0_cond8 (i : grid0.Coords) : BitVec 1 :=
  let arg0 : BitVec 32 := BitVec.ofNat 32 (i 0).val
  let c1_i32_40 : BitVec 32 := 1#32
  let v80 : BitVec 32 := Scalar.addi arg0 c1_i32_40
  let c20_i32_41 : BitVec 32 := 20#32
  let v81 : BitVec 1 := Scalar.cmpi .slt v80 c20_i32_41
  let v82 : BitVec 32 := Scalar.extui v81
  let c0_i32_42 : BitVec 32 := 0#32
  let v83 : BitVec 1 := Scalar.cmpi .ne v82 c0_i32_42
  v83

def k0_cond9 (i : grid0.Coords) : BitVec 1 :=
  let arg0 : BitVec 32 := BitVec.ofNat 32 (i 0).val
  let c1_i32_89 : BitVec 32 := 1#32
  let v183 : BitVec 32 := Scalar.addi arg0 c1_i32_89
  let c10_i32_98 : BitVec 32 := 10#32
  let c0_i32_99 : BitVec 32 := 0#32
  let v202 : BitVec 1 := Scalar.cmpi .eq c10_i32_98 c0_i32_99
  let c1_i32_100 : BitVec 32 := 1#32
  let v203 : BitVec 32 := Scalar.select v202 c1_i32_100 c10_i32_98
  let v204 : BitVec 32 := Scalar.remsi v183 v203
  let c0_i32_102 : BitVec 32 := 0#32
  let v206 : BitVec 1 := Scalar.cmpi .slt v204 c0_i32_102
  let c0_i32_103 : BitVec 32 := 0#32
  let v207 : BitVec 1 := Scalar.cmpi .slt v203 c0_i32_103
  let v208 : BitVec 1 := Scalar.xori v206 v207
  let c0_i32_101 : BitVec 32 := 0#32
  let v205 : BitVec 1 := Scalar.cmpi .ne v204 c0_i32_101
  let v209 : BitVec 1 := Scalar.andi v208 v205
  let v210 : BitVec 32 := Scalar.addi v204 v203
  let v211 : BitVec 32 := Scalar.select v209 v210 v204
  let c0_i32_104 : BitVec 32 := 0#32
  let v212 : BitVec 1 := Scalar.cmpi .eq v211 c0_i32_104
  let v213 : BitVec 32 := Scalar.extui v212
  let c0_i32_105 : BitVec 32 := 0#32
  let v214 : BitVec 1 := Scalar.cmpi .ne v213 c0_i32_105
  v214

def k0_off19 (i : grid0.Coords) : Fin 1 → Nat :=
  let c1_i32_90 : BitVec 32 := 1#32
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v184 : BitVec 32 := Scalar.subi c1_i32_90 v43
  ![v184.toNat]
def k0_off20 (i : grid0.Coords) : Fin 3 → Nat :=
  let c1_i32_90 : BitVec 32 := 1#32
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v184 : BitVec 32 := Scalar.subi c1_i32_90 v43
  let c64_i32_108 : BitVec 32 := 64#32
  let c0_i32_109 : BitVec 32 := 0#32
  ![v184.toNat, 64, 0]
def k0_off21 (i : grid0.Coords) : Fin 3 → Nat :=
  let arg0 : BitVec 32 := BitVec.ofNat 32 (i 0).val
  let c1_i32_89 : BitVec 32 := 1#32
  let v183 : BitVec 32 := Scalar.addi arg0 c1_i32_89
  let c0_i32_92 : BitVec 32 := 0#32
  let v186 : BitVec 1 := Scalar.cmpi .sgt v183 c0_i32_92
  let v187 : BitVec 32 := Scalar.extui v186
  let c0_i32_93 : BitVec 32 := 0#32
  let v188 : BitVec 1 := Scalar.cmpi .slt v183 c0_i32_93
  let v189 : BitVec 32 := Scalar.extui v188
  let v190 : BitVec 32 := Scalar.subi v187 v189
  let c10_i32_91 : BitVec 32 := 10#32
  let c0_i32_94 : BitVec 32 := 0#32
  let v191 : BitVec 1 := Scalar.cmpi .sgt c10_i32_91 c0_i32_94
  let v192 : BitVec 32 := Scalar.extui v191
  let c0_i32_95 : BitVec 32 := 0#32
  let v193 : BitVec 1 := Scalar.cmpi .slt c10_i32_91 c0_i32_95
  let v194 : BitVec 32 := Scalar.extui v193
  let v195 : BitVec 32 := Scalar.subi v192 v194
  let v196 : BitVec 1 := Scalar.cmpi .ne v190 v195
  let v197 : BitVec 32 := Scalar.remsi v183 c10_i32_91
  let c0_i32_96 : BitVec 32 := 0#32
  let v198 : BitVec 1 := Scalar.cmpi .ne v197 c0_i32_96
  let v199 : BitVec 1 := Scalar.andi v196 v198
  let v185 : BitVec 32 := Scalar.divsi v183 c10_i32_91
  let c1_i32_97 : BitVec 32 := 1#32
  let v200 : BitVec 32 := Scalar.subi v185 c1_i32_97
  let v201 : BitVec 32 := Scalar.select v199 v200 v185
  let c0_i32_110 : BitVec 32 := 0#32
  let c0_i32_111 : BitVec 32 := 0#32
  ![v201.toNat, 0, 0]
def k0_cond10 (i : grid0.Coords) : BitVec 1 :=
  let arg0 : BitVec 32 := BitVec.ofNat 32 (i 0).val
  let c1_i32_89 : BitVec 32 := 1#32
  let v183 : BitVec 32 := Scalar.addi arg0 c1_i32_89
  let c10_i32_98 : BitVec 32 := 10#32
  let c0_i32_99 : BitVec 32 := 0#32
  let v202 : BitVec 1 := Scalar.cmpi .eq c10_i32_98 c0_i32_99
  let c1_i32_100 : BitVec 32 := 1#32
  let v203 : BitVec 32 := Scalar.select v202 c1_i32_100 c10_i32_98
  let v204 : BitVec 32 := Scalar.remsi v183 v203
  let c0_i32_102 : BitVec 32 := 0#32
  let v206 : BitVec 1 := Scalar.cmpi .slt v204 c0_i32_102
  let c0_i32_103 : BitVec 32 := 0#32
  let v207 : BitVec 1 := Scalar.cmpi .slt v203 c0_i32_103
  let v208 : BitVec 1 := Scalar.xori v206 v207
  let c0_i32_101 : BitVec 32 := 0#32
  let v205 : BitVec 1 := Scalar.cmpi .ne v204 c0_i32_101
  let v209 : BitVec 1 := Scalar.andi v208 v205
  let v210 : BitVec 32 := Scalar.addi v204 v203
  let v211 : BitVec 32 := Scalar.select v209 v210 v204
  let c0_i32_106 : BitVec 32 := 0#32
  let v215 : BitVec 1 := Scalar.cmpi .sgt v211 c0_i32_106
  let v216 : BitVec 32 := Scalar.extui v215
  let c0_i32_107 : BitVec 32 := 0#32
  let v217 : BitVec 1 := Scalar.cmpi .ne v216 c0_i32_107
  v217

def k0_off22 (i : grid0.Coords) : Fin 1 → Nat :=
  let c1_i32_90 : BitVec 32 := 1#32
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v184 : BitVec 32 := Scalar.subi c1_i32_90 v43
  ![v184.toNat]
def k0_off23 (i : grid0.Coords) : Fin 3 → Nat :=
  let c1_i32_90 : BitVec 32 := 1#32
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v184 : BitVec 32 := Scalar.subi c1_i32_90 v43
  let c0_i32_110 : BitVec 32 := 0#32
  let c0_i32_111 : BitVec 32 := 0#32
  ![v184.toNat, 0, 0]
def k0_off24 (i : grid0.Coords) : Fin 3 → Nat :=
  let arg0 : BitVec 32 := BitVec.ofNat 32 (i 0).val
  let c1_i32_89 : BitVec 32 := 1#32
  let v183 : BitVec 32 := Scalar.addi arg0 c1_i32_89
  let c0_i32_92 : BitVec 32 := 0#32
  let v186 : BitVec 1 := Scalar.cmpi .sgt v183 c0_i32_92
  let v187 : BitVec 32 := Scalar.extui v186
  let c0_i32_93 : BitVec 32 := 0#32
  let v188 : BitVec 1 := Scalar.cmpi .slt v183 c0_i32_93
  let v189 : BitVec 32 := Scalar.extui v188
  let v190 : BitVec 32 := Scalar.subi v187 v189
  let c10_i32_91 : BitVec 32 := 10#32
  let c0_i32_94 : BitVec 32 := 0#32
  let v191 : BitVec 1 := Scalar.cmpi .sgt c10_i32_91 c0_i32_94
  let v192 : BitVec 32 := Scalar.extui v191
  let c0_i32_95 : BitVec 32 := 0#32
  let v193 : BitVec 1 := Scalar.cmpi .slt c10_i32_91 c0_i32_95
  let v194 : BitVec 32 := Scalar.extui v193
  let v195 : BitVec 32 := Scalar.subi v192 v194
  let v196 : BitVec 1 := Scalar.cmpi .ne v190 v195
  let v197 : BitVec 32 := Scalar.remsi v183 c10_i32_91
  let c0_i32_96 : BitVec 32 := 0#32
  let v198 : BitVec 1 := Scalar.cmpi .ne v197 c0_i32_96
  let v199 : BitVec 1 := Scalar.andi v196 v198
  let v185 : BitVec 32 := Scalar.divsi v183 c10_i32_91
  let c1_i32_97 : BitVec 32 := 1#32
  let v200 : BitVec 32 := Scalar.subi v185 c1_i32_97
  let v201 : BitVec 32 := Scalar.select v199 v200 v185
  let c10_i32_98 : BitVec 32 := 10#32
  let c0_i32_99 : BitVec 32 := 0#32
  let v202 : BitVec 1 := Scalar.cmpi .eq c10_i32_98 c0_i32_99
  let c1_i32_100 : BitVec 32 := 1#32
  let v203 : BitVec 32 := Scalar.select v202 c1_i32_100 c10_i32_98
  let v204 : BitVec 32 := Scalar.remsi v183 v203
  let c0_i32_102 : BitVec 32 := 0#32
  let v206 : BitVec 1 := Scalar.cmpi .slt v204 c0_i32_102
  let c0_i32_103 : BitVec 32 := 0#32
  let v207 : BitVec 1 := Scalar.cmpi .slt v203 c0_i32_103
  let v208 : BitVec 1 := Scalar.xori v206 v207
  let c0_i32_101 : BitVec 32 := 0#32
  let v205 : BitVec 1 := Scalar.cmpi .ne v204 c0_i32_101
  let v209 : BitVec 1 := Scalar.andi v208 v205
  let v210 : BitVec 32 := Scalar.addi v204 v203
  let v211 : BitVec 32 := Scalar.select v209 v210 v204
  let c416_i32_108 : BitVec 32 := 416#32
  let v218 : BitVec 32 := Scalar.muli v211 c416_i32_108
  let c64_i32_109 : BitVec 32 := 64#32
  let v219 : BitVec 32 := Scalar.subi v218 c64_i32_109
  let c0_i32_112 : BitVec 32 := 0#32
  ![v201.toNat, v219.toNat, 0]
def k0_cond11 (i : grid0.Coords) : BitVec 1 :=
  let arg0 : BitVec 32 := BitVec.ofNat 32 (i 0).val
  let c10_i32_43 : BitVec 32 := 10#32
  let c0_i32_44 : BitVec 32 := 0#32
  let v84 : BitVec 1 := Scalar.cmpi .eq c10_i32_43 c0_i32_44
  let c1_i32_45 : BitVec 32 := 1#32
  let v85 : BitVec 32 := Scalar.select v84 c1_i32_45 c10_i32_43
  let v86 : BitVec 32 := Scalar.remsi arg0 v85
  let c0_i32_47 : BitVec 32 := 0#32
  let v88 : BitVec 1 := Scalar.cmpi .slt v86 c0_i32_47
  let c0_i32_48 : BitVec 32 := 0#32
  let v89 : BitVec 1 := Scalar.cmpi .slt v85 c0_i32_48
  let v90 : BitVec 1 := Scalar.xori v88 v89
  let c0_i32_46 : BitVec 32 := 0#32
  let v87 : BitVec 1 := Scalar.cmpi .ne v86 c0_i32_46
  let v91 : BitVec 1 := Scalar.andi v90 v87
  let v92 : BitVec 32 := Scalar.addi v86 v85
  let v93 : BitVec 32 := Scalar.select v91 v92 v86
  let c0_i32_49 : BitVec 32 := 0#32
  let v94 : BitVec 1 := Scalar.cmpi .eq v93 c0_i32_49
  let v95 : BitVec 32 := Scalar.extui v94
  let c0_i32_50 : BitVec 32 := 0#32
  let v96 : BitVec 1 := Scalar.cmpi .ne v95 c0_i32_50
  v96

def k0_off25 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v184 : Index := Scalar.indexCast v43
  let c0_90 : Index := 0#32
  let c0_91 : Index := 0#32
  ![v184.toNat, 0, 0]
def k0_off26 (i : grid0.Coords) : Fin 3 → Nat :=
  let arg0 : BitVec 32 := BitVec.ofNat 32 (i 0).val
  let c3_i32_11 : BitVec 32 := 3#32
  let c0_i32_12 : BitVec 32 := 0#32
  let v24 : BitVec 1 := Scalar.cmpi .eq c3_i32_11 c0_i32_12
  let c1_i32_13 : BitVec 32 := 1#32
  let v25 : BitVec 32 := Scalar.select v24 c1_i32_13 c3_i32_11
  let v26 : BitVec 32 := Scalar.remsi arg0 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let v98 : Index := Scalar.indexCast v33
  let c0_52 : Index := 0#32
  let c0_53 : Index := 0#32
  ![v98.toNat, 0, 0]
def k0_off27 (i : grid0.Coords) : Fin 3 → Nat :=
  let arg0 : BitVec 32 := BitVec.ofNat 32 (i 0).val
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi arg0 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v133 : Index := Scalar.indexCast v43
  let c0_68 : Index := 0#32
  let c0_69 : Index := 0#32
  ![v133.toNat, 0, 0]
def k0_cond12 (i : grid0.Coords) : BitVec 1 :=
  let arg0 : BitVec 32 := BitVec.ofNat 32 (i 0).val
  let c0_i32_85 : BitVec 32 := 0#32
  let v177 : BitVec 1 := Scalar.cmpi .eq arg0 c0_i32_85
  let v178 : BitVec 32 := Scalar.extui v177
  let c0_i32_86 : BitVec 32 := 0#32
  let v179 : BitVec 1 := Scalar.cmpi .ne v178 c0_i32_86
  v179

def k0_cond13 (i : grid0.Coords) : BitVec 1 :=
  let arg0 : BitVec 32 := BitVec.ofNat 32 (i 0).val
  let c0_i32_87 : BitVec 32 := 0#32
  let v180 : BitVec 1 := Scalar.cmpi .sgt arg0 c0_i32_87
  let v181 : BitVec 32 := Scalar.extui v180
  let c0_i32_88 : BitVec 32 := 0#32
  let v182 : BitVec 1 := Scalar.cmpi .ne v181 c0_i32_88
  v182

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8320x4096 : Shape := ⟨2, ![8320, 4096]⟩
abbrev S4096x1024 : Shape := ⟨2, ![4096, 1024]⟩
abbrev S8320x1024 : Shape := ⟨2, ![8320, 1024]⟩
abbrev S1x1024 : Shape := ⟨2, ![1, 1024]⟩
abbrev S2x4096x1024 : Shape := ⟨3, ![2, 4096, 1024]⟩
abbrev S2x4160x1024 : Shape := ⟨3, ![2, 4160, 1024]⟩
abbrev S1024 : Shape := ⟨1, ![1024]⟩
abbrev S_ : Shape := ⟨0, ![]⟩
abbrev S2x4160 : Shape := ⟨2, ![2, 4160]⟩
abbrev S2x4160x1 : Shape := ⟨3, ![2, 4160, 1]⟩
abbrev S1x1x1024 : Shape := ⟨3, ![1, 1, 1024]⟩
abbrev S2x4096 : Shape := ⟨2, ![2, 4096]⟩
abbrev S1x1 : Shape := ⟨2, ![1, 1]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x1024, .bf16⟩
  | .hbm, ⟨2, _⟩ => ⟨S8320x1024, .f32⟩
  | .hbm, ⟨3, _⟩ => ⟨S1x1024, .f32⟩
  | .hbm, ⟨4, _⟩ => ⟨S2x4096x1024, .f32⟩
  | .hbm, ⟨5, _⟩ => ⟨S8320x4096, .f32⟩
  | .hbm, ⟨6, _⟩ => ⟨S4096x1024, .f32⟩
  | .hbm, ⟨7, _⟩ => ⟨S8320x1024, .f32⟩
  | .hbm, ⟨8, _⟩ => ⟨S8320x1024, .f32⟩
  | .hbm, ⟨9, _⟩ => ⟨S2x4160x1024, .f32⟩
  | .hbm, ⟨10, _⟩ => ⟨S1024, .f32⟩
  | .hbm, ⟨11, _⟩ => ⟨S2x4160x1024, .f32⟩
  | .hbm, ⟨12, _⟩ => ⟨S_, .f32⟩
  | .hbm, ⟨13, _⟩ => ⟨S2x4160, .f32⟩
  | .hbm, ⟨14, _⟩ => ⟨S2x4160x1, .f32⟩
  | .hbm, ⟨15, _⟩ => ⟨S_, .f32⟩
  | .hbm, ⟨16, _⟩ => ⟨S2x4160x1, .f32⟩
  | .hbm, ⟨17, _⟩ => ⟨S2x4160x1, .f32⟩
  | .hbm, ⟨18, _⟩ => ⟨S_, .f32⟩
  | .hbm, ⟨19, _⟩ => ⟨S2x4160x1, .f32⟩
  | .hbm, ⟨20, _⟩ => ⟨S2x4160x1, .f32⟩
  | .hbm, ⟨21, _⟩ => ⟨S2x4160x1, .f32⟩
  | .hbm, ⟨22, _⟩ => ⟨S2x4160x1, .f32⟩
  | .hbm, ⟨23, _⟩ => ⟨S_, .f32⟩
  | .hbm, ⟨24, _⟩ => ⟨S2x4160x1, .f32⟩
  | .hbm, ⟨25, _⟩ => ⟨S2x4160x1, .f32⟩
  | .hbm, ⟨26, _⟩ => ⟨S2x4160x1024, .f32⟩
  | .hbm, ⟨27, _⟩ => ⟨S2x4160x1024, .f32⟩
  | .hbm, ⟨28, _⟩ => ⟨S1x1x1024, .f32⟩
  | .hbm, ⟨29, _⟩ => ⟨S2x4160x1024, .f32⟩
  | .hbm, ⟨30, _⟩ => ⟨S2x4160x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S_, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096, .f32⟩
  | .hbm, ⟨39, _⟩ => ⟨S_, .f32⟩
  | .hbm, ⟨40, _⟩ => ⟨S2x4096, .f32⟩
  | .hbm, ⟨41, _⟩ => ⟨S2x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x4096, .f32⟩
  | .hbm, ⟨50, _⟩ => ⟨S_, .f32⟩
  | .hbm, ⟨51, _⟩ => ⟨S2x4096, .f32⟩
  | .hbm, ⟨52, _⟩ => ⟨S2x4096, .f32⟩
  | .hbm, ⟨53, _⟩ => ⟨S2x4096x1024, .f32⟩
  | .hbm, ⟨54, _⟩ => ⟨S2x4096x1024, .f32⟩
  | .hbm, ⟨55, _⟩ => ⟨S_, .f32⟩
  | .hbm, ⟨56, _⟩ => ⟨S2x4160x1024, .f32⟩
  | .hbm, ⟨57, _⟩ => ⟨S2x4160x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x4160x1024, .f32⟩
  | .hbm, ⟨62, _⟩ => ⟨S2x4160x1024, .f32⟩
  | .hbm, ⟨63, _⟩ => ⟨S_, .f32⟩
  | .hbm, ⟨64, _⟩ => ⟨S1024, .f32⟩
  | .hbm, ⟨65, _⟩ => ⟨S2x4160x1024, .f32⟩
  | .hbm, ⟨66, _⟩ => ⟨S_, .f32⟩
  | .hbm, ⟨67, _⟩ => ⟨S2x4160, .f32⟩
  | .hbm, ⟨68, _⟩ => ⟨S2x4160x1, .f32⟩
  | .hbm, ⟨69, _⟩ => ⟨S2x4160x1024, .f32⟩
  | .hbm, ⟨70, _⟩ => ⟨S2x4160x1024, .f32⟩
  | .hbm, ⟨71, _⟩ => ⟨S2x4160x1, .f32⟩
  | .hbm, ⟨72, _⟩ => ⟨S_, .f32⟩
  | .hbm, ⟨73, _⟩ => ⟨S2x4160x1, .f32⟩
  | .hbm, ⟨74, _⟩ => ⟨S2x4160x1, .f32⟩
  | .hbm, ⟨75, _⟩ => ⟨S_, .f32⟩
  | .hbm, ⟨76, _⟩ => ⟨S2x4160, .f32⟩
  | .hbm, ⟨77, _⟩ => ⟨S2x4160x1024, .f32⟩
  | .hbm, ⟨78, _⟩ => ⟨S2x4160x1024, .f32⟩
  | .hbm, ⟨79, _⟩ => ⟨S2x4160x1024, .f32⟩
  | .hbm, ⟨80, _⟩ => ⟨S2x4160x1024, .f32⟩
  | .hbm, ⟨81, _⟩ => ⟨S2x4160x1024, .f32⟩
  | .hbm, ⟨82, _⟩ => ⟨S1x1024, .f32⟩
  | .hbm, ⟨83, _⟩ => ⟨S8320x1024, .f32⟩
  | .hbm, ⟨84, _⟩ => ⟨S8320x1024, .bf16⟩
  | .hbm, ⟨85, _⟩ => ⟨S1x1, .f32⟩
  | .hbm, ⟨86, _⟩ => ⟨S_, .i32⟩
  | .hbm, ⟨87, _⟩ => ⟨S_, .f32⟩
  | .hbm, ⟨88, _⟩ => ⟨S1x128, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c : Ref sig .tc := ⟨.hbm, 86, rfl⟩
abbrev main_call0_v0 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Kernel9.lean ====
abbrev S8320x1024 : Shape := ⟨2, ![8320, 1024]⟩
abbrev S1024x3840 : Shape := ⟨2, ![1024, 3840]⟩
abbrev S8320x3840 : Shape := ⟨2, ![8320, 3840]⟩
abbrev S8320x256 : Shape := ⟨2, ![8320, 256]⟩
abbrev S416x1024 : Shape := ⟨2, ![416, 1024]⟩
abbrev S416x3840 : Shape := ⟨2, ![416, 3840]⟩
abbrev S416x256 : Shape := ⟨2, ![416, 256]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x3840, .bf16⟩
  | .hbm, ⟨2, _⟩ => ⟨S8320x3840, .bf16⟩
  | .hbm, ⟨3, _⟩ => ⟨S8320x256, .f32⟩
  | .local _ .vmem, ⟨0, _⟩ => ⟨S416x1024, .bf16⟩
  | .local _ .vmem, ⟨1, _⟩ => ⟨S416x1024, .bf16⟩
  | .local _ .vmem, ⟨2, _⟩ => ⟨S1024x3840, .bf16⟩
  | .local _ .vmem, ⟨3, _⟩ => ⟨S416x3840, .bf16⟩
  | .local _ .vmem, ⟨4, _⟩ => ⟨S416x3840, .bf16⟩
  | .local _ .vmem, ⟨5, _⟩ => ⟨S416x256, .f32⟩
  | .local _ .vmem, ⟨6, _⟩ => ⟨S416x256, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![20, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S416x3840 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S416x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference9Ideal.lean ====
abbrev S8320x1024 : Shape := ⟨2, ![8320, 1024]⟩
abbrev S1024x3840 : Shape := ⟨2, ![1024, 3840]⟩
abbrev S8320x3840 : Shape := ⟨2, ![8320, 3840]⟩
abbrev S8320x256 : Shape := ⟨2, ![8320, 256]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x3840, .bf16⟩
  | .hbm, ⟨2, _⟩ => ⟨S8320x1024, .f32⟩
  | .hbm, ⟨3, _⟩ => ⟨S1024x3840, .f32⟩
  | .hbm, ⟨4, _⟩ => ⟨S8320x3840, .f32⟩
  | .hbm, ⟨5, _⟩ => ⟨S8320x3840, .bf16⟩
  | .hbm, ⟨6, _⟩ => ⟨S8320x256, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8320x1024 : Shape := ⟨2, ![8320, 1024]⟩
abbrev S8320x1536 : Shape := ⟨2, ![8320, 1536]⟩
abbrev S8320x512 : Shape := ⟨2, ![8320, 512]⟩
abbrev S1024x2048 : Shape := ⟨2, ![1024, 2048]⟩
abbrev S1664x1024 : Shape := ⟨2, ![1664, 1024]⟩
abbrev S1664x1536 : Shape := ⟨2, ![1664, 1536]⟩
abbrev S1664x512 : Shape := ⟨2, ![1664, 512]⟩
abbrev S1664x2048 : Shape := ⟨2, ![1664, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x1536, .bf16⟩
  | .hbm, ⟨2, _⟩ => ⟨S8320x512, .bf16⟩
  | .hbm, ⟨3, _⟩ => ⟨S1024x2048, .f32⟩
  | .local _ .vmem, ⟨0, _⟩ => ⟨S1664x1024, .bf16⟩
  | .local _ .vmem, ⟨1, _⟩ => ⟨S1664x1024, .bf16⟩
  | .local _ .vmem, ⟨2, _⟩ => ⟨S1664x1536, .bf16⟩
  | .local _ .vmem, ⟨3, _⟩ => ⟨S1664x1536, .bf16⟩
  | .local _ .vmem, ⟨4, _⟩ => ⟨S1664x512, .bf16⟩
  | .local _ .vmem, ⟨5, _⟩ => ⟨S1664x512, .bf16⟩
  | .local _ .vmem, ⟨6, _⟩ => ⟨S1024x2048, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg0 : BitVec 32 := BitVec.ofNat 32 (i 0).val
  let c0_i32_6 : BitVec 32 := 0#32
  let v8 : BitVec 1 := Scalar.cmpi .sgt arg0 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1664x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference10Ideal.lean ====
abbrev S8320x1024 : Shape := ⟨2, ![8320, 1024]⟩
abbrev S8320x1536 : Shape := ⟨2, ![8320, 1536]⟩
abbrev S8320x512 : Shape := ⟨2, ![8320, 512]⟩
abbrev S512x1024 : Shape := ⟨2, ![512, 1024]⟩
abbrev S1024x512 : Shape := ⟨2, ![1024, 512]⟩
abbrev S1536x1024 : Shape := ⟨2, ![1536, 1024]⟩
abbrev S1024x1536 : Shape := ⟨2, ![1024, 1536]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1536, .bf16⟩
  | .hbm, ⟨2, _⟩ => ⟨S8320x512, .bf16⟩
  | .hbm, ⟨3, _⟩ => ⟨S8320x1024, .f32⟩
  | .hbm, ⟨4, _⟩ => ⟨S8320x1024, .f32⟩
  | .hbm, ⟨5, _⟩ => ⟨S8320x1536, .f32⟩
  | .hbm, ⟨6, _⟩ => ⟨S8320x512, .f32⟩
  | .hbm, ⟨7, _⟩ => ⟨S512x1024, .f32⟩
  | .hbm, ⟨8, _⟩ => ⟨S1024x512, .f32⟩
  | .hbm, ⟨9, _⟩ => ⟨S1536x1024, .f32⟩
  | .hbm, ⟨10, _⟩ => ⟨S1024x1536, .f32⟩
  | .hbm, ⟨11, _⟩ => ⟨S1024x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S8320x1024 : Shape := ⟨2, ![8320, 1024]⟩
abbrev S8320x512 : Shape := ⟨2, ![8320, 512]⟩
abbrev S8320x128 : Shape := ⟨2, ![8320, 128]⟩
abbrev S1024x1792 : Shape := ⟨2, ![1024, 1792]⟩
abbrev S1664x1024 : Shape := ⟨2, ![1664, 1024]⟩
abbrev S1664x512 : Shape := ⟨2, ![1664, 512]⟩
abbrev S1664x128 : Shape := ⟨2, ![1664, 128]⟩
abbrev S1664x1792 : Shape := ⟨2, ![1664, 1792]⟩

abbrev nBuf : Space → Nat
  | .hbm => 7
  | .vmem => 13
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S8320x512, .bf16⟩
  | .hbm, ⟨3, _⟩ => ⟨S8320x512, .bf16⟩
  | .hbm, ⟨4, _⟩ => ⟨S8320x128, .bf16⟩
  | .hbm, ⟨5, _⟩ => ⟨S8320x128, .bf16⟩
  | .hbm, ⟨6, _⟩ => ⟨S1024x1792, .f32⟩
  | .local _ .vmem, ⟨0, _⟩ => ⟨S1664x1024, .bf16⟩
  | .local _ .vmem, ⟨1, _⟩ => ⟨S1664x1024, .bf16⟩
  | .local _ .vmem, ⟨2, _⟩ => ⟨S1664x512, .bf16⟩
  | .local _ .vmem, ⟨3, _⟩ => ⟨S1664x512, .bf16⟩
  | .local _ .vmem, ⟨4, _⟩ => ⟨S1664x512, .bf16⟩
  | .local _ .vmem, ⟨5, _⟩ => ⟨S1664x512, .bf16⟩
  | .local _ .vmem, ⟨6, _⟩ => ⟨S1664x512, .bf16⟩
  | .local _ .vmem, ⟨7, _⟩ => ⟨S1664x512, .bf16⟩
  | .local _ .vmem, ⟨8, _⟩ => ⟨S1664x128, .bf16⟩
  | .local _ .vmem, ⟨9, _⟩ => ⟨S1664x128, .bf16⟩
  | .local _ .vmem, ⟨10, _⟩ => ⟨S1664x128, .bf16⟩
  | .local _ .vmem, ⟨11, _⟩ => ⟨S1664x128, .bf16⟩
  | .local _ .vmem, ⟨12, _⟩ => ⟨S1024x1792, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_11 : BitVec 32 := 0#32
  let v10 : BitVec 1 := Scalar.cmpi .ne v9 c0_i32_11
  v10

def k0_cond2 (i : grid0.Coords) : BitVec 1 :=
  let arg0 : BitVec 32 := BitVec.ofNat 32 (i 0).val
  let c0_i32_12 : BitVec 32 := 0#32
  let v11 : BitVec 1 := Scalar.cmpi .sgt arg0 c0_i32_12
  let v12 : BitVec 32 := Scalar.extui v11
  let c0_i32_13 : BitVec 32 := 0#32
  let v13 : BitVec 1 := Scalar.cmpi .ne v12 c0_i32_13
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1664x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1664x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1664x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1664x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S8320x1024 : Shape := ⟨2, ![8320, 1024]⟩
abbrev S8320x512 : Shape := ⟨2, ![8320, 512]⟩
abbrev S8320x128 : Shape := ⟨2, ![8320, 128]⟩
abbrev S128x1024 : Shape := ⟨2, ![128, 1024]⟩
abbrev S1024x128 : Shape := ⟨2, ![1024, 128]⟩
abbrev S512x1024 : Shape := ⟨2, ![512, 1024]⟩
abbrev S1024x512 : Shape := ⟨2, ![1024, 512]⟩
abbrev S1024x1792 : Shape := ⟨2, ![1024, 1792]⟩

abbrev nBuf : Space → Nat
  | .hbm => 27
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S8320x512, .bf16⟩
  | .hbm, ⟨3, _⟩ => ⟨S8320x512, .bf16⟩
  | .hbm, ⟨4, _⟩ => ⟨S8320x128, .bf16⟩
  | .hbm, ⟨5, _⟩ => ⟨S8320x128, .bf16⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S8320x1024, .f32⟩
  | .hbm, ⟨11, _⟩ => ⟨S8320x512, .f32⟩
  | .hbm, ⟨12, _⟩ => ⟨S8320x512, .f32⟩
  | .hbm, ⟨13, _⟩ => ⟨S8320x512, .f32⟩
  | .hbm, ⟨14, _⟩ => ⟨S8320x128, .f32⟩
  | .hbm, ⟨15, _⟩ => ⟨S8320x128, .f32⟩
  | .hbm, ⟨16, _⟩ => ⟨S128x1024, .f32⟩
  | .hbm, ⟨17, _⟩ => ⟨S1024x128, .f32⟩
  | .hbm, ⟨18, _⟩ => ⟨S128x1024, .f32⟩
  | .hbm, ⟨19, _⟩ => ⟨S1024x128, .f32⟩
  | .hbm, ⟨20, _⟩ => ⟨S512x1024, .f32⟩
  | .hbm, ⟨21, _⟩ => ⟨S1024x512, .f32⟩
  | .hbm, ⟨22, _⟩ => ⟨S512x1024, .f32⟩
  | .hbm, ⟨23, _⟩ => ⟨S1024x512, .f32⟩
  | .hbm, ⟨24, _⟩ => ⟨S512x1024, .f32⟩
  | .hbm, ⟨25, _⟩ => ⟨S1024x512, .f32⟩
  | .hbm, ⟨26, _⟩ => ⟨S1024x1792, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel13.lean ====
abbrev S8320x1024 : Shape := ⟨2, ![8320, 1024]⟩
abbrev S1024x1024 : Shape := ⟨2, ![1024, 1024]⟩
abbrev S1x1024 : Shape := ⟨2, ![1, 1024]⟩
abbrev S832x1024 : Shape := ⟨2, ![832, 1024]⟩
abbrev S832 : Shape := ⟨1, ![832]⟩
abbrev S832x1 : Shape := ⟨2, ![832, 1]⟩

abbrev nBuf : Space → Nat
  | .hbm => 6
  | .vmem => 10
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x1024, .bf16⟩
  | .local _ .vmem, ⟨0, _⟩ => ⟨S832x1024, .bf16⟩
  | .local _ .vmem, ⟨1, _⟩ => ⟨S832x1024, .bf16⟩
  | .local _ .vmem, ⟨2, _⟩ => ⟨S1024x1024, .bf16⟩
  | .local _ .vmem, ⟨3, _⟩ => ⟨S832x1024, .f32⟩
  | .local _ .vmem, ⟨4, _⟩ => ⟨S832x1024, .f32⟩
  | .local _ .vmem, ⟨5, _⟩ => ⟨S1x1024, .f32⟩
  | .local _ .vmem, ⟨6, _⟩ => ⟨S832x1024, .f32⟩
  | .local _ .vmem, ⟨7, _⟩ => ⟨S832x1024, .f32⟩
  | .local _ .vmem, ⟨8, _⟩ => ⟨S832x1024, .bf16⟩
  | .local _ .vmem, ⟨9, _⟩ => ⟨S832x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![10, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S832x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S832x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference13Ideal.lean ====
abbrev S8320x1024 : Shape := ⟨2, ![8320, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩

abbrev nBuf : Space → Nat
  | .hbm => 26
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S1024x1024, .f32⟩
  | .hbm, ⟨6, _⟩ => ⟨S8320x1024, .f32⟩
  | .hbm, ⟨7, _⟩ => ⟨S8320x1024, .f32⟩
  | .hbm, ⟨8, _⟩ => ⟨S1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S1x1024, .f32⟩
  | .hbm, ⟨23, _⟩ => ⟨S8320x1024, .f32⟩
  | .hbm, ⟨24, _⟩ => ⟨S8320x1024, .f32⟩
  | .hbm, ⟨25, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel14.lean ====
abbrev S8320x1024 : Shape := ⟨2, ![8320, 1024]⟩
abbrev S1024x1024 : Shape := ⟨2, ![1024, 1024]⟩
abbrev S832x1024 : Shape := ⟨2, ![832, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .local _ .vmem, ⟨0, _⟩ => ⟨S832x1024, .bf16⟩
  | .local _ .vmem, ⟨1, _⟩ => ⟨S832x1024, .bf16⟩
  | .local _ .vmem, ⟨2, _⟩ => ⟨S1024x1024, .bf16⟩
  | .local _ .vmem, ⟨3, _⟩ => ⟨S832x1024, .bf16⟩
  | .local _ .vmem, ⟨4, _⟩ => ⟨S832x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![10, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S832x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x1024 : Shape := ⟨2, ![8320, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S1024x1024, .f32⟩
  | .hbm, ⟨3, _⟩ => ⟨S8320x1024, .f32⟩
  | .hbm, ⟨4, _⟩ => ⟨S8320x1024, .f32⟩
  | .hbm, ⟨5, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8320x1024 : Shape := ⟨2, ![8320, 1024]⟩
abbrev S1024x1024 : Shape := ⟨2, ![1024, 1024]⟩
abbrev S832x1024 : Shape := ⟨2, ![832, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S1024x1024, .f32⟩
  | .local _ .vmem, ⟨0, _⟩ => ⟨S832x1024, .bf16⟩
  | .local _ .vmem, ⟨1, _⟩ => ⟨S832x1024, .bf16⟩
  | .local _ .vmem, ⟨2, _⟩ => ⟨S832x1024, .bf16⟩
  | .local _ .vmem, ⟨3, _⟩ => ⟨S832x1024, .bf16⟩
  | .local _ .vmem, ⟨4, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 10], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S832x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8320x1024 : Shape := ⟨2, ![8320, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .f32⟩
  | .hbm, ⟨3, _⟩ => ⟨S8320x1024, .f32⟩
  | .hbm, ⟨4, _⟩ => ⟨S1024x1024, .f32⟩
  | .hbm, ⟨5, _⟩ => ⟨S1024x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S902x1x1024 : Shape := ⟨3, ![902, 1, 1024]⟩
abbrev S82x1x1024 : Shape := ⟨3, ![82, 1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S902x1x1024, .f32⟩
  | .hbm, ⟨1, _⟩ => ⟨S902x1x1024, .f32⟩
  | .hbm, ⟨2, _⟩ => ⟨S902x1x1024, .f32⟩
  | .hbm, ⟨3, _⟩ => ⟨S902x1x1024, .f32⟩
  | .hbm, ⟨4, _⟩ => ⟨S902x1x1024, .f32⟩
  | .hbm, ⟨5, _⟩ => ⟨S902x1x1024, .f32⟩
  | .hbm, ⟨6, _⟩ => ⟨S902x1x1024, .f32⟩
  | .hbm, ⟨7, _⟩ => ⟨S902x1x1024, .f32⟩
  | .local _ .vmem, ⟨0, _⟩ => ⟨S82x1x1024, .f32⟩
  | .local _ .vmem, ⟨1, _⟩ => ⟨S82x1x1024, .f32⟩
  | .local _ .vmem, ⟨2, _⟩ => ⟨S82x1x1024, .f32⟩
  | .local _ .vmem, ⟨3, _⟩ => ⟨S82x1x1024, .f32⟩
  | .local _ .vmem, ⟨4, _⟩ => ⟨S82x1x1024, .f32⟩
  | .local _ .vmem, ⟨5, _⟩ => ⟨S82x1x1024, .f32⟩
  | .local _ .vmem, ⟨6, _⟩ => ⟨S82x1x1024, .f32⟩
  | .local _ .vmem, ⟨7, _⟩ => ⟨S82x1x1024, .f32⟩
  | .local _ .vmem, ⟨8, _⟩ => ⟨S82x1x1024, .f32⟩
  | .local _ .vmem, ⟨9, _⟩ => ⟨S82x1x1024, .f32⟩
  | .local _ .vmem, ⟨10, _⟩ => ⟨S82x1x1024, .f32⟩
  | .local _ .vmem, ⟨11, _⟩ => ⟨S82x1x1024, .f32⟩
  | .local _ .vmem, ⟨12, _⟩ => ⟨S82x1x1024, .f32⟩
  | .local _ .vmem, ⟨13, _⟩ => ⟨S82x1x1024, .f32⟩
  | .local _ .vmem, ⟨14, _⟩ => ⟨S82x1x1024, .f32⟩
  | .local _ .vmem, ⟨15, _⟩ => ⟨S82x1x1024, .f32⟩
  | _, _ => ⟨S902x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S82x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S82x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S82x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S82x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S82x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S82x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S82x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S82x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S902x1x1024 : Shape := ⟨3, ![902, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S902x1x1024, .f32⟩
  | .hbm, ⟨1, _⟩ => ⟨S902x1x1024, .f32⟩
  | .hbm, ⟨2, _⟩ => ⟨S902x1x1024, .f32⟩
  | .hbm, ⟨3, _⟩ => ⟨S902x1x1024, .f32⟩
  | .hbm, ⟨4, _⟩ => ⟨S_, .f32⟩
  | .hbm, ⟨5, _⟩ => ⟨S902x1x1024, .f32⟩
  | .hbm, ⟨6, _⟩ => ⟨S902x1x1024, .f32⟩
  | .hbm, ⟨7, _⟩ => ⟨S_, .f32⟩
  | .hbm, ⟨8, _⟩ => ⟨S902x1x1024, .f32⟩
  | .hbm, ⟨9, _⟩ => ⟨S902x1x1024, .f32⟩
  | .hbm, ⟨10, _⟩ => ⟨S902x1x1024, .f32⟩
  | .hbm, ⟨11, _⟩ => ⟨S_, .f32⟩
  | .hbm, ⟨12, _⟩ => ⟨S902x1x1024, .f32⟩
  | .hbm, ⟨13, _⟩ => ⟨S902x1x1024, .f32⟩
  | .hbm, ⟨14, _⟩ => ⟨S902x1x1024, .f32⟩
  | .hbm, ⟨15, _⟩ => ⟨S_, .f32⟩
  | .hbm, ⟨16, _⟩ => ⟨S902x1x1024, .f32⟩
  | .hbm, ⟨17, _⟩ => ⟨S902x1x1024, .f32⟩
  | .hbm, ⟨18, _⟩ => ⟨S902x1x1024, .f32⟩
  | .hbm, ⟨19, _⟩ => ⟨S_, .f32⟩
  | .hbm, ⟨20, _⟩ => ⟨S902x1x1024, .f32⟩
  | .hbm, ⟨21, _⟩ => ⟨S902x1x1024, .f32⟩
  | .hbm, ⟨22, _⟩ => ⟨S_, .f32⟩
  | .hbm, ⟨23, _⟩ => ⟨S902x1x1024, .f32⟩
  | .hbm, ⟨24, _⟩ => ⟨S902x1x1024, .f32⟩
  | .hbm, ⟨25, _⟩ => ⟨S902x1x1024, .f32⟩
  | .hbm, ⟨26, _⟩ => ⟨S_, .f32⟩
  | .hbm, ⟨27, _⟩ => ⟨S902x1x1024, .f32⟩
  | .hbm, ⟨28, _⟩ => ⟨S902x1x1024, .f32⟩
  | .hbm, ⟨29, _⟩ => ⟨S902x1x1024, .f32⟩
  | .hbm, ⟨30, _⟩ => ⟨S_, .f32⟩
  | .hbm, ⟨31, _⟩ => ⟨S902x1x1024, .f32⟩
  | .hbm, ⟨32, _⟩ => ⟨S902x1x1024, .f32⟩
  | .hbm, ⟨33, _⟩ => ⟨S902x1x1024, .f32⟩
  | .hbm, ⟨34, _⟩ => ⟨S_, .f32⟩
  | .hbm, ⟨35, _⟩ => ⟨S902x1x1024, .f32⟩
  | .hbm, ⟨36, _⟩ => ⟨S902x1x1024, .f32⟩
  | _, _ => ⟨S902x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1x4x384 : Shape := ⟨3, ![1, 4, 384]⟩
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S1x4x384, .f32⟩
  | .hbm, ⟨6, _⟩ => ⟨S1x4x384, .f32⟩
  | .local _ .vmem, ⟨0, _⟩ => ⟨S1x4x384, .f32⟩
  | .local _ .vmem, ⟨1, _⟩ => ⟨S4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S1x4x384 : Shape := ⟨3, ![1, 4, 384]⟩
abbrev S4x384 : Shape := ⟨2, ![4, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S4x384, .f32⟩
  | .hbm, ⟨2, _⟩ => ⟨S1x4x384, .f32⟩
  | .hbm, ⟨3, _⟩ => ⟨S1x4x384, .f32⟩
  | .hbm, ⟨4, _⟩ => ⟨S1x4x384, .f32⟩
  | .hbm, ⟨5, _⟩ => ⟨S_, .f32⟩
  | .hbm, ⟨6, _⟩ => ⟨S1x4x384, .f32⟩
  | .hbm, ⟨7, _⟩ => ⟨S1x4x384, .f32⟩
  | .hbm, ⟨8, _⟩ => ⟨S_, .f32⟩
  | .hbm, ⟨9, _⟩ => ⟨S1x4x384, .f32⟩
  | .hbm, ⟨10, _⟩ => ⟨S1x4x384, .f32⟩
  | .hbm, ⟨11, _⟩ => ⟨S1x4x384, .f32⟩
  | .hbm, ⟨12, _⟩ => ⟨S_, .f32⟩
  | .hbm, ⟨13, _⟩ => ⟨S1x4x384, .f32⟩
  | .hbm, ⟨14, _⟩ => ⟨S1x4x384, .f32⟩
  | .hbm, ⟨15, _⟩ => ⟨S1x4x384, .f32⟩
  | .hbm, ⟨16, _⟩ => ⟨S_, .f32⟩
  | .hbm, ⟨17, _⟩ => ⟨S1x4x384, .f32⟩
  | .hbm, ⟨18, _⟩ => ⟨S1x4x384, .f32⟩
  | .hbm, ⟨19, _⟩ => ⟨S1x4x384, .f32⟩
  | .hbm, ⟨20, _⟩ => ⟨S_, .f32⟩
  | .hbm, ⟨21, _⟩ => ⟨S1x4x384, .f32⟩
  | .hbm, ⟨22, _⟩ => ⟨S1x4x384, .f32⟩
  | .hbm, ⟨23, _⟩ => ⟨S_, .f32⟩
  | .hbm, ⟨24, _⟩ => ⟨S1x4x384, .f32⟩
  | .hbm, ⟨25, _⟩ => ⟨S1x4x384, .f32⟩
  | .hbm, ⟨26, _⟩ => ⟨S1x4x384, .f32⟩
  | .hbm, ⟨27, _⟩ => ⟨S_, .f32⟩
  | .hbm, ⟨28, _⟩ => ⟨S1x4x384, .f32⟩
  | .hbm, ⟨29, _⟩ => ⟨S1x4x384, .f32⟩
  | .hbm, ⟨30, _⟩ => ⟨S1x4x384, .f32⟩
  | .hbm, ⟨31, _⟩ => ⟨S_, .f32⟩
  | .hbm, ⟨32, _⟩ => ⟨S1x4x384, .f32⟩
  | .hbm, ⟨33, _⟩ => ⟨S1x4x384, .f32⟩
  | .hbm, ⟨34, _⟩ => ⟨S1x4x384, .f32⟩
  | .hbm, ⟨35, _⟩ => ⟨S_, .f32⟩
  | .hbm, ⟨36, _⟩ => ⟨S1x4x384, .f32⟩
  | .hbm, ⟨37, _⟩ => ⟨S1x4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel20.lean ====
abbrev S1x4 : Shape := ⟨2, ![1, 4]⟩

abbrev nBuf : Space → Nat
  | .hbm => 7
  | .vmem => 7
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S1x4 : Shape := ⟨2, ![1, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S_, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S1x4, .f32⟩
  | .hbm, ⟨9, _⟩ => ⟨S1x4, .f32⟩
  | .hbm, ⟨10, _⟩ => ⟨S1x4, .f32⟩
  | .hbm, ⟨11, _⟩ => ⟨S_, .f32⟩
  | .hbm, ⟨12, _⟩ => ⟨S1x4, .f32⟩
  | .hbm, ⟨13, _⟩ => ⟨S1x4, .f32⟩
  | .hbm, ⟨14, _⟩ => ⟨S1x4, .f32⟩
  | .hbm, ⟨15, _⟩ => ⟨S_, .f32⟩
  | .hbm, ⟨16, _⟩ => ⟨S1x4, .f32⟩
  | .hbm, ⟨17, _⟩ => ⟨S1x4, .f32⟩
  | .hbm, ⟨18, _⟩ => ⟨S1x4, .f32⟩
  | .hbm, ⟨19, _⟩ => ⟨S_, .f32⟩
  | .hbm, ⟨20, _⟩ => ⟨S1x4, .f32⟩
  | .hbm, ⟨21, _⟩ => ⟨S1x4, .f32⟩
  | .hbm, ⟨22, _⟩ => ⟨S_, .f32⟩
  | .hbm, ⟨23, _⟩ => ⟨S1x4, .f32⟩
  | .hbm, ⟨24, _⟩ => ⟨S1x4, .f32⟩
  | .hbm, ⟨25, _⟩ => ⟨S1x4, .f32⟩
  | .hbm, ⟨26, _⟩ => ⟨S_, .f32⟩
  | .hbm, ⟨27, _⟩ => ⟨S1x4, .f32⟩
  | .hbm, ⟨28, _⟩ => ⟨S1x4, .f32⟩
  | .hbm, ⟨29, _⟩ => ⟨S1x4, .f32⟩
  | .hbm, ⟨30, _⟩ => ⟨S_, .f32⟩
  | .hbm, ⟨31, _⟩ => ⟨S1x4, .f32⟩
  | .hbm, ⟨32, _⟩ => ⟨S1x4, .f32⟩
  | .hbm, ⟨33, _⟩ => ⟨S1x4, .f32⟩
  | .hbm, ⟨34, _⟩ => ⟨S_, .f32⟩
  | .hbm, ⟨35, _⟩ => ⟨S1x4, .f32⟩
  | .hbm, ⟨36, _⟩ => ⟨S1x4, .f32⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1x16x64 : Shape := ⟨3, ![1, 16, 64]⟩
abbrev S16x64 : Shape := ⟨2, ![16, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x16x64, .f32⟩
  | .hbm, ⟨1, _⟩ => ⟨S16x64, .f32⟩
  | .hbm, ⟨2, _⟩ => ⟨S1x16x64, .f32⟩
  | .hbm, ⟨3, _⟩ => ⟨S1x16x64, .f32⟩
  | .hbm, ⟨4, _⟩ => ⟨S1x16x64, .f32⟩
  | .hbm, ⟨5, _⟩ => ⟨S1x16x64, .f32⟩
  | .hbm, ⟨6, _⟩ => ⟨S1x16x64, .f32⟩
  | .local _ .vmem, ⟨0, _⟩ => ⟨S1x16x64, .f32⟩
  | .local _ .vmem, ⟨1, _⟩ => ⟨S16x64, .f32⟩
  | .local _ .vmem, ⟨2, _⟩ => ⟨S1x16x64, .f32⟩
  | .local _ .vmem, ⟨3, _⟩ => ⟨S1x16x64, .f32⟩
  | .local _ .vmem, ⟨4, _⟩ => ⟨S1x16x64, .f32⟩
  | .local _ .vmem, ⟨5, _⟩ => ⟨S1x16x64, .f32⟩
  | .local _ .vmem, ⟨6, _⟩ => ⟨S1x16x64, .f32⟩
  | _, _ => ⟨S1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S1x16x64 : Shape := ⟨3, ![1, 16, 64]⟩
abbrev S16x64 : Shape := ⟨2, ![16, 64]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x16x64, .f32⟩
  | .hbm, ⟨1, _⟩ => ⟨S16x64, .f32⟩
  | .hbm, ⟨2, _⟩ => ⟨S1x16x64, .f32⟩
  | .hbm, ⟨3, _⟩ => ⟨S1x16x64, .f32⟩
  | .hbm, ⟨4, _⟩ => ⟨S1x16x64, .f32⟩
  | .hbm, ⟨5, _⟩ => ⟨S_, .f32⟩
  | .hbm, ⟨6, _⟩ => ⟨S1x16x64, .f32⟩
  | .hbm, ⟨7, _⟩ => ⟨S1x16x64, .f32⟩
  | .hbm, ⟨8, _⟩ => ⟨S_, .f32⟩
  | .hbm, ⟨9, _⟩ => ⟨S1x16x64, .f32⟩
  | .hbm, ⟨10, _⟩ => ⟨S1x16x64, .f32⟩
  | .hbm, ⟨11, _⟩ => ⟨S1x16x64, .f32⟩
  | .hbm, ⟨12, _⟩ => ⟨S_, .f32⟩
  | .hbm, ⟨13, _⟩ => ⟨S1x16x64, .f32⟩
  | .hbm, ⟨14, _⟩ => ⟨S1x16x64, .f32⟩
  | .hbm, ⟨15, _⟩ => ⟨S1x16x64, .f32⟩
  | .hbm, ⟨16, _⟩ => ⟨S_, .f32⟩
  | .hbm, ⟨17, _⟩ => ⟨S1x16x64, .f32⟩
  | .hbm, ⟨18, _⟩ => ⟨S1x16x64, .f32⟩
  | .hbm, ⟨19, _⟩ => ⟨S1x16x64, .f32⟩
  | .hbm, ⟨20, _⟩ => ⟨S_, .f32⟩
  | .hbm, ⟨21, _⟩ => ⟨S1x16x64, .f32⟩
  | .hbm, ⟨22, _⟩ => ⟨S1x16x64, .f32⟩
  | .hbm, ⟨23, _⟩ => ⟨S_, .f32⟩
  | .hbm, ⟨24, _⟩ => ⟨S1x16x64, .f32⟩
  | .hbm, ⟨25, _⟩ => ⟨S1x16x64, .f32⟩
  | .hbm, ⟨26, _⟩ => ⟨S1x16x64, .f32⟩
  | .hbm, ⟨27, _⟩ => ⟨S_, .f32⟩
  | .hbm, ⟨28, _⟩ => ⟨S1x16x64, .f32⟩
  | .hbm, ⟨29, _⟩ => ⟨S1x16x64, .f32⟩
  | .hbm, ⟨30, _⟩ => ⟨S1x16x64, .f32⟩
  | .hbm, ⟨31, _⟩ => ⟨S_, .f32⟩
  | .hbm, ⟨32, _⟩ => ⟨S1x16x64, .f32⟩
  | .hbm, ⟨33, _⟩ => ⟨S1x16x64, .f32⟩
  | .hbm, ⟨34, _⟩ => ⟨S1x16x64, .f32⟩
  | .hbm, ⟨35, _⟩ => ⟨S_, .f32⟩
  | .hbm, ⟨36, _⟩ => ⟨S1x16x64, .f32⟩
  | .hbm, ⟨37, _⟩ => ⟨S1x16x64, .f32⟩
  | _, _ => ⟨S1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel23.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel25.lean ====
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S_, .f32⟩
  | .hbm, ⟨6, _⟩ => ⟨S1x1024x1024, .f32⟩
  | .hbm, ⟨7, _⟩ => ⟨S1x1024x1024, .f32⟩
  | .hbm, ⟨8, _⟩ => ⟨S_, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .hbm, ⟨12, _⟩ => ⟨S_, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S_, .f32⟩
  | .hbm, ⟨17, _⟩ => ⟨S1x1024x1024, .f32⟩
  | .hbm, ⟨18, _⟩ => ⟨S1x1024x1024, .f32⟩
  | .hbm, ⟨19, _⟩ => ⟨S1x1024x1024, .f32⟩
  | .hbm, ⟨20, _⟩ => ⟨S_, .f32⟩
  | .hbm, ⟨21, _⟩ => ⟨S1x1024x1024, .f32⟩
  | .hbm, ⟨22, _⟩ => ⟨S1x1024x1024, .f32⟩
  | .hbm, ⟨23, _⟩ => ⟨S_, .f32⟩
  | .hbm, ⟨24, _⟩ => ⟨S1x1024x1024, .f32⟩
  | .hbm, ⟨25, _⟩ => ⟨S1x1024x1024, .f32⟩
  | .hbm, ⟨26, _⟩ => ⟨S1x1024x1024, .f32⟩
  | .hbm, ⟨27, _⟩ => ⟨S_, .f32⟩
  | .hbm, ⟨28, _⟩ => ⟨S1x1024x1024, .f32⟩
  | .hbm, ⟨29, _⟩ => ⟨S1x1024x1024, .f32⟩
  | .hbm, ⟨30, _⟩ => ⟨S1x1024x1024, .f32⟩
  | .hbm, ⟨31, _⟩ => ⟨S_, .f32⟩
  | .hbm, ⟨32, _⟩ => ⟨S1x1024x1024, .f32⟩
  | .hbm, ⟨33, _⟩ => ⟨S1x1024x1024, .f32⟩
  | .hbm, ⟨34, _⟩ => ⟨S1x1024x1024, .f32⟩
  | .hbm, ⟨35, _⟩ => ⟨S_, .f32⟩
  | .hbm, ⟨36, _⟩ => ⟨S1x1024x1024, .f32⟩
  | .hbm, ⟨37, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel26.lean ====
abbrev S8320x1024 : Shape := ⟨2, ![8320, 1024]⟩
abbrev S8320x512 : Shape := ⟨2, ![8320, 512]⟩
abbrev S8320x3840 : Shape := ⟨2, ![8320, 3840]⟩
abbrev S1x128 : Shape := ⟨2, ![1, 128]⟩
abbrev S832x1024 : Shape := ⟨2, ![832, 1024]⟩
abbrev S832x512 : Shape := ⟨2, ![832, 512]⟩
abbrev S832x128 : Shape := ⟨2, ![832, 128]⟩
abbrev S832 : Shape := ⟨1, ![832]⟩
abbrev S832x1 : Shape := ⟨2, ![832, 1]⟩
abbrev S128 : Shape := ⟨1, ![128]⟩

abbrev nBuf : Space → Nat
  | .hbm => 12
  | .vmem => 22
  | .smem => 0
  | _ => 0

abbrev bufTy : (tb : Table) → Fin (tcTables nBuf tb) → BufTy
  | .hbm, ⟨0, _⟩ => ⟨S8320x1024, .bf16⟩
  | .hbm, ⟨1, _⟩ => ⟨S8320x512, .bf16⟩
  | .hbm, ⟨2, _⟩ => ⟨S8320x512, .bf16⟩
  | .hbm, ⟨3, _⟩ => ⟨S8320x3840, .bf16⟩
  | .hbm, ⟨4, _⟩ => ⟨S1x128, .f32⟩
  | .hbm, ⟨5, _⟩ => ⟨S1x128, .f32⟩
  | .hbm, ⟨6, _⟩ => ⟨S8320x512, .bf16⟩
  | .hbm, ⟨7, _⟩ => ⟨S8320x512, .bf16⟩
  | .hbm, ⟨8, _⟩ => ⟨S8320x512, .bf16⟩
  | .hbm, ⟨9, _⟩ => ⟨S8320x512, .bf16⟩
  | .hbm, ⟨10, _⟩ => ⟨S1x128, .f32⟩
  | .hbm, ⟨11, _⟩ => ⟨S1x128, .f32⟩
  | .local _ .vmem, ⟨0, _⟩ => ⟨S832x1024, .bf16⟩
  | .local _ .vmem, ⟨1, _⟩ => ⟨S832x1024, .bf16⟩
  | .local _ .vmem, ⟨2, _⟩ => ⟨S832x512, .bf16⟩
  | .local _ .vmem, ⟨3, _⟩ => ⟨S832x512, .bf16⟩
  | .local _ .vmem, ⟨4, _⟩ => ⟨S832x512, .bf16⟩
  | .local _ .vmem, ⟨5, _⟩ => ⟨S832x512, .bf16⟩
  | .local _ .vmem, ⟨6, _⟩ => ⟨S832x512, .bf16⟩
  | .local _ .vmem, ⟨7, _⟩ => ⟨S832x512, .bf16⟩
  | .local _ .vmem, ⟨8, _⟩ => ⟨S832x512, .bf16⟩
  | .local _ .vmem, ⟨9, _⟩ => ⟨S832x512, .bf16⟩
  | .local _ .vmem, ⟨10, _⟩ => ⟨S1x128, .f32⟩
  | .local _ .vmem, ⟨11, _⟩ => ⟨S1x128, .f32⟩
  | .local _ .vmem, ⟨12, _⟩ => ⟨S832x512, .bf16⟩
  | .local _ .vmem, ⟨13, _⟩ => ⟨S832x512, .bf16⟩
  | .local _ .vmem, ⟨14, _⟩ => ⟨S832x512, .bf16⟩
  | .local _ .vmem, ⟨15, _⟩ => ⟨S832x512, .bf16⟩
  | .local _ .vmem, ⟨16, _⟩ => ⟨S832x512, .bf16⟩
  | .local _ .vmem, ⟨17, _⟩ => ⟨S832x512, .bf16⟩
  | .local _ .vmem, ⟨18, _⟩ => ⟨S832x512, .bf16⟩
  | .local _ .vmem, ⟨19, _⟩ => ⟨S832x512, .bf16⟩
  | .local _ .vmem, ⟨20, _⟩ => ⟨S1x128, .f32⟩
  | .local _ .vmem, ⟨21, _⟩ => ⟨S1x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v223 : BitVec 32 := Scalar.extui v0
  let c0_i32_82 : BitVec 32 := 0#32
  let v224 : BitVec 1 := Scalar.cmpi .ne v223 c0_i32_82
  v224

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v225 : BitVec 1 := Scalar.xori v0 v_true
  let v226 : BitVec 32 := Scalar.extui v225
  let c0_i32_83 : BitVec 32 := 0#32
  let v227 : BitVec 1 := Scalar.cmpi .ne v226 c0_i32_83
  v227

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v450 : BitVec 32 := Scalar.extui v0
  let c0_i32_167 : BitVec 32 := 0#32
  let v451 : BitVec 1 := Scalar.cmpi .ne v450 c0_i32_167
  v451

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_168 : BitVec 1 := 1#1
  let v452 : BitVec 1 := Scalar.xori v0 true_168
  let v453 : BitVec 32 := Scalar.extui v452
  let c0_i32_169 : BitVec 32 := 0#32
  let v454 : BitVec 1 := Scalar.cmpi .ne v453 c0_i32_169
  v454

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S832x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S832x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S832x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S832x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S832x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S832x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference26Ideal.lean ====
abbrev S8320x1024 : Shape := ⟨2, ![8320, 1024]⟩
abbrev S8320x512 : Shape := ⟨2, ![8320, 512]⟩
abbrev S8320x3840 : Shape := ⟨2, ![8320, 3840]⟩
abbrev S1x128 : Shape := ⟨2, ![1, 128]⟩
abbrev S8320x4x128 : Shape := ⟨3, ![8320, 4, 128]⟩
abbrev S128 : Shape := ⟨1, ![128]⟩
abbrev S_ : Shape := ⟨0, ![]⟩
abbrev S8320x4 : Shape := ⟨2, ![8320, 4]⟩
abbrev S8320x4x1 : Shape := ⟨3, ![8320, 4, 1]⟩
abbrev S1x1x128 : Shape := ⟨3, ![1, 1, 128]⟩

abbrev nBuf : Space → Nat
  | .hbm => 225
  | .vmem => 0
  | .smem => 0
  | _ => 0

abbrev hbmTy0_0 (i : Nat) : BufTy := match i % 128 with
  | 0 => ⟨S8320x1024, .bf16⟩
  | 1 => ⟨S8320x512, .bf16⟩
  | 2 => ⟨S8320x512, .bf16⟩
  | 3 => ⟨S8320x3840, .bf16⟩
  | 4 => ⟨S1x128, .f32⟩
  | 5 => ⟨S1x128, .f32⟩
  | 6 => ⟨S8320x512, .bf16⟩
  | 7 => ⟨S8320x512, .f32⟩
  | 8 => ⟨S8320x512, .bf16⟩
  | 9 => ⟨S8320x512, .f32⟩
  | 10 => ⟨S8320x1024, .f32⟩
  | 11 => ⟨S8320x512, .f32⟩
  | 12 => ⟨S8320x512, .f32⟩
  | 13 => ⟨S8320x4x128, .f32⟩
  | 14 => ⟨S128, .f32⟩
  | 15 => ⟨S8320x4x128, .f32⟩
  | 16 => ⟨S_, .f32⟩
  | 17 => ⟨S8320x4, .f32⟩
  | 18 => ⟨S8320x4x1, .f32⟩
  | 19 => ⟨S_, .f32⟩
  | 20 => ⟨S8320x4x1, .f32⟩
  | 21 => ⟨S8320x4x1, .f32⟩
  | 22 => ⟨S_, .f32⟩
  | 23 => ⟨S8320x4x1, .f32⟩
  | 24 => ⟨S8320x4x1, .f32⟩
  | 25 => ⟨S8320x4x1, .f32⟩
  | 26 => ⟨S8320x4x1, .f32⟩
  | 27 => ⟨S_, .f32⟩
  | 28 => ⟨S8320x4x1, .f32⟩
  | 29 => ⟨S8320x4x1, .f32⟩
  | 30 => ⟨S8320x4x128, .f32⟩
  | 31 => ⟨S8320x4x128, .f32⟩
  | 32 => ⟨S1x1x128, .f32⟩
  | 33 => ⟨S8320x4x128, .f32⟩
  | 34 => ⟨S8320x4x128, .f32⟩
  | 35 => ⟨S8320x4x128, .f32⟩
  | 36 => ⟨S8320x4x128, .f32⟩
  | 37 => ⟨S8320x4x128, .f32⟩
  | 38 => ⟨S_, .f32⟩
  | 39 => ⟨S8320x4x128, .f32⟩
  | 40 => ⟨S8320x4x128, .f32⟩
  | 41 => ⟨S_, .f32⟩
  | 42 => ⟨S8320x4x128, .f32⟩
  | 43 => ⟨S8320x4x128, .f32⟩
  | 44 => ⟨S8320x4x128, .f32⟩
  | 45 => ⟨S8320x4x128, .f32⟩
  | 46 => ⟨S8320x512, .f32⟩
  | 47 => ⟨S8320x4x128, .f32⟩
  | 48 => ⟨S8320x4x128, .f32⟩
  | 49 => ⟨S8320x4x128, .f32⟩
  | 50 => ⟨S_, .f32⟩
  | 51 => ⟨S128, .f32⟩
  | 52 => ⟨S1x1x128, .f32⟩
  | 53 => ⟨S8320x4x128, .f32⟩
  | 54 => ⟨S8320x4x128, .f32⟩
  | 55 => ⟨S_, .f32⟩
  | 56 => ⟨S128, .f32⟩
  | 57 => ⟨S8320x4x128, .f32⟩
  | 58 => ⟨S_, .f32⟩
  | 59 => ⟨S8320x4, .f32⟩
  | 60 => ⟨S8320x4x1, .f32⟩
  | 61 => ⟨S8320x4x128, .f32⟩
  | 62 => ⟨S8320x4x128, .f32⟩
  | 63 => ⟨S8320x4x1, .f32⟩
  | 64 => ⟨S_, .f32⟩
  | 65 => ⟨S8320x4x1, .f32⟩
  | 66 => ⟨S8320x4x1, .f32⟩
  | 67 => ⟨S_, .f32⟩
  | 68 => ⟨S8320x4, .f32⟩
  | 69 => ⟨S8320x4x128, .f32⟩
  | 70 => ⟨S8320x4x128, .f32⟩
  | 71 => ⟨S8320x4x128, .f32⟩
  | 72 => ⟨S8320x4x128, .f32⟩
  | 73 => ⟨S8320x4x128, .f32⟩
  | 74 => ⟨S1x128, .f32⟩
  | 75 => ⟨S8320x512, .f32⟩
  | 76 => ⟨S8320x512, .f32⟩
  | 77 => ⟨S8320x512, .f32⟩
  | 78 => ⟨S_, .f32⟩
  | 79 => ⟨S8320x512, .f32⟩
  | 80 => ⟨S8320x512, .f32⟩
  | 81 => ⟨S_, .f32⟩
  | 82 => ⟨S8320x512, .f32⟩
  | 83 => ⟨S8320x512, .f32⟩
  | 84 => ⟨S_, .f32⟩
  | 85 => ⟨S8320x512, .f32⟩
  | 86 => ⟨S8320x512, .f32⟩
  | 87 => ⟨S8320x512, .f32⟩
  | 88 => ⟨S8320x512, .f32⟩
  | 89 => ⟨S_, .f32⟩
  | 90 => ⟨S8320x512, .f32⟩
  | 91 => ⟨S8320x512, .f32⟩
  | 92 => ⟨S8320x512, .f32⟩
  | 93 => ⟨S8320x512, .f32⟩
  | 94 => ⟨S8320x512, .f32⟩
  | 95 => ⟨S8320x4x128, .f32⟩
  | 96 => ⟨S128, .f32⟩
  | 97 => ⟨S8320x4x128, .f32⟩
  | 98 => ⟨S_, .f32⟩
  | 99 => ⟨S8320x4, .f32⟩
  | 100 => ⟨S8320x4x1, .f32⟩
  | 101 => ⟨S_, .f32⟩
  | 102 => ⟨S8320x4x1, .f32⟩
  | 103 => ⟨S8320x4x1, .f32⟩
  | 104 => ⟨S_, .f32⟩
  | 105 => ⟨S8320x4x1, .f32⟩
  | 106 => ⟨S8320x4x1, .f32⟩
  | 107 => ⟨S8320x4x1, .f32⟩
  | 108 => ⟨S8320x4x128, .f32⟩
  | 109 => ⟨S8320x4x128, .f32⟩
  | 110 => ⟨S1x1x128, .f32⟩
  | 111 => ⟨S8320x4x128, .f32⟩
  | 112 => ⟨S8320x4x128, .f32⟩
  | 113 => ⟨S8320x512, .f32⟩
  | 114 => ⟨S8320x512, .f32⟩
  | 115 => ⟨S8320x512, .f32⟩
  | 116 => ⟨S8320x512, .bf16⟩
  | 117 => ⟨S8320x512, .bf16⟩
  | 118 => ⟨S8320x512, .f32⟩
  | 119 => ⟨S8320x512, .f32⟩
  | 120 => ⟨S8320x4x128, .f32⟩
  | 121 => ⟨S128, .f32⟩
  | 122 => ⟨S8320x4x128, .f32⟩
  | 123 => ⟨S_, .f32⟩
  | 124 => ⟨S8320x4, .f32⟩
  | 125 => ⟨S8320x4x1, .f32⟩
  | 126 => ⟨S_, .f32⟩
  | 127 => ⟨S8320x4x1, .f32⟩
  | _ => ⟨S8320x1024, .bf16⟩

abbrev hbmTy0_1 (i : Nat) : BufTy := match i % 128 with
  | 0 => ⟨S8320x4x1, .f32⟩
  | 1 => ⟨S_, .f32⟩
  | 2 => ⟨S8320x4x1, .f32⟩
  | 3 => ⟨S8320x4x1, .f32⟩
  | 4 => ⟨S8320x4x1, .f32⟩
  | 5 => ⟨S8320x4x1, .f32⟩
  | 6 => ⟨S_, .f32⟩
  | 7 => ⟨S8320x4x1, .f32⟩
  | 8 => ⟨S8320x4x1, .f32⟩
  | 9 => ⟨S8320x4x128, .f32⟩
  | 10 => ⟨S8320x4x128, .f32⟩
  | 11 => ⟨S1x1x128, .f32⟩
  | 12 => ⟨S8320x4x128, .f32⟩
  | 13 => ⟨S8320x4x128, .f32⟩
  | 14 => ⟨S8320x4x128, .f32⟩
  | 15 => ⟨S8320x4x128, .f32⟩
  | 16 => ⟨S8320x4x128, .f32⟩
  | 17 => ⟨S_, .f32⟩
  | 18 => ⟨S8320x4x128, .f32⟩
  | 19 => ⟨S8320x4x128, .f32⟩
  | 20 => ⟨S_, .f32⟩
  | 21 => ⟨S8320x4x128, .f32⟩
  | 22 => ⟨S8320x4x128, .f32⟩
  | 23 => ⟨S8320x4x128, .f32⟩
  | 24 => ⟨S8320x4x128, .f32⟩
  | 25 => ⟨S8320x512, .f32⟩
  | 26 => ⟨S8320x4x128, .f32⟩
  | 27 => ⟨S8320x4x128, .f32⟩
  | 28 => ⟨S8320x4x128, .f32⟩
  | 29 => ⟨S_, .f32⟩
  | 30 => ⟨S128, .f32⟩
  | 31 => ⟨S1x1x128, .f32⟩
  | 32 => ⟨S8320x4x128, .f32⟩
  | 33 => ⟨S8320x4x128, .f32⟩
  | 34 => ⟨S_, .f32⟩
  | 35 => ⟨S128, .f32⟩
  | 36 => ⟨S8320x4x128, .f32⟩
  | 37 => ⟨S_, .f32⟩
  | 38 => ⟨S8320x4, .f32⟩
  | 39 => ⟨S8320x4x1, .f32⟩
  | 40 => ⟨S8320x4x128, .f32⟩
  | 41 => ⟨S8320x4x128, .f32⟩
  | 42 => ⟨S8320x4x1, .f32⟩
  | 43 => ⟨S_, .f32⟩
  | 44 => ⟨S8320x4x1, .f32⟩
  | 45 => ⟨S8320x4x1, .f32⟩
  | 46 => ⟨S_, .f32⟩
  | 47 => ⟨S8320x4, .f32⟩
  | 48 => ⟨S8320x4x128, .f32⟩
  | 49 => ⟨S8320x4x128, .f32⟩
  | 50 => ⟨S8320x4x128, .f32⟩
  | 51 => ⟨S8320x4x128, .f32⟩
  | 52 => ⟨S8320x4x128, .f32⟩
  | 53 => ⟨S1x128, .f32⟩
  | 54 => ⟨S8320x512, .f32⟩
  | 55 => ⟨S8320x512, .f32⟩
  | 56 => ⟨S8320x512, .f32⟩
  | 57 => ⟨S_, .f32⟩
  | 58 => ⟨S8320x512, .f32⟩
  | 59 => ⟨S8320x512, .f32⟩
  | 60 => ⟨S_, .f32⟩
  | 61 => ⟨S8320x512, .f32⟩
  | 62 => ⟨S8320x512, .f32⟩
  | 63 => ⟨S_, .f32⟩
  | 64 => ⟨S8320x512, .f32⟩
  | 65 => ⟨S8320x512, .f32⟩
  | 66 => ⟨S8320x512, .f32⟩
  | 67 => ⟨S8320x512, .f32⟩
  | 68 => ⟨S_, .f32⟩
  | 69 => ⟨S8320x512, .f32⟩
  | 70 => ⟨S8320x512, .f32⟩
  | 71 => ⟨S8320x512, .f32⟩
  | 72 => ⟨S8320x512, .f32⟩
  | 73 => ⟨S8320x512, .f32⟩
  | 74 => ⟨S8320x4x128, .f32⟩
  | 75 => ⟨S128, .f32⟩
  | 76 => ⟨S8320x4x128, .f32⟩
  | 77 => ⟨S_, .f32⟩
  | 78 => ⟨S8320x4, .f32⟩
  | 79 => ⟨S8320x4x1, .f32⟩
  | 80 => ⟨S_, .f32⟩
  | 81 => ⟨S8320x4x1, .f32⟩
  | 82 => ⟨S8320x4x1, .f32⟩
  | 83 => ⟨S_, .f32⟩
  | 84 => ⟨S8320x4x1, .f32⟩
  | 85 => ⟨S8320x4x1, .f32⟩
  | 86 => ⟨S8320x4x1, .f32⟩
  | 87 => ⟨S8320x4x128, .f32⟩
  | 88 => ⟨S8320x4x128, .f32⟩
  | 89 => ⟨S1x1x128, .f32⟩
  | 90 => ⟨S8320x4x128, .f32⟩
  | 91 => ⟨S8320x4x128, .f32⟩
  | 92 => ⟨S8320x512, .f32⟩
  | 93 => ⟨S8320x512, .f32⟩
  | 94 => ⟨S8320x512, .f32⟩
  | 95 => ⟨S8320x512, .bf16⟩
  | 96 => ⟨S8320x512, .bf16⟩
  | _ => ⟨S8320x1024, .bf16⟩

abbrev hbmTy (i : Nat) : BufTy := match i / 128 with
  | 0 => hbmTy0_0 i
  | 1 => hbmTy0_1 i
  | _ => ⟨S8320x1024, .bf16⟩

abbrev bufTy : (tb : Table) → Fin (tcTables nBuf tb) → BufTy
  | .hbm, ⟨i, _⟩ => hbmTy i
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_14 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_17 : Ref sig .tc := ⟨.hbm, 123, rfl⟩
abbrev main_v99 : Ref sig .tc := ⟨.hbm, 124, rfl⟩
abbrev main_v100 : Ref sig .tc := ⟨.hbm, 125, rfl⟩
abbrev main_cst_18 : Ref sig .tc := ⟨.hbm, 126, rfl⟩
abbrev main_v101 : Ref sig .tc := ⟨.hbm, 127, rfl⟩
abbrev main_v102 : Ref sig .tc := ⟨.hbm, 128, rfl⟩
abbrev main_cst_19 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_20 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_cst_21 : Ref sig .tc := ⟨.hbm, 145, rfl⟩
abbrev main_v117 : Ref sig .tc := ⟨.hbm, 146, rfl⟩
abbrev main_v118 : Ref sig .tc := ⟨.hbm, 147, rfl⟩
abbrev main_cst_22 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_23 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_24 : Ref sig .tc := ⟨.hbm, 162, rfl⟩
abbrev main_v131 : Ref sig .tc := ⟨.hbm, 163, rfl⟩
abbrev main_v132 : Ref sig .tc := ⟨.hbm, 164, rfl⟩
abbrev main_cst_25 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_26 : Ref sig .tc := ⟨.hbm, 171, rfl⟩
abbrev main_v138 : Ref sig .tc := ⟨.hbm, 172, rfl⟩
abbrev main_v139 : Ref sig .tc := ⟨.hbm, 173, rfl⟩
abbrev main_cst_27 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_28 : Ref sig .tc := ⟨.hbm, 185, rfl⟩
abbrev main_v150 : Ref sig .tc := ⟨.hbm, 186, rfl⟩
abbrev main_v151 : Ref sig .tc := ⟨.hbm, 187, rfl⟩
abbrev main_cst_29 : Ref sig .tc := ⟨.hbm, 188, rfl⟩
abbrev main_v152 : Ref sig .tc := ⟨.hbm, 189, rfl⟩
abbrev main_v153 : Ref sig .tc := ⟨.hbm, 190, rfl⟩
abbrev main_cst_30 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_31 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_cst_32 : Ref sig .tc := ⟨.hbm, 205, rfl⟩
abbrev main_v166 : Ref sig .tc := ⟨.hbm, 206, rfl⟩
abbrev main_v167 : Ref sig .tc := ⟨.hbm, 207, rfl⟩
abbrev main_cst_33 : Ref sig .tc := ⟨.hbm, 208, rfl⟩
abbrev main_v168 : Ref sig .tc := ⟨.hbm, 209, rfl⟩
abbrev main_v169 : Ref sig .tc := ⟨.hbm, 210, rfl⟩
abbrev main_cst_34 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩

abbrev nD : Nat := 1
abbrev τ : Topo := Topo.v7x

variable {F : FTy → Type} [FloatOps F]
-- ==== Proof.Block.lean ====
/- One chunk of the backward scan, as the kernel's body computes it on vectors: the carried gradient `Dv`,
the four results of a chunk (`Qv`, `Kv`, `Vv`, `Gv`), each over the six blocks the body loads and the gradient
`xs0` carried in. `b` is the sequence of the batch, `k` the number of chunks already walked at this grid point: the
body walks a block's five chunks from the last to the first, so step `k` is at chunk `4 - k`. -/
module

public import proofs.«01_k».proof.Proof.Gen.KernelIdeal.Skeleton
public import Idealize.ShloMosaic.Lib.Pipeline.ValueKit

@[expose] public section

set_option synthInstance.maxSize 4096

noncomputable section

namespace Cert.GlaBwd

open Idealize.ShloMosaic Cert.KernelIdeal Cert.KernelIdeal.Gen

variable {F : FTy → Type} [FloatOps F]

/-- The lanes of head `h`: `lo ≤ l < hi`. -/
def lane (lo hi : BitVec 32) : IVec S1x256 1 :=
  andi (cmpi .sge (iota .tc S1x256 32 [1] iota_S1x256_d1_w32) (broadcast S1x256 lo))
    (cmpi .slt (iota .tc S1x256 32 [1] iota_S1x256_d1_w32) (broadcast S1x256 hi))

/-- Rows of one head (64×128) times the state (128×256). -/
def rowsBy (m : IVec S1x256 1) (x : Vec F S1x64x128 .bf16) (s : FVec F S128x256 .f32) : FVec F S64x256 .f32 :=
  select (broadcastTo S64x256 (shapeCast S1x256 m shapeCasts_S1x256_S1x256) broadcasts_S1x256_S64x256)
    (matmul dot_S64x128_S128x256_S64x256_1_0_0_1_n_n none (shapeCast S64x128 x shapeCasts_S1x64x128_S64x128)
      (truncf .bf16 s bitsLt_bf16_f32) (constant S64x256 .f32 0x00000000#32))
    (broadcast S64x256 (Scalar.ofBits .f32 0x00000000#32))

/-- One head's rows, transposed, times the query rows. -/
def outerBy (m : IVec S1x256 1) (x : Vec F S1x64x128 .bf16) (q : Vec F S1x64x256 .bf16) : FVec F S128x256 .f32 :=
  select (broadcastTo S128x256 (shapeCast S1x256 m shapeCasts_S1x256_S1x256) broadcasts_S1x256_S128x256)
    (matmul dot_S64x128_S64x256_S128x256_0_0_1_1_n_n none (shapeCast S64x128 x shapeCasts_S1x64x128_S64x128)
      (shapeCast S64x256 q shapeCasts_S1x64x256_S64x256) (constant S128x256 .f32 0x00000000#32))
    (broadcast S128x256 (Scalar.ofBits .f32 0x00000000#32))

/-- The four heads' rows times the state, each kept on its own lanes. -/
def rowsV (x0 x1 x2 x3 : Vec F S1x64x128 .bf16) (s : FVec F S128x256 .f32) : FVec F S1x64x256 .f32 :=
  shapeCast S1x64x256 (addf (addf (addf (addf (broadcast S64x256 (Scalar.ofBits .f32 0x00000000#32))
    (rowsBy (lane 0#32 64#32) x0 s)) (rowsBy (lane 64#32 128#32) x1 s)) (rowsBy (lane 128#32 192#32) x2 s))
    (rowsBy (lane 192#32 256#32) x3 s)) shapeCasts_S64x256_S1x64x256

/-- The value gradient of one head: the key rows on the head's lanes times the carried gradient. -/
def headV (m : IVec S1x256 1) (k : Vec F S1x64x256 .bf16) (s : FVec F S128x256 .f32) : FVec F S1x64x128 .bf16 :=
  shapeCast S1x64x128 (truncf .bf16 (matmul dot_S64x256_S128x256_S64x128_1_1_0_0_n_n none
    (select (broadcastTo S64x256 (shapeCast S1x256 m shapeCasts_S1x256_S1x256) broadcasts_S1x256_S64x256)
      (shapeCast S64x256 k shapeCasts_S1x64x256_S64x256)
      (broadcast S64x256 (Scalar.truncf .bf16 bitsLt_bf16_f32 (Scalar.ofBits .f32 0x00000000#32))))
    (truncf .bf16 s bitsLt_bf16_f32) (constant S64x128 .f32 0x00000000#32)) bitsLt_bf16_f32)
    shapeCasts_S64x128_S1x64x128

/-- The gate's gradient: the carried gradient and the chunk's state, multiplied and summed over the rows. -/
def gateV (s : FVec F S128x256 .f32) (h : Vec F S1x1x128x256 .f32) : FVec F S1x1x1x256 .f32 :=
  shapeCast S1x1x1x256 (shapeCast S1x256 (multiReduction .add [0] S256
    (mulf s (shapeCast S128x256 h shapeCasts_S1x1x128x256_S128x256)) 0x00000000#32 reduces_S128x256_S256 (.inl rfl) rfl)
    shapeCasts_S256_S1x256) shapeCasts_S1x256_S1x1x1x256

/-- The gradient carried to the chunk before. -/
def nextV (g : Vec F S1x1x1x256 .f32) (s : FVec F S128x256 .f32) (x0 x1 x2 x3 : Vec F S1x64x128 .bf16)
    (q : Vec F S1x64x256 .bf16) : FVec F S1x128x256 .f32 :=
  shapeCast S1x128x256 (addf (mulf (broadcastTo S128x256 (shapeCast S1x256 g shapeCasts_S1x1x1x256_S1x256)
      broadcasts_S1x256_S128x256) s)
    (addf (addf (addf (addf (broadcast S128x256 (Scalar.ofBits .f32 0x00000000#32))
      (outerBy (lane 0#32 64#32) x0 q)) (outerBy (lane 64#32 128#32) x1 q)) (outerBy (lane 128#32 192#32) x2 q))
      (outerBy (lane 192#32 256#32) x3 q))) shapeCasts_S128x256_S1x128x256

/-! The loads of sequence `b` at chunk `4 - k`. -/

/-- 64 rows of one head of a 512-wide block. -/
def ldH (x : Vec F S2x320x512 .bf16) (b : Fin 2) (k : Fin 5) (h : Fin 4) : Vec F S1x64x128 .bf16 :=
  View.ld x (Rect.unit ![b.val, 64 * (4 - k.val), 128 * h.val] S1x64x128.size (by
    intro a; have := b.isLt; have := k.isLt; have := h.isLt; fin_cases a <;> simp [S1x64x128, S2x320x512] <;> omega))

/-- 64 rows of a 256-wide block. -/
def ldR (x : Vec F S2x320x256 .bf16) (b : Fin 2) (k : Fin 5) : Vec F S1x64x256 .bf16 :=
  View.ld x (Rect.unit ![b.val, 64 * (4 - k.val), 0] S1x64x256.size (by
    intro a; have := b.isLt; have := k.isLt; fin_cases a <;> simp [S1x64x256, S2x320x256] <;> omega))

/-- The chunk's gate. -/
def ldG (x : Vec F S2x5x1x256 .f32) (b : Fin 2) (k : Fin 5) : Vec F S1x1x1x256 .f32 :=
  View.ld x (Rect.unit ![b.val, 4 - k.val, 0, 0] S1x1x1x256.size (by
    intro a; have := b.isLt; have := k.isLt; fin_cases a <;> simp [S1x1x1x256, S2x5x1x256] <;> omega))

/-- The state the chunk started from. -/
def ldS (x : Vec F S2x5x128x256 .f32) (b : Fin 2) (k : Fin 5) : Vec F S1x1x128x256 .f32 :=
  View.ld x (Rect.unit ![b.val, 4 - k.val, 0, 0] S1x1x128x256.size (by
    intro a; have := b.isLt; have := k.isLt; fin_cases a <;> simp [S1x1x128x256, S2x5x128x256] <;> omega))

/-- One sequence's carried gradient. -/
def ldC (x : Vec F S2x128x256 .f32) (b : Fin 2) : Vec F S1x128x256 .f32 :=
  View.ld x (Rect.unit ![b.val, 0, 0] S1x128x256.size (by
    intro a; have := b.isLt; fin_cases a <;> simp [S1x128x256, S2x128x256] <;> omega))

/-- The gradient carried into step `k` (as stored: with a leading axis of one). -/
def Cv (do_ : Vec F S2x320x512 .bf16) (qg : Vec F S2x320x256 .bf16) (gl : Vec F S2x5x1x256 .f32)
    (xs0 : Vec F S2x128x256 .f32) (b : Fin 2) : ℕ → Vec F S1x128x256 .f32
  | 0 => ldC xs0 b
  | k + 1 => if h : k < 5 then nextV (ldG gl b ⟨k, h⟩)
      (shapeCast S128x256 (Cv do_ qg gl xs0 b k) shapeCasts_S1x128x256_S128x256)
      (ldH do_ b ⟨k, h⟩ 0) (ldH do_ b ⟨k, h⟩ 1) (ldH do_ b ⟨k, h⟩ 2) (ldH do_ b ⟨k, h⟩ 3) (ldR qg b ⟨k, h⟩)
    else Cv do_ qg gl xs0 b k

/-- The same without that axis. -/
def Dv (do_ : Vec F S2x320x512 .bf16) (qg : Vec F S2x320x256 .bf16) (gl : Vec F S2x5x1x256 .f32)
    (xs0 : Vec F S2x128x256 .f32) (b : Fin 2) (k : ℕ) : FVec F S128x256 .f32 :=
  shapeCast S128x256 (Cv do_ qg gl xs0 b k) shapeCasts_S1x128x256_S128x256

/-! The results of step `k`. -/

def Qv (do_ : Vec F S2x320x512 .bf16) (hist : Vec F S2x5x128x256 .f32) (b : Fin 2) (k : Fin 5) : FVec F S1x64x256 .f32 :=
  rowsV (ldH do_ b k 0) (ldH do_ b k 1) (ldH do_ b k 2) (ldH do_ b k 3)
    (shapeCast S128x256 (ldS hist b k) shapeCasts_S1x1x128x256_S128x256)

def Kv (v : Vec F S2x320x512 .bf16) (s : Fin 2 → ℕ → FVec F S128x256 .f32) (b : Fin 2) (k : Fin 5) : FVec F S1x64x256 .f32 :=
  rowsV (ldH v b k 0) (ldH v b k 1) (ldH v b k 2) (ldH v b k 3) (s b k.val)

/-- The bounds of a head's lanes, as the body writes them. -/
def laneOf : Fin 4 → IVec S1x256 1
  | 0 => lane 0#32 64#32
  | 1 => lane 64#32 128#32
  | 2 => lane 128#32 192#32
  | 3 => lane 192#32 256#32

def Vv (kd : Vec F S2x320x256 .bf16) (s : Fin 2 → ℕ → FVec F S128x256 .f32) (b : Fin 2) (k : Fin 5) (h : Fin 4) :
    FVec F S1x64x128 .bf16 := headV (laneOf h) (ldR kd b k) (s b k.val)

def Gv (s : Fin 2 → ℕ → FVec F S128x256 .f32) (hist : Vec F S2x5x128x256 .f32) (b : Fin 2) (k : Fin 5) :
    FVec F S1x1x1x256 .f32 := gateV (s b k.val) (ldS hist b k)

/-! The body's stores, last first. -/

/-- The steps of one grid point, last first. -/
def order : List (Fin 2 × Fin 5) :=
  [(1, 4), (0, 4), (1, 3), (0, 3), (1, 2), (0, 2), (1, 1), (0, 1), (1, 0), (0, 0)]

/-- The same, with the four heads of each. -/
def orderH : List (Fin 2 × Fin 5 × Fin 4) :=
  order.flatMap fun p => [(p.1, p.2, 3), (p.1, p.2, 2), (p.1, p.2, 1), (p.1, p.2, 0)]

/-- Ten stores of 64 rows of a 256-wide block. -/
def piecesR (w : Fin 2 → Fin 5 → FVec F S1x64x256 .f32) : List (View.Piece (Elt F) S2x320x256 .f32) :=
  order.map fun p => ⟨Rect.unit ![p.1.val, 64 * (4 - p.2.val), 0] S1x64x256.size (by
    intro a; have := p.1.isLt; have := p.2.isLt; fin_cases a <;> simp [S1x64x256, S2x320x256] <;> omega), w p.1 p.2⟩

/-- Forty stores of 64 rows of a head of a 512-wide block. -/
def piecesH (w : Fin 2 → Fin 5 → Fin 4 → FVec F S1x64x128 .bf16) : List (View.Piece (Elt F) S2x320x512 .bf16) :=
  orderH.map fun p => ⟨Rect.unit ![p.1.val, 64 * (4 - p.2.1.val), 128 * p.2.2.val] S1x64x128.size (by
    intro a; have := p.1.isLt; have := p.2.1.isLt; have := p.2.2.isLt
    fin_cases a <;> simp [S1x64x128, S2x320x512] <;> omega), w p.1 p.2.1 p.2.2⟩

/-- Ten stores of a gate's row. -/
def piecesG (w : Fin 2 → Fin 5 → FVec F S1x1x1x256 .f32) : List (View.Piece (Elt F) S2x5x1x256 .f32) :=
  order.map fun p => ⟨Rect.unit ![p.1.val, 4 - p.2.val, 0, 0] S1x1x1x256.size (by
    intro a; have := p.1.isLt; have := p.2.isLt; fin_cases a <;> simp [S1x1x1x256, S2x5x1x256] <;> omega), w p.1 p.2⟩

/-- The stores of the carried gradient after `n` of the ten steps. -/
def pieceC (w : Fin 2 → ℕ → FVec F S1x128x256 .f32) (p : Fin 2 × Fin 5) : View.Piece (Elt F) S2x128x256 .f32 :=
  ⟨Rect.unit ![p.1.val, 0, 0] S1x128x256.size (by
    intro a; have := p.1.isLt; fin_cases a <;> simp [S1x128x256, S2x128x256] <;> omega), w p.1 (p.2.val + 1)⟩

def piecesC (w : Fin 2 → ℕ → FVec F S1x128x256 .f32) : List (View.Piece (Elt F) S2x128x256 .f32) :=
  order.map (pieceC w)

end Cert.GlaBwd
-- ==== Proof.Pieces.lean ====
/- The stores of the kernel's body, case by case (`A` at the first grid point, where the carried gradient is reset; `B` at
the others), window by window: each list is the list of Block.lean, over the blocks the body was handed. -/
module
public import proofs.«01_k».proof.Proof.Block
public import Idealize.ShloMosaic.Lib.Pipeline.ReadBack
public import proofs.«01_k».proof.Proof.Gen.KernelIdeal.Frame
@[expose] public section
set_option synthInstance.maxSize 4096
set_option maxRecDepth 20000
noncomputable section
namespace Cert.GlaBwd
open Idealize.ShloMosaic Cert.KernelIdeal Cert.KernelIdeal.Gen
set_option maxHeartbeats 4000000
variable {F : FTy → Type} [FloatOps F]

theorem piecesB_6 (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : ¬cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) (xs0 : Vec F S2x128x256 .f32) :
  (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).1 = piecesR (Qv x0 x5) := by
  unfold kernelRun0_B
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

theorem piecesB_7 (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : ¬cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) (xs0 : Vec F S2x128x256 .f32) :
  (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.1 = piecesR (Kv x4 (Dv x0 x1 x3 xs0)) := by
  unfold kernelRun0_B
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

theorem piecesB_8 (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : ¬cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) (xs0 : Vec F S2x128x256 .f32) :
  (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.1 = piecesH (Vv x2 (Dv x0 x1 x3 xs0)) := by
  unfold kernelRun0_B
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

theorem piecesB_9 (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : ¬cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) (xs0 : Vec F S2x128x256 .f32) :
  (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.2.1 = piecesG (Gv (Dv x0 x1 x3 xs0) x5) := by
  unfold kernelRun0_B
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

theorem piecesB_S (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : ¬cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) (xs0 : Vec F S2x128x256 .f32) :
  (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.2.2.1 = piecesC (Cv x0 x1 x3 xs0) := by
  unfold kernelRun0_B
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

theorem piecesA_6 (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) :
  (kernelRun0_A c i arg1 harg1 arg2 harg2 arg3 harg3 arg4 harg4 arg5 harg5 arg6 harg6 arg7 harg7 arg8 harg8 arg9 harg9 arg10 harg10 arg11 harg11 hc0 x0 x1 x2 x3 x4 x5).1 = piecesR (Qv x0 x5) := by
  unfold kernelRun0_A
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

theorem piecesA_7 (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) :
  (kernelRun0_A c i arg1 harg1 arg2 harg2 arg3 harg3 arg4 harg4 arg5 harg5 arg6 harg6 arg7 harg7 arg8 harg8 arg9 harg9 arg10 harg10 arg11 harg11 hc0 x0 x1 x2 x3 x4 x5).2.1 = piecesR (Kv x4 (Dv x0 x1 x3 k0_pay2)) := by
  unfold kernelRun0_A
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

theorem piecesA_8 (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) :
  (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1 = piecesH (Vv x2 (Dv x0 x1 x3 k0_pay2)) := by
  unfold kernelRun0_A
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

theorem piecesA_9 (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) :
  (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1 = piecesG (Gv (Dv x0 x1 x3 k0_pay2) x5) := by
  unfold kernelRun0_A
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

theorem piecesA_S (c : Dev nD) (i : grid0.Coords) (arg1 : Memref sig .tc .vmem S2x320x512 .bf16) (harg1 : arg1.IsWhole) (arg2 : Memref sig .tc .vmem S2x320x256 .bf16) (harg2 : arg2.IsWhole) (arg3 : Memref sig .tc .vmem S2x320x256 .bf16) (harg3 : arg3.IsWhole) (arg4 : Memref sig .tc .vmem S2x5x1x256 .f32) (harg4 : arg4.IsWhole) (arg5 : Memref sig .tc .vmem S2x320x512 .bf16) (harg5 : arg5.IsWhole) (arg6 : Memref sig .tc .vmem S2x5x128x256 .f32) (harg6 : arg6.IsWhole) (arg7 : Memref sig .tc .vmem S2x320x256 .f32) (harg7 : arg7.IsWhole) (arg8 : Memref sig .tc .vmem S2x320x256 .f32) (harg8 : arg8.IsWhole) (arg9 : Memref sig .tc .vmem S2x320x512 .bf16) (harg9 : arg9.IsWhole) (arg10 : Memref sig .tc .vmem S2x5x1x256 .f32) (harg10 : arg10.IsWhole) (arg11 : Memref sig .tc .vmem S2x128x256 .f32) (harg11 : arg11.IsWhole) (hc0 : cond0_0 i)
    (x0 : Vec F S2x320x512 .bf16) (x1 : Vec F S2x320x256 .bf16) (x2 : Vec F S2x320x256 .bf16) (x3 : Vec F S2x5x1x256 .f32) (x4 : Vec F S2x320x512 .bf16) (x5 : Vec F S2x5x128x256 .f32) :
  (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.2.1 = piecesC (Cv x0 x1 x3 k0_pay2) ++ [⟨Rect.unit ![0, 0, 0] S2x128x256.size inb_S2x128x256_S2x128x256_0_0_0, k0_pay2⟩] := by
  unfold kernelRun0_A
  dsimp only
  sl_unfold_words
  simp (disch := decide) only [View.readAt_eq_ld, harg1.read_unread, harg2.read_unread, harg3.read_unread, harg4.read_unread, harg5.read_unread, harg6.read_unread, harg11.read_unread, View.readCov_cons_toLoadRect, View.readCov_skip, View.readCov_fill]
  rfl

end Cert.GlaBwd
-- ==== Proof.Canon.lean ====
/- The stores of Pieces.lean read back at an index. -/
module

public import proofs.«01_k».proof.Proof.Block
public import Idealize.ShloMosaic.Lib.Pipeline.ReadBack

@[expose] public section

set_option synthInstance.maxSize 4096

noncomputable section

namespace Cert.GlaBwd

open Idealize.ShloMosaic Cert.KernelIdeal Cert.KernelIdeal.Gen

variable {F : FTy → Type} [FloatOps F]

theorem mem_order (b : Fin 2) (k : Fin 5) : (b, k) ∈ order := by revert b k; decide

theorem mem_orderH (b : Fin 2) (k : Fin 5) (h : Fin 4) : (b, k, h) ∈ orderH := by revert b k h; decide

/-- The step that writes row `r` of a block. -/
def stepOf (r : Fin 320) : Fin 5 := ⟨4 - r.val / 64, by omega⟩

theorem canon_piecesR (w : Fin 2 → Fin 5 → FVec F S1x64x256 .f32) (G : S2x320x256.Idx → Elt F .f32)
    (h : ∀ (b : Fin 2) (k : Fin 5) (r : Fin 64) (l : Fin 256),
      w b k (ix3 0 r l) = G (ix3 b ⟨64 * (4 - k.val) + r.val, by omega⟩ l)) (y : S2x320x256.Idx) :
    View.canon (piecesR w) y = G y := by
  refine View.canon_apply_of_pieces G _ ?_ y ?_
  · intro p hp
    obtain ⟨⟨b, k⟩, -, rfl⟩ := List.mem_map.mp hp
    intro (x : S1x64x256.Idx)
    obtain ⟨z, r, l, rfl⟩ : ∃ (z : Fin 1) (r : Fin 64) (l : Fin 256), x = ix3 z r l := ⟨x 0, x 1, x 2, eq_ix3 x⟩
    obtain rfl : z = 0 := Subsingleton.elim _ _
    refine (h b k r l).trans (congrArg G ?_)
    funext a; apply Fin.ext
    fin_cases a
    · exact (Nat.add_zero _).symm
    · show 64 * (4 - k.val) + r.val = 64 * (4 - k.val) + 1 * r.val
      omega
    · exact ((Nat.zero_add _).trans (Nat.one_mul _)).symm
  · obtain ⟨b, r, l, rfl⟩ : ∃ (b : Fin 2) (r : Fin 320) (l : Fin 256), y = ix3 b r l := ⟨y 0, y 1, y 2, eq_ix3 y⟩
    refine ⟨_, List.mem_map.mpr ⟨(b, stepOf r), mem_order _ _, rfl⟩, ?_⟩
    rw [Rect.mem_set_unit]
    intro a; fin_cases a
    · exact ⟨le_refl _, Nat.lt_succ_self _⟩
    · show 64 * (4 - (4 - r.val / 64)) ≤ r.val ∧ r.val < 64 * (4 - (4 - r.val / 64)) + 64
      omega
    · exact ⟨Nat.zero_le _, by show l.val < 0 + 256; omega⟩

theorem canon_piecesH (w : Fin 2 → Fin 5 → Fin 4 → FVec F S1x64x128 .bf16) (G : S2x320x512.Idx → Elt F .bf16)
    (h : ∀ (b : Fin 2) (k : Fin 5) (g : Fin 4) (r : Fin 64) (e : Fin 128),
      w b k g (ix3 0 r e) = G (ix3 b ⟨64 * (4 - k.val) + r.val, by omega⟩ ⟨128 * g.val + e.val, by omega⟩))
    (y : S2x320x512.Idx) : View.canon (piecesH w) y = G y := by
  refine View.canon_apply_of_pieces G _ ?_ y ?_
  · intro p hp
    obtain ⟨⟨b, k, g⟩, -, rfl⟩ := List.mem_map.mp hp
    intro (x : S1x64x128.Idx)
    obtain ⟨z, r, l, rfl⟩ : ∃ (z : Fin 1) (r : Fin 64) (l : Fin 128), x = ix3 z r l := ⟨x 0, x 1, x 2, eq_ix3 x⟩
    obtain rfl : z = 0 := Subsingleton.elim _ _
    refine (h b k g r l).trans (congrArg G ?_)
    funext a; apply Fin.ext
    fin_cases a
    · exact (Nat.add_zero _).symm
    · show 64 * (4 - k.val) + r.val = 64 * (4 - k.val) + 1 * r.val
      omega
    · show 128 * g.val + l.val = 128 * g.val + 1 * l.val
      omega
  · obtain ⟨b, r, l, rfl⟩ : ∃ (b : Fin 2) (r : Fin 320) (l : Fin 512), y = ix3 b r l := ⟨y 0, y 1, y 2, eq_ix3 y⟩
    refine ⟨_, List.mem_map.mpr ⟨(b, stepOf r, ⟨l.val / 128, by omega⟩), mem_orderH _ _ _, rfl⟩, ?_⟩
    rw [Rect.mem_set_unit]
    intro a; fin_cases a
    · exact ⟨le_refl _, Nat.lt_succ_self _⟩
    · show 64 * (4 - (4 - r.val / 64)) ≤ r.val ∧ r.val < 64 * (4 - (4 - r.val / 64)) + 64
      omega
    · show 128 * (l.val / 128) ≤ l.val ∧ l.val < 128 * (l.val / 128) + 128
      omega

theorem canon_piecesG (w : Fin 2 → Fin 5 → FVec F S1x1x1x256 .f32) (G : S2x5x1x256.Idx → Elt F .f32)
    (h : ∀ (b : Fin 2) (k : Fin 5) (l : Fin 256), w b k (ix4 0 0 0 l) = G (ix4 b ⟨4 - k.val, by omega⟩ 0 l))
    (y : S2x5x1x256.Idx) : View.canon (piecesG w) y = G y := by
  refine View.canon_apply_of_pieces G _ ?_ y ?_
  · intro p hp
    obtain ⟨⟨b, k⟩, -, rfl⟩ := List.mem_map.mp hp
    intro (x : S1x1x1x256.Idx)
    obtain ⟨z, z', z'', l, rfl⟩ : ∃ (z : Fin 1) (z' : Fin 1) (z'' : Fin 1) (l : Fin 256), x = ix4 z z' z'' l :=
      ⟨x 0, x 1, x 2, x 3, eq_ix4 x⟩
    obtain rfl : z = 0 := Subsingleton.elim _ _
    obtain rfl : z' = 0 := Subsingleton.elim _ _
    obtain rfl : z'' = 0 := Subsingleton.elim _ _
    refine (h b k l).trans (congrArg G ?_)
    funext a; apply Fin.ext
    fin_cases a
    · exact (Nat.add_zero _).symm
    · exact (Nat.add_zero _).symm
    · rfl
    · exact ((Nat.zero_add _).trans (Nat.one_mul _)).symm
  · obtain ⟨b, c, z, l, rfl⟩ : ∃ (b : Fin 2) (c : Fin 5) (z : Fin 1) (l : Fin 256), y = ix4 b c z l :=
      ⟨y 0, y 1, y 2, y 3, eq_ix4 y⟩
    obtain rfl : z = 0 := Subsingleton.elim _ _
    refine ⟨_, List.mem_map.mpr ⟨(b, ⟨4 - c.val, by omega⟩), mem_order _ _, rfl⟩, ?_⟩
    rw [Rect.mem_set_unit]
    intro a; fin_cases a
    · exact ⟨le_refl _, Nat.lt_succ_self _⟩
    · show 4 - (4 - c.val) ≤ c.val ∧ c.val < 4 - (4 - c.val) + 1
      omega
    · exact ⟨le_refl _, Nat.lt_succ_self _⟩
    · exact ⟨Nat.zero_le _, by show l.val < 0 + 256; omega⟩

/-- The carried gradient after the point: each sequence's last store. -/
theorem canon_piecesC (w : Fin 2 → ℕ → FVec F S1x128x256 .f32) (L : List (View.Piece (Elt F) S2x128x256 .f32))
    (b : Fin 2) (e : Fin 128) (l : Fin 256) :
    View.canon (piecesC w ++ L) (ix3 b e l) = w b 5 (ix3 0 e l) := by
  have key : ∀ (b : Fin 2) (k : Fin 5) (L' : List (View.Piece (Elt F) S2x128x256 .f32)),
      View.canon (pieceC w (b, k) :: L') (ix3 b e l) = w b (k.val + 1) (ix3 0 e l) := by
    intro b k L'
    have := View.canon_cons_emb (pieceC w (b, k)).1 (pieceC w (b, k)).2 L' (ix3 (0 : Fin 1) e l)
    refine Eq.trans (congrArg _ ?_) this
    funext a; apply Fin.ext
    fin_cases a
    · exact (Nat.add_zero _).symm
    · exact ((Nat.zero_add _).trans (Nat.one_mul _)).symm
    · exact ((Nat.zero_add _).trans (Nat.one_mul _)).symm
  show View.canon (pieceC w (1, 4) :: (pieceC w (0, 4) :: _)) _ = _
  fin_cases b
  · rw [View.canon_cons_of_not_mem]
    · exact key 0 4 _
    · intro hm
      have hm' : ix3 (0 : Fin 2) e l ∈
          (Rect.unit (s := S2x128x256) ![1, 0, 0] S1x128x256.size inb_S2x128x256_S1x128x256_1_0_0).set := hm
      exact absurd ((Rect.mem_set_unit.mp hm') (0 : Fin 3)).1 (by show ¬ ((1 : ℕ) ≤ 0); decide)
  · exact key 1 4 _

end Cert.GlaBwd
-- ==== Proof.Carry.lean ====
/- What one grid point leaves behind: the four output blocks and the carried gradient, over the blocks it is handed and
the gradient the point before left. -/
module

public import proofs.«01_k».proof.Proof.Pieces
public import proofs.«01_k».proof.Proof.Canon

@[expose] public section

set_option synthInstance.maxSize 4096

noncomputable section

namespace Cert.GlaBwd

open Idealize.ShloMosaic Idealize.ShloMosaic.TcCoe Idealize.SL Idealize.SL.Sem Cert.KernelIdeal Cert.KernelIdeal.Gen

variable {F : FTy → Type} [FloatOps F]
variable (m : (ℓ : Loc nD τ sig) → Buf (Elt F) ℓ)

/-- The carried gradient before point `n`: zero before the first. -/
def carry (c : Dev nD) : ℕ → Vec F S2x128x256 .f32
  | 0 => k0_pay2
  | n + 1 => if h : n < cfg0.N then (outsAt0 m c n h).2.2.2.2 else k0_pay2

/-- The gradient inside point `t`. -/
def inC (c : Dev nD) (t : Fin cfg0.N) : Fin 2 → ℕ → FVec F S1x128x256 .f32 :=
  Cv (iblk m c 0 t) (iblk m c 1 t) (iblk m c 3 t) (carry m c t.val)

def inD (c : Dev nD) (t : Fin cfg0.N) : Fin 2 → ℕ → FVec F S128x256 .f32 :=
  Dv (iblk m c 0 t) (iblk m c 1 t) (iblk m c 3 t) (carry m c t.val)

theorem carry_pred (c : Dev nD) (t : Fin cfg0.N) (h : ¬t.val % 13 = 0) :
    (outsAt0 m c (t.val - 1) (Nat.lt_of_le_of_lt (Nat.sub_le _ _) t.isLt)).2.2.2.2 = carry m c t.val := by
  obtain ⟨n, hn⟩ := t
  cases n with
  | zero => exact absurd (Nat.zero_mod _) h
  | succ n => simp only [carry, dif_pos (Nat.lt_of_succ_lt hn), Nat.add_sub_cancel]

theorem carry_first (c : Dev nD) (t : Fin cfg0.N) (h : t.val % 13 = 0) : carry m c t.val = k0_pay2 := by
  have : t.val = 0 := by have := lt_of_lt_of_eq t.isLt N_0; omega
  rw [this]; rfl

theorem out_6 (c : Dev nD) (t : Fin cfg0.N) :
    (outsAt0 m c t.val t.isLt).1 = View.canon (piecesR (Qv (iblk m c 0 t) (iblk m c 5 t))) := by
  by_cases h : t.val % 13 = 0
  · rw [outsAt0_A m c t h]
    dsimp only
    unfold out0_A_6
    rw [View.read_writes_eq_canon _ _ _ (cover0_A_6 _ _ _ _ _ _ _ _ _ _ _ _ _ _ _ _ _ _ _ _ _ _ _ _ _ _ _ _ _ _ _), piecesA_6]
  · rw [outsAt0_B m c t h]
    dsimp only
    unfold out0_B_6
    rw [View.read_writes_eq_canon _ _ _ (cover0_B_6 _ _ _ _ _ _ _ _ _ _ _ _ _ _ _ _ _ _ _ _ _ _ _ _ _ _ _ _ _ _ _ _), piecesB_6]

theorem out_7 (c : Dev nD) (t : Fin cfg0.N) :
    (outsAt0 m c t.val t.isLt).2.1 = View.canon (piecesR (Kv (X0_4 m c t) (inD m c t))) := by
  unfold inD
  by_cases h : t.val % 13 = 0
  · rw [outsAt0_A m c t h, carry_first m c t h]
    dsimp only
    unfold out0_A_7
    rw [View.read_writes_eq_canon _ _ _ (cover0_A_7 _ _ _ _ _ _ _ _ _ _ _ _ _ _ _ _ _ _ _ _ _ _ _ _ _ _ _ _ _ _ _), piecesA_7]
  · rw [outsAt0_B m c t h, carry_pred m c t h]
    dsimp only
    unfold out0_B_7
    rw [View.read_writes_eq_canon _ _ _ (cover0_B_7 _ _ _ _ _ _ _ _ _ _ _ _ _ _ _ _ _ _ _ _ _ _ _ _ _ _ _ _ _ _ _ _), piecesB_7]

theorem out_8 (c : Dev nD) (t : Fin cfg0.N) :
    (outsAt0 m c t.val t.isLt).2.2.1 = View.canon (piecesH (Vv (iblk m c 2 t) (inD m c t))) := by
  unfold inD
  by_cases h : t.val % 13 = 0
  · rw [outsAt0_A m c t h, carry_first m c t h]
    dsimp only
    unfold out0_A_8
    rw [View.read_writes_eq_canon _ _ _ (cover0_A_8 _ _ _ _ _ _ _ _ _ _ _ _ _ _ _ _ _ _ _ _ _ _ _ _ _ _ _ _ _ _ _), piecesA_8]
  · rw [outsAt0_B m c t h, carry_pred m c t h]
    dsimp only
    unfold out0_B_8
    rw [View.read_writes_eq_canon _ _ _ (cover0_B_8 _ _ _ _ _ _ _ _ _ _ _ _ _ _ _ _ _ _ _ _ _ _ _ _ _ _ _ _ _ _ _ _), piecesB_8]

theorem out_9 (c : Dev nD) (t : Fin cfg0.N) :
    (outsAt0 m c t.val t.isLt).2.2.2.1 = View.canon (piecesG (Gv (inD m c t) (iblk m c 5 t))) := by
  unfold inD
  by_cases h : t.val % 13 = 0
  · rw [outsAt0_A m c t h, carry_first m c t h]
    dsimp only
    unfold out0_A_9
    rw [View.read_writes_eq_canon _ _ _ (cover0_A_9 _ _ _ _ _ _ _ _ _ _ _ _ _ _ _ _ _ _ _ _ _ _ _ _ _ _ _ _ _ _ _), piecesA_9]
  · rw [outsAt0_B m c t h, carry_pred m c t h]
    dsimp only
    unfold out0_B_9
    rw [View.read_writes_eq_canon _ _ _ (cover0_B_9 _ _ _ _ _ _ _ _ _ _ _ _ _ _ _ _ _ _ _ _ _ _ _ _ _ _ _ _ _ _ _ _), piecesB_9]

theorem out_S (c : Dev nD) (t : Fin cfg0.N) (b : Fin 2) (e : Fin 128) (l : Fin 256) :
    carry m c (t.val + 1) (ix3 b e l) = inC m c t b 5 (ix3 0 e l) := by
  have e1 : carry m c (t.val + 1) = (outsAt0 m c t.val t.isLt).2.2.2.2 := dif_pos t.isLt
  rw [e1]
  unfold inC
  by_cases h : t.val % 13 = 0
  · rw [outsAt0_A m c t h, carry_first m c t h]
    dsimp only
    unfold sout0_A_0
    rw [View.read_writes_eq_canon _ _ _ (scover0_A_0 _ _ _ _ _ _ _ _ _ _ _ _ _ _ _ _ _ _ _ _ _ _ _ _ _ _ _ _ _ _ _), piecesA_S, canon_piecesC]
  · rw [outsAt0_B m c t h, carry_pred m c t h]
    dsimp only
    unfold sout0_B_0
    rw [View.read_writes_eq_canon _ _ _ (scover0_B_0 _ _ _ _ _ _ _ _ _ _ _ _ _ _ _ _ _ _ _ _ _ _ _ _ _ _ _ _ _ _ _ _), piecesB_S,
      ← List.append_nil (piecesC _), canon_piecesC]

end Cert.GlaBwd
-- ==== Proof.Inputs.lean ====
/- The kernel's input blocks at coordinates: point `t` is handed block `12 - t` of every array, and the arrays are the
arguments under the reshapes before the call. -/
module

public import proofs.«01_k».proof.Proof.Gen.KernelIdeal.Frame
public import Idealize.ShloMosaic.Lib.Pipeline.ValueKit
public import Idealize.ShloMosaic.Lib.StableHlo.ReadAt

@[expose] public section

set_option synthInstance.maxSize 4096

noncomputable section

namespace Cert.GlaBwd

open Idealize.ShloMosaic Idealize.ShloMosaic.TcCoe Idealize.SL Idealize.SL.Sem Cert.KernelIdeal Cert.KernelIdeal.Gen

variable {F : FTy → Type} [FloatOps F]
variable (m : (ℓ : Loc nD τ sig) → Buf (Elt F) ℓ)

theorem at0 : ∀ t : Fin cfg0.N, win0_0.index t = ![0, 12 - t.val, 0] := (by decide +kernel : ∀ t : Fin grid0.N, _)
theorem at1 : ∀ t : Fin cfg0.N, win0_1.index t = ![0, 12 - t.val, 0] := (by decide +kernel : ∀ t : Fin grid0.N, _)
theorem at2 : ∀ t : Fin cfg0.N, win0_2.index t = ![0, 12 - t.val, 0] := (by decide +kernel : ∀ t : Fin grid0.N, _)
theorem at3 : ∀ t : Fin cfg0.N, win0_3.index t = ![0, 12 - t.val, 0, 0] := (by decide +kernel : ∀ t : Fin grid0.N, _)
theorem at4 : ∀ t : Fin cfg0.N, win0_4.index t = ![0, 12 - t.val, 5] := (by decide +kernel : ∀ t : Fin grid0.N, _)
theorem at5 : ∀ t : Fin cfg0.N, win0_5.index t = ![0, 12 - t.val, 0, 0] := (by decide +kernel : ∀ t : Fin grid0.N, _)

theorem lt13 (t : Fin cfg0.N) : t.val < 13 := lt_of_lt_of_eq t.isLt N_0

theorem blk0 (c : Dev nD) (t : Fin cfg0.N) (b : Fin 2) (r : Fin 320) (l : Fin 512) :
    iblk m c 0 t (ix3 b r l) = V m c main_v0 (ix3 b ⟨320 * (12 - t.val) + r.val, by omega⟩ l) := by
  blk_simp [iblk]
  congr 1
  blk_ext [at0]

theorem blk1 (c : Dev nD) (t : Fin cfg0.N) (b : Fin 2) (r : Fin 320) (l : Fin 256) :
    iblk m c 1 t (ix3 b r l) = V m c main_v1 (ix3 b ⟨320 * (12 - t.val) + r.val, by omega⟩ l) := by
  blk_simp [iblk]
  congr 1
  blk_ext [at1]

theorem blk2 (c : Dev nD) (t : Fin cfg0.N) (b : Fin 2) (r : Fin 320) (l : Fin 256) :
    iblk m c 2 t (ix3 b r l) = V m c main_v2 (ix3 b ⟨320 * (12 - t.val) + r.val, by omega⟩ l) := by
  blk_simp [iblk]
  congr 1
  blk_ext [at2]

theorem blk3 (c : Dev nD) (t : Fin cfg0.N) (b : Fin 2) (k : Fin 5) (l : Fin 256) :
    iblk m c 3 t (ix4 b k 0 l) = V m c main_v3 (ix4 b ⟨5 * (12 - t.val) + k.val, by omega⟩ 0 l) := by
  blk_simp [iblk]
  congr 1
  blk_ext [at3]

theorem blk5 (c : Dev nD) (t : Fin cfg0.N) (b : Fin 2) (k : Fin 5) (e : Fin 128) (l : Fin 256) :
    iblk m c 5 t (ix4 b k e l) = V m c main_arg5 (ix4 b ⟨5 * (12 - t.val) + k.val, by omega⟩ e l) := by
  blk_simp [iblk]
  congr 1
  blk_ext [at5]

theorem blk4 (c : Dev nD) (t : Fin cfg0.N) (b : Fin 2) (r : Fin 320) (l : Fin 512) :
    X0_4 m c t (ix3 b r l) = V m c main_v4 (ix3 b ⟨320 * (12 - t.val) + r.val, by omega⟩ ⟨2560 + l.val, by omega⟩) := by
  unfold X0_4 Pipeline.Window.fill
  rw [dif_pos (moved0_4 t _)]
  blk_simp [iblk]
  congr 1
  blk_ext [at4]

theorem v0_apply (c : Dev nD) (b : Fin 2) (r : Fin 4160) (l : Fin 512) :
    V m c main_v0 (ix3 b r l) = m ((c : Thread nD τ).loc main_arg4) (ix2 ⟨b.val * 4160 + r.val, by omega⟩ l) := by
  unfold V
  after_reads_at

theorem v1_apply (c : Dev nD) (b : Fin 2) (r : Fin 4160) (l : Fin 256) :
    V m c main_v1 (ix3 b r l) = m ((c : Thread nD τ).loc main_arg0) (ix2 ⟨b.val * 4160 + r.val, by omega⟩ l) := by
  unfold V
  after_reads_at

theorem v2_apply (c : Dev nD) (b : Fin 2) (r : Fin 4160) (l : Fin 256) :
    V m c main_v2 (ix3 b r l) = m ((c : Thread nD τ).loc main_arg1) (ix2 ⟨b.val * 4160 + r.val, by omega⟩ l) := by
  unfold V
  after_reads_at

theorem v3_apply (c : Dev nD) (b : Fin 2) (k : Fin 65) (l : Fin 256) :
    V m c main_v3 (ix4 b k 0 l) = m ((c : Thread nD τ).loc main_arg2) (ix3 ⟨b.val * 65 + k.val, by omega⟩ 0 l) := by
  unfold V
  after_reads_at

theorem v4_apply (c : Dev nD) (b : Fin 2) (r : Fin 4160) (l : Fin 3840) :
    V m c main_v4 (ix3 b r l) = m ((c : Thread nD τ).loc main_arg3) (ix2 ⟨b.val * 4160 + r.val, by omega⟩ l) := by
  unfold V
  after_reads_at

end Cert.GlaBwd
-- ==== Proof.Spec.lean ====
/- The backward scan of gated linear attention as one recurrence over the chunks, from the last to the first. Rows are
rows of one sequence (65 chunks of 64); a head owns 64 of the 256 key lanes and 128 of the 512 value columns. -/
module

public import Idealize.ShloMosaic.Lib.Pointwise

@[expose] public section

noncomputable section

namespace Cert.GlaBwd

/-- The head of a key lane. -/
def hd (l : Fin 256) : Fin 4 := ⟨l.val / 64, by omega⟩

/-- Row `r` of chunk `64 - n`. -/
def rowOf (n : ℕ) (r : Fin 64) : Fin 4160 := ⟨64 * (64 - n) + r.val, by omega⟩

/-- Column `e` of head `h`. -/
def colOf (h : Fin 4) (e : Fin 128) : Fin 512 := ⟨128 * h.val + e.val, by omega⟩

/-- The chunk of a row. -/
def chunkOf (r : Fin 4160) : Fin 65 := ⟨r.val / 64, by omega⟩

section
variable (go v : Fin 2 → Fin 4160 → Fin 512 → EReal) (q kd : Fin 2 → Fin 4160 → Fin 256 → EReal)
  (g : Fin 2 → Fin 65 → Fin 256 → EReal) (st : Fin 2 → Fin 65 → Fin 128 → Fin 256 → EReal)

/-- The gradient of the state after `n` chunks (counted from the last). -/
def grad (b : Fin 2) (e : Fin 128) (l : Fin 256) : ℕ → EReal
  | 0 => 0
  | n + 1 => g b ⟨64 - n, by omega⟩ l * grad b e l n + ∑ r : Fin 64, go b (rowOf n r) (colOf (hd l) e) * q b (rowOf n r) l

/-- The query rows' gradient. -/
def gradQ (b : Fin 2) (r : Fin 4160) (l : Fin 256) : EReal := ∑ e : Fin 128, go b r (colOf (hd l) e) * st b (chunkOf r) e l

/-- The key rows' gradient. -/
def gradK (b : Fin 2) (r : Fin 4160) (l : Fin 256) : EReal :=
  ∑ e : Fin 128, v b r (colOf (hd l) e) * grad go q g b e l (64 - r.val / 64)

/-- The values' gradient. -/
def gradV (b : Fin 2) (r : Fin 4160) (x : Fin 512) : EReal :=
  ∑ l : Fin 256, if (hd l).val = x.val / 128 then kd b r l * grad go q g b ⟨x.val % 128, by omega⟩ l (64 - r.val / 64) else 0

/-- The gates' gradient. -/
def gradG (b : Fin 2) (ch : Fin 65) (l : Fin 256) : EReal :=
  ∑ e : Fin 128, grad go q g b e l (64 - ch.val) * st b ch e l

end

end Cert.GlaBwd
-- ==== Proof.Elem.lean ====
/- What one chunk of Block.lean computes, element by element, over the extended reals. -/
module

public import proofs.«01_k».proof.Proof.Block
public import proofs.«01_k».proof.Proof.Spec

@[expose] public section

set_option synthInstance.maxSize 4096

noncomputable section

namespace Cert.GlaBwd

open Idealize.ShloMosaic Cert.KernelIdeal Cert.KernelIdeal.Gen

theorem lane_apply (h : Fin 4) (l : Fin 256) :
    laneOf h (ix2 0 l) = if hd l = h then 1#1 else 0#1 := by
  revert h l; decide +kernel

theorem select_one {α : Type} (c : BitVec 1) (a b : α) : Scalar.select c a b = if c = 1#1 then a else b := rfl

theorem rowsBy_apply (h : Fin 4) (x : Vec Ideal S1x64x128 .bf16) (s : FVec Ideal S128x256 .f32)
    (r : Fin 64) (l : Fin 256) :
    rowsBy (laneOf h) x s (ix2 r l) = if hd l = h then ∑ e : Fin 128, x (ix3 0 r e) * s (ix2 e l) else 0 := by
  pointwise [rowsBy]
  rw [lane_apply]
  by_cases hh : hd l = h <;> simp [hh, select_one]

theorem outerBy_apply (h : Fin 4) (x : Vec Ideal S1x64x128 .bf16) (q : Vec Ideal S1x64x256 .bf16)
    (e : Fin 128) (l : Fin 256) :
    outerBy (laneOf h) x q (ix2 e l) = if hd l = h then ∑ r : Fin 64, x (ix3 0 r e) * q (ix3 0 r l) else 0 := by
  pointwise [outerBy]
  rw [lane_apply]
  by_cases hh : hd l = h <;> simp [hh, select_one]

/-- Four terms of which only the one of head `g` is not zero. -/
theorem four (g : Fin 4) (f : Fin 4 → EReal) :
    (if g = 0 then f 0 else 0) + (if g = 1 then f 1 else 0) + (if g = 2 then f 2 else 0) + (if g = 3 then f 3 else 0) = f g := by
  fin_cases g <;> simp

theorem rowsV_apply (x : Fin 4 → Vec Ideal S1x64x128 .bf16) (s : FVec Ideal S128x256 .f32) (r : Fin 64) (l : Fin 256) :
    rowsV (x 0) (x 1) (x 2) (x 3) s (ix3 0 r l) = ∑ e : Fin 128, x (hd l) (ix3 0 r e) * s (ix2 e l) := by
  pointwise [rowsV]
  show rowsBy (laneOf 0) _ _ _ + rowsBy (laneOf 1) _ _ _ + rowsBy (laneOf 2) _ _ _ + rowsBy (laneOf 3) _ _ _ = _
  rw [rowsBy_apply, rowsBy_apply, rowsBy_apply, rowsBy_apply]
  exact four (hd l) fun h => ∑ e : Fin 128, x h (ix3 0 r e) * s (ix2 e l)

theorem headV_apply (h : Fin 4) (k : Vec Ideal S1x64x256 .bf16) (s : FVec Ideal S128x256 .f32)
    (r : Fin 64) (e : Fin 128) :
    headV (laneOf h) k s (ix3 0 r e) = ∑ l : Fin 256, if hd l = h then k (ix3 0 r l) * s (ix2 e l) else 0 := by
  pointwise [headV]
  refine Finset.sum_congr rfl fun l _ => ?_
  rw [lane_apply]
  by_cases hh : hd l = h <;> simp [hh, select_one]

theorem gateV_apply (s : FVec Ideal S128x256 .f32) (h : Vec Ideal S1x1x128x256 .f32) (l : Fin 256) :
    gateV s h (ix4 0 0 0 l) = ∑ e : Fin 128, s (ix2 e l) * h (ix4 0 0 e l) := by
  pointwise [gateV]

theorem nextV_apply (g : Vec Ideal S1x1x1x256 .f32) (s : FVec Ideal S128x256 .f32) (x : Fin 4 → Vec Ideal S1x64x128 .bf16)
    (q : Vec Ideal S1x64x256 .bf16) (e : Fin 128) (l : Fin 256) :
    nextV g s (x 0) (x 1) (x 2) (x 3) q (ix3 0 e l) =
      g (ix4 0 0 0 l) * s (ix2 e l) + ∑ r : Fin 64, x (hd l) (ix3 0 r e) * q (ix3 0 r l) := by
  pointwise [nextV]
  show _ + (outerBy (laneOf 0) _ _ _ + outerBy (laneOf 1) _ _ _ + outerBy (laneOf 2) _ _ _ + outerBy (laneOf 3) _ _ _) = _
  rw [outerBy_apply, outerBy_apply, outerBy_apply, outerBy_apply]
  exact congrArg (_ + ·) (four (hd l) fun h => ∑ r : Fin 64, x h (ix3 0 r e) * q (ix3 0 r l))

/-! The loads. -/

theorem ldH_apply (x : Vec Ideal S2x320x512 .bf16) (b : Fin 2) (k : Fin 5) (h : Fin 4) (r : Fin 64) (e : Fin 128) :
    ldH x b k h (ix3 0 r e) = x (ix3 b ⟨64 * (4 - k.val) + r.val, by omega⟩ ⟨128 * h.val + e.val, by omega⟩) := by
  pointwise [ldH]

theorem ldR_apply (x : Vec Ideal S2x320x256 .bf16) (b : Fin 2) (k : Fin 5) (r : Fin 64) (l : Fin 256) :
    ldR x b k (ix3 0 r l) = x (ix3 b ⟨64 * (4 - k.val) + r.val, by omega⟩ l) := by
  pointwise [ldR]

theorem ldG_apply (x : Vec Ideal S2x5x1x256 .f32) (b : Fin 2) (k : Fin 5) (l : Fin 256) :
    ldG x b k (ix4 0 0 0 l) = x (ix4 b ⟨4 - k.val, by omega⟩ 0 l) := by
  pointwise [ldG]

theorem ldS_apply (x : Vec Ideal S2x5x128x256 .f32) (b : Fin 2) (k : Fin 5) (e : Fin 128) (l : Fin 256) :
    ldS x b k (ix4 0 0 e l) = x (ix4 b ⟨4 - k.val, by omega⟩ e l) := by
  pointwise [ldS]

theorem ldC_apply (x : Vec Ideal S2x128x256 .f32) (b : Fin 2) (e : Fin 128) (l : Fin 256) :
    ldC x b (ix3 0 e l) = x (ix3 b e l) := by
  pointwise [ldC]

theorem Dv_apply (do_ : Vec Ideal S2x320x512 .bf16) (qg : Vec Ideal S2x320x256 .bf16) (gl : Vec Ideal S2x5x1x256 .f32)
    (xs0 : Vec Ideal S2x128x256 .f32) (b : Fin 2) (k : ℕ) (e : Fin 128) (l : Fin 256) :
    Dv do_ qg gl xs0 b k (ix2 e l) = Cv do_ qg gl xs0 b k (ix3 0 e l) := by
  pointwise [Dv]

end Cert.GlaBwd
-- ==== Proof.Sweep.lean ====
/- The gradient carried across the grid: before point `t`, after `5 t` chunks. -/
module

public import proofs.«01_k».proof.Proof.Carry
public import proofs.«01_k».proof.Proof.Inputs
public import proofs.«01_k».proof.Proof.Elem

@[expose] public section

set_option synthInstance.maxSize 4096

noncomputable section

namespace Cert.GlaBwd

open Idealize.ShloMosaic Idealize.ShloMosaic.TcCoe Idealize.SL Idealize.SL.Sem Cert.KernelIdeal Cert.KernelIdeal.Gen

variable (m : (ℓ : Loc nD τ sig) → Buf (Elt Ideal) ℓ) (c : Dev nD)

/-! The arrays of the call, by sequence, row (or chunk) and column. -/

def aO (b : Fin 2) (r : Fin 4160) (x : Fin 512) : EReal := V m c main_v0 (ix3 b r x)
def aQ (b : Fin 2) (r : Fin 4160) (l : Fin 256) : EReal := V m c main_v1 (ix3 b r l)
def aK (b : Fin 2) (r : Fin 4160) (l : Fin 256) : EReal := V m c main_v2 (ix3 b r l)
def aG (b : Fin 2) (n : Fin 65) (l : Fin 256) : EReal := V m c main_v3 (ix4 b n 0 l)
def aV (b : Fin 2) (r : Fin 4160) (x : Fin 512) : EReal := V m c main_v4 (ix3 b r ⟨2560 + x.val, by omega⟩)
def aS (b : Fin 2) (n : Fin 65) (e : Fin 128) (l : Fin 256) : EReal := V m c main_arg5 (ix4 b n e l)

/-- Row `r` of step `k` at point `t`. -/
theorem row_eq (t : Fin cfg0.N) (k : Fin 5) (r : Fin 64) (h : 320 * (12 - t.val) + (64 * (4 - k.val) + r.val) < 4160) :
    (⟨320 * (12 - t.val) + (64 * (4 - k.val) + r.val), h⟩ : Fin 4160) = rowOf (5 * t.val + k.val) r := by
  have := lt13 t
  apply Fin.ext
  show 320 * (12 - t.val) + (64 * (4 - k.val) + r.val) = 64 * (64 - (5 * t.val + k.val)) + r.val
  omega

theorem chunk_eq (t : Fin cfg0.N) (k : Fin 5) (h : 5 * (12 - t.val) + (4 - k.val) < 65) :
    (⟨5 * (12 - t.val) + (4 - k.val), h⟩ : Fin 65) = ⟨64 - (5 * t.val + k.val), by omega⟩ := by
  have := lt13 t
  apply Fin.ext
  show 5 * (12 - t.val) + (4 - k.val) = 64 - (5 * t.val + k.val)
  omega

theorem ldO (t : Fin cfg0.N) (b : Fin 2) (k : Fin 5) (h : Fin 4) (r : Fin 64) (e : Fin 128) :
    ldH (iblk m c 0 t) b k h (ix3 0 r e) = aO m c b (rowOf (5 * t.val + k.val) r) (colOf h e) := by
  rw [ldH_apply, blk0]; unfold aO; rw [← row_eq t k r (by have := lt13 t; omega)]; rfl

theorem ldV (t : Fin cfg0.N) (b : Fin 2) (k : Fin 5) (h : Fin 4) (r : Fin 64) (e : Fin 128) :
    ldH (X0_4 m c t) b k h (ix3 0 r e) = aV m c b (rowOf (5 * t.val + k.val) r) (colOf h e) := by
  rw [ldH_apply, blk4]; unfold aV; rw [← row_eq t k r (by have := lt13 t; omega)]; rfl

theorem ldQ (t : Fin cfg0.N) (b : Fin 2) (k : Fin 5) (r : Fin 64) (l : Fin 256) :
    ldR (iblk m c 1 t) b k (ix3 0 r l) = aQ m c b (rowOf (5 * t.val + k.val) r) l := by
  rw [ldR_apply, blk1]; unfold aQ; rw [← row_eq t k r (by have := lt13 t; omega)]

theorem ldK (t : Fin cfg0.N) (b : Fin 2) (k : Fin 5) (r : Fin 64) (l : Fin 256) :
    ldR (iblk m c 2 t) b k (ix3 0 r l) = aK m c b (rowOf (5 * t.val + k.val) r) l := by
  rw [ldR_apply, blk2]; unfold aK; rw [← row_eq t k r (by have := lt13 t; omega)]

theorem ldGate (t : Fin cfg0.N) (b : Fin 2) (k : Fin 5) (l : Fin 256) :
    ldG (iblk m c 3 t) b k (ix4 0 0 0 l) = aG m c b ⟨64 - (5 * t.val + k.val), by omega⟩ l := by
  rw [ldG_apply, blk3]; unfold aG; rw [← chunk_eq t k (by have := lt13 t; omega)]

theorem ldState (t : Fin cfg0.N) (b : Fin 2) (k : Fin 5) (e : Fin 128) (l : Fin 256) :
    ldS (iblk m c 5 t) b k (ix4 0 0 e l) = aS m c b ⟨64 - (5 * t.val + k.val), by omega⟩ e l := by
  rw [ldS_apply, blk5]; unfold aS; rw [← chunk_eq t k (by have := lt13 t; omega)]

/-- The gradient of the state after `n` chunks, on the call's arrays. -/
abbrev gradA (b : Fin 2) (e : Fin 128) (l : Fin 256) : ℕ → EReal := grad (aO m c) (aQ m c) (aG m c) b e l

theorem inC_step (t : Fin cfg0.N) (h0 : ∀ b e l, carry m c t.val (ix3 b e l) = gradA m c b e l (5 * t.val))
    (b : Fin 2) (e : Fin 128) (l : Fin 256) :
    ∀ k : ℕ, k ≤ 5 → inC m c t b k (ix3 0 e l) = gradA m c b e l (5 * t.val + k)
  | 0, _ => (ldC_apply _ b e l).trans (h0 b e l)
  | k + 1, hk => by
    have hk5 : k < 5 := hk
    have ih := inC_step t h0 b e l k (Nat.le_of_lt hk)
    unfold inC at ih ⊢
    rw [Cv, dif_pos hk5, nextV_apply (x := fun h => ldH (iblk m c 0 t) b ⟨k, hk5⟩ h)]
    have e1 : shapeCast S128x256 (Cv (iblk m c 0 t) (iblk m c 1 t) (iblk m c 3 t) (carry m c t.val) b k)
        shapeCasts_S1x128x256_S128x256 (ix2 e l) = gradA m c b e l (5 * t.val + k) := (Dv_apply _ _ _ _ b k e l).trans ih
    rw [e1, ldGate]
    simp only [ldO, ldQ]
    rfl

theorem carry_eq : ∀ n : ℕ, n ≤ cfg0.N → ∀ b e l, carry m c n (ix3 b e l) = gradA m c b e l (5 * n)
  | 0, _, b, e, l => by
    show k0_pay2 (F := Ideal) (ix3 b e l) = 0
    pointwise [k0_pay2]
  | n + 1, hn, b, e, l => by
    rw [out_S m c ⟨n, hn⟩, inC_step m c ⟨n, hn⟩ (carry_eq n (Nat.le_of_lt hn)) b e l 5 (le_refl _)]
    rfl

theorem inD_eq (t : Fin cfg0.N) (b : Fin 2) (k : Fin 5) (e : Fin 128) (l : Fin 256) :
    inD m c t b k.val (ix2 e l) = gradA m c b e l (5 * t.val + k.val) :=
  (Dv_apply _ _ _ _ b k.val e l).trans (inC_step m c t (carry_eq m c t.val (Nat.le_of_lt t.isLt)) b e l k.val (by omega))

end Cert.GlaBwd
-- ==== Proof.Arrays.lean ====
/- The four result arrays of the call: each block is written by the point that handles it, and together the blocks are
the gradients of Spec.lean. -/
module

public import proofs.«01_k».proof.Proof.Sweep

@[expose] public section

set_option synthInstance.maxSize 4096

noncomputable section

namespace Cert.GlaBwd

open Idealize.ShloMosaic Idealize.ShloMosaic.TcCoe Idealize.SL Idealize.SL.Sem Cert.KernelIdeal Cert.KernelIdeal.Gen

variable (m : (ℓ : Loc nD τ sig) → Buf (Elt Ideal) ℓ) (c : Dev nD)

theorem at6 : ∀ t : Fin cfg0.N, win0_6.index t = ![0, 12 - t.val, 0] := (by decide +kernel : ∀ t : Fin grid0.N, _)
theorem at7 : ∀ t : Fin cfg0.N, win0_7.index t = ![0, 12 - t.val, 0] := (by decide +kernel : ∀ t : Fin grid0.N, _)
theorem at8 : ∀ t : Fin cfg0.N, win0_8.index t = ![0, 12 - t.val, 0] := (by decide +kernel : ∀ t : Fin grid0.N, _)
theorem at9 : ∀ t : Fin cfg0.N, win0_9.index t = ![0, 12 - t.val, 0, 0] := (by decide +kernel : ∀ t : Fin grid0.N, _)

theorem emb6 (t : Fin cfg0.N) (b : Fin 2) (k : Fin 5) (r : Fin 64) (l : Fin 256) :
    (win0_6.blk t).view.emb (ix3 b ⟨64 * (4 - k.val) + r.val, by omega⟩ l) = ix3 b (rowOf (5 * t.val + k.val) r) l := by
  rw [← row_eq t k r (by have := lt13 t; omega)]
  blk_ext [at6]

theorem emb7 (t : Fin cfg0.N) (b : Fin 2) (k : Fin 5) (r : Fin 64) (l : Fin 256) :
    (win0_7.blk t).view.emb (ix3 b ⟨64 * (4 - k.val) + r.val, by omega⟩ l) = ix3 b (rowOf (5 * t.val + k.val) r) l := by
  rw [← row_eq t k r (by have := lt13 t; omega)]
  blk_ext [at7]

theorem emb8 (t : Fin cfg0.N) (b : Fin 2) (k : Fin 5) (h : Fin 4) (r : Fin 64) (e : Fin 128) :
    (win0_8.blk t).view.emb (ix3 b ⟨64 * (4 - k.val) + r.val, by omega⟩ ⟨128 * h.val + e.val, by omega⟩)
      = ix3 b (rowOf (5 * t.val + k.val) r) (colOf h e) := by
  rw [← row_eq t k r (by have := lt13 t; omega)]
  unfold colOf
  blk_ext [at8]

theorem emb9 (t : Fin cfg0.N) (b : Fin 2) (k : Fin 5) (l : Fin 256) :
    (win0_9.blk t).view.emb (ix4 b ⟨4 - k.val, by omega⟩ 0 l) = ix4 b ⟨64 - (5 * t.val + k.val), by omega⟩ 0 l := by
  rw [← chunk_eq t k (by have := lt13 t; omega)]
  blk_ext [at9]

theorem chunk_row (n : ℕ) (r : Fin 64) : chunkOf (rowOf n r) = ⟨64 - n, by omega⟩ := by
  apply Fin.ext
  show (64 * (64 - n) + r.val) / 64 = 64 - n
  omega

theorem steps_row (t : Fin cfg0.N) (k : Fin 5) (r : Fin 64) :
    64 - (rowOf (5 * t.val + k.val) r).val / 64 = 5 * t.val + k.val := by
  have := lt13 t
  show 64 - (64 * (64 - (5 * t.val + k.val)) + r.val) / 64 = 5 * t.val + k.val
  omega

/-- The query rows' gradient, as an array. -/
def G6 : S2x4160x256.Idx → EReal := fun y => gradQ (aO m c) (aS m c) (y 0) (y 1) (y 2)
def G7 : S2x4160x256.Idx → EReal := fun y => gradK (aO m c) (aV m c) (aQ m c) (aG m c) (y 0) (y 1) (y 2)
def G8 : S2x4160x512.Idx → EReal := fun y => gradV (aO m c) (aQ m c) (aK m c) (aG m c) (y 0) (y 1) (y 2)
def G9 : S2x65x1x256.Idx → EReal := fun y => gradG (aO m c) (aQ m c) (aG m c) (aS m c) (y 0) (y 1) (y 3)

theorem arr6 : (dats m 0 c).arrAt 6 cfg0.N = G6 m c := by
  refine (dats m 0 c).arrAt_eq_of_covers 6 _ (by decide +kernel) fun t hf y => ?_
  blk_simp
  rw [after0_6, out_6]
  refine canon_piecesR (F := Ideal) _ (fun z => G6 m c ((win0_6.blk t).view.emb z)) (fun b k r l => ?_) y
  dsimp only
  rw [emb6, Qv, rowsV_apply (x := fun h => ldH (iblk m c 0 t) b k h)]
  show _ = gradQ (aO m c) (aS m c) b (rowOf (5 * t.val + k.val) r) l
  unfold gradQ
  rw [chunk_row]
  refine Finset.sum_congr rfl fun e _ => ?_
  rw [ldO, ← ldState]
  congr 1
  pointwise

theorem arr7 : (dats m 0 c).arrAt 7 cfg0.N = G7 m c := by
  refine (dats m 0 c).arrAt_eq_of_covers 7 _ (by decide +kernel) fun t hf y => ?_
  blk_simp
  rw [after0_7, out_7]
  refine canon_piecesR (F := Ideal) _ (fun z => G7 m c ((win0_7.blk t).view.emb z)) (fun b k r l => ?_) y
  dsimp only
  rw [emb7, Kv, rowsV_apply (x := fun h => ldH (X0_4 m c t) b k h)]
  show _ = gradK (aO m c) (aV m c) (aQ m c) (aG m c) b (rowOf (5 * t.val + k.val) r) l
  unfold gradK
  rw [steps_row]
  refine Finset.sum_congr rfl fun e _ => ?_
  rw [ldV, inD_eq]

theorem arr8 : (dats m 0 c).arrAt 8 cfg0.N = G8 m c := by
  refine (dats m 0 c).arrAt_eq_of_covers 8 _ (by decide +kernel) fun t hf y => ?_
  blk_simp
  rw [after0_8, out_8]
  refine canon_piecesH (F := Ideal) _ (fun z => G8 m c ((win0_8.blk t).view.emb z)) (fun b k h r e => ?_) y
  dsimp only
  rw [emb8, Vv, headV_apply]
  show _ = gradV (aO m c) (aQ m c) (aK m c) (aG m c) b (rowOf (5 * t.val + k.val) r) (colOf h e)
  unfold gradV
  rw [steps_row]
  have e1 : (colOf h e).val / 128 = h.val := by show (128 * h.val + e.val) / 128 = h.val; omega
  have e2 : (⟨(colOf h e).val % 128, by omega⟩ : Fin 128) = e := by
    apply Fin.ext; show (128 * h.val + e.val) % 128 = e.val; omega
  refine Finset.sum_congr rfl fun l _ => ?_
  rw [ldK, inD_eq, e1, e2]
  simp only [Fin.ext_iff]

theorem arr9 : (dats m 0 c).arrAt 9 cfg0.N = G9 m c := by
  refine (dats m 0 c).arrAt_eq_of_covers 9 _ (by decide +kernel) fun t hf y => ?_
  blk_simp
  rw [after0_9, out_9]
  refine canon_piecesG (F := Ideal) _ (fun z => G9 m c ((win0_9.blk t).view.emb z)) (fun b k l => ?_) y
  dsimp only
  rw [emb9, Gv, gateV_apply]
  show _ = gradG (aO m c) (aQ m c) (aG m c) (aS m c) b ⟨64 - (5 * t.val + k.val), by omega⟩ l
  unfold gradG
  refine Finset.sum_congr rfl fun e _ => ?_
  have e1 : 64 - (64 - (5 * t.val + k.val)) = 5 * t.val + k.val := by have := lt13 t; omega
  rw [ldState, inD_eq]
  dsimp only
  rw [e1]

end Cert.GlaBwd
-- ==== Proof.RefTrip.lean ====
/- One trip of the reference's backward scan at an index: trip `j` is at chunk `64 - j`, reads that chunk of every
array, and writes it into every result. -/
module

public import proofs.«01_k».proof.Proof.Gen.ReferenceIdeal.Step
public import proofs.«01_k».proof.Proof.Spec
public import Idealize.ShloMosaic.Lib.DynamicIndex

@[expose] public section

set_option synthInstance.maxSize 4096

noncomputable section

namespace Cert.GlaBwd

open Idealize.ShloMosaic Cert.ReferenceIdeal Cert.ReferenceIdeal.Gen Cert.ReferenceIdeal.Step

/-- The chunk of trip `j`. -/
def chunkAt (j : ℕ) : Fin 65 := ⟨64 - j, by omega⟩

theorem word_chunk (j : ℕ) (h : j < 65) : ((65#32 - BitVec.ofNat 32 j) - 1#32).toInt = ((64 - j : ℕ) : ℤ) := by
  have : (65#32 - BitVec.ofNat 32 j) - 1#32 = BitVec.ofNat 32 (64 - j) := by
    apply BitVec.eq_of_toNat_eq
    simp only [BitVec.toNat_sub, BitVec.toNat_ofNat]
    omega
  rw [this]
  exact toInt_ofNat_of_lt (by omega)

variable (j : ℕ) (hj : j < 65) (s : State Ideal)

theorem start_b3 (hj : j < 65) : (b3 j s (Shape.Idx.first h_S_)).toInt = ((64 - j : ℕ) : ℤ) := word_chunk j hj

theorem starts5 (hj : j < 65) (a b c d : (⟨S_, .i32⟩ : BufTy).Contents (Elt Ideal))
    (ha : (a (Shape.Idx.first h_S_)).toInt = 0) (hb : (b (Shape.Idx.first h_S_)).toInt = 0)
    (hc : (c (Shape.Idx.first h_S_)).toInt = 0) (hd : (d (Shape.Idx.first h_S_)).toInt = 0) (k : Fin 5) :
    (((![(b3 j s), a, b, c, d] : Fin 5 → (⟨S_, .i32⟩ : BufTy).Contents (Elt Ideal))) k (Shape.Idx.first h_S_)).toInt
      = ((![64 - j, 0, 0, 0, 0] : Fin 5 → ℕ) k : ℤ) := by
  fin_cases k
  · exact start_b3 j s hj
  · exact ha
  · exact hb
  · exact hc
  · exact hd

theorem starts4 (hj : j < 65) (a b c : (⟨S_, .i32⟩ : BufTy).Contents (Elt Ideal))
    (ha : (a (Shape.Idx.first h_S_)).toInt = 0) (hb : (b (Shape.Idx.first h_S_)).toInt = 0)
    (hc : (c (Shape.Idx.first h_S_)).toInt = 0) (k : Fin 4) :
    (((![(b3 j s), a, b, c] : Fin 4 → (⟨S_, .i32⟩ : BufTy).Contents (Elt Ideal))) k (Shape.Idx.first h_S_)).toInt
      = ((![64 - j, 0, 0, 0] : Fin 4 → ℕ) k : ℤ) := by
  fin_cases k
  · exact start_b3 j s hj
  · exact ha
  · exact hb
  · exact hc

theorem clamp_at {x : ℤ} {n z u : ℕ} (hx : x = (n : ℤ)) (h : n + u ≤ z) :
    (min (max x 0) ((z - u : ℕ) : ℤ)).toNat = n := by omega

theorem fits5a : S65x2x4x64x128.Slices ![64 - j, 0, 0, 0, 0] S1x2x4x64x128 :=
  ⟨rfl, fun a => by fin_cases a <;> simp [S65x2x4x64x128, S1x2x4x64x128] <;> omega⟩
theorem fits5b : S65x2x4x64x64.Slices ![64 - j, 0, 0, 0, 0] S1x2x4x64x64 :=
  ⟨rfl, fun a => by fin_cases a <;> simp [S65x2x4x64x64, S1x2x4x64x64] <;> omega⟩
theorem fits4 : S65x2x4x64.Slices ![64 - j, 0, 0, 0] S1x2x4x64 :=
  ⟨rfl, fun a => by fin_cases a <;> simp [S65x2x4x64, S1x2x4x64] <;> omega⟩

theorem rd_state (hj : j < 65) (b : Fin 2) (h : Fin 4) (d : Fin 64) (e : Fin 128) :
    b9 j s (ix4 b h d e) = s.main_v27_0 (ix5 (chunkAt j) b h d e) := by
  unfold b9 b8
  rw [Host.dynamicSlice_eq_extractStridedSlice _ _ _ ![64 - j, 0, 0, 0, 0] _ (fits5a j) (starts5 j s hj _ _ _ _ rfl rfl rfl rfl)]
  pointwise
  rfl

theorem rd_do (hj : j < 65) (b : Fin 2) (h : Fin 4) (r : Fin 64) (e : Fin 128) :
    b15 j s (ix4 b h r e) = s.main_v27_1 (ix5 (chunkAt j) b h r e) := by
  unfold b15 b14
  rw [Host.dynamicSlice_eq_extractStridedSlice _ _ _ ![64 - j, 0, 0, 0, 0] _ (fits5a j) (starts5 j s hj _ _ _ _ rfl rfl rfl rfl)]
  pointwise
  rfl

theorem rd_q (hj : j < 65) (b : Fin 2) (h : Fin 4) (r d : Fin 64) :
    b21 j s (ix4 b h r d) = s.main_v27_2 (ix5 (chunkAt j) b h r d) := by
  unfold b21 b20
  rw [Host.dynamicSlice_eq_extractStridedSlice _ _ _ ![64 - j, 0, 0, 0, 0] _ (fits5b j) (starts5 j s hj _ _ _ _ rfl rfl rfl rfl)]
  pointwise
  rfl

theorem rd_k (hj : j < 65) (b : Fin 2) (h : Fin 4) (r d : Fin 64) :
    b27 j s (ix4 b h r d) = s.main_v27_3 (ix5 (chunkAt j) b h r d) := by
  unfold b27 b26
  rw [Host.dynamicSlice_eq_extractStridedSlice _ _ _ ![64 - j, 0, 0, 0, 0] _ (fits5b j) (starts5 j s hj _ _ _ _ rfl rfl rfl rfl)]
  pointwise
  rfl

theorem rd_v (hj : j < 65) (b : Fin 2) (h : Fin 4) (r : Fin 64) (e : Fin 128) :
    b33 j s (ix4 b h r e) = s.main_v27_4 (ix5 (chunkAt j) b h r e) := by
  unfold b33 b32
  rw [Host.dynamicSlice_eq_extractStridedSlice _ _ _ ![64 - j, 0, 0, 0, 0] _ (fits5a j) (starts5 j s hj _ _ _ _ rfl rfl rfl rfl)]
  pointwise
  rfl

theorem rd_g (hj : j < 65) (b : Fin 2) (h : Fin 4) (d : Fin 64) :
    b38 j s (ix3 b h d) = s.main_v27_5 (ix4 (chunkAt j) b h d) := by
  unfold b38 b37
  rw [Host.dynamicSlice_eq_extractStridedSlice _ _ _ ![64 - j, 0, 0, 0] _ (fits4 j) (starts4 j s hj _ _ _ rfl rfl rfl)]
  pointwise
  rfl

/-! The trip's values. -/

theorem val_dS (hj : j < 65) (b : Fin 2) (h : Fin 4) (d : Fin 64) (e : Fin 128) :
    b59 j s (ix4 b h d e) = s.main_v27_7 (ix4 b h d e) * s.main_v27_5 (ix4 (chunkAt j) b h d)
      + ∑ r : Fin 64, s.main_v27_1 (ix5 (chunkAt j) b h r e) * s.main_v27_2 (ix5 (chunkAt j) b h r d) := by
  pointwise [b59, b54, b53, b40, b58, b57]
  rw [rd_g j s hj]
  simp only [rd_do j s hj, rd_q j s hj]

theorem val_q (hj : j < 65) (b : Fin 2) (h : Fin 4) (r d : Fin 64) :
    b60 j s (ix4 b h r d) = ∑ e : Fin 128, s.main_v27_1 (ix5 (chunkAt j) b h r e) * s.main_v27_0 (ix5 (chunkAt j) b h d e) := by
  pointwise [b60]
  simp only [rd_do j s hj, rd_state j s hj]

theorem val_k (hj : j < 65) (b : Fin 2) (h : Fin 4) (r d : Fin 64) :
    b48 j s (ix4 b h r d) = ∑ e : Fin 128, s.main_v27_7 (ix4 b h d e) * s.main_v27_4 (ix5 (chunkAt j) b h r e) := by
  pointwise [b48, b47]
  simp only [rd_v j s hj]

theorem val_v (hj : j < 65) (b : Fin 2) (h : Fin 4) (r : Fin 64) (e : Fin 128) :
    b46 j s (ix4 b h r e) = ∑ d : Fin 64, s.main_v27_7 (ix4 b h d e) * s.main_v27_3 (ix5 (chunkAt j) b h r d) := by
  pointwise [b46, b45]
  simp only [rd_k j s hj]

theorem val_g (hj : j < 65) (b : Fin 2) (h : Fin 4) (d : Fin 64) :
    b56 j s (ix3 b h d) = ∑ e : Fin 128, s.main_v27_0 (ix5 (chunkAt j) b h d e) * s.main_v27_7 (ix4 b h d e) := by
  pointwise [b56, b55, b52, b51, b50, b49]
  simp [rd_state j s hj]

/-! What the trip leaves in every result. -/

theorem up_q (hj : j < 65) (c : Fin 65) (b : Fin 2) (h : Fin 4) (r d : Fin 64) :
    b66 j s (ix5 c b h r d) = if c.val = 64 - j then b60 j s (ix4 b h r d) else s.main_v27_8 (ix5 c b h r d) := by
  unfold b66 b61
  rw [Host.dynamicUpdateSlice_eq_updateSlice _ _ _ _ ![64 - j, 0, 0, 0, 0] (fun a => clamp_at (starts5 j s hj _ _ _ _ rfl rfl rfl rfl a) ((fits5b j).2 a)) (fits5b j)]
  pointwise
  by_cases h1 : c.val = 64 - j
  · rw [dif_pos (by omega), if_pos h1]
  · rw [dif_neg (by omega), if_neg h1]

theorem up_k (hj : j < 65) (c : Fin 65) (b : Fin 2) (h : Fin 4) (r d : Fin 64) :
    b72 j s (ix5 c b h r d) = if c.val = 64 - j then b48 j s (ix4 b h r d) else s.main_v27_9 (ix5 c b h r d) := by
  unfold b72 b67
  rw [Host.dynamicUpdateSlice_eq_updateSlice _ _ _ _ ![64 - j, 0, 0, 0, 0] (fun a => clamp_at (starts5 j s hj _ _ _ _ rfl rfl rfl rfl a) ((fits5b j).2 a)) (fits5b j)]
  pointwise
  by_cases h1 : c.val = 64 - j
  · rw [dif_pos (by omega), if_pos h1]
  · rw [dif_neg (by omega), if_neg h1]

theorem up_v (hj : j < 65) (c : Fin 65) (b : Fin 2) (h : Fin 4) (r : Fin 64) (e : Fin 128) :
    b78 j s (ix5 c b h r e) = if c.val = 64 - j then b46 j s (ix4 b h r e) else s.main_v27_10 (ix5 c b h r e) := by
  unfold b78 b73
  rw [Host.dynamicUpdateSlice_eq_updateSlice _ _ _ _ ![64 - j, 0, 0, 0, 0] (fun a => clamp_at (starts5 j s hj _ _ _ _ rfl rfl rfl rfl a) ((fits5a j).2 a)) (fits5a j)]
  pointwise
  by_cases h1 : c.val = 64 - j
  · rw [dif_pos (by omega), if_pos h1]
  · rw [dif_neg (by omega), if_neg h1]

theorem up_g (hj : j < 65) (c : Fin 65) (b : Fin 2) (h : Fin 4) (d : Fin 64) :
    b83 j s (ix4 c b h d) = if c.val = 64 - j then b56 j s (ix3 b h d) else s.main_v27_11 (ix4 c b h d) := by
  unfold b83 b79
  rw [Host.dynamicUpdateSlice_eq_updateSlice _ _ _ _ ![64 - j, 0, 0, 0] (fun a => clamp_at (starts4 j s hj _ _ _ rfl rfl rfl a) ((fits4 j).2 a)) (fits4 j)]
  pointwise
  by_cases h1 : c.val = 64 - j
  · rw [dif_pos (by omega), if_pos h1]
  · rw [dif_neg (by omega), if_neg h1]

end Cert.GlaBwd
-- ==== Proof.RefValue.lean ====
/- The reference's four results at an index: the gradients of Spec.lean on the reference's arguments. -/
module

public import proofs.«01_k».proof.Proof.RefTrip

@[expose] public section

set_option synthInstance.maxSize 4096

noncomputable section

namespace Cert.GlaBwd

open Idealize.ShloMosaic Cert.ReferenceIdeal Cert.ReferenceIdeal.Gen Cert.ReferenceIdeal.Step

/-- A result that trip `n` writes at chunk `64 - n`: after the 65 trips every chunk holds what its trip wrote. -/
theorem stack_last {α : Type} (A : ℕ → Fin 65 → α) (B : ℕ → α)
    (h : ∀ n, n < 65 → ∀ c, A (n + 1) c = if c.val = 64 - n then B n else A n c) (c : Fin 65) : A 65 c = B (64 - c.val) := by
  have key : ∀ n, n ≤ 65 → 65 - n ≤ c.val → A n c = B (64 - c.val) := by
    intro n
    induction n with
    | zero => intro _ h0; omega
    | succ n ih =>
      intro hn hc
      rw [h n (by omega) c]
      by_cases e : c.val = 64 - n
      · rw [if_pos e]; congr 1; omega
      · rw [if_neg e]; exact ih (by omega) (by omega)
  exact key 65 (le_refl _) (by omega)

/-- Lane `d` of head `h`. -/
def laneAt (h : Fin 4) (d : Fin 64) : Fin 256 := ⟨64 * h.val + d.val, by omega⟩

/-- Row `r` of a chunk. -/
def rowAt (c : Fin 65) (r : Fin 64) : Fin 4160 := ⟨64 * c.val + r.val, by omega⟩

theorem hd_lane (h : Fin 4) (d : Fin 64) : hd (laneAt h d) = h := by
  apply Fin.ext; show (64 * h.val + d.val) / 64 = h.val; omega

theorem rowAt_chunk (n : ℕ) (r : Fin 64) : rowAt (chunkAt n) r = rowOf n r := rfl

/-- A sum over one head's lanes. -/
theorem sum_lanes (h : Fin 4) (f : Fin 256 → EReal) :
    (∑ l : Fin 256, if (hd l).val = h.val then f l else 0) = ∑ d : Fin 64, f (laneAt h d) := by
  rw [← Finset.sum_filter]
  refine (Finset.sum_bij (fun d _ => laneAt h d) ?_ ?_ ?_ fun _ _ => rfl).symm
  · intro d _; rw [Finset.mem_filter]; exact ⟨Finset.mem_univ _, by rw [hd_lane]⟩
  · intro d _ d' _ e
    have := congrArg Fin.val e
    apply Fin.ext
    change 64 * h.val + d.val = 64 * h.val + d'.val at this
    omega
  · intro l hl
    have := (Finset.mem_filter.mp hl).2
    change l.val / 64 = h.val at this
    exact ⟨⟨l.val - 64 * h.val, by omega⟩, Finset.mem_univ _, by apply Fin.ext; show 64 * h.val + (l.val - 64 * h.val) = l.val; omega⟩

variable (x0 x1 : (⟨S8320x256, .bf16⟩ : BufTy).Contents (Elt Ideal)) (x2 : (⟨S130x1x256, .f32⟩ : BufTy).Contents (Elt Ideal))
  (x3 : (⟨S8320x3840, .bf16⟩ : BufTy).Contents (Elt Ideal)) (x4 : (⟨S8320x512, .bf16⟩ : BufTy).Contents (Elt Ideal))
  (x5 : (⟨S2x65x128x256, .f32⟩ : BufTy).Contents (Elt Ideal))

/-! The arguments by sequence, row (or chunk) and column. -/

def rQ (b : Fin 2) (r : Fin 4160) (l : Fin 256) : EReal := x0 (ix2 ⟨b.val * 4160 + r.val, by omega⟩ l)
def rG (b : Fin 2) (n : Fin 65) (l : Fin 256) : EReal := x2 (ix3 ⟨b.val * 65 + n.val, by omega⟩ 0 l)
def rV (b : Fin 2) (r : Fin 4160) (x : Fin 512) : EReal := x3 (ix2 ⟨b.val * 4160 + r.val, by omega⟩ ⟨2560 + x.val, by omega⟩)
def rO (b : Fin 2) (r : Fin 4160) (x : Fin 512) : EReal := x4 (ix2 ⟨b.val * 4160 + r.val, by omega⟩ x)
def rS (b : Fin 2) (n : Fin 65) (e : Fin 128) (l : Fin 256) : EReal := x5 (ix4 b n e l)

theorem in_q (c : Fin 65) (b : Fin 2) (h : Fin 4) (r d : Fin 64) :
    (init x0 x1 x2 x3 x4 x5).main_v27_2 (ix5 c b h r d) = rQ x0 b (rowAt c r) (laneAt h d) := by
  show A_main_v12 x0 x1 x2 x3 x4 x5 (ix5 c b h r d) = _
  pointwise [A_main_v12, A_main_v3, A_main_v2, A_main_v1]
  refine congrArg x0 (congrArg₂ ix2 (Fin.ext ?_) (Fin.ext ?_)) <;> dsimp only [rowAt, laneAt, colOf] <;> omega
theorem in_k (c : Fin 65) (b : Fin 2) (h : Fin 4) (r d : Fin 64) :
    (init x0 x1 x2 x3 x4 x5).main_v27_3 (ix5 c b h r d) = rQ x1 b (rowAt c r) (laneAt h d) := by
  show A_main_v13 x0 x1 x2 x3 x4 x5 (ix5 c b h r d) = _
  pointwise [A_main_v13, A_main_v6, A_main_v5, A_main_v4]
  refine congrArg x1 (congrArg₂ ix2 (Fin.ext ?_) (Fin.ext ?_)) <;> dsimp only [rowAt, laneAt, colOf] <;> omega
theorem in_v (c : Fin 65) (b : Fin 2) (h : Fin 4) (r : Fin 64) (e : Fin 128) :
    (init x0 x1 x2 x3 x4 x5).main_v27_4 (ix5 c b h r e) = rV x3 b (rowAt c r) (colOf h e) := by
  show A_main_v14 x0 x1 x2 x3 x4 x5 (ix5 c b h r e) = _
  pointwise [A_main_v14, A_main_v9, A_main_v8, A_main_v7, A_main_v0]
  refine congrArg x3 (congrArg₂ ix2 (Fin.ext ?_) (Fin.ext ?_)) <;> dsimp only [rowAt, laneAt, colOf] <;> omega
theorem in_g (c : Fin 65) (b : Fin 2) (h : Fin 4) (d : Fin 64) :
    (init x0 x1 x2 x3 x4 x5).main_v27_5 (ix4 c b h d) = rG x2 b c (laneAt h d) := by
  show A_main_v15 x0 x1 x2 x3 x4 x5 (ix4 c b h d) = _
  pointwise [A_main_v15, A_main_v11, A_main_v10]
  refine congrArg x2 (congrArg₂ (fun a z => ix3 a 0 z) (Fin.ext ?_) (Fin.ext ?_)) <;> dsimp only [laneAt] <;> omega
theorem in_s (c : Fin 65) (b : Fin 2) (h : Fin 4) (d : Fin 64) (e : Fin 128) :
    (init x0 x1 x2 x3 x4 x5).main_v27_0 (ix5 c b h d e) = rS x5 b c e (laneAt h d) := by
  show A_main_v17 x0 x1 x2 x3 x4 x5 (ix5 c b h d e) = _
  pointwise [A_main_v17, A_main_v16]
  refine congrArg x5 (congrArg (fun z => ix4 b c e z) (Fin.ext ?_)); dsimp only [laneAt]; omega
theorem in_o (c : Fin 65) (b : Fin 2) (h : Fin 4) (r : Fin 64) (e : Fin 128) :
    (init x0 x1 x2 x3 x4 x5).main_v27_1 (ix5 c b h r e) = rO x4 b (rowAt c r) (colOf h e) := by
  show A_main_v21 x0 x1 x2 x3 x4 x5 (ix5 c b h r e) = _
  pointwise [A_main_v21, A_main_v20, A_main_v19, A_main_v18]
  refine congrArg x4 (congrArg₂ ix2 (Fin.ext ?_) (Fin.ext ?_)) <;> dsimp only [rowAt, laneAt, colOf] <;> omega

/-- The reference's state after `n` trips. -/
def it : ℕ → State Ideal
  | 0 => init x0 x1 x2 x3 x4 x5
  | n + 1 => step n (it n)

theorem it_const (n : ℕ) : (it x0 x1 x2 x3 x4 x5 n).main_v27_0 = (init x0 x1 x2 x3 x4 x5).main_v27_0
    ∧ (it x0 x1 x2 x3 x4 x5 n).main_v27_1 = (init x0 x1 x2 x3 x4 x5).main_v27_1
    ∧ (it x0 x1 x2 x3 x4 x5 n).main_v27_2 = (init x0 x1 x2 x3 x4 x5).main_v27_2
    ∧ (it x0 x1 x2 x3 x4 x5 n).main_v27_3 = (init x0 x1 x2 x3 x4 x5).main_v27_3
    ∧ (it x0 x1 x2 x3 x4 x5 n).main_v27_4 = (init x0 x1 x2 x3 x4 x5).main_v27_4
    ∧ (it x0 x1 x2 x3 x4 x5 n).main_v27_5 = (init x0 x1 x2 x3 x4 x5).main_v27_5 := by
  induction n with
  | zero => exact ⟨rfl, rfl, rfl, rfl, rfl, rfl⟩
  | succ n ih => exact ih

theorem it_q (n : ℕ) (c : Fin 65) (b : Fin 2) (h : Fin 4) (r d : Fin 64) :
    (it x0 x1 x2 x3 x4 x5 n).main_v27_2 (ix5 c b h r d) = rQ x0 b (rowAt c r) (laneAt h d) := by
  rw [(it_const x0 x1 x2 x3 x4 x5 n).2.2.1, in_q]
theorem it_k (n : ℕ) (c : Fin 65) (b : Fin 2) (h : Fin 4) (r d : Fin 64) :
    (it x0 x1 x2 x3 x4 x5 n).main_v27_3 (ix5 c b h r d) = rQ x1 b (rowAt c r) (laneAt h d) := by
  rw [(it_const x0 x1 x2 x3 x4 x5 n).2.2.2.1, in_k]
theorem it_v (n : ℕ) (c : Fin 65) (b : Fin 2) (h : Fin 4) (r : Fin 64) (e : Fin 128) :
    (it x0 x1 x2 x3 x4 x5 n).main_v27_4 (ix5 c b h r e) = rV x3 b (rowAt c r) (colOf h e) := by
  rw [(it_const x0 x1 x2 x3 x4 x5 n).2.2.2.2.1, in_v]
theorem it_g (n : ℕ) (c : Fin 65) (b : Fin 2) (h : Fin 4) (d : Fin 64) :
    (it x0 x1 x2 x3 x4 x5 n).main_v27_5 (ix4 c b h d) = rG x2 b c (laneAt h d) := by
  rw [(it_const x0 x1 x2 x3 x4 x5 n).2.2.2.2.2, in_g]
theorem it_s (n : ℕ) (c : Fin 65) (b : Fin 2) (h : Fin 4) (d : Fin 64) (e : Fin 128) :
    (it x0 x1 x2 x3 x4 x5 n).main_v27_0 (ix5 c b h d e) = rS x5 b c e (laneAt h d) := by
  rw [(it_const x0 x1 x2 x3 x4 x5 n).1, in_s]
theorem it_o (n : ℕ) (c : Fin 65) (b : Fin 2) (h : Fin 4) (r : Fin 64) (e : Fin 128) :
    (it x0 x1 x2 x3 x4 x5 n).main_v27_1 (ix5 c b h r e) = rO x4 b (rowAt c r) (colOf h e) := by
  rw [(it_const x0 x1 x2 x3 x4 x5 n).2.1, in_o]

/-- The gradient of the state after `n` chunks, on the arguments. -/
abbrev gradR (b : Fin 2) (e : Fin 128) (l : Fin 256) : ℕ → EReal := grad (rO x4) (rQ x0) (rG x2) b e l

theorem it_grad (b : Fin 2) (h : Fin 4) (d : Fin 64) (e : Fin 128) : ∀ n, n ≤ 65 →
    (it x0 x1 x2 x3 x4 x5 n).main_v27_7 (ix4 b h d e) = gradR x0 x2 x4 b e (laneAt h d) n
  | 0, _ => by
    show K_main_v22 (F := Ideal) (ix4 b h d e) = 0
    pointwise [K_main_v22, K_main_cst]
  | n + 1, hn => by
    show b59 n (it x0 x1 x2 x3 x4 x5 n) (ix4 b h d e) = _
    rw [val_dS n _ hn, it_grad b h d e n (Nat.le_of_lt hn), it_g, mul_comm]
    simp only [it_o, it_q]
    show _ = rG x2 b (chunkAt n) (laneAt h d) * _ + ∑ r : Fin 64, rO x4 b (rowOf n r) (colOf (hd (laneAt h d)) e) * rQ x0 b (rowOf n r) (laneAt h d)
    rw [hd_lane]
    rfl

theorem chunkAt_sub (c : Fin 65) : chunkAt (64 - c.val) = c := by
  apply Fin.ext; show 64 - (64 - c.val) = c.val; omega

theorem row_split (R : Fin 4160) : rowAt ⟨R.val / 64, by omega⟩ ⟨R.val % 64, by omega⟩ = R := by
  apply Fin.ext; show 64 * (R.val / 64) + R.val % 64 = R.val; omega

theorem lane_split (l : Fin 256) : laneAt ⟨l.val / 64, by omega⟩ ⟨l.val % 64, by omega⟩ = l := by
  apply Fin.ext; show 64 * (l.val / 64) + l.val % 64 = l.val; omega

theorem col_split (x : Fin 512) : colOf ⟨x.val / 128, by omega⟩ ⟨x.val % 128, by omega⟩ = x := by
  apply Fin.ext; show 128 * (x.val / 128) + x.val % 128 = x.val; omega

theorem res_q (b : Fin 2) (R : Fin 4160) (l : Fin 256) :
    R_main_v30 (it x0 x1 x2 x3 x4 x5 65) (ix3 b R l) = gradQ (rO x4) (rS x5) b R l := by
  have h := stack_last (fun n c => (it x0 x1 x2 x3 x4 x5 n).main_v27_8 (ix5 c b ⟨l.val / 64, by omega⟩ ⟨R.val % 64, by omega⟩ ⟨l.val % 64, by omega⟩))
    (fun n => b60 n (it x0 x1 x2 x3 x4 x5 n) (ix4 b ⟨l.val / 64, by omega⟩ ⟨R.val % 64, by omega⟩ ⟨l.val % 64, by omega⟩))
    (fun n hn c => up_q n _ hn c _ _ _ _) ⟨R.val / 64, by omega⟩
  dsimp only at h
  pointwise [R_main_v30]
  rw [h, val_q _ _ (by omega)]
  simp only [it_o, it_s]
  rw [show (64 - R.val / 64) = 64 - (⟨R.val / 64, by omega⟩ : Fin 65).val from rfl, chunkAt_sub, row_split, lane_split]
  rfl

theorem res_k (b : Fin 2) (R : Fin 4160) (l : Fin 256) :
    R_main_v33 (it x0 x1 x2 x3 x4 x5 65) (ix3 b R l) = gradK (rO x4) (rV x3) (rQ x0) (rG x2) b R l := by
  have h := stack_last (fun n c => (it x0 x1 x2 x3 x4 x5 n).main_v27_9 (ix5 c b ⟨l.val / 64, by omega⟩ ⟨R.val % 64, by omega⟩ ⟨l.val % 64, by omega⟩))
    (fun n => b48 n (it x0 x1 x2 x3 x4 x5 n) (ix4 b ⟨l.val / 64, by omega⟩ ⟨R.val % 64, by omega⟩ ⟨l.val % 64, by omega⟩))
    (fun n hn c => up_k n _ hn c _ _ _ _) ⟨R.val / 64, by omega⟩
  dsimp only at h
  pointwise [R_main_v33]
  rw [h, val_k _ _ (by omega)]
  simp only [it_v]
  unfold gradK
  refine Finset.sum_congr rfl fun e _ => ?_
  rw [it_grad _ _ _ _ _ _ _ _ _ _ _ (by omega), mul_comm,
    show (64 - R.val / 64) = 64 - (⟨R.val / 64, by omega⟩ : Fin 65).val from rfl, chunkAt_sub, row_split, lane_split]
  rfl

theorem res_v (b : Fin 2) (R : Fin 4160) (x : Fin 512) :
    R_main_v37 (it x0 x1 x2 x3 x4 x5 65) (ix3 b R x) = gradV (rO x4) (rQ x0) (rQ x1) (rG x2) b R x := by
  have h := stack_last (fun n c => (it x0 x1 x2 x3 x4 x5 n).main_v27_10 (ix5 c b ⟨x.val / 128, by omega⟩ ⟨R.val % 64, by omega⟩ ⟨x.val % 128, by omega⟩))
    (fun n => b46 n (it x0 x1 x2 x3 x4 x5 n) (ix4 b ⟨x.val / 128, by omega⟩ ⟨R.val % 64, by omega⟩ ⟨x.val % 128, by omega⟩))
    (fun n hn c => up_v n _ hn c _ _ _ _) ⟨R.val / 64, by omega⟩
  dsimp only at h
  pointwise [R_main_v37]
  rw [h, val_v _ _ (by omega)]
  simp only [it_k]
  unfold gradV
  rw [sum_lanes ⟨x.val / 128, by omega⟩ (fun l => rQ x1 b R l * grad (rO x4) (rQ x0) (rG x2) b ⟨x.val % 128, by omega⟩ l (64 - R.val / 64))]
  refine Finset.sum_congr rfl fun d _ => ?_
  rw [it_grad _ _ _ _ _ _ _ _ _ _ _ (by omega), mul_comm,
    show (64 - R.val / 64) = 64 - (⟨R.val / 64, by omega⟩ : Fin 65).val from rfl, chunkAt_sub, row_split]

theorem res_g (b : Fin 2) (c : Fin 65) (l : Fin 256) :
    R_main_v39 (it x0 x1 x2 x3 x4 x5 65) (ix4 b c 0 l) = gradG (rO x4) (rQ x0) (rG x2) (rS x5) b c l := by
  have h := stack_last (fun n c => (it x0 x1 x2 x3 x4 x5 n).main_v27_11 (ix4 c b ⟨l.val / 64, by omega⟩ ⟨l.val % 64, by omega⟩))
    (fun n => b56 n (it x0 x1 x2 x3 x4 x5 n) (ix3 b ⟨l.val / 64, by omega⟩ ⟨l.val % 64, by omega⟩))
    (fun n hn c => up_g n _ hn c _ _ _) c
  dsimp only at h
  pointwise [R_main_v39]
  rw [h, val_g _ _ (by omega)]
  unfold gradG
  refine Finset.sum_congr rfl fun e _ => ?_
  rw [it_grad _ _ _ _ _ _ _ _ _ _ _ (by omega), mul_comm, it_s, chunkAt_sub, lane_split]

end Cert.GlaBwd
-- ==== Proof.RefStepRun.lean ====
module

public import proofs.«01_k».proof.Proof.Gen.ReferenceIdeal.Run
public import proofs.«01_k».proof.Proof.Gen.ReferenceIdeal.Step

@[expose] public section

set_option maxRecDepth 8192

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- What a buffer holds. -/
abbrev Held (F : FTy → Type) [FloatOps F] (r : Ref sig .tc) := (Proc.devRef .tc r : DevRef τ sig).ty.Contents (Elt F)

variable (V0 : Valuation τ sig (Elt F)) (s : State F) (j : ℕ)

/-- The valuation holds the state, the set-up values and the trip's number. -/
structure Holds : Prop where
  f_7 : V0 (Proc.devRef .tc main_v27_7) = s.main_v27_7
  f_8 : V0 (Proc.devRef .tc main_v27_8) = s.main_v27_8
  f_9 : V0 (Proc.devRef .tc main_v27_9) = s.main_v27_9
  f_10 : V0 (Proc.devRef .tc main_v27_10) = s.main_v27_10
  f_11 : V0 (Proc.devRef .tc main_v27_11) = s.main_v27_11
  f_0 : V0 (Proc.devRef .tc main_v27_0) = s.main_v27_0
  f_1 : V0 (Proc.devRef .tc main_v27_1) = s.main_v27_1
  f_2 : V0 (Proc.devRef .tc main_v27_2) = s.main_v27_2
  f_3 : V0 (Proc.devRef .tc main_v27_3) = s.main_v27_3
  f_4 : V0 (Proc.devRef .tc main_v27_4) = s.main_v27_4
  f_5 : V0 (Proc.devRef .tc main_v27_5) = s.main_v27_5
  n_6 : V0 (Proc.devRef .tc main_v27_6) = constantI S_ 32 (BitVec.ofNat 32 j)

variable {V0 s j}

theorem al_0 (h : Holds V0 s j) : (constantI S_ 32 65#32 : Held F main_while0b_c_15) = Step.b0 j s := by
  unfold Step.b0
  rfl
theorem al_1 (h : Holds V0 s j) : (subi (constantI S_ 32 65#32) (V0 (Proc.devRef .tc main_v27_6)) : Held F main_while0b_v40) = Step.b1 j s := by
  unfold Step.b1
  rw [← al_0 h, h.n_6]
  try rfl
theorem al_2 (h : Holds V0 s j) : (constantI S_ 32 1#32 : Held F main_while0b_c_16) = Step.b2 j s := by
  unfold Step.b2
  rfl
theorem al_3 (h : Holds V0 s j) : (res_main_while0b_v41 V0 : Held F main_while0b_v41) = Step.b3 j s := by
  unfold res_main_while0b_v41 Step.b3
  rw [← al_1 h, ← al_2 h]
  try rfl
theorem al_4 (h : Holds V0 s j) : (constantI S_ 32 0#32 : Held F main_while0b_call0_c) = Step.b4 j s := by
  unfold Step.b4
  rfl
theorem al_5 (h : Holds V0 s j) : (constantI S_ 32 0#32 : Held F main_while0b_call0_c_0) = Step.b5 j s := by
  unfold Step.b5
  rfl
theorem al_6 (h : Holds V0 s j) : (constantI S_ 32 0#32 : Held F main_while0b_call0_c_1) = Step.b6 j s := by
  unfold Step.b6
  rfl
theorem al_7 (h : Holds V0 s j) : (constantI S_ 32 0#32 : Held F main_while0b_call0_c_2) = Step.b7 j s := by
  unfold Step.b7
  rfl
theorem al_8 (h : Holds V0 s j) : (Host.dynamicSlice S1x2x4x64x128 (V0 (Proc.devRef .tc main_v27_0)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S65x2x4x64x128_S1x2x4x64x128 : Held F main_while0b_call0_v0) = Step.b8 j s := by
  unfold Step.b8
  rw [← al_3 h, ← al_4 h, ← al_5 h, ← al_6 h, ← al_7 h, h.f_0]
  try rfl
theorem al_9 (h : Holds V0 s j) : (res_main_while0b_v42 V0 : Held F main_while0b_v42) = Step.b9 j s := by
  unfold res_main_while0b_v42 Step.b9
  rw [← al_8 h]
  try rfl
theorem al_10 (h : Holds V0 s j) : (constantI S_ 32 0#32 : Held F main_while0b_call1_c) = Step.b10 j s := by
  unfold Step.b10
  rfl
theorem al_11 (h : Holds V0 s j) : (constantI S_ 32 0#32 : Held F main_while0b_call1_c_0) = Step.b11 j s := by
  unfold Step.b11
  rfl
theorem al_12 (h : Holds V0 s j) : (constantI S_ 32 0#32 : Held F main_while0b_call1_c_1) = Step.b12 j s := by
  unfold Step.b12
  rfl
theorem al_13 (h : Holds V0 s j) : (constantI S_ 32 0#32 : Held F main_while0b_call1_c_2) = Step.b13 j s := by
  unfold Step.b13
  rfl
theorem al_14 (h : Holds V0 s j) : (Host.dynamicSlice S1x2x4x64x128 (V0 (Proc.devRef .tc main_v27_1)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S65x2x4x64x128_S1x2x4x64x128 : Held F main_while0b_call1_v0) = Step.b14 j s := by
  unfold Step.b14
  rw [← al_3 h, ← al_10 h, ← al_11 h, ← al_12 h, ← al_13 h, h.f_1]
  try rfl
theorem al_15 (h : Holds V0 s j) : (res_main_while0b_v43 V0 : Held F main_while0b_v43) = Step.b15 j s := by
  unfold res_main_while0b_v43 Step.b15
  rw [← al_14 h]
  try rfl
theorem al_16 (h : Holds V0 s j) : (constantI S_ 32 0#32 : Held F main_while0b_call2_c) = Step.b16 j s := by
  unfold Step.b16
  rfl
theorem al_17 (h : Holds V0 s j) : (constantI S_ 32 0#32 : Held F main_while0b_call2_c_0) = Step.b17 j s := by
  unfold Step.b17
  rfl
theorem al_18 (h : Holds V0 s j) : (constantI S_ 32 0#32 : Held F main_while0b_call2_c_1) = Step.b18 j s := by
  unfold Step.b18
  rfl
theorem al_19 (h : Holds V0 s j) : (constantI S_ 32 0#32 : Held F main_while0b_call2_c_2) = Step.b19 j s := by
  unfold Step.b19
  rfl
theorem al_20 (h : Holds V0 s j) : (Host.dynamicSlice S1x2x4x64x64 (V0 (Proc.devRef .tc main_v27_2)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S65x2x4x64x64_S1x2x4x64x64 : Held F main_while0b_call2_v0) = Step.b20 j s := by
  unfold Step.b20
  rw [← al_3 h, ← al_16 h, ← al_17 h, ← al_18 h, ← al_19 h, h.f_2]
  try rfl
theorem al_21 (h : Holds V0 s j) : (res_main_while0b_v44 V0 : Held F main_while0b_v44) = Step.b21 j s := by
  unfold res_main_while0b_v44 Step.b21
  rw [← al_20 h]
  try rfl
theorem al_22 (h : Holds V0 s j) : (constantI S_ 32 0#32 : Held F main_while0b_call3_c) = Step.b22 j s := by
  unfold Step.b22
  rfl
theorem al_23 (h : Holds V0 s j) : (constantI S_ 32 0#32 : Held F main_while0b_call3_c_0) = Step.b23 j s := by
  unfold Step.b23
  rfl
theorem al_24 (h : Holds V0 s j) : (constantI S_ 32 0#32 : Held F main_while0b_call3_c_1) = Step.b24 j s := by
  unfold Step.b24
  rfl
theorem al_25 (h : Holds V0 s j) : (constantI S_ 32 0#32 : Held F main_while0b_call3_c_2) = Step.b25 j s := by
  unfold Step.b25
  rfl
theorem al_26 (h : Holds V0 s j) : (Host.dynamicSlice S1x2x4x64x64 (V0 (Proc.devRef .tc main_v27_3)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S65x2x4x64x64_S1x2x4x64x64 : Held F main_while0b_call3_v0) = Step.b26 j s := by
  unfold Step.b26
  rw [← al_3 h, ← al_22 h, ← al_23 h, ← al_24 h, ← al_25 h, h.f_3]
  try rfl
theorem al_27 (h : Holds V0 s j) : (res_main_while0b_v45 V0 : Held F main_while0b_v45) = Step.b27 j s := by
  unfold res_main_while0b_v45 Step.b27
  rw [← al_26 h]
  try rfl
theorem al_28 (h : Holds V0 s j) : (constantI S_ 32 0#32 : Held F main_while0b_call4_c) = Step.b28 j s := by
  unfold Step.b28
  rfl
theorem al_29 (h : Holds V0 s j) : (constantI S_ 32 0#32 : Held F main_while0b_call4_c_0) = Step.b29 j s := by
  unfold Step.b29
  rfl
theorem al_30 (h : Holds V0 s j) : (constantI S_ 32 0#32 : Held F main_while0b_call4_c_1) = Step.b30 j s := by
  unfold Step.b30
  rfl
theorem al_31 (h : Holds V0 s j) : (constantI S_ 32 0#32 : Held F main_while0b_call4_c_2) = Step.b31 j s := by
  unfold Step.b31
  rfl
theorem al_32 (h : Holds V0 s j) : (Host.dynamicSlice S1x2x4x64x128 (V0 (Proc.devRef .tc main_v27_4)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S65x2x4x64x128_S1x2x4x64x128 : Held F main_while0b_call4_v0) = Step.b32 j s := by
  unfold Step.b32
  rw [← al_3 h, ← al_28 h, ← al_29 h, ← al_30 h, ← al_31 h, h.f_4]
  try rfl
theorem al_33 (h : Holds V0 s j) : (res_main_while0b_v46 V0 : Held F main_while0b_v46) = Step.b33 j s := by
  unfold res_main_while0b_v46 Step.b33
  rw [← al_32 h]
  try rfl
theorem al_34 (h : Holds V0 s j) : (constantI S_ 32 0#32 : Held F main_while0b_call5_c) = Step.b34 j s := by
  unfold Step.b34
  rfl
theorem al_35 (h : Holds V0 s j) : (constantI S_ 32 0#32 : Held F main_while0b_call5_c_0) = Step.b35 j s := by
  unfold Step.b35
  rfl
theorem al_36 (h : Holds V0 s j) : (constantI S_ 32 0#32 : Held F main_while0b_call5_c_1) = Step.b36 j s := by
  unfold Step.b36
  rfl
theorem al_37 (h : Holds V0 s j) : (Host.dynamicSlice S1x2x4x64 (V0 (Proc.devRef .tc main_v27_5)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S65x2x4x64_S1x2x4x64 : Held F main_while0b_call5_v0) = Step.b37 j s := by
  unfold Step.b37
  rw [← al_3 h, ← al_34 h, ← al_35 h, ← al_36 h, h.f_5]
  try rfl
theorem al_38 (h : Holds V0 s j) : (shapeCast S2x4x64 (Host.dynamicSlice S1x2x4x64 (V0 (Proc.devRef .tc main_v27_5)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S65x2x4x64_S1x2x4x64) shapeCasts_S1x2x4x64_S2x4x64 : Held F main_while0b_v47) = Step.b38 j s := by
  unfold Step.b38
  rw [← al_37 h]
  try rfl
theorem al_39 (h : Holds V0 s j) : (Host.dotGeneral dot_S2x4x64x64_S2x4x64x128_S2x4x64x128_3_2_2_3_01_01 none (res_main_while0b_v44 V0) (res_main_while0b_v42 V0) : Held F main_while0b_v48) = Step.b39 j s := by
  unfold Step.b39
  rw [← al_21 h, ← al_9 h]
  try rfl
theorem al_40 (h : Holds V0 s j) : (res_main_while0b_v49 V0 : Held F main_while0b_v49) = Step.b40 j s := by
  unfold res_main_while0b_v49 Step.b40
  rw [← al_38 h]
  try rfl
theorem al_41 (h : Holds V0 s j) : (broadcastInDim S2x4x64x128 ![0, 1, 2, 3] bcast_S2x4x64x1_S2x4x64x128_0_1_2_3 (res_main_while0b_v49 V0) : Held F main_while0b_v50) = Step.b41 j s := by
  unfold Step.b41
  rw [← al_40 h]
  try rfl
theorem al_42 (h : Holds V0 s j) : (mulf (res_main_while0b_v42 V0) (broadcastInDim S2x4x64x128 ![0, 1, 2, 3] bcast_S2x4x64x1_S2x4x64x128_0_1_2_3 (res_main_while0b_v49 V0)) : Held F main_while0b_v51) = Step.b42 j s := by
  unfold Step.b42
  rw [← al_9 h, ← al_41 h]
  try rfl
theorem al_43 (h : Holds V0 s j) : (Host.dotGeneral dot_S2x4x64x64_S2x4x64x128_S2x4x64x128_2_2_3_3_01_01 none (res_main_while0b_v45 V0) (res_main_while0b_v46 V0) : Held F main_while0b_v52) = Step.b43 j s := by
  unfold Step.b43
  rw [← al_27 h, ← al_33 h]
  try rfl
theorem al_44 (h : Holds V0 s j) : (addf (mulf (res_main_while0b_v42 V0) (broadcastInDim S2x4x64x128 ![0, 1, 2, 3] bcast_S2x4x64x1_S2x4x64x128_0_1_2_3 (res_main_while0b_v49 V0))) (Host.dotGeneral dot_S2x4x64x64_S2x4x64x128_S2x4x64x128_2_2_3_3_01_01 none (res_main_while0b_v45 V0) (res_main_while0b_v46 V0)) : Held F main_while0b_v53) = Step.b44 j s := by
  unfold Step.b44
  rw [← al_42 h, ← al_43 h]
  try rfl
theorem al_45 (h : Holds V0 s j) : (Host.dotGeneral dot_S2x4x64x128_S2x4x64x64_S2x4x128x64_2_3_3_2_01_01 none (V0 (Proc.devRef .tc main_v27_7)) (res_main_while0b_v45 V0) : Held F main_while0b_v54) = Step.b45 j s := by
  unfold Step.b45
  rw [← al_27 h, h.f_7]
  try rfl
theorem al_46 (h : Holds V0 s j) : (transpose S2x4x64x128 [0, 1, 3, 2] (Host.dotGeneral dot_S2x4x64x128_S2x4x64x64_S2x4x128x64_2_3_3_2_01_01 none (V0 (Proc.devRef .tc main_v27_7)) (res_main_while0b_v45 V0)) transposes_S2x4x128x64_S2x4x64x128_0_1_3_2 : Held F main_while0b_v55) = Step.b46 j s := by
  unfold Step.b46
  rw [← al_45 h]
  try rfl
theorem al_47 (h : Holds V0 s j) : (Host.dotGeneral dot_S2x4x64x128_S2x4x64x128_S2x4x64x64_3_3_2_2_01_01 none (V0 (Proc.devRef .tc main_v27_7)) (res_main_while0b_v46 V0) : Held F main_while0b_v56) = Step.b47 j s := by
  unfold Step.b47
  rw [← al_33 h, h.f_7]
  try rfl
theorem al_48 (h : Holds V0 s j) : (transpose S2x4x64x64 [0, 1, 3, 2] (Host.dotGeneral dot_S2x4x64x128_S2x4x64x128_S2x4x64x64_3_3_2_2_01_01 none (V0 (Proc.devRef .tc main_v27_7)) (res_main_while0b_v46 V0)) transposes_S2x4x64x64_S2x4x64x64_0_1_3_2 : Held F main_while0b_v57) = Step.b48 j s := by
  unfold Step.b48
  rw [← al_47 h]
  try rfl
theorem al_49 (h : Holds V0 s j) : (mulf (res_main_while0b_v42 V0) (V0 (Proc.devRef .tc main_v27_7)) : Held F main_while0b_v58) = Step.b49 j s := by
  unfold Step.b49
  rw [← al_9 h, h.f_7]
  try rfl
theorem al_50 (h : Holds V0 s j) : (constant S_ .f32 0x00000000#32 : Held F main_while0b_cst_17) = Step.b50 j s := by
  unfold Step.b50
  rfl
theorem al_51 (h : Holds V0 s j) : (Host.reduceAdd (mulf (res_main_while0b_v42 V0) (V0 (Proc.devRef .tc main_v27_7))) (constant S_ .f32 0x00000000#32) reducesTo_S2x4x64x128_S2x4x64_d3 h_S_ : Held F main_while0b_v59) = Step.b51 j s := by
  unfold Step.b51
  rw [← al_49 h, ← al_50 h]
  try rfl
theorem al_52 (h : Holds V0 s j) : (shapeCast S2x4x64x1 (Host.reduceAdd (mulf (res_main_while0b_v42 V0) (V0 (Proc.devRef .tc main_v27_7))) (constant S_ .f32 0x00000000#32) reducesTo_S2x4x64x128_S2x4x64_d3 h_S_) shapeCasts_S2x4x64_S2x4x64x1 : Held F main_while0b_v60) = Step.b52 j s := by
  unfold Step.b52
  rw [← al_51 h]
  try rfl
theorem al_53 (h : Holds V0 s j) : (broadcastInDim S2x4x64x128 ![0, 1, 2, 3] bcast_S2x4x64x1_S2x4x64x128_0_1_2_3 (res_main_while0b_v49 V0) : Held F main_while0b_v61) = Step.b53 j s := by
  unfold Step.b53
  rw [← al_40 h]
  try rfl
theorem al_54 (h : Holds V0 s j) : (mulf (V0 (Proc.devRef .tc main_v27_7)) (broadcastInDim S2x4x64x128 ![0, 1, 2, 3] bcast_S2x4x64x1_S2x4x64x128_0_1_2_3 (res_main_while0b_v49 V0)) : Held F main_while0b_v62) = Step.b54 j s := by
  unfold Step.b54
  rw [← al_53 h, h.f_7]
  try rfl
theorem al_55 (h : Holds V0 s j) : (constant S_ .f32 0x00000000#32 : Held F main_while0b_cst_18) = Step.b55 j s := by
  unfold Step.b55
  rfl
theorem al_56 (h : Holds V0 s j) : (Host.reduceAdd (shapeCast S2x4x64x1 (Host.reduceAdd (mulf (res_main_while0b_v42 V0) (V0 (Proc.devRef .tc main_v27_7))) (constant S_ .f32 0x00000000#32) reducesTo_S2x4x64x128_S2x4x64_d3 h_S_) shapeCasts_S2x4x64_S2x4x64x1) (constant S_ .f32 0x00000000#32) reducesTo_S2x4x64x1_S2x4x64_d3 h_S_ : Held F main_while0b_v63) = Step.b56 j s := by
  unfold Step.b56
  rw [← al_52 h, ← al_55 h]
  try rfl
theorem al_57 (h : Holds V0 s j) : (Host.dotGeneral dot_S2x4x64x128_S2x4x64x64_S2x4x128x64_2_2_3_3_01_01 none (res_main_while0b_v43 V0) (res_main_while0b_v44 V0) : Held F main_while0b_v64) = Step.b57 j s := by
  unfold Step.b57
  rw [← al_15 h, ← al_21 h]
  try rfl
theorem al_58 (h : Holds V0 s j) : (transpose S2x4x64x128 [0, 1, 3, 2] (Host.dotGeneral dot_S2x4x64x128_S2x4x64x64_S2x4x128x64_2_2_3_3_01_01 none (res_main_while0b_v43 V0) (res_main_while0b_v44 V0)) transposes_S2x4x128x64_S2x4x64x128_0_1_3_2 : Held F main_while0b_v65) = Step.b58 j s := by
  unfold Step.b58
  rw [← al_57 h]
  try rfl
theorem al_59 (h : Holds V0 s j) : (addf (mulf (V0 (Proc.devRef .tc main_v27_7)) (broadcastInDim S2x4x64x128 ![0, 1, 2, 3] bcast_S2x4x64x1_S2x4x64x128_0_1_2_3 (res_main_while0b_v49 V0))) (transpose S2x4x64x128 [0, 1, 3, 2] (Host.dotGeneral dot_S2x4x64x128_S2x4x64x64_S2x4x128x64_2_2_3_3_01_01 none (res_main_while0b_v43 V0) (res_main_while0b_v44 V0)) transposes_S2x4x128x64_S2x4x64x128_0_1_3_2) : Held F main_while0b_v66) = Step.b59 j s := by
  unfold Step.b59
  rw [← al_54 h, ← al_58 h]
  try rfl
theorem al_60 (h : Holds V0 s j) : (Host.dotGeneral dot_S2x4x64x128_S2x4x64x128_S2x4x64x64_3_3_2_2_01_01 none (res_main_while0b_v43 V0) (res_main_while0b_v42 V0) : Held F main_while0b_v67) = Step.b60 j s := by
  unfold Step.b60
  rw [← al_15 h, ← al_9 h]
  try rfl
theorem al_61 (h : Holds V0 s j) : (broadcastInDim S1x2x4x64x64 ![1, 2, 3, 4] bcast_S2x4x64x64_S1x2x4x64x64_1_2_3_4 (Host.dotGeneral dot_S2x4x64x128_S2x4x64x128_S2x4x64x64_3_3_2_2_01_01 none (res_main_while0b_v43 V0) (res_main_while0b_v42 V0)) : Held F main_while0b_call6_v0) = Step.b61 j s := by
  unfold Step.b61
  rw [← al_60 h]
  try rfl
theorem al_62 (h : Holds V0 s j) : (constantI S_ 32 0#32 : Held F main_while0b_call6_c) = Step.b62 j s := by
  unfold Step.b62
  rfl
theorem al_63 (h : Holds V0 s j) : (constantI S_ 32 0#32 : Held F main_while0b_call6_c_0) = Step.b63 j s := by
  unfold Step.b63
  rfl
theorem al_64 (h : Holds V0 s j) : (constantI S_ 32 0#32 : Held F main_while0b_call6_c_1) = Step.b64 j s := by
  unfold Step.b64
  rfl
theorem al_65 (h : Holds V0 s j) : (constantI S_ 32 0#32 : Held F main_while0b_call6_c_2) = Step.b65 j s := by
  unfold Step.b65
  rfl
theorem al_66 (h : Holds V0 s j) : (Host.dynamicUpdateSlice (V0 (Proc.devRef .tc main_v27_8)) (broadcastInDim S1x2x4x64x64 ![1, 2, 3, 4] bcast_S2x4x64x64_S1x2x4x64x64_1_2_3_4 (Host.dotGeneral dot_S2x4x64x128_S2x4x64x128_S2x4x64x64_3_3_2_2_01_01 none (res_main_while0b_v43 V0) (res_main_while0b_v42 V0))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S65x2x4x64x64_S1x2x4x64x64 : Held F main_while0b_v68) = Step.b66 j s := by
  unfold Step.b66
  rw [← al_61 h, ← al_3 h, ← al_62 h, ← al_63 h, ← al_64 h, ← al_65 h, h.f_8]
  try rfl
theorem al_67 (h : Holds V0 s j) : (broadcastInDim S1x2x4x64x64 ![1, 2, 3, 4] bcast_S2x4x64x64_S1x2x4x64x64_1_2_3_4 (transpose S2x4x64x64 [0, 1, 3, 2] (Host.dotGeneral dot_S2x4x64x128_S2x4x64x128_S2x4x64x64_3_3_2_2_01_01 none (V0 (Proc.devRef .tc main_v27_7)) (res_main_while0b_v46 V0)) transposes_S2x4x64x64_S2x4x64x64_0_1_3_2) : Held F main_while0b_call7_v0) = Step.b67 j s := by
  unfold Step.b67
  rw [← al_48 h]
  try rfl
theorem al_68 (h : Holds V0 s j) : (constantI S_ 32 0#32 : Held F main_while0b_call7_c) = Step.b68 j s := by
  unfold Step.b68
  rfl
theorem al_69 (h : Holds V0 s j) : (constantI S_ 32 0#32 : Held F main_while0b_call7_c_0) = Step.b69 j s := by
  unfold Step.b69
  rfl
theorem al_70 (h : Holds V0 s j) : (constantI S_ 32 0#32 : Held F main_while0b_call7_c_1) = Step.b70 j s := by
  unfold Step.b70
  rfl
theorem al_71 (h : Holds V0 s j) : (constantI S_ 32 0#32 : Held F main_while0b_call7_c_2) = Step.b71 j s := by
  unfold Step.b71
  rfl
theorem al_72 (h : Holds V0 s j) : (Host.dynamicUpdateSlice (V0 (Proc.devRef .tc main_v27_9)) (broadcastInDim S1x2x4x64x64 ![1, 2, 3, 4] bcast_S2x4x64x64_S1x2x4x64x64_1_2_3_4 (transpose S2x4x64x64 [0, 1, 3, 2] (Host.dotGeneral dot_S2x4x64x128_S2x4x64x128_S2x4x64x64_3_3_2_2_01_01 none (V0 (Proc.devRef .tc main_v27_7)) (res_main_while0b_v46 V0)) transposes_S2x4x64x64_S2x4x64x64_0_1_3_2)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S65x2x4x64x64_S1x2x4x64x64 : Held F main_while0b_v69) = Step.b72 j s := by
  unfold Step.b72
  rw [← al_67 h, ← al_3 h, ← al_68 h, ← al_69 h, ← al_70 h, ← al_71 h, h.f_9]
  try rfl
theorem al_73 (h : Holds V0 s j) : (broadcastInDim S1x2x4x64x128 ![1, 2, 3, 4] bcast_S2x4x64x128_S1x2x4x64x128_1_2_3_4 (transpose S2x4x64x128 [0, 1, 3, 2] (Host.dotGeneral dot_S2x4x64x128_S2x4x64x64_S2x4x128x64_2_3_3_2_01_01 none (V0 (Proc.devRef .tc main_v27_7)) (res_main_while0b_v45 V0)) transposes_S2x4x128x64_S2x4x64x128_0_1_3_2) : Held F main_while0b_call8_v0) = Step.b73 j s := by
  unfold Step.b73
  rw [← al_46 h]
  try rfl
theorem al_74 (h : Holds V0 s j) : (constantI S_ 32 0#32 : Held F main_while0b_call8_c) = Step.b74 j s := by
  unfold Step.b74
  rfl
theorem al_75 (h : Holds V0 s j) : (constantI S_ 32 0#32 : Held F main_while0b_call8_c_0) = Step.b75 j s := by
  unfold Step.b75
  rfl
theorem al_76 (h : Holds V0 s j) : (constantI S_ 32 0#32 : Held F main_while0b_call8_c_1) = Step.b76 j s := by
  unfold Step.b76
  rfl
theorem al_77 (h : Holds V0 s j) : (constantI S_ 32 0#32 : Held F main_while0b_call8_c_2) = Step.b77 j s := by
  unfold Step.b77
  rfl
theorem al_78 (h : Holds V0 s j) : (Host.dynamicUpdateSlice (V0 (Proc.devRef .tc main_v27_10)) (broadcastInDim S1x2x4x64x128 ![1, 2, 3, 4] bcast_S2x4x64x128_S1x2x4x64x128_1_2_3_4 (transpose S2x4x64x128 [0, 1, 3, 2] (Host.dotGeneral dot_S2x4x64x128_S2x4x64x64_S2x4x128x64_2_3_3_2_01_01 none (V0 (Proc.devRef .tc main_v27_7)) (res_main_while0b_v45 V0)) transposes_S2x4x128x64_S2x4x64x128_0_1_3_2)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S65x2x4x64x128_S1x2x4x64x128 : Held F main_while0b_v70) = Step.b78 j s := by
  unfold Step.b78
  rw [← al_73 h, ← al_3 h, ← al_74 h, ← al_75 h, ← al_76 h, ← al_77 h, h.f_10]
  try rfl
theorem al_79 (h : Holds V0 s j) : (broadcastInDim S1x2x4x64 ![1, 2, 3] bcast_S2x4x64_S1x2x4x64_1_2_3 (Host.reduceAdd (shapeCast S2x4x64x1 (Host.reduceAdd (mulf (res_main_while0b_v42 V0) (V0 (Proc.devRef .tc main_v27_7))) (constant S_ .f32 0x00000000#32) reducesTo_S2x4x64x128_S2x4x64_d3 h_S_) shapeCasts_S2x4x64_S2x4x64x1) (constant S_ .f32 0x00000000#32) reducesTo_S2x4x64x1_S2x4x64_d3 h_S_) : Held F main_while0b_call9_v0) = Step.b79 j s := by
  unfold Step.b79
  rw [← al_56 h]
  try rfl
theorem al_80 (h : Holds V0 s j) : (constantI S_ 32 0#32 : Held F main_while0b_call9_c) = Step.b80 j s := by
  unfold Step.b80
  rfl
theorem al_81 (h : Holds V0 s j) : (constantI S_ 32 0#32 : Held F main_while0b_call9_c_0) = Step.b81 j s := by
  unfold Step.b81
  rfl
theorem al_82 (h : Holds V0 s j) : (constantI S_ 32 0#32 : Held F main_while0b_call9_c_1) = Step.b82 j s := by
  unfold Step.b82
  rfl
theorem al_83 (h : Holds V0 s j) : (Host.dynamicUpdateSlice (V0 (Proc.devRef .tc main_v27_11)) (broadcastInDim S1x2x4x64 ![1, 2, 3] bcast_S2x4x64_S1x2x4x64_1_2_3 (Host.reduceAdd (shapeCast S2x4x64x1 (Host.reduceAdd (mulf (res_main_while0b_v42 V0) (V0 (Proc.devRef .tc main_v27_7))) (constant S_ .f32 0x00000000#32) reducesTo_S2x4x64x128_S2x4x64_d3 h_S_) shapeCasts_S2x4x64_S2x4x64x1) (constant S_ .f32 0x00000000#32) reducesTo_S2x4x64x1_S2x4x64_d3 h_S_)) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S65x2x4x64_S1x2x4x64 : Held F main_while0b_v71) = Step.b83 j s := by
  unfold Step.b83
  rw [← al_79 h, ← al_3 h, ← al_80 h, ← al_81 h, ← al_82 h, h.f_11]
  try rfl

/-! One trip's step of the carried values is `step`, field by field; a counter steps to the next number. -/

theorem step_7 (h : Holds V0 s j) : step_main_v27_7 V0 = (step j s).main_v27_7 := by
  unfold step_main_v27_7 Step.step
  show id (addf (mulf (V0 (Proc.devRef .tc main_v27_7)) (broadcastInDim S2x4x64x128 ![0, 1, 2, 3] bcast_S2x4x64x1_S2x4x64x128_0_1_2_3 (res_main_while0b_v49 V0))) (transpose S2x4x64x128 [0, 1, 3, 2] (Host.dotGeneral dot_S2x4x64x128_S2x4x64x64_S2x4x128x64_2_2_3_3_01_01 none (res_main_while0b_v43 V0) (res_main_while0b_v44 V0)) transposes_S2x4x128x64_S2x4x64x128_0_1_3_2)) = _
  rw [al_59 h]
  try rfl
theorem step_8 (h : Holds V0 s j) : step_main_v27_8 V0 = (step j s).main_v27_8 := by
  unfold step_main_v27_8 Step.step
  show id (Host.dynamicUpdateSlice (V0 (Proc.devRef .tc main_v27_8)) (broadcastInDim S1x2x4x64x64 ![1, 2, 3, 4] bcast_S2x4x64x64_S1x2x4x64x64_1_2_3_4 (Host.dotGeneral dot_S2x4x64x128_S2x4x64x128_S2x4x64x64_3_3_2_2_01_01 none (res_main_while0b_v43 V0) (res_main_while0b_v42 V0))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S65x2x4x64x64_S1x2x4x64x64) = _
  exact al_66 h
theorem step_9 (h : Holds V0 s j) : step_main_v27_9 V0 = (step j s).main_v27_9 := by
  unfold step_main_v27_9 Step.step
  show id (Host.dynamicUpdateSlice (V0 (Proc.devRef .tc main_v27_9)) (broadcastInDim S1x2x4x64x64 ![1, 2, 3, 4] bcast_S2x4x64x64_S1x2x4x64x64_1_2_3_4 (transpose S2x4x64x64 [0, 1, 3, 2] (Host.dotGeneral dot_S2x4x64x128_S2x4x64x128_S2x4x64x64_3_3_2_2_01_01 none (V0 (Proc.devRef .tc main_v27_7)) (res_main_while0b_v46 V0)) transposes_S2x4x64x64_S2x4x64x64_0_1_3_2)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S65x2x4x64x64_S1x2x4x64x64) = _
  exact al_72 h
theorem step_10 (h : Holds V0 s j) : step_main_v27_10 V0 = (step j s).main_v27_10 := by
  unfold step_main_v27_10 Step.step
  show id (Host.dynamicUpdateSlice (V0 (Proc.devRef .tc main_v27_10)) (broadcastInDim S1x2x4x64x128 ![1, 2, 3, 4] bcast_S2x4x64x128_S1x2x4x64x128_1_2_3_4 (transpose S2x4x64x128 [0, 1, 3, 2] (Host.dotGeneral dot_S2x4x64x128_S2x4x64x64_S2x4x128x64_2_3_3_2_01_01 none (V0 (Proc.devRef .tc main_v27_7)) (res_main_while0b_v45 V0)) transposes_S2x4x128x64_S2x4x64x128_0_1_3_2)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S65x2x4x64x128_S1x2x4x64x128) = _
  exact al_78 h
theorem step_11 (h : Holds V0 s j) : step_main_v27_11 V0 = (step j s).main_v27_11 := by
  unfold step_main_v27_11 Step.step
  show id (Host.dynamicUpdateSlice (V0 (Proc.devRef .tc main_v27_11)) (broadcastInDim S1x2x4x64 ![1, 2, 3] bcast_S2x4x64_S1x2x4x64_1_2_3 (Host.reduceAdd (shapeCast S2x4x64x1 (Host.reduceAdd (mulf (res_main_while0b_v42 V0) (V0 (Proc.devRef .tc main_v27_7))) (constant S_ .f32 0x00000000#32) reducesTo_S2x4x64x128_S2x4x64_d3 h_S_) shapeCasts_S2x4x64_S2x4x64x1) (constant S_ .f32 0x00000000#32) reducesTo_S2x4x64x1_S2x4x64_d3 h_S_)) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S65x2x4x64_S1x2x4x64) = _
  exact al_83 h
theorem step_6 (h : Holds V0 s j) : step_main_v27_6 V0 = constantI S_ 32 (BitVec.ofNat 32 (j + 1)) := by
  unfold step_main_v27_6
  rw [h.n_6]
  funext i
  show BitVec.ofNat 32 j + 1#32 = BitVec.ofNat 32 (j + 1)
  simp only [BitVec.ofNat_add]

theorem out_main_v30_holds (h : Holds V0 s j) : out_main_v30 V0 = Step.R_main_v30 s := by
  unfold out_main_v30 Step.R_main_v30
  rw [h.f_8]
  try rfl

theorem out_main_v33_holds (h : Holds V0 s j) : out_main_v33 V0 = Step.R_main_v33 s := by
  unfold out_main_v33 Step.R_main_v33
  rw [h.f_9]
  try rfl

theorem out_main_v37_holds (h : Holds V0 s j) : out_main_v37 V0 = Step.R_main_v37 s := by
  unfold out_main_v37 Step.R_main_v37
  rw [h.f_10]
  try rfl

theorem out_main_v39_holds (h : Holds V0 s j) : out_main_v39 V0 = Step.R_main_v39 s := by
  unfold out_main_v39 Step.R_main_v39
  rw [h.f_11]
  try rfl

/-- One trip keeps the valuation holding: `step` of the state, the same set-up values, the next number. -/
theorem holds_step (h : Holds V0 s j) : Holds (STEP V0) (step j s) (j + 1) where
  f_7 := (STEP_main_v27_7 V0).trans (step_7 h)
  f_8 := (STEP_main_v27_8 V0).trans (step_8 h)
  f_9 := (STEP_main_v27_9 V0).trans (step_9 h)
  f_10 := (STEP_main_v27_10 V0).trans (step_10 h)
  f_11 := (STEP_main_v27_11 V0).trans (step_11 h)
  n_6 := (STEP_main_v27_6 V0).trans (step_6 h)
  f_0 := (STEP_main_v27_0 V0).trans h.f_0
  f_1 := (STEP_main_v27_1 V0).trans h.f_1
  f_2 := (STEP_main_v27_2 V0).trans h.f_2
  f_3 := (STEP_main_v27_3 V0).trans h.f_3
  f_4 := (STEP_main_v27_4 V0).trans h.f_4
  f_5 := (STEP_main_v27_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 65 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v30) = Step.R_main_v30 (it c 65)
      ∧ r.2.mem ((c.tc : Thread nD τ).loc main_v33) = Step.R_main_v33 (it c 65)
      ∧ r.2.mem ((c.tc : Thread nD τ).loc main_v37) = Step.R_main_v37 (it c 65)
      ∧ r.2.mem ((c.tc : Thread nD τ).loc main_v39) = Step.R_main_v39 (it c 65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 65
    ⟨(h c).1.trans (out_main_v30_holds hk), (h c).2.1.trans (out_main_v33_holds hk), (h c).2.2.1.trans (out_main_v37_holds hk), (h c).2.2.2.1.trans (out_main_v39_holds hk), (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.StepRun

end
-- ==== Proof.Claims.lean ====
/- The two runs side by side: the kernel's four arrays are the reference's four results. -/
module

public import proofs.«01_k».proof.Defs
public import proofs.«01_k».proof.Proof.Arrays
public import proofs.«01_k».proof.Proof.RefValue
public import proofs.«01_k».proof.Proof.RefStepRun
public import proofs.«01_k».proof.Proof.Gen.Kernel.Frame
public import proofs.«01_k».proof.Proof.Gen.KernelIdeal.Value

@[expose] public section

set_option synthInstance.maxSize 4096

noncomputable section

namespace Cert.GlaBwd

open Idealize.ShloMosaic Idealize.ShloMosaic.TcCoe Idealize.SL Idealize.SL.Sem

theorem frame_kernel : Cert.quiescent_Kernel := fun m ρ _ => Cert.Kernel.Gen.frame m ρ

theorem frame_ideal : Cert.quiescent_KernelIdeal := fun m ρ _ => Cert.KernelIdeal.Gen.frame m ρ

section
open Cert.ReferenceIdeal

/-- The reference's states on device `c`, from its arguments. -/
def itM (m : (ℓ : Loc nD τ sig) → Buf (Elt Ideal) ℓ) (c : Dev nD) : ℕ → Cert.ReferenceIdeal.Step.State Ideal :=
  it (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.StepRun.run_iter m ρ (itM m) (fun _ => rfl) (fun _ _ => rfl))

end

section
open Cert.KernelIdeal Cert.KernelIdeal.Gen
variable (m : (ℓ : Loc nD τ sig) → Buf (Elt Ideal) ℓ) (c : Dev nD)

/-! The arrays of the call are the arguments. -/

theorem aQ_eq : aQ m c = rQ (m ((c : Thread nD τ).loc main_arg0)) := by
  funext b r l; exact v1_apply m c b r l
theorem aK_eq : aK m c = rQ (m ((c : Thread nD τ).loc main_arg1)) := by
  funext b r l; exact v2_apply m c b r l
theorem aG_eq : aG m c = rG (m ((c : Thread nD τ).loc main_arg2)) := by
  funext b n l; exact v3_apply m c b n l
theorem aV_eq : aV m c = rV (m ((c : Thread nD τ).loc main_arg3)) := by
  funext b r x; exact v4_apply m c b r _
theorem aO_eq : aO m c = rO (m ((c : Thread nD τ).loc main_arg4)) := by
  funext b r x; exact v0_apply m c b r x
theorem aS_eq : aS m c = rS (m ((c : Thread nD τ).loc main_arg5)) := by
  funext b n e l; exact congrFun (V_main_arg5 m c) _

end

theorem algebraic : Cert.algebraic_KernelIdeal_ReferenceIdeal := by
  intro m ρ m' ρ' _ hagree
  refine ⟨fun c => G6 m c, fun c => G7 m c, fun c => G8 m c, fun c => G9 m c, ?_, ?_⟩
  · refine (θ_run Cert.KernelIdeal.defs _ _).mono (fun r h c => ?_) (Cert.KernelIdeal.Value.run_blocks m ρ)
    obtain ⟨h6, h7, h8, h9, hk⟩ := h c
    exact ⟨h6.trans (arr6 m c), h7.trans (arr7 m c), h8.trans (arr8 m c), h9.trans (arr9 m c), hk⟩
  · refine (θ_run Cert.ReferenceIdeal.defs _ _).mono (fun r h c => ?_)
      (Cert.ReferenceIdeal.StepRun.run_iter m' ρ' (itM m') (fun _ => rfl) (fun _ _ => rfl))
    obtain ⟨h6, h7, h8, h9, hk⟩ := h c
    obtain ⟨e0, e1, e2, e3, e4, e5⟩ := hagree c
    unfold itM at h6 h7 h8 h9
    rw [e0, e1, e2, e3, e4, e5] at h6 h7 h8 h9
    refine ⟨h6.trans ?_, h7.trans ?_, h8.trans ?_, h9.trans ?_, hk⟩
    · funext y
      obtain ⟨b, n, l, rfl⟩ : ∃ b n l, y = ix3 b n l := ⟨y 0, y 1, y 2, eq_ix3 y⟩
      refine (res_q _ _ _ _ _ _ b n l).trans ?_
      show _ = gradQ (aO m c) (aS m c) b n l
      rw [aO_eq, aS_eq]
    · funext y
      obtain ⟨b, n, l, rfl⟩ : ∃ b n l, y = ix3 b n l := ⟨y 0, y 1, y 2, eq_ix3 y⟩
      refine (res_k _ _ _ _ _ _ b n l).trans ?_
      show _ = gradK (aO m c) (aV m c) (aQ m c) (aG m c) b n l
      rw [aO_eq, aV_eq, aQ_eq, aG_eq]
    · funext y
      obtain ⟨b, n, x, rfl⟩ : ∃ b n x, y = ix3 b n x := ⟨y 0, y 1, y 2, eq_ix3 y⟩
      refine (res_v _ _ _ _ _ _ b n x).trans ?_
      show _ = gradV (aO m c) (aQ m c) (aK m c) (aG m c) b n x
      rw [aO_eq, aQ_eq, aK_eq, aG_eq]
    · funext y
      obtain ⟨b, n, z, l, rfl⟩ : ∃ b n z l, y = ix4 b n z l := ⟨y 0, y 1, y 2, y 3, eq_ix4 y⟩
      obtain rfl : z = 0 := Subsingleton.elim _ _
      refine (res_g _ _ _ _ _ _ b n l).trans ?_
      show _ = gradG (aO m c) (aQ m c) (aG m c) (aS m c) b n l
      rw [aO_eq, aQ_eq, aG_eq, aS_eq]

end Cert.GlaBwd
-- ==== Proof.WUpGrad.lean ====
/- The gradient of the MLP's first product: two column halves of five row blocks, each point adding one block's
product onto the two quarters of the half it is at. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.StableHlo.ReadAt

@[expose] public section

set_option maxRecDepth 16384

noncomputable section

namespace Cert.WUpGrad

open Idealize.ShloMosaic Idealize.ShloMosaic.TcCoe Idealize.SL Idealize.SL.Sem

theorem frame_kernel : Cert.quiescent_Kernel3 := fun m ρ _ => Cert.Kernel3.Gen.frame m ρ

theorem frame_ideal : Cert.quiescent_Kernel3Ideal := fun m ρ _ => Cert.Kernel3Ideal.Gen.frame m ρ

section
open Cert.Kernel3Ideal Cert.Kernel3Ideal.Gen

variable (m : (ℓ : Loc nD τ sig) → Buf (Elt Ideal) ℓ) (c : Dev nD)

/-- The gradient, in its four column quarters. -/
def G (a : S8320x1024.Idx → EReal) (b : S8320x4096.Idx → EReal) : S4x1024x1024.Idx → EReal := fun y =>
  ∑ r : Fin 8320, a (ix2 r (y 1)) * b (ix2 r ⟨(y 0).val * 1024 + (y 2).val, by
    have h0 : (y 0).val < 4 := (y 0).isLt
    have h2 : (y 2).val < 1024 := (y 2).isLt
    omega⟩)

/-- One point's product, in its two quarters. -/
def P (a : S1664x1024.Idx → EReal) (b : S1664x2048.Idx → EReal) : S2x1024x1024.Idx → EReal := fun y =>
  ∑ r : Fin 1664, a (ix2 r (y 1)) * b (ix2 r ⟨(y 0).val * 1024 + (y 2).val, by
    have h0 : (y 0).val < 2 := (y 0).isLt
    have h2 : (y 2).val < 1024 := (y 2).isLt
    omega⟩)

theorem P_apply (a : S1664x1024.Idx → EReal) (b : S1664x2048.Idx → EReal) (g : Fin 2) (i j : Fin 1024) :
    P a b (ix3 g i j) = ∑ r : Fin 1664, a (ix2 r i) * b (ix2 r ⟨g.val * 1024 + j.val, by omega⟩) := rfl

theorem pay3_apply (a : Vec Ideal S1664x1024 .bf16) (b : Vec Ideal S1664x2048 .bf16) (i j : Fin 1024) :
    k0_pay3 a b (ix3 0 i j) = P a b (ix3 0 i j) := by
  unfold P
  pointwise [k0_pay3, k0_pay2, k0_pay1]

theorem pay6_apply (a : Vec Ideal S1664x1024 .bf16) (b : Vec Ideal S1664x2048 .bf16) (i j : Fin 1024) :
    k0_pay6 a b (ix3 0 i j) = P a b (ix3 1 i j) := by
  unfold P
  pointwise [k0_pay6, k0_pay5, k0_pay1]

theorem pay4_apply (a : Vec Ideal S1664x1024 .bf16) (b : Vec Ideal S1664x2048 .bf16) (s : Vec Ideal S1x1024x1024 .f32)
    (i j : Fin 1024) : k0_pay4 a b s (ix3 0 i j) = s (ix3 0 i j) + P a b (ix3 0 i j) := by
  unfold P
  pointwise [k0_pay4, k0_pay2, k0_pay1]

theorem pay7_apply (a : Vec Ideal S1664x1024 .bf16) (b : Vec Ideal S1664x2048 .bf16) (s : Vec Ideal S1x1024x1024 .f32)
    (i j : Fin 1024) : k0_pay7 a b s (ix3 0 i j) = s (ix3 0 i j) + P a b (ix3 1 i j) := by
  unfold P
  pointwise [k0_pay7, k0_pay5, k0_pay1]

theorem idx0 : ∀ t : Fin cfg0.N, win0_0.index t = ![t.val % 5, 0] := (by decide +kernel : ∀ t : Fin grid0.N, _)
theorem idx1 : ∀ t : Fin cfg0.N, win0_1.index t = ![t.val % 5, t.val / 5] := (by decide +kernel : ∀ t : Fin grid0.N, _)
theorem idx2 : ∀ t : Fin cfg0.N, win0_2.index t = ![t.val / 5, 0, 0] := (by decide +kernel : ∀ t : Fin grid0.N, _)

theorem lt_points (t : Fin cfg0.N) : t.val < 10 := lt_of_lt_of_eq t.isLt N_0

theorem blk0 (t : Fin cfg0.N) (r : Fin 1664) (i : Fin 1024) :
    iblk m c 0 t (ix2 r i) = m ((c : Thread nD τ).loc main_arg0) (ix2 ⟨t.val % 5 * 1664 + r.val, by omega⟩ i) := by
  rw [← V_main_arg0 m c]
  blk_simp [iblk]
  congr 1
  blk_ext [idx0]

theorem blk1 (t : Fin cfg0.N) (r : Fin 1664) (j : Fin 2048) :
    iblk m c 1 t (ix2 r j) = m ((c : Thread nD τ).loc main_arg1) (ix2 ⟨t.val % 5 * 1664 + r.val, by omega⟩ ⟨t.val / 5 * 2048 + j.val, by have := lt_points t; omega⟩) := by
  rw [← V_main_arg1 m c]
  blk_simp [iblk]
  congr 1
  blk_ext [idx1]

theorem arr : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  rw [Pipeline.eq_sum_fin_of_reset_step_apply_of_flush (fun n h => outsAt0 m c n h) 5 (fun _ => 0)
    (fun p y => P (iblk m c 0 p) (iblk m c 1 p) y)
    (fun t h j => by
      rw [outsAt0_A m c t h (by omega) h (by omega)]; frame_out; rw [zero_add]
      canon_tiles x e
      all_goals
        obtain ⟨a, p, q, rfl⟩ : ∃ (a : Fin 1) (p q : Fin 1024), x = ix3 a p q := ⟨x 0, x 1, x 2, eq_ix3 x⟩
        obtain rfl : a = 0 := Subsingleton.elim _ _
        obtain ⟨g, p', q', rfl⟩ : ∃ (g : Fin 2) (u v : Fin 1024), j = ix3 g u v := ⟨j 0, j 1, j 2, eq_ix3 j⟩
        obtain rfl : p' = p := Fin.ext e1
        obtain rfl : q' = q := Fin.ext e2
      · obtain rfl : g = 1 := Fin.ext e0
        exact pay6_apply _ _ _ _
      · obtain rfl : g = 0 := Fin.ext e0
        exact pay3_apply _ _ _ _)
    (fun t h j => by
      rw [outsAt0_B m c t h (by omega) h (by omega)]; frame_out
      canon_tiles x e
      all_goals
        obtain ⟨a, p, q, rfl⟩ : ∃ (a : Fin 1) (p q : Fin 1024), x = ix3 a p q := ⟨x 0, x 1, x 2, eq_ix3 x⟩
        obtain rfl : a = 0 := Subsingleton.elim _ _
        obtain ⟨g, p', q', rfl⟩ : ∃ (g : Fin 2) (u v : Fin 1024), j = ix3 g u v := ⟨j 0, j 1, j 2, eq_ix3 j⟩
        obtain rfl : p' = p := Fin.ext e1
        obtain rfl : q' = q := Fin.ext e2
      · obtain rfl : g = 1 := Fin.ext e0
        rw [pay7_apply, View.ld_unit_apply_of _ _ _ _ _ (ix3 1 p' q') (fun a => by fin_cases a <;> simp)]
      · obtain rfl : g = 0 := Fin.ext e0
        rw [pay4_apply, View.ld_unit_apply_of _ _ _ _ _ (ix3 0 p' q') (fun a => by fin_cases a <;> simp)]) t ((flush0_2 t).mp hf) y, zero_add]
  obtain ⟨g, i, j, rfl⟩ : ∃ (g : Fin 2) (i j : Fin 1024), y = ix3 g i j := ⟨y 0, y 1, y 2, eq_ix3 y⟩
  simp only [P_apply, blk0, blk1]
  unfold G
  refine Fin.sum_mul_add_congr fun s r hl => ?_
  have := lt_points t
  congr 2 <;> blk_ext [idx2]

theorem ref_apply (a : FVec Ideal S8320x1024 .bf16) (b : FVec Ideal S8320x4096 .bf16) :
    transpose Cert.Reference3Ideal.S4x1024x1024 [1, 0, 2]
      (shapeCast _ (transpose Cert.Reference3Ideal.S1024x4096 [1, 0]
        (Host.dotGeneral Cert.Reference3Ideal.dot_S8320x4096_S8320x1024_S4096x1024_0_0_1_1_n_n none
          (extf .f32 b Cert.Reference3Ideal.Facts₀.bitsLt_bf16_f32) (extf .f32 a Cert.Reference3Ideal.Facts₀.bitsLt_bf16_f32))
        Cert.Reference3Ideal.Facts₀.transposes_S4096x1024_S1024x4096_1_0)
        Cert.Reference3Ideal.Facts₀.shapeCasts_S1024x4096_S1024x4x1024)
      Cert.Reference3Ideal.Facts₀.transposes_S1024x4x1024_S4x1024x1024_1_0_2 = G a b := by
  funext y
  obtain ⟨g, i, j, rfl⟩ : ∃ (g : Fin 4) (i j : Fin 1024), y = ix3 g i j := ⟨y 0, y 1, y 2, eq_ix3 y⟩
  unfold G
  pointwise
  exact Finset.sum_congr rfl fun r _ => mul_comm _ _

end

theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

theorem algebraic : Cert.algebraic_Kernel3Ideal_Reference3Ideal := by
  intro m ρ m' ρ' _ hagree
  refine ⟨(fun c => G (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))), ?_, ?_⟩
  · refine (θ_run Cert.Kernel3Ideal.defs _ _).mono (fun r h c => ?_) (Cert.Kernel3Ideal.Value.run_blocks m ρ)
    obtain ⟨h0, hk⟩ := h c
    exact ⟨h0.trans (arr m c), hk⟩
  · refine (θ_run Cert.Reference3Ideal.defs _ _).mono (fun r h c => ?_) (Cert.Reference3Ideal.Value.run m' ρ')
    obtain ⟨h0, hk⟩ := h c
    obtain ⟨e0, e1⟩ := hagree c
    refine ⟨h0.trans ?_, hk⟩
    · rw [e0, e1]
      exact ref_apply _ _

end Cert.WUpGrad
-- ==== Proof.WDownGrad.lean ====
/- The gradient of the MLP's second product: two column halves of five row blocks, each point adding one block's
product onto the half it is at. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.StableHlo.ReadAt

@[expose] public section

set_option maxRecDepth 16384

noncomputable section

namespace Cert.WDownGrad

open Idealize.ShloMosaic Idealize.ShloMosaic.TcCoe Idealize.SL Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

section
open Cert.Kernel4Ideal Cert.Kernel4Ideal.Gen

variable (m : (ℓ : Loc nD τ sig) → Buf (Elt Ideal) ℓ) (c : Dev nD)

/-- The gradient: the hidden layer's columns against the incoming gradient's, over every row. -/
def G (a : S8320x4096.Idx → EReal) (b : S8320x1024.Idx → EReal) : S4096x1024.Idx → EReal := fun y =>
  ∑ r : Fin 8320, a (ix2 r (y 0)) * b (ix2 r (y 1))

/-- One point's product at an index. -/
theorem pay_apply (a : Vec Ideal S1664x2048 .bf16) (b : Vec Ideal S1664x1024 .bf16) (i : Fin 2048) (j : Fin 1024) :
    k0_pay1 a b (ix2 i j) = ∑ r : Fin 1664, a (ix2 r i) * b (ix2 r j) := by
  pointwise [k0_pay1]

theorem pay2_apply (a : Vec Ideal S1664x2048 .bf16) (b : Vec Ideal S1664x1024 .bf16) (s : Vec Ideal S2048x1024 .f32)
    (y : S2048x1024.Idx) : k0_pay2 a b s y = s y + k0_pay1 a b y := by
  obtain ⟨i, j, rfl⟩ : ∃ (i : Fin 2048) (j : Fin 1024), y = ix2 i j := ⟨y 0, y 1, eq_ix2 y⟩
  pointwise [k0_pay2]

theorem idx0 : ∀ t : Fin cfg0.N, win0_0.index t = ![t.val % 5, t.val / 5] := (by decide +kernel : ∀ t : Fin grid0.N, _)
theorem idx1 : ∀ t : Fin cfg0.N, win0_1.index t = ![t.val % 5, 0] := (by decide +kernel : ∀ t : Fin grid0.N, _)
theorem idx2 : ∀ t : Fin cfg0.N, win0_2.index t = ![t.val / 5, 0] := (by decide +kernel : ∀ t : Fin grid0.N, _)

theorem lt_points (t : Fin cfg0.N) : t.val < 10 := lt_of_lt_of_eq t.isLt N_0

theorem blk0 (t : Fin cfg0.N) (r : Fin 1664) (i : Fin 2048) :
    iblk m c 0 t (ix2 r i) = m ((c : Thread nD τ).loc main_arg0) (ix2 ⟨t.val % 5 * 1664 + r.val, by omega⟩ ⟨t.val / 5 * 2048 + i.val, by have := lt_points t; omega⟩) := by
  rw [← V_main_arg0 m c]
  blk_simp [iblk]
  congr 1
  blk_ext [idx0]

theorem blk1 (t : Fin cfg0.N) (r : Fin 1664) (j : Fin 1024) :
    iblk m c 1 t (ix2 r j) = m ((c : Thread nD τ).loc main_arg1) (ix2 ⟨t.val % 5 * 1664 + r.val, by omega⟩ j) := by
  rw [← V_main_arg1 m c]
  blk_simp [iblk]
  congr 1
  blk_ext [idx1]

theorem arr : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  rw [Pipeline.eq_sum_fin_of_reset_step_apply_of_flush (fun n h => outsAt0 m c n h) 5 (fun _ => 0)
    (fun p y => k0_pay1 (iblk m c 0 p) (iblk m c 1 p) y)
    (fun t h j => by rw [outsAt0_A m c t h (by omega)]; frame_out; rw [zero_add])
    (fun t h j => by rw [outsAt0_B m c t h (by omega)]; frame_out; rw [pay2_apply]) t ((flush0_2 t).mp hf) y, zero_add]
  obtain ⟨i, j, rfl⟩ : ∃ (i : Fin 2048) (j : Fin 1024), y = ix2 i j := ⟨y 0, y 1, eq_ix2 y⟩
  simp only [pay_apply, blk0, blk1]
  unfold G
  refine Fin.sum_mul_add_congr fun s r hl => ?_
  have := lt_points t
  congr 2 <;> blk_ext [idx2]

theorem ref_apply (a : FVec Ideal S8320x4096 .bf16) (b : FVec Ideal S8320x1024 .bf16) :
    transpose Cert.Reference4Ideal.S4096x1024 [1, 0]
      (Host.dotGeneral Cert.Reference4Ideal.dot_S8320x1024_S8320x4096_S1024x4096_0_0_1_1_n_n none
        (extf .f32 b Cert.Reference4Ideal.Facts₀.bitsLt_bf16_f32) (extf .f32 a Cert.Reference4Ideal.Facts₀.bitsLt_bf16_f32))
      Cert.Reference4Ideal.Facts₀.transposes_S1024x4096_S4096x1024_1_0 = G a b := by
  funext y
  obtain ⟨i, j, rfl⟩ : ∃ (i : Fin 4096) (j : Fin 1024), y = ix2 i j := ⟨y 0, y 1, eq_ix2 y⟩
  unfold G
  pointwise
  exact Finset.sum_congr rfl fun r _ => mul_comm _ _

end

theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run m ρ)

theorem algebraic : Cert.algebraic_Kernel4Ideal_Reference4Ideal := by
  intro m ρ m' ρ' _ hagree
  refine ⟨(fun c => G (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1))), ?_, ?_⟩
  · refine (θ_run Cert.Kernel4Ideal.defs _ _).mono (fun r h c => ?_) (Cert.Kernel4Ideal.Value.run_blocks m ρ)
    obtain ⟨h0, hk⟩ := h c
    exact ⟨h0.trans (arr m c), hk⟩
  · refine (θ_run Cert.Reference4Ideal.defs _ _).mono (fun r h c => ?_) (Cert.Reference4Ideal.Value.run m' ρ')
    obtain ⟨h0, hk⟩ := h c
    obtain ⟨e0, e1⟩ := hagree c
    refine ⟨h0.trans ?_, hk⟩
    · rw [e0, e1]
      exact ref_apply _ _

end Cert.WDownGrad
-- ==== Proof.MlpUp.lean ====
/- The first MLP product: each grid point takes one block of rows, in four column quarters. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.StableHlo.ReadAt

@[expose] public section

set_option maxRecDepth 16384

noncomputable section

namespace Cert.MlpUp

open Idealize.ShloMosaic Idealize.ShloMosaic.TcCoe Idealize.SL Idealize.SL.Sem

theorem frame_kernel : Cert.quiescent_Kernel5 := fun m ρ _ => Cert.Kernel5.Gen.frame m ρ

theorem frame_ideal : Cert.quiescent_Kernel5Ideal := fun m ρ _ => Cert.Kernel5Ideal.Gen.frame m ρ

section
open Cert.Kernel5Ideal Cert.Kernel5Ideal.Gen

variable (m : (ℓ : Loc nD τ sig) → Buf (Elt Ideal) ℓ) (c : Dev nD)

/-- A row against a column. -/
def dot (f g : Fin 1024 → EReal) : EReal := ∑ k : Fin 1024, f k * g k

theorem dot_congr {f f' g g' : Fin 1024 → EReal} (hf : ∀ k, f k = f' k) (hg : ∀ k, g k = g' k) : dot f g = dot f' g' := by
  obtain rfl := funext hf
  obtain rfl := funext hg
  rfl

/-- The hidden layer: the square of the product's positive part. -/
def G (h : S8320x1024.Idx → EReal) (w : S1024x4096.Idx → EReal) : S8320x4096.Idx → EReal := fun y =>
  max (dot (fun k => h (ix2 (y 0) k)) (fun k => w (ix2 k (y 1)))) 0 * max (dot (fun k => h (ix2 (y 0) k)) (fun k => w (ix2 k (y 1)))) 0

theorem pay1_apply (a : Vec Ideal S416x1024 .bf16) (w : Vec Ideal S1024x1024 .bf16) (i : Fin 416) (j : Fin 1024) :
    k0_pay1 a w (ix2 i j)
      = max (dot (fun k => a (ix2 i k)) (fun k => w (ix2 k j))) 0 * max (dot (fun k => a (ix2 i k)) (fun k => w (ix2 k j))) 0 := by
  unfold dot
  pointwise [k0_pay1]

theorem pay2_apply (a : Vec Ideal S416x1024 .bf16) (w : Vec Ideal S1024x1024 .bf16) (i : Fin 416) (j : Fin 1024) :
    k0_pay2 a w (ix2 i j)
      = max (dot (fun k => a (ix2 i k)) (fun k => w (ix2 k j))) 0 * max (dot (fun k => a (ix2 i k)) (fun k => w (ix2 k j))) 0 := by
  unfold dot
  pointwise [k0_pay2]

theorem pay3_apply (a : Vec Ideal S416x1024 .bf16) (w : Vec Ideal S1024x1024 .bf16) (i : Fin 416) (j : Fin 1024) :
    k0_pay3 a w (ix2 i j)
      = max (dot (fun k => a (ix2 i k)) (fun k => w (ix2 k j))) 0 * max (dot (fun k => a (ix2 i k)) (fun k => w (ix2 k j))) 0 := by
  unfold dot
  pointwise [k0_pay3]

theorem pay4_apply (a : Vec Ideal S416x1024 .bf16) (w : Vec Ideal S1024x1024 .bf16) (i : Fin 416) (j : Fin 1024) :
    k0_pay4 a w (ix2 i j)
      = max (dot (fun k => a (ix2 i k)) (fun k => w (ix2 k j))) 0 * max (dot (fun k => a (ix2 i k)) (fun k => w (ix2 k j))) 0 := by
  unfold dot
  pointwise [k0_pay4]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt_points (t : Fin cfg0.N) : t.val < 20 := lt_of_lt_of_eq t.isLt N_0

theorem blk0 (t : Fin cfg0.N) (i : Fin 416) (k : Fin 1024) :
    iblk m c 0 t (ix2 i k) = m ((c : Thread nD τ).loc main_arg0) (ix2 ⟨t.val * 416 + i.val, by have := lt_points t; omega⟩ k) := by
  rw [← V_main_arg0 m c]
  blk_simp [iblk]
  congr 1
  blk_ext [idx0]

theorem blk1 (t : Fin cfg0.N) (k : Fin 1024) (j : Fin 4096) :
    iblk m c 1 t (ix2 k j) = m ((c : Thread nD τ).loc main_arg1) (ix2 k j) := by
  rw [← V_main_arg1 m c]
  blk_simp [iblk]
  congr 1
  blk_ext [idx1]

theorem emb2 (t : Fin cfg0.N) (i : Fin 416) (j : Fin 4096) : (win0_2.blk t).view.emb (ix2 i j)
    = ix2 (⟨t.val * 416 + i.val, by have := lt_points t; omega⟩ : Fin 8320) j := by
  blk_ext [idx2]

/-- A point's product at a column of the quarter from column `o`. -/
theorem tile (t : Fin cfg0.N) (y : S416x4096.Idx) (i : Fin 416) (j : Fin 1024) (o : ℕ)
    (inb : ∀ a, (![0, o] : Fin 2 → ℕ) a + S1024x1024.size a ≤ S1024x4096.size a)
    (h0 : (y 0).val = i.val) (h1 : (y 1).val = o + j.val) :
    dot (fun k => View.ld (iblk m c 0 t) r0_0 (ix2 i k))
      (fun k => View.ld (iblk m c 1 t) (Rect.unit (s := S1024x4096) ![0, o] S1024x1024.size inb) (ix2 k j))
      = dot (fun k => m ((c : Thread nD τ).loc main_arg0) (ix2 ((win0_2.blk t).view.emb y 0) k))
          (fun k => m ((c : Thread nD τ).loc main_arg1) (ix2 k ((win0_2.blk t).view.emb y 1))) := by
  obtain ⟨a, b, rfl⟩ : ∃ (a : Fin 416) (b : Fin 4096), y = ix2 a b := ⟨y 0, y 1, eq_ix2 y⟩
  obtain rfl : a = i := Fin.ext h0
  have h1' : b.val = o + j.val := h1
  refine dot_congr (fun k => ?_) (fun k => ?_)
  · rw [View.ld_unit_apply_of _ _ _ _ _ (ix2 a k) (fun a => by fin_cases a <;> simp), blk0]
    rw [emb2]
    rfl
  · rw [View.ld_unit_apply_of _ _ _ _ _ (ix2 k b) (fun a => by fin_cases a <;> simp [h1']), blk1]
    rw [emb2]
    rfl

theorem arr : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  canon_tiles x h
  all_goals
    obtain ⟨i, j, rfl⟩ : ∃ (i : Fin 416) (j : Fin 1024), x = ix2 i j := ⟨x 0, x 1, eq_ix2 x⟩
    unfold G
  · rw [pay4_apply, tile m c t y i j 3072 _ h0 h1]
  · rw [pay3_apply, tile m c t y i j 2048 _ h0 h1]
  · rw [pay2_apply, tile m c t y i j 1024 _ h0 h1]
  · rw [pay1_apply, tile m c t y i j 0 _ h0 (h1.trans (Nat.zero_add _).symm)]

theorem ref_apply (h : FVec Ideal S8320x1024 .bf16) (w : FVec Ideal S1024x4096 .bf16) :
    truncf .bf16 (mulf
      (maximumf (Host.dotGeneral Cert.Reference5Ideal.dot_S8320x1024_S1024x4096_S8320x4096_1_0_0_1_n_n none
        (extf .f32 h Cert.Reference5Ideal.Facts₀.bitsLt_bf16_f32) (extf .f32 w Cert.Reference5Ideal.Facts₀.bitsLt_bf16_f32))
        (broadcastInDim Cert.Reference5Ideal.S8320x4096 ![] Cert.Reference5Ideal.Facts₀.bcast_S_S8320x4096
          (constant Cert.Reference5Ideal.S_ .f32 0x00000000#32)))
      (maximumf (Host.dotGeneral Cert.Reference5Ideal.dot_S8320x1024_S1024x4096_S8320x4096_1_0_0_1_n_n none
        (extf .f32 h Cert.Reference5Ideal.Facts₀.bitsLt_bf16_f32) (extf .f32 w Cert.Reference5Ideal.Facts₀.bitsLt_bf16_f32))
        (broadcastInDim Cert.Reference5Ideal.S8320x4096 ![] Cert.Reference5Ideal.Facts₀.bcast_S_S8320x4096
          (constant Cert.Reference5Ideal.S_ .f32 0x00000000#32))))
      Cert.Reference5Ideal.Facts₀.bitsLt_bf16_f32 = G h w := by
  funext y
  obtain ⟨i, j, rfl⟩ : ∃ (i : Fin 8320) (j : Fin 4096), y = ix2 i j := ⟨y 0, y 1, eq_ix2 y⟩
  unfold G dot
  pointwise

end

theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

theorem algebraic : Cert.algebraic_Kernel5Ideal_Reference5Ideal := by
  intro m ρ m' ρ' _ hagree
  refine ⟨(fun c => G (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1))), ?_, ?_⟩
  · refine (θ_run Cert.Kernel5Ideal.defs _ _).mono (fun r h c => ?_) (Cert.Kernel5Ideal.Value.run_blocks m ρ)
    obtain ⟨h0, hk⟩ := h c
    exact ⟨h0.trans (arr m c), hk⟩
  · refine (θ_run Cert.Reference5Ideal.defs _ _).mono (fun r h c => ?_) (Cert.Reference5Ideal.Value.run m' ρ')
    obtain ⟨h0, hk⟩ := h c
    obtain ⟨e0, e1⟩ := hagree c
    refine ⟨h0.trans ?_, hk⟩
    · rw [e0, e1]
      exact ref_apply _ _

end Cert.MlpUp
-- ==== Proof.MlpDownBwd.lean ====
/- The gradient of the hidden layer: the product of the output's gradient with the weights, times twice the positive part of
the pre-activation, which the kernel takes back as the root of the layer's saved square. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Pre_squares_are_normal
public import Idealize.ShloMosaic.Lib.Pipeline.ValueKit
public import Idealize.ShloMosaic.Lib.StableHlo.ReadAt

@[expose] public section

set_option maxRecDepth 16384

noncomputable section

namespace Cert.MlpDownBwd

open Idealize.ShloMosaic Idealize.ShloMosaic.TcCoe Idealize.SL Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

/-- The least positive normal number. -/
def tiny : EReal := Ideal.ofBits .f32 0x00800000#32

/-- Its root, from which on squares are normal. -/
def rootTiny : EReal := Ideal.ofBits .f32 0x20000000#32

theorem tiny_eq : tiny = (((1 / 2 ^ 126 : ℝ)) : EReal) := by
  unfold tiny
  simp [Ideal.ofBits, Ideal.ieee, -EReal.coe_mul]; norm_num

theorem rootTiny_eq : rootTiny = (((1 / 2 ^ 63 : ℝ)) : EReal) := by
  unfold rootTiny
  simp [Ideal.ofBits, Ideal.ieee, -EReal.coe_mul]; norm_num

theorem inf_eq : Ideal.ofBits .f32 0x7F800000#32 = (⊤ : EReal) := by
  simp [Ideal.ofBits, Ideal.ieee]

/-- The root the kernel takes of a saved square. -/
def root (u : EReal) : EReal := max u 0 * max u 0 * Ideal.rsqrt (max (max u 0 * max u 0) tiny)

/-- It is the positive part that was squared. -/
theorem root_eq (u : EReal) (h : u ≤ 0 ∨ rootTiny ≤ u ∧ u < ⊤) : root u = max u 0 := by
  unfold root
  rcases h with h | ⟨h, ht⟩
  · rw [max_eq_right h, zero_mul, zero_mul]
  · rw [rootTiny_eq] at h
    induction u using EReal.rec with
    | bot => exact absurd h (not_le.mpr (EReal.bot_lt_coe _))
    | top => exact absurd ht (lt_irrefl _)
    | coe r =>
      have hr : (1 / 2 ^ 63 : ℝ) ≤ r := EReal.coe_le_coe_iff.mp h
      have h0 : (0 : ℝ) < r := lt_of_lt_of_le (by norm_num) hr
      have hs : (1 / 2 ^ 126 : ℝ) ≤ r * r :=
        le_trans (by norm_num) (mul_le_mul hr hr (by norm_num) h0.le)
      have hp : 0 < r * r := mul_pos h0 h0
      rw [max_eq_left (EReal.coe_nonneg.mpr h0.le), ← EReal.coe_mul, tiny_eq,
        max_eq_left (EReal.coe_le_coe_iff.mpr hs), Ideal.rsqrt_coe, if_neg (not_lt.mpr hp.le), if_neg hp.ne',
        Real.sqrt_mul_self h0.le, ← EReal.coe_mul, mul_assoc, mul_inv_cancel₀ h0.ne', mul_one]

section
open Cert.Kernel6Ideal Cert.Kernel6Ideal.Gen

variable (m : (ℓ : Loc nD τ sig) → Buf (Elt Ideal) ℓ) (c : Dev nD)

/-- A row against a row. -/
def dot (f g : Fin 1024 → EReal) : EReal := ∑ k : Fin 1024, f k * g k

theorem dot_congr {f f' g g' : Fin 1024 → EReal} (hf : ∀ k, f k = f' k) (hg : ∀ k, g k = g' k) : dot f g = dot f' g' := by
  obtain rfl := funext hf
  obtain rfl := funext hg
  rfl

/-- Two, as the programs write it. -/
def two : EReal := Ideal.ofBits .f32 0x40000000#32

/-- What the kernel takes of a saved entry. -/
def pull (d s : EReal) : EReal := d * (two * (s * Ideal.rsqrt (max s tiny)))

/-- The gradient of the pre-activation. -/
def G (a : S8320x1024.Idx → EReal) (w : S4096x1024.Idx → EReal) (u : S8320x4096.Idx → EReal) : S8320x4096.Idx → EReal := fun y =>
  dot (fun k => a (ix2 (y 0) k)) (fun k => w (ix2 (y 1) k)) * (two * root (u y))

theorem pay2_apply (a : Vec Ideal S416x1024 .bf16) (w : Vec Ideal S1024x1024 .bf16) (s : Vec Ideal S416x1024 .bf16) (i : Fin 416) (j : Fin 1024) :
    k0_pay2 a w s (ix2 i j) = pull (dot (fun k => a (ix2 i k)) (fun k => w (ix2 j k))) (s (ix2 i j)) := by
  unfold pull dot two tiny
  pointwise [k0_pay2]

theorem pay3_apply (a : Vec Ideal S416x1024 .bf16) (w : Vec Ideal S1024x1024 .bf16) (s : Vec Ideal S416x1024 .bf16) (i : Fin 416) (j : Fin 1024) :
    k0_pay3 a w s (ix2 i j) = pull (dot (fun k => a (ix2 i k)) (fun k => w (ix2 j k))) (s (ix2 i j)) := by
  unfold pull dot two tiny
  pointwise [k0_pay3]

theorem pay4_apply (a : Vec Ideal S416x1024 .bf16) (w : Vec Ideal S1024x1024 .bf16) (s : Vec Ideal S416x1024 .bf16) (i : Fin 416) (j : Fin 1024) :
    k0_pay4 a w s (ix2 i j) = pull (dot (fun k => a (ix2 i k)) (fun k => w (ix2 j k))) (s (ix2 i j)) := by
  unfold pull dot two tiny
  pointwise [k0_pay4]

theorem pay1_apply (a : Vec Ideal S416x1024 .bf16) (w : Vec Ideal S1024x1024 .bf16) (s : Vec Ideal S416x1024 .bf16) (i : Fin 416) (j : Fin 1024) :
    k0_pay1 (k0_pay5 a w) s (ix2 i j) = pull (dot (fun k => a (ix2 i k)) (fun k => w (ix2 j k))) (s (ix2 i j)) := by
  unfold pull dot two tiny
  pointwise [k0_pay1, k0_pay5]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem lt_points (t : Fin cfg0.N) : t.val < 20 := lt_of_lt_of_eq t.isLt N_0

/-- The square of the positive part. -/
def sq (u : EReal) : EReal := max u 0 * max u 0

theorem saved_apply (y : S8320x4096.Idx) : V m c main_v2 y = sq (m ((c : Thread nD τ).loc main_arg2) y) := by
  unfold sq
  unfold V
  after_reads_at

theorem blk0 (t : Fin cfg0.N) (i : Fin 416) (k : Fin 1024) :
    iblk m c 0 t (ix2 i k) = m ((c : Thread nD τ).loc main_arg0) (ix2 ⟨t.val * 416 + i.val, by have := lt_points t; omega⟩ k) := by
  rw [← V_main_arg0 m c]
  blk_simp [iblk]
  congr 1
  blk_ext [idx0]

theorem blk1 (t : Fin cfg0.N) (j : Fin 4096) (k : Fin 1024) :
    iblk m c 1 t (ix2 j k) = m ((c : Thread nD τ).loc main_arg1) (ix2 j k) := by
  rw [← V_main_arg1 m c]
  blk_simp [iblk]
  congr 1
  blk_ext [idx1]

theorem blk2 (t : Fin cfg0.N) (i : Fin 416) (j : Fin 4096) :
    iblk m c 2 t (ix2 i j) = V m c main_v2 (ix2 ⟨t.val * 416 + i.val, by have := lt_points t; omega⟩ j) := by
  blk_simp [iblk]
  congr 1
  blk_ext [idx2]

theorem emb3 (t : Fin cfg0.N) (i : Fin 416) (j : Fin 4096) : (win0_3.blk t).view.emb (ix2 i j)
    = ix2 (⟨t.val * 416 + i.val, by have := lt_points t; omega⟩ : Fin 8320) j := by
  blk_ext [idx3]

/-- A point's result at a column of the quarter from column `o`. -/
theorem tile (t : Fin cfg0.N) (y : S416x4096.Idx) (i : Fin 416) (j : Fin 1024) (o : ℕ)
    (inb : ∀ a, (![o, 0] : Fin 2 → ℕ) a + S1024x1024.size a ≤ S4096x1024.size a)
    (inb' : ∀ a, (![0, o] : Fin 2 → ℕ) a + S416x1024.size a ≤ S416x4096.size a)
    (h0 : (y 0).val = i.val) (h1 : (y 1).val = o + j.val) :
    pull (dot (fun k => View.ld (iblk m c 0 t) r0_0 (ix2 i k))
      (fun k => View.ld (iblk m c 1 t) (Rect.unit (s := S4096x1024) ![o, 0] S1024x1024.size inb) (ix2 j k)))
      (View.ld (iblk m c 2 t) (Rect.unit (s := S416x4096) ![0, o] S416x1024.size inb') (ix2 i j))
      = G (m ((c : Thread nD τ).loc main_arg0)) (m ((c : Thread nD τ).loc main_arg1)) (m ((c : Thread nD τ).loc main_arg2))
          ((win0_3.blk t).view.emb y) := by
  obtain ⟨a, b, rfl⟩ : ∃ (a : Fin 416) (b : Fin 4096), y = ix2 a b := ⟨y 0, y 1, eq_ix2 y⟩
  obtain rfl : a = i := Fin.ext h0
  have h1' : b.val = o + j.val := h1
  rw [emb3]
  unfold G pull root
  refine congrArg₂ (· * ·) (dot_congr (fun k => ?_) (fun k => ?_)) ?_
  · rw [View.ld_unit_apply_of _ _ _ _ _ (ix2 a k) (fun a => by fin_cases a <;> simp), blk0]
    rfl
  · rw [View.ld_unit_apply_of _ _ _ _ _ (ix2 b k) (fun a => by fin_cases a <;> simp [h1']), blk1]
    rfl
  · rw [View.ld_unit_apply_of _ _ _ _ _ (ix2 a b) (fun a => by fin_cases a <;> simp [h1']), blk2, saved_apply]
    rfl

theorem arr : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  canon_tiles x h
  all_goals
    obtain ⟨i, j, rfl⟩ : ∃ (i : Fin 416) (j : Fin 1024), x = ix2 i j := ⟨x 0, x 1, eq_ix2 x⟩
  · rw [pay2_apply, tile m c t y i j 3072 _ _ h0 h1]
  · rw [pay1_apply, tile m c t y i j 2048 _ _ h0 h1]
  · rw [pay4_apply, tile m c t y i j 1024 _ _ h0 h1]
  · rw [pay3_apply, tile m c t y i j 0 _ _ h0 (h1.trans (Nat.zero_add _).symm)]

/-- The precondition at one entry. -/
theorem pre_apply (a : FVec Ideal S8320x1024 .bf16) (w : FVec Ideal S4096x1024 .bf16) (u : FVec Ideal S8320x4096 .f32)
    (h : Cert.Pre_squares_are_normal.fn a w u = fun _ => 1#1) (y : S8320x4096.Idx) :
    (u y : EReal) ≤ 0 ∨ rootTiny ≤ u y ∧ (u y : EReal) < ⊤ := by
  obtain ⟨i, j, rfl⟩ : ∃ (i : Fin 8320) (j : Fin 4096), y = ix2 i j := ⟨y 0, y 1, eq_ix2 y⟩
  have e := congrFun h (ix2 i j)
  have e' : (if (u (ix2 i j) : EReal) ≤ 0 ∨ rootTiny ≤ u (ix2 i j) ∧ (u (ix2 i j) : EReal) < ⊤ then 1#1 else 0#1) = 1#1 := by
    rw [← e]
    unfold rootTiny
    pointwise [Cert.Pre_squares_are_normal.fn]
    rw [inf_eq]
    by_cases h1 : (u (ix2 i j) : EReal) ≤ 0 <;>
      by_cases h2 : Ideal.ofBits FTy.f32 0x20000000#32 ≤ (u (ix2 i j) : EReal) <;>
        by_cases h3 : (u (ix2 i j) : EReal) < ⊤ <;>
          simp only [h1, h2, h3, decide_true, decide_false, or_true, and_true, and_false, or_false, if_true, if_false, and_self,
            or_self] <;> decide
  by_contra hn
  rw [if_neg hn] at e'
  exact absurd e' (by decide)

theorem ref_apply (a : FVec Ideal S8320x1024 .bf16) (w : FVec Ideal S4096x1024 .bf16) (u : FVec Ideal S8320x4096 .f32)
    (h : ∀ y, (u y : EReal) ≤ 0 ∨ rootTiny ≤ u y ∧ (u y : EReal) < ⊤) :
    truncf .bf16 (select (cmpf .ogt u (broadcastInDim Cert.Reference6Ideal.S8320x4096 ![] Cert.Reference6Ideal.Facts₀.bcast_S_S8320x4096 (constant Cert.Reference6Ideal.S_ .f32 0x00000000#32))) (mulf (Host.dotGeneral Cert.Reference6Ideal.dot_S8320x1024_S4096x1024_S8320x4096_1_1_0_0_n_n none (extf .f32 a Cert.Reference6Ideal.Facts₀.bitsLt_bf16_f32) (extf .f32 w Cert.Reference6Ideal.Facts₀.bitsLt_bf16_f32)) (mulf (broadcastInDim Cert.Reference6Ideal.S8320x4096 ![] Cert.Reference6Ideal.Facts₀.bcast_S_S8320x4096 (constant Cert.Reference6Ideal.S_ .f32 0x40000000#32)) (maximumf u (broadcastInDim Cert.Reference6Ideal.S8320x4096 ![] Cert.Reference6Ideal.Facts₀.bcast_S_S8320x4096 (constant Cert.Reference6Ideal.S_ .f32 0x00000000#32))))) (broadcastInDim Cert.Reference6Ideal.S8320x4096 ![] Cert.Reference6Ideal.Facts₀.bcast_S_S8320x4096 (constant Cert.Reference6Ideal.S_ .f32 0x00000000#32))) Cert.Reference6Ideal.Facts₀.bitsLt_bf16_f32 = G a w u := by
  funext y
  obtain ⟨i, j, rfl⟩ : ∃ (i : Fin 8320) (j : Fin 4096), y = ix2 i j := ⟨y 0, y 1, eq_ix2 y⟩
  unfold G
  rw [root_eq _ (h _)]
  have e : (if (0 : EReal) < u (ix2 i j) then dot (fun k => a (ix2 i k)) (fun k => w (ix2 j k)) * (two * max (u (ix2 i j) : EReal) 0) else 0)
      = dot (fun k => a (ix2 i k)) (fun k => w (ix2 j k)) * (two * max (u (ix2 i j) : EReal) 0) := by
    by_cases hu : (0 : EReal) < u (ix2 i j)
    · rw [if_pos hu]
    · rw [if_neg hu, max_eq_right (not_lt.mp hu), mul_zero, mul_zero]
  refine Eq.trans ?_ e
  unfold dot two
  pointwise

end

theorem frame_ideal_pre : Cert.quiescent_Kernel6Ideal_pre_squares_are_normal := fun m ρ _ => Cert.Kernel6Ideal.Gen.frame m ρ

theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run m ρ)

theorem frame_reference_pre : Cert.quiescent_Reference6Ideal_pre_squares_are_normal := fun m ρ _ => frame_reference m ρ trivial

theorem algebraic : Cert.algebraic_Kernel6Ideal_Reference6Ideal_pre_squares_are_normal := by
  intro m ρ m' ρ' hpre hagree
  refine ⟨(fun c => G (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2))), ?_, ?_⟩
  · refine (θ_run Cert.Kernel6Ideal.defs _ _).mono (fun r h c => ?_) (Cert.Kernel6Ideal.Value.run_blocks m ρ)
    obtain ⟨h0, hk⟩ := h c
    exact ⟨h0.trans (arr m c), hk⟩
  · refine (θ_run Cert.Reference6Ideal.defs _ _).mono (fun r h c => ?_) (Cert.Reference6Ideal.Value.run m' ρ')
    obtain ⟨h0, hk⟩ := h c
    obtain ⟨e0, e1, e2⟩ := hagree c
    refine ⟨h0.trans ?_, hk⟩
    rw [e0, e1, e2]
    exact ref_apply _ _ _ (pre_apply _ _ _ (hpre c))

end Cert.MlpDownBwd
-- ==== Proof.MlpUpBwd.Skeleton.lean ====
/- The body as its memory operations over named values. -/
module

public import proofs.«01_k».proof.Proof.Gen.Kernel7Ideal.Frame

@[expose] public section

set_option synthInstance.maxSize 4096
set_option maxRecDepth 16384

noncomputable section

namespace Cert.MlpUpBwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The row of gain gradients so far, with one more block's added. -/
noncomputable def k0_pay1 (v77 : Vec F S1x1024 .f32) (v65 : FVec F S1x1024 .f32) : FVec F S1x1024 .f32 :=
  addf (shapeCast S1x1024 v77 shapeCasts_S1x1024_S1x1024) v65

noncomputable def k0_pay2 (v35 : Vec F S1x416x4096 .bf16) (v37 : Vec F S1024x4096 .bf16) : FVec F S416x1024 .f32 :=
  have v36 : FVec F S416x4096 .bf16 := shapeCast S416x4096 v35 shapeCasts_S1x416x4096_S416x4096
  have cst : FVec F S416x1024 .f32 := constant S416x1024 .f32 0x00000000#32
  have v38 : FVec F S416x1024 .f32 := matmul dot_S416x4096_S1024x4096_S416x1024_1_1_0_0_n_n none v36 v37 cst
  v38

noncomputable def k0_pay3 (v39 : Vec F S416x1024 .f32) : FVec F S416x1 .f32 :=
  have v41 : FVec F S416x1024 .f32 := mulf v39 v39
  have v42 : FVec F S416 .f32 := multiReduction .add [1] S416 v41 0x00000000#32 reduces_S416x1024_S416 (.inl rfl) rfl
  have v43 : FVec F S416x1 .f32 := shapeCast S416x1 v42 shapeCasts_S416_S416x1
  have cst_25 : F .f32 := Scalar.ofBits .f32 0x44800000#32
  have v44 : FVec F S416x1 .f32 := broadcast S416x1 cst_25
  have v45 : FVec F S416x1 .f32 := divf v43 v44
  have cst_26 : F .f32 := Scalar.ofBits .f32 0x358637BD#32
  have v46 : FVec F S416x1 .f32 := broadcast S416x1 cst_26
  have v47 : FVec F S416x1 .f32 := addf v45 v46
  have v48 : FVec F S416x1 .f32 := rsqrt v47
  v48

noncomputable def k0_pay4 (v39 : Vec F S416x1024 .f32) : FVec F S416x1024 .f32 :=
  have v49 : FVec F S416x1024 .f32 := broadcastTo S416x1024 (k0_pay3 v39) broadcasts_S416x1_S416x1024
  have v50 : FVec F S416x1024 .f32 := mulf v39 v49
  v50

noncomputable def k0_pay5 (v35 : Vec F S1x416x4096 .bf16) (v37 : Vec F S1024x4096 .bf16) (v39 : Vec F S416x1024 .f32) : FVec F S1x1024 .f32 :=
  have v63 : FVec F S416x1024 .f32 := mulf (k0_pay2 v35 v37) (k0_pay4 v39)
  have v64 : FVec F S1024 .f32 := multiReduction .add [0] S1024 v63 0x00000000#32 reduces_S416x1024_S1024 (.inl rfl) rfl
  have v65 : FVec F S1x1024 .f32 := shapeCast S1x1024 v64 shapeCasts_S1024_S1x1024
  v65

noncomputable def k0_pay6 (v35 : Vec F S1x416x4096 .bf16) (v37 : Vec F S1024x4096 .bf16) (v39 : Vec F S416x1024 .f32) (v40 : Vec F S1x1024 .f32) (v66 : Vec F S416x1024 .f32) : FVec F S416x1024 .f32 :=
  have v51 : FVec F S416x1024 .f32 := broadcastTo S416x1024 v40 broadcasts_S1x1024_S416x1024
  have v52 : FVec F S416x1024 .f32 := mulf (k0_pay2 v35 v37) v51
  have v53 : FVec F S416x1024 .f32 := mulf (k0_pay4 v39) v52
  have v54 : FVec F S416 .f32 := multiReduction .add [1] S416 v53 0x00000000#32 reduces_S416x1024_S416 (.inl rfl) rfl
  have v55 : FVec F S416x1 .f32 := shapeCast S416x1 v54 shapeCasts_S416_S416x1
  have cst_28 : F .f32 := Scalar.ofBits .f32 0x44800000#32
  have v56 : FVec F S416x1 .f32 := broadcast S416x1 cst_28
  have v57 : FVec F S416x1 .f32 := divf v55 v56
  have v58 : FVec F S416x1024 .f32 := broadcastTo S416x1024 v57 broadcasts_S416x1_S416x1024
  have v59 : FVec F S416x1024 .f32 := mulf (k0_pay4 v39) v58
  have v60 : FVec F S416x1024 .f32 := subf v52 v59
  have v61 : FVec F S416x1024 .f32 := broadcastTo S416x1024 (k0_pay3 v39) broadcasts_S416x1_S416x1024
  have v62 : FVec F S416x1024 .f32 := mulf v61 v60
  have v67 : FVec F S416x1024 .f32 := addf v66 v62
  v67

noncomputable def k0_pay7 (v35 : Vec F S1x416x4096 .bf16) (v37 : Vec F S1024x4096 .bf16) (v39 : Vec F S416x1024 .f32) (v40 : Vec F S1x1024 .f32) (v66 : Vec F S416x1024 .f32) : FVec F S416x1024 .bf16 :=
  have v69 : FVec F S416x1024 .bf16 := truncf .bf16 (k0_pay6 v35 v37 v39 v40 v66) bitsLt_bf16_f32
  v69

noncomputable def cc0_mlp_up_bwd_norm_skel (i : grid0.Coords) (arg1 : Memref sig .tc .hbm S8320x4096 .bf16) (harg1 : arg1.IsWhole) (arg2 : Memref sig .tc .vmem S1024x4096 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .vmem S416x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S3x416x4096 .bf16) (harg9 : arg9.IsWhole) (arg10 : DmaSems sig S3) :
    Prog (TpuEff nD τ sig (Elt F) Λ₀ .tc) PUnit := do
  let ⟨arg0, v33⟩ : Σ' (arg0 : BitVec 32), BitVec 32 ← k0_part1 i arg1 harg1 arg2 harg2 arg3 harg3 arg4 harg4 arg5 harg5 arg6 harg6 arg7 harg7 arg8 harg8 arg9 harg9 arg10
  let v65 : FVec F S1x1024 .f32 ← k0_part2 i arg1 harg1 arg2 harg2 arg3 harg3 arg4 harg4 arg5 harg5 arg6 harg6 arg7 harg7 arg8 harg8 arg9 harg9 arg10 v33
  if k0_h3 : k0_cond3 i = 1#1 then do
    let v77 : Vec F S1x1024 .f32 ← Prog.lift (.load arg8 (Rect.unit (s := S1x1024) ![0, 0] S1x1024.size inb_S1x1024_S1x1024_0_0).toLoadRect (View.loadsAt_vmem h_S1x1024))
    Prog.lift (.store arg8 (Rect.unit (s := S1x1024) ![0, 0] S1x1024.size inb_S1x1024_S1x1024_0_0) v65 Finset.univ (View.stores_vmem_bits_univ h_S1x1024 rfl) (.inl rfl))
    pure ⟨⟩
  else do
    pure ⟨⟩
  if k0_h4 : k0_cond4 i = 1#1 then do
    let v77 : Vec F S1x1024 .f32 ← Prog.lift (.load arg8 (Rect.unit (s := S1x1024) ![0, 0] S1x1024.size inb_S1x1024_S1x1024_0_0).toLoadRect (View.loadsAt_vmem h_S1x1024))
    let v80 : Vec F S1x1024 .f32 ← Prog.lift (.load arg8 (Rect.unit (s := S1x1024) ![0, 0] S1x1024.size inb_S1x1024_S1x1024_0_0).toLoadRect (View.loadsAt_vmem h_S1x1024))
    Prog.lift (.store arg8 (Rect.unit (s := S1x1024) ![0, 0] S1x1024.size inb_S1x1024_S1x1024_0_0) (k0_pay1 v77 v65) Finset.univ (View.stores_vmem_bits_univ h_S1x1024 rfl) (.inl rfl))
    pure ⟨⟩
  else do
    pure ⟨⟩
  pure ⟨⟩

set_option maxRecDepth 65536 in
theorem cc0_mlp_up_bwd_norm_eq_skeleton : cc0_mlp_up_bwd_norm (F := F) = cc0_mlp_up_bwd_norm_skel (F := F) := rfl

noncomputable def k0_part1_skel (i : grid0.Coords) (arg1 : Memref sig .tc .hbm S8320x4096 .bf16) (harg1 : arg1.IsWhole) (arg2 : Memref sig .tc .vmem S1024x4096 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .vmem S416x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S3x416x4096 .bf16) (harg9 : arg9.IsWhole) (arg10 : DmaSems sig S3) :
    Prog (TpuEff nD τ sig (Elt F) Λ₀ .tc) (Σ' (arg0 : BitVec 32), BitVec 32) := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v73 : DmaSems sig S1 := arg10.slice (Rect.unit (s := S3) ![0] S1.size inb_S3_S1_0)
    let v74 : DmaSems sig S_ := v73.squeeze S_ squeezes_S1_S_
    let v75 : Memref sig .tc .vmem S1x416x4096 .bf16 := arg9.slice (Rect.unit (s := S3x416x4096) ![0, 0, 0] S1x416x4096.size inb_S3x416x4096_S1x416x4096_0_0_0) (fun _ => rfl)
    let v76 : Memref sig .tc .vmem S416x4096 .bf16 := v75.squeeze S416x4096 squeezes_S1x416x4096_S416x4096
    let v77 : Memref sig .tc .hbm S416x4096 .bf16 := arg1.slice (Rect.unit (s := S8320x4096) ![0, 0] S416x4096.size inb_S8320x4096_S416x4096_0_0) (fun _ => rfl)
    Prog.lift (.enqueueDma v77 (.here v76) (.dma v74.sem) (harg1.wordExact_slice rfl _ wordsbf16_S8320x4096_S416x4096_0_0) ((harg9.wordExact_slice rfl _ wordsbf16_S3x416x4096_S1x416x4096_0_0_0).reshape _ _) ⟨Or.inl rfl, trivial⟩)
    let v78 : DmaSems sig S1 := arg10.slice (Rect.unit (s := S3) ![1] S1.size inb_S3_S1_1)
    let v79 : DmaSems sig S_ := v78.squeeze S_ squeezes_S1_S_
    let v80 : Memref sig .tc .vmem S1x416x4096 .bf16 := arg9.slice (Rect.unit (s := S3x416x4096) ![1, 0, 0] S1x416x4096.size inb_S3x416x4096_S1x416x4096_1_0_0) (fun _ => rfl)
    let v81 : Memref sig .tc .vmem S416x4096 .bf16 := v80.squeeze S416x4096 squeezes_S1x416x4096_S416x4096
    let v82 : Memref sig .tc .hbm S416x4096 .bf16 := arg1.slice (Rect.unit (s := S8320x4096) ![416, 0] S416x4096.size inb_S8320x4096_S416x4096_416_0) (fun _ => rfl)
    Prog.lift (.enqueueDma v82 (.here v81) (.dma v79.sem) (harg1.wordExact_slice rfl _ wordsbf16_S8320x4096_S416x4096_416_0) ((harg9.wordExact_slice rfl _ wordsbf16_S3x416x4096_S1x416x4096_1_0_0).reshape _ _) ⟨Or.inl rfl, trivial⟩)
    pure ⟨⟩
  else do
    pure ⟨⟩
  if k0_h2 : k0_cond2 i = 1#1 then do
    let v86 : DmaSems sig S1 := arg10.slice (Rect.unit (s := S3) (k0_off1 i) S1.size (k0_off1_inb i k0_h2))
    let v87 : DmaSems sig S_ := v86.squeeze S_ squeezes_S1_S_
    let v88 : Memref sig .tc .vmem S1x416x4096 .bf16 := arg9.slice (Rect.unit (s := S3x416x4096) (k0_off2 i) S1x416x4096.size (k0_off2_inb i k0_h2)) (fun _ => rfl)
    let v89 : Memref sig .tc .vmem S416x4096 .bf16 := v88.squeeze S416x4096 squeezes_S1x416x4096_S416x4096
    let v90 : Memref sig .tc .hbm S416x4096 .bf16 := arg1.slice (Rect.unit (s := S8320x4096) (k0_off3 i) S416x4096.size (k0_off3_inb i k0_h2)) (fun _ => rfl)
    Prog.lift (.enqueueDma v90 (.here v89) (.dma v87.sem) (harg1.wordExact_slice rfl _ (k0_off3_wordsbf16 i k0_h2)) ((harg9.wordExact_slice rfl _ (k0_off2_wordsbf16 i k0_h2)).reshape _ _) ⟨Or.inl rfl, trivial⟩)
    pure ⟨⟩
  else do
    pure ⟨⟩
  let v19 : DmaSems sig S1 := arg10.slice (Rect.unit (s := S3) (k0_off4 i) S1.size (k0_off4_inb i))
  let v20 : DmaSems sig S_ := v19.squeeze S_ squeezes_S1_S_
  let v21 : Memref sig .tc .vmem S1x416x4096 .bf16 := arg9.slice (Rect.unit (s := S3x416x4096) (k0_off5 i) S1x416x4096.size (k0_off5_inb i)) (fun _ => rfl)
  let v22 : Memref sig .tc .vmem S416x4096 .bf16 := v21.squeeze S416x4096 squeezes_S1x416x4096_S416x4096
  let v23 : Memref sig .tc .hbm S416x4096 .bf16 := arg1.slice (Rect.unit (s := S8320x4096) (k0_off6 i) S416x4096.size (k0_off6_inb i)) (fun _ => rfl)
  Prog.lift (.waitDma2 v20.sem v23 v22 (harg1.wordExact_slice rfl _ (k0_off6_wordsbf16 i)) ((harg9.wordExact_slice rfl _ (k0_off5_wordsbf16 i)).reshape _ _))
  let v24 : BitVec 1 := Scalar.cmpi .eq 3#32 0#32
  let v25 : BitVec 32 := Scalar.select v24 1#32 3#32
  let v26 : BitVec 32 := Scalar.remsi arg0 v25
  let v27 : BitVec 1 := Scalar.cmpi .ne v26 0#32
  let v28 : BitVec 1 := Scalar.cmpi .slt v26 0#32
  let v29 : BitVec 1 := Scalar.cmpi .slt v25 0#32
  let v30 : BitVec 1 := Scalar.xori v28 v29
  let v31 : BitVec 1 := Scalar.andi v30 v27
  let v32 : BitVec 32 := Scalar.addi v26 v25
  let v33 : BitVec 32 := Scalar.select v31 v32 v26
  pure ⟨arg0, v33⟩

set_option maxRecDepth 65536 in
theorem k0_part1_eq_skeleton : k0_part1 (F := F) = k0_part1_skel (F := F) := rfl

noncomputable def k0_part2_skel (i : grid0.Coords) (arg1 : Memref sig .tc .hbm S8320x4096 .bf16) (harg1 : arg1.IsWhole) (arg2 : Memref sig .tc .vmem S1024x4096 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .vmem S416x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S3x416x4096 .bf16) (harg9 : arg9.IsWhole) (arg10 : DmaSems sig S3) (v33 : BitVec 32) :
    Prog (TpuEff nD τ sig (Elt F) Λ₀ .tc) (FVec F S1x1024 .f32) := do
  let v35 : Vec F S1x416x4096 .bf16 ← Prog.lift (.load arg9 (Rect.unit (s := S3x416x4096) (k0_off7 i) S1x416x4096.size (k0_off7_inb i)).toLoadRect (View.loadsAt_vmem h_S1x416x4096))
  let v37 : Vec F S1024x4096 .bf16 ← Prog.lift (.load arg2 (Rect.unit (s := S1024x4096) ![0, 0] S1024x4096.size inb_S1024x4096_S1024x4096_0_0).toLoadRect (View.loadsAt_vmem h_S1024x4096))
  let v39 : Vec F S416x1024 .f32 ← Prog.lift (.load arg3 (Rect.unit (s := S416x1024) ![0, 0] S416x1024.size inb_S416x1024_S416x1024_0_0).toLoadRect (View.loadsAt_vmem h_S416x1024))
  let v40 : Vec F S1x1024 .f32 ← Prog.lift (.load arg4 (Rect.unit (s := S1x1024) ![0, 0] S1x1024.size inb_S1x1024_S1x1024_0_0).toLoadRect (View.loadsAt_vmem h_S1x1024))
  let v66 : Vec F S416x1024 .f32 ← Prog.lift (.load arg5 (Rect.unit (s := S416x1024) ![0, 0] S416x1024.size inb_S416x1024_S416x1024_0_0).toLoadRect (View.loadsAt_vmem h_S416x1024))
  let v68 : Vec F S416x1024 .f32 ← Prog.lift (.load arg6 (Rect.unit (s := S416x1024) ![0, 0] S416x1024.size inb_S416x1024_S416x1024_0_0).toLoadRect (View.loadsAt_vmem h_S416x1024))
  Prog.lift (.store arg6 (Rect.unit (s := S416x1024) ![0, 0] S416x1024.size inb_S416x1024_S416x1024_0_0) (k0_pay6 v35 v37 v39 v40 v66) Finset.univ (View.stores_vmem_bits_univ h_S416x1024 rfl) (.inl rfl))
  let v70 : Vec F S416x1024 .bf16 ← Prog.lift (.load arg7 (Rect.unit (s := S416x1024) ![0, 0] S416x1024.size inb_S416x1024_S416x1024_0_0).toLoadRect (View.loadsAt_vmem h_S416x1024))
  Prog.lift (.store arg7 (Rect.unit (s := S416x1024) ![0, 0] S416x1024.size inb_S416x1024_S416x1024_0_0) (k0_pay7 v35 v37 v39 v40 v66) Finset.univ (View.stores_vmem h_S416x1024 (harg7.storeExact_slice rfl _ packedbf16_S416x1024_S416x1024_0_0) (fun _ => rfl)) (.inl rfl))
  pure (k0_pay5 v35 v37 v39)

set_option maxRecDepth 65536 in
theorem k0_part2_eq_skeleton : k0_part2 (F := F) = k0_part2_skel (F := F) := rfl

end Cert.MlpUpBwd
-- ==== Proof.MlpUpBwd.Runs.lean ====
/- What the runs of the body share: the branch conditions, the slots the streamed operand passes through, and their names. -/
module

public import proofs.«01_k».proof.Proof.MlpUpBwd.Skeleton
public import Idealize.ShloMosaic.Lib.Pipeline.ValueKit
public import Idealize.ShloMosaic.Lib.VecWindow

@[expose] public section

set_option synthInstance.maxSize 4096
set_option maxRecDepth 16384

noncomputable section

namespace Cert.MlpUpBwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c)))⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, e0]
    word_cmp
   : ∀ t : Fin grid0.N, cond0_0 (grid0.coords t) ↔ t.val % 20 = 0)

abbrev cond0_1 (i : grid0.Coords) : Prop := k0_cond2 i = 1#1
theorem hcond0_1 : ∀ t : Fin cfg0.N, cond0_1 (grid0.coords t) ↔ t.val < 18 :=
  (by decide +kernel : ∀ t : Fin grid0.N, cond0_1 (grid0.coords t) ↔ t.val < 18)

theorem hcond0_2 : ∀ t : Fin cfg0.N, k0_cond3 (grid0.coords t) = 1#1 ↔ t.val = 0 :=
  (by decide +kernel : ∀ t : Fin grid0.N, k0_cond3 (grid0.coords t) = 1#1 ↔ t.val = 0)
theorem hcond0_3 : ∀ t : Fin cfg0.N, k0_cond4 (grid0.coords t) = 1#1 ↔ 0 < t.val :=
  (by decide +kernel : ∀ t : Fin grid0.N, k0_cond4 (grid0.coords t) = 1#1 ↔ 0 < t.val)

abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S416x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S416x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S416x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S416x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev scM0_0 : Memref sig .tc .vmem S3x416x4096 .bf16 := Memref.whole cc0_scratch0
abbrev hbM0_0 : Memref sig .tc .hbm S8320x4096 .bf16 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 3 → SemLoc sig := fun j => (![SemLoc.dma 11, SemLoc.dma 12, SemLoc.dma 13] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2] (by decide) (by decide)]; rfl
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg0))) := by
  rw [Pipeline.ΦD_eq, scopedRest0_eq, ownSems00_eq, hbmPts0_eq]; simp only [scM0_0, owns_whole]; try rfl

instance : NeZero grid0.N := ⟨by rw [N_0]; decide⟩
theorem inb_slot0_0 (s : Fin 3) : ∀ a, (![s.val, 0, 0] : Fin 3 → Nat) a + S1x416x4096.size a ≤ S3x416x4096.size a := by
  have := s.isLt; intro a; fin_cases a <;> simp <;> omega
theorem inb_src0_0 (b : Fin 20) : ∀ a, (![416 * b.val, 0] : Fin 2 → Nat) a + S416x4096.size a ≤ S8320x4096.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
def rslot0_0 (s : Fin 3) : Memref sig .tc .vmem S416x4096 .bf16 :=
  (scM0_0.slice (Rect.unit (s := S3x416x4096) ![s.val, 0, 0] S1x416x4096.size (inb_slot0_0 s)) (fun _ => rfl)).squeeze S416x4096 squeezes_S1x416x4096_S416x4096
def srcB0_0 (b : Fin 20) : Memref sig .tc .hbm S416x4096 .bf16 :=
  hbM0_0.slice (Rect.unit (s := S8320x4096) ![416 * b.val, 0] S416x4096.size (inb_src0_0 b)) (fun _ => rfl)
def cellA0_0 (s : Fin 3) : DmaSems sig S_ := (cc0_scratch1.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 11 := by decide
theorem cellR0_0_1 : cellR0_0 1 = SemLoc.dma 12 := by decide
theorem cellR0_0_2 : cellR0_0 2 = SemLoc.dma 13 := by decide

section Ring0_0
variable (c : Dev nD) (W : HbBuf0 (F := F) c hbM0_0)
abbrev qs0_0 (s : Fin 3) : PosShare TreeShare := if s.val = 0 then fullShare.left else if s.val = 1 then fullShare.right.left else fullShare.right.right
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 20) : sProp 𝕄 := (srcB0_0 b).view.loc (c : Thread nD τ) ↦[(srcB0_0 b).view.set]{qs0_0 s} W
def restP0_0 (s : Fin 3) (b : Fin 20) : sProp 𝕄 := ((c : Thread nD τ).loc main_arg0) ↦[Finset.univ \ (srcB0_0 b).view.set]{qs0_0 s} W
abbrev wholeP0_0 (s : Fin 3) : sProp 𝕄 := ((c : Thread nD τ).loc main_arg0) ↦[Finset.univ]{qs0_0 s} W
abbrev landed0_0 (s : Fin 3) (b : Fin 20) (f : HbBuf0 (F := F) c (rslot0_0 s)) : HbBuf0 (F := F) c (rslot0_0 s) :=
  (rslot0_0 s).view.writes (Elt F) f [⟨Rect.whole S416x4096, ReadAs.same.apply ((srcB0_0 b).view.read (Elt F) W)⟩]
abbrev flightP0_0 (s : Fin 3) (b : Fin 20) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
abbrev slotW0_0 (s : Fin 3) (f : HbBuf0 (F := F) c (rslot0_0 s)) : sProp 𝕄 := iprop(slotP0_0 c s f ∗ wholeP0_0 c W s)
abbrev flightW0_0 (s : Fin 3) (b : Fin 20) (f : HbBuf0 (F := F) c (rslot0_0 s)) : sProp 𝕄 := iprop(flightP0_0 c W s b f ∗ restP0_0 c W s b)
abbrev noHome0_0 (b : Fin 20) : sProp 𝕄 := iprop(emp)
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 11) 0 := congrArg (fun x => (semVal ((c : Thread nD τ), x) 0 : sProp 𝕄)) cellR0_0_0
omit [FloatOps F] in
theorem cellP0_0_1 : cellP0_0 (F := F) c 1 = semVal ((c : Thread nD τ), SemLoc.dma 12) 0 := congrArg (fun x => (semVal ((c : Thread nD τ), x) 0 : sProp 𝕄)) cellR0_0_1
omit [FloatOps F] in
theorem cellP0_0_2 : cellP0_0 (F := F) c 2 = semVal ((c : Thread nD τ), SemLoc.dma 13) 0 := congrArg (fun x => (semVal ((c : Thread nD τ), x) 0 : sProp 𝕄)) cellR0_0_2
end Ring0_0

abbrev slotSet0_0 (s : Fin 3) : Finset S3x416x4096.Idx := (Rect.unit (s := S3x416x4096) ![s.val, 0, 0] S1x416x4096.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x416x4096) (0 : Fin 3) 1 (fun s : Fin 3 => (![s.val, 0, 0] : Fin 3 → Nat)) S1x416x4096.size inb_slot0_0 (fun s => by simp) rfl s s' h
theorem slots0_0_cover : Finset.univ.biUnion slotSet0_0 = Finset.univ :=
  Ring.lead_cover (s := S3x416x4096) (0 : Fin 3) 1 (fun s : Fin 3 => (![s.val, 0, 0] : Fin 3 → Nat)) S1x416x4096.size inb_slot0_0 (fun s => by simp)
    (fun s a ha => by fin_cases a <;> first | exact absurd rfl ha | rfl) rfl (fun a ha => by fin_cases a <;> first | exact absurd rfl ha | rfl) rfl

section InOut0_0
variable (c : Dev nD) (W : HbBuf0 (F := F) c hbM0_0)
theorem slotP0_0_eq (s : Fin 3) (f) : slotP0_0 (F := F) c s f = (((c : Thread nD τ).loc cc0_scratch0) ↦[slotSet0_0 s]{fullShare} f : sProp 𝕄) := by
  unfold slotP0_0; rw [slotSet0_0_eq]; rfl
theorem src0_0_split (s : Fin 3) (b : Fin 20) : wholeP0_0 (F := F) c W s ⊣⊢ iprop(srcP0_0 c W s b ∗ restP0_0 c W s b) := by
  unfold restP0_0; exact pointsTo_split_subset (Finset.subset_univ _)
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slots0_0_in : iprop(∃ d, owns (c : Thread nD τ) scM0_0 fullShare d) ⊢ (iprop((∃ f, slotP0_0 (F := F) c 0 f) ∗ (∃ f, slotP0_0 (F := F) c 1 f) ∗ ∃ f, slotP0_0 (F := F) c 2 f) : sProp 𝕄) := by
  simp only [scM0_0, owns_whole]
  exact Ring.slots3_split (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_0 fullShare d) := by
  simp only [scM0_0, owns_whole]
  exact Ring.slots3_join (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
end InOut0_0

theorem ring0_0_in (c : Dev nD) :
    iprop((∃ d, owns (c : Thread nD τ) scM0_0 fullShare d) ∗ (semVal ((c : Thread nD τ), SemLoc.dma 11) 0 ∗ semVal ((c : Thread nD τ), SemLoc.dma 12) 0 ∗ semVal ((c : Thread nD τ), SemLoc.dma 13) 0) ∗ hbPt0 c hbM0_0 (V m c main_arg0))
      ⊢ ringAt0_0 c (V m c main_arg0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ring0_0_out (c : Dev nD) :
    ringAt0_0 c (V m c main_arg0) 20
      ⊢ iprop((∃ d, owns (c : Thread nD τ) scM0_0 fullShare d) ∗ (semVal ((c : Thread nD τ), SemLoc.dma 11) 0 ∗ semVal ((c : Thread nD τ), SemLoc.dma 12) 0 ∗ semVal ((c : Thread nD τ), SemLoc.dma 13) 0) ∗ hbPt0 c hbM0_0 (V m c main_arg0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg0)).2; isplitl [HW0]; · iexact HW0
    isplitl [HW1]; · iexact HW1
    iexact HW2

section Canon0_0
omit [FloatOps F]
/-- A slot, its cell and a source from where they start. -/
theorem slot_at {o : Fin 3 → Nat} {s : Fin 3} (e : o = ![s.val, 0, 0]) (h : ∀ a, o a + S1x416x4096.size a ≤ S3x416x4096.size a) :
    (scM0_0.slice (Rect.unit (s := S3x416x4096) o S1x416x4096.size h) (fun _ => rfl)).squeeze S416x4096 squeezes_S1x416x4096_S416x4096 = rslot0_0 s := by
  subst e; rfl
theorem cell_at {o : Fin 1 → Nat} {s : Fin 3} (e : o = ![s.val]) (h : ∀ a, o a + S1.size a ≤ S3.size a) :
    (cc0_scratch1.slice (Rect.unit (s := S3) o S1.size h)).squeeze S_ squeezes_S1_S_ = cellA0_0 s := by
  subst e; rfl
theorem src_at {o : Fin 2 → Nat} {b : Fin 20} (e : o = ![416 * b.val, 0]) (h : ∀ a, o a + S416x4096.size a ≤ S8320x4096.size a) :
    hbM0_0.slice (Rect.unit (s := S8320x4096) o S416x4096.size h) (fun _ => rfl) = srcB0_0 b := by
  subst e; rfl
theorem rstep0_0_A : ∀ t : Fin grid0.N, cond0_0 (grid0.coords t) → cond0_1 (grid0.coords t) → t.val = 0 ∧ (t.val + 1) = 1 := by decide +kernel
theorem rstep0_0_B : ∀ t : Fin grid0.N, ¬cond0_0 (grid0.coords t) → cond0_1 (grid0.coords t) → 1 ≤ t.val ∧ t.val + 2 < 20 ∧ (t.val + 1) = t.val + 1 := by decide +kernel
theorem rstep0_0_C : ∀ t : Fin grid0.N, ¬cond0_0 (grid0.coords t) → ¬cond0_1 (grid0.coords t) → 1 ≤ t.val ∧ 20 ≤ t.val + 2 ∧ t.val < 20 ∧ (t.val + 1) = t.val + 1 := by decide +kernel
theorem coff0_0_1 : ∀ t : Fin grid0.N, cond0_0 (grid0.coords t) → cond0_1 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) :
    (scM0_0.slice (Rect.unit (s := S3x416x4096) ![0, 0, 0] S1x416x4096.size inb_S3x416x4096_S1x416x4096_0_0_0) (fun _ => rfl)).squeeze S416x4096 squeezes_S1x416x4096_S416x4096 = rslot0_0 (Ring.sl 3 t.val) :=
  slot_at (coff0_0_1 t h0 h1) _
theorem coff0_0_2 : ∀ t : Fin grid0.N, cond0_0 (grid0.coords t) → cond0_1 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) :
    (cc0_scratch1.slice (Rect.unit (s := S3) ![0] S1.size inb_S3_S1_0)).squeeze S_ squeezes_S1_S_ = cellA0_0 (Ring.sl 3 t.val) :=
  cell_at (coff0_0_2 t h0 h1) _
theorem coff0_0_3 : ∀ t : Fin grid0.N, cond0_0 (grid0.coords t) → cond0_1 (grid0.coords t) → (![0, 0] : Fin 2 → Nat) = ![416 * (Ring.bk 20 t.val).val, 0] := by decide +kernel
@[sl_canon] theorem canon0_0_3 (t : Fin grid0.N) (h0 : cond0_0 (grid0.coords t)) (h1 : cond0_1 (grid0.coords t)) :
    hbM0_0.slice (Rect.unit (s := S8320x4096) ![0, 0] S416x4096.size inb_S8320x4096_S416x4096_0_0) (fun _ => rfl) = srcB0_0 (Ring.bk 20 t.val) :=
  src_at (coff0_0_3 t h0 h1) _
theorem coff0_0_4 : ∀ t : Fin grid0.N, cond0_0 (grid0.coords t) → cond0_1 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) :
    (scM0_0.slice (Rect.unit (s := S3x416x4096) ![1, 0, 0] S1x416x4096.size inb_S3x416x4096_S1x416x4096_1_0_0) (fun _ => rfl)).squeeze S416x4096 squeezes_S1x416x4096_S416x4096 = rslot0_0 (Ring.sl 3 (t.val + 1)) :=
  slot_at (coff0_0_4 t h0 h1) _
theorem coff0_0_5 : ∀ t : Fin grid0.N, cond0_0 (grid0.coords t) → cond0_1 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) :
    (cc0_scratch1.slice (Rect.unit (s := S3) ![1] S1.size inb_S3_S1_1)).squeeze S_ squeezes_S1_S_ = cellA0_0 (Ring.sl 3 (t.val + 1)) :=
  cell_at (coff0_0_5 t h0 h1) _
theorem coff0_0_6 : ∀ t : Fin grid0.N, cond0_0 (grid0.coords t) → cond0_1 (grid0.coords t) → (![416, 0] : Fin 2 → Nat) = ![416 * (Ring.bk 20 (t.val + 1)).val, 0] := by decide +kernel
@[sl_canon] theorem canon0_0_6 (t : Fin grid0.N) (h0 : cond0_0 (grid0.coords t)) (h1 : cond0_1 (grid0.coords t)) :
    hbM0_0.slice (Rect.unit (s := S8320x4096) ![416, 0] S416x4096.size inb_S8320x4096_S416x4096_416_0) (fun _ => rfl) = srcB0_0 (Ring.bk 20 (t.val + 1)) :=
  src_at (coff0_0_6 t h0 h1) _
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_0.slice (Rect.unit (s := S3x416x4096) (k0_off2 (grid0.coords t)) S1x416x4096.size (k0_off2_inb (grid0.coords t) h1)) (fun _ => rfl)).squeeze S416x4096 squeezes_S1x416x4096_S416x4096 = rslot0_0 (Ring.sl 3 (t.val + 2)) :=
  slot_at (coff0_0_7 t) _
theorem coff0_0_8 : ∀ t : Fin grid0.N, k0_off1 (grid0.coords t) = ![(Ring.sl 3 (t.val + 2)).val] := by decide +kernel
@[sl_canon] theorem canon0_0_8 (t : Fin grid0.N) (h1 : cond0_1 (grid0.coords t)) :
    (cc0_scratch1.slice (Rect.unit (s := S3) (k0_off1 (grid0.coords t)) S1.size (k0_off1_inb (grid0.coords t) h1))).squeeze S_ squeezes_S1_S_ = cellA0_0 (Ring.sl 3 (t.val + 2)) :=
  cell_at (coff0_0_8 t) _
theorem coff0_0_9 : ∀ t : Fin grid0.N, cond0_0 (grid0.coords t) → cond0_1 (grid0.coords t) → k0_off3 (grid0.coords t) = ![416 * (Ring.bk 20 (t.val + 2)).val, 0] := by decide +kernel
@[sl_canon] theorem canon0_0_9 (t : Fin grid0.N) (h0 : cond0_0 (grid0.coords t)) (h1 : cond0_1 (grid0.coords t)) :
    hbM0_0.slice (Rect.unit (s := S8320x4096) (k0_off3 (grid0.coords t)) S416x4096.size (k0_off3_inb (grid0.coords t) h1)) (fun _ => rfl) = srcB0_0 (Ring.bk 20 (t.val + 2)) :=
  src_at (coff0_0_9 t h0 h1) _
theorem coff0_0_10 : ∀ t : Fin grid0.N, k0_off5 (grid0.coords t) = ![(Ring.sl 3 t.val).val, 0, 0] := by decide +kernel
@[sl_canon] theorem canon0_0_10 (t : Fin grid0.N) :
    (scM0_0.slice (Rect.unit (s := S3x416x4096) (k0_off5 (grid0.coords t)) S1x416x4096.size (k0_off5_inb (grid0.coords t))) (fun _ => rfl)).squeeze S416x4096 squeezes_S1x416x4096_S416x4096 = rslot0_0 (Ring.sl 3 t.val) :=
  slot_at (coff0_0_10 t) _
theorem coff0_0_11 : ∀ t : Fin grid0.N, k0_off4 (grid0.coords t) = ![(Ring.sl 3 t.val).val] := by decide +kernel
@[sl_canon] theorem canon0_0_11 (t : Fin grid0.N) :
    (cc0_scratch1.slice (Rect.unit (s := S3) (k0_off4 (grid0.coords t)) S1.size (k0_off4_inb (grid0.coords t)))).squeeze S_ squeezes_S1_S_ = cellA0_0 (Ring.sl 3 t.val) :=
  cell_at (coff0_0_11 t) _
theorem coff0_0_12 : ∀ t : Fin grid0.N, ¬cond0_0 (grid0.coords t) → cond0_1 (grid0.coords t) → k0_off3 (grid0.coords t) = ![416 * (Ring.bk 20 (t.val + 2)).val, 0] := by decide +kernel
@[sl_canon] theorem canon0_0_12 (t : Fin grid0.N) (h0 : ¬cond0_0 (grid0.coords t)) (h1 : cond0_1 (grid0.coords t)) :
    hbM0_0.slice (Rect.unit (s := S8320x4096) (k0_off3 (grid0.coords t)) S416x4096.size (k0_off3_inb (grid0.coords t) h1)) (fun _ => rfl) = srcB0_0 (Ring.bk 20 (t.val + 2)) :=
  src_at (coff0_0_12 t h0 h1) _
theorem coff0_0_13 : ∀ t : Fin grid0.N, k0_off7 (grid0.coords t) = ![(Ring.sl 3 t.val).val, 0, 0] := by decide +kernel
instance (priority := high) closedOff0_0_13 (t : Fin grid0.N) : ClosedOff (k0_off7 (grid0.coords t)) := ⟨![(Ring.sl 3 t.val).val, 0, 0], coff0_0_13 t⟩
end Canon0_0

/-- One block of rows of the operand left in place, as the body loads it from a slot. -/
def slab (c : Dev nD) (W : HbBuf0 (F := F) c hbM0_0) (b : Fin 20) : Vec F S1x416x4096 .bf16 := fun y =>
  (srcB0_0 b).view.read (Elt F) W (ix2 (y 1) (y 2))

theorem cast_apply (v : Vec F S1x416x4096 .bf16) (h : S1x416x4096.ShapeCasts S416x4096) (i : Fin 416) (j : Fin 4096) :
    shapeCast S416x4096 v h (ix2 i j) = v (ix3 0 i j) := by
  pointwise

theorem slab_eq (c : Dev nD) (W : HbBuf0 (F := F) c hbM0_0) (b : Fin 20) (s : Fin 3) (f : HbBuf0 (F := F) c (rslot0_0 s))
    (off : Fin 3 → ℕ) (h : ∀ a, off a + S1x416x4096.size a ≤ S3x416x4096.size a) (e : off = ![s.val, 0, 0]) :
    View.readAt (Elt F) scM0_0.view (Rect.unit (s := S3x416x4096) off S1x416x4096.size h).toLoadRect (landed0_0 c W s b f)
      = slab c W b := by
  subst e
  have key : (rslot0_0 s).view.read (Elt F) (landed0_0 c W s b f) = (srcB0_0 b).view.read (Elt F) W := by
    exact View.read_writes_whole _ _ _
  funext y
  obtain ⟨a, i, j, rfl⟩ : ∃ (a : Fin 1) (i : Fin 416) (j : Fin 4096), y = ix3 a i j := ⟨y 0, y 1, y 2, eq_ix3 y⟩
  obtain rfl : a = 0 := Subsingleton.elim _ _
  have k2 := congrFun key (ix2 i j)
  have hc : S1x416x4096.ShapeCasts S416x4096 := by decide
  have k3 := Memref.read_squeeze_slice scM0_0 (Rect.unit (s := S3x416x4096) ![s.val, 0, 0] S1x416x4096.size h) (fun _ => rfl) squeezes_S1x416x4096_S416x4096 hc (landed0_0 c W s b f)
  have k4 := (congrFun k3 (ix2 i j)).symm.trans k2
  exact (cast_apply _ hc i j).symm.trans k4

end Cert.MlpUpBwd
-- ==== Proof.MlpUpBwd.RunA.lean ====
/- The first point. -/
module

public import proofs.«01_k».proof.Proof.MlpUpBwd.Runs

@[expose] public section

set_option synthInstance.maxSize 4096
set_option maxRecDepth 16384

noncomputable section

namespace Cert.MlpUpBwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
theorem run_A (c : Dev nD) (t : Fin cfg0.N) (arg2 : Memref sig .tc .vmem S1024x4096 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .vmem S416x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (hc0 : cond0_0 (grid0.coords t)) (hc1 : cond0_1 (grid0.coords t)) (hc2 : k0_cond3 (grid0.coords t) = 1#1) (hc3 : ¬k0_cond4 (grid0.coords t) = 1#1)
    (x0 : Vec F S1024x4096 .bf16) (x1 : Vec F S416x1024 .f32) (x2 : Vec F S1x1024 .f32) (x3 : Vec F S416x1024 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay6 (slab c fh0 (Ring.bk 20 t.val)) x0 x1 x2 x3) ∗ owns (c : Thread nD τ) arg7 fullShare (k0_pay7 (slab c fh0 (Ring.bk 20 t.val)) x0 x1 x2 x3) ∗ owns (c : Thread nD τ) arg8 fullShare (k0_pay5 (slab c fh0 (Ring.bk 20 t.val)) x0 x1) ∗ Ring.inflight (flightW0_0 c fh0) (Ring.sl 3 (t.val + 1)) (Ring.bk 20 (t.val + 1)) ∗ Ring.inflight (flightW0_0 c fh0) (Ring.sl 3 (t.val + 2)) (Ring.bk 20 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_mlp_up_bwd_norm (grid0.coords t) (Memref.whole main_arg0) (Memref.isWhole_whole _) arg2 harg2 arg3 harg3 arg4 harg4 arg5 harg5 arg6 harg6 arg7 harg7 arg8 harg8 scM0_0 (Memref.isWhole_whole _) cc0_scratch1) K := by
    intro W K
    have : Fact (cond0_0 (grid0.coords t)) := ⟨hc0⟩
    have : Fact (cond0_1 (grid0.coords t)) := ⟨hc1⟩
    have : Fact (k0_cond3 (grid0.coords t) = 1#1) := ⟨hc2⟩
    have : Fact (¬k0_cond4 (grid0.coords t) = 1#1) := ⟨hc3⟩
    simp only [cc0_mlp_up_bwd_norm_eq_skeleton]; unfold cc0_mlp_up_bwd_norm_skel
    simp only [k0_part1_eq_skeleton, k0_part2_eq_skeleton]
    have hcanon0 := canon0_0_1 t hc0 hc1
    have hcanon1 := canon0_0_2 t hc0 hc1
    have hcanon2 := canon0_0_3 t hc0 hc1
    have hcanon3 := canon0_0_4 t hc0 hc1
    have hcanon4 := canon0_0_5 t hc0 hc1
    have hcanon5 := canon0_0_6 t hc0 hc1
    unfold owns Ring.free Ring.inflight
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
    ihave Hsp0_0_0 := (src0_0_split c fh0 (Ring.sl 3 t.val) (Ring.bk 20 t.val)).1 $$ Hw0_0_0
    icases Hsp0_0_0 with ⟨Hh0_0_0, Hr0_0_0⟩
    ihave Hsp0_0_1 := (src0_0_split c fh0 (Ring.sl 3 (t.val + 1)) (Ring.bk 20 (t.val + 1))).1 $$ Hw0_0_1
    icases Hsp0_0_1 with ⟨Hh0_0_1, Hr0_0_1⟩
    ihave Hsp0_0_2 := (src0_0_split c fh0 (Ring.sl 3 (t.val + 2)) (Ring.bk 20 (t.val + 2))).1 $$ Hw0_0_2
    icases Hsp0_0_2 with ⟨Hh0_0_2, Hr0_0_2⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; unfold run_A.sl.v35
      frame_out
      exact (View.read_writes_full _ _ _ _ _).trans (congrArg (fun z => k0_pay6 z x0 x1 x2 x3) (slab_eq c fh0 (Ring.bk 20 t.val) (Ring.sl 3 t.val) _ _ _ (coff0_0_13 t)))
    isplitl [H5]
    · iexists _; isplitr; swap; · iexact H5
      ipureintro; frame_out
      exact (View.read_writes_full _ _ _ _ _).trans (congrArg (fun z => k0_pay7 z x0 x1 x2 x3) (slab_eq c fh0 (Ring.bk 20 t.val) (Ring.sl 3 t.val) _ _ _ (coff0_0_13 t)))
    isplitl [H6]
    · iexists _; isplitr; swap; · iexact H6
      ipureintro; frame_out
      exact (View.read_writes_full _ _ _ _ _).trans (congrArg (fun z => k0_pay5 z x0 x1) (slab_eq c fh0 (Ring.bk 20 t.val) (Ring.sl 3 t.val) _ _ _ (coff0_0_13 t)))
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 20 t.val)).2; isplitl [Hh0_0_0]; · iexact Hh0_0_0
      iexact Hr0_0_0
    iexists _; iexact HW

end Cert.MlpUpBwd
-- ==== Proof.MlpUpBwd.RunB.lean ====
/- A point that starts the copy two blocks ahead. -/
module

public import proofs.«01_k».proof.Proof.MlpUpBwd.Runs

@[expose] public section

set_option synthInstance.maxSize 4096
set_option maxRecDepth 16384

noncomputable section

namespace Cert.MlpUpBwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
theorem run_B (c : Dev nD) (t : Fin cfg0.N) (arg2 : Memref sig .tc .vmem S1024x4096 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .vmem S416x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (hc0 : ¬cond0_0 (grid0.coords t)) (hc1 : cond0_1 (grid0.coords t)) (hc2 : ¬k0_cond3 (grid0.coords t) = 1#1) (hc3 : k0_cond4 (grid0.coords t) = 1#1)
    (x0 : Vec F S1024x4096 .bf16) (x1 : Vec F S416x1024 .f32) (x2 : Vec F S1x1024 .f32) (x3 : Vec F S416x1024 .f32) (xo : Vec F S1x1024 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo ∗ Ring.inflight (flightW0_0 c fh0) (Ring.sl 3 t.val) (Ring.bk 20 t.val) ∗ Ring.inflight (flightW0_0 c fh0) (Ring.sl 3 (t.val + 1)) (Ring.bk 20 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay6 (slab c fh0 (Ring.bk 20 t.val)) x0 x1 x2 x3) ∗ owns (c : Thread nD τ) arg7 fullShare (k0_pay7 (slab c fh0 (Ring.bk 20 t.val)) x0 x1 x2 x3) ∗ owns (c : Thread nD τ) arg8 fullShare (k0_pay1 xo (k0_pay5 (slab c fh0 (Ring.bk 20 t.val)) x0 x1)) ∗ Ring.inflight (flightW0_0 c fh0) (Ring.sl 3 (t.val + 1)) (Ring.bk 20 (t.val + 1)) ∗ Ring.inflight (flightW0_0 c fh0) (Ring.sl 3 (t.val + 2)) (Ring.bk 20 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_mlp_up_bwd_norm (grid0.coords t) (Memref.whole main_arg0) (Memref.isWhole_whole _) arg2 harg2 arg3 harg3 arg4 harg4 arg5 harg5 arg6 harg6 arg7 harg7 arg8 harg8 scM0_0 (Memref.isWhole_whole _) cc0_scratch1) K := by
    intro W K
    have : Fact (¬cond0_0 (grid0.coords t)) := ⟨hc0⟩
    have : Fact (cond0_1 (grid0.coords t)) := ⟨hc1⟩
    have : Fact (¬k0_cond3 (grid0.coords t) = 1#1) := ⟨hc2⟩
    have : Fact (k0_cond4 (grid0.coords t) = 1#1) := ⟨hc3⟩
    simp only [cc0_mlp_up_bwd_norm_eq_skeleton]; unfold cc0_mlp_up_bwd_norm_skel
    simp only [k0_part1_eq_skeleton, k0_part2_eq_skeleton]
    unfold owns Ring.free Ring.inflight
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh0 (Ring.sl 3 (t.val + 2)) (Ring.bk 20 (t.val + 2))).1 $$ Hw0_0_2
    icases Hsp0_0_2 with ⟨Hh0_0_2, Hr0_0_2⟩
    obtain rfl := harg2.eq_unread hf0; obtain rfl := harg3.eq_unread hf1; obtain rfl := harg4.eq_unread hf2; obtain rfl := harg5.eq_unread hf3; obtain rfl := harg8.eq_unread hf6
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; unfold run_B.sl.v35
      frame_out
      exact (View.read_writes_full _ _ _ _ _).trans (congrArg (fun z => k0_pay6 z x0 x1 x2 x3) (slab_eq c fh0 (Ring.bk 20 t.val) (Ring.sl 3 t.val) _ _ _ (coff0_0_13 t)))
    isplitl [H5]
    · iexists _; isplitr; swap; · iexact H5
      ipureintro; frame_out
      exact (View.read_writes_full _ _ _ _ _).trans (congrArg (fun z => k0_pay7 z x0 x1 x2 x3) (slab_eq c fh0 (Ring.bk 20 t.val) (Ring.sl 3 t.val) _ _ _ (coff0_0_13 t)))
    isplitl [H6]
    · iexists _; isplitr; swap; · iexact H6
      ipureintro; frame_out
      exact (View.read_writes_full _ _ _ _ _).trans (congrArg (fun z => k0_pay1 xo (k0_pay5 z x0 x1)) (slab_eq c fh0 (Ring.bk 20 t.val) (Ring.sl 3 t.val) _ _ _ (coff0_0_13 t)))
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    iexists _; iexact HW

end Cert.MlpUpBwd
-- ==== Proof.MlpUpBwd.RunC.lean ====
/- One of the last two points, which start no copy. -/
module

public import proofs.«01_k».proof.Proof.MlpUpBwd.Runs

@[expose] public section

set_option synthInstance.maxSize 4096
set_option maxRecDepth 16384

noncomputable section

namespace Cert.MlpUpBwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in
theorem run_C (c : Dev nD) (t : Fin cfg0.N) (arg2 : Memref sig .tc .vmem S1024x4096 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .vmem S416x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (hc0 : ¬cond0_0 (grid0.coords t)) (hc1 : ¬cond0_1 (grid0.coords t)) (hc2 : ¬k0_cond3 (grid0.coords t) = 1#1) (hc3 : k0_cond4 (grid0.coords t) = 1#1)
    (x0 : Vec F S1024x4096 .bf16) (x1 : Vec F S416x1024 .f32) (x2 : Vec F S1x1024 .f32) (x3 : Vec F S416x1024 .f32) (xo : Vec F S1x1024 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xo ∗ Ring.inflight (flightW0_0 c fh0) (Ring.sl 3 t.val) (Ring.bk 20 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay6 (slab c fh0 (Ring.bk 20 t.val)) x0 x1 x2 x3) ∗ owns (c : Thread nD τ) arg7 fullShare (k0_pay7 (slab c fh0 (Ring.bk 20 t.val)) x0 x1 x2 x3) ∗ owns (c : Thread nD τ) arg8 fullShare (k0_pay1 xo (k0_pay5 (slab c fh0 (Ring.bk 20 t.val)) x0 x1)) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0_mlp_up_bwd_norm (grid0.coords t) (Memref.whole main_arg0) (Memref.isWhole_whole _) arg2 harg2 arg3 harg3 arg4 harg4 arg5 harg5 arg6 harg6 arg7 harg7 arg8 harg8 scM0_0 (Memref.isWhole_whole _) cc0_scratch1) K := by
    intro W K
    have : Fact (¬cond0_0 (grid0.coords t)) := ⟨hc0⟩
    have : Fact (¬cond0_1 (grid0.coords t)) := ⟨hc1⟩
    have : Fact (¬k0_cond3 (grid0.coords t) = 1#1) := ⟨hc2⟩
    have : Fact (k0_cond4 (grid0.coords t) = 1#1) := ⟨hc3⟩
    simp only [cc0_mlp_up_bwd_norm_eq_skeleton]; unfold cc0_mlp_up_bwd_norm_skel
    simp only [k0_part1_eq_skeleton, k0_part2_eq_skeleton]
    unfold owns Ring.free Ring.inflight
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%ff0_0_0, Hf0_0_0, Hrf0_0_0⟩, Hro0_0_1, ⟨Hc0_0_2, ⟨%fs0_0_2, Hs0_0_2, Hw0_0_2⟩⟩, HW, Hk⟩
    obtain rfl := harg2.eq_unread hf0; obtain rfl := harg3.eq_unread hf1; obtain rfl := harg4.eq_unread hf2; obtain rfl := harg5.eq_unread hf3; obtain rfl := harg8.eq_unread hf6
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; unfold run_C.sl.v35
      frame_out
      exact (View.read_writes_full _ _ _ _ _).trans (congrArg (fun z => k0_pay6 z x0 x1 x2 x3) (slab_eq c fh0 (Ring.bk 20 t.val) (Ring.sl 3 t.val) _ _ _ (coff0_0_13 t)))
    isplitl [H5]
    · iexists _; isplitr; swap; · iexact H5
      ipureintro; frame_out
      exact (View.read_writes_full _ _ _ _ _).trans (congrArg (fun z => k0_pay7 z x0 x1 x2 x3) (slab_eq c fh0 (Ring.bk 20 t.val) (Ring.sl 3 t.val) _ _ _ (coff0_0_13 t)))
    isplitl [H6]
    · iexists _; isplitr; swap; · iexact H6
      ipureintro; frame_out
      exact (View.read_writes_full _ _ _ _ _).trans (congrArg (fun z => k0_pay1 xo (k0_pay5 z x0 x1)) (slab_eq c fh0 (Ring.bk 20 t.val) (Ring.sl 3 t.val) _ _ _ (coff0_0_13 t)))
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    iexists _; iexact HW

end Cert.MlpUpBwd
-- ==== Proof.MlpUpBwd.Frame.lean ====
/- The whole run of the second half of the MLP's backward pass, each output window at what its point stores. -/
module

public import proofs.«01_k».proof.Proof.MlpUpBwd.RunA
public import proofs.«01_k».proof.Proof.MlpUpBwd.RunB
public import proofs.«01_k».proof.Proof.MlpUpBwd.RunC
public import Idealize.ShloMosaic.Lib.Pipeline.TableIdle

@[expose] public section

set_option synthInstance.maxSize 4096
set_option maxRecDepth 16384

noncomputable section

namespace Cert.MlpUpBwd

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
def PhiR (c : Dev nD) (k : ℕ) : sProp 𝕄 := iprop((∃ r, prngReg c r) ∗ ringAt0_0 c (V m c main_arg0) k)

/-- The row of gain gradients after each point: every block's so far, added. -/
def row (c : Dev nD) : (n : ℕ) → n < cfg0.N → Vec F S1x1024 .f32
  | 0, h => k0_pay5 (slab c (V m c main_arg0) (Ring.bk 20 0)) (iblk m c 0 ⟨0, h⟩) (iblk m c 1 ⟨0, h⟩)
  | n + 1, h => k0_pay1 (row c n (Nat.lt_of_succ_lt h))
      (k0_pay5 (slab c (V m c main_arg0) (Ring.bk 20 (n + 1))) (iblk m c 0 ⟨n + 1, h⟩) (iblk m c 1 ⟨n + 1, h⟩))

theorem row_zero (c : Dev nD) (t : Fin cfg0.N) (h : t.val = 0) :
    row m c t.val t.isLt = k0_pay5 (slab c (V m c main_arg0) (Ring.bk 20 t.val)) (iblk m c 0 t) (iblk m c 1 t) := by
  obtain ⟨_ | n, ht⟩ := t
  · rfl
  · exact absurd h (Nat.succ_ne_zero n)

theorem row_succ (c : Dev nD) (t : Fin cfg0.N) (h : 0 < t.val) :
    row m c t.val t.isLt = k0_pay1 (row m c (t.val - 1) (Nat.lt_of_le_of_lt (Nat.sub_le _ _) t.isLt))
      (k0_pay5 (slab c (V m c main_arg0) (Ring.bk 20 t.val)) (iblk m c 0 t) (iblk m c 1 t)) := by
  obtain ⟨_ | n, ht⟩ := t
  · exact absurd h (lt_irrefl 0)
  · rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay6 (slab c (V m c main_arg0) (Ring.bk 20 t.val)) (iblk m c 0 t) (iblk m c 1 t) (iblk m c 2 t) (iblk m c 3 t)
    | ⟨5, _⟩ => k0_pay7 (slab c (V m c main_arg0) (Ring.bk 20 t.val)) (iblk m c 0 t) (iblk m c 1 t) (iblk m c 2 t) (iblk m c 3 t)
    | ⟨6, _⟩ => row m c t.val t.isLt
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.val_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = k0_pay6 (slab c (V m c main_arg0) (Ring.bk 20 t.val)) (iblk m c 0 t) (iblk m c 1 t) (iblk m c 2 t) (iblk m c 3 t) := by dsimp only [dats]
theorem after0_5 (c : Dev nD) (t : Fin cfg0.N) : (dats m 0 c).after 5 t = k0_pay7 (slab c (V m c main_arg0) (Ring.bk 20 t.val)) (iblk m c 0 t) (iblk m c 1 t) (iblk m c 2 t) (iblk m c 3 t) := by dsimp only [dats]
theorem after0_6 (c : Dev nD) (t : Fin cfg0.N) : (dats m 0 c).after 6 t = row m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem live (w : Fin cfg0.W) (hw : w.val < 6) : ∀ t : Fin cfg0.N, cfg0.idle w (grid0.coords t) = false := by
  revert w; decide +kernel
theorem live6 : ∀ t : Fin cfg0.N, cfg0.idle 6 (grid0.coords t) = false := by decide +kernel
/-- Whether the row's buffer holds nothing the body stored: only before the first point and after the last. -/
def freshTab : ℕ → Bool
  | 0 => true
  | n + 1 => (0x80000 : ℕ).testBit n
theorem freshTab_step : ∀ t : Fin cfg0.N,
    freshTab (t.val + 1) = ((cfg0.win 6).flush t || (cfg0.idle 6 (cfg0.grid.coords t) && freshTab t.val)) := by decide +kernel
theorem fresh_eq (t : Fin cfg0.N) : cfg0.fresh 6 t.val = freshTab t.val :=
  Pipeline.Cfg.fresh_tab cfg0 6 freshTab rfl freshTab_step t.val (Nat.le_of_lt t.isLt)
theorem notFresh : ∀ t : Fin cfg0.N, 0 < t.val → cfg0.fresh 6 t.val = false := by
  intro t; rw [fresh_eq t]; revert t; decide +kernel
theorem hcarry (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [live6 t] at hi
  exact absurd hi Bool.false_ne_true
theorem before0_6 (c : Dev nD) (t : Fin cfg0.N) (h : 0 < t.val) (d) :
    (dats m 0 c).before 6 t d = row m c (t.val - 1) (Nat.lt_of_le_of_lt (Nat.sub_le _ _) t.isLt) := by
  rw [Dat.before_out_traj _ 6 rfl (fun _ _ => rfl) (hcarry m c) t.val t rfl d,
    if_neg (by rw [notFresh t h]; exact Bool.false_ne_true)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).leavesExact 0 t = owns (c : Thread nD τ) (ms0_0 t) fullShare ((dats m 0 c).after 0 t) from by
    unfold Dat.leavesExact; rw [live 0 (by decide) t], after0_0]
  rw [show (dats m 0 c).leavesExact 1 t = owns (c : Thread nD τ) (ms0_1 t) fullShare ((dats m 0 c).after 1 t) from by
    unfold Dat.leavesExact; rw [live 1 (by decide) t], after0_1]
  rw [show (dats m 0 c).leavesExact 2 t = owns (c : Thread nD τ) (ms0_2 t) fullShare ((dats m 0 c).after 2 t) from by
    unfold Dat.leavesExact; rw [live 2 (by decide) t], after0_2]
  rw [show (dats m 0 c).leavesExact 3 t = owns (c : Thread nD τ) (ms0_3 t) fullShare ((dats m 0 c).after 3 t) from by
    unfold Dat.leavesExact; rw [live 3 (by decide) t], after0_3]
  rw [show (dats m 0 c).leavesExact 4 t = owns (c : Thread nD τ) (ms0_4 t) fullShare ((dats m 0 c).after 4 t) from by
    unfold Dat.leavesExact; rw [live 4 (by decide) t], after0_4]
  rw [show (dats m 0 c).leavesExact 5 t = owns (c : Thread nD τ) (ms0_5 t) fullShare ((dats m 0 c).after 5 t) from by
    unfold Dat.leavesExact; rw [live 5 (by decide) t], after0_5]
  rw [show (dats m 0 c).leavesExact 6 t = owns (c : Thread nD τ) (ms0_6 t) fullShare ((dats m 0 c).after 6 t) from by
    unfold Dat.leavesExact; rw [live6 t], after0_6]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 20 := N_0
  have hN : t.val < 20 := lt_of_lt_of_eq t.isLt (show cfg0.N = 20 from N_0)
  by_cases h0 : t.val % 20 = 0
  · by_cases h1 : t.val < 18
    · have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq3' _ _ _ t.val hK00 (by decide : 3 ≤ 20), Ring.At3_one' _ _ _ _ t.val hK00 (by decide : 3 ≤ 20)]
      rw [row_zero m c t hK00]
      iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((run_A c t _ _ _ _ _ _ _ _ _ _ _ _ _ _ ((hcond0_0 t).mpr h0) ((hcond0_1 t).mpr h1) ((hcond0_2 t).mpr (by omega)) (fun h => absurd ((hcond0_3 t).mp h) (by omega)) (iblk m c 0 t) (iblk m c 1 t) (iblk m c 2 t) (iblk m c 3 t) (V m c main_arg0)) W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, H3, H4, H5, H6, Hfa0_0', Hfb0_0', Hfc0_0', ⟨%W', HW'⟩⟩
      isplitl [Hg Hfa0_0' Hfb0_0' Hfc0_0']
      · isplitl [Hg]; · iexact Hg
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6
    · exfalso; omega
  · by_cases h1 : t.val < 18
    · have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      have hp : 0 < t.val := by omega
      rw [row_succ m c t hp]
      simp only [before0_6 m c t hp]
      iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((run_B c t _ _ _ _ _ _ _ _ _ _ _ _ _ _ (fun h => h0 ((hcond0_0 t).mp h)) ((hcond0_1 t).mpr h1) (fun h => absurd ((hcond0_2 t).mp h) (by omega)) ((hcond0_3 t).mpr hp) (iblk m c 0 t) (iblk m c 1 t) (iblk m c 2 t) (iblk m c 3 t) _ (V m c main_arg0)) W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, H3, H4, H5, H6, Hfa0_0', Hfb0_0', Hfc0_0', ⟨%W', HW'⟩⟩
      isplitl [Hg Hfa0_0' Hfb0_0' Hfc0_0']
      · isplitl [Hg]; · iexact Hg
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6
    · have hr0 := rstep0_0_C t (fun h => h0 ((hcond0_0 t).mp h)) (fun h => h1 ((hcond0_1 t).mp h))
      obtain ⟨hK10, hKB0, hKlt0, hKs0⟩ := hr0
      rw [if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      have hp : 0 < t.val := by omega
      rw [row_succ m c t hp]
      simp only [before0_6 m c t hp]
      iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply ((run_C c t _ _ _ _ _ _ _ _ _ _ _ _ _ _ (fun h => h0 ((hcond0_0 t).mp h)) (fun h => h1 ((hcond0_1 t).mp h)) (fun h => absurd ((hcond0_2 t).mp h) (by omega)) ((hcond0_3 t).mpr hp) (iblk m c 0 t) (iblk m c 1 t) (iblk m c 2 t) (iblk m c 3 t) _ (V m c main_arg0)) W _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [Hfr0_0_0]; · iexact Hfr0_0_0
      isplitl [Hfr0_0_1]; · iexact Hfr0_0_1
      isplitl [Hfr0_0_2]; · iexact Hfr0_0_2
      isplitl [HW]; · iexact HW
      iintro ⟨H0, H1, H2, H3, H4, H5, H6, Hfa0_0', Hfb0_0', Hfc0_0', ⟨%W', HW'⟩⟩
      isplitl [Hg Hfa0_0' Hfb0_0' Hfc0_0']
      · isplitl [Hg]; · iexact Hg
        iapply (Ring.with_homes (Idealize.SL.BI.Entails.refl _))
        isplitl [Hfa0_0']; · iexact Hfa0_0'
        isplitl [Hfb0_0']; · iexact Hfb0_0'
        iexact Hfc0_0'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HR0_0, Hg, ⟨Hq0, Hq1, Hq2⟩, Hh0⟩
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 20 by rw [N_0]]
  iintro ⟨Hg, HR0_0⟩
  ihave HX0_0 := (ring0_0_out (F := F) m c) $$ HR0_0
  icases HX0_0 with ⟨HR0_0, ⟨Hq0, Hq1, Hq2⟩, Hh0⟩
  isplitl [HR0_0]
  · iexact HR0_0
  isplitl [Hg]
  · iexact Hg
  isplitl [Hq0 Hq1 Hq2]
  · isplitl [Hq0]; · iexact Hq0
    isplitl [Hq1]; · iexact Hq1
    iexact Hq2
  iexact Hh0

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.MlpUpBwd
-- ==== Proof.NormGrad.lean ====
/- The gradient of a row divided by its root mean square, over the extended reals: the kernels' form and the form
differentiation gives agree on every row, infinite entries included. -/
module

public import Idealize.ShloMosaic.Lib.IdealHost

@[expose] public section

set_option maxRecDepth 16384

noncomputable section

namespace Cert.NormGrad

open Idealize.ShloMosaic

/-- A row's length, as the programs write it. -/
def len : EReal := Ideal.ofBits .f32 0x44800000#32

/-- What is added to the mean square. -/
def eps : EReal := Ideal.ofBits .f32 0x358637BD#32

/-- Minus one half. -/
def mhalf : EReal := Ideal.ofBits .f32 0xBF000000#32

theorem len_eq : len = ((1024 : ℝ) : EReal) := by
  unfold len
  simp [Ideal.ofBits, Ideal.ieee, -EReal.coe_mul]; norm_num

theorem mhalf_eq : mhalf = ((-(1 / 2) : ℝ) : EReal) := by
  unfold mhalf
  simp [Ideal.ofBits, Ideal.ieee, -EReal.coe_mul, -EReal.coe_neg]; norm_num

theorem eps_eq : ∃ e : ℝ, 0 < e ∧ eps = (e : EReal) := by
  unfold eps
  refine ⟨_, ?_, by simp [Ideal.ofBits, Ideal.ieee, -EReal.coe_mul]; rfl⟩
  positivity

theorem div_len (y : EReal) : Ideal.div y len = y * ((1 / 1024 : ℝ) : EReal) := by
  have h0 : len ≠ 0 := by rw [len_eq]; exact EReal.coe_ne_zero.mpr (by norm_num)
  unfold Ideal.div
  rw [if_neg h0, len_eq, ← EReal.coe_inv]
  norm_num

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem mul_sum {ι : Type} (s : Finset ι) (r : ℝ) (hr : 0 ≤ r) (f : ι → EReal) : ∑ k ∈ s, (r : EReal) * f k = (r : EReal) * ∑ k ∈ s, f k := by
  classical
  induction s using Finset.induction_on with
  | empty => simp
  | insert a s ha ih =>
    rw [Finset.sum_insert ha, Finset.sum_insert ha, ih,
      EReal.left_distrib_of_nonneg_of_ne_top (EReal.coe_nonneg.mpr hr) (EReal.coe_ne_top r)]

theorem sq_nonneg (x : EReal) : 0 ≤ x * x := by
  induction x with
  | bot => simp
  | top => simp
  | coe a => rw [← EReal.coe_mul]; exact EReal.coe_nonneg.mpr (mul_self_nonneg a)

theorem div_coe {l : ℝ} (hl : 0 < l) (L : EReal) (hL : L = (l : EReal)) (y : EReal) : Ideal.div y L = y * ((l⁻¹ : ℝ) : EReal) := by
  unfold Ideal.div
  rw [if_neg (hL ▸ EReal.coe_ne_zero.mpr hl.ne'), hL, ← EReal.coe_inv]

theorem rsqrt_coe (s : ℝ) (h : 0 < s) : Ideal.rsqrt (s : EReal) = (((Real.sqrt s)⁻¹ : ℝ) : EReal) := by
  show (if s < 0 then _ else if s = 0 then _ else _) = _
  rw [if_neg (not_lt.mpr h.le), if_neg h.ne']

theorem two_mul_ereal (y : EReal) : y + y = ((2 : ℝ) : EReal) * y := by
  have h : ((2 : ℝ) : EReal) = 1 + 1 := by norm_cast
  rw [h, EReal.right_distrib_of_nonneg (by norm_num) (by norm_num), one_mul]

variable {n : ℕ}

/-- A row's mean square, and what is added to it. -/
def msOf (L : EReal) (x : Fin n → EReal) : EReal := Ideal.div (∑ k : Fin n, x k * x k) L + eps

/-- The reciprocal of its root. -/
def rrOf (L : EReal) (x : Fin n → EReal) : EReal := Ideal.rsqrt (msOf L x)

theorem ms_casesOf {l : ℝ} (hl : 0 < l) (L : EReal) (hL : L = (l : EReal)) (x : Fin n → EReal) :
    msOf L x = ⊤ ∨ ((∀ k, ∃ a : ℝ, x k = (a : EReal)) ∧ ∃ s : ℝ, 0 < s ∧ msOf L x = (s : EReal)) := by
  obtain ⟨e, he, hE⟩ := eps_eq
  have hd' := div_coe hl L hL
  by_cases h : ∀ k, ∃ a : ℝ, x k = (a : EReal)
  · refine Or.inr ⟨h, ?_⟩
    choose a ha using h
    refine ⟨(∑ k : Fin n, a k * a k) * l⁻¹ + e, ?_, ?_⟩
    · have : 0 ≤ ∑ k : Fin n, a k * a k := Finset.sum_nonneg fun k _ => mul_self_nonneg _
      exact add_pos_of_nonneg_of_pos (mul_nonneg this (inv_nonneg.mpr hl.le)) he
    · unfold msOf
      rw [hd', hE]
      simp only [ha, ← EReal.coe_mul]
      rw [sum_coe, ← EReal.coe_mul, ← EReal.coe_add]
  · refine Or.inl ?_
    push Not at h
    obtain ⟨k, hk⟩ := h
    have ht : x k * x k = ⊤ := by
      generalize x k = z at hk
      induction z with
      | bot => simp
      | top => simp
      | coe a => exact absurd rfl (hk a)
    have hs : ∑ k : Fin n, x k * x k = ⊤ := by
      refine top_le_iff.mp ?_
      rw [← ht]
      exact Finset.single_le_sum (f := fun k => x k * x k) (fun i _ => sq_nonneg _) (Finset.mem_univ k)
    unfold msOf
    rw [hs, hd', hE, EReal.top_mul_coe_of_pos (inv_pos.mpr hl), EReal.top_add_coe]

/-- The row's gradient against the gradients `D` of the normalised row, as the kernels compute it. -/
def dxOf (L : EReal) (x D : Fin n → EReal) (j : Fin n) : EReal :=
  rrOf L x * (D j - x j * rrOf L x * Ideal.div (∑ k : Fin n, x k * rrOf L x * D k) L)

/-- What differentiating the mean square passes back to every entry, halved. -/
def coefOf (L : EReal) (x D : Fin n → EReal) : EReal :=
  Ideal.div ((∑ k : Fin n, x k * D k) * (mhalf * Ideal.div (rrOf L x) (msOf L x))) L

theorem dx_eqOf {l : ℝ} (hl : 0 < l) (L : EReal) (hL : L = (l : EReal)) (x D : Fin n → EReal) (j : Fin n) :
    D j * rrOf L x + x j * coefOf L x D + coefOf L x D * x j = dxOf L x D j := by
  have hd' := div_coe hl L hL
  rcases ms_casesOf hl L hL x with h | ⟨hx, s, hs, h⟩
  · have hr : rrOf L x = 0 := by unfold rrOf; rw [h]; rfl
    have hd : Ideal.div 0 ⊤ = 0 := by unfold Ideal.div; rw [if_neg (by simp), zero_mul]
    unfold dxOf coefOf
    rw [hr, h, hd]
    simp [hd']
  · obtain ⟨a, ha⟩ := hx j
    have hr : rrOf L x = (((Real.sqrt s)⁻¹ : ℝ) : EReal) := by unfold rrOf; rw [h, rsqrt_coe s hs]
    set ρ : ℝ := (Real.sqrt s)⁻¹ with hρ
    have hρ0 : 0 ≤ ρ := inv_nonneg.mpr (Real.sqrt_nonneg s)
    have hρ2 : ρ * ρ = s⁻¹ := by rw [hρ, ← mul_inv, Real.mul_self_sqrt hs.le]
    have hd : Ideal.div (ρ : EReal) (s : EReal) = ((ρ * s⁻¹ : ℝ) : EReal) := by
      unfold Ideal.div
      rw [if_neg (EReal.coe_ne_zero.mpr hs.ne'), ← EReal.coe_inv, EReal.coe_mul]
    have hsum : ∑ k : Fin n, x k * rrOf L x * D k = (ρ : EReal) * ∑ k : Fin n, x k * D k := by
      rw [← mul_sum _ _ hρ0]
      refine Finset.sum_congr rfl fun k _ => ?_
      rw [hr, mul_comm (x k), mul_assoc]
    unfold dxOf coefOf
    rw [hsum, hr, h, hd, hd', hd', ha, mhalf_eq]
    generalize ∑ k : Fin n, x k * D k = B
    generalize D j = d
    have e1 : (a : EReal) * (B * (((-(1 / 2) : ℝ) : EReal) * ((ρ * s⁻¹ : ℝ) : EReal)) * ((l⁻¹ : ℝ) : EReal))
        = ((a * (-(1 / 2)) * (ρ * s⁻¹) * l⁻¹ : ℝ) : EReal) * B := by
      simp only [EReal.coe_mul]; ac_rfl
    have e2 : (a : EReal) * (ρ : EReal) * ((ρ : EReal) * B * ((l⁻¹ : ℝ) : EReal))
        = ((a * ρ * ρ * l⁻¹ : ℝ) : EReal) * B := by
      simp only [EReal.coe_mul]; ac_rfl
    rw [mul_comm _ (a : EReal), e1, e2, sub_eq_add_neg,
      EReal.left_distrib_of_nonneg_of_ne_top (EReal.coe_nonneg.mpr hρ0) (EReal.coe_ne_top ρ), add_assoc, two_mul_ereal,
      mul_comm d]
    congr 1
    have e3 : ((2 : ℝ) : EReal) * (((a * (-(1 / 2)) * (ρ * s⁻¹) * l⁻¹ : ℝ) : EReal) * B)
        = ((2 * (a * (-(1 / 2)) * (ρ * s⁻¹) * l⁻¹) : ℝ) : EReal) * B := by
      rw [EReal.coe_mul 2]; exact (mul_assoc _ _ _).symm
    have e4 : (ρ : EReal) * -(((a * ρ * ρ * l⁻¹ : ℝ) : EReal) * B)
        = ((ρ * -(a * ρ * ρ * l⁻¹) : ℝ) : EReal) * B := by
      rw [← neg_mul, ← EReal.coe_neg, EReal.coe_mul ρ]; exact (mul_assoc _ _ _).symm
    rw [e3, e4]
    congr 2
    rw [← hρ2]
    ring

/-- A row of 1024's mean square, and what is added to it. -/
def ms (x : Fin 1024 → EReal) : EReal := Ideal.div (∑ k : Fin 1024, x k * x k) len + eps

/-- The reciprocal of its root. -/
def rr (x : Fin 1024 → EReal) : EReal := Ideal.rsqrt (ms x)

/-- The row's gradient against the gradients `D` of the normalised row, as the kernels compute it. -/
def dx (x D : Fin 1024 → EReal) (j : Fin 1024) : EReal :=
  rr x * (D j - x j * rr x * Ideal.div (∑ k : Fin 1024, x k * rr x * D k) len)

/-- What differentiating the mean square passes back to every entry, halved. -/
def coef (x D : Fin 1024 → EReal) : EReal :=
  Ideal.div ((∑ k : Fin 1024, x k * D k) * (mhalf * Ideal.div (rr x) (ms x))) len

theorem dx_eq (x D : Fin 1024 → EReal) (j : Fin 1024) : D j * rr x + x j * coef x D + coef x D * x j = dx x D j :=
  dx_eqOf (by norm_num) len len_eq x D j

end Cert.NormGrad
-- ==== Proof.MlpUpBwd.lean ====
/- The second half of the MLP's backward pass: the gradient before the MLP's first product, carried back through the
normalisation of its rows onto the stream, and the gain's gradient. -/
module

public import proofs.«01_k».proof.Defs
public import proofs.«01_k».proof.Proof.Gen.Kernel7.Frame
public import proofs.«01_k».proof.Proof.Gen.Reference7Ideal.Run
public import proofs.«01_k».proof.Proof.MlpUpBwd.Frame
public import proofs.«01_k».proof.Proof.NormGrad
public import Idealize.ShloMosaic.Lib.StableHlo.ReadAt

@[expose] public section

set_option maxRecDepth 16384

noncomputable section

namespace Cert.MlpUpBwd

open Idealize.ShloMosaic Idealize.ShloMosaic.TcCoe Idealize.SL Idealize.SL.Sem

section
variable [Cert.Kernel7.Facts] [Cert.Kernel7Ideal.Facts]

/-- The two programs' bodies are one text. -/
theorem defs₀_eq : Cert.Kernel7.defs₀ (F := Bits) = Cert.Kernel7Ideal.defs₀ := by
  unfold Cert.Kernel7.defs₀ Cert.Kernel7Ideal.defs₀
  congr 1
  funext l x
  match l, x with
  | 0, _ => rfl
  | ⟨_ + 1, h⟩, _ => exact absurd h (Nat.not_lt.2 (Nat.le_add_left _ _))

theorem defs_eq : Cert.Kernel7.defs (F := Bits) = Cert.Kernel7Ideal.defs :=
  congrArg (Pipeline.defs Cert.Kernel7Ideal.pcfgs) defs₀_eq

end

theorem frame_kernel : Cert.quiescent_Kernel7 := fun m ρ _ => by
  rw [defs_eq]
  exact frame (F := Bits) m ρ

theorem frame_ideal : Cert.quiescent_Kernel7Ideal := fun m ρ _ => frame m ρ

section
open Cert.Kernel7Ideal Cert.Kernel7Ideal.Gen
open Cert.NormGrad (dx rr)

variable (m : (ℓ : Loc nD τ sig) → Buf (Elt Ideal) ℓ) (c : Dev nD)

/-- A row against a row. -/
def dot (f g : Fin 4096 → EReal) : EReal := ∑ k : Fin 4096, f k * g k

/-- The gradient of the normalised rows, at row `i` and column `j`. -/
def H (a : S8320x4096.Idx → EReal) (w : S1024x4096.Idx → EReal) (i : Fin 8320) (j : Fin 1024) : EReal :=
  dot (fun k => a (ix2 i k)) (fun k => w (ix2 j k))

/-- The gradient of the stream. -/
def G (a : S8320x4096.Idx → EReal) (w : S1024x4096.Idx → EReal) (x : S8320x1024.Idx → EReal) (g : S1x1024.Idx → EReal)
    (r : S8320x1024.Idx → EReal) : S8320x1024.Idx → EReal := fun y =>
  r y + dx (fun k => x (ix2 (y 0) k)) (fun k => H a w (y 0) k * g (ix2 0 k)) (y 1)

/-- The gradient of the gain. -/
def G' (a : S8320x4096.Idx → EReal) (w : S1024x4096.Idx → EReal) (x : S8320x1024.Idx → EReal) : S1x1024.Idx → EReal := fun y =>
  ∑ i : Fin 8320, H a w i (y 1) * (x (ix2 i (y 1)) * rr (fun k => x (ix2 i k)))

theorem pay2_apply (s : Vec Ideal S1x416x4096 .bf16) (w : Vec Ideal S1024x4096 .bf16) (i : Fin 416) (j : Fin 1024) :
    k0_pay2 s w (ix2 i j) = dot (fun k => s (ix3 0 i k)) (fun k => w (ix2 j k)) := by
  unfold dot
  pointwise [k0_pay2]

theorem pay3_apply (x : Vec Ideal S416x1024 .f32) (i : Fin 416) : k0_pay3 x (ix2 i 0) = rr (fun k => x (ix2 i k)) := by
  unfold NormGrad.rr NormGrad.ms NormGrad.len NormGrad.eps
  pointwise [k0_pay3]

theorem pay4_apply (x : Vec Ideal S416x1024 .f32) (i : Fin 416) (j : Fin 1024) :
    k0_pay4 x (ix2 i j) = x (ix2 i j) * rr (fun k => x (ix2 i k)) := by
  rw [← pay3_apply]
  pointwise [k0_pay4]

theorem pay5_apply (s : Vec Ideal S1x416x4096 .bf16) (w : Vec Ideal S1024x4096 .bf16) (x : Vec Ideal S416x1024 .f32) (j : Fin 1024) :
    k0_pay5 s w x (ix2 0 j) = ∑ i : Fin 416, k0_pay2 s w (ix2 i j) * k0_pay4 x (ix2 i j) := by
  pointwise [k0_pay5]

theorem pay1_apply (a b : FVec Ideal S1x1024 .f32) (y : S1x1024.Idx) : k0_pay1 a b y = a y + b y := by
  obtain ⟨i, j, rfl⟩ : ∃ (i : Fin 1) (j : Fin 1024), y = ix2 i j := ⟨y 0, y 1, eq_ix2 y⟩
  obtain rfl : i = 0 := Subsingleton.elim _ _
  pointwise [k0_pay1]

theorem pay6_apply (s : Vec Ideal S1x416x4096 .bf16) (w : Vec Ideal S1024x4096 .bf16) (x : Vec Ideal S416x1024 .f32)
    (g : Vec Ideal S1x1024 .f32) (r : Vec Ideal S416x1024 .f32) (i : Fin 416) (j : Fin 1024) :
    k0_pay6 s w x g r (ix2 i j)
      = r (ix2 i j) + k0_pay3 x (ix2 i 0) * (k0_pay2 s w (ix2 i j) * g (ix2 0 j)
          - k0_pay4 x (ix2 i j) * Ideal.div (∑ k : Fin 1024, k0_pay4 x (ix2 i k) * (k0_pay2 s w (ix2 i k) * g (ix2 0 k)))
              (Ideal.ofBits .f32 0x44800000#32)) := by
  pointwise [k0_pay6]

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem last6 : ∀ t : Fin cfg0.N, (cfg0.win 6).flush t = true → t.val % 20 = 19 :=
  (by decide +kernel : ∀ t : Fin grid0.N, _)

theorem lt_points (t : Fin cfg0.N) : t.val < 20 := lt_of_lt_of_eq t.isLt N_0

/-- The row of the array that is row `i` of block `t`. -/
def rowAt (t : Fin cfg0.N) (i : Fin 416) : Fin 8320 := ⟨t.val * 416 + i.val, by have := lt_points t; omega⟩

theorem blk0 (t : Fin cfg0.N) (j : Fin 1024) (k : Fin 4096) :
    iblk m c 0 t (ix2 j k) = m ((c : Thread nD τ).loc main_arg1) (ix2 j k) := by
  rw [← V_main_arg1 m c]
  blk_simp [iblk]
  congr 1
  blk_ext [idx0]

theorem blk1 (t : Fin cfg0.N) (i : Fin 416) (k : Fin 1024) :
    iblk m c 1 t (ix2 i k) = m ((c : Thread nD τ).loc main_arg2) (ix2 (rowAt t i) k) := by
  rw [← V_main_arg2 m c]
  blk_simp [iblk]
  congr 1
  blk_ext [idx1, rowAt]

theorem blk2 (t : Fin cfg0.N) (i : Fin 1) (k : Fin 1024) :
    iblk m c 2 t (ix2 i k) = m ((c : Thread nD τ).loc main_arg3) (ix2 i k) := by
  rw [← V_main_arg3 m c]
  blk_simp [iblk]
  congr 1
  blk_ext [idx2]

theorem blk3 (t : Fin cfg0.N) (i : Fin 416) (k : Fin 1024) :
    iblk m c 3 t (ix2 i k) = m ((c : Thread nD τ).loc main_arg4) (ix2 (rowAt t i) k) := by
  rw [← V_main_arg4 m c]
  blk_simp [iblk]
  congr 1
  blk_ext [idx3, rowAt]

theorem src_emb (b : Fin 20) (i : Fin 416) (k : Fin 4096) :
    (srcB0_0 b).view.emb (ix2 i k) = ix2 (⟨b.val * 416 + i.val, by omega⟩ : Fin 8320) k := by
  refine funext fun a => Fin.ext ?_
  fin_cases a
  · show 416 * b.val + 1 * i.val = b.val * 416 + i.val
    omega
  · show 0 + 1 * k.val = k.val
    omega

theorem slab_apply (t : Fin cfg0.N) (i : Fin 416) (k : Fin 4096) :
    slab c (V m c main_arg0) (Ring.bk 20 t.val) (ix3 0 i k) = m ((c : Thread nD τ).loc main_arg0) (ix2 (rowAt t i) k) := by
  rw [← V_main_arg0 m c]
  have e : Ring.bk 20 t.val = (⟨t.val, lt_points t⟩ : Fin 20) := Fin.ext (Nat.mod_eq_of_lt (lt_points t))
  rw [e]
  show V m c main_arg0 ((srcB0_0 ⟨t.val, lt_points t⟩).view.emb (ix2 i k)) = _
  rw [src_emb]
  rfl

theorem emb4 (t : Fin cfg0.N) (i : Fin 416) (j : Fin 1024) : (win0_4.blk t).view.emb (ix2 i j) = ix2 (rowAt t i) j := by
  blk_ext [idx4, rowAt]

theorem emb5 (t : Fin cfg0.N) (i : Fin 416) (j : Fin 1024) : (win0_5.blk t).view.emb (ix2 i j) = ix2 (rowAt t i) j := by
  blk_ext [idx5, rowAt]

theorem emb6 (t : Fin cfg0.N) (i : Fin 1) (j : Fin 1024) : (win0_6.blk t).view.emb (ix2 i j) = ix2 i j := by
  blk_ext [idx6]

/-- One point's products are the array's. -/
theorem prod_blk (t : Fin cfg0.N) (i : Fin 416) (j : Fin 1024) :
    k0_pay2 (slab c (V m c main_arg0) (Ring.bk 20 t.val)) (iblk m c 0 t) (ix2 i j)
      = H (m ((c : Thread nD τ).loc main_arg0)) (m ((c : Thread nD τ).loc main_arg1)) (rowAt t i) j := by
  refine (pay2_apply _ _ i j).trans ?_
  simp only [slab_apply, blk0]
  rfl

/-- One point's rows of the stream's gradient are the array's. -/
theorem out_blk (t : Fin cfg0.N) (i : Fin 416) (j : Fin 1024) :
    k0_pay6 (slab c (V m c main_arg0) (Ring.bk 20 t.val)) (iblk m c 0 t) (iblk m c 1 t) (iblk m c 2 t) (iblk m c 3 t) (ix2 i j)
      = G (m ((c : Thread nD τ).loc main_arg0)) (m ((c : Thread nD τ).loc main_arg1)) (m ((c : Thread nD τ).loc main_arg2))
          (m ((c : Thread nD τ).loc main_arg3)) (m ((c : Thread nD τ).loc main_arg4)) (ix2 (rowAt t i) j) := by
  refine (pay6_apply _ _ _ _ _ i j).trans ?_
  simp only [prod_blk, pay3_apply, pay4_apply, blk1, blk2, blk3]
  rfl

/-- One row's share of the gain's gradient. -/
def P (a : S8320x4096.Idx → EReal) (w : S1024x4096.Idx → EReal) (x : S8320x1024.Idx → EReal) (j : Fin 1024) (i : Fin 8320) : EReal :=
  H a w i j * (x (ix2 i j) * rr (fun k => x (ix2 i k)))

/-- One point's share of the gain's gradient. -/
theorem gain_blk (t : Fin cfg0.N) (j : Fin 1024) :
    k0_pay5 (slab c (V m c main_arg0) (Ring.bk 20 t.val)) (iblk m c 0 t) (iblk m c 1 t) (ix2 0 j)
      = ∑ i : Fin 416, P (m ((c : Thread nD τ).loc main_arg0)) (m ((c : Thread nD τ).loc main_arg1))
          (m ((c : Thread nD τ).loc main_arg2)) j (rowAt t i) := by
  refine (pay5_apply _ _ _ j).trans ?_
  simp only [prod_blk, pay4_apply, blk1]
  rfl

theorem gain_blk' (t : Fin cfg0.N) (y : S1x1024.Idx) :
    k0_pay5 (slab c (V m c main_arg0) (Ring.bk 20 t.val)) (iblk m c 0 t) (iblk m c 1 t) y
      = ∑ i : Fin 416, P (m ((c : Thread nD τ).loc main_arg0)) (m ((c : Thread nD τ).loc main_arg1))
          (m ((c : Thread nD τ).loc main_arg2)) (y 1) (rowAt t i) := by
  obtain ⟨i, j, rfl⟩ : ∃ (i : Fin 1) (j : Fin 1024), y = ix2 i j := ⟨y 0, y 1, eq_ix2 y⟩
  obtain rfl : i = 0 := Subsingleton.elim _ _
  exact gain_blk m c t j

/-- The gradient of the stream, of the arguments. -/
def Gm : S8320x1024.Idx → EReal :=
  G (m ((c : Thread nD τ).loc main_arg0)) (m ((c : Thread nD τ).loc main_arg1)) (m ((c : Thread nD τ).loc main_arg2))
        (m ((c : Thread nD τ).loc main_arg3)) (m ((c : Thread nD τ).loc main_arg4))

/-- The gradient of the gain, of the arguments. -/
def Gm' : S1x1024.Idx → EReal :=
  G' (m ((c : Thread nD τ).loc main_arg0)) (m ((c : Thread nD τ).loc main_arg1)) (m ((c : Thread nD τ).loc main_arg2))

theorem arr4 : (dats m 0 c).arrAt 4 cfg0.N
    = Gm m c := by
  refine (dats m 0 c).arrAt_eq_of_covers 4 _ (by decide +kernel) fun t hf y => ?_
  blk_simp
  rw [after0_4]
  obtain ⟨i, j, rfl⟩ : ∃ (i : Fin 416) (j : Fin 1024), y = ix2 i j := ⟨y 0, y 1, eq_ix2 y⟩
  rw [emb4]
  exact out_blk m c t i j

theorem arr5 : (dats m 0 c).arrAt 5 cfg0.N
    = Gm m c := by
  refine (dats m 0 c).arrAt_eq_of_covers 5 _ (by decide +kernel) fun t hf y => ?_
  blk_simp
  rw [after0_5]
  obtain ⟨i, j, rfl⟩ : ∃ (i : Fin 416) (j : Fin 1024), y = ix2 i j := ⟨y 0, y 1, eq_ix2 y⟩
  rw [emb5]
  exact out_blk m c t i j

theorem arr6 : (dats m 0 c).arrAt 6 cfg0.N
    = Gm' m c := by
  refine (dats m 0 c).arrAt_eq_of_covers 6 _ (by decide +kernel) fun t hf y => ?_
  blk_simp
  rw [after0_6]
  rw [Pipeline.eq_sum_fin_of_reset_step_apply_of_flush (fun n h => row m c n h) 20 (fun _ => 0)
    (fun p y => ∑ i : Fin 416, P (m ((c : Thread nD τ).loc main_arg0)) (m ((c : Thread nD τ).loc main_arg1))
          (m ((c : Thread nD τ).loc main_arg2)) (y 1) (rowAt p i))
    (fun t h j => by rw [row_zero m c t (by have := lt_points t; omega), zero_add, gain_blk'])
    (fun t h j => by rw [row_succ m c t (by omega), pay1_apply, gain_blk']) t (last6 t hf) y, zero_add]
  obtain ⟨i, j, rfl⟩ : ∃ (i : Fin 1) (j : Fin 1024), y = ix2 i j := ⟨y 0, y 1, eq_ix2 y⟩
  obtain rfl : i = 0 := Subsingleton.elim _ _
  rw [emb6]
  show _ = ∑ i : Fin 8320, P (m ((c : Thread nD τ).loc main_arg0)) (m ((c : Thread nD τ).loc main_arg1))
          (m ((c : Thread nD τ).loc main_arg2)) j i
  refine Fin.sum_mul_add_congr fun s r hl => ?_
  have := lt_points t
  have e : rowAt ⟨20 * (t.val / 20) + s.val, by have := s.isLt; have := lt_points t; rw [show cfg0.N = 20 from N_0]; omega⟩ r = ⟨s.val * 416 + r.val, hl⟩ := by
    refine Fin.ext ?_
    show (20 * (t.val / 20) + s.val) * 416 + r.val = s.val * 416 + r.val
    omega
  rw [e]
  rfl

end

section
open Cert.Reference7Ideal Cert.Reference7Ideal.Facts₀

variable (a : FVec Ideal S8320x4096 .bf16) (w : FVec Ideal S1024x4096 .bf16) (x : FVec Ideal S8320x1024 .f32)
  (g : FVec Ideal S1x1024 .f32) (r : FVec Ideal S8320x1024 .f32)

/-- The reference's product. -/
def prodR : FVec Ideal S8320x1024 .f32 :=
  Host.dotGeneral dot_S8320x4096_S1024x4096_S8320x1024_1_1_0_0_n_n none (extf .f32 a bitsLt_bf16_f32) (extf .f32 w bitsLt_bf16_f32)

/-- The reference's product times the gain. -/
def scaledR : FVec Ideal S8320x1024 .f32 :=
  mulf (prodR a w) (broadcastInDim S8320x1024 ![0, 1] bcast_S1x1024_S8320x1024_0_1 (broadcastInDim S1x1024 ![1] bcast_S1024_S1x1024_1
    (shapeCast _ g shapeCasts_S1x1024_S1024)))

/-- A constant of each row. -/
def litR (b : BitVec 32) : FVec Ideal S8320x1 .f32 := broadcastInDim S8320x1 ![] bcast_S_S8320x1 (constant S_ .f32 b)

/-- The sum of each row. -/
def sumR (y : FVec Ideal S8320x1024 .f32) : FVec Ideal S8320 .f32 :=
  Host.reduceAdd y (constant S_ .f32 0x00000000#32) reducesTo_S8320x1024_S8320_d1 h_S_

/-- Each row's mean square. -/
def msR : FVec Ideal S8320x1 .f32 :=
  addf (Host.divf (broadcastInDim S8320x1 ![0] bcast_S8320_S8320x1_0 (sumR (mulf x x))) (litR 0x44800000#32)) (litR 0x358637BD#32)

/-- One of the two equal shares that come through the root. -/
def shareR : FVec Ideal S8320x1024 .f32 :=
  broadcastInDim S8320x1024 ![0] bcast_S8320_S8320x1024_0 (Host.reduceAdd (Host.divf (mulf
    (shapeCast _ (sumR (mulf x (scaledR a w g))) shapeCasts_S8320_S8320x1)
    (mulf (litR 0xBF000000#32) (Host.divf (Host.rsqrt (msR x)) (msR x)))) (litR 0x44800000#32))
    (constant S_ .f32 0x00000000#32) reducesTo_S8320x1_S8320_d1 h_S_)

/-- Each row's root over its columns. -/
def rootR : FVec Ideal S8320x1024 .f32 := broadcastInDim S8320x1024 ![0, 1] bcast_S8320x1_S8320x1024_0_1 (Host.rsqrt (msR x))

theorem ref_apply :
    addf r (addf (addf (mulf (scaledR a w g) (rootR x)) (mulf x (shareR a w x g))) (mulf (shareR a w x g) x)) = G a w x g r := by
  funext y
  obtain ⟨i, j, rfl⟩ : ∃ (i : Fin 8320) (j : Fin 1024), y = ix2 i j := ⟨y 0, y 1, eq_ix2 y⟩
  refine Eq.trans ?_ (congrArg (fun z : EReal => r (ix2 i j) + z)
    (NormGrad.dx_eq (fun k => x (ix2 i k)) (fun k => H a w i k * g (ix2 0 k)) j))
  unfold NormGrad.coef NormGrad.rr NormGrad.ms NormGrad.len NormGrad.eps NormGrad.mhalf H dot
  pointwise [rootR, shareR, msR, sumR, litR, scaledR, prodR]
  simp only [Fin.sum_univ_one]

theorem ref_apply' :
    broadcastInDim S1x1024 ![1] bcast_S1024_S1x1024_1 (Host.reduceAdd (shapeCast _ (Host.reduceAdd (mulf (mulf x (rootR x)) (prodR a w))
      (constant S_ .f32 0x00000000#32) reducesTo_S8320x1024_S1024_d0 h_S_) shapeCasts_S1024_S1x1024)
      (constant S_ .f32 0x00000000#32) reducesTo_S1x1024_S1024_d0 h_S_) = G' a w x := by
  funext y
  obtain ⟨i, j, rfl⟩ : ∃ (i : Fin 1) (j : Fin 1024), y = ix2 i j := ⟨y 0, y 1, eq_ix2 y⟩
  show _ = ∑ i : Fin 8320, P a w x j i
  unfold P NormGrad.rr NormGrad.ms NormGrad.len NormGrad.eps H dot
  pointwise [rootR, msR, sumR, litR, prodR]
  simp only [Fin.sum_univ_one]
  exact Finset.sum_congr rfl fun _ _ => mul_comm _ _

end

theorem frame_reference : Cert.quiescent_Reference7Ideal := fun m ρ _ =>
  (θ_run Cert.Reference7Ideal.defs _ _).mono
    (fun r h => ⟨fun c => (h c).2.2.2, sem_eq_zero_of_no_sems (by decide) r.2⟩)
    (Cert.Reference7Ideal.Value.run m ρ)

theorem algebraic : Cert.algebraic_Kernel7Ideal_Reference7Ideal := by
  intro m ρ m' ρ' _ hagree
  refine ⟨fun c => Gm m c, fun c => Gm m c, fun c => Gm' m c, ?_, ?_⟩
  · refine (θ_run Cert.Kernel7Ideal.defs _ _).mono (fun r h c => ?_) (θ_run_and ((θ_run Cert.Kernel7Ideal.defs _ _).mono (fun _ h => h.1) (run_main m ρ)) (frame m ρ))
    obtain ⟨h, hk⟩ := h
    exact ⟨((h c).1 4).trans (arr4 m c), ((h c).1 5).trans (arr5 m c), ((h c).1 6).trans (arr6 m c), hk.1 c⟩
  · refine (θ_run Cert.Reference7Ideal.defs _ _).mono (fun r h c => ?_) (Cert.Reference7Ideal.Value.run m' ρ')
    obtain ⟨h0, h1, h2, hk⟩ := h c
    obtain ⟨e0, e1, e2, e3, e4⟩ := hagree c
    refine ⟨h0.trans ?_, h1.trans ?_, h2.trans ?_, hk⟩
    · unfold Cert.Reference7Ideal.Value.res_main_v42
      rw [e0, e1, e2, e3, e4]
      exact ref_apply _ _ _ _ _
    · unfold Cert.Reference7Ideal.Value.res_main_v43
      rw [e0, e1, e2, e3, e4]
      exact ref_apply _ _ _ _ _
    · rw [e0, e1, e2]
      exact ref_apply' _ _ _

end Cert.MlpUpBwd
-- ==== Proof.MlpDownLoss.Skeleton.lean ====
/- The body as its memory operations over named values. -/
module

public import proofs.«01_k».proof.Proof.Gen.Kernel8Ideal.Frame

@[expose] public section

set_option synthInstance.maxSize 4096
set_option maxRecDepth 16384

noncomputable section

namespace Cert.MlpDownLoss

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rows' gradient. -/
noncomputable def k0_pay1 (v72 : FVec F S416x1 .f32) (v74 : FVec F S416x1024 .f32) (v104 : FVec F S416x1024 .f32) (v109 : FVec F S416x1 .f32) : FVec F S416x1024 .f32 :=
  have v110 : FVec F S416x1024 .f32 := broadcastTo S416x1024 v109 broadcasts_S416x1_S416x1024
  have v111 : FVec F S416x1024 .f32 := mulf v74 v110
  have v112 : FVec F S416x1024 .f32 := subf v104 v111
  have v113 : FVec F S416x1024 .f32 := broadcastTo S416x1024 v72 broadcasts_S416x1_S416x1024
  have v114 : FVec F S416x1024 .f32 := mulf v113 v112
  v114

/-- The rows' gradient, rounded. -/
noncomputable def k0_pay2 (v72 : FVec F S416x1 .f32) (v74 : FVec F S416x1024 .f32) (v104 : FVec F S416x1024 .f32) (v109 : FVec F S416x1 .f32) : FVec F S416x1024 .bf16 :=
  have v116 : FVec F S416x1024 .bf16 := truncf .bf16 (k0_pay1 v72 v74 v104 v109) bitsLt_bf16_f32
  v116

/-- One block's gain gradient. -/
noncomputable def k0_pay3 (v74 : FVec F S416x1024 .f32) (v102 : FVec F S416x1024 .f32) : FVec F S1x1024 .f32 :=
  have v118 : FVec F S416x1024 .f32 := mulf v102 v74
  have v119 : FVec F S1024 .f32 := multiReduction .add [0] S1024 v118 0x00000000#32 reduces_S416x1024_S1024 (.inl rfl) rfl
  have v120 : FVec F S1x1024 .f32 := shapeCast S1x1024 v119 shapeCasts_S1024_S1x1024
  v120

/-- One block's loss, in the first lane. -/
noncomputable def k0_pay4 (v100 : FVec F S416x1024 .f32) : FVec F S1x128 .f32 :=
  have v121 : FVec F S416x1024 .f32 := mulf v100 v100
  have v122 : FVec F S416 .f32 := multiReduction .add [1] S416 v121 0x00000000#32 reduces_S416x1024_S416 (.inl rfl) rfl
  have v123 : FVec F S416x1 .f32 := shapeCast S416x1 v122 shapeCasts_S416_S416x1
  have cst_59 : F .f32 := Scalar.ofBits .f32 0x44800000#32
  have v124 : FVec F S416x1 .f32 := broadcast S416x1 cst_59
  have v125 : FVec F S416x1 .f32 := divf v123 v124
  have v126 : FVec F S1 .f32 := multiReduction .add [0] S1 v125 0x00000000#32 reduces_S416x1_S1 (.inl rfl) rfl
  have v127 : FVec F S1x1 .f32 := shapeCast S1x1 v126 shapeCasts_S1_S1x1
  have cst_61 : F .f32 := Scalar.ofBits .f32 0x3F000000#32
  have v128 : FVec F S1x1 .f32 := broadcast S1x1 cst_61
  have v129 : FVec F S1x1 .f32 := mulf v128 v127
  have v130 : IVec S1x128 32 := iota .tc S1x128 32 [1] iota_S1x128_d1_w32
  have v131 : IVec S1x128 32 := broadcast S1x128 0#32
  have v132 : IVec S1x128 1 := cmpi .eq v130 v131
  have cst_63 : F .f32 := Scalar.ofBits .f32 0x00000000#32
  have v133 : FVec F S1x1 .f32 := shapeCast S1x1 v129 shapeCasts_S1x1_S1x1
  have v134 : FVec F S1x128 .f32 := broadcastTo S1x128 v133 broadcasts_S1x1_S1x128
  have v135 : FVec F S1x128 .f32 := broadcast S1x128 cst_63
  have v136 : FVec F S1x128 .f32 := select v132 v134 v135
  v136

/-- The rows after the last layer. -/
noncomputable def k0_pay5 (v57 : Vec F S416x1024 .f32) (v59 : Vec F S1x416x4096 .bf16) (v61 : Vec F S4096x1024 .bf16) : FVec F S416x1024 .f32 :=
  have v60 : FVec F S416x4096 .bf16 := shapeCast S416x4096 v59 shapeCasts_S1x416x4096_S416x4096
  have cst : FVec F S416x1024 .f32 := constant S416x1024 .f32 0x00000000#32
  have v62 : FVec F S416x1024 .f32 := matmul dot_S416x4096_S4096x1024_S416x1024_1_0_0_1_n_n none v60 v61 cst
  have v63 : FVec F S416x1024 .f32 := addf v57 v62
  v63

/-- Their squares. -/
noncomputable def k0_pay6 (v57 : Vec F S416x1024 .f32) (v59 : Vec F S1x416x4096 .bf16) (v61 : Vec F S4096x1024 .bf16) : FVec F S416x1024 .f32 :=
  have v65 : FVec F S416x1024 .f32 := mulf (k0_pay5 v57 v59 v61) (k0_pay5 v57 v59 v61)
  v65

/-- The reciprocal of each row's length. -/
noncomputable def k0_pay7 (v65 : FVec F S416x1024 .f32) : FVec F S416x1 .f32 :=
  have v66 : FVec F S416 .f32 := multiReduction .add [1] S416 v65 0x00000000#32 reduces_S416x1024_S416 (.inl rfl) rfl
  have v67 : FVec F S416x1 .f32 := shapeCast S416x1 v66 shapeCasts_S416_S416x1
  have cst_39 : F .f32 := Scalar.ofBits .f32 0x44800000#32
  have v68 : FVec F S416x1 .f32 := broadcast S416x1 cst_39
  have v69 : FVec F S416x1 .f32 := divf v67 v68
  have cst_40 : F .f32 := Scalar.ofBits .f32 0x358637BD#32
  have v70 : FVec F S416x1 .f32 := broadcast S416x1 cst_40
  have v71 : FVec F S416x1 .f32 := addf v69 v70
  have v72 : FVec F S416x1 .f32 := rsqrt v71
  v72

/-- The normalised rows. -/
noncomputable def k0_pay8 (v63 : FVec F S416x1024 .f32) (v65 : FVec F S416x1024 .f32) : FVec F S416x1024 .f32 :=
  have v73 : FVec F S416x1024 .f32 := broadcastTo S416x1024 (k0_pay7 v65) broadcasts_S416x1_S416x1024
  have v74 : FVec F S416x1024 .f32 := mulf v63 v73
  v74

/-- The error of each row, 0 where the row is not counted. -/
noncomputable def k0_pay9 (arg0 : BitVec 32) (v63 : FVec F S416x1024 .f32) (v64 : Vec F S1x1024 .f32) (v65 : FVec F S416x1024 .f32) (v94 : Vec F S1x416x1024 .f32) : FVec F S416x1024 .f32 :=
  let v75 : BitVec 1 := Scalar.cmpi .eq 10#32 0#32
  let v76 : BitVec 32 := Scalar.select v75 1#32 10#32
  let v77 : BitVec 32 := Scalar.remsi arg0 v76
  let v78 : BitVec 1 := Scalar.cmpi .ne v77 0#32
  let v79 : BitVec 1 := Scalar.cmpi .slt v77 0#32
  let v80 : BitVec 1 := Scalar.cmpi .slt v76 0#32
  let v81 : BitVec 1 := Scalar.xori v79 v80
  let v82 : BitVec 1 := Scalar.andi v81 v78
  let v83 : BitVec 32 := Scalar.addi v77 v76
  let v84 : BitVec 32 := Scalar.select v82 v83 v77
  let v85 : BitVec 32 := Scalar.muli v84 416#32
  have v86 : IVec S416x1 32 := iota .tc S416x1 32 [0] iota_S416x1_d0_w32
  have v87 : IVec S416x1 32 := broadcast S416x1 v85
  have v88 : IVec S416x1 32 := addi v87 v86
  have v89 : IVec S416x1 32 := broadcast S416x1 64#32
  have v90 : IVec S416x1 1 := cmpi .sge v88 v89
  have v91 : FVec F S416x1024 .f32 := broadcastTo S416x1024 v64 broadcasts_S1x1024_S416x1024
  have v92 : FVec F S416x1024 .f32 := mulf (k0_pay8 v63 v65) v91
  have v95 : FVec F S416x1024 .f32 := shapeCast S416x1024 v94 shapeCasts_S1x416x1024_S416x1024
  have v96 : FVec F S416x1024 .f32 := subf v92 v95
  have cst_49 : F .f32 := Scalar.ofBits .f32 0x00000000#32
  have v97 : IVec S416x1 1 := shapeCast S416x1 v90 shapeCasts_S416x1_S416x1
  have v98 : IVec S416x1024 1 := broadcastTo S416x1024 v97 broadcasts_S416x1_S416x1024
  have v99 : FVec F S416x1024 .f32 := broadcast S416x1024 cst_49
  have v100 : FVec F S416x1024 .f32 := select v98 v96 v99
  v100

/-- The error's weight. -/
noncomputable def k0_pay10 (arg0 : BitVec 32) (v63 : FVec F S416x1024 .f32) (v64 : Vec F S1x1024 .f32) (v65 : FVec F S416x1024 .f32) (v94 : Vec F S1x416x1024 .f32) : FVec F S416x1024 .f32 :=
  have cst_50 : F .f32 := Scalar.ofBits .f32 0x3A800000#32
  have v101 : FVec F S416x1024 .f32 := broadcast S416x1024 cst_50
  have v102 : FVec F S416x1024 .f32 := mulf (k0_pay9 arg0 v63 v64 v65 v94) v101
  v102

/-- The gradient of the normalised rows. -/
noncomputable def k0_pay11 (arg0 : BitVec 32) (v63 : FVec F S416x1024 .f32) (v64 : Vec F S1x1024 .f32) (v65 : FVec F S416x1024 .f32) (v94 : Vec F S1x416x1024 .f32) : FVec F S416x1024 .f32 :=
  have v103 : FVec F S416x1024 .f32 := broadcastTo S416x1024 v64 broadcasts_S1x1024_S416x1024
  have v104 : FVec F S416x1024 .f32 := mulf (k0_pay10 arg0 v63 v64 v65 v94) v103
  v104

/-- Its sum along each row with the normalised row. -/
noncomputable def k0_pay16 (arg0 : BitVec 32) (v63 : FVec F S416x1024 .f32) (v64 : Vec F S1x1024 .f32) (v65 : FVec F S416x1024 .f32) (v94 : Vec F S1x416x1024 .f32) : FVec F S416x1 .f32 :=
  have v105 : FVec F S416x1024 .f32 := mulf (k0_pay8 v63 v65) (k0_pay11 arg0 v63 v64 v65 v94)
  have v106 : FVec F S416 .f32 := multiReduction .add [1] S416 v105 0x00000000#32 reduces_S416x1024_S416 (.inl rfl) rfl
  have v107 : FVec F S416x1 .f32 := shapeCast S416x1 v106 shapeCasts_S416_S416x1
  v107

/-- A sum along a row over the row's length. -/
noncomputable def k0_pay17 (v147 : FVec F S416x1 .f32) : FVec F S416x1 .f32 :=
  divf v147 (broadcast S416x1 (Scalar.ofBits .f32 0x44800000#32 : F .f32))

/-- A run of zero rows. -/
noncomputable def k0_pay13 : FVec F S1x64x1024 .f32 :=
  shapeCast S1x64x1024 (broadcast S64x1024 (Scalar.ofBits .f32 0x00000000#32 : F .f32)) shapeCasts_S64x1024_S1x64x1024

/-- The gain gradient so far, with one more block's. -/
noncomputable def k0_pay14 (v183 : Vec F S1x1024 .f32) (v160 : FVec F S1x1024 .f32) : FVec F S1x1024 .f32 :=
  addf (shapeCast S1x1024 v183 shapeCasts_S1x1024_S1x1024) v160

/-- The loss so far, with one more block's. -/
noncomputable def k0_pay15 (v187 : Vec F S1x128 .f32) (v176 : FVec F S1x128 .f32) : FVec F S1x128 .f32 :=
  addf (shapeCast S1x128 v187 shapeCasts_S1x128_S1x128) v176

/-- The same, over named values. -/
noncomputable def k0_part1_skel (i : grid0.Coords) (arg1 : Memref sig .tc .hbm S8320x4096 .bf16) (harg1 : arg1.IsWhole) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .hbm S2x4096x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (arg10 : Memref sig .tc .vmem S2x416x1024 .f32) (harg10 : arg10.IsWhole) (arg11 : DmaSems sig S2) (arg12 : Memref sig .tc .vmem S3x416x4096 .bf16) (harg12 : arg12.IsWhole) (arg13 : DmaSems sig S3) :
    Prog (TpuEff nD τ sig (Elt F) Λ₀ .tc) (Σ' (arg0 : BitVec 32), BitVec 32) := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v183 : DmaSems sig S1 := arg13.slice (Rect.unit (s := S3) ![0] S1.size inb_S3_S1_0)
    let v184 : DmaSems sig S_ := v183.squeeze S_ squeezes_S1_S_
    let v185 : Memref sig .tc .vmem S1x416x4096 .bf16 := arg12.slice (Rect.unit (s := S3x416x4096) ![0, 0, 0] S1x416x4096.size inb_S3x416x4096_S1x416x4096_0_0_0) (fun _ => rfl)
    let v186 : Memref sig .tc .vmem S416x4096 .bf16 := v185.squeeze S416x4096 squeezes_S1x416x4096_S416x4096
    let v187 : Memref sig .tc .hbm S416x4096 .bf16 := arg1.slice (Rect.unit (s := S8320x4096) ![0, 0] S416x4096.size inb_S8320x4096_S416x4096_0_0) (fun _ => rfl)
    Prog.lift (.enqueueDma v187 (.here v186) (.dma v184.sem) (harg1.wordExact_slice rfl _ wordsbf16_S8320x4096_S416x4096_0_0) ((harg12.wordExact_slice rfl _ wordsbf16_S3x416x4096_S1x416x4096_0_0_0).reshape _ _) ⟨Or.inl rfl, trivial⟩)
    let v188 : DmaSems sig S1 := arg13.slice (Rect.unit (s := S3) ![1] S1.size inb_S3_S1_1)
    let v189 : DmaSems sig S_ := v188.squeeze S_ squeezes_S1_S_
    let v190 : Memref sig .tc .vmem S1x416x4096 .bf16 := arg12.slice (Rect.unit (s := S3x416x4096) ![1, 0, 0] S1x416x4096.size inb_S3x416x4096_S1x416x4096_1_0_0) (fun _ => rfl)
    let v191 : Memref sig .tc .vmem S416x4096 .bf16 := v190.squeeze S416x4096 squeezes_S1x416x4096_S416x4096
    let v192 : Memref sig .tc .hbm S416x4096 .bf16 := arg1.slice (Rect.unit (s := S8320x4096) ![416, 0] S416x4096.size inb_S8320x4096_S416x4096_416_0) (fun _ => rfl)
    Prog.lift (.enqueueDma v192 (.here v191) (.dma v189.sem) (harg1.wordExact_slice rfl _ wordsbf16_S8320x4096_S416x4096_416_0) ((harg12.wordExact_slice rfl _ wordsbf16_S3x416x4096_S1x416x4096_1_0_0).reshape _ _) ⟨Or.inl rfl, trivial⟩)
    pure ⟨⟩
  else do
    pure ⟨⟩
  if k0_h2 : k0_cond2 i = 1#1 then do
    let v183 : BitVec 32 := Scalar.addi arg0 3#32
    let v184 : BitVec 32 := Scalar.subi v183 1#32
    let v185 : BitVec 1 := Scalar.cmpi .eq 3#32 0#32
    let v186 : BitVec 32 := Scalar.select v185 1#32 3#32
    let v187 : BitVec 32 := Scalar.remsi v184 v186
    let v188 : BitVec 1 := Scalar.cmpi .ne v187 0#32
    let v189 : BitVec 1 := Scalar.cmpi .slt v187 0#32
    let v190 : BitVec 1 := Scalar.cmpi .slt v186 0#32
    let v191 : BitVec 1 := Scalar.xori v189 v190
    let v192 : BitVec 1 := Scalar.andi v191 v188
    let v196 : DmaSems sig S1 := arg13.slice (Rect.unit (s := S3) (k0_off1 i) S1.size (k0_off1_inb i k0_h2))
    let v197 : DmaSems sig S_ := v196.squeeze S_ squeezes_S1_S_
    let v198 : Memref sig .tc .vmem S1x416x4096 .bf16 := arg12.slice (Rect.unit (s := S3x416x4096) (k0_off2 i) S1x416x4096.size (k0_off2_inb i k0_h2)) (fun _ => rfl)
    let v199 : Memref sig .tc .vmem S416x4096 .bf16 := v198.squeeze S416x4096 squeezes_S1x416x4096_S416x4096
    let v200 : Memref sig .tc .hbm S416x4096 .bf16 := arg1.slice (Rect.unit (s := S8320x4096) (k0_off3 i) S416x4096.size (k0_off3_inb i k0_h2)) (fun _ => rfl)
    Prog.lift (.enqueueDma v200 (.here v199) (.dma v197.sem) (harg1.wordExact_slice rfl _ (k0_off3_wordsbf16 i k0_h2)) ((harg12.wordExact_slice rfl _ (k0_off2_wordsbf16 i k0_h2)).reshape _ _) ⟨Or.inl rfl, trivial⟩)
    pure ⟨⟩
  else do
    pure ⟨⟩
  let v19 : DmaSems sig S1 := arg13.slice (Rect.unit (s := S3) (k0_off4 i) S1.size (k0_off4_inb i))
  let v20 : DmaSems sig S_ := v19.squeeze S_ squeezes_S1_S_
  let v21 : Memref sig .tc .vmem S1x416x4096 .bf16 := arg12.slice (Rect.unit (s := S3x416x4096) (k0_off5 i) S1x416x4096.size (k0_off5_inb i)) (fun _ => rfl)
  let v22 : Memref sig .tc .vmem S416x4096 .bf16 := v21.squeeze S416x4096 squeezes_S1x416x4096_S416x4096
  let v23 : Memref sig .tc .hbm S416x4096 .bf16 := arg1.slice (Rect.unit (s := S8320x4096) (k0_off6 i) S416x4096.size (k0_off6_inb i)) (fun _ => rfl)
  Prog.lift (.waitDma2 v20.sem v23 v22 (harg1.wordExact_slice rfl _ (k0_off6_wordsbf16 i)) ((harg12.wordExact_slice rfl _ (k0_off5_wordsbf16 i)).reshape _ _))
  let v24 : BitVec 1 := Scalar.cmpi .eq 3#32 0#32
  let v25 : BitVec 32 := Scalar.select v24 1#32 3#32
  let v26 : BitVec 32 := Scalar.remsi arg0 v25
  let v27 : BitVec 1 := Scalar.cmpi .ne v26 0#32
  let v28 : BitVec 1 := Scalar.cmpi .slt v26 0#32
  let v29 : BitVec 1 := Scalar.cmpi .slt v25 0#32
  let v30 : BitVec 1 := Scalar.xori v28 v29
  let v31 : BitVec 1 := Scalar.andi v30 v27
  let v32 : BitVec 32 := Scalar.addi v26 v25
  let v33 : BitVec 32 := Scalar.select v31 v32 v26
  pure ⟨arg0, v33⟩

set_option maxRecDepth 65536 in
theorem k0_part1_eq_skeleton : k0_part1 (F := F) = k0_part1_skel (F := F) := rfl

/-- The same, over named values. -/
noncomputable def k0_part2_skel (i : grid0.Coords) (arg1 : Memref sig .tc .hbm S8320x4096 .bf16) (harg1 : arg1.IsWhole) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .hbm S2x4096x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (arg10 : Memref sig .tc .vmem S2x416x1024 .f32) (harg10 : arg10.IsWhole) (arg11 : DmaSems sig S2) (arg12 : Memref sig .tc .vmem S3x416x4096 .bf16) (harg12 : arg12.IsWhole) (arg13 : DmaSems sig S3) (arg0 : BitVec 32) :
    Prog (TpuEff nD τ sig (Elt F) Λ₀ .tc) (Σ' (v43 : BitVec 32) (v65 : BitVec 32) (v66 : BitVec 32), BitVec 1) := do
  let v34 : BitVec 1 := Scalar.cmpi .eq 2#32 0#32
  let v35 : BitVec 32 := Scalar.select v34 1#32 2#32
  let v36 : BitVec 32 := Scalar.remsi arg0 v35
  let v37 : BitVec 1 := Scalar.cmpi .ne v36 0#32
  let v38 : BitVec 1 := Scalar.cmpi .slt v36 0#32
  let v39 : BitVec 1 := Scalar.cmpi .slt v35 0#32
  let v40 : BitVec 1 := Scalar.xori v38 v39
  let v41 : BitVec 1 := Scalar.andi v40 v37
  let v42 : BitVec 32 := Scalar.addi v36 v35
  let v43 : BitVec 32 := Scalar.select v41 v42 v36
  if k0_h3 : k0_cond3 i = 1#1 then do
    let v200 : BitVec 1 := Scalar.cmpi .eq 10#32 0#32
    let v201 : BitVec 32 := Scalar.select v200 1#32 10#32
    let v202 : BitVec 32 := Scalar.remsi arg0 v201
    let v203 : BitVec 1 := Scalar.cmpi .ne v202 0#32
    let v204 : BitVec 1 := Scalar.cmpi .slt v202 0#32
    let v205 : BitVec 1 := Scalar.cmpi .slt v201 0#32
    let v206 : BitVec 1 := Scalar.xori v204 v205
    let v207 : BitVec 1 := Scalar.andi v206 v203
    let v208 : BitVec 32 := Scalar.addi v202 v201
    let v209 : BitVec 32 := Scalar.select v207 v208 v202
    if k0_h4 : k0_cond4 i = 1#1 then do
      let v216 : DmaSems sig S1 := arg11.slice (Rect.unit (s := S2) (k0_off7 i) S1.size (k0_off7_inb i k0_h3 k0_h4))
      let v217 : DmaSems sig S_ := v216.squeeze S_ squeezes_S1_S_
      let v218 : Memref sig .tc .vmem S1x352x1024 .f32 := arg10.slice (Rect.unit (s := S2x416x1024) (k0_off8 i) S1x352x1024.size (k0_off8_inb i k0_h3 k0_h4)) (fun _ => rfl)
      let v219 : Memref sig .tc .vmem S352x1024 .f32 := v218.squeeze S352x1024 squeezes_S1x352x1024_S352x1024
      let v220 : Memref sig .tc .hbm S1x352x1024 .f32 := arg5.slice (Rect.unit (s := S2x4096x1024) (k0_off9 i) S1x352x1024.size (k0_off9_inb i k0_h3 k0_h4)) (fun _ => rfl)
      let v221 : Memref sig .tc .hbm S352x1024 .f32 := v220.squeeze S352x1024 squeezes_S1x352x1024_S352x1024
      Prog.lift (.enqueueDma v221 (.here v219) (.dma v217.sem) ((View.wordExact_bits rfl).reshape _ _) ((View.wordExact_bits rfl).reshape _ _) ⟨Or.inl rfl, trivial⟩)
      pure ⟨⟩
    else do
      pure ⟨⟩
    if k0_h5 : k0_cond5 i = 1#1 then do
      let v216 : BitVec 32 := Scalar.muli v209 416#32
      let v217 : BitVec 32 := Scalar.subi v216 64#32
      let v218 : DmaSems sig S1 := arg11.slice (Rect.unit (s := S2) (k0_off10 i) S1.size (k0_off10_inb i k0_h3 k0_h5))
      let v219 : DmaSems sig S_ := v218.squeeze S_ squeezes_S1_S_
      let v220 : Memref sig .tc .vmem S1x416x1024 .f32 := arg10.slice (Rect.unit (s := S2x416x1024) (k0_off11 i) S1x416x1024.size (k0_off11_inb i k0_h3 k0_h5)) (fun _ => rfl)
      let v221 : Memref sig .tc .vmem S416x1024 .f32 := v220.squeeze S416x1024 squeezes_S1x416x1024_S416x1024
      let v222 : Memref sig .tc .hbm S1x416x1024 .f32 := arg5.slice (Rect.unit (s := S2x4096x1024) (k0_off12 i) S1x416x1024.size (k0_off12_inb i k0_h3 k0_h5)) (fun _ => rfl)
      let v223 : Memref sig .tc .hbm S416x1024 .f32 := v222.squeeze S416x1024 squeezes_S1x416x1024_S416x1024
      Prog.lift (.enqueueDma v223 (.here v221) (.dma v219.sem) ((View.wordExact_bits rfl).reshape _ _) ((View.wordExact_bits rfl).reshape _ _) ⟨Or.inl rfl, trivial⟩)
      pure ⟨⟩
    else do
      pure ⟨⟩
    pure ⟨⟩
  else do
    pure ⟨⟩
  let v64 : BitVec 1 := Scalar.cmpi .eq 10#32 0#32
  let v65 : BitVec 32 := Scalar.select v64 1#32 10#32
  let v66 : BitVec 32 := Scalar.remsi arg0 v65
  let v67 : BitVec 1 := Scalar.cmpi .ne v66 0#32
  let v68 : BitVec 1 := Scalar.cmpi .slt v66 0#32
  let v69 : BitVec 1 := Scalar.cmpi .slt v65 0#32
  let v70 : BitVec 1 := Scalar.xori v68 v69
  let v71 : BitVec 1 := Scalar.andi v70 v67
  pure ⟨v43, v65, v66, v71⟩

set_option maxRecDepth 65536 in
theorem k0_part2_eq_skeleton : k0_part2 (F := F) = k0_part2_skel (F := F) := rfl

/-- The same, over named values. -/
noncomputable def k0_part3_skel (i : grid0.Coords) (arg1 : Memref sig .tc .hbm S8320x4096 .bf16) (harg1 : arg1.IsWhole) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .hbm S2x4096x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (arg10 : Memref sig .tc .vmem S2x416x1024 .f32) (harg10 : arg10.IsWhole) (arg11 : DmaSems sig S2) (arg12 : Memref sig .tc .vmem S3x416x4096 .bf16) (harg12 : arg12.IsWhole) (arg13 : DmaSems sig S3) (arg0 : BitVec 32) (v33 : BitVec 32) (v43 : BitVec 32) (v65 : BitVec 32) (v66 : BitVec 32) (v71 : BitVec 1) :
    Prog (TpuEff nD τ sig (Elt F) Λ₀ .tc) (FVec F S416x1024 .f32) := do
  let v72 : BitVec 32 := Scalar.addi v66 v65
  let v73 : BitVec 32 := Scalar.select v71 v72 v66
  if k0_h6 : k0_cond6 i = 1#1 then do
    let v183 : DmaSems sig S1 := arg11.slice (Rect.unit (s := S2) (k0_off13 i) S1.size (k0_off13_inb i k0_h6))
    let v184 : DmaSems sig S_ := v183.squeeze S_ squeezes_S1_S_
    let v185 : Memref sig .tc .vmem S1x352x1024 .f32 := arg10.slice (Rect.unit (s := S2x416x1024) (k0_off14 i) S1x352x1024.size (k0_off14_inb i k0_h6)) (fun _ => rfl)
    let v186 : Memref sig .tc .vmem S352x1024 .f32 := v185.squeeze S352x1024 squeezes_S1x352x1024_S352x1024
    let v187 : Memref sig .tc .hbm S1x352x1024 .f32 := arg5.slice (Rect.unit (s := S2x4096x1024) (k0_off15 i) S1x352x1024.size (k0_off15_inb i k0_h6)) (fun _ => rfl)
    let v188 : Memref sig .tc .hbm S352x1024 .f32 := v187.squeeze S352x1024 squeezes_S1x352x1024_S352x1024
    Prog.lift (.waitDma2 v184.sem v188 v186 ((View.wordExact_bits rfl).reshape _ _) ((View.wordExact_bits rfl).reshape _ _))
    pure ⟨⟩
  else do
    pure ⟨⟩
  if k0_h7 : k0_cond7 i = 1#1 then do
    let v183 : BitVec 32 := Scalar.muli v73 416#32
    let v184 : BitVec 32 := Scalar.subi v183 64#32
    let v185 : DmaSems sig S1 := arg11.slice (Rect.unit (s := S2) (k0_off16 i) S1.size (k0_off16_inb i k0_h7))
    let v186 : DmaSems sig S_ := v185.squeeze S_ squeezes_S1_S_
    let v187 : Memref sig .tc .vmem S1x416x1024 .f32 := arg10.slice (Rect.unit (s := S2x416x1024) (k0_off17 i) S1x416x1024.size (k0_off17_inb i k0_h7)) (fun _ => rfl)
    let v188 : Memref sig .tc .vmem S416x1024 .f32 := v187.squeeze S416x1024 squeezes_S1x416x1024_S416x1024
    let v189 : Memref sig .tc .hbm S1x416x1024 .f32 := arg5.slice (Rect.unit (s := S2x4096x1024) (k0_off18 i) S1x416x1024.size (k0_off18_inb i k0_h7)) (fun _ => rfl)
    let v190 : Memref sig .tc .hbm S416x1024 .f32 := v189.squeeze S416x1024 squeezes_S1x416x1024_S416x1024
    Prog.lift (.waitDma2 v186.sem v190 v188 ((View.wordExact_bits rfl).reshape _ _) ((View.wordExact_bits rfl).reshape _ _))
    pure ⟨⟩
  else do
    pure ⟨⟩
  if k0_h8 : k0_cond8 i = 1#1 then do
    let v183 : BitVec 32 := Scalar.addi arg0 1#32
    let v184 : BitVec 32 := Scalar.subi 1#32 v43
    let v185 : BitVec 32 := Scalar.divsi v183 10#32
    let v186 : BitVec 1 := Scalar.cmpi .sgt v183 0#32
    let v187 : BitVec 32 := Scalar.extui v186
    let v188 : BitVec 1 := Scalar.cmpi .slt v183 0#32
    let v189 : BitVec 32 := Scalar.extui v188
    let v190 : BitVec 32 := Scalar.subi v187 v189
    let v202 : BitVec 1 := Scalar.cmpi .eq 10#32 0#32
    let v203 : BitVec 32 := Scalar.select v202 1#32 10#32
    let v204 : BitVec 32 := Scalar.remsi v183 v203
    let v205 : BitVec 1 := Scalar.cmpi .ne v204 0#32
    let v206 : BitVec 1 := Scalar.cmpi .slt v204 0#32
    let v207 : BitVec 1 := Scalar.cmpi .slt v203 0#32
    let v208 : BitVec 1 := Scalar.xori v206 v207
    let v209 : BitVec 1 := Scalar.andi v208 v205
    let v210 : BitVec 32 := Scalar.addi v204 v203
    let v211 : BitVec 32 := Scalar.select v209 v210 v204
    if k0_h9 : k0_cond9 i = 1#1 then do
      let v218 : DmaSems sig S1 := arg11.slice (Rect.unit (s := S2) (k0_off19 i) S1.size (k0_off19_inb i k0_h8 k0_h9))
      let v219 : DmaSems sig S_ := v218.squeeze S_ squeezes_S1_S_
      let v220 : Memref sig .tc .vmem S1x352x1024 .f32 := arg10.slice (Rect.unit (s := S2x416x1024) (k0_off20 i) S1x352x1024.size (k0_off20_inb i k0_h8 k0_h9)) (fun _ => rfl)
      let v221 : Memref sig .tc .vmem S352x1024 .f32 := v220.squeeze S352x1024 squeezes_S1x352x1024_S352x1024
      let v222 : Memref sig .tc .hbm S1x352x1024 .f32 := arg5.slice (Rect.unit (s := S2x4096x1024) (k0_off21 i) S1x352x1024.size (k0_off21_inb i k0_h8 k0_h9)) (fun _ => rfl)
      let v223 : Memref sig .tc .hbm S352x1024 .f32 := v222.squeeze S352x1024 squeezes_S1x352x1024_S352x1024
      Prog.lift (.enqueueDma v223 (.here v221) (.dma v219.sem) ((View.wordExact_bits rfl).reshape _ _) ((View.wordExact_bits rfl).reshape _ _) ⟨Or.inl rfl, trivial⟩)
      pure ⟨⟩
    else do
      pure ⟨⟩
    if k0_h10 : k0_cond10 i = 1#1 then do
      let v218 : BitVec 32 := Scalar.muli v211 416#32
      let v219 : BitVec 32 := Scalar.subi v218 64#32
      let v220 : DmaSems sig S1 := arg11.slice (Rect.unit (s := S2) (k0_off22 i) S1.size (k0_off22_inb i k0_h8 k0_h10))
      let v221 : DmaSems sig S_ := v220.squeeze S_ squeezes_S1_S_
      let v222 : Memref sig .tc .vmem S1x416x1024 .f32 := arg10.slice (Rect.unit (s := S2x416x1024) (k0_off23 i) S1x416x1024.size (k0_off23_inb i k0_h8 k0_h10)) (fun _ => rfl)
      let v223 : Memref sig .tc .vmem S416x1024 .f32 := v222.squeeze S416x1024 squeezes_S1x416x1024_S416x1024
      let v224 : Memref sig .tc .hbm S1x416x1024 .f32 := arg5.slice (Rect.unit (s := S2x4096x1024) (k0_off24 i) S1x416x1024.size (k0_off24_inb i k0_h8 k0_h10)) (fun _ => rfl)
      let v225 : Memref sig .tc .hbm S416x1024 .f32 := v224.squeeze S416x1024 squeezes_S1x416x1024_S416x1024
      Prog.lift (.enqueueDma v225 (.here v223) (.dma v221.sem) ((View.wordExact_bits rfl).reshape _ _) ((View.wordExact_bits rfl).reshape _ _) ⟨Or.inl rfl, trivial⟩)
      pure ⟨⟩
    else do
      pure ⟨⟩
    pure ⟨⟩
  else do
    pure ⟨⟩
  if k0_h11 : k0_cond11 i = 1#1 then do
    let v184 : Index := Scalar.indexCast v43
    let v185 : Vec F S1x64x1024 .f32 ← Prog.lift (.load arg10 (Rect.unit (s := S2x416x1024) (k0_off25 i) S1x64x1024.size (k0_off25_inb i k0_h11)).toLoadRect (View.loadsAt_vmem h_S1x64x1024))
    Prog.lift (.store arg10 (Rect.unit (s := S2x416x1024) (k0_off25 i) S1x64x1024.size (k0_off25_inb i k0_h11)) k0_pay13 Finset.univ (View.stores_vmem_bits_univ h_S1x64x1024 rfl) (.inl rfl))
    pure ⟨⟩
  else do
    pure ⟨⟩
  let v97 : Vec F S416x1024 .f32 ← Prog.lift (.load arg3 (Rect.unit (s := S416x1024) ![0, 0] S416x1024.size inb_S416x1024_S416x1024_0_0).toLoadRect (View.loadsAt_vmem h_S416x1024))
  let v99 : Vec F S1x416x4096 .bf16 ← Prog.lift (.load arg12 (Rect.unit (s := S3x416x4096) (k0_off26 i) S1x416x4096.size (k0_off26_inb i)).toLoadRect (View.loadsAt_vmem h_S1x416x4096))
  let v101 : Vec F S4096x1024 .bf16 ← Prog.lift (.load arg2 (Rect.unit (s := S4096x1024) ![0, 0] S4096x1024.size inb_S4096x1024_S4096x1024_0_0).toLoadRect (View.loadsAt_vmem h_S4096x1024))
  pure (k0_pay5 v97 v99 v101)

set_option maxRecDepth 65536 in
theorem k0_part3_eq_skeleton : k0_part3 (F := F) = k0_part3_skel (F := F) := rfl

/-- The same, over named values. -/
noncomputable def k0_part4_skel (i : grid0.Coords) (arg1 : Memref sig .tc .hbm S8320x4096 .bf16) (harg1 : arg1.IsWhole) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .hbm S2x4096x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (arg10 : Memref sig .tc .vmem S2x416x1024 .f32) (harg10 : arg10.IsWhole) (arg11 : DmaSems sig S2) (arg12 : Memref sig .tc .vmem S3x416x4096 .bf16) (harg12 : arg12.IsWhole) (arg13 : DmaSems sig S3) (arg0 : BitVec 32) (v43 : BitVec 32) (v103 : FVec F S416x1024 .f32) :
    Prog (TpuEff nD τ sig (Elt F) Λ₀ .tc) (Σ' (v112 : FVec F S416x1 .f32) (v114 : FVec F S416x1024 .f32) (v140 : FVec F S416x1024 .f32) (v142 : FVec F S416x1024 .f32) (v144 : FVec F S416x1024 .f32), FVec F S416x1 .f32) := do
  let v104 : Vec F S1x1024 .f32 ← Prog.lift (.load arg4 (Rect.unit (s := S1x1024) ![0, 0] S1x1024.size inb_S1x1024_S1x1024_0_0).toLoadRect (View.loadsAt_vmem h_S1x1024))
  let v134 : Vec F S1x416x1024 .f32 ← Prog.lift (.load arg10 (Rect.unit (s := S2x416x1024) (k0_off27 i) S1x416x1024.size (k0_off27_inb i)).toLoadRect (View.loadsAt_vmem h_S1x416x1024))
  pure ⟨k0_pay7 (mulf v103 v103), k0_pay8 v103 (mulf v103 v103), k0_pay9 arg0 v103 v104 (mulf v103 v103) v134, k0_pay10 arg0 v103 v104 (mulf v103 v103) v134, k0_pay11 arg0 v103 v104 (mulf v103 v103) v134, k0_pay16 arg0 v103 v104 (mulf v103 v103) v134⟩

set_option maxRecDepth 65536 in
theorem k0_part4_eq_skeleton : k0_part4 (F := F) = k0_part4_skel (F := F) := rfl

/-- The same, over named values. -/
noncomputable def cc0_mlp_down_loss_skel (i : grid0.Coords) (arg1 : Memref sig .tc .hbm S8320x4096 .bf16) (harg1 : arg1.IsWhole) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg5 : Memref sig .tc .hbm S2x4096x1024 .f32) (harg5 : arg5.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (arg10 : Memref sig .tc .vmem S2x416x1024 .f32) (harg10 : arg10.IsWhole) (arg11 : DmaSems sig S2) (arg12 : Memref sig .tc .vmem S3x416x4096 .bf16) (harg12 : arg12.IsWhole) (arg13 : DmaSems sig S3) :
    Prog (TpuEff nD τ sig (Elt F) Λ₀ .tc) PUnit := do
  let ⟨arg0, v33⟩ : Σ' (arg0 : BitVec 32), BitVec 32 ← k0_part1 i arg1 harg1 arg2 harg2 arg3 harg3 arg4 harg4 arg5 harg5 arg6 harg6 arg7 harg7 arg8 harg8 arg9 harg9 arg10 harg10 arg11 arg12 harg12 arg13
  let ⟨v43, v65, v66, v71⟩ : Σ' (v43 : BitVec 32) (v65 : BitVec 32) (v66 : BitVec 32), BitVec 1 ← k0_part2 i arg1 harg1 arg2 harg2 arg3 harg3 arg4 harg4 arg5 harg5 arg6 harg6 arg7 harg7 arg8 harg8 arg9 harg9 arg10 harg10 arg11 arg12 harg12 arg13 arg0
  let v103 : FVec F S416x1024 .f32 ← k0_part3 i arg1 harg1 arg2 harg2 arg3 harg3 arg4 harg4 arg5 harg5 arg6 harg6 arg7 harg7 arg8 harg8 arg9 harg9 arg10 harg10 arg11 arg12 harg12 arg13 arg0 v33 v43 v65 v66 v71
  let ⟨v112, v114, v140, v142, v144, v147⟩ : Σ' (v112 : FVec F S416x1 .f32) (v114 : FVec F S416x1024 .f32) (v140 : FVec F S416x1024 .f32) (v142 : FVec F S416x1024 .f32) (v144 : FVec F S416x1024 .f32), FVec F S416x1 .f32 ← k0_part4 i arg1 harg1 arg2 harg2 arg3 harg3 arg4 harg4 arg5 harg5 arg6 harg6 arg7 harg7 arg8 harg8 arg9 harg9 arg10 harg10 arg11 arg12 harg12 arg13 arg0 v43 v103
  let v155 : Vec F S416x1024 .f32 ← Prog.lift (.load arg6 (Rect.unit (s := S416x1024) ![0, 0] S416x1024.size inb_S416x1024_S416x1024_0_0).toLoadRect (View.loadsAt_vmem h_S416x1024))
  Prog.lift (.store arg6 (Rect.unit (s := S416x1024) ![0, 0] S416x1024.size inb_S416x1024_S416x1024_0_0) (k0_pay1 v112 v114 v144 (k0_pay17 v147)) Finset.univ (View.stores_vmem_bits_univ h_S416x1024 rfl) (.inl rfl))
  let v157 : Vec F S416x1024 .bf16 ← Prog.lift (.load arg7 (Rect.unit (s := S416x1024) ![0, 0] S416x1024.size inb_S416x1024_S416x1024_0_0).toLoadRect (View.loadsAt_vmem h_S416x1024))
  Prog.lift (.store arg7 (Rect.unit (s := S416x1024) ![0, 0] S416x1024.size inb_S416x1024_S416x1024_0_0) (k0_pay2 v112 v114 v144 (k0_pay17 v147)) Finset.univ (View.stores_vmem h_S416x1024 (harg7.storeExact_slice rfl _ packedbf16_S416x1024_S416x1024_0_0) (fun _ => rfl)) (.inl rfl))
  if k0_h12 : k0_cond12 i = 1#1 then do
    let v183 : Vec F S1x1024 .f32 ← Prog.lift (.load arg8 (Rect.unit (s := S1x1024) ![0, 0] S1x1024.size inb_S1x1024_S1x1024_0_0).toLoadRect (View.loadsAt_vmem h_S1x1024))
    Prog.lift (.store arg8 (Rect.unit (s := S1x1024) ![0, 0] S1x1024.size inb_S1x1024_S1x1024_0_0) (k0_pay3 v114 v142) Finset.univ (View.stores_vmem_bits_univ h_S1x1024 rfl) (.inl rfl))
    let v184 : Vec F S1x128 .f32 ← Prog.lift (.load arg9 (Rect.unit (s := S1x128) ![0, 0] S1x128.size inb_S1x128_S1x128_0_0).toLoadRect (View.loadsAt_vmem h_S1x128))
    Prog.lift (.store arg9 (Rect.unit (s := S1x128) ![0, 0] S1x128.size inb_S1x128_S1x128_0_0) (k0_pay4 v140) Finset.univ (View.stores_vmem_bits_univ h_S1x128 rfl) (.inl rfl))
    pure ⟨⟩
  else do
    pure ⟨⟩
  if k0_h13 : k0_cond13 i = 1#1 then do
    let v183 : Vec F S1x1024 .f32 ← Prog.lift (.load arg8 (Rect.unit (s := S1x1024) ![0, 0] S1x1024.size inb_S1x1024_S1x1024_0_0).toLoadRect (View.loadsAt_vmem h_S1x1024))
    let v186 : Vec F S1x1024 .f32 ← Prog.lift (.load arg8 (Rect.unit (s := S1x1024) ![0, 0] S1x1024.size inb_S1x1024_S1x1024_0_0).toLoadRect (View.loadsAt_vmem h_S1x1024))
    Prog.lift (.store arg8 (Rect.unit (s := S1x1024) ![0, 0] S1x1024.size inb_S1x1024_S1x1024_0_0) (k0_pay14 v183 (k0_pay3 v114 v142)) Finset.univ (View.stores_vmem_bits_univ h_S1x1024 rfl) (.inl rfl))
    let v187 : Vec F S1x128 .f32 ← Prog.lift (.load arg9 (Rect.unit (s := S1x128) ![0, 0] S1x128.size inb_S1x128_S1x128_0_0).toLoadRect (View.loadsAt_vmem h_S1x128))
    let v190 : Vec F S1x128 .f32 ← Prog.lift (.load arg9 (Rect.unit (s := S1x128) ![0, 0] S1x128.size inb_S1x128_S1x128_0_0).toLoadRect (View.loadsAt_vmem h_S1x128))
    Prog.lift (.store arg9 (Rect.unit (s := S1x128) ![0, 0] S1x128.size inb_S1x128_S1x128_0_0) (k0_pay15 v187 (k0_pay4 v140)) Finset.univ (View.stores_vmem_bits_univ h_S1x128 rfl) (.inl rfl))
    pure ⟨⟩
  else do
    pure ⟨⟩
  pure ⟨⟩

set_option maxRecDepth 65536 in
theorem cc0_mlp_down_loss_eq_skeleton : cc0_mlp_down_loss (F := F) = cc0_mlp_down_loss_skel (F := F) := rfl

end Cert.MlpDownLoss
-- ==== Proof.MlpDownLoss.Runs.lean ====
/- What the runs of the body share: the branch conditions, the slots the streamed operands pass through, and their names. -/
module

public import proofs.«01_k».proof.Proof.MlpDownLoss.Skeleton
public import Idealize.ShloMosaic.Lib.Pipeline.ValueKit
public import Idealize.ShloMosaic.Lib.VecWindow
public import Idealize.ShloMosaic.Lib.ViewIndex

@[expose] public section

set_option synthInstance.maxSize 4096
set_option maxRecDepth 16384

noncomputable section

namespace Cert.MlpDownLoss

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (V_main_arg4 m c)⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_0, e0]
    word_cmp
   : ∀ t : Fin grid0.N, cond0_0 (grid0.coords t) ↔ t.val % 20 = 0)

abbrev cond0_1 (i : grid0.Coords) : Prop := k0_cond2 i = 1#1
theorem hcond0_1 : ∀ t : Fin cfg0.N, cond0_1 (grid0.coords t) ↔ t.val < 18 :=
  (by decide +kernel : ∀ t : Fin grid0.N, cond0_1 (grid0.coords t) ↔ t.val < 18)

abbrev cond0_2 (i : grid0.Coords) : Prop := k0_cond3 i = 1#1
theorem hcond0_2 : ∀ t : Fin cfg0.N, cond0_2 (grid0.coords t) ↔ t.val % 20 = 0 :=
  (fun t => by
    have ht : t.val < 20 := Nat.lt_of_lt_of_eq t.isLt N_0
    have e0 : (grid0.coords t 0).val = t.val / 1 % 20 := Pipeline.Grid.coords_val t 0 (by decide) rfl
    simp only [cond0_2, k0_cond3, e0]
    word_cmp
   : ∀ t : Fin grid0.N, cond0_2 (grid0.coords t) ↔ t.val % 20 = 0)

abbrev cond0_3 (i : grid0.Coords) : Prop := k0_cond8 i = 1#1
theorem hcond0_3 : ∀ t : Fin cfg0.N, cond0_3 (grid0.coords t) ↔ t.val < 19 :=
  (by decide +kernel : ∀ t : Fin grid0.N, cond0_3 (grid0.coords t) ↔ t.val < 19)
theorem kc4 : ∀ t : Fin cfg0.N, k0_cond4 (grid0.coords t) = 1#1 ↔ t.val % 10 = 0 :=
  (by decide +kernel : ∀ t : Fin grid0.N, k0_cond4 (grid0.coords t) = 1#1 ↔ t.val % 10 = 0)
theorem kc5 : ∀ t : Fin cfg0.N, k0_cond5 (grid0.coords t) = 1#1 ↔ t.val % 10 ≠ 0 :=
  (by decide +kernel : ∀ t : Fin grid0.N, k0_cond5 (grid0.coords t) = 1#1 ↔ t.val % 10 ≠ 0)
theorem kc6 : ∀ t : Fin cfg0.N, k0_cond6 (grid0.coords t) = 1#1 ↔ t.val % 10 = 0 :=
  (by decide +kernel : ∀ t : Fin grid0.N, k0_cond6 (grid0.coords t) = 1#1 ↔ t.val % 10 = 0)
theorem kc7 : ∀ t : Fin cfg0.N, k0_cond7 (grid0.coords t) = 1#1 ↔ t.val % 10 ≠ 0 :=
  (by decide +kernel : ∀ t : Fin grid0.N, k0_cond7 (grid0.coords t) = 1#1 ↔ t.val % 10 ≠ 0)
theorem kc9 : ∀ t : Fin cfg0.N, k0_cond9 (grid0.coords t) = 1#1 ↔ (t.val + 1) % 10 = 0 :=
  (by decide +kernel : ∀ t : Fin grid0.N, k0_cond9 (grid0.coords t) = 1#1 ↔ (t.val + 1) % 10 = 0)
theorem kc10 : ∀ t : Fin cfg0.N, k0_cond10 (grid0.coords t) = 1#1 ↔ (t.val + 1) % 10 ≠ 0 :=
  (by decide +kernel : ∀ t : Fin grid0.N, k0_cond10 (grid0.coords t) = 1#1 ↔ (t.val + 1) % 10 ≠ 0)
theorem kc11 : ∀ t : Fin cfg0.N, k0_cond11 (grid0.coords t) = 1#1 ↔ t.val % 10 = 0 :=
  (by decide +kernel : ∀ t : Fin grid0.N, k0_cond11 (grid0.coords t) = 1#1 ↔ t.val % 10 = 0)
theorem kc12 : ∀ t : Fin cfg0.N, k0_cond12 (grid0.coords t) = 1#1 ↔ t.val = 0 :=
  (by decide +kernel : ∀ t : Fin grid0.N, k0_cond12 (grid0.coords t) = 1#1 ↔ t.val = 0)
theorem kc13 : ∀ t : Fin cfg0.N, k0_cond13 (grid0.coords t) = 1#1 ↔ 0 < t.val :=
  (by decide +kernel : ∀ t : Fin grid0.N, k0_cond13 (grid0.coords t) = 1#1 ↔ 0 < t.val)

abbrev ms0_0 (t : Fin cfg0.N) : Memref sig .tc .vmem S4096x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S416x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S416x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S416x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev scM0_0 : Memref sig .tc .vmem S2x416x1024 .f32 := Memref.whole cc0_scratch0
abbrev scM0_1 : Memref sig .tc .vmem S3x416x4096 .bf16 := Memref.whole cc0_scratch2
abbrev hbM0_0 : Memref sig .tc .hbm S8320x4096 .bf16 := Memref.whole main_arg0
abbrev hbM0_1 : Memref sig .tc .hbm S2x4096x1024 .f32 := Memref.whole main_arg4
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 5 → SemLoc sig := fun j => (![SemLoc.dma 10, SemLoc.dma 11, SemLoc.dma 12, SemLoc.dma 13, SemLoc.dma 14] : Fin 5 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2, 3, 4] (by decide) (by decide)]; rfl
def H0 : Finset (Ref sig .tc) := {main_arg0, main_arg4}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_arg4)) := by
  rw [BI.bigSep_eq_bigSepL_of_eq [main_arg0, main_arg4] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ iprop(hbPt0 c hbM0_0 (V m c main_arg0) ∗ hbPt0 c hbM0_1 (V m c main_arg4))) := by
  rw [Pipeline.ΦD_eq, scopedRest0_eq, ownSems00_eq, hbmPts0_eq]; simp only [scM0_0, scM0_1, owns_whole]; try rfl

instance : NeZero grid0.N := ⟨by rw [N_0]; decide⟩
theorem inb_slot0_0 (s : Fin 3) : ∀ a, (![s.val, 0, 0] : Fin 3 → Nat) a + S1x416x4096.size a ≤ S3x416x4096.size a := by
  have := s.isLt; intro a; fin_cases a <;> simp <;> omega
theorem inb_src0_0 (b : Fin 20) : ∀ a, (![416 * b.val, 0] : Fin 2 → Nat) a + S416x4096.size a ≤ S8320x4096.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
def rslot0_0 (s : Fin 3) : Memref sig .tc .vmem S416x4096 .bf16 :=
  (scM0_1.slice (Rect.unit (s := S3x416x4096) ![s.val, 0, 0] S1x416x4096.size (inb_slot0_0 s)) (fun _ => rfl)).squeeze S416x4096 squeezes_S1x416x4096_S416x4096
def srcB0_0 (b : Fin 20) : Memref sig .tc .hbm S416x4096 .bf16 :=
  hbM0_0.slice (Rect.unit (s := S8320x4096) ![416 * b.val, 0] S416x4096.size (inb_src0_0 b)) (fun _ => rfl)
def cellA0_0 (s : Fin 3) : DmaSems sig S_ := (cc0_scratch3.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 12 := by decide
theorem cellR0_0_1 : cellR0_0 1 = SemLoc.dma 13 := by decide
theorem cellR0_0_2 : cellR0_0 2 = SemLoc.dma 14 := by decide

section Ring0_0
variable (c : Dev nD) (W : HbBuf0 (F := F) c hbM0_0)
abbrev qs0_0 (s : Fin 3) : PosShare TreeShare := if s.val = 0 then fullShare.left else if s.val = 1 then fullShare.right.left else fullShare.right.right
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 20) : sProp 𝕄 := (srcB0_0 b).view.loc (c : Thread nD τ) ↦[(srcB0_0 b).view.set]{qs0_0 s} W
def restP0_0 (s : Fin 3) (b : Fin 20) : sProp 𝕄 := ((c : Thread nD τ).loc main_arg0) ↦[Finset.univ \ (srcB0_0 b).view.set]{qs0_0 s} W
abbrev wholeP0_0 (s : Fin 3) : sProp 𝕄 := ((c : Thread nD τ).loc main_arg0) ↦[Finset.univ]{qs0_0 s} W
abbrev landed0_0 (s : Fin 3) (b : Fin 20) (f : HbBuf0 (F := F) c (rslot0_0 s)) : HbBuf0 (F := F) c (rslot0_0 s) :=
  (rslot0_0 s).view.writes (Elt F) f [⟨Rect.whole S416x4096, ReadAs.same.apply ((srcB0_0 b).view.read (Elt F) W)⟩]
abbrev flightP0_0 (s : Fin 3) (b : Fin 20) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
abbrev slotW0_0 (s : Fin 3) (f : HbBuf0 (F := F) c (rslot0_0 s)) : sProp 𝕄 := iprop(slotP0_0 c s f ∗ wholeP0_0 c W s)
abbrev flightW0_0 (s : Fin 3) (b : Fin 20) (f : HbBuf0 (F := F) c (rslot0_0 s)) : sProp 𝕄 := iprop(flightP0_0 c W s b f ∗ restP0_0 c W s b)
abbrev noHome0_0 (b : Fin 20) : sProp 𝕄 := iprop(emp)
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 12) 0 := congrArg (fun x => (semVal ((c : Thread nD τ), x) 0 : sProp 𝕄)) cellR0_0_0
omit [FloatOps F] in
theorem cellP0_0_1 : cellP0_0 (F := F) c 1 = semVal ((c : Thread nD τ), SemLoc.dma 13) 0 := congrArg (fun x => (semVal ((c : Thread nD τ), x) 0 : sProp 𝕄)) cellR0_0_1
omit [FloatOps F] in
theorem cellP0_0_2 : cellP0_0 (F := F) c 2 = semVal ((c : Thread nD τ), SemLoc.dma 14) 0 := congrArg (fun x => (semVal ((c : Thread nD τ), x) 0 : sProp 𝕄)) cellR0_0_2
end Ring0_0

abbrev slotSet0_0 (s : Fin 3) : Finset S3x416x4096.Idx := (Rect.unit (s := S3x416x4096) ![s.val, 0, 0] S1x416x4096.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x416x4096) (0 : Fin 3) 1 (fun s : Fin 3 => (![s.val, 0, 0] : Fin 3 → Nat)) S1x416x4096.size inb_slot0_0 (fun s => by simp) rfl s s' h
theorem slots0_0_cover : Finset.univ.biUnion slotSet0_0 = Finset.univ :=
  Ring.lead_cover (s := S3x416x4096) (0 : Fin 3) 1 (fun s : Fin 3 => (![s.val, 0, 0] : Fin 3 → Nat)) S1x416x4096.size inb_slot0_0 (fun s => by simp)
    (fun s a ha => by fin_cases a <;> first | exact absurd rfl ha | rfl) rfl (fun a ha => by fin_cases a <;> first | exact absurd rfl ha | rfl) rfl

section InOut0_0
variable (c : Dev nD) (W : HbBuf0 (F := F) c hbM0_0)
theorem slotP0_0_eq (s : Fin 3) (f) : slotP0_0 (F := F) c s f = (((c : Thread nD τ).loc cc0_scratch2) ↦[slotSet0_0 s]{fullShare} f : sProp 𝕄) := by
  unfold slotP0_0; rw [slotSet0_0_eq]; rfl
theorem src0_0_split (s : Fin 3) (b : Fin 20) : wholeP0_0 (F := F) c W s ⊣⊢ iprop(srcP0_0 c W s b ∗ restP0_0 c W s b) := by
  unfold restP0_0; exact pointsTo_split_subset (Finset.subset_univ _)
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slots0_0_in : iprop(∃ d, owns (c : Thread nD τ) scM0_1 fullShare d) ⊢ (iprop((∃ f, slotP0_0 (F := F) c 0 f) ∗ (∃ f, slotP0_0 (F := F) c 1 f) ∗ ∃ f, slotP0_0 (F := F) c 2 f) : sProp 𝕄) := by
  simp only [scM0_1, owns_whole]
  exact Ring.slots3_split (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch2) (q := fullShare) slotSet0_0 slots0_0_disjoint slots0_0_cover
    (slotP0_0 c 0) (slotP0_0 c 1) (slotP0_0 c 2) (slotP0_0_eq c 0) (slotP0_0_eq c 1) (slotP0_0_eq c 2)
end InOut0_0

theorem ring0_0_in (c : Dev nD) :
    iprop((∃ d, owns (c : Thread nD τ) scM0_1 fullShare d) ∗ (semVal ((c : Thread nD τ), SemLoc.dma 12) 0 ∗ semVal ((c : Thread nD τ), SemLoc.dma 13) 0 ∗ semVal ((c : Thread nD τ), SemLoc.dma 14) 0) ∗ hbPt0 c hbM0_0 (V m c main_arg0))
      ⊢ ringAt0_0 c (V m c main_arg0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ring0_0_out (c : Dev nD) :
    ringAt0_0 c (V m c main_arg0) 20
      ⊢ iprop((∃ d, owns (c : Thread nD τ) scM0_1 fullShare d) ∗ (semVal ((c : Thread nD τ), SemLoc.dma 12) 0 ∗ semVal ((c : Thread nD τ), SemLoc.dma 13) 0 ∗ semVal ((c : Thread nD τ), SemLoc.dma 14) 0) ∗ hbPt0 c hbM0_0 (V m c main_arg0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg0)).2; isplitl [HW0]; · iexact HW0
    isplitl [HW1]; · iexact HW1
    iexact HW2

section Canon0_0
omit [FloatOps F]
/-- A slot, its cell and a source from where they start. -/
theorem slot_at {o : Fin 3 → Nat} {s : Fin 3} (e : o = ![s.val, 0, 0]) (h : ∀ a, o a + S1x416x4096.size a ≤ S3x416x4096.size a) :
    (scM0_1.slice (Rect.unit (s := S3x416x4096) o S1x416x4096.size h) (fun _ => rfl)).squeeze S416x4096 squeezes_S1x416x4096_S416x4096 = rslot0_0 s := by
  subst e; rfl
theorem cell_at {o : Fin 1 → Nat} {s : Fin 3} (e : o = ![s.val]) (h : ∀ a, o a + S1.size a ≤ S3.size a) :
    (cc0_scratch3.slice (Rect.unit (s := S3) o S1.size h)).squeeze S_ squeezes_S1_S_ = cellA0_0 s := by
  subst e; rfl
theorem src_at {o : Fin 2 → Nat} {b : Fin 20} (e : o = ![416 * b.val, 0]) (h : ∀ a, o a + S416x4096.size a ≤ S8320x4096.size a) :
    hbM0_0.slice (Rect.unit (s := S8320x4096) o S416x4096.size h) (fun _ => rfl) = srcB0_0 b := by
  subst e; rfl
theorem rstep0_0_A : ∀ t : Fin grid0.N, cond0_0 (grid0.coords t) → cond0_1 (grid0.coords t) → cond0_2 (grid0.coords t) → cond0_3 (grid0.coords t) → t.val = 0 ∧ (t.val + 1) = 1 := by decide +kernel
theorem rstep0_0_B : ∀ t : Fin grid0.N, ¬cond0_0 (grid0.coords t) → cond0_1 (grid0.coords t) → ¬cond0_2 (grid0.coords t) → cond0_3 (grid0.coords t) → 1 ≤ t.val ∧ t.val + 2 < 20 ∧ (t.val + 1) = t.val + 1 := by decide +kernel
theorem rstep0_0_C : ∀ t : Fin grid0.N, ¬cond0_0 (grid0.coords t) → ¬cond0_1 (grid0.coords t) → ¬cond0_2 (grid0.coords t) → cond0_3 (grid0.coords t) → 1 ≤ t.val ∧ 20 ≤ t.val + 2 ∧ t.val < 20 ∧ (t.val + 1) = t.val + 1 := by decide +kernel
theorem rstep0_0_D : ∀ t : Fin grid0.N, ¬cond0_0 (grid0.coords t) → ¬cond0_1 (grid0.coords t) → ¬cond0_2 (grid0.coords t) → ¬cond0_3 (grid0.coords t) → 1 ≤ t.val ∧ 20 ≤ t.val + 2 ∧ t.val < 20 ∧ (t.val + 1) = t.val + 1 := by decide +kernel
theorem coff0_0_1 : ∀ t : Fin grid0.N, cond0_0 (grid0.coords t) → cond0_1 (grid0.coords t) → cond0_2 (grid0.coords t) → cond0_3 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) (h2 : cond0_2 (grid0.coords t)) (h3 : cond0_3 (grid0.coords t)) :
    (scM0_1.slice (Rect.unit (s := S3x416x4096) ![0, 0, 0] S1x416x4096.size inb_S3x416x4096_S1x416x4096_0_0_0) (fun _ => rfl)).squeeze S416x4096 squeezes_S1x416x4096_S416x4096 = rslot0_0 (Ring.sl 3 t.val) :=
  slot_at (coff0_0_1 t h0 h1 h2 h3) _
theorem coff0_0_2 : ∀ t : Fin grid0.N, cond0_0 (grid0.coords t) → cond0_1 (grid0.coords t) → cond0_2 (grid0.coords t) → cond0_3 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : cond0_2 (grid0.coords t)) (h3 : cond0_3 (grid0.coords t)) :
    (cc0_scratch3.slice (Rect.unit (s := S3) ![0] S1.size inb_S3_S1_0)).squeeze S_ squeezes_S1_S_ = cellA0_0 (Ring.sl 3 t.val) :=
  cell_at (coff0_0_2 t h0 h1 h2 h3) _
theorem coff0_0_3 : ∀ t : Fin grid0.N, cond0_0 (grid0.coords t) → cond0_1 (grid0.coords t) → cond0_2 (grid0.coords t) → cond0_3 (grid0.coords t) → (![0, 0] : Fin 2 → Nat) = ![416 * (Ring.bk 20 t.val).val, 0] := by decide +kernel
@[sl_canon] theorem canon0_0_3 (t : Fin grid0.N) (h0 : cond0_0 (grid0.coords t)) (h1 : cond0_1 (grid0.coords t)) (h2 : cond0_2 (grid0.coords t)) (h3 : cond0_3 (grid0.coords t)) :
    hbM0_0.slice (Rect.unit (s := S8320x4096) ![0, 0] S416x4096.size inb_S8320x4096_S416x4096_0_0) (fun _ => rfl) = srcB0_0 (Ring.bk 20 t.val) :=
  src_at (coff0_0_3 t h0 h1 h2 h3) _
theorem coff0_0_4 : ∀ t : Fin grid0.N, cond0_0 (grid0.coords t) → cond0_1 (grid0.coords t) → cond0_2 (grid0.coords t) → cond0_3 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) (h2 : cond0_2 (grid0.coords t)) (h3 : cond0_3 (grid0.coords t)) :
    (scM0_1.slice (Rect.unit (s := S3x416x4096) ![1, 0, 0] S1x416x4096.size inb_S3x416x4096_S1x416x4096_1_0_0) (fun _ => rfl)).squeeze S416x4096 squeezes_S1x416x4096_S416x4096 = rslot0_0 (Ring.sl 3 (t.val + 1)) :=
  slot_at (coff0_0_4 t h0 h1 h2 h3) _
theorem coff0_0_5 : ∀ t : Fin grid0.N, cond0_0 (grid0.coords t) → cond0_1 (grid0.coords t) → cond0_2 (grid0.coords t) → cond0_3 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : cond0_2 (grid0.coords t)) (h3 : cond0_3 (grid0.coords t)) :
    (cc0_scratch3.slice (Rect.unit (s := S3) ![1] S1.size inb_S3_S1_1)).squeeze S_ squeezes_S1_S_ = cellA0_0 (Ring.sl 3 (t.val + 1)) :=
  cell_at (coff0_0_5 t h0 h1 h2 h3) _
theorem coff0_0_6 : ∀ t : Fin grid0.N, cond0_0 (grid0.coords t) → cond0_1 (grid0.coords t) → cond0_2 (grid0.coords t) → cond0_3 (grid0.coords t) → (![416, 0] : Fin 2 → Nat) = ![416 * (Ring.bk 20 (t.val + 1)).val, 0] := by decide +kernel
@[sl_canon] theorem canon0_0_6 (t : Fin grid0.N) (h0 : cond0_0 (grid0.coords t)) (h1 : cond0_1 (grid0.coords t)) (h2 : cond0_2 (grid0.coords t)) (h3 : cond0_3 (grid0.coords t)) :
    hbM0_0.slice (Rect.unit (s := S8320x4096) ![416, 0] S416x4096.size inb_S8320x4096_S416x4096_416_0) (fun _ => rfl) = srcB0_0 (Ring.bk 20 (t.val + 1)) :=
  src_at (coff0_0_6 t h0 h1 h2 h3) _
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_1.slice (Rect.unit (s := S3x416x4096) (k0_off2 (grid0.coords t)) S1x416x4096.size (k0_off2_inb (grid0.coords t) h1)) (fun _ => rfl)).squeeze S416x4096 squeezes_S1x416x4096_S416x4096 = rslot0_0 (Ring.sl 3 (t.val + 2)) :=
  slot_at (coff0_0_7 t) _
theorem coff0_0_8 : ∀ t : Fin grid0.N, k0_off1 (grid0.coords t) = ![(Ring.sl 3 (t.val + 2)).val] := by decide +kernel
@[sl_canon] theorem canon0_0_8 (t : Fin grid0.N) (h1 : cond0_1 (grid0.coords t)) :
    (cc0_scratch3.slice (Rect.unit (s := S3) (k0_off1 (grid0.coords t)) S1.size (k0_off1_inb (grid0.coords t) h1))).squeeze S_ squeezes_S1_S_ = cellA0_0 (Ring.sl 3 (t.val + 2)) :=
  cell_at (coff0_0_8 t) _
theorem coff0_0_9 : ∀ t : Fin grid0.N, cond0_0 (grid0.coords t) → cond0_1 (grid0.coords t) → cond0_2 (grid0.coords t) → cond0_3 (grid0.coords t) → k0_off3 (grid0.coords t) = ![416 * (Ring.bk 20 (t.val + 2)).val, 0] := by decide +kernel
@[sl_canon] theorem canon0_0_9 (t : Fin grid0.N) (h0 : cond0_0 (grid0.coords t)) (h1 : cond0_1 (grid0.coords t)) (h2 : cond0_2 (grid0.coords t)) (h3 : cond0_3 (grid0.coords t)) :
    hbM0_0.slice (Rect.unit (s := S8320x4096) (k0_off3 (grid0.coords t)) S416x4096.size (k0_off3_inb (grid0.coords t) h1)) (fun _ => rfl) = srcB0_0 (Ring.bk 20 (t.val + 2)) :=
  src_at (coff0_0_9 t h0 h1 h2 h3) _
theorem coff0_0_10 : ∀ t : Fin grid0.N, k0_off5 (grid0.coords t) = ![(Ring.sl 3 t.val).val, 0, 0] := by decide +kernel
@[sl_canon] theorem canon0_0_10 (t : Fin grid0.N) :
    (scM0_1.slice (Rect.unit (s := S3x416x4096) (k0_off5 (grid0.coords t)) S1x416x4096.size (k0_off5_inb (grid0.coords t))) (fun _ => rfl)).squeeze S416x4096 squeezes_S1x416x4096_S416x4096 = rslot0_0 (Ring.sl 3 t.val) :=
  slot_at (coff0_0_10 t) _
theorem coff0_0_11 : ∀ t : Fin grid0.N, k0_off4 (grid0.coords t) = ![(Ring.sl 3 t.val).val] := by decide +kernel
@[sl_canon] theorem canon0_0_11 (t : Fin grid0.N) :
    (cc0_scratch3.slice (Rect.unit (s := S3) (k0_off4 (grid0.coords t)) S1.size (k0_off4_inb (grid0.coords t)))).squeeze S_ squeezes_S1_S_ = cellA0_0 (Ring.sl 3 t.val) :=
  cell_at (coff0_0_11 t) _
theorem coff0_0_12 : ∀ t : Fin grid0.N, ¬cond0_0 (grid0.coords t) → cond0_1 (grid0.coords t) → ¬cond0_2 (grid0.coords t) → cond0_3 (grid0.coords t) → k0_off3 (grid0.coords t) = ![416 * (Ring.bk 20 (t.val + 2)).val, 0] := by decide +kernel
@[sl_canon] theorem canon0_0_12 (t : Fin grid0.N) (h0 : ¬cond0_0 (grid0.coords t)) (h1 : cond0_1 (grid0.coords t)) (h2 : ¬cond0_2 (grid0.coords t)) (h3 : cond0_3 (grid0.coords t)) :
    hbM0_0.slice (Rect.unit (s := S8320x4096) (k0_off3 (grid0.coords t)) S416x4096.size (k0_off3_inb (grid0.coords t) h1)) (fun _ => rfl) = srcB0_0 (Ring.bk 20 (t.val + 2)) :=
  src_at (coff0_0_12 t h0 h1 h2 h3) _
theorem coff0_0_13 : ∀ t : Fin grid0.N, k0_off26 (grid0.coords t) = ![(Ring.sl 3 t.val).val, 0, 0] := by decide +kernel
instance (priority := high) closedOff0_0_13 (t : Fin grid0.N) : ClosedOff (k0_off26 (grid0.coords t)) := ⟨![(Ring.sl 3 t.val).val, 0, 0], coff0_0_13 t⟩
end Canon0_0

theorem inb_slot0_1 (s : Fin 2) : ∀ a, (![s.val, 0, 0] : Fin 3 → Nat) a + S1x416x1024.size a ≤ S2x416x1024.size a := by
  have := s.isLt; intro a; fin_cases a <;> simp <;> omega
theorem inb_part (s : Fin 2) : ∀ a, (![s.val, 64, 0] : Fin 3 → Nat) a + S1x352x1024.size a ≤ S2x416x1024.size a := by
  have := s.isLt; intro a; fin_cases a <;> simp <;> omega
theorem inb_top (s : Fin 2) : ∀ a, (![s.val, 0, 0] : Fin 3 → Nat) a + S1x64x1024.size a ≤ S2x416x1024.size a := by
  have := s.isLt; intro a; fin_cases a <;> simp <;> omega
theorem inb_srcL (b : Fin 20) : ∀ a, (![b.val / 10, 416 * (b.val % 10) - 64, 0] : Fin 3 → Nat) a + S1x416x1024.size a ≤ S2x4096x1024.size a := by
  have := b.isLt; intro a; fin_cases a <;> simp <;> omega
theorem inb_srcS (b : Fin 20) : ∀ a, (![b.val / 10, 0, 0] : Fin 3 → Nat) a + S1x352x1024.size a ≤ S2x4096x1024.size a := by
  have := b.isLt; intro a; fin_cases a <;> simp <;> omega
theorem inb_cell0_1 (s : Fin 2) : ∀ a, (![s.val] : Fin 1 → Nat) a + S1.size a ≤ S2.size a := by
  have := s.isLt; intro a; fin_cases a <;> simp <;> omega
def rslot0_1 (s : Fin 2) : Memref sig .tc .vmem S416x1024 .f32 :=
  (scM0_0.slice (Rect.unit (s := S2x416x1024) ![s.val, 0, 0] S1x416x1024.size (inb_slot0_1 s)) (fun _ => rfl)).squeeze S416x1024 squeezes_S1x416x1024_S416x1024
/-- The rows of a slot a short copy fills, and those above them. -/
def partM (s : Fin 2) : Memref sig .tc .vmem S352x1024 .f32 :=
  (scM0_0.slice (Rect.unit (s := S2x416x1024) ![s.val, 64, 0] S1x352x1024.size (inb_part s)) (fun _ => rfl)).squeeze S352x1024 squeezes_S1x352x1024_S352x1024
theorem sq_top : Shape.Squeezes S1x64x1024 S64x1024 := by decide
def topM (s : Fin 2) : Memref sig .tc .vmem S64x1024 .f32 :=
  (scM0_0.slice (Rect.unit (s := S2x416x1024) ![s.val, 0, 0] S1x64x1024.size (inb_top s)) (fun _ => rfl)).squeeze S64x1024 sq_top
/-- The rows of the target a block reads: 416 of them, or 352 for a sequence's first block. -/
def srcB0_1 (b : Fin 20) : Memref sig .tc .hbm S416x1024 .f32 :=
  (hbM0_1.slice (Rect.unit (s := S2x4096x1024) ![b.val / 10, 416 * (b.val % 10) - 64, 0] S1x416x1024.size (inb_srcL b)) (fun _ => rfl)).squeeze S416x1024 squeezes_S1x416x1024_S416x1024
def srcS (b : Fin 20) : Memref sig .tc .hbm S352x1024 .f32 :=
  (hbM0_1.slice (Rect.unit (s := S2x4096x1024) ![b.val / 10, 0, 0] S1x352x1024.size (inb_srcS b)) (fun _ => rfl)).squeeze S352x1024 squeezes_S1x352x1024_S352x1024
def cellA0_1 (s : Fin 2) : DmaSems sig S_ := (cc0_scratch1.slice (Rect.unit (s := S2) ![s.val] S1.size (inb_cell0_1 s))).squeeze S_ squeezes_S1_S_
abbrev cellR0_1 (s : Fin 2) : SemLoc sig := SemLoc.dma (cellA0_1 s).sem
theorem cellR0_1_0 : cellR0_1 0 = SemLoc.dma 10 := by decide
theorem cellR0_1_1 : cellR0_1 1 = SemLoc.dma 11 := by decide

/-- The target's slots, their cells and its sources, likewise. -/
theorem tcell_at {o : Fin 1 → Nat} {s : Fin 2} (e : o = ![s.val]) (h : ∀ a, o a + S1.size a ≤ S2.size a) :
    (cc0_scratch1.slice (Rect.unit (s := S2) o S1.size h)).squeeze S_ squeezes_S1_S_ = cellA0_1 s := by
  subst e; rfl
theorem tslot_at {o : Fin 3 → Nat} {s : Fin 2} (e : o = ![s.val, 0, 0]) (h : ∀ a, o a + S1x416x1024.size a ≤ S2x416x1024.size a) :
    (scM0_0.slice (Rect.unit (s := S2x416x1024) o S1x416x1024.size h) (fun _ => rfl)).squeeze S416x1024 squeezes_S1x416x1024_S416x1024 = rslot0_1 s := by
  subst e; rfl
theorem tpart_at {o : Fin 3 → Nat} {s : Fin 2} (e : o = ![s.val, 64, 0]) (h : ∀ a, o a + S1x352x1024.size a ≤ S2x416x1024.size a) :
    (scM0_0.slice (Rect.unit (s := S2x416x1024) o S1x352x1024.size h) (fun _ => rfl)).squeeze S352x1024 squeezes_S1x352x1024_S352x1024 = partM s := by
  subst e; rfl
theorem tsrc_at {o : Fin 3 → Nat} {b : Fin 20} (e : o = ![b.val / 10, 416 * (b.val % 10) - 64, 0]) (h : ∀ a, o a + S1x416x1024.size a ≤ S2x4096x1024.size a) :
    (hbM0_1.slice (Rect.unit (s := S2x4096x1024) o S1x416x1024.size h) (fun _ => rfl)).squeeze S416x1024 squeezes_S1x416x1024_S416x1024 = srcB0_1 b := by
  subst e; rfl
theorem tsrcS_at {o : Fin 3 → Nat} {b : Fin 20} (e : o = ![b.val / 10, 0, 0]) (h : ∀ a, o a + S1x352x1024.size a ≤ S2x4096x1024.size a) :
    (hbM0_1.slice (Rect.unit (s := S2x4096x1024) o S1x352x1024.size h) (fun _ => rfl)).squeeze S352x1024 squeezes_S1x352x1024_S352x1024 = srcS b := by
  subst e; rfl

section Ring0_1
variable (c : Dev nD) (W : HbBuf0 (F := F) c hbM0_1)
abbrev qs0_1 (s : Fin 2) : PosShare TreeShare := if s.val = 0 then fullShare.left else fullShare.right
abbrev slotP0_1 (s : Fin 2) (f : HbBuf0 (F := F) c (rslot0_1 s)) : sProp 𝕄 := (rslot0_1 s).view.loc (c : Thread nD τ) ↦[(rslot0_1 s).view.set]{fullShare} f
abbrev cellP0_1 (s : Fin 2) : sProp 𝕄 := semVal ((c : Thread nD τ), cellR0_1 s) 0
abbrev srcP0_1 (s : Fin 2) (b : Fin 20) : sProp 𝕄 := (srcB0_1 b).view.loc (c : Thread nD τ) ↦[(srcB0_1 b).view.set]{qs0_1 s} W
def restP0_1 (s : Fin 2) (b : Fin 20) : sProp 𝕄 := ((c : Thread nD τ).loc main_arg4) ↦[Finset.univ \ (srcB0_1 b).view.set]{qs0_1 s} W
abbrev wholeP0_1 (s : Fin 2) : sProp 𝕄 := ((c : Thread nD τ).loc main_arg4) ↦[Finset.univ]{qs0_1 s} W
abbrev landed0_1 (s : Fin 2) (b : Fin 20) (f : HbBuf0 (F := F) c (rslot0_1 s)) : HbBuf0 (F := F) c (rslot0_1 s) :=
  (rslot0_1 s).view.writes (Elt F) f [⟨Rect.whole S416x1024, ReadAs.same.apply ((srcB0_1 b).view.read (Elt F) W)⟩]
abbrev flightP0_1 (s : Fin 2) (b : Fin 20) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
abbrev slotW0_1 (s : Fin 2) (f : HbBuf0 (F := F) c (rslot0_1 s)) : sProp 𝕄 := iprop(slotP0_1 c s f ∗ wholeP0_1 c W s)
abbrev flightW0_1 (s : Fin 2) (b : Fin 20) (f : HbBuf0 (F := F) c (rslot0_1 s)) : sProp 𝕄 := iprop(flightP0_1 c W s b f ∗ restP0_1 c W s b)
abbrev noHome0_1 (b : Fin 20) : sProp 𝕄 := iprop(emp)
abbrev partP (s : Fin 2) (f : HbBuf0 (F := F) c (partM s)) : sProp 𝕄 := (partM s).view.loc (c : Thread nD τ) ↦[(partM s).view.set]{fullShare} f
abbrev topP (s : Fin 2) (f : HbBuf0 (F := F) c (topM s)) : sProp 𝕄 := (topM s).view.loc (c : Thread nD τ) ↦[(topM s).view.set]{fullShare} f
abbrev srcPS (s : Fin 2) (b : Fin 20) : sProp 𝕄 := (srcS b).view.loc (c : Thread nD τ) ↦[(srcS b).view.set]{qs0_1 s} W
def restPS (s : Fin 2) (b : Fin 20) : sProp 𝕄 := ((c : Thread nD τ).loc main_arg4) ↦[Finset.univ \ (srcS b).view.set]{qs0_1 s} W
abbrev landedS (s : Fin 2) (b : Fin 20) (f : HbBuf0 (F := F) c (partM s)) : HbBuf0 (F := F) c (partM s) :=
  (partM s).view.writes (Elt F) f [⟨Rect.whole S352x1024, ReadAs.same.apply ((srcS b).view.read (Elt F) W)⟩]
abbrev flightPS (s : Fin 2) (b : Fin 20) (f : HbBuf0 (F := F) c (partM s)) : sProp 𝕄 :=
  Transfers.Flight countersEmb (c : Thread nD τ) (cellR0_1 s) default ((partM s).view.amount (cellR0_1 s))
    iprop(partP c s (landedS c W s b f) ∗ srcPS c W s b)
abbrev flightWS (s : Fin 2) (b : Fin 20) (f : HbBuf0 (F := F) c (rslot0_1 s)) : sProp 𝕄 :=
  iprop(flightPS c W s b f ∗ restPS c W s b ∗ ∃ g, topP c s g)
/-- A block in flight: short for a sequence's first block. -/
def flightX (s : Fin 2) (b : Fin 20) (f : HbBuf0 (F := F) c (rslot0_1 s)) : sProp 𝕄 :=
  if b.val % 10 = 0 then flightWS c W s b f else flightW0_1 c W s b f
abbrev keptF (s : Fin 2) (b : Fin 20) (f : HbBuf0 (F := F) c (rslot0_1 s)) : HbBuf0 (F := F) c (rslot0_1 s) := f
def ringAt0_1 (k : ℕ) : sProp 𝕄 :=
  if k = 0 then Ring.At₀ (cellP0_1 c) (slotW0_1 c W) noHome0_1
  else Ring.AtK 1 (cellP0_1 c) (slotW0_1 c W) noHome0_1 (flightX c W) (keptF c) k
theorem inflight_long (s : Fin 2) (b : Fin 20) (h : b.val % 10 ≠ 0) :
    Ring.inflight (flightX (F := F) c W) s b = Ring.inflight (flightW0_1 c W) s b := by
  unfold Ring.inflight flightX; simp only [if_neg h]
theorem inflight_short (s : Fin 2) (b : Fin 20) (h : b.val % 10 = 0) :
    Ring.inflight (flightX (F := F) c W) s b = Ring.inflight (flightWS c W) s b := by
  unfold Ring.inflight flightX; simp only [if_pos h]
omit [FloatOps F] in
theorem cellP0_1_0 : cellP0_1 (F := F) c 0 = semVal ((c : Thread nD τ), SemLoc.dma 10) 0 := congrArg (fun x => (semVal ((c : Thread nD τ), x) 0 : sProp 𝕄)) cellR0_1_0
omit [FloatOps F] in
theorem cellP0_1_1 : cellP0_1 (F := F) c 1 = semVal ((c : Thread nD τ), SemLoc.dma 11) 0 := congrArg (fun x => (semVal ((c : Thread nD τ), x) 0 : sProp 𝕄)) cellR0_1_1
end Ring0_1

abbrev slotSet0_1 (s : Fin 2) : Finset S2x416x1024.Idx := (Rect.unit (s := S2x416x1024) ![s.val, 0, 0] S1x416x1024.size (inb_slot0_1 s)).set
theorem slotSet0_1_eq (s : Fin 2) : (rslot0_1 s).view.set = slotSet0_1 s := by
  simp only [rslot0_1, Memref.view_squeeze, View.set_reshape]; exact View.set_slice_whole _ _
theorem slots0_1_disjoint (s s' : Fin 2) (h : s ≠ s') : Disjoint (slotSet0_1 s) (slotSet0_1 s') :=
  Ring.lead_disjoint (s := S2x416x1024) (0 : Fin 3) 1 (fun s : Fin 2 => (![s.val, 0, 0] : Fin 3 → Nat)) S1x416x1024.size inb_slot0_1 (fun s => by simp) rfl s s' h
theorem slots0_1_cover : Finset.univ.biUnion slotSet0_1 = Finset.univ :=
  Ring.lead_cover (s := S2x416x1024) (0 : Fin 3) 1 (fun s : Fin 2 => (![s.val, 0, 0] : Fin 3 → Nat)) S1x416x1024.size inb_slot0_1 (fun s => by simp)
    (fun s a ha => by fin_cases a <;> first | exact absurd rfl ha | rfl) rfl (fun a ha => by fin_cases a <;> first | exact absurd rfl ha | rfl) rfl

abbrev partSet (s : Fin 2) : Finset S2x416x1024.Idx := (Rect.unit (s := S2x416x1024) ![s.val, 64, 0] S1x352x1024.size (inb_part s)).set
abbrev topSet (s : Fin 2) : Finset S2x416x1024.Idx := (Rect.unit (s := S2x416x1024) ![s.val, 0, 0] S1x64x1024.size (inb_top s)).set
theorem partSet_eq (s : Fin 2) : (partM s).view.set = partSet s := by
  simp only [partM, Memref.view_squeeze, View.set_reshape]; exact View.set_slice_whole _ _
theorem topSet_eq (s : Fin 2) : (topM s).view.set = topSet s := by
  simp only [topM, Memref.view_squeeze, View.set_reshape]; exact View.set_slice_whole _ _
theorem mem_unit {off sz : Fin 3 → ℕ} (h : ∀ a, off a + sz a ≤ S2x416x1024.size a) (y : S2x416x1024.Idx) :
    y ∈ (Rect.unit (s := S2x416x1024) off sz h).set ↔ ∀ a, off a ≤ (y a).val ∧ (y a).val < off a + sz a := by
  exact Rect.mem_set_unit
theorem parts_disjoint (s : Fin 2) : Disjoint (topSet s) (partSet s) := by
  rw [Finset.disjoint_left]
  intro y h1 h2
  have a1 := (mem_unit _ y).1 h1 1
  have a2 := (mem_unit _ y).1 h2 1
  simp at a1 a2; omega
theorem slotSet_parts (s : Fin 2) : slotSet0_1 s = topSet s ∪ partSet s := by
  ext y
  rw [Finset.mem_union, mem_unit, mem_unit, mem_unit]
  have k1 := (y 1).isLt
  simp only [Fin.forall_fin_succ] at *
  simp
  simp at k1
  omega

section InOut0_1
variable (c : Dev nD) (W : HbBuf0 (F := F) c hbM0_1)
theorem slotP0_1_eq (s : Fin 2) (f) : slotP0_1 (F := F) c s f = (((c : Thread nD τ).loc cc0_scratch0) ↦[slotSet0_1 s]{fullShare} f : sProp 𝕄) := by
  unfold slotP0_1; rw [slotSet0_1_eq]; rfl
theorem src0_1_split (s : Fin 2) (b : Fin 20) : wholeP0_1 (F := F) c W s ⊣⊢ iprop(srcP0_1 c W s b ∗ restP0_1 c W s b) := by
  unfold restP0_1; exact pointsTo_split_subset (Finset.subset_univ _)
theorem srcS_split (s : Fin 2) (b : Fin 20) : wholeP0_1 (F := F) c W s ⊣⊢ iprop(srcPS c W s b ∗ restPS c W s b) := by
  unfold restPS; exact pointsTo_split_subset (Finset.subset_univ _)
theorem partP_eq (s : Fin 2) (f) : partP (F := F) c s f = (((c : Thread nD τ).loc cc0_scratch0) ↦[partSet s]{fullShare} f : sProp 𝕄) := by
  unfold partP; rw [partSet_eq]; rfl
theorem topP_eq (s : Fin 2) (f) : topP (F := F) c s f = (((c : Thread nD τ).loc cc0_scratch0) ↦[topSet s]{fullShare} f : sProp 𝕄) := by
  unfold topP; rw [topSet_eq]; rfl
/-- A slot is its first rows and the others; -/
theorem slot_cut (s : Fin 2) (f : Buf (Elt F) ((c : Thread nD τ).loc cc0_scratch0)) : slotP0_1 (F := F) c s f ⊢ iprop(topP c s f ∗ partP c s f) := by
  have h := (pointsTo_union (ℓ := (c : Thread nD τ).loc cc0_scratch0) (q := fullShare) (f := f) (parts_disjoint s) : _ ⊣⊢ (_ : sProp 𝕄)).1
  rw [← slotSet_parts] at h
  iintro H
  ihave H2 := (Entails.of_eq (slotP0_1_eq (F := F) c s f)) $$ H
  ihave H3 := h $$ H2
  icases H3 with ⟨H4, H5⟩
  isplitl [H4]
  · iapply (Entails.of_eq (topP_eq (F := F) c s f).symm); iexact H4
  · iapply (Entails.of_eq (partP_eq (F := F) c s f).symm); iexact H5
/-- and back, each at what it holds. -/
def joined (s : Fin 2) (g f : Buf (Elt F) ((c : Thread nD τ).loc cc0_scratch0)) : Buf (Elt F) ((c : Thread nD τ).loc cc0_scratch0) :=
  (partSet s).piecewise f g
theorem slot_join (s : Fin 2) (g f : Buf (Elt F) ((c : Thread nD τ).loc cc0_scratch0)) :
    iprop(topP (F := F) c s g ∗ partP c s f) ⊢ slotP0_1 c s (joined c s g f) := by
  have h := (pointsTo_join (ℓ := (c : Thread nD τ).loc cc0_scratch0) (q := fullShare) (f := g) (g := f) (parts_disjoint s) : _ ⊢ (_ : sProp 𝕄))
  rw [← slotSet_parts] at h
  iintro ⟨H4, H5⟩
  iapply (Entails.of_eq (slotP0_1_eq (F := F) c s (joined c s g f)).symm)
  iapply h
  isplitl [H4]
  · iapply (Entails.of_eq (topP_eq (F := F) c s g)); iexact H4
  · iapply (Entails.of_eq (partP_eq (F := F) c s f)); iexact H5
theorem whole0_1_split : (hbPt0 c hbM0_1 W : sProp 𝕄) ⊣⊢ iprop(wholeP0_1 c W 0 ∗ wholeP0_1 c W 1) :=
  pointsTo_share (PosShare.mem_left_op_right fullShare)
set_option maxHeartbeats 1000000 in
theorem slots0_1_in : iprop(∃ d, owns (c : Thread nD τ) scM0_0 fullShare d) ⊢ (iprop((∃ f, slotP0_1 (F := F) c 0 f) ∗ ∃ f, slotP0_1 (F := F) c 1 f) : sProp 𝕄) := by
  simp only [scM0_0, owns_whole]
  exact Ring.slots2_split (U := Pipeline.UD sig nD τ) (ℓ := (c : Thread nD τ).loc cc0_scratch0) (q := fullShare) slotSet0_1 slots0_1_disjoint slots0_1_cover
    (slotP0_1 c 0) (slotP0_1 c 1) (slotP0_1_eq c 0) (slotP0_1_eq c 1)
set_option maxHeartbeats 1000000 in
theorem slots0_1_out : (iprop((∃ f, slotP0_1 (F := F) c 0 f) ∗ ∃ f, slotP0_1 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_1 slots0_1_disjoint slots0_1_cover
    (slotP0_1 c 0) (slotP0_1 c 1) (slotP0_1_eq c 0) (slotP0_1_eq c 1)
end InOut0_1

theorem ring0_1_in (c : Dev nD) :
    iprop((∃ d, owns (c : Thread nD τ) scM0_0 fullShare d) ∗ (semVal ((c : Thread nD τ), SemLoc.dma 10) 0 ∗ semVal ((c : Thread nD τ), SemLoc.dma 11) 0) ∗ hbPt0 c hbM0_1 (V m c main_arg4))
      ⊢ ringAt0_1 c (V m c main_arg4) 0 := by
  unfold ringAt0_1; rw [if_pos rfl]; unfold Ring.At₀
  rw [Ring.bigSep_fin2]
  simp only [Ring.free, cellP0_1_0, cellP0_1_1]
  iintro ⟨HS, Hc, HW⟩
  iapply Ring.with_homes₀
  icases Hc with ⟨H0, H1⟩
  ihave HS' := (slots0_1_in (F := F) c) $$ HS
  icases HS' with ⟨⟨%d0, HS0⟩, ⟨%d1, HS1⟩⟩
  ihave HW' := (whole0_1_split (F := F) c (V m c main_arg4)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
theorem ring0_1_out (c : Dev nD) :
    ringAt0_1 c (V m c main_arg4) 20
      ⊢ iprop((∃ d, owns (c : Thread nD τ) scM0_0 fullShare d) ∗ (semVal ((c : Thread nD τ), SemLoc.dma 10) 0 ∗ semVal ((c : Thread nD τ), SemLoc.dma 11) 0) ∗ hbPt0 c hbM0_1 (V m c main_arg4)) := by
  unfold ringAt0_1; rw [if_neg (by decide)]
  iintro H
  ihave H' := (Ring.free2_of_AtK_last _ _ _ _ _) $$ H
  simp only [Ring.free, cellP0_1_0, cellP0_1_1]
  icases H' with ⟨-, ⟨H0, ⟨%f0, HS0, HW0⟩⟩, ⟨H1, ⟨%f1, HS1, HW1⟩⟩⟩
  isplitl [HS0 HS1]
  · iapply (slots0_1_out (F := F) c); isplitl [HS0]; · iexists f0; iexact HS0
    iexists f1; iexact HS1
  isplitl [H0 H1]
  · isplitl [H0]; · iexact H0
    iexact H1
  · iapply (whole0_1_split (F := F) c (V m c main_arg4)).2; isplitl [HW0]; · iexact HW0
    iexact HW1

section Canon0_1
omit [FloatOps F]
theorem rstep0_1_A : ∀ t : Fin grid0.N, cond0_0 (grid0.coords t) → cond0_1 (grid0.coords t) → cond0_2 (grid0.coords t) → cond0_3 (grid0.coords t) → t.val = 0 ∧ (t.val + 1) = 1 := by decide +kernel
theorem rstep0_1_B : ∀ t : Fin grid0.N, ¬cond0_0 (grid0.coords t) → cond0_1 (grid0.coords t) → ¬cond0_2 (grid0.coords t) → cond0_3 (grid0.coords t) → 1 ≤ t.val ∧ t.val + 1 < 20 ∧ (t.val + 1) = t.val + 1 := by decide +kernel
theorem rstep0_1_C : ∀ t : Fin grid0.N, ¬cond0_0 (grid0.coords t) → ¬cond0_1 (grid0.coords t) → ¬cond0_2 (grid0.coords t) → cond0_3 (grid0.coords t) → 1 ≤ t.val ∧ t.val + 1 < 20 ∧ (t.val + 1) = t.val + 1 := by decide +kernel
theorem rstep0_1_D : ∀ t : Fin grid0.N, ¬cond0_0 (grid0.coords t) → ¬cond0_1 (grid0.coords t) → ¬cond0_2 (grid0.coords t) → ¬cond0_3 (grid0.coords t) → 1 ≤ t.val ∧ t.val + 1 = 20 ∧ (t.val + 1) = t.val + 1 := by decide +kernel
theorem coff_7 : ∀ t : Fin grid0.N, k0_cond3 (grid0.coords t) = 1#1 → k0_cond4 (grid0.coords t) = 1#1 → k0_off7 (grid0.coords t) = ![(Ring.sl 2 t.val).val] := by decide +kernel
@[sl_canon] theorem canon_7 (t : Fin grid0.N) (h3 : k0_cond3 (grid0.coords t) = 1#1) (h4 : k0_cond4 (grid0.coords t) = 1#1) :
    (cc0_scratch1.slice (Rect.unit (s := S2) (k0_off7 (grid0.coords t)) S1.size (k0_off7_inb (grid0.coords t) h3 h4))).squeeze S_ squeezes_S1_S_ = cellA0_1 (Ring.sl 2 t.val) :=
  tcell_at (coff_7 t h3 h4) _
theorem coff_8 : ∀ t : Fin grid0.N, k0_cond3 (grid0.coords t) = 1#1 → k0_cond4 (grid0.coords t) = 1#1 → k0_off8 (grid0.coords t) = ![(Ring.sl 2 t.val).val, 64, 0] := by decide +kernel
@[sl_canon] theorem canon_8 (t : Fin grid0.N) (h3 : k0_cond3 (grid0.coords t) = 1#1) (h4 : k0_cond4 (grid0.coords t) = 1#1) :
    (scM0_0.slice (Rect.unit (s := S2x416x1024) (k0_off8 (grid0.coords t)) S1x352x1024.size (k0_off8_inb (grid0.coords t) h3 h4)) (fun _ => rfl)).squeeze S352x1024 squeezes_S1x352x1024_S352x1024 = partM (Ring.sl 2 t.val) :=
  tpart_at (coff_8 t h3 h4) _
theorem coff_9 : ∀ t : Fin grid0.N, k0_cond3 (grid0.coords t) = 1#1 → k0_cond4 (grid0.coords t) = 1#1 → k0_off9 (grid0.coords t) = ![(Ring.bk 20 t.val).val / 10, 0, 0] := by decide +kernel
@[sl_canon] theorem canon_9 (t : Fin grid0.N) (h3 : k0_cond3 (grid0.coords t) = 1#1) (h4 : k0_cond4 (grid0.coords t) = 1#1) :
    (hbM0_1.slice (Rect.unit (s := S2x4096x1024) (k0_off9 (grid0.coords t)) S1x352x1024.size (k0_off9_inb (grid0.coords t) h3 h4)) (fun _ => rfl)).squeeze S352x1024 squeezes_S1x352x1024_S352x1024 = srcS (Ring.bk 20 t.val) :=
  tsrcS_at (coff_9 t h3 h4) _
theorem coff_13 : ∀ t : Fin grid0.N, k0_cond6 (grid0.coords t) = 1#1 → k0_off13 (grid0.coords t) = ![(Ring.sl 2 t.val).val] := by decide +kernel
@[sl_canon] theorem canon_13 (t : Fin grid0.N) (h6 : k0_cond6 (grid0.coords t) = 1#1) :
    (cc0_scratch1.slice (Rect.unit (s := S2) (k0_off13 (grid0.coords t)) S1.size (k0_off13_inb (grid0.coords t) h6))).squeeze S_ squeezes_S1_S_ = cellA0_1 (Ring.sl 2 t.val) :=
  tcell_at (coff_13 t h6) _
theorem coff_14 : ∀ t : Fin grid0.N, k0_cond6 (grid0.coords t) = 1#1 → k0_off14 (grid0.coords t) = ![(Ring.sl 2 t.val).val, 64, 0] := by decide +kernel
@[sl_canon] theorem canon_14 (t : Fin grid0.N) (h6 : k0_cond6 (grid0.coords t) = 1#1) :
    (scM0_0.slice (Rect.unit (s := S2x416x1024) (k0_off14 (grid0.coords t)) S1x352x1024.size (k0_off14_inb (grid0.coords t) h6)) (fun _ => rfl)).squeeze S352x1024 squeezes_S1x352x1024_S352x1024 = partM (Ring.sl 2 t.val) :=
  tpart_at (coff_14 t h6) _
theorem coff_15 : ∀ t : Fin grid0.N, k0_cond6 (grid0.coords t) = 1#1 → k0_off15 (grid0.coords t) = ![(Ring.bk 20 t.val).val / 10, 0, 0] := by decide +kernel
@[sl_canon] theorem canon_15 (t : Fin grid0.N) (h6 : k0_cond6 (grid0.coords t) = 1#1) :
    (hbM0_1.slice (Rect.unit (s := S2x4096x1024) (k0_off15 (grid0.coords t)) S1x352x1024.size (k0_off15_inb (grid0.coords t) h6)) (fun _ => rfl)).squeeze S352x1024 squeezes_S1x352x1024_S352x1024 = srcS (Ring.bk 20 t.val) :=
  tsrcS_at (coff_15 t h6) _
theorem coff_16 : ∀ t : Fin grid0.N, k0_cond7 (grid0.coords t) = 1#1 → k0_off16 (grid0.coords t) = ![(Ring.sl 2 t.val).val] := by decide +kernel
@[sl_canon] theorem canon_16 (t : Fin grid0.N) (h7 : k0_cond7 (grid0.coords t) = 1#1) :
    (cc0_scratch1.slice (Rect.unit (s := S2) (k0_off16 (grid0.coords t)) S1.size (k0_off16_inb (grid0.coords t) h7))).squeeze S_ squeezes_S1_S_ = cellA0_1 (Ring.sl 2 t.val) :=
  tcell_at (coff_16 t h7) _
theorem coff_17 : ∀ t : Fin grid0.N, k0_cond7 (grid0.coords t) = 1#1 → k0_off17 (grid0.coords t) = ![(Ring.sl 2 t.val).val, 0, 0] := by decide +kernel
@[sl_canon] theorem canon_17 (t : Fin grid0.N) (h7 : k0_cond7 (grid0.coords t) = 1#1) :
    (scM0_0.slice (Rect.unit (s := S2x416x1024) (k0_off17 (grid0.coords t)) S1x416x1024.size (k0_off17_inb (grid0.coords t) h7)) (fun _ => rfl)).squeeze S416x1024 squeezes_S1x416x1024_S416x1024 = rslot0_1 (Ring.sl 2 t.val) :=
  tslot_at (coff_17 t h7) _
theorem coff_18 : ∀ t : Fin grid0.N, k0_cond7 (grid0.coords t) = 1#1 → k0_off18 (grid0.coords t) = ![(Ring.bk 20 t.val).val / 10, 416 * ((Ring.bk 20 t.val).val % 10) - 64, 0] := by decide +kernel
@[sl_canon] theorem canon_18 (t : Fin grid0.N) (h7 : k0_cond7 (grid0.coords t) = 1#1) :
    (hbM0_1.slice (Rect.unit (s := S2x4096x1024) (k0_off18 (grid0.coords t)) S1x416x1024.size (k0_off18_inb (grid0.coords t) h7)) (fun _ => rfl)).squeeze S416x1024 squeezes_S1x416x1024_S416x1024 = srcB0_1 (Ring.bk 20 t.val) :=
  tsrc_at (coff_18 t h7) _
theorem coff_19 : ∀ t : Fin grid0.N, k0_cond8 (grid0.coords t) = 1#1 → k0_cond9 (grid0.coords t) = 1#1 → k0_off19 (grid0.coords t) = ![(Ring.sl 2 (t.val + 1)).val] := by decide +kernel
@[sl_canon] theorem canon_19 (t : Fin grid0.N) (h8 : k0_cond8 (grid0.coords t) = 1#1) (h9 : k0_cond9 (grid0.coords t) = 1#1) :
    (cc0_scratch1.slice (Rect.unit (s := S2) (k0_off19 (grid0.coords t)) S1.size (k0_off19_inb (grid0.coords t) h8 h9))).squeeze S_ squeezes_S1_S_ = cellA0_1 (Ring.sl 2 (t.val + 1)) :=
  tcell_at (coff_19 t h8 h9) _
theorem coff_20 : ∀ t : Fin grid0.N, k0_cond8 (grid0.coords t) = 1#1 → k0_cond9 (grid0.coords t) = 1#1 → k0_off20 (grid0.coords t) = ![(Ring.sl 2 (t.val + 1)).val, 64, 0] := by decide +kernel
@[sl_canon] theorem canon_20 (t : Fin grid0.N) (h8 : k0_cond8 (grid0.coords t) = 1#1) (h9 : k0_cond9 (grid0.coords t) = 1#1) :
    (scM0_0.slice (Rect.unit (s := S2x416x1024) (k0_off20 (grid0.coords t)) S1x352x1024.size (k0_off20_inb (grid0.coords t) h8 h9)) (fun _ => rfl)).squeeze S352x1024 squeezes_S1x352x1024_S352x1024 = partM (Ring.sl 2 (t.val + 1)) :=
  tpart_at (coff_20 t h8 h9) _
theorem coff_21 : ∀ t : Fin grid0.N, k0_cond8 (grid0.coords t) = 1#1 → k0_cond9 (grid0.coords t) = 1#1 → k0_off21 (grid0.coords t) = ![(Ring.bk 20 (t.val + 1)).val / 10, 0, 0] := by decide +kernel
@[sl_canon] theorem canon_21 (t : Fin grid0.N) (h8 : k0_cond8 (grid0.coords t) = 1#1) (h9 : k0_cond9 (grid0.coords t) = 1#1) :
    (hbM0_1.slice (Rect.unit (s := S2x4096x1024) (k0_off21 (grid0.coords t)) S1x352x1024.size (k0_off21_inb (grid0.coords t) h8 h9)) (fun _ => rfl)).squeeze S352x1024 squeezes_S1x352x1024_S352x1024 = srcS (Ring.bk 20 (t.val + 1)) :=
  tsrcS_at (coff_21 t h8 h9) _
theorem coff_22 : ∀ t : Fin grid0.N, k0_cond8 (grid0.coords t) = 1#1 → k0_cond10 (grid0.coords t) = 1#1 → k0_off22 (grid0.coords t) = ![(Ring.sl 2 (t.val + 1)).val] := by decide +kernel
@[sl_canon] theorem canon_22 (t : Fin grid0.N) (h8 : k0_cond8 (grid0.coords t) = 1#1) (h10 : k0_cond10 (grid0.coords t) = 1#1) :
    (cc0_scratch1.slice (Rect.unit (s := S2) (k0_off22 (grid0.coords t)) S1.size (k0_off22_inb (grid0.coords t) h8 h10))).squeeze S_ squeezes_S1_S_ = cellA0_1 (Ring.sl 2 (t.val + 1)) :=
  tcell_at (coff_22 t h8 h10) _
theorem coff_23 : ∀ t : Fin grid0.N, k0_cond8 (grid0.coords t) = 1#1 → k0_cond10 (grid0.coords t) = 1#1 → k0_off23 (grid0.coords t) = ![(Ring.sl 2 (t.val + 1)).val, 0, 0] := by decide +kernel
@[sl_canon] theorem canon_23 (t : Fin grid0.N) (h8 : k0_cond8 (grid0.coords t) = 1#1) (h10 : k0_cond10 (grid0.coords t) = 1#1) :
    (scM0_0.slice (Rect.unit (s := S2x416x1024) (k0_off23 (grid0.coords t)) S1x416x1024.size (k0_off23_inb (grid0.coords t) h8 h10)) (fun _ => rfl)).squeeze S416x1024 squeezes_S1x416x1024_S416x1024 = rslot0_1 (Ring.sl 2 (t.val + 1)) :=
  tslot_at (coff_23 t h8 h10) _
theorem coff_24 : ∀ t : Fin grid0.N, k0_cond8 (grid0.coords t) = 1#1 → k0_cond10 (grid0.coords t) = 1#1 → k0_off24 (grid0.coords t) = ![(Ring.bk 20 (t.val + 1)).val / 10, 416 * ((Ring.bk 20 (t.val + 1)).val % 10) - 64, 0] := by decide +kernel
@[sl_canon] theorem canon_24 (t : Fin grid0.N) (h8 : k0_cond8 (grid0.coords t) = 1#1) (h10 : k0_cond10 (grid0.coords t) = 1#1) :
    (hbM0_1.slice (Rect.unit (s := S2x4096x1024) (k0_off24 (grid0.coords t)) S1x416x1024.size (k0_off24_inb (grid0.coords t) h8 h10)) (fun _ => rfl)).squeeze S416x1024 squeezes_S1x416x1024_S416x1024 = srcB0_1 (Ring.bk 20 (t.val + 1)) :=
  tsrc_at (coff_24 t h8 h10) _
theorem coff_25 : ∀ t : Fin grid0.N, k0_off25 (grid0.coords t) = ![(Ring.sl 2 t.val).val, 0, 0] := by decide +kernel
instance (priority := high) closedOff_25 (t : Fin grid0.N) : ClosedOff (k0_off25 (grid0.coords t)) := ⟨![(Ring.sl 2 t.val).val, 0, 0], coff_25 t⟩
theorem coff_27 : ∀ t : Fin grid0.N, k0_off27 (grid0.coords t) = ![(Ring.sl 2 t.val).val, 0, 0] := by decide +kernel
instance (priority := high) closedOff_27 (t : Fin grid0.N) : ClosedOff (k0_off27 (grid0.coords t)) := ⟨![(Ring.sl 2 t.val).val, 0, 0], coff_27 t⟩
end Canon0_1

/-- One block of rows of the operand left in place, as the body loads it from a slot. -/
def slab (c : Dev nD) (W : HbBuf0 (F := F) c hbM0_0) (b : Fin 20) : Vec F S1x416x4096 .bf16 := fun y =>
  (srcB0_0 b).view.read (Elt F) W (ix2 (y 1) (y 2))

theorem cast_apply (v : Vec F S1x416x4096 .bf16) (h : S1x416x4096.ShapeCasts S416x4096) (i : Fin 416) (j : Fin 4096) :
    shapeCast S416x4096 v h (ix2 i j) = v (ix3 0 i j) := by
  pointwise

theorem slab_eq (c : Dev nD) (W : HbBuf0 (F := F) c hbM0_0) (b : Fin 20) (s : Fin 3) (f : HbBuf0 (F := F) c (rslot0_0 s))
    (off : Fin 3 → ℕ) (h : ∀ a, off a + S1x416x4096.size a ≤ S3x416x4096.size a) (e : off = ![s.val, 0, 0]) :
    View.readAt (Elt F) scM0_1.view (Rect.unit (s := S3x416x4096) off S1x416x4096.size h).toLoadRect (landed0_0 c W s b f)
      = slab c W b := by
  subst e
  have key : (rslot0_0 s).view.read (Elt F) (landed0_0 c W s b f) = (srcB0_0 b).view.read (Elt F) W := by
    exact View.read_writes_whole _ _ _
  funext y
  obtain ⟨a, i, j, rfl⟩ : ∃ (a : Fin 1) (i : Fin 416) (j : Fin 4096), y = ix3 a i j := ⟨y 0, y 1, y 2, eq_ix3 y⟩
  obtain rfl : a = 0 := Subsingleton.elim _ _
  have k2 := congrFun key (ix2 i j)
  have hc : S1x416x4096.ShapeCasts S416x4096 := by decide
  have k3 := Memref.read_squeeze_slice scM0_1 (Rect.unit (s := S3x416x4096) ![s.val, 0, 0] S1x416x4096.size h) (fun _ => rfl) squeezes_S1x416x4096_S416x4096 hc (landed0_0 c W s b f)
  have k4 := (congrFun k3 (ix2 i j)).symm.trans k2
  exact (cast_apply _ hc i j).symm.trans k4

/-- What the body stores at a point, from the rows it has read. -/
def o6 (a : BitVec 32) (X : Vec F S1x416x4096 .bf16) (T : Vec F S1x416x1024 .f32) (x0 : Vec F S4096x1024 .bf16) (x1 : Vec F S416x1024 .f32) (x2 : Vec F S1x1024 .f32) : FVec F S416x1024 .f32 :=
  k0_pay1 (k0_pay7 (mulf (k0_pay5 x1 X x0) (k0_pay5 x1 X x0))) (k0_pay8 (k0_pay5 x1 X x0) (mulf (k0_pay5 x1 X x0) (k0_pay5 x1 X x0)))
    (k0_pay11 a (k0_pay5 x1 X x0) x2 (mulf (k0_pay5 x1 X x0) (k0_pay5 x1 X x0)) T)
    (k0_pay17 (k0_pay16 a (k0_pay5 x1 X x0) x2 (mulf (k0_pay5 x1 X x0) (k0_pay5 x1 X x0)) T))
def o7 (a : BitVec 32) (X : Vec F S1x416x4096 .bf16) (T : Vec F S1x416x1024 .f32) (x0 : Vec F S4096x1024 .bf16) (x1 : Vec F S416x1024 .f32) (x2 : Vec F S1x1024 .f32) : FVec F S416x1024 .bf16 :=
  k0_pay2 (k0_pay7 (mulf (k0_pay5 x1 X x0) (k0_pay5 x1 X x0))) (k0_pay8 (k0_pay5 x1 X x0) (mulf (k0_pay5 x1 X x0) (k0_pay5 x1 X x0)))
    (k0_pay11 a (k0_pay5 x1 X x0) x2 (mulf (k0_pay5 x1 X x0) (k0_pay5 x1 X x0)) T)
    (k0_pay17 (k0_pay16 a (k0_pay5 x1 X x0) x2 (mulf (k0_pay5 x1 X x0) (k0_pay5 x1 X x0)) T))
def o8 (a : BitVec 32) (X : Vec F S1x416x4096 .bf16) (T : Vec F S1x416x1024 .f32) (x0 : Vec F S4096x1024 .bf16) (x1 : Vec F S416x1024 .f32) (x2 : Vec F S1x1024 .f32) : FVec F S1x1024 .f32 :=
  k0_pay3 (k0_pay8 (k0_pay5 x1 X x0) (mulf (k0_pay5 x1 X x0) (k0_pay5 x1 X x0)))
    (k0_pay10 a (k0_pay5 x1 X x0) x2 (mulf (k0_pay5 x1 X x0) (k0_pay5 x1 X x0)) T)
def o9 (a : BitVec 32) (X : Vec F S1x416x4096 .bf16) (T : Vec F S1x416x1024 .f32) (x0 : Vec F S4096x1024 .bf16) (x1 : Vec F S416x1024 .f32) (x2 : Vec F S1x1024 .f32) : FVec F S1x128 .f32 :=
  k0_pay4 (k0_pay9 a (k0_pay5 x1 X x0) x2 (mulf (k0_pay5 x1 X x0) (k0_pay5 x1 X x0)) T)
abbrev pid (t : Fin cfg0.N) : BitVec 32 := BitVec.ofNat 32 (grid0.coords t 0).val

/-- One block of target rows, as the body loads it from a slot: a sequence's first block begins with 64 rows of zeros. -/
def tslab (c : Dev nD) (W : HbBuf0 (F := F) c hbM0_1) (b : Fin 20) : Vec F S1x416x1024 .f32 := fun y =>
  if b.val % 10 = 0 then
    if h : (y 1).val < 64 then (k0_pay13 : FVec F S1x64x1024 .f32) (ix3 0 ⟨(y 1).val, h⟩ (y 2))
    else (srcS b).view.read (Elt F) W (ix2 (⟨(y 1).val - 64, by have h2 := (y 1).isLt; simp at h2; omega⟩ : Fin 352) (y 2))
  else (srcB0_1 b).view.read (Elt F) W (ix2 (y 1) (y 2))

theorem cast_apply1 (v : Vec F S1x416x1024 .f32) (h : S1x416x1024.ShapeCasts S416x1024) (i : Fin 416) (j : Fin 1024) :
    shapeCast S416x1024 v h (ix2 i j) = v (ix3 0 i j) := by
  pointwise

theorem bk_long (t : Fin grid0.N) (h : t.val % 10 ≠ 0) : (Ring.bk 20 t.val).val % 10 ≠ 0 := by
  revert t; decide +kernel
theorem bk_short (t : Fin grid0.N) (h : t.val % 10 = 0) : (Ring.bk 20 t.val).val % 10 = 0 := by
  revert t; decide +kernel

theorem tslab_long (c : Dev nD) (W : HbBuf0 (F := F) c hbM0_1) (b : Fin 20) (hb : b.val % 10 ≠ 0) (s : Fin 2) (f : HbBuf0 (F := F) c (rslot0_1 s))
    (off : Fin 3 → ℕ) (h : ∀ a, off a + S1x416x1024.size a ≤ S2x416x1024.size a) (e : off = ![s.val, 0, 0]) :
    View.readAt (Elt F) scM0_0.view (Rect.unit (s := S2x416x1024) off S1x416x1024.size h).toLoadRect (landed0_1 c W s b f)
      = tslab c W b := by
  subst e
  have key : (rslot0_1 s).view.read (Elt F) (landed0_1 c W s b f) = (srcB0_1 b).view.read (Elt F) W := by
    exact View.read_writes_whole _ _ _
  funext y
  obtain ⟨a, i, j, rfl⟩ : ∃ (a : Fin 1) (i : Fin 416) (j : Fin 1024), y = ix3 a i j := ⟨y 0, y 1, y 2, eq_ix3 y⟩
  obtain rfl : a = 0 := Subsingleton.elim _ _
  have k2 := congrFun key (ix2 i j)
  have hc : S1x416x1024.ShapeCasts S416x1024 := by decide
  have k3 := Memref.read_squeeze_slice scM0_0 (Rect.unit (s := S2x416x1024) ![s.val, 0, 0] S1x416x1024.size h) (fun _ => rfl) squeezes_S1x416x1024_S416x1024 hc (landed0_1 c W s b f)
  have k4 := (congrFun k3 (ix2 i j)).symm.trans k2
  unfold tslab
  rw [if_neg hb]
  exact (cast_apply1 _ hc i j).symm.trans k4

theorem joined_read (c : Dev nD) (s : Fin 2) (g f : Buf (Elt F) ((c : Thread nD τ).loc cc0_scratch0)) (y : S2x416x1024.Idx) :
    scM0_0.view.read (Elt F) (joined c s g f) y = if y ∈ partSet s then scM0_0.view.read (Elt F) f y else scM0_0.view.read (Elt F) g y := by
  have e (h : Buf (Elt F) ((c : Thread nD τ).loc cc0_scratch0)) : scM0_0.view.read (Elt F) h y = h y := rfl
  rw [e, e, e]
  unfold joined
  split
  · next h => exact Finset.piecewise_eq_of_mem _ _ _ h
  · next h => exact Finset.piecewise_eq_of_notMem _ _ _ h

theorem cast_apply2 (v : Vec F S1x352x1024 .f32) (h : S1x352x1024.ShapeCasts S352x1024) (i : Fin 352) (j : Fin 1024) :
    shapeCast S352x1024 v h (ix2 i j) = v (ix3 0 i j) := by
  pointwise

theorem tslab_joined (c : Dev nD) (W : HbBuf0 (F := F) c hbM0_1) (b : Fin 20) (hb : b.val % 10 = 0) (s : Fin 2)
    (g f : Buf (Elt F) ((c : Thread nD τ).loc cc0_scratch0))
    (hg : ∀ (i : Fin 64) (j : Fin 1024), scM0_0.view.read (Elt F) g (ix3 s (⟨i.val, by omega⟩ : Fin 416) j) = (k0_pay13 : FVec F S1x64x1024 .f32) (ix3 0 i j))
    (hf : ∀ (i : Fin 352) (j : Fin 1024), scM0_0.view.read (Elt F) f (ix3 s (⟨64 + i.val, by omega⟩ : Fin 416) j) = (srcS b).view.read (Elt F) W (ix2 i j))
    (off : Fin 3 → ℕ) (h : ∀ a, off a + S1x416x1024.size a ≤ S2x416x1024.size a) (e : off = ![s.val, 0, 0]) :
    View.readAt (Elt F) scM0_0.view (Rect.unit (s := S2x416x1024) off S1x416x1024.size h).toLoadRect (joined c s g f)
      = tslab c W b := by
  subst e
  funext y
  obtain ⟨a, i, j, rfl⟩ : ∃ (a : Fin 1) (i : Fin 416) (j : Fin 1024), y = ix3 a i j := ⟨y 0, y 1, y 2, eq_ix3 y⟩
  obtain rfl : a = 0 := Subsingleton.elim _ _
  have ey : (Rect.unit (s := S2x416x1024) ![s.val, 0, 0] S1x416x1024.size h).toLoadRect.idx (ix3 0 i j) = (ix3 s i j : S2x416x1024.Idx) := by
    refine Shape.idx3_ext ?_ ?_ ?_ <;> simp [LoadRect.idx, Rect.unit, ix3, Rect.toLoadRect]
  rw [View.readAt_apply, ey, joined_read]
  unfold tslab
  rw [if_pos hb]
  have hm : (ix3 s i j : S2x416x1024.Idx) ∈ partSet s ↔ ¬ i.val < 64 := by
    constructor
    · intro hh
      have h1 := (mem_unit _ _).mp hh 1
      simp at h1
      omega
    · intro hh
      refine (mem_unit _ _).mpr fun a => ?_
      have hi := i.isLt; have hj := j.isLt
      fin_cases a <;> simp <;> omega
  by_cases hi : i.val < 64
  · rw [if_neg (fun h => hm.mp h hi), dif_pos (show ((ix3 0 i j : S1x416x1024.Idx) 1).val < 64 from hi)]
    exact hg ⟨i.val, hi⟩ j
  · rw [if_pos (hm.mpr hi), dif_neg (show ¬ ((ix3 0 i j : S1x416x1024.Idx) 1).val < 64 from hi)]
    refine Eq.trans (congrArg (scM0_0.view.read (Elt F) f) ?_) (hf ⟨i.val - 64, by omega⟩ j)
    refine Shape.idx3_ext rfl ?_ rfl
    show i.val = 64 + (i.val - 64)
    omega

theorem tslab_short (c : Dev nD) (W : HbBuf0 (F := F) c hbM0_1) (b : Fin 20) (hb : b.val % 10 = 0) (s : Fin 2)
    (g : Buf (Elt F) ((c : Thread nD τ).loc cc0_scratch0)) (f : HbBuf0 (F := F) c (partM s))
    (off : Fin 3 → ℕ) (h : ∀ a, off a + S1x416x1024.size a ≤ S2x416x1024.size a)
    (off' : Fin 3 → ℕ) (h' : ∀ a, off' a + S1x64x1024.size a ≤ S2x416x1024.size a)
    (e : off = ![s.val, 0, 0]) (e' : off' = ![s.val, 0, 0]) :
    View.readAt (Elt F) scM0_0.view (Rect.unit (s := S2x416x1024) off S1x416x1024.size h).toLoadRect
        (joined c s (View.write (Elt F) (scM0_0.access (Rect.unit (s := S2x416x1024) off' S1x64x1024.size h')) g k0_pay13 Finset.univ) (landedS c W s b f))
      = tslab c W b := by
  refine tslab_joined c W b hb s _ _ (fun i j => ?_) (fun i j => ?_) off h e
  · subst e'
    refine View.read_writes_cons_hit_of_coords (v := scM0_0.view) (f := g) (Rect.unit (s := S2x416x1024) ![s.val, 0, 0] S1x64x1024.size h') k0_pay13 [] (ix3 0 i j) _ fun a => ?_
    fin_cases a <;> simp [Rect.unit, ix3]
  · have key : (partM s).view.read (Elt F) (landedS c W s b f) = (srcS b).view.read (Elt F) W := by
      exact View.read_writes_whole _ _ _
    have k2 := congrFun key (ix2 i j)
    have hc : S1x352x1024.ShapeCasts S352x1024 := by decide
    have k3 := Memref.read_squeeze_slice scM0_0 (Rect.unit (s := S2x416x1024) ![s.val, 64, 0] S1x352x1024.size (inb_part s)) (fun _ => rfl) squeezes_S1x352x1024_S352x1024 hc (landedS c W s b f)
    have k4 := (congrFun k3 (ix2 i j)).symm.trans k2
    refine Eq.trans ?_ ((cast_apply2 _ hc i j).symm.trans k4)
    refine congrArg (scM0_0.view.read (Elt F) (landedS c W s b f)) ?_
    refine Shape.idx3_ext ?_ ?_ ?_ <;> simp [LoadRect.idx, Rect.unit, ix3, Rect.toLoadRect]

end Cert.MlpDownLoss
-- ==== Proof.MlpDownLoss.RunA.lean ====
/- The first point. -/
module

public import proofs.«01_k».proof.Proof.MlpDownLoss.Runs

@[expose] public section

set_option synthInstance.maxSize 4096
set_option maxRecDepth 16384

noncomputable section

namespace Cert.MlpDownLoss

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 4000000 in
theorem run_A (c : Dev nD) (t : Fin cfg0.N) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (ht : t.val = 0)
    (x0 : Vec F S4096x1024 .bf16) (x1 : Vec F S416x1024 .f32) (x2 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ Ring.free (cellP0_1 c) (slotW0_1 c fh1) (Ring.sl 2 t.val) ∗ Ring.free (cellP0_1 c) (slotW0_1 c fh1) (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare (o6 (pid t) (slab c fh0 (Ring.bk 20 t.val)) (tslab c fh1 (Ring.bk 20 t.val)) x0 x1 x2) ∗ owns (c : Thread nD τ) arg7 fullShare (o7 (pid t) (slab c fh0 (Ring.bk 20 t.val)) (tslab c fh1 (Ring.bk 20 t.val)) x0 x1 x2) ∗ owns (c : Thread nD τ) arg8 fullShare (o8 (pid t) (slab c fh0 (Ring.bk 20 t.val)) (tslab c fh1 (Ring.bk 20 t.val)) x0 x1 x2) ∗ owns (c : Thread nD τ) arg9 fullShare (o9 (pid t) (slab c fh0 (Ring.bk 20 t.val)) (tslab c fh1 (Ring.bk 20 t.val)) x0 x1 x2) ∗ Ring.inflight (flightW0_0 c fh0) (Ring.sl 3 (t.val + 1)) (Ring.bk 20 (t.val + 1)) ∗ Ring.inflight (flightW0_0 c fh0) (Ring.sl 3 (t.val + 2)) (Ring.bk 20 (t.val + 2)) ∗ Ring.free (cellP0_0 c) (slotW0_0 c fh0) (Ring.sl 3 t.val) ∗ Ring.inflight (flightW0_1 c fh1) (Ring.sl 2 (t.val + 1)) (Ring.bk 20 (t.val + 1)) ∗ Ring.free (cellP0_1 c) (slotW0_1 c fh1) (Ring.sl 2 t.val) ∗ (∃ W', owes (c : Thread nD τ) 0 W')) -∗ K ⟨⟩))
          ⊢ wp frame (wpE (defs₀ (F := F)) Variants.none c none) Set.univ (cc0_mlp_down_loss (grid0.coords t) (Memref.whole main_arg0) (Memref.isWhole_whole _) arg2 harg2 arg3 harg3 arg4 harg4 (Memref.whole main_arg4) (Memref.isWhole_whole _) arg6 harg6 arg7 harg7 arg8 harg8 arg9 harg9 scM0_0 (Memref.isWhole_whole _) cc0_scratch1 scM0_1 (Memref.isWhole_whole _) cc0_scratch3) K := by
    intro W K
    have hc0 : cond0_0 (grid0.coords t) := (hcond0_0 t).mpr (by omega)
    have : Fact (cond0_0 (grid0.coords t)) := ⟨hc0⟩
    have hc1 : cond0_1 (grid0.coords t) := (hcond0_1 t).mpr (by omega)
    have : Fact (cond0_1 (grid0.coords t)) := ⟨hc1⟩
    have hc2 : cond0_2 (grid0.coords t) := (hcond0_2 t).mpr (by omega)
    have : Fact (cond0_2 (grid0.coords t)) := ⟨hc2⟩
    have hc3 : cond0_3 (grid0.coords t) := (hcond0_3 t).mpr (by omega)
    have : Fact (cond0_3 (grid0.coords t)) := ⟨hc3⟩
    have hk4 : k0_cond4 (grid0.coords t) = 1#1 := (kc4 t).mpr (by omega)
    have : Fact (k0_cond4 (grid0.coords t) = 1#1) := ⟨hk4⟩
    have hk5 : ¬k0_cond5 (grid0.coords t) = 1#1 := fun h => absurd ((kc5 t).mp h) (by omega)
    have : Fact (¬k0_cond5 (grid0.coords t) = 1#1) := ⟨hk5⟩
    have hk6 : k0_cond6 (grid0.coords t) = 1#1 := (kc6 t).mpr (by omega)
    have : Fact (k0_cond6 (grid0.coords t) = 1#1) := ⟨hk6⟩
    have hk7 : ¬k0_cond7 (grid0.coords t) = 1#1 := fun h => absurd ((kc7 t).mp h) (by omega)
    have : Fact (¬k0_cond7 (grid0.coords t) = 1#1) := ⟨hk7⟩
    have hk9 : ¬k0_cond9 (grid0.coords t) = 1#1 := fun h => absurd ((kc9 t).mp h) (by omega)
    have : Fact (¬k0_cond9 (grid0.coords t) = 1#1) := ⟨hk9⟩
    have hk10 : k0_cond10 (grid0.coords t) = 1#1 := (kc10 t).mpr (by omega)
    have : Fact (k0_cond10 (grid0.coords t) = 1#1) := ⟨hk10⟩
    have hk11 : k0_cond11 (grid0.coords t) = 1#1 := (kc11 t).mpr (by omega)
    have : Fact (k0_cond11 (grid0.coords t) = 1#1) := ⟨hk11⟩
    have hk12 : k0_cond12 (grid0.coords t) = 1#1 := (kc12 t).mpr (by omega)
    have : Fact (k0_cond12 (grid0.coords t) = 1#1) := ⟨hk12⟩
    have hk13 : ¬k0_cond13 (grid0.coords t) = 1#1 := fun h => absurd ((kc13 t).mp h) (by omega)
    have : Fact (¬k0_cond13 (grid0.coords t) = 1#1) := ⟨hk13⟩
    simp only [cc0_mlp_down_loss_eq_skeleton]; unfold cc0_mlp_down_loss_skel
    simp only [k0_part1_eq_skeleton, k0_part2_eq_skeleton, k0_part3_eq_skeleton, k0_part4_eq_skeleton]
    have hcanon0 := canon0_0_1 t hc0 hc1 hc2 hc3
    have hcanon1 := canon0_0_2 t hc0 hc1 hc2 hc3
    have hcanon2 := canon0_0_3 t hc0 hc1 hc2 hc3
    have hcanon3 := canon0_0_4 t hc0 hc1 hc2 hc3
    have hcanon4 := canon0_0_5 t hc0 hc1 hc2 hc3
    have hcanon5 := canon0_0_6 t hc0 hc1 hc2 hc3
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, HW, Hk⟩
    ihave Hsp0_0_0 := (src0_0_split c fh0 (Ring.sl 3 t.val) (Ring.bk 20 t.val)).1 $$ Hw0_0_0
    icases Hsp0_0_0 with ⟨Hh0_0_0, Hr0_0_0⟩
    ihave Hsp0_0_1 := (src0_0_split c fh0 (Ring.sl 3 (t.val + 1)) (Ring.bk 20 (t.val + 1))).1 $$ Hw0_0_1
    icases Hsp0_0_1 with ⟨Hh0_0_1, Hr0_0_1⟩
    ihave Hsp0_0_2 := (src0_0_split c fh0 (Ring.sl 3 (t.val + 2)) (Ring.bk 20 (t.val + 2))).1 $$ Hw0_0_2
    icases Hsp0_0_2 with ⟨Hh0_0_2, Hr0_0_2⟩
    ihave Hsp0_1_0 := (srcS_split c fh1 (Ring.sl 2 t.val) (Ring.bk 20 t.val)).1 $$ Hw0_1_0
    icases Hsp0_1_0 with ⟨Hh0_1_0, Hr0_1_0⟩
    ihave Hcut := (slot_cut (F := F) c (Ring.sl 2 t.val) fs0_1_0) $$ Hs0_1_0
    icases Hcut with ⟨Ht0_1_0, Hp0_1_0⟩
    ihave Hsp0_1_1 := (src0_1_split c fh1 (Ring.sl 2 (t.val + 1)) (Ring.bk 20 (t.val + 1))).1 $$ Hw0_1_1
    icases Hsp0_1_1 with ⟨Hh0_1_1, Hr0_1_1⟩
    obtain rfl := harg2.eq_unread hf0; obtain rfl := harg3.eq_unread hf1; obtain rfl := harg4.eq_unread hf2
    sl_exec (disch := first | sl_exact hc0 | sl_exact hc1 | sl_exact hc2 | sl_exact hc3 | sl_exact hk4 | sl_exact hk5 | sl_exact hk6 | sl_exact hk7 | sl_exact hk9 | sl_exact hk10 | sl_exact hk11 | sl_exact hk12 | sl_exact hk13)
    ihave Hj := (slot_join (F := F) c (Ring.sl 2 t.val) _ _) $$ [Ht0_1_0 Hp0_1_0]
    · isplitl [Ht0_1_0]; · iexact Ht0_1_0
      iexact Hp0_1_0
    sl_exec (disch := first | sl_exact hc0 | sl_exact hc1 | sl_exact hc2 | sl_exact hc3 | sl_exact hk4 | sl_exact hk5 | sl_exact hk6 | sl_exact hk7 | sl_exact hk9 | sl_exact hk10 | sl_exact hk11 | sl_exact hk12 | sl_exact hk13)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; frame_out
      exact (View.read_writes_full _ _ _ _ _).trans (congrArg₂ (fun z y => o6 (pid t) z y x0 x1 x2) (slab_eq c fh0 (Ring.bk 20 t.val) (Ring.sl 3 t.val) _ _ _ (coff0_0_13 t)) (tslab_short c fh1 (Ring.bk 20 t.val) (bk_short t (by omega)) (Ring.sl 2 t.val) _ _ _ _ _ _ (coff_27 t) (coff_25 t)))
    isplitl [H4]
    · iexists _; isplitr; swap; · iexact H4
      ipureintro; frame_out
      exact (View.read_writes_full _ _ _ _ _).trans (congrArg₂ (fun z y => o7 (pid t) z y x0 x1 x2) (slab_eq c fh0 (Ring.bk 20 t.val) (Ring.sl 3 t.val) _ _ _ (coff0_0_13 t)) (tslab_short c fh1 (Ring.bk 20 t.val) (bk_short t (by omega)) (Ring.sl 2 t.val) _ _ _ _ _ _ (coff_27 t) (coff_25 t)))
    isplitl [H5]
    · iexists _; isplitr; swap; · iexact H5
      ipureintro; frame_out
      exact (View.read_writes_full _ _ _ _ _).trans (congrArg₂ (fun z y => o8 (pid t) z y x0 x1 x2) (slab_eq c fh0 (Ring.bk 20 t.val) (Ring.sl 3 t.val) _ _ _ (coff0_0_13 t)) (tslab_short c fh1 (Ring.bk 20 t.val) (bk_short t (by omega)) (Ring.sl 2 t.val) _ _ _ _ _ _ (coff_27 t) (coff_25 t)))
    isplitl [H6]
    · iexists _; isplitr; swap; · iexact H6
      ipureintro; frame_out
      exact (View.read_writes_full _ _ _ _ _).trans (congrArg₂ (fun z y => o9 (pid t) z y x0 x1 x2) (slab_eq c fh0 (Ring.bk 20 t.val) (Ring.sl 3 t.val) _ _ _ (coff0_0_13 t)) (tslab_short c fh1 (Ring.bk 20 t.val) (bk_short t (by omega)) (Ring.sl 2 t.val) _ _ _ _ _ _ (coff_27 t) (coff_25 t)))
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 20 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_0 Hj Hh0_1_0 Hr0_1_0]
    · isplitl [Hc0_1_0]; · iexact Hc0_1_0
      iexists _; isplitl [Hj]; · iexact Hj
      iapply (srcS_split c fh1 (Ring.sl 2 t.val) (Ring.bk 20 t.val)).2; isplitl [Hh0_1_0]; · iexact Hh0_1_0
      iexact Hr0_1_0
    iexists _; iexact HW

end Cert.MlpDownLoss
-- ==== Proof.MlpDownLoss.RunB.lean ====
/- A point in the middle. -/
module

public import proofs.«01_k».proof.Proof.MlpDownLoss.Runs

@[expose] public section

set_option synthInstance.maxSize 4096
set_option maxRecDepth 16384

noncomputable section

namespace Cert.MlpDownLoss

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 4000000 in
theorem run_B (c : Dev nD) (t : Fin cfg0.N) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (ht : 0 < t.val ∧ t.val < 18 ∧ t.val ≠ 9 ∧ t.val ≠ 10)
    (x0 : Vec F S4096x1024 .bf16) (x1 : Vec F S416x1024 .f32) (x2 : Vec F S1x1024 .f32) (xg : Vec F S1x1024 .f32) (xl : Vec F S1x128 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d) ∗ owns (c : Thread nD τ) arg8 fullShare xg ∗ owns (c : Thread nD τ) arg9 fullShare xl ∗ Ring.inflight (flightW0_0 c fh0) (Ring.sl 3 t.val) (Ring.bk 20 t.val) ∗ Ring.inflight (flightW0_0 c fh0) (Ring.sl 3 (t.val + 1)) (Ring.bk 20 (t.val + 1)) ∗ Ring.free (cellP0_0 c) (slotW0_0 c fh0) (Ring.sl 3 (t.val + 2)) ∗ Ring.inflight (flightW0_1 c fh1) (Ring.sl 2 t.val) (Ring.bk 20 t.val) ∗ Ring.free (cellP0_1 c) (slotW0_1 c fh1) (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare (o6 (pid t) (slab c fh0 (Ring.bk 20 t.val)) (tslab c fh1 (Ring.bk 20 t.val)) x0 x1 x2) ∗ owns (c : Thread nD τ) arg7 fullShare (o7 (pid t) (slab c fh0 (Ring.bk 20 t.val)) (tslab c fh1 (Ring.bk 20 t.val)) x0 x1 x2) ∗ owns (c : Thread nD τ) arg8 fullShare (k0_pay14 xg (o8 (pid t) (slab c fh0 (Ring.bk 20 t.val)) (tslab c fh1 (Ring.bk 20 t.val)) x0 x1 x2)) ∗ owns (c : Thread nD τ) arg9 fullShare (k0_pay15 xl (o9 (pid t) (slab c fh0 (Ring.bk 20 t.val)) (tslab c fh1 (Ring.bk 20 t.val)) x0 x1 x2)) ∗ Ring.inflight (flightW0_0 c fh0) (Ring.sl 3 (t.val + 1)) (Ring.bk 20 (t.val + 1)) ∗ Ring.inflight (flightW0_0 c fh0) (Ring.sl 3 (t.val + 2)) (Ring.bk 20 (t.val + 2)) ∗ Ring.free (cellP0_0 c) (slotW0_0 c fh0) (Ring.sl 3 t.val) ∗ Ring.inflight (flightW0_1 c fh1) (Ring.sl 2 (t.val + 1)) (Ring.bk 20 (t.val + 1)) ∗ Ring.free (cellP0_1 c) (slotW0_1 c fh1) (Ring.sl 2 t.val) ∗ (∃ W', owes (c : Thread nD τ) 0 W')) -∗ K ⟨⟩))
          ⊢ wp frame (wpE (defs₀ (F := F)) Variants.none c none) Set.univ (cc0_mlp_down_loss (grid0.coords t) (Memref.whole main_arg0) (Memref.isWhole_whole _) arg2 harg2 arg3 harg3 arg4 harg4 (Memref.whole main_arg4) (Memref.isWhole_whole _) arg6 harg6 arg7 harg7 arg8 harg8 arg9 harg9 scM0_0 (Memref.isWhole_whole _) cc0_scratch1 scM0_1 (Memref.isWhole_whole _) cc0_scratch3) K := by
    intro W K
    have hc0 : ¬cond0_0 (grid0.coords t) := fun h => absurd ((hcond0_0 t).mp h) (by omega)
    have : Fact (¬cond0_0 (grid0.coords t)) := ⟨hc0⟩
    have hc1 : cond0_1 (grid0.coords t) := (hcond0_1 t).mpr (by omega)
    have : Fact (cond0_1 (grid0.coords t)) := ⟨hc1⟩
    have hc2 : ¬cond0_2 (grid0.coords t) := fun h => absurd ((hcond0_2 t).mp h) (by omega)
    have : Fact (¬cond0_2 (grid0.coords t)) := ⟨hc2⟩
    have hc3 : cond0_3 (grid0.coords t) := (hcond0_3 t).mpr (by omega)
    have : Fact (cond0_3 (grid0.coords t)) := ⟨hc3⟩
    have hk6 : ¬k0_cond6 (grid0.coords t) = 1#1 := fun h => absurd ((kc6 t).mp h) (by omega)
    have : Fact (¬k0_cond6 (grid0.coords t) = 1#1) := ⟨hk6⟩
    have hk7 : k0_cond7 (grid0.coords t) = 1#1 := (kc7 t).mpr (by omega)
    have : Fact (k0_cond7 (grid0.coords t) = 1#1) := ⟨hk7⟩
    have hk9 : ¬k0_cond9 (grid0.coords t) = 1#1 := fun h => absurd ((kc9 t).mp h) (by omega)
    have : Fact (¬k0_cond9 (grid0.coords t) = 1#1) := ⟨hk9⟩
    have hk10 : k0_cond10 (grid0.coords t) = 1#1 := (kc10 t).mpr (by omega)
    have : Fact (k0_cond10 (grid0.coords t) = 1#1) := ⟨hk10⟩
    have hk11 : ¬k0_cond11 (grid0.coords t) = 1#1 := fun h => absurd ((kc11 t).mp h) (by omega)
    have : Fact (¬k0_cond11 (grid0.coords t) = 1#1) := ⟨hk11⟩
    have hk12 : ¬k0_cond12 (grid0.coords t) = 1#1 := fun h => absurd ((kc12 t).mp h) (by omega)
    have : Fact (¬k0_cond12 (grid0.coords t) = 1#1) := ⟨hk12⟩
    have hk13 : k0_cond13 (grid0.coords t) = 1#1 := (kc13 t).mpr (by omega)
    have : Fact (k0_cond13 (grid0.coords t) = 1#1) := ⟨hk13⟩
    simp only [cc0_mlp_down_loss_eq_skeleton]; unfold cc0_mlp_down_loss_skel
    simp only [k0_part1_eq_skeleton, k0_part2_eq_skeleton, k0_part3_eq_skeleton, k0_part4_eq_skeleton]
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1, Hf0_1, Hrf0_1⟩, ⟨Hc0_1_1, ⟨%fs0_1_1, Hs0_1_1, Hw0_1_1⟩⟩, HW, Hk⟩
    ihave Hsp0_0_2 := (src0_0_split c fh0 (Ring.sl 3 (t.val + 2)) (Ring.bk 20 (t.val + 2))).1 $$ Hw0_0_2
    icases Hsp0_0_2 with ⟨Hh0_0_2, Hr0_0_2⟩
    ihave Hsp0_1_1 := (src0_1_split c fh1 (Ring.sl 2 (t.val + 1)) (Ring.bk 20 (t.val + 1))).1 $$ Hw0_1_1
    icases Hsp0_1_1 with ⟨Hh0_1_1, Hr0_1_1⟩
    obtain rfl := harg2.eq_unread hf0; obtain rfl := harg3.eq_unread hf1; obtain rfl := harg4.eq_unread hf2; obtain rfl := harg8.eq_unread hf5; obtain rfl := harg9.eq_unread hf6
    sl_exec (disch := first | sl_exact hc0 | sl_exact hc1 | sl_exact hc2 | sl_exact hc3 | sl_exact hk6 | sl_exact hk7 | sl_exact hk9 | sl_exact hk10 | sl_exact hk11 | sl_exact hk12 | sl_exact hk13)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; frame_out
      exact (View.read_writes_full _ _ _ _ _).trans (congrArg₂ (fun z y => o6 (pid t) z y x0 x1 x2) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H4]
    · iexists _; isplitr; swap; · iexact H4
      ipureintro; frame_out
      exact (View.read_writes_full _ _ _ _ _).trans (congrArg₂ (fun z y => o7 (pid t) z y x0 x1 x2) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H5]
    · iexists _; isplitr; swap; · iexact H5
      ipureintro; frame_out
      exact (View.read_writes_full _ _ _ _ _).trans (congrArg₂ (fun z y => k0_pay14 xg (o8 (pid t) z y x0 x1 x2)) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H6]
    · iexists _; isplitr; swap; · iexact H6
      ipureintro; frame_out
      exact (View.read_writes_full _ _ _ _ _).trans (congrArg₂ (fun z y => k0_pay15 xl (o9 (pid t) z y x0 x1 x2)) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    isplitl [Hc0_1_1 Hr0_1_1]
    · iexists _; isplitl [Hc0_1_1]; · iexact Hc0_1_1
      iexact Hr0_1_1
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 20 t.val)).2; isplitl [Hf0_1_src]; · iexact Hf0_1_src
      iexact Hrf0_1
    iexists _; iexact HW

end Cert.MlpDownLoss
-- ==== Proof.MlpDownLoss.RunC.lean ====
/- The point before the last, where the activations are all under way. -/
module

public import proofs.«01_k».proof.Proof.MlpDownLoss.Runs

@[expose] public section

set_option synthInstance.maxSize 4096
set_option maxRecDepth 16384

noncomputable section

namespace Cert.MlpDownLoss

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 4000000 in
theorem run_C (c : Dev nD) (t : Fin cfg0.N) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (ht : t.val = 18)
    (x0 : Vec F S4096x1024 .bf16) (x1 : Vec F S416x1024 .f32) (x2 : Vec F S1x1024 .f32) (xg : Vec F S1x1024 .f32) (xl : Vec F S1x128 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d) ∗ owns (c : Thread nD τ) arg8 fullShare xg ∗ owns (c : Thread nD τ) arg9 fullShare xl ∗ Ring.inflight (flightW0_0 c fh0) (Ring.sl 3 t.val) (Ring.bk 20 t.val) ∗ Ring.slotAt 2 (cellP0_0 c) (slotW0_0 c fh0) (flightW0_0 c fh0) t.val 1 ∗ Ring.free (cellP0_0 c) (slotW0_0 c fh0) (Ring.sl 3 (t.val + 2)) ∗ Ring.inflight (flightW0_1 c fh1) (Ring.sl 2 t.val) (Ring.bk 20 t.val) ∗ Ring.free (cellP0_1 c) (slotW0_1 c fh1) (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare (o6 (pid t) (slab c fh0 (Ring.bk 20 t.val)) (tslab c fh1 (Ring.bk 20 t.val)) x0 x1 x2) ∗ owns (c : Thread nD τ) arg7 fullShare (o7 (pid t) (slab c fh0 (Ring.bk 20 t.val)) (tslab c fh1 (Ring.bk 20 t.val)) x0 x1 x2) ∗ owns (c : Thread nD τ) arg8 fullShare (k0_pay14 xg (o8 (pid t) (slab c fh0 (Ring.bk 20 t.val)) (tslab c fh1 (Ring.bk 20 t.val)) x0 x1 x2)) ∗ owns (c : Thread nD τ) arg9 fullShare (k0_pay15 xl (o9 (pid t) (slab c fh0 (Ring.bk 20 t.val)) (tslab c fh1 (Ring.bk 20 t.val)) x0 x1 x2)) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ Ring.inflight (flightW0_1 c fh1) (Ring.sl 2 (t.val + 1)) (Ring.bk 20 (t.val + 1)) ∗ Ring.free (cellP0_1 c) (slotW0_1 c fh1) (Ring.sl 2 t.val) ∗ (∃ W', owes (c : Thread nD τ) 0 W')) -∗ K ⟨⟩))
          ⊢ wp frame (wpE (defs₀ (F := F)) Variants.none c none) Set.univ (cc0_mlp_down_loss (grid0.coords t) (Memref.whole main_arg0) (Memref.isWhole_whole _) arg2 harg2 arg3 harg3 arg4 harg4 (Memref.whole main_arg4) (Memref.isWhole_whole _) arg6 harg6 arg7 harg7 arg8 harg8 arg9 harg9 scM0_0 (Memref.isWhole_whole _) cc0_scratch1 scM0_1 (Memref.isWhole_whole _) cc0_scratch3) K := by
    intro W K
    have hc0 : ¬cond0_0 (grid0.coords t) := fun h => absurd ((hcond0_0 t).mp h) (by omega)
    have : Fact (¬cond0_0 (grid0.coords t)) := ⟨hc0⟩
    have hc1 : ¬cond0_1 (grid0.coords t) := fun h => absurd ((hcond0_1 t).mp h) (by omega)
    have : Fact (¬cond0_1 (grid0.coords t)) := ⟨hc1⟩
    have hc2 : ¬cond0_2 (grid0.coords t) := fun h => absurd ((hcond0_2 t).mp h) (by omega)
    have : Fact (¬cond0_2 (grid0.coords t)) := ⟨hc2⟩
    have hc3 : cond0_3 (grid0.coords t) := (hcond0_3 t).mpr (by omega)
    have : Fact (cond0_3 (grid0.coords t)) := ⟨hc3⟩
    have hk6 : ¬k0_cond6 (grid0.coords t) = 1#1 := fun h => absurd ((kc6 t).mp h) (by omega)
    have : Fact (¬k0_cond6 (grid0.coords t) = 1#1) := ⟨hk6⟩
    have hk7 : k0_cond7 (grid0.coords t) = 1#1 := (kc7 t).mpr (by omega)
    have : Fact (k0_cond7 (grid0.coords t) = 1#1) := ⟨hk7⟩
    have hk9 : ¬k0_cond9 (grid0.coords t) = 1#1 := fun h => absurd ((kc9 t).mp h) (by omega)
    have : Fact (¬k0_cond9 (grid0.coords t) = 1#1) := ⟨hk9⟩
    have hk10 : k0_cond10 (grid0.coords t) = 1#1 := (kc10 t).mpr (by omega)
    have : Fact (k0_cond10 (grid0.coords t) = 1#1) := ⟨hk10⟩
    have hk11 : ¬k0_cond11 (grid0.coords t) = 1#1 := fun h => absurd ((kc11 t).mp h) (by omega)
    have : Fact (¬k0_cond11 (grid0.coords t) = 1#1) := ⟨hk11⟩
    have hk12 : ¬k0_cond12 (grid0.coords t) = 1#1 := fun h => absurd ((kc12 t).mp h) (by omega)
    have : Fact (¬k0_cond12 (grid0.coords t) = 1#1) := ⟨hk12⟩
    have hk13 : k0_cond13 (grid0.coords t) = 1#1 := (kc13 t).mpr (by omega)
    have : Fact (k0_cond13 (grid0.coords t) = 1#1) := ⟨hk13⟩
    simp only [cc0_mlp_down_loss_eq_skeleton]; unfold cc0_mlp_down_loss_skel
    simp only [k0_part1_eq_skeleton, k0_part2_eq_skeleton, k0_part3_eq_skeleton, k0_part4_eq_skeleton]
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ff0_0_0, Hf0_0_0, Hrf0_0_0⟩, Hro0_0_1, ⟨Hc0_0_2, ⟨%fs0_0_2, Hs0_0_2, Hw0_0_2⟩⟩, ⟨%ff0_1, Hf0_1, Hrf0_1⟩, ⟨Hc0_1_1, ⟨%fs0_1_1, Hs0_1_1, Hw0_1_1⟩⟩, HW, Hk⟩
    ihave Hsp0_1_1 := (src0_1_split c fh1 (Ring.sl 2 (t.val + 1)) (Ring.bk 20 (t.val + 1))).1 $$ Hw0_1_1
    icases Hsp0_1_1 with ⟨Hh0_1_1, Hr0_1_1⟩
    obtain rfl := harg2.eq_unread hf0; obtain rfl := harg3.eq_unread hf1; obtain rfl := harg4.eq_unread hf2; obtain rfl := harg8.eq_unread hf5; obtain rfl := harg9.eq_unread hf6
    sl_exec (disch := first | sl_exact hc0 | sl_exact hc1 | sl_exact hc2 | sl_exact hc3 | sl_exact hk6 | sl_exact hk7 | sl_exact hk9 | sl_exact hk10 | sl_exact hk11 | sl_exact hk12 | sl_exact hk13)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; frame_out
      exact (View.read_writes_full _ _ _ _ _).trans (congrArg₂ (fun z y => o6 (pid t) z y x0 x1 x2) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H4]
    · iexists _; isplitr; swap; · iexact H4
      ipureintro; frame_out
      exact (View.read_writes_full _ _ _ _ _).trans (congrArg₂ (fun z y => o7 (pid t) z y x0 x1 x2) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H5]
    · iexists _; isplitr; swap; · iexact H5
      ipureintro; frame_out
      exact (View.read_writes_full _ _ _ _ _).trans (congrArg₂ (fun z y => k0_pay14 xg (o8 (pid t) z y x0 x1 x2)) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H6]
    · iexists _; isplitr; swap; · iexact H6
      ipureintro; frame_out
      exact (View.read_writes_full _ _ _ _ _).trans (congrArg₂ (fun z y => k0_pay15 xl (o9 (pid t) z y x0 x1 x2)) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    isplitl [Hc0_1_1 Hr0_1_1]
    · iexists _; isplitl [Hc0_1_1]; · iexact Hc0_1_1
      iexact Hr0_1_1
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 20 t.val)).2; isplitl [Hf0_1_src]; · iexact Hf0_1_src
      iexact Hrf0_1
    iexists _; iexact HW

end Cert.MlpDownLoss
-- ==== Proof.MlpDownLoss.RunD.lean ====
/- The last point, which starts no copy. -/
module

public import proofs.«01_k».proof.Proof.MlpDownLoss.Runs

@[expose] public section

set_option synthInstance.maxSize 4096
set_option maxRecDepth 16384

noncomputable section

namespace Cert.MlpDownLoss

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 4000000 in
theorem run_D (c : Dev nD) (t : Fin cfg0.N) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (ht : t.val = 19)
    (x0 : Vec F S4096x1024 .bf16) (x1 : Vec F S416x1024 .f32) (x2 : Vec F S1x1024 .f32) (xg : Vec F S1x1024 .f32) (xl : Vec F S1x128 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d) ∗ owns (c : Thread nD τ) arg8 fullShare xg ∗ owns (c : Thread nD τ) arg9 fullShare xl ∗ Ring.inflight (flightW0_0 c fh0) (Ring.sl 3 t.val) (Ring.bk 20 t.val) ∗ Ring.slotAt 2 (cellP0_0 c) (slotW0_0 c fh0) (flightW0_0 c fh0) t.val 1 ∗ Ring.free (cellP0_0 c) (slotW0_0 c fh0) (Ring.sl 3 (t.val + 2)) ∗ Ring.inflight (flightW0_1 c fh1) (Ring.sl 2 t.val) (Ring.bk 20 t.val) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare (o6 (pid t) (slab c fh0 (Ring.bk 20 t.val)) (tslab c fh1 (Ring.bk 20 t.val)) x0 x1 x2) ∗ owns (c : Thread nD τ) arg7 fullShare (o7 (pid t) (slab c fh0 (Ring.bk 20 t.val)) (tslab c fh1 (Ring.bk 20 t.val)) x0 x1 x2) ∗ owns (c : Thread nD τ) arg8 fullShare (k0_pay14 xg (o8 (pid t) (slab c fh0 (Ring.bk 20 t.val)) (tslab c fh1 (Ring.bk 20 t.val)) x0 x1 x2)) ∗ owns (c : Thread nD τ) arg9 fullShare (k0_pay15 xl (o9 (pid t) (slab c fh0 (Ring.bk 20 t.val)) (tslab c fh1 (Ring.bk 20 t.val)) x0 x1 x2)) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ Ring.free (cellP0_1 c) (slotW0_1 c fh1) (Ring.sl 2 t.val) ∗ (∃ W', owes (c : Thread nD τ) 0 W')) -∗ K ⟨⟩))
          ⊢ wp frame (wpE (defs₀ (F := F)) Variants.none c none) Set.univ (cc0_mlp_down_loss (grid0.coords t) (Memref.whole main_arg0) (Memref.isWhole_whole _) arg2 harg2 arg3 harg3 arg4 harg4 (Memref.whole main_arg4) (Memref.isWhole_whole _) arg6 harg6 arg7 harg7 arg8 harg8 arg9 harg9 scM0_0 (Memref.isWhole_whole _) cc0_scratch1 scM0_1 (Memref.isWhole_whole _) cc0_scratch3) K := by
    intro W K
    have hc0 : ¬cond0_0 (grid0.coords t) := fun h => absurd ((hcond0_0 t).mp h) (by omega)
    have : Fact (¬cond0_0 (grid0.coords t)) := ⟨hc0⟩
    have hc1 : ¬cond0_1 (grid0.coords t) := fun h => absurd ((hcond0_1 t).mp h) (by omega)
    have : Fact (¬cond0_1 (grid0.coords t)) := ⟨hc1⟩
    have hc2 : ¬cond0_2 (grid0.coords t) := fun h => absurd ((hcond0_2 t).mp h) (by omega)
    have : Fact (¬cond0_2 (grid0.coords t)) := ⟨hc2⟩
    have hc3 : ¬cond0_3 (grid0.coords t) := fun h => absurd ((hcond0_3 t).mp h) (by omega)
    have : Fact (¬cond0_3 (grid0.coords t)) := ⟨hc3⟩
    have hk6 : ¬k0_cond6 (grid0.coords t) = 1#1 := fun h => absurd ((kc6 t).mp h) (by omega)
    have : Fact (¬k0_cond6 (grid0.coords t) = 1#1) := ⟨hk6⟩
    have hk7 : k0_cond7 (grid0.coords t) = 1#1 := (kc7 t).mpr (by omega)
    have : Fact (k0_cond7 (grid0.coords t) = 1#1) := ⟨hk7⟩
    have hk11 : ¬k0_cond11 (grid0.coords t) = 1#1 := fun h => absurd ((kc11 t).mp h) (by omega)
    have : Fact (¬k0_cond11 (grid0.coords t) = 1#1) := ⟨hk11⟩
    have hk12 : ¬k0_cond12 (grid0.coords t) = 1#1 := fun h => absurd ((kc12 t).mp h) (by omega)
    have : Fact (¬k0_cond12 (grid0.coords t) = 1#1) := ⟨hk12⟩
    have hk13 : k0_cond13 (grid0.coords t) = 1#1 := (kc13 t).mpr (by omega)
    have : Fact (k0_cond13 (grid0.coords t) = 1#1) := ⟨hk13⟩
    simp only [cc0_mlp_down_loss_eq_skeleton]; unfold cc0_mlp_down_loss_skel
    simp only [k0_part1_eq_skeleton, k0_part2_eq_skeleton, k0_part3_eq_skeleton, k0_part4_eq_skeleton]
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ff0_0_0, Hf0_0_0, Hrf0_0_0⟩, Hro0_0_1, ⟨Hc0_0_2, ⟨%fs0_0_2, Hs0_0_2, Hw0_0_2⟩⟩, ⟨%ff0_1, Hf0_1, Hrf0_1⟩, HW, Hk⟩
    obtain rfl := harg2.eq_unread hf0; obtain rfl := harg3.eq_unread hf1; obtain rfl := harg4.eq_unread hf2; obtain rfl := harg8.eq_unread hf5; obtain rfl := harg9.eq_unread hf6
    sl_exec (disch := first | sl_exact hc0 | sl_exact hc1 | sl_exact hc2 | sl_exact hc3 | sl_exact hk6 | sl_exact hk7 | sl_exact hk11 | sl_exact hk12 | sl_exact hk13)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; frame_out
      exact (View.read_writes_full _ _ _ _ _).trans (congrArg₂ (fun z y => o6 (pid t) z y x0 x1 x2) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H4]
    · iexists _; isplitr; swap; · iexact H4
      ipureintro; frame_out
      exact (View.read_writes_full _ _ _ _ _).trans (congrArg₂ (fun z y => o7 (pid t) z y x0 x1 x2) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H5]
    · iexists _; isplitr; swap; · iexact H5
      ipureintro; frame_out
      exact (View.read_writes_full _ _ _ _ _).trans (congrArg₂ (fun z y => k0_pay14 xg (o8 (pid t) z y x0 x1 x2)) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H6]
    · iexists _; isplitr; swap; · iexact H6
      ipureintro; frame_out
      exact (View.read_writes_full _ _ _ _ _).trans (congrArg₂ (fun z y => k0_pay15 xl (o9 (pid t) z y x0 x1 x2)) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 20 t.val)).2; isplitl [Hf0_1_src]; · iexact Hf0_1_src
      iexact Hrf0_1
    iexists _; iexact HW

end Cert.MlpDownLoss
-- ==== Proof.MlpDownLoss.RunE.lean ====
/- The point before the second sequence, which starts a short copy. -/
module

public import proofs.«01_k».proof.Proof.MlpDownLoss.Runs

@[expose] public section

set_option synthInstance.maxSize 4096
set_option maxRecDepth 16384

noncomputable section

namespace Cert.MlpDownLoss

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 4000000 in
theorem run_E (c : Dev nD) (t : Fin cfg0.N) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (ht : t.val = 9)
    (x0 : Vec F S4096x1024 .bf16) (x1 : Vec F S416x1024 .f32) (x2 : Vec F S1x1024 .f32) (xg : Vec F S1x1024 .f32) (xl : Vec F S1x128 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d) ∗ owns (c : Thread nD τ) arg8 fullShare xg ∗ owns (c : Thread nD τ) arg9 fullShare xl ∗ Ring.inflight (flightW0_0 c fh0) (Ring.sl 3 t.val) (Ring.bk 20 t.val) ∗ Ring.inflight (flightW0_0 c fh0) (Ring.sl 3 (t.val + 1)) (Ring.bk 20 (t.val + 1)) ∗ Ring.free (cellP0_0 c) (slotW0_0 c fh0) (Ring.sl 3 (t.val + 2)) ∗ Ring.inflight (flightW0_1 c fh1) (Ring.sl 2 t.val) (Ring.bk 20 t.val) ∗ Ring.free (cellP0_1 c) (slotW0_1 c fh1) (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare (o6 (pid t) (slab c fh0 (Ring.bk 20 t.val)) (tslab c fh1 (Ring.bk 20 t.val)) x0 x1 x2) ∗ owns (c : Thread nD τ) arg7 fullShare (o7 (pid t) (slab c fh0 (Ring.bk 20 t.val)) (tslab c fh1 (Ring.bk 20 t.val)) x0 x1 x2) ∗ owns (c : Thread nD τ) arg8 fullShare (k0_pay14 xg (o8 (pid t) (slab c fh0 (Ring.bk 20 t.val)) (tslab c fh1 (Ring.bk 20 t.val)) x0 x1 x2)) ∗ owns (c : Thread nD τ) arg9 fullShare (k0_pay15 xl (o9 (pid t) (slab c fh0 (Ring.bk 20 t.val)) (tslab c fh1 (Ring.bk 20 t.val)) x0 x1 x2)) ∗ Ring.inflight (flightW0_0 c fh0) (Ring.sl 3 (t.val + 1)) (Ring.bk 20 (t.val + 1)) ∗ Ring.inflight (flightW0_0 c fh0) (Ring.sl 3 (t.val + 2)) (Ring.bk 20 (t.val + 2)) ∗ Ring.free (cellP0_0 c) (slotW0_0 c fh0) (Ring.sl 3 t.val) ∗ Ring.inflight (flightWS c fh1) (Ring.sl 2 (t.val + 1)) (Ring.bk 20 (t.val + 1)) ∗ Ring.free (cellP0_1 c) (slotW0_1 c fh1) (Ring.sl 2 t.val) ∗ (∃ W', owes (c : Thread nD τ) 0 W')) -∗ K ⟨⟩))
          ⊢ wp frame (wpE (defs₀ (F := F)) Variants.none c none) Set.univ (cc0_mlp_down_loss (grid0.coords t) (Memref.whole main_arg0) (Memref.isWhole_whole _) arg2 harg2 arg3 harg3 arg4 harg4 (Memref.whole main_arg4) (Memref.isWhole_whole _) arg6 harg6 arg7 harg7 arg8 harg8 arg9 harg9 scM0_0 (Memref.isWhole_whole _) cc0_scratch1 scM0_1 (Memref.isWhole_whole _) cc0_scratch3) K := by
    intro W K
    have hc0 : ¬cond0_0 (grid0.coords t) := fun h => absurd ((hcond0_0 t).mp h) (by omega)
    have : Fact (¬cond0_0 (grid0.coords t)) := ⟨hc0⟩
    have hc1 : cond0_1 (grid0.coords t) := (hcond0_1 t).mpr (by omega)
    have : Fact (cond0_1 (grid0.coords t)) := ⟨hc1⟩
    have hc2 : ¬cond0_2 (grid0.coords t) := fun h => absurd ((hcond0_2 t).mp h) (by omega)
    have : Fact (¬cond0_2 (grid0.coords t)) := ⟨hc2⟩
    have hc3 : cond0_3 (grid0.coords t) := (hcond0_3 t).mpr (by omega)
    have : Fact (cond0_3 (grid0.coords t)) := ⟨hc3⟩
    have hk6 : ¬k0_cond6 (grid0.coords t) = 1#1 := fun h => absurd ((kc6 t).mp h) (by omega)
    have : Fact (¬k0_cond6 (grid0.coords t) = 1#1) := ⟨hk6⟩
    have hk7 : k0_cond7 (grid0.coords t) = 1#1 := (kc7 t).mpr (by omega)
    have : Fact (k0_cond7 (grid0.coords t) = 1#1) := ⟨hk7⟩
    have hk9 : k0_cond9 (grid0.coords t) = 1#1 := (kc9 t).mpr (by omega)
    have : Fact (k0_cond9 (grid0.coords t) = 1#1) := ⟨hk9⟩
    have hk10 : ¬k0_cond10 (grid0.coords t) = 1#1 := fun h => absurd ((kc10 t).mp h) (by omega)
    have : Fact (¬k0_cond10 (grid0.coords t) = 1#1) := ⟨hk10⟩
    have hk11 : ¬k0_cond11 (grid0.coords t) = 1#1 := fun h => absurd ((kc11 t).mp h) (by omega)
    have : Fact (¬k0_cond11 (grid0.coords t) = 1#1) := ⟨hk11⟩
    have hk12 : ¬k0_cond12 (grid0.coords t) = 1#1 := fun h => absurd ((kc12 t).mp h) (by omega)
    have : Fact (¬k0_cond12 (grid0.coords t) = 1#1) := ⟨hk12⟩
    have hk13 : k0_cond13 (grid0.coords t) = 1#1 := (kc13 t).mpr (by omega)
    have : Fact (k0_cond13 (grid0.coords t) = 1#1) := ⟨hk13⟩
    simp only [cc0_mlp_down_loss_eq_skeleton]; unfold cc0_mlp_down_loss_skel
    simp only [k0_part1_eq_skeleton, k0_part2_eq_skeleton, k0_part3_eq_skeleton, k0_part4_eq_skeleton]
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1, Hf0_1, Hrf0_1⟩, ⟨Hc0_1_1, ⟨%fs0_1_1, Hs0_1_1, Hw0_1_1⟩⟩, HW, Hk⟩
    ihave Hsp0_0_2 := (src0_0_split c fh0 (Ring.sl 3 (t.val + 2)) (Ring.bk 20 (t.val + 2))).1 $$ Hw0_0_2
    icases Hsp0_0_2 with ⟨Hh0_0_2, Hr0_0_2⟩
    ihave Hsp0_1_1 := (srcS_split c fh1 (Ring.sl 2 (t.val + 1)) (Ring.bk 20 (t.val + 1))).1 $$ Hw0_1_1
    icases Hsp0_1_1 with ⟨Hh0_1_1, Hr0_1_1⟩
    ihave Hcut := (slot_cut (F := F) c (Ring.sl 2 (t.val + 1)) fs0_1_1) $$ Hs0_1_1
    icases Hcut with ⟨Ht0_1_1, Hp0_1_1⟩
    obtain rfl := harg2.eq_unread hf0; obtain rfl := harg3.eq_unread hf1; obtain rfl := harg4.eq_unread hf2; obtain rfl := harg8.eq_unread hf5; obtain rfl := harg9.eq_unread hf6
    sl_exec (disch := first | sl_exact hc0 | sl_exact hc1 | sl_exact hc2 | sl_exact hc3 | sl_exact hk6 | sl_exact hk7 | sl_exact hk9 | sl_exact hk10 | sl_exact hk11 | sl_exact hk12 | sl_exact hk13)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; frame_out
      exact (View.read_writes_full _ _ _ _ _).trans (congrArg₂ (fun z y => o6 (pid t) z y x0 x1 x2) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H4]
    · iexists _; isplitr; swap; · iexact H4
      ipureintro; frame_out
      exact (View.read_writes_full _ _ _ _ _).trans (congrArg₂ (fun z y => o7 (pid t) z y x0 x1 x2) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H5]
    · iexists _; isplitr; swap; · iexact H5
      ipureintro; frame_out
      exact (View.read_writes_full _ _ _ _ _).trans (congrArg₂ (fun z y => k0_pay14 xg (o8 (pid t) z y x0 x1 x2)) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [H6]
    · iexists _; isplitr; swap; · iexact H6
      ipureintro; frame_out
      exact (View.read_writes_full _ _ _ _ _).trans (congrArg₂ (fun z y => k0_pay15 xl (o9 (pid t) z y x0 x1 x2)) (slab_eq c fh0 (Ring.bk 20 t.val) (Ring.sl 3 t.val) _ _ _ (coff0_0_13 t)) (tslab_long c fh1 (Ring.bk 20 t.val) (bk_long t (by omega)) (Ring.sl 2 t.val) _ _ _ (coff_27 t)))
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    isplitl [Hc0_1_1 Hr0_1_1 Ht0_1_1]
    · iexists fs0_1_1; isplitl [Hc0_1_1]; · iexact Hc0_1_1
      isplitl [Hr0_1_1]; · iexact Hr0_1_1
      iexists _; iexact Ht0_1_1
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 20 t.val)).2; isplitl [Hf0_1_src]; · iexact Hf0_1_src
      iexact Hrf0_1
    iexists _; iexact HW

end Cert.MlpDownLoss
-- ==== Proof.MlpDownLoss.RunG.lean ====
/- The second sequence's first point. -/
module

public import proofs.«01_k».proof.Proof.MlpDownLoss.Runs

@[expose] public section

set_option synthInstance.maxSize 4096
set_option maxRecDepth 16384

noncomputable section

namespace Cert.MlpDownLoss

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 4000000 in
theorem run_G (c : Dev nD) (t : Fin cfg0.N) (arg2 : Memref sig .tc .vmem S4096x1024 .bf16) (harg2 : arg2.IsWhole) (arg3 : Memref sig .tc .vmem S416x1024 .f32) (harg3 : arg3.IsWhole) (arg4 : Memref sig .tc .vmem S1x1024 .f32) (harg4 : arg4.IsWhole) (arg6 : Memref sig .tc .vmem S416x1024 .f32) (harg6 : arg6.IsWhole) (arg7 : Memref sig .tc .vmem S416x1024 .bf16) (harg7 : arg7.IsWhole) (arg8 : Memref sig .tc .vmem S1x1024 .f32) (harg8 : arg8.IsWhole) (arg9 : Memref sig .tc .vmem S1x128 .f32) (harg9 : arg9.IsWhole) (ht : t.val = 10)
    (x0 : Vec F S4096x1024 .bf16) (x1 : Vec F S416x1024 .f32) (x2 : Vec F S1x1024 .f32) (xg : Vec F S1x1024 .f32) (xl : Vec F S1x128 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d) ∗ (∃ d, owns (c : Thread nD τ) arg7 fullShare d) ∗ owns (c : Thread nD τ) arg8 fullShare xg ∗ owns (c : Thread nD τ) arg9 fullShare xl ∗ Ring.inflight (flightW0_0 c fh0) (Ring.sl 3 t.val) (Ring.bk 20 t.val) ∗ Ring.inflight (flightW0_0 c fh0) (Ring.sl 3 (t.val + 1)) (Ring.bk 20 (t.val + 1)) ∗ Ring.free (cellP0_0 c) (slotW0_0 c fh0) (Ring.sl 3 (t.val + 2)) ∗ Ring.inflight (flightWS c fh1) (Ring.sl 2 t.val) (Ring.bk 20 t.val) ∗ Ring.free (cellP0_1 c) (slotW0_1 c fh1) (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg6 fullShare (o6 (pid t) (slab c fh0 (Ring.bk 20 t.val)) (tslab c fh1 (Ring.bk 20 t.val)) x0 x1 x2) ∗ owns (c : Thread nD τ) arg7 fullShare (o7 (pid t) (slab c fh0 (Ring.bk 20 t.val)) (tslab c fh1 (Ring.bk 20 t.val)) x0 x1 x2) ∗ owns (c : Thread nD τ) arg8 fullShare (k0_pay14 xg (o8 (pid t) (slab c fh0 (Ring.bk 20 t.val)) (tslab c fh1 (Ring.bk 20 t.val)) x0 x1 x2)) ∗ owns (c : Thread nD τ) arg9 fullShare (k0_pay15 xl (o9 (pid t) (slab c fh0 (Ring.bk 20 t.val)) (tslab c fh1 (Ring.bk 20 t.val)) x0 x1 x2)) ∗ Ring.inflight (flightW0_0 c fh0) (Ring.sl 3 (t.val + 1)) (Ring.bk 20 (t.val + 1)) ∗ Ring.inflight (flightW0_0 c fh0) (Ring.sl 3 (t.val + 2)) (Ring.bk 20 (t.val + 2)) ∗ Ring.free (cellP0_0 c) (slotW0_0 c fh0) (Ring.sl 3 t.val) ∗ Ring.inflight (flightW0_1 c fh1) (Ring.sl 2 (t.val + 1)) (Ring.bk 20 (t.val + 1)) ∗ Ring.free (cellP0_1 c) (slotW0_1 c fh1) (Ring.sl 2 t.val) ∗ (∃ W', owes (c : Thread nD τ) 0 W')) -∗ K ⟨⟩))
          ⊢ wp frame (wpE (defs₀ (F := F)) Variants.none c none) Set.univ (cc0_mlp_down_loss (grid0.coords t) (Memref.whole main_arg0) (Memref.isWhole_whole _) arg2 harg2 arg3 harg3 arg4 harg4 (Memref.whole main_arg4) (Memref.isWhole_whole _) arg6 harg6 arg7 harg7 arg8 harg8 arg9 harg9 scM0_0 (Memref.isWhole_whole _) cc0_scratch1 scM0_1 (Memref.isWhole_whole _) cc0_scratch3) K := by
    intro W K
    have hc0 : ¬cond0_0 (grid0.coords t) := fun h => absurd ((hcond0_0 t).mp h) (by omega)
    have : Fact (¬cond0_0 (grid0.coords t)) := ⟨hc0⟩
    have hc1 : cond0_1 (grid0.coords t) := (hcond0_1 t).mpr (by omega)
    have : Fact (cond0_1 (grid0.coords t)) := ⟨hc1⟩
    have hc2 : ¬cond0_2 (grid0.coords t) := fun h => absurd ((hcond0_2 t).mp h) (by omega)
    have : Fact (¬cond0_2 (grid0.coords t)) := ⟨hc2⟩
    have hc3 : cond0_3 (grid0.coords t) := (hcond0_3 t).mpr (by omega)
    have : Fact (cond0_3 (grid0.coords t)) := ⟨hc3⟩
    have hk6 : k0_cond6 (grid0.coords t) = 1#1 := (kc6 t).mpr (by omega)
    have : Fact (k0_cond6 (grid0.coords t) = 1#1) := ⟨hk6⟩
    have hk7 : ¬k0_cond7 (grid0.coords t) = 1#1 := fun h => absurd ((kc7 t).mp h) (by omega)
    have : Fact (¬k0_cond7 (grid0.coords t) = 1#1) := ⟨hk7⟩
    have hk9 : ¬k0_cond9 (grid0.coords t) = 1#1 := fun h => absurd ((kc9 t).mp h) (by omega)
    have : Fact (¬k0_cond9 (grid0.coords t) = 1#1) := ⟨hk9⟩
    have hk10 : k0_cond10 (grid0.coords t) = 1#1 := (kc10 t).mpr (by omega)
    have : Fact (k0_cond10 (grid0.coords t) = 1#1) := ⟨hk10⟩
    have hk11 : k0_cond11 (grid0.coords t) = 1#1 := (kc11 t).mpr (by omega)
    have : Fact (k0_cond11 (grid0.coords t) = 1#1) := ⟨hk11⟩
    have hk12 : ¬k0_cond12 (grid0.coords t) = 1#1 := fun h => absurd ((kc12 t).mp h) (by omega)
    have : Fact (¬k0_cond12 (grid0.coords t) = 1#1) := ⟨hk12⟩
    have hk13 : k0_cond13 (grid0.coords t) = 1#1 := (kc13 t).mpr (by omega)
    have : Fact (k0_cond13 (grid0.coords t) = 1#1) := ⟨hk13⟩
    simp only [cc0_mlp_down_loss_eq_skeleton]; unfold cc0_mlp_down_loss_skel
    simp only [k0_part1_eq_skeleton, k0_part2_eq_skeleton, k0_part3_eq_skeleton, k0_part4_eq_skeleton]
    unfold owns Ring.free Ring.inflight
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f6, %hf6, H6⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1, Hf0_1, Hrf0_1, ⟨%g0_1, Ht0_1⟩⟩, ⟨Hc0_1_1, ⟨%fs0_1_1, Hs0_1_1, Hw0_1_1⟩⟩, HW, Hk⟩
    ihave Hsp0_0_2 := (src0_0_split c fh0 (Ring.sl 3 (t.val + 2)) (Ring.bk 20 (t.val + 2))).1 $$ Hw0_0_2
    icases Hsp0_0_2 with ⟨Hh0_0_2, Hr0_0_2⟩
    ihave Hsp0_1_1 := (src0_1_split c fh1 (Ring.sl 2 (t.val + 1)) (Ring.bk 20 (t.val + 1))).1 $$ Hw0_1_1
    icases Hsp0_1_1 with ⟨Hh0_1_1, Hr0_1_1⟩
    obtain rfl := harg2.eq_unread hf0; obtain rfl := harg3.eq_unread hf1; obtain rfl := harg4.eq_unread hf2; obtain rfl := harg8.eq_unread hf5; obtain rfl := harg9.eq_unread hf6
    sl_exec (disch := first | sl_exact hc0 | sl_exact hc1 | sl_exact hc2 | sl_exact hc3 | sl_exact hk6 | sl_exact hk7 | sl_exact hk9 | sl_exact hk10 | sl_exact hk11 | sl_exact hk12 | sl_exact hk13)
    ihave Hj := (slot_join (F := F) c (Ring.sl 2 t.val) _ _) $$ [Ht0_1 Hf0_1_dst]
    · isplitl [Ht0_1]; · iexact Ht0_1
      iexact Hf0_1_dst
    sl_exec (disch := first | sl_exact hc0 | sl_exact hc1 | sl_exact hc2 | sl_exact hc3 | sl_exact hk6 | sl_exact hk7 | sl_exact hk9 | sl_exact hk10 | sl_exact hk11 | sl_exact hk12 | sl_exact hk13)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; frame_out
      exact (View.read_writes_full _ _ _ _ _).trans (congrArg₂ (fun z y => o6 (pid t) z y x0 x1 x2) (slab_eq c fh0 (Ring.bk 20 t.val) (Ring.sl 3 t.val) _ _ _ (coff0_0_13 t)) (tslab_short c fh1 (Ring.bk 20 t.val) (bk_short t (by omega)) (Ring.sl 2 t.val) _ _ _ _ _ _ (coff_27 t) (coff_25 t)))
    isplitl [H4]
    · iexists _; isplitr; swap; · iexact H4
      ipureintro; frame_out
      exact (View.read_writes_full _ _ _ _ _).trans (congrArg₂ (fun z y => o7 (pid t) z y x0 x1 x2) (slab_eq c fh0 (Ring.bk 20 t.val) (Ring.sl 3 t.val) _ _ _ (coff0_0_13 t)) (tslab_short c fh1 (Ring.bk 20 t.val) (bk_short t (by omega)) (Ring.sl 2 t.val) _ _ _ _ _ _ (coff_27 t) (coff_25 t)))
    isplitl [H5]
    · iexists _; isplitr; swap; · iexact H5
      ipureintro; frame_out
      exact (View.read_writes_full _ _ _ _ _).trans (congrArg₂ (fun z y => k0_pay14 xg (o8 (pid t) z y x0 x1 x2)) (slab_eq c fh0 (Ring.bk 20 t.val) (Ring.sl 3 t.val) _ _ _ (coff0_0_13 t)) (tslab_short c fh1 (Ring.bk 20 t.val) (bk_short t (by omega)) (Ring.sl 2 t.val) _ _ _ _ _ _ (coff_27 t) (coff_25 t)))
    isplitl [H6]
    · iexists _; isplitr; swap; · iexact H6
      ipureintro; frame_out
      exact (View.read_writes_full _ _ _ _ _).trans (congrArg₂ (fun z y => k0_pay15 xl (o9 (pid t) z y x0 x1 x2)) (slab_eq c fh0 (Ring.bk 20 t.val) (Ring.sl 3 t.val) _ _ _ (coff0_0_13 t)) (tslab_short c fh1 (Ring.bk 20 t.val) (bk_short t (by omega)) (Ring.sl 2 t.val) _ _ _ _ _ _ (coff_27 t) (coff_25 t)))
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 20 t.val)).2; isplitl [Hf0_0_0_src]; · iexact Hf0_0_0_src
      iexact Hrf0_0_0
    isplitl [Hc0_1_1 Hr0_1_1]
    · iexists _; isplitl [Hc0_1_1]; · iexact Hc0_1_1
      iexact Hr0_1_1
    isplitl [Hf0_1 Hj Hf0_1_src Hrf0_1]
    · isplitl [Hf0_1]; · iexact Hf0_1
      iexists _; isplitl [Hj]; · iexact Hj
      iapply (srcS_split c fh1 (Ring.sl 2 t.val) (Ring.bk 20 t.val)).2; isplitl [Hf0_1_src]; · iexact Hf0_1_src
      iexact Hrf0_1
    iexists _; iexact HW

end Cert.MlpDownLoss
-- ==== Proof.MlpDownLoss.Frame.lean ====
/- The whole run of the second half of the MLP with the loss, each output window at what its point stores. -/
module

public import proofs.«01_k».proof.Proof.MlpDownLoss.RunA
public import proofs.«01_k».proof.Proof.MlpDownLoss.RunB
public import proofs.«01_k».proof.Proof.MlpDownLoss.RunC
public import proofs.«01_k».proof.Proof.MlpDownLoss.RunD
public import proofs.«01_k».proof.Proof.MlpDownLoss.RunE
public import proofs.«01_k».proof.Proof.MlpDownLoss.RunG
public import Idealize.ShloMosaic.Lib.Pipeline.TableIdle

@[expose] public section

set_option synthInstance.maxSize 4096
set_option maxRecDepth 16384

noncomputable section

namespace Cert.MlpDownLoss

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
def PhiR (c : Dev nD) (k : ℕ) : sProp 𝕄 := iprop((∃ r, prngReg c r) ∗ ringAt0_0 c (V m c main_arg0) k ∗ ringAt0_1 c (V m c main_arg4) k)

/-- The row of gain gradients after each point: every block's so far, added. -/
def rowG (c : Dev nD) : (n : ℕ) → n < cfg0.N → Vec F S1x1024 .f32
  | 0, h => o8 (pid ⟨0, h⟩) (slab c (V m c main_arg0) (Ring.bk 20 (0))) (tslab c (V m c main_arg4) (Ring.bk 20 (0))) (iblk m c 0 ⟨0, h⟩) (iblk m c 1 ⟨0, h⟩) (iblk m c 2 ⟨0, h⟩)
  | n + 1, h => k0_pay14 (rowG c n (Nat.lt_of_succ_lt h)) (o8 (pid ⟨n + 1, h⟩) (slab c (V m c main_arg0) (Ring.bk 20 (n + 1))) (tslab c (V m c main_arg4) (Ring.bk 20 (n + 1))) (iblk m c 0 ⟨n + 1, h⟩) (iblk m c 1 ⟨n + 1, h⟩) (iblk m c 2 ⟨n + 1, h⟩))

theorem rowG_zero (c : Dev nD) (t : Fin cfg0.N) (h : t.val = 0) :
    rowG m c t.val t.isLt = o8 (pid t) (slab c (V m c main_arg0) (Ring.bk 20 t.val)) (tslab c (V m c main_arg4) (Ring.bk 20 t.val)) (iblk m c 0 t) (iblk m c 1 t) (iblk m c 2 t) := by
  obtain ⟨_ | n, ht⟩ := t
  · rfl
  · exact absurd h (Nat.succ_ne_zero n)

theorem rowG_succ (c : Dev nD) (t : Fin cfg0.N) (h : 0 < t.val) :
    rowG m c t.val t.isLt = k0_pay14 (rowG m c (t.val - 1) (Nat.lt_of_le_of_lt (Nat.sub_le _ _) t.isLt)) (o8 (pid t) (slab c (V m c main_arg0) (Ring.bk 20 t.val)) (tslab c (V m c main_arg4) (Ring.bk 20 t.val)) (iblk m c 0 t) (iblk m c 1 t) (iblk m c 2 t)) := by
  obtain ⟨_ | n, ht⟩ := t
  · exact absurd h (lt_irrefl 0)
  · rfl

/-- The row of losses after each point: every block's so far, added. -/
def rowL (c : Dev nD) : (n : ℕ) → n < cfg0.N → Vec F S1x128 .f32
  | 0, h => o9 (pid ⟨0, h⟩) (slab c (V m c main_arg0) (Ring.bk 20 (0))) (tslab c (V m c main_arg4) (Ring.bk 20 (0))) (iblk m c 0 ⟨0, h⟩) (iblk m c 1 ⟨0, h⟩) (iblk m c 2 ⟨0, h⟩)
  | n + 1, h => k0_pay15 (rowL c n (Nat.lt_of_succ_lt h)) (o9 (pid ⟨n + 1, h⟩) (slab c (V m c main_arg0) (Ring.bk 20 (n + 1))) (tslab c (V m c main_arg4) (Ring.bk 20 (n + 1))) (iblk m c 0 ⟨n + 1, h⟩) (iblk m c 1 ⟨n + 1, h⟩) (iblk m c 2 ⟨n + 1, h⟩))

theorem rowL_zero (c : Dev nD) (t : Fin cfg0.N) (h : t.val = 0) :
    rowL m c t.val t.isLt = o9 (pid t) (slab c (V m c main_arg0) (Ring.bk 20 t.val)) (tslab c (V m c main_arg4) (Ring.bk 20 t.val)) (iblk m c 0 t) (iblk m c 1 t) (iblk m c 2 t) := by
  obtain ⟨_ | n, ht⟩ := t
  · rfl
  · exact absurd h (Nat.succ_ne_zero n)

theorem rowL_succ (c : Dev nD) (t : Fin cfg0.N) (h : 0 < t.val) :
    rowL m c t.val t.isLt = k0_pay15 (rowL m c (t.val - 1) (Nat.lt_of_le_of_lt (Nat.sub_le _ _) t.isLt)) (o9 (pid t) (slab c (V m c main_arg0) (Ring.bk 20 t.val)) (tslab c (V m c main_arg4) (Ring.bk 20 t.val)) (iblk m c 0 t) (iblk m c 1 t) (iblk m c 2 t)) := by
  obtain ⟨_ | n, ht⟩ := t
  · exact absurd h (lt_irrefl 0)
  · rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => o6 (pid t) (slab c (V m c main_arg0) (Ring.bk 20 t.val)) (tslab c (V m c main_arg4) (Ring.bk 20 t.val)) (iblk m c 0 t) (iblk m c 1 t) (iblk m c 2 t)
    | ⟨4, _⟩ => o7 (pid t) (slab c (V m c main_arg0) (Ring.bk 20 t.val)) (tslab c (V m c main_arg4) (Ring.bk 20 t.val)) (iblk m c 0 t) (iblk m c 1 t) (iblk m c 2 t)
    | ⟨5, _⟩ => rowG m c t.val t.isLt
    | ⟨6, _⟩ => rowL m c t.val t.isLt
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.val_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = o6 (pid t) (slab c (V m c main_arg0) (Ring.bk 20 t.val)) (tslab c (V m c main_arg4) (Ring.bk 20 t.val)) (iblk m c 0 t) (iblk m c 1 t) (iblk m c 2 t) := by dsimp only [dats]
theorem after0_4 (c : Dev nD) (t : Fin cfg0.N) : (dats m 0 c).after 4 t = o7 (pid t) (slab c (V m c main_arg0) (Ring.bk 20 t.val)) (tslab c (V m c main_arg4) (Ring.bk 20 t.val)) (iblk m c 0 t) (iblk m c 1 t) (iblk m c 2 t) := by dsimp only [dats]
theorem after0_5 (c : Dev nD) (t : Fin cfg0.N) : (dats m 0 c).after 5 t = rowG m c t.val t.isLt := by dsimp only [dats]
theorem after0_6 (c : Dev nD) (t : Fin cfg0.N) : (dats m 0 c).after 6 t = rowL m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem live : ∀ (w : Fin cfg0.W) (t : Fin cfg0.N), cfg0.idle w (grid0.coords t) = false := by decide +kernel
/-- Whether a row's buffer holds nothing the body stored: only before the first point and after the last. -/
def freshTab : ℕ → Bool
  | 0 => true
  | n + 1 => (0x80000 : ℕ).testBit n
theorem freshTab_step5 : ∀ t : Fin cfg0.N,
    freshTab (t.val + 1) = ((cfg0.win 5).flush t || (cfg0.idle 5 (cfg0.grid.coords t) && freshTab t.val)) := by decide +kernel
theorem fresh_eq5 (t : Fin cfg0.N) : cfg0.fresh 5 t.val = freshTab t.val :=
  Pipeline.Cfg.fresh_tab cfg0 5 freshTab rfl freshTab_step5 t.val (Nat.le_of_lt t.isLt)
theorem notFresh5 : ∀ t : Fin cfg0.N, 0 < t.val → cfg0.fresh 5 t.val = false := by
  intro t; rw [fresh_eq5 t]; revert t; decide +kernel
theorem hcarry5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  rw [live 5 t] at hi
  exact absurd hi Bool.false_ne_true
theorem before0_5 (c : Dev nD) (t : Fin cfg0.N) (h : 0 < t.val) (d) :
    (dats m 0 c).before 5 t d = rowG m c (t.val - 1) (Nat.lt_of_le_of_lt (Nat.sub_le _ _) t.isLt) := by
  rw [Dat.before_out_traj _ 5 rfl (fun _ _ => rfl) (hcarry5 m c) t.val t rfl d,
    if_neg (by rw [notFresh5 t h]; exact Bool.false_ne_true)]
  dsimp only [dats]

theorem freshTab_step6 : ∀ t : Fin cfg0.N,
    freshTab (t.val + 1) = ((cfg0.win 6).flush t || (cfg0.idle 6 (cfg0.grid.coords t) && freshTab t.val)) := by decide +kernel
theorem fresh_eq6 (t : Fin cfg0.N) : cfg0.fresh 6 t.val = freshTab t.val :=
  Pipeline.Cfg.fresh_tab cfg0 6 freshTab rfl freshTab_step6 t.val (Nat.le_of_lt t.isLt)
theorem notFresh6 : ∀ t : Fin cfg0.N, 0 < t.val → cfg0.fresh 6 t.val = false := by
  intro t; rw [fresh_eq6 t]; revert t; decide +kernel
theorem hcarry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [live 6 t] at hi
  exact absurd hi Bool.false_ne_true
theorem before0_6 (c : Dev nD) (t : Fin cfg0.N) (h : 0 < t.val) (d) :
    (dats m 0 c).before 6 t d = rowL m c (t.val - 1) (Nat.lt_of_le_of_lt (Nat.sub_le _ _) t.isLt) := by
  rw [Dat.before_out_traj _ 6 rfl (fun _ _ => rfl) (hcarry6 m c) t.val t rfl d,
    if_neg (by rw [notFresh6 t h]; exact Bool.false_ne_true)]
  dsimp only [dats]

theorem bk_val (k : ℕ) (h : k < 20) : (Ring.bk 20 k).val = k := by
  unfold Ring.bk; exact Nat.mod_eq_of_lt h

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem kept_free (c : Dev nD) (W : HbBuf0 (F := F) c hbM0_1) (s : Fin 2) (b : Fin 20) :
    Ring.kept (cellP0_1 c) (slotW0_1 c W) (keptF c) s b = Ring.free (cellP0_1 c) (slotW0_1 c W) s := rfl

/-- What a point leaves, its windows at what they hold. -/
theorem post_eq (c : Dev nD) (t : Fin cfg0.N) : bodyPost m c t = iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)) := by
  unfold bodyPost
  rw [show (dats m 0 c).leavesExact 0 t = _ from by unfold Dat.leavesExact; rw [live 0 t]]
  rw [show (dats m 0 c).leavesExact 1 t = _ from by unfold Dat.leavesExact; rw [live 1 t]]
  rw [show (dats m 0 c).leavesExact 2 t = _ from by unfold Dat.leavesExact; rw [live 2 t]]
  rw [show (dats m 0 c).leavesExact 3 t = _ from by unfold Dat.leavesExact; rw [live 3 t]]
  rw [show (dats m 0 c).leavesExact 4 t = _ from by unfold Dat.leavesExact; rw [live 4 t]]
  rw [show (dats m 0 c).leavesExact 5 t = _ from by unfold Dat.leavesExact; rw [live 5 t]]
  rw [show (dats m 0 c).leavesExact 6 t = _ from by unfold Dat.leavesExact; rw [live 6 t]]

set_option maxHeartbeats 2400000 in
theorem sound_A (c : Dev nD) (t : Fin cfg0.N) (ht : t.val = 0) :
    bodyPre m c t ⊢ wp frame (wpE (defs₀ (F := F)) Variants.none c none) Set.univ (bodyAt0 t) (fun _ => bodyPost m c t) := by
  unfold bodyPre bodyAt0
  simp only [before0_0, before0_1, before0_2]
  rw [post_eq, after0_0, after0_1, after0_2, after0_3, after0_4, after0_5, after0_6]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  have hN : t.val < 20 := lt_of_lt_of_eq t.isLt (show cfg0.N = 20 from N_0)
  have hK : t.val = 0 := ht
  rw [if_pos hK, if_neg (show ¬t.val + 1 = 0 by omega), if_pos hK, if_neg (show ¬t.val + 1 = 0 by omega)]
  rw [Ring.At₀_eq3' _ _ _ t.val hK (by decide : 3 ≤ 20), Ring.At3_one' _ _ _ _ t.val hK (by decide : 3 ≤ 20)]
  rw [Ring.At₀_eq2' _ _ _ t.val hK (by decide : 2 ≤ 20), Ring.AtK2_one' _ _ _ _ _ t.val hK (by decide : 1 < 20)]
  rw [inflight_long c _ _ _ (show (Ring.bk 20 (t.val + 1)).val % 10 ≠ 0 by rw [bk_val _ (by omega)]; omega)]
  simp only [kept_free]
  rw [rowG_zero m c t ht, rowL_zero m c t ht]
  iintro ⟨⟨Hg, ⟨-, Hfr0_0_0, Hfr0_0_1, Hfr0_0_2⟩, ⟨-, Hfr0_1_0, Hfr0_1_1⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((run_A c t _ _ _ _ _ _ _ _ _ _ _ _ _ _ ht (iblk m c 0 t) (iblk m c 1 t) (iblk m c 2 t) (V m c main_arg0) (V m c main_arg4)) W _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [Hfr0_0_0]; · iexact Hfr0_0_0
  isplitl [Hfr0_0_1]; · iexact Hfr0_0_1
  isplitl [Hfr0_0_2]; · iexact Hfr0_0_2
  isplitl [Hfr0_1_0]; · iexact Hfr0_1_0
  isplitl [Hfr0_1_1]; · iexact Hfr0_1_1
  isplitl [HW]; · iexact HW
  iintro ⟨H0, H1, H2, H3, H4, H5, H6, Hfa0_0', Hfb0_0', Hfc0_0', Hfl0_1', Hkp0_1', ⟨%W', HW'⟩⟩
  isplitl [Hg Hfa0_0' Hfb0_0' Hfc0_0' Hfl0_1' Hkp0_1']
  · isplitl [Hg]; · iexact Hg
    isplitl [Hfa0_0' Hfb0_0' Hfc0_0']
    · iapply (Ring.with_homes (Idealize.SL.BI.Entails.refl _))
      isplitl [Hfa0_0']; · iexact Hfa0_0'
      isplitl [Hfb0_0']; · iexact Hfb0_0'
      iexact Hfc0_0'
    iapply Ring.with_homes₀
    isplitl [Hfl0_1']; · iexact Hfl0_1'
    iexact Hkp0_1'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 2400000 in
theorem sound_mid (c : Dev nD) (t : Fin cfg0.N) (hp : 0 < t.val) (hl : t.val < 19) :
    bodyPre m c t ⊢ wp frame (wpE (defs₀ (F := F)) Variants.none c none) Set.univ (bodyAt0 t) (fun _ => bodyPost m c t) := by
  unfold bodyPre bodyAt0
  simp only [before0_0, before0_1, before0_2]
  rw [post_eq, after0_0, after0_1, after0_2, after0_3, after0_4, after0_5, after0_6]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  have hN : t.val < 20 := lt_of_lt_of_eq t.isLt (show cfg0.N = 20 from N_0)
  rw [if_neg (show ¬t.val = 0 by omega), if_neg (show ¬t.val + 1 = 0 by omega), if_neg (show ¬t.val = 0 by omega), if_neg (show ¬t.val + 1 = 0 by omega)]
  rw [rowG_succ m c t hp, rowL_succ m c t hp]
  simp only [before0_5 m c t hp, before0_6 m c t hp]
  rw [Ring.AtK2_here _ _ _ _ _ t.val (by omega) (by omega), Ring.AtK2_next _ _ _ _ _ t.val (by omega) (by omega)]
  have hc : (0 < t.val ∧ t.val < 18 ∧ t.val ≠ 9 ∧ t.val ≠ 10) ∨ t.val = 9 ∨ t.val = 10 ∨ t.val = 18 := by omega
  rcases hc with ht | ht | ht | ht
  on_goal 4 =>
    rw [Ring.At3_here_tail _ _ _ _ t.val (by omega), Ring.At3_next_tail _ _ _ _ t.val (by omega) (by omega), Ring.slotAt3_tail_role _ _ _ t.val]
    rw [inflight_long c _ _ _ (show (Ring.bk 20 t.val).val % 10 ≠ 0 by rw [bk_val _ (by omega)]; omega), inflight_long c _ _ _ (show (Ring.bk 20 (t.val + 1)).val % 10 ≠ 0 by rw [bk_val _ (by omega)]; omega)]
    simp only [kept_free]
    iintro ⟨⟨Hg, ⟨-, Hfr0_0_0, Hfr0_0_1, Hfr0_0_2⟩, ⟨-, Hfr0_1_0, Hfr0_1_1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((run_C c t _ _ _ _ _ _ _ _ _ _ _ _ _ _ ht (iblk m c 0 t) (iblk m c 1 t) (iblk m c 2 t) _ _ (V m c main_arg0) (V m c main_arg4)) W _)
  on_goal 3 =>
    rw [Ring.At3_here _ _ _ _ t.val (by omega), Ring.At3_next _ _ _ _ t.val (by omega), Ring.slotAt3_next0 _ _ _ t.val (by omega), Ring.slotAt3_next1 _ _ _ t.val (by omega)]
    rw [inflight_short c _ _ _ (show (Ring.bk 20 t.val).val % 10 = 0 by rw [bk_val _ (by omega)]; omega), inflight_long c _ _ _ (show (Ring.bk 20 (t.val + 1)).val % 10 ≠ 0 by rw [bk_val _ (by omega)]; omega)]
    simp only [kept_free]
    iintro ⟨⟨Hg, ⟨-, Hfr0_0_0, Hfr0_0_1, Hfr0_0_2⟩, ⟨-, Hfr0_1_0, Hfr0_1_1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((run_G c t _ _ _ _ _ _ _ _ _ _ _ _ _ _ ht (iblk m c 0 t) (iblk m c 1 t) (iblk m c 2 t) _ _ (V m c main_arg0) (V m c main_arg4)) W _)
  on_goal 2 =>
    rw [Ring.At3_here _ _ _ _ t.val (by omega), Ring.At3_next _ _ _ _ t.val (by omega), Ring.slotAt3_next0 _ _ _ t.val (by omega), Ring.slotAt3_next1 _ _ _ t.val (by omega)]
    rw [inflight_long c _ _ _ (show (Ring.bk 20 t.val).val % 10 ≠ 0 by rw [bk_val _ (by omega)]; omega), inflight_short c _ _ _ (show (Ring.bk 20 (t.val + 1)).val % 10 = 0 by rw [bk_val _ (by omega)]; omega)]
    simp only [kept_free]
    iintro ⟨⟨Hg, ⟨-, Hfr0_0_0, Hfr0_0_1, Hfr0_0_2⟩, ⟨-, Hfr0_1_0, Hfr0_1_1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((run_E c t _ _ _ _ _ _ _ _ _ _ _ _ _ _ ht (iblk m c 0 t) (iblk m c 1 t) (iblk m c 2 t) _ _ (V m c main_arg0) (V m c main_arg4)) W _)
  on_goal 1 =>
    rw [Ring.At3_here _ _ _ _ t.val (by omega), Ring.At3_next _ _ _ _ t.val (by omega), Ring.slotAt3_next0 _ _ _ t.val (by omega), Ring.slotAt3_next1 _ _ _ t.val (by omega)]
    rw [inflight_long c _ _ _ (show (Ring.bk 20 t.val).val % 10 ≠ 0 by rw [bk_val _ (by omega)]; omega), inflight_long c _ _ _ (show (Ring.bk 20 (t.val + 1)).val % 10 ≠ 0 by rw [bk_val _ (by omega)]; omega)]
    simp only [kept_free]
    iintro ⟨⟨Hg, ⟨-, Hfr0_0_0, Hfr0_0_1, Hfr0_0_2⟩, ⟨-, Hfr0_1_0, Hfr0_1_1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply ((run_B c t _ _ _ _ _ _ _ _ _ _ _ _ _ _ ht (iblk m c 0 t) (iblk m c 1 t) (iblk m c 2 t) _ _ (V m c main_arg0) (V m c main_arg4)) W _)
  all_goals
    isplitl [H0]; · iexact H0
    isplitl [H1]; · iexact H1
    isplitl [H2]; · iexact H2
    isplitl [H3]; · iexists _; iexact H3
    isplitl [H4]; · iexists _; iexact H4
    isplitl [H5]; · iexact H5
    isplitl [H6]; · iexact H6
    isplitl [Hfr0_0_0]; · iexact Hfr0_0_0
    isplitl [Hfr0_0_1]; · iexact Hfr0_0_1
    isplitl [Hfr0_0_2]; · iexact Hfr0_0_2
    isplitl [Hfr0_1_0]; · iexact Hfr0_1_0
    isplitl [Hfr0_1_1]; · iexact Hfr0_1_1
    isplitl [HW]; · iexact HW
    iintro ⟨H0, H1, H2, H3, H4, H5, H6, Hfa0_0', Hfb0_0', Hfc0_0', Hfl0_1', Hkp0_1', ⟨%W', HW'⟩⟩
    isplitl [Hg Hfa0_0' Hfb0_0' Hfc0_0' Hfl0_1' Hkp0_1']
    · isplitl [Hg]; · iexact Hg
      isplitl [Hfa0_0' Hfb0_0' Hfc0_0']
      · iapply (Ring.with_homes (Idealize.SL.BI.Entails.refl _))
        isplitl [Hfa0_0']; · iexact Hfa0_0'
        isplitl [Hfb0_0']; · iexact Hfb0_0'
        iexact Hfc0_0'
      iapply (Ring.with_homes (Idealize.SL.BI.Entails.refl _))
      isplitl [Hfl0_1']; · iexact Hfl0_1'
      iexact Hkp0_1'
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

set_option maxHeartbeats 2400000 in
theorem sound_D (c : Dev nD) (t : Fin cfg0.N) (ht : t.val = 19) :
    bodyPre m c t ⊢ wp frame (wpE (defs₀ (F := F)) Variants.none c none) Set.univ (bodyAt0 t) (fun _ => bodyPost m c t) := by
  unfold bodyPre bodyAt0
  simp only [before0_0, before0_1, before0_2]
  rw [post_eq, after0_0, after0_1, after0_2, after0_3, after0_4, after0_5, after0_6]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  have hN : t.val < 20 := lt_of_lt_of_eq t.isLt (show cfg0.N = 20 from N_0)
  rw [if_neg (show ¬t.val = 0 by omega), if_neg (show ¬t.val + 1 = 0 by omega), if_neg (show ¬t.val = 0 by omega), if_neg (show ¬t.val + 1 = 0 by omega)]
  rw [Ring.At3_here_tail _ _ _ _ t.val (by omega), Ring.At3_next_tail _ _ _ _ t.val (by omega) (by omega), Ring.slotAt3_tail_role _ _ _ t.val]
  rw [Ring.AtK2_here_last _ _ _ _ _ t.val (by omega) (by omega), Ring.AtK2_next_last _ _ _ _ _ t.val (by omega) (by omega)]
  rw [inflight_long c _ _ _ (show (Ring.bk 20 t.val).val % 10 ≠ 0 by rw [bk_val _ (by omega)]; omega)]
  simp only [kept_free]
  have hp : 0 < t.val := by omega
  rw [rowG_succ m c t hp, rowL_succ m c t hp]
  simp only [before0_5 m c t hp, before0_6 m c t hp]
  iintro ⟨⟨Hg, ⟨-, Hfr0_0_0, Hfr0_0_1, Hfr0_0_2⟩, ⟨-, Hfr0_1_0, Hfr0_1_1⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((run_D c t _ _ _ _ _ _ _ _ _ _ _ _ _ _ ht (iblk m c 0 t) (iblk m c 1 t) (iblk m c 2 t) _ _ (V m c main_arg0) (V m c main_arg4)) W _)
  isplitl [H0]; · iexact H0
  isplitl [H1]; · iexact H1
  isplitl [H2]; · iexact H2
  isplitl [H3]; · iexists _; iexact H3
  isplitl [H4]; · iexists _; iexact H4
  isplitl [H5]; · iexact H5
  isplitl [H6]; · iexact H6
  isplitl [Hfr0_0_0]; · iexact Hfr0_0_0
  isplitl [Hfr0_0_1]; · iexact Hfr0_0_1
  isplitl [Hfr0_0_2]; · iexact Hfr0_0_2
  isplitl [Hfr0_1_0]; · iexact Hfr0_1_0
  isplitl [HW]; · iexact HW
  iintro ⟨H0, H1, H2, H3, H4, H5, H6, Hfa0_0', Hfb0_0', Hfc0_0', Hkp0_1', ⟨%W', HW'⟩⟩
  isplitl [Hg Hfa0_0' Hfb0_0' Hfc0_0' Hfr0_1_1 Hkp0_1']
  · isplitl [Hg]; · iexact Hg
    isplitl [Hfa0_0' Hfb0_0' Hfc0_0']
    · iapply (Ring.with_homes (Idealize.SL.BI.Entails.refl _))
      isplitl [Hfa0_0']; · iexact Hfa0_0'
      isplitl [Hfb0_0']; · iexact Hfb0_0'
      iexact Hfc0_0'
    iapply (Ring.with_homes (Idealize.SL.BI.Entails.refl _))
    isplitl [Hfr0_1_1]; · iexact Hfr0_1_1
    iexact Hkp0_1'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  by_cases h0 : t.val = 0
  · exact sound_A m c t h0
  by_cases h19 : t.val = 19
  · exact sound_D m c t h19
  exact sound_mid m c t (by omega) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_1, HR0_0⟩, Hg, ⟨Hq0, Hq1, Hq2, Hq3, Hq4⟩, ⟨Hh0, Hh1⟩⟩
  isplitl [Hg]; · iexact Hg
  isplitl [HR0_0 Hq2 Hq3 Hq4 Hh0]
  · iapply (ring0_0_in (F := F) m c)
    isplitl [HR0_0]; · iexact HR0_0
    isplitl [Hq2 Hq3 Hq4]
    · isplitl [Hq2]; · iexact Hq2
      isplitl [Hq3]; · iexact Hq3
      iexact Hq4
    iexact Hh0
  iapply (ring0_1_in (F := F) m c)
  isplitl [HR0_1]; · iexact HR0_1
  isplitl [Hq0 Hq1]
  · isplitl [Hq0]; · iexact Hq0
    iexact Hq1
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 20 by rw [N_0]]
  iintro ⟨Hg, HR0_0, HR0_1⟩
  ihave HX0_0 := (ring0_0_out (F := F) m c) $$ HR0_0
  icases HX0_0 with ⟨HR0_0, ⟨Hq2, Hq3, Hq4⟩, Hh0⟩
  ihave HX0_1 := (ring0_1_out (F := F) m c) $$ HR0_1
  icases HX0_1 with ⟨HR0_1, ⟨Hq0, Hq1⟩, Hh1⟩
  isplitl [HR0_1 HR0_0]
  · isplitl [HR0_1]; · iexact HR0_1
    iexact HR0_0
  isplitl [Hg]
  · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  isplitl [Hh0]; · iexact Hh0
  iexact Hh1

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.MlpDownLoss
-- ==== Proof.MlpDownLoss.lean ====
/- The second half of the MLP with the loss: the stream's last rows, their normalisation against the targets, the loss, and its
gradients with respect to the stream and to the gain. -/
module

public import proofs.«01_k».proof.Defs
public import proofs.«01_k».proof.Proof.Gen.Kernel8.Frame
public import proofs.«01_k».proof.Proof.Gen.Reference8Ideal.Run
public import proofs.«01_k».proof.Proof.MlpDownLoss.Frame
public import proofs.«01_k».proof.Proof.NormGrad
public import Idealize.ShloMosaic.Lib.StableHlo.ReadAt

@[expose] public section

set_option maxRecDepth 16384

noncomputable section

namespace Cert.MlpDownLoss

open Idealize.ShloMosaic Idealize.ShloMosaic.TcCoe Idealize.SL Idealize.SL.Sem

section
variable [Cert.Kernel8.Facts] [Cert.Kernel8Ideal.Facts]

/-- The two programs' bodies are one text. -/
theorem defs₀_eq : Cert.Kernel8.defs₀ (F := Bits) = Cert.Kernel8Ideal.defs₀ := by
  unfold Cert.Kernel8.defs₀ Cert.Kernel8Ideal.defs₀
  congr 1
  funext l x
  match l, x with
  | 0, _ => rfl
  | ⟨_ + 1, h⟩, _ => exact absurd h (Nat.not_lt.2 (Nat.le_add_left _ _))

theorem defs_eq : Cert.Kernel8.defs (F := Bits) = Cert.Kernel8Ideal.defs :=
  congrArg (Pipeline.defs Cert.Kernel8Ideal.pcfgs) defs₀_eq

end

theorem frame_kernel : Cert.quiescent_Kernel8 := fun m ρ _ => by
  rw [defs_eq]
  exact frame (F := Bits) m ρ

theorem frame_ideal : Cert.quiescent_Kernel8Ideal := fun m ρ _ => frame m ρ

section
open Cert.Kernel8Ideal Cert.Kernel8Ideal.Gen
open Cert.NormGrad (dx rr len)

variable (m : (ℓ : Loc nD τ sig) → Buf (Elt Ideal) ℓ) (c : Dev nD)

/-- A row against a column. -/
def dot (f g : Fin 4096 → EReal) : EReal := ∑ k : Fin 4096, f k * g k

/-- The weight of an error. -/
def wt : EReal := Ideal.ofBits .f32 0x3A800000#32

/-- One half. -/
def half : EReal := Ideal.ofBits .f32 0x3F000000#32

/-- The stream after the last layer, at row `i` and column `j`. -/
def X (a : S8320x4096.Idx → EReal) (w : S4096x1024.Idx → EReal) (x : S8320x1024.Idx → EReal) (i : Fin 8320) (j : Fin 1024) : EReal :=
  x (ix2 i j) + dot (fun k => a (ix2 i k)) (fun k => w (ix2 k j))

/-- A row's errors against the targets; the first 64 rows of each sequence are not counted. -/
def E (u : Fin 8320 → Fin 1024 → EReal) (g : S1x1024.Idx → EReal) (t : S2x4096x1024.Idx → EReal) (i : Fin 8320) (j : Fin 1024) : EReal :=
  if h : 64 ≤ i.val % 4160 then
    u i j * rr (u i) * g (ix2 0 j) - t (ix3 (⟨i.val / 4160, by omega⟩ : Fin 2) (⟨i.val % 4160 - 64, by omega⟩ : Fin 4096) j)
  else 0

/-- The gradient of the stream. -/
def Gx (u : Fin 8320 → Fin 1024 → EReal) (g : S1x1024.Idx → EReal) (t : S2x4096x1024.Idx → EReal) : S8320x1024.Idx → EReal := fun y =>
  dx (u (y 0)) (fun k => E u g t (y 0) k * wt * g (ix2 0 k)) (y 1)

/-- One row's share of the gain's gradient. -/
def Pg (u : Fin 8320 → Fin 1024 → EReal) (g : S1x1024.Idx → EReal) (t : S2x4096x1024.Idx → EReal) (j : Fin 1024) (i : Fin 8320) : EReal :=
  E u g t i j * wt * (u i j * rr (u i))

/-- One row's mean square error. -/
def Pl (u : Fin 8320 → Fin 1024 → EReal) (g : S1x1024.Idx → EReal) (t : S2x4096x1024.Idx → EReal) (i : Fin 8320) : EReal :=
  Ideal.div (∑ j : Fin 1024, E u g t i j * E u g t i j) len

/-- The gradient of the gain. -/
def Gg (u : Fin 8320 → Fin 1024 → EReal) (g : S1x1024.Idx → EReal) (t : S2x4096x1024.Idx → EReal) : S1x1024.Idx → EReal := fun y =>
  ∑ i : Fin 8320, Pg u g t (y 1) i

/-- The loss, in the first of 128 lanes. -/
def Gl (u : Fin 8320 → Fin 1024 → EReal) (g : S1x1024.Idx → EReal) (t : S2x4096x1024.Idx → EReal) : S1x128.Idx → EReal := fun y =>
  if (y 1).val = 0 then half * ∑ i : Fin 8320, Pl u g t i else 0

theorem pay5_apply (x : Vec Ideal S416x1024 .f32) (s : Vec Ideal S1x416x4096 .bf16) (w : Vec Ideal S4096x1024 .bf16) (i : Fin 416) (j : Fin 1024) :
    k0_pay5 x s w (ix2 i j) = x (ix2 i j) + dot (fun k => s (ix3 0 i k)) (fun k => w (ix2 k j)) := by
  unfold dot
  pointwise [k0_pay5]

theorem pay7_apply (v : FVec Ideal S416x1024 .f32) (i : Fin 416) : k0_pay7 (mulf v v) (ix2 i 0) = rr (fun k => v (ix2 i k)) := by
  unfold NormGrad.rr NormGrad.ms NormGrad.len NormGrad.eps
  pointwise [k0_pay7]

theorem pay8_apply (v : FVec Ideal S416x1024 .f32) (i : Fin 416) (j : Fin 1024) :
    k0_pay8 v (mulf v v) (ix2 i j) = v (ix2 i j) * rr (fun k => v (ix2 i k)) := by
  rw [← pay7_apply]
  pointwise [k0_pay8]

/-- Whether the body counts a row of a block. -/
def counted (a : BitVec 32) (i : Fin 416) : BitVec 1 :=
  Scalar.cmpi .sge (Scalar.addi (Scalar.muli (Scalar.select (Scalar.andi (Scalar.xori (Scalar.cmpi .slt (Scalar.remsi a (Scalar.select (Scalar.cmpi .eq 10#32 0#32) 1#32 10#32)) 0#32) (Scalar.cmpi .slt (Scalar.select (Scalar.cmpi .eq 10#32 0#32) 1#32 10#32) 0#32)) (Scalar.cmpi .ne (Scalar.remsi a (Scalar.select (Scalar.cmpi .eq 10#32 0#32) 1#32 10#32)) 0#32)) (Scalar.addi (Scalar.remsi a (Scalar.select (Scalar.cmpi .eq 10#32 0#32) 1#32 10#32)) (Scalar.select (Scalar.cmpi .eq 10#32 0#32) 1#32 10#32)) (Scalar.remsi a (Scalar.select (Scalar.cmpi .eq 10#32 0#32) 1#32 10#32))) 416#32) (BitVec.ofNat 32 i.val)) 64#32

theorem pay9_apply (a : BitVec 32) (v : FVec Ideal S416x1024 .f32) (g : Vec Ideal S1x1024 .f32) (q : FVec Ideal S416x1024 .f32) (T : Vec Ideal S1x416x1024 .f32)
    (i : Fin 416) (j : Fin 1024) :
    k0_pay9 a v g q T (ix2 i j)
      = Scalar.select (counted a i) (k0_pay8 v q (ix2 i j) * g (ix2 0 j) - T (ix3 0 i j)) (0 : EReal) := by
  unfold counted
  pointwise [k0_pay9]
  rfl

theorem pay10_apply (a : BitVec 32) (v : FVec Ideal S416x1024 .f32) (g : Vec Ideal S1x1024 .f32) (q : FVec Ideal S416x1024 .f32) (T : Vec Ideal S1x416x1024 .f32)
    (i : Fin 416) (j : Fin 1024) : k0_pay10 a v g q T (ix2 i j) = k0_pay9 a v g q T (ix2 i j) * wt := by
  unfold wt
  pointwise [k0_pay10]

theorem pay11_apply (a : BitVec 32) (v : FVec Ideal S416x1024 .f32) (g : Vec Ideal S1x1024 .f32) (q : FVec Ideal S416x1024 .f32) (T : Vec Ideal S1x416x1024 .f32)
    (i : Fin 416) (j : Fin 1024) : k0_pay11 a v g q T (ix2 i j) = k0_pay10 a v g q T (ix2 i j) * g (ix2 0 j) := by
  pointwise [k0_pay11]

theorem pay1_apply (r : FVec Ideal S416x1 .f32) (n d : FVec Ideal S416x1024 .f32) (s : FVec Ideal S416x1 .f32) (i : Fin 416) (j : Fin 1024) :
    k0_pay1 r n d s (ix2 i j) = r (ix2 i 0) * (d (ix2 i j) - n (ix2 i j) * s (ix2 i 0)) := by
  pointwise [k0_pay1]

theorem pay2_apply (r : FVec Ideal S416x1 .f32) (n d : FVec Ideal S416x1024 .f32) (s : FVec Ideal S416x1 .f32) (i : Fin 416) (j : Fin 1024) :
    k0_pay2 r n d s (ix2 i j) = r (ix2 i 0) * (d (ix2 i j) - n (ix2 i j) * s (ix2 i 0)) := by
  pointwise [k0_pay2, k0_pay1]

theorem pay16_apply (a : BitVec 32) (v : FVec Ideal S416x1024 .f32) (g : Vec Ideal S1x1024 .f32) (q : FVec Ideal S416x1024 .f32) (T : Vec Ideal S1x416x1024 .f32)
    (i : Fin 416) : k0_pay16 a v g q T (ix2 i 0) = ∑ k : Fin 1024, k0_pay8 v q (ix2 i k) * k0_pay11 a v g q T (ix2 i k) := by
  pointwise [k0_pay16]

theorem pay17_apply (s : FVec Ideal S416x1 .f32) (i : Fin 416) : k0_pay17 s (ix2 i 0) = Ideal.div (s (ix2 i 0)) len := by
  unfold NormGrad.len
  pointwise [k0_pay17]

theorem pay3_apply (n e : FVec Ideal S416x1024 .f32) (j : Fin 1024) : k0_pay3 n e (ix2 0 j) = ∑ i : Fin 416, e (ix2 i j) * n (ix2 i j) := by
  pointwise [k0_pay3]

theorem lane_eq (j : Fin 128) : IntOp.cmpi .eq (BitVec.ofNat 32 j.val) 0#32 = if j.val = 0 then 1#1 else 0#1 := by
  revert j; decide +kernel

theorem pay4_apply (e : FVec Ideal S416x1024 .f32) (j : Fin 128) :
    k0_pay4 e (ix2 0 j) = if j.val = 0 then half * ∑ i : Fin 416, Ideal.div (∑ k : Fin 1024, e (ix2 i k) * e (ix2 i k)) len else 0 := by
  unfold half NormGrad.len
  pointwise [k0_pay4]
  rw [lane_eq]
  split <;> rfl

theorem pay14_apply (a b : FVec Ideal S1x1024 .f32) (y : S1x1024.Idx) : k0_pay14 a b y = a y + b y := by
  obtain ⟨i, j, rfl⟩ : ∃ (i : Fin 1) (j : Fin 1024), y = ix2 i j := ⟨y 0, y 1, eq_ix2 y⟩
  obtain rfl : i = 0 := Subsingleton.elim _ _
  pointwise [k0_pay14]

theorem pay15_apply (a b : FVec Ideal S1x128 .f32) (y : S1x128.Idx) : k0_pay15 a b y = a y + b y := by
  obtain ⟨i, j, rfl⟩ : ∃ (i : Fin 1) (j : Fin 128), y = ix2 i j := ⟨y 0, y 1, eq_ix2 y⟩
  obtain rfl : i = 0 := Subsingleton.elim _ _
  pointwise [k0_pay15]

theorem lt_points (t : Fin cfg0.N) : t.val < 20 := lt_of_lt_of_eq t.isLt N_0

theorem counted_eq (t : Fin cfg0.N) (i : Fin 416) : counted (pid t) i = 1#1 ↔ 64 ≤ t.val % 10 * 416 + i.val := by
  revert t i
  exact (by decide +kernel : ∀ (t : Fin grid0.N) (i : Fin 416), counted (BitVec.ofNat 32 (grid0.coords t 0).val) i = 1#1 ↔ 64 ≤ t.val % 10 * 416 + i.val)

theorem counted_eq' (t : Fin cfg0.N) (i : Fin 416) (h : ¬ 64 ≤ t.val % 10 * 416 + i.val) : counted (pid t) i = 0#1 := by
  have h1 : counted (pid t) i ≠ 1#1 := fun e => h ((counted_eq t i).mp e)
  revert h1; generalize counted (pid t) i = z; revert z; decide

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem last5 : ∀ t : Fin cfg0.N, (cfg0.win 5).flush t = true → t.val % 20 = 19 :=
  (by decide +kernel : ∀ t : Fin grid0.N, _)
theorem last6 : ∀ t : Fin cfg0.N, (cfg0.win 6).flush t = true → t.val % 20 = 19 :=
  (by decide +kernel : ∀ t : Fin grid0.N, _)

/-- The row of the array that is row `i` of block `t`. -/
def rowAt (t : Fin cfg0.N) (i : Fin 416) : Fin 8320 := ⟨t.val * 416 + i.val, by have := lt_points t; omega⟩

theorem blk0 (t : Fin cfg0.N) (j : Fin 4096) (k : Fin 1024) :
    iblk m c 0 t (ix2 j k) = m ((c : Thread nD τ).loc main_arg1) (ix2 j k) := by
  rw [← V_main_arg1 m c]
  blk_simp [iblk]
  congr 1
  blk_ext [idx0]

theorem blk1 (t : Fin cfg0.N) (i : Fin 416) (k : Fin 1024) :
    iblk m c 1 t (ix2 i k) = m ((c : Thread nD τ).loc main_arg2) (ix2 (rowAt t i) k) := by
  rw [← V_main_arg2 m c]
  blk_simp [iblk]
  congr 1
  blk_ext [idx1, rowAt]

theorem blk2 (t : Fin cfg0.N) (i : Fin 1) (k : Fin 1024) :
    iblk m c 2 t (ix2 i k) = m ((c : Thread nD τ).loc main_arg3) (ix2 i k) := by
  rw [← V_main_arg3 m c]
  blk_simp [iblk]
  congr 1
  blk_ext [idx2]

theorem src_emb (b : Fin 20) (i : Fin 416) (k : Fin 4096) :
    (srcB0_0 b).view.emb (ix2 i k) = ix2 (⟨b.val * 416 + i.val, by omega⟩ : Fin 8320) k := by
  refine funext fun a => Fin.ext ?_
  fin_cases a
  · show 416 * b.val + 1 * i.val = b.val * 416 + i.val
    omega
  · show 0 + 1 * k.val = k.val
    omega

theorem bk_eq (t : Fin cfg0.N) : Ring.bk 20 t.val = (⟨t.val, lt_points t⟩ : Fin 20) := Fin.ext (Nat.mod_eq_of_lt (lt_points t))

theorem slab_apply (t : Fin cfg0.N) (i : Fin 416) (k : Fin 4096) :
    slab c (V m c main_arg0) (Ring.bk 20 t.val) (ix3 0 i k) = m ((c : Thread nD τ).loc main_arg0) (ix2 (rowAt t i) k) := by
  rw [← V_main_arg0 m c, bk_eq]
  show V m c main_arg0 ((srcB0_0 ⟨t.val, lt_points t⟩).view.emb (ix2 i k)) = _
  rw [src_emb]
  rfl

/-- A later block's target rows. -/
theorem read_long (W : HbBuf0 (F := Ideal) c hbM0_1) (b : Fin 20) (i : Fin 416) (j : Fin 1024) :
    (srcB0_1 b).view.read (Elt Ideal) W (ix2 i j)
      = W (ix3 (⟨b.val / 10, by omega⟩ : Fin 2) (⟨416 * (b.val % 10) - 64 + i.val, by omega⟩ : Fin 4096) j) := by
  have hc : S1x416x1024.ShapeCasts S416x1024 := by decide
  have k3 := Memref.read_squeeze_slice hbM0_1 (Rect.unit (s := S2x4096x1024) ![b.val / 10, 416 * (b.val % 10) - 64, 0] S1x416x1024.size (inb_srcL b)) (fun _ => rfl) squeezes_S1x416x1024_S416x1024 hc W
  refine (congrFun k3 (ix2 i j)).trans ((cast_apply1 _ hc i j).trans ?_)
  show W _ = W _
  refine congrArg W (Shape.idx3_ext ?_ ?_ ?_) <;> simp [LoadRect.idx, Rect.unit, ix3]

/-- A sequence's first block's target rows. -/
theorem read_first (W : HbBuf0 (F := Ideal) c hbM0_1) (b : Fin 20) (i : Fin 352) (j : Fin 1024) :
    (srcS b).view.read (Elt Ideal) W (ix2 i j)
      = W (ix3 (⟨b.val / 10, by omega⟩ : Fin 2) (⟨i.val, by omega⟩ : Fin 4096) j) := by
  have hc : S1x352x1024.ShapeCasts S352x1024 := by decide
  have k3 := Memref.read_squeeze_slice hbM0_1 (Rect.unit (s := S2x4096x1024) ![b.val / 10, 0, 0] S1x352x1024.size (inb_srcS b)) (fun _ => rfl) squeezes_S1x352x1024_S352x1024 hc W
  refine (congrFun k3 (ix2 i j)).trans ((cast_apply2 _ hc i j).trans ?_)
  show W _ = W _
  refine congrArg W (Shape.idx3_ext ?_ ?_ ?_) <;> simp [LoadRect.idx, Rect.unit, ix3]

theorem row_mod (t : Fin cfg0.N) (i : Fin 416) : (rowAt t i).val % 4160 = t.val % 10 * 416 + i.val := by
  show (t.val * 416 + i.val) % 4160 = _
  have := i.isLt
  omega

theorem row_div (t : Fin cfg0.N) (i : Fin 416) : (rowAt t i).val / 4160 = t.val / 10 := by
  show (t.val * 416 + i.val) / 4160 = _
  have := i.isLt
  omega

/-- A counted row's targets. -/
theorem tslab_apply (t : Fin cfg0.N) (i : Fin 416) (j : Fin 1024) (h : 64 ≤ (rowAt t i).val % 4160) :
    tslab c (V m c main_arg4) (Ring.bk 20 t.val) (ix3 0 i j)
      = m ((c : Thread nD τ).loc main_arg4) (ix3 (⟨(rowAt t i).val / 4160, by omega⟩ : Fin 2) (⟨(rowAt t i).val % 4160 - 64, by omega⟩ : Fin 4096) j) := by
  rw [← V_main_arg4 m c, bk_eq]
  have hd := row_div t i
  have hm := row_mod t i
  rw [hm] at h
  unfold tslab
  by_cases hb : t.val % 10 = 0
  · rw [if_pos hb, dif_neg (show ¬ ((ix3 0 i j : S1x416x1024.Idx) 1).val < 64 from by show ¬ i.val < 64; omega)]
    refine (read_first c _ _ _ _).trans (congrArg (V m c main_arg4) (Shape.idx3_ext ?_ ?_ rfl))
    · exact hd.symm
    · show i.val - 64 = (rowAt t i).val % 4160 - 64
      omega
  · rw [if_neg hb]
    refine (read_long c _ _ _ _).trans (congrArg (V m c main_arg4) (Shape.idx3_ext ?_ ?_ rfl))
    · exact hd.symm
    · show 416 * (t.val % 10) - 64 + i.val = (rowAt t i).val % 4160 - 64
      omega

theorem emb3 (t : Fin cfg0.N) (i : Fin 416) (j : Fin 1024) : (win0_3.blk t).view.emb (ix2 i j) = ix2 (rowAt t i) j := by
  blk_ext [idx3, rowAt]

theorem emb4 (t : Fin cfg0.N) (i : Fin 416) (j : Fin 1024) : (win0_4.blk t).view.emb (ix2 i j) = ix2 (rowAt t i) j := by
  blk_ext [idx4, rowAt]

theorem emb5 (t : Fin cfg0.N) (i : Fin 1) (j : Fin 1024) : (win0_5.blk t).view.emb (ix2 i j) = ix2 i j := by
  blk_ext [idx5]

theorem emb6 (t : Fin cfg0.N) (i : Fin 1) (j : Fin 128) : (win0_6.blk t).view.emb (ix2 i j) = ix2 i j := by
  blk_ext [idx6]

/-- The stream after the last layer, of the arrays in memory. -/
def U : Fin 8320 → Fin 1024 → EReal :=
  X (m ((c : Thread nD τ).loc main_arg0)) (m ((c : Thread nD τ).loc main_arg1)) (m ((c : Thread nD τ).loc main_arg2))

/-- One point's rows of the stream, as the body computes them. -/
abbrev vB (t : Fin cfg0.N) : FVec Ideal S416x1024 .f32 :=
  k0_pay5 (iblk m c 1 t) (slab c (V m c main_arg0) (Ring.bk 20 t.val)) (iblk m c 0 t)

/-- One point's target rows. -/
abbrev tB (t : Fin cfg0.N) : Vec Ideal S1x416x1024 .f32 := tslab c (V m c main_arg4) (Ring.bk 20 t.val)

theorem v_blk (t : Fin cfg0.N) (i : Fin 416) (j : Fin 1024) : vB m c t (ix2 i j) = U m c (rowAt t i) j := by
  refine (pay5_apply _ _ _ i j).trans ?_
  simp only [slab_apply, blk0, blk1]
  rfl

theorem n_blk (t : Fin cfg0.N) (i : Fin 416) (j : Fin 1024) :
    k0_pay8 (vB m c t) (mulf (vB m c t) (vB m c t)) (ix2 i j) = U m c (rowAt t i) j * rr (U m c (rowAt t i)) := by
  refine (pay8_apply _ i j).trans ?_
  simp only [v_blk]

theorem r_blk (t : Fin cfg0.N) (i : Fin 416) :
    k0_pay7 (mulf (vB m c t) (vB m c t)) (ix2 i 0) = rr (U m c (rowAt t i)) := by
  refine (pay7_apply _ i).trans ?_
  simp only [v_blk]

theorem e_blk (t : Fin cfg0.N) (i : Fin 416) (j : Fin 1024) :
    k0_pay9 (pid t) (vB m c t) (iblk m c 2 t) (mulf (vB m c t) (vB m c t)) (tB m c t) (ix2 i j)
      = E (U m c) (m ((c : Thread nD τ).loc main_arg3)) (m ((c : Thread nD τ).loc main_arg4)) (rowAt t i) j := by
  refine (pay9_apply _ _ _ _ _ i j).trans ?_
  unfold E
  by_cases h : 64 ≤ (rowAt t i).val % 4160
  · rw [dif_pos h, (counted_eq t i).mpr (row_mod t i ▸ h), n_blk, blk2]
    exact congrArg (fun z : EReal => U m c (rowAt t i) j * rr (U m c (rowAt t i)) * m ((c : Thread nD τ).loc main_arg3) (ix2 0 j) - z) (tslab_apply m c t i j h)
  · rw [dif_neg h, counted_eq' t i (row_mod t i ▸ h)]
    rfl

theorem w_blk (t : Fin cfg0.N) (i : Fin 416) (j : Fin 1024) :
    k0_pay10 (pid t) (vB m c t) (iblk m c 2 t) (mulf (vB m c t) (vB m c t)) (tB m c t) (ix2 i j)
      = E (U m c) (m ((c : Thread nD τ).loc main_arg3)) (m ((c : Thread nD τ).loc main_arg4)) (rowAt t i) j * wt := by
  refine (pay10_apply _ _ _ _ _ i j).trans ?_
  rw [e_blk]

theorem d_blk (t : Fin cfg0.N) (i : Fin 416) (j : Fin 1024) :
    k0_pay11 (pid t) (vB m c t) (iblk m c 2 t) (mulf (vB m c t) (vB m c t)) (tB m c t) (ix2 i j)
      = E (U m c) (m ((c : Thread nD τ).loc main_arg3)) (m ((c : Thread nD τ).loc main_arg4)) (rowAt t i) j * wt
          * m ((c : Thread nD τ).loc main_arg3) (ix2 0 j) := by
  refine (pay11_apply _ _ _ _ _ i j).trans ?_
  rw [w_blk, blk2]

theorem s_blk (t : Fin cfg0.N) (i : Fin 416) :
    k0_pay17 (k0_pay16 (pid t) (vB m c t) (iblk m c 2 t) (mulf (vB m c t) (vB m c t)) (tB m c t)) (ix2 i 0)
      = Ideal.div (∑ k : Fin 1024, U m c (rowAt t i) k * rr (U m c (rowAt t i))
          * (E (U m c) (m ((c : Thread nD τ).loc main_arg3)) (m ((c : Thread nD τ).loc main_arg4)) (rowAt t i) k * wt
            * m ((c : Thread nD τ).loc main_arg3) (ix2 0 k))) len := by
  refine (pay17_apply _ i).trans ?_
  rw [pay16_apply]
  simp only [n_blk, d_blk]

theorem o6_blk (t : Fin cfg0.N) (i : Fin 416) (j : Fin 1024) :
    o6 (pid t) (slab c (V m c main_arg0) (Ring.bk 20 t.val)) (tB m c t) (iblk m c 0 t) (iblk m c 1 t) (iblk m c 2 t) (ix2 i j)
      = Gx (U m c) (m ((c : Thread nD τ).loc main_arg3)) (m ((c : Thread nD τ).loc main_arg4)) (ix2 (rowAt t i) j) := by
  refine (pay1_apply _ _ _ _ i j).trans ?_
  rw [r_blk, d_blk, n_blk, s_blk]
  rfl

theorem o7_blk (t : Fin cfg0.N) (i : Fin 416) (j : Fin 1024) :
    o7 (pid t) (slab c (V m c main_arg0) (Ring.bk 20 t.val)) (tB m c t) (iblk m c 0 t) (iblk m c 1 t) (iblk m c 2 t) (ix2 i j)
      = Gx (U m c) (m ((c : Thread nD τ).loc main_arg3)) (m ((c : Thread nD τ).loc main_arg4)) (ix2 (rowAt t i) j) := by
  refine (pay2_apply _ _ _ _ i j).trans ?_
  rw [r_blk, d_blk, n_blk, s_blk]
  rfl

theorem o8_blk (t : Fin cfg0.N) (y : S1x1024.Idx) :
    o8 (pid t) (slab c (V m c main_arg0) (Ring.bk 20 t.val)) (tB m c t) (iblk m c 0 t) (iblk m c 1 t) (iblk m c 2 t) y
      = ∑ i : Fin 416, Pg (U m c) (m ((c : Thread nD τ).loc main_arg3)) (m ((c : Thread nD τ).loc main_arg4)) (y 1) (rowAt t i) := by
  obtain ⟨i, j, rfl⟩ : ∃ (i : Fin 1) (j : Fin 1024), y = ix2 i j := ⟨y 0, y 1, eq_ix2 y⟩
  obtain rfl : i = 0 := Subsingleton.elim _ _
  refine (pay3_apply _ _ j).trans ?_
  simp only [w_blk, n_blk]
  rfl

theorem o9_blk (t : Fin cfg0.N) (y : S1x128.Idx) :
    o9 (pid t) (slab c (V m c main_arg0) (Ring.bk 20 t.val)) (tB m c t) (iblk m c 0 t) (iblk m c 1 t) (iblk m c 2 t) y
      = if (y 1).val = 0 then half * ∑ i : Fin 416, Pl (U m c) (m ((c : Thread nD τ).loc main_arg3)) (m ((c : Thread nD τ).loc main_arg4)) (rowAt t i) else 0 := by
  obtain ⟨i, j, rfl⟩ : ∃ (i : Fin 1) (j : Fin 128), y = ix2 i j := ⟨y 0, y 1, eq_ix2 y⟩
  obtain rfl : i = 0 := Subsingleton.elim _ _
  refine (pay4_apply _ j).trans ?_
  simp only [e_blk]
  rfl

theorem arr3 : (dats m 0 c).arrAt 3 cfg0.N
    = Gx (U m c) (m ((c : Thread nD τ).loc main_arg3)) (m ((c : Thread nD τ).loc main_arg4)) := by
  refine (dats m 0 c).arrAt_eq_of_covers 3 _ (by decide +kernel) fun t hf y => ?_
  blk_simp
  rw [after0_3]
  obtain ⟨i, j, rfl⟩ : ∃ (i : Fin 416) (j : Fin 1024), y = ix2 i j := ⟨y 0, y 1, eq_ix2 y⟩
  rw [emb3]
  exact o6_blk m c t i j

theorem arr4 : (dats m 0 c).arrAt 4 cfg0.N
    = Gx (U m c) (m ((c : Thread nD τ).loc main_arg3)) (m ((c : Thread nD τ).loc main_arg4)) := by
  refine (dats m 0 c).arrAt_eq_of_covers 4 _ (by decide +kernel) fun t hf y => ?_
  blk_simp
  rw [after0_4]
  obtain ⟨i, j, rfl⟩ : ∃ (i : Fin 416) (j : Fin 1024), y = ix2 i j := ⟨y 0, y 1, eq_ix2 y⟩
  rw [emb4]
  exact o7_blk m c t i j

theorem pt_lt (t : Fin cfg0.N) (s : Fin 20) : 20 * (t.val / 20) + s.val < cfg0.N := by
  have h1 := s.isLt
  have h2 := lt_points t
  exact lt_of_lt_of_eq (show 20 * (t.val / 20) + s.val < 20 by omega) N_0.symm

theorem sum_rows (f : Fin 8320 → EReal) (t : Fin cfg0.N) :
    ∑ s : Fin 20, ∑ i : Fin 416, f (rowAt ⟨20 * (t.val / 20) + s.val, pt_lt t s⟩ i) = ∑ i : Fin 8320, f i := by
  refine Fin.sum_mul_add_congr fun s r hl => ?_
  have := lt_points t
  refine congrArg f (Fin.ext ?_)
  show (20 * (t.val / 20) + s.val) * 416 + r.val = s.val * 416 + r.val
  omega

theorem arr5 : (dats m 0 c).arrAt 5 cfg0.N
    = Gg (U m c) (m ((c : Thread nD τ).loc main_arg3)) (m ((c : Thread nD τ).loc main_arg4)) := by
  refine (dats m 0 c).arrAt_eq_of_covers 5 _ (by decide +kernel) fun t hf y => ?_
  blk_simp
  rw [after0_5]
  rw [Pipeline.eq_sum_fin_of_reset_step_apply_of_flush (fun n h => rowG m c n h) 20 (fun _ => 0)
    (fun p y => ∑ i : Fin 416, Pg (U m c) (m ((c : Thread nD τ).loc main_arg3)) (m ((c : Thread nD τ).loc main_arg4)) (y 1) (rowAt p i))
    (fun t h j => by rw [rowG_zero m c t (by have := lt_points t; omega), zero_add, o8_blk])
    (fun t h j => by rw [rowG_succ m c t (by omega), pay14_apply, o8_blk]) t (last5 t hf) y, zero_add]
  obtain ⟨i, j, rfl⟩ : ∃ (i : Fin 1) (j : Fin 1024), y = ix2 i j := ⟨y 0, y 1, eq_ix2 y⟩
  obtain rfl : i = 0 := Subsingleton.elim _ _
  rw [emb5]
  exact sum_rows (fun i => Pg (U m c) (m ((c : Thread nD τ).loc main_arg3)) (m ((c : Thread nD τ).loc main_arg4)) j i) t

theorem half_eq : half = ((1 / 2 : ℝ) : EReal) := by
  unfold half
  simp [Ideal.ofBits, Ideal.ieee, -EReal.coe_mul]; norm_num

theorem half_sum {ι : Type} (s : Finset ι) (f : ι → EReal) : ∑ k ∈ s, half * f k = half * ∑ k ∈ s, f k := by
  rw [half_eq]
  exact NormGrad.mul_sum s _ (by norm_num) f

theorem sum_lane (f : Fin 8320 → EReal) (t : Fin cfg0.N) (j : Fin 128) :
    (∑ s : Fin 20, if j.val = 0 then half * ∑ i : Fin 416, f (rowAt ⟨20 * (t.val / 20) + s.val, pt_lt t s⟩ i) else 0)
      = if j.val = 0 then half * ∑ i : Fin 8320, f i else 0 := by
  by_cases hj : j.val = 0
  · simp only [if_pos hj]
    rw [half_sum, sum_rows]
  · simp only [if_neg hj]
    exact Finset.sum_const_zero

theorem arr6 : (dats m 0 c).arrAt 6 cfg0.N
    = Gl (U m c) (m ((c : Thread nD τ).loc main_arg3)) (m ((c : Thread nD τ).loc main_arg4)) := by
  refine (dats m 0 c).arrAt_eq_of_covers 6 _ (by decide +kernel) fun t hf y => ?_
  blk_simp
  rw [after0_6]
  rw [Pipeline.eq_sum_fin_of_reset_step_apply_of_flush (fun n h => rowL m c n h) 20 (fun _ => 0)
    (fun p y => if (y 1).val = 0 then half * ∑ i : Fin 416, Pl (U m c) (m ((c : Thread nD τ).loc main_arg3)) (m ((c : Thread nD τ).loc main_arg4)) (rowAt p i) else 0)
    (fun t h j => by rw [rowL_zero m c t (by have := lt_points t; omega), zero_add, o9_blk])
    (fun t h j => by rw [rowL_succ m c t (by omega), pay15_apply, o9_blk]) t (last6 t hf) y, zero_add]
  obtain ⟨i, j, rfl⟩ : ∃ (i : Fin 1) (j : Fin 128), y = ix2 i j := ⟨y 0, y 1, eq_ix2 y⟩
  obtain rfl : i = 0 := Subsingleton.elim _ _
  rw [emb6]
  exact sum_lane (fun i => Pl (U m c) (m ((c : Thread nD τ).loc main_arg3)) (m ((c : Thread nD τ).loc main_arg4)) i) t j

end

section
open Cert.Reference8Ideal Cert.Reference8Ideal.Gen
open Cert.NormGrad (dx rr ms len)

/-- The stream after the last layer, a sequence's rows together. -/
def rX (a : FVec Ideal S8320x4096 .bf16) (w : FVec Ideal S4096x1024 .bf16) (x : FVec Ideal S8320x1024 .f32) : FVec Ideal S2x4160x1024 .f32 :=
  shapeCast _ (addf x (Host.dotGeneral dot_S8320x4096_S4096x1024_S8320x1024_1_0_0_1_n_n none (extf .f32 a bitsLt_bf16_f32) (extf .f32 w bitsLt_bf16_f32))) shapeCasts_S8320x1024_S2x4160x1024

/-- Its rows' mean squares. -/
def rQ (v : FVec Ideal S2x4160x1024 .f32) : FVec Ideal S2x4160x1 .f32 :=
  addf (Host.divf (broadcastInDim S2x4160x1 ![0, 1] bcast_S2x4160_S2x4160x1_0_1 (Host.reduceAdd (mulf v v) (constant S_ .f32 0x00000000#32) reducesTo_S2x4160x1024_S2x4160_d2 h_S_)) (broadcastInDim S2x4160x1 ![] bcast_S_S2x4160x1 (constant S_ .f32 0x44800000#32))) (broadcastInDim S2x4160x1 ![] bcast_S_S2x4160x1 (constant S_ .f32 0x358637BD#32))

/-- The reciprocals of their roots. -/
def rS (v : FVec Ideal S2x4160x1024 .f32) : FVec Ideal S2x4160x1 .f32 := Host.rsqrt (rQ v)

/-- The normalised rows. -/
def rN (v : FVec Ideal S2x4160x1024 .f32) : FVec Ideal S2x4160x1024 .f32 :=
  mulf v (broadcastInDim S2x4160x1024 ![0, 1, 2] bcast_S2x4160x1_S2x4160x1024_0_1_2 (rS v))

/-- The gain, along every row. -/
def rG (g : FVec Ideal S1x1024 .f32) : FVec Ideal S2x4160x1024 .f32 :=
  broadcastInDim S2x4160x1024 ![0, 1, 2] bcast_S1x1x1024_S2x4160x1024_0_1_2 (broadcastInDim S1x1x1024 ![2] bcast_S1024_S1x1x1024_2 (shapeCast _ g shapeCasts_S1x1024_S1024))

/-- The counted rows' errors. -/
def rE (v : FVec Ideal S2x4160x1024 .f32) (g : FVec Ideal S1x1024 .f32) (t : FVec Ideal S2x4096x1024 .f32) : FVec Ideal S2x4096x1024 .f32 :=
  subf (extractStridedSlice S2x4096x1024 ![0, 64, 0] (mulf (rN v) (rG g)) slices_S2x4160x1024_S2x4096x1024_0_64_0) t

/-- The gradient of every row of the norm's result. -/
def rW (e : FVec Ideal S2x4096x1024 .f32) : FVec Ideal S2x4160x1024 .f32 :=
  pad S2x4160x1024 ![0, 64, 0] ![0, 0, 0] ![0, 0, 0] (mulf (broadcastInDim S2x4096x1024 ![0, 1] bcast_S2x4096_S2x4096x1024_0_1 (Host.divf (broadcastInDim S2x4096 ![] bcast_S_S2x4096 (mulf (constant S_ .f32 0x3F000000#32) (constant S_ .f32 0x3F800000#32))) (broadcastInDim S2x4096 ![] bcast_S_S2x4096 (constant S_ .f32 0x44800000#32)))) (mulf (broadcastInDim S2x4096x1024 ![] bcast_S_S2x4096x1024 (constant S_ .f32 0x40000000#32)) e)) (constant S_ .f32 0x00000000#32) pads_S2x4096x1024_S2x4160x1024_000_6400_000 h_S_

/-- The gradient of the normalised rows. -/
def rD (v : FVec Ideal S2x4160x1024 .f32) (g : FVec Ideal S1x1024 .f32) (t : FVec Ideal S2x4096x1024 .f32) : FVec Ideal S2x4160x1024 .f32 :=
  mulf (rW (rE v g t)) (rG g)

/-- A sequence's row among all rows. -/
def row (b : Fin 2) (p : Fin 4160) : Fin 8320 := ⟨b.val * 4160 + p.val, by omega⟩

theorem rX_apply (a : FVec Ideal S8320x4096 .bf16) (w : FVec Ideal S4096x1024 .bf16) (x : FVec Ideal S8320x1024 .f32) (b : Fin 2) (p : Fin 4160) (j : Fin 1024) :
    rX a w x (ix3 b p j) = X a w x (row b p) j := by
  unfold X dot row
  pointwise [rX]

theorem rQ_apply (v : FVec Ideal S2x4160x1024 .f32) (b : Fin 2) (p : Fin 4160) : rQ v (ix3 b p 0) = ms (fun k => v (ix3 b p k)) := by
  unfold NormGrad.ms NormGrad.len NormGrad.eps
  pointwise [rQ]

theorem rS_apply (v : FVec Ideal S2x4160x1024 .f32) (b : Fin 2) (p : Fin 4160) : rS v (ix3 b p 0) = rr (fun k => v (ix3 b p k)) := by
  unfold NormGrad.rr
  rw [← rQ_apply]
  pointwise [rS]

theorem rN_apply (v : FVec Ideal S2x4160x1024 .f32) (b : Fin 2) (p : Fin 4160) (j : Fin 1024) :
    rN v (ix3 b p j) = v (ix3 b p j) * rr (fun k => v (ix3 b p k)) := by
  rw [← rS_apply]
  pointwise [rN]

theorem rG_apply (g : FVec Ideal S1x1024 .f32) (b : Fin 2) (p : Fin 4160) (j : Fin 1024) : rG g (ix3 b p j) = g (ix2 0 j) := by
  pointwise [rG]

theorem rE_apply (v : FVec Ideal S2x4160x1024 .f32) (g : FVec Ideal S1x1024 .f32) (t : FVec Ideal S2x4096x1024 .f32) (b : Fin 2) (q : Fin 4096) (j : Fin 1024) :
    rE v g t (ix3 b q j) = rN v (ix3 b (⟨64 + q.val, by omega⟩ : Fin 4160) j) * rG g (ix3 b (⟨64 + q.val, by omega⟩ : Fin 4160) j) - t (ix3 b q j) := by
  pointwise [rE]

/-- Two. -/
def two : EReal := Ideal.ofBits .f32 0x40000000#32

theorem two_eq : two = ((2 : ℝ) : EReal) := by
  unfold two
  simp [Ideal.ofBits, Ideal.ieee, -EReal.coe_mul]; norm_num

theorem wt_eq : wt = ((1 / 1024 : ℝ) : EReal) := by
  unfold wt
  simp [Ideal.ofBits, Ideal.ieee, -EReal.coe_mul]; norm_num

/-- The weight the body gives an error is the one differentiation gives it. -/
theorem scale (y : EReal) : Ideal.div half len * (two * y) = y * wt := by
  rw [NormGrad.div_len, half_eq, two_eq, wt_eq, ← EReal.coe_mul, ← mul_assoc, ← EReal.coe_mul, mul_comm]
  congr 2
  norm_num

theorem rW_apply (e : FVec Ideal S2x4096x1024 .f32) (b : Fin 2) (p : Fin 4160) (j : Fin 1024) :
    rW e (ix3 b p j) = if h : 64 ≤ p.val then e (ix3 b (⟨p.val - 64, by omega⟩ : Fin 4096) j) * wt else 0 := by
  refine Eq.trans (b := if h : 64 ≤ p.val ∧ p.val - 64 < 4096 then Ideal.div half len * (two * e (ix3 b (⟨p.val - 64, h.2⟩ : Fin 4096) j)) else 0) ?_ ?_
  · unfold half two NormGrad.len
    pointwise [rW]
  · by_cases h : 64 ≤ p.val
    · rw [dif_pos ⟨h, by omega⟩, dif_pos h]
      exact scale _
    · rw [dif_neg (fun e => h e.1), dif_neg h]

theorem ref_dx (v : FVec Ideal S2x4160x1024 .f32) (g : FVec Ideal S1x1024 .f32) (t : FVec Ideal S2x4096x1024 .f32) (i : Fin 8320) (j : Fin 1024) :
    (shapeCast S8320x1024 (addf (addf (mulf (rD v g t) (broadcastInDim S2x4160x1024 ![0, 1, 2] bcast_S2x4160x1_S2x4160x1024_0_1_2 (rS v))) (mulf v (broadcastInDim S2x4160x1024 ![0, 1] bcast_S2x4160_S2x4160x1024_0_1 (Host.reduceAdd (Host.divf (mulf (shapeCast _ (Host.reduceAdd (mulf v (rD v g t)) (constant S_ .f32 0x00000000#32) reducesTo_S2x4160x1024_S2x4160_d2 h_S_) shapeCasts_S2x4160_S2x4160x1) (mulf (broadcastInDim S2x4160x1 ![] bcast_S_S2x4160x1 (constant S_ .f32 0xBF000000#32)) (Host.divf (rS v) (rQ v)))) (broadcastInDim S2x4160x1 ![] bcast_S_S2x4160x1 (constant S_ .f32 0x44800000#32))) (constant S_ .f32 0x00000000#32) reducesTo_S2x4160x1_S2x4160_d2 h_S_)))) (mulf (broadcastInDim S2x4160x1024 ![0, 1] bcast_S2x4160_S2x4160x1024_0_1 (Host.reduceAdd (Host.divf (mulf (shapeCast _ (Host.reduceAdd (mulf v (rD v g t)) (constant S_ .f32 0x00000000#32) reducesTo_S2x4160x1024_S2x4160_d2 h_S_) shapeCasts_S2x4160_S2x4160x1) (mulf (broadcastInDim S2x4160x1 ![] bcast_S_S2x4160x1 (constant S_ .f32 0xBF000000#32)) (Host.divf (rS v) (rQ v)))) (broadcastInDim S2x4160x1 ![] bcast_S_S2x4160x1 (constant S_ .f32 0x44800000#32))) (constant S_ .f32 0x00000000#32) reducesTo_S2x4160x1_S2x4160_d2 h_S_)) v)) shapeCasts_S2x4160x1024_S8320x1024 : FVec Ideal S8320x1024 .f32) (ix2 i j)
      = dx (fun k => v (ix3 (⟨i.val / 4160, by omega⟩ : Fin 2) (⟨i.val % 4160, by omega⟩ : Fin 4160) k)) (fun k => rD v g t (ix3 (⟨i.val / 4160, by omega⟩ : Fin 2) (⟨i.val % 4160, by omega⟩ : Fin 4160) k)) j := by
  refine Eq.trans ?_ (NormGrad.dx_eq _ _ j)
  unfold NormGrad.coef
  rw [← rS_apply, ← rQ_apply]
  unfold NormGrad.len NormGrad.mhalf
  pointwise
  simp only [Fin.sum_univ_one]

theorem drop_lead {n0 n1 n2 : ℕ} (h : (⟨3, ![n0, n1, n2]⟩ : Shape).ReducesTo [0, 1] ⟨1, ![n2]⟩) (j : Fin n2) (i : (⟨3, ![n0, n1, n2]⟩ : Shape).Idx) :
    h.drop i = ix1 j ↔ ∃ k : Fin n0 × Fin n1, ix3 k.1 k.2 j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl
    | ⟨_ + 1, hb⟩ => exact absurd hb (by show ¬ _ + 1 < 1; omega)

/-- A sum along the two leading axes, at an index. -/
theorem sum_lead {n0 n1 n2 : ℕ} (h : (⟨3, ![n0, n1, n2]⟩ : Shape).ReducesTo [0, 1] ⟨1, ![n2]⟩) (v : (⟨3, ![n0, n1, n2]⟩ : Shape).Idx → EReal) (j : Fin n2) :
    Ideal.hostReduceAdd h v 0 (ix1 j) = ∑ b : Fin n0, ∑ p : Fin n1, v (ix3 b p j) := by
  refine (zero_add _).trans ((Finset.sum_filter_eq_sum_of_fiber _ (fun k : Fin n0 × Fin n1 => ix3 k.1 k.2 j)
    (fun _ _ e => Prod.ext (congrFun e 0) (congrFun e 1)) (drop_lead h j) v).trans ?_)
  simp only [Fintype.sum_prod_type]

theorem ref_dg (n e : FVec Ideal S2x4160x1024 .f32) (j : Fin 1024) :
    (broadcastInDim S1x1024 ![1] bcast_S1024_S1x1024_1 (Host.reduceAdd (shapeCast _ (Host.reduceAdd (mulf n e) (constant S_ .f32 0x00000000#32) reducesTo_S2x4160x1024_S1024_d0_1 h_S_) shapeCasts_S1024_S1x1x1024) (constant S_ .f32 0x00000000#32) reducesTo_S1x1x1024_S1024_d0_1 h_S_) : FVec Ideal S1x1024 .f32) (ix2 0 j)
      = ∑ b : Fin 2, ∑ p : Fin 4160, n (ix3 b p j) * e (ix3 b p j) := by
  pointwise
  refine (sum_lead _ _ j).trans ?_
  simp only [Fin.sum_univ_one]
  pointwise
  refine (sum_lead _ _ j).trans ?_
  pointwise

theorem ref_loss (e : FVec Ideal S2x4096x1024 .f32) (j : Fin 128) :
    (pad S1x128 ![0, 0] ![0, 127] ![0, 0] (shapeCast _ (mulf (constant S_ .f32 0x3F000000#32) (Host.reduceAdd (Host.divf (Host.reduceAdd (mulf e e) (constant S_ .f32 0x00000000#32) reducesTo_S2x4096x1024_S2x4096_d2 h_S_) (broadcastInDim S2x4096 ![] bcast_S_S2x4096 (constant S_ .f32 0x44800000#32))) (constant S_ .f32 0x00000000#32) reducesTo_S2x4096_S_d0_1 h_S_)) shapeCasts_S_S1x1) (sitofp .f32 (constantI S_ 32 0#32)) pads_S1x1_S1x128_000_01270 h_S_ : FVec Ideal S1x128 .f32) (ix2 0 j)
      = if j.val = 0 then half * ∑ b : Fin 2, ∑ q : Fin 4096, Ideal.div (∑ k : Fin 1024, e (ix3 b q k) * e (ix3 b q k)) len else 0 := by
  refine Eq.trans (b := if h : j.val < 1 then half * ∑ b : Fin 2, ∑ q : Fin 4096, Ideal.div (∑ k : Fin 1024, e (ix3 b q k) * e (ix3 b q k)) len else (FloatOps.sitofp .f32 0#32 : Ideal .f32)) ?_ ?_
  · unfold half NormGrad.len
    pointwise
  · by_cases h : j.val = 0
    · rw [dif_pos (by omega), if_pos h]
    · rw [dif_neg (by omega), if_neg h]
      exact EReal.coe_eq_zero.mpr (by simp)

variable (a : FVec Ideal S8320x4096 .bf16) (w : FVec Ideal S4096x1024 .bf16) (x : FVec Ideal S8320x1024 .f32)
  (g : FVec Ideal S1x1024 .f32) (t : FVec Ideal S2x4096x1024 .f32)

theorem row_mod' (b : Fin 2) (p : Fin 4160) : (row b p).val % 4160 = p.val := by
  show (b.val * 4160 + p.val) % 4160 = _
  have := p.isLt
  omega

theorem row_div' (b : Fin 2) (p : Fin 4160) : (row b p).val / 4160 = b.val := by
  show (b.val * 4160 + p.val) / 4160 = _
  have := p.isLt
  omega

theorem row_eq (i : Fin 8320) : row (⟨i.val / 4160, by omega⟩ : Fin 2) (⟨i.val % 4160, by omega⟩ : Fin 4160) = i := by
  refine Fin.ext ?_
  show i.val / 4160 * 4160 + i.val % 4160 = i.val
  omega

theorem n_ref (b : Fin 2) (p : Fin 4160) (j : Fin 1024) :
    rN (rX a w x) (ix3 b p j) = X a w x (row b p) j * rr (X a w x (row b p)) := by
  rw [rN_apply]
  simp only [rX_apply]

theorem e_ref (b : Fin 2) (p : Fin 4160) (h : 64 ≤ p.val) (j : Fin 1024) :
    rE (rX a w x) g t (ix3 b (⟨p.val - 64, by omega⟩ : Fin 4096) j) = E (X a w x) g t (row b p) j := by
  have ep : (⟨64 + (p.val - 64), by omega⟩ : Fin 4160) = p := Fin.ext (by show 64 + (p.val - 64) = p.val; omega)
  have hm := row_mod' b p
  rw [rE_apply]
  unfold E
  rw [dif_pos (by omega)]
  refine congrArg₂ (fun y z : EReal => y - z) ?_ (congrArg t (Shape.idx3_ext ?_ ?_ rfl))
  · refine Eq.trans (congrArg₂ (fun y z : EReal => y * z) ((congrArg (fun q => rN (rX a w x) (ix3 b q j)) ep).trans (n_ref a w x b p j)) (rG_apply g _ _ j)) rfl
  · exact (row_div' b p).symm
  · show p.val - 64 = (row b p).val % 4160 - 64
    rw [hm]

theorem w_ref (b : Fin 2) (p : Fin 4160) (j : Fin 1024) :
    rW (rE (rX a w x) g t) (ix3 b p j) = E (X a w x) g t (row b p) j * wt := by
  rw [rW_apply]
  by_cases h : 64 ≤ p.val
  · rw [dif_pos h, e_ref a w x g t b p h j]
  · rw [dif_neg h]
    unfold E
    rw [dif_neg (by rw [row_mod']; exact h), zero_mul]

theorem d_ref (b : Fin 2) (p : Fin 4160) (j : Fin 1024) :
    rD (rX a w x) g t (ix3 b p j) = E (X a w x) g t (row b p) j * wt * g (ix2 0 j) := by
  rw [← w_ref, ← rG_apply g b p j]
  rfl

theorem sum_seqs (f : Fin 8320 → EReal) : ∑ b : Fin 2, ∑ p : Fin 4160, f (row b p) = ∑ i : Fin 8320, f i :=
  Fin.sum_mul_add_congr fun _ _ _ => rfl

theorem sum_counted (f : Fin 4160 → EReal) (h : ∀ p : Fin 4160, p.val < 64 → f p = 0) :
    ∑ q : Fin 4096, f (⟨64 + q.val, by omega⟩ : Fin 4160) = ∑ p : Fin 4160, f p := by
  refine Eq.symm ((Fin.sum_univ_add (a := 64) (b := 4096) f).trans ?_)
  rw [Finset.sum_eq_zero (fun i _ => h _ i.isLt), zero_add]
  rfl

theorem Pl_zero (u : Fin 8320 → Fin 1024 → EReal) (i : Fin 8320) (h : ¬ 64 ≤ i.val % 4160) : Pl u g t i = 0 := by
  unfold Pl
  have e : ∀ j, E u g t i j = 0 := fun j => by unfold E; rw [dif_neg h]
  simp only [e, mul_zero, Finset.sum_const_zero, NormGrad.div_len, zero_mul]

theorem out_dx : (shapeCast S8320x1024 (addf (addf (mulf (rD (rX a w x) g t) (broadcastInDim S2x4160x1024 ![0, 1, 2] bcast_S2x4160x1_S2x4160x1024_0_1_2 (rS (rX a w x)))) (mulf (rX a w x) (broadcastInDim S2x4160x1024 ![0, 1] bcast_S2x4160_S2x4160x1024_0_1 (Host.reduceAdd (Host.divf (mulf (shapeCast _ (Host.reduceAdd (mulf (rX a w x) (rD (rX a w x) g t)) (constant S_ .f32 0x00000000#32) reducesTo_S2x4160x1024_S2x4160_d2 h_S_) shapeCasts_S2x4160_S2x4160x1) (mulf (broadcastInDim S2x4160x1 ![] bcast_S_S2x4160x1 (constant S_ .f32 0xBF000000#32)) (Host.divf (rS (rX a w x)) (rQ (rX a w x))))) (broadcastInDim S2x4160x1 ![] bcast_S_S2x4160x1 (constant S_ .f32 0x44800000#32))) (constant S_ .f32 0x00000000#32) reducesTo_S2x4160x1_S2x4160_d2 h_S_)))) (mulf (broadcastInDim S2x4160x1024 ![0, 1] bcast_S2x4160_S2x4160x1024_0_1 (Host.reduceAdd (Host.divf (mulf (shapeCast _ (Host.reduceAdd (mulf (rX a w x) (rD (rX a w x) g t)) (constant S_ .f32 0x00000000#32) reducesTo_S2x4160x1024_S2x4160_d2 h_S_) shapeCasts_S2x4160_S2x4160x1) (mulf (broadcastInDim S2x4160x1 ![] bcast_S_S2x4160x1 (constant S_ .f32 0xBF000000#32)) (Host.divf (rS (rX a w x)) (rQ (rX a w x))))) (broadcastInDim S2x4160x1 ![] bcast_S_S2x4160x1 (constant S_ .f32 0x44800000#32))) (constant S_ .f32 0x00000000#32) reducesTo_S2x4160x1_S2x4160_d2 h_S_)) (rX a w x))) shapeCasts_S2x4160x1024_S8320x1024 : FVec Ideal S8320x1024 .f32) = Gx (X a w x) g t := by
  funext y
  obtain ⟨i, j, rfl⟩ : ∃ (i : Fin 8320) (j : Fin 1024), y = ix2 i j := ⟨y 0, y 1, eq_ix2 y⟩
  refine (ref_dx (rX a w x) g t i j).trans ?_
  simp only [rX_apply, d_ref, row_eq]
  rfl

theorem out_dg : (broadcastInDim S1x1024 ![1] bcast_S1024_S1x1024_1 (Host.reduceAdd (shapeCast _ (Host.reduceAdd (mulf (rN (rX a w x)) (rW (rE (rX a w x) g t))) (constant S_ .f32 0x00000000#32) reducesTo_S2x4160x1024_S1024_d0_1 h_S_) shapeCasts_S1024_S1x1x1024) (constant S_ .f32 0x00000000#32) reducesTo_S1x1x1024_S1024_d0_1 h_S_) : FVec Ideal S1x1024 .f32) = Gg (X a w x) g t := by
  funext y
  obtain ⟨i, j, rfl⟩ : ∃ (i : Fin 1) (j : Fin 1024), y = ix2 i j := ⟨y 0, y 1, eq_ix2 y⟩
  obtain rfl : i = 0 := Subsingleton.elim _ _
  refine (ref_dg (rN (rX a w x)) (rW (rE (rX a w x) g t)) j).trans ?_
  simp only [n_ref, w_ref]
  refine Eq.trans ?_ (sum_seqs fun i => Pg (X a w x) g t j i)
  exact Finset.sum_congr rfl fun _ _ => Finset.sum_congr rfl fun _ _ => mul_comm _ _

theorem out_loss : (pad S1x128 ![0, 0] ![0, 127] ![0, 0] (shapeCast _ (mulf (constant S_ .f32 0x3F000000#32) (Host.reduceAdd (Host.divf (Host.reduceAdd (mulf (rE (rX a w x) g t) (rE (rX a w x) g t)) (constant S_ .f32 0x00000000#32) reducesTo_S2x4096x1024_S2x4096_d2 h_S_) (broadcastInDim S2x4096 ![] bcast_S_S2x4096 (constant S_ .f32 0x44800000#32))) (constant S_ .f32 0x00000000#32) reducesTo_S2x4096_S_d0_1 h_S_)) shapeCasts_S_S1x1) (sitofp .f32 (constantI S_ 32 0#32)) pads_S1x1_S1x128_000_01270 h_S_ : FVec Ideal S1x128 .f32) = Gl (X a w x) g t := by
  funext y
  obtain ⟨i, j, rfl⟩ : ∃ (i : Fin 1) (j : Fin 128), y = ix2 i j := ⟨y 0, y 1, eq_ix2 y⟩
  obtain rfl : i = 0 := Subsingleton.elim _ _
  refine (ref_loss (rE (rX a w x) g t) j).trans ?_
  show _ = if j.val = 0 then half * ∑ i : Fin 8320, Pl (X a w x) g t i else 0
  rw [← sum_seqs]
  refine congrArg (fun z : EReal => if j.val = 0 then half * z else 0) (Finset.sum_congr rfl fun b _ => ?_)
  rw [← sum_counted (fun p => Pl (X a w x) g t (row b p)) fun p hp => Pl_zero g t _ _ (by rw [row_mod']; omega)]
  refine Finset.sum_congr rfl fun q _ => ?_
  have e : ∀ k, rE (rX a w x) g t (ix3 b q k) = E (X a w x) g t (row b ⟨64 + q.val, by omega⟩) k := fun k => by
    refine Eq.trans ?_ (e_ref a w x g t b ⟨64 + q.val, by omega⟩ (by show 64 ≤ 64 + q.val; omega) k)
    exact congrArg (fun z => rE (rX a w x) g t (ix3 b z k)) (Fin.ext (by show q.val = 64 + q.val - 64; omega))
  simp only [e]
  rfl

end

theorem frame_reference : Cert.quiescent_Reference8Ideal := fun m ρ _ =>
  (θ_run Cert.Reference8Ideal.defs _ _).mono
    (fun r h => ⟨fun c => (h c).2.2.2.2, sem_eq_zero_of_no_sems (by decide) r.2⟩)
    (Cert.Reference8Ideal.Value.run m ρ)

theorem algebraic : Cert.algebraic_Kernel8Ideal_Reference8Ideal := by
  intro m ρ m' ρ' _ hagree
  refine ⟨(fun c => Gx (X (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2))) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4))), (fun c => Gx (X (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2))) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4))), (fun c => Gg (X (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2))) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4))), (fun c => Gl (X (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2))) (m ((c : Thread Cert.Kernel8Ideal.nD Cert.Kernel8Ideal.τ).loc Cert.Kernel8Ideal.main_arg3)) (m ((c : Thread Cert.Kernel8Ideal.nD Cert.Kernel8Ideal.τ).loc Cert.Kernel8Ideal.main_arg4))), ?_, ?_⟩
  · refine (θ_run Cert.Kernel8Ideal.defs _ _).mono (fun r h c => ?_) (θ_run_and ((θ_run Cert.Kernel8Ideal.defs _ _).mono (fun _ h => h.1) (run_main m ρ)) (frame m ρ))
    obtain ⟨h, hk⟩ := h
    exact ⟨((h c).1 3).trans (arr3 m c), ((h c).1 4).trans (arr4 m c), ((h c).1 5).trans (arr5 m c), ((h c).1 6).trans (arr6 m c), hk.1 c⟩
  · refine (θ_run Cert.Reference8Ideal.defs _ _).mono (fun r h c => ?_) (Cert.Reference8Ideal.Value.run m' ρ')
    obtain ⟨h0, h1, h2, h3, hk⟩ := h c
    obtain ⟨e0, e1, e2, e3, e4⟩ := hagree c
    refine ⟨h0.trans ?_, h1.trans ?_, h2.trans ?_, h3.trans ?_, hk⟩
    · unfold Cert.Reference8Ideal.Value.res_main_v60
      rw [e0, e1, e2, e3, e4]
      exact out_dx _ _ _ _ _
    · unfold Cert.Reference8Ideal.Value.res_main_v61
      rw [e0, e1, e2, e3, e4]
      exact out_dx _ _ _ _ _
    · rw [e0, e1, e2, e3, e4]
      exact out_dg _ _ _ _ _
    · rw [e0, e1, e2, e3, e4]
      exact out_loss _ _ _ _ _

end Cert.MlpDownLoss
-- ==== Proof.InProj.lean ====
/- The input projection: each grid point takes one block of rows; its last columns are also kept in full. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.StableHlo.ReadAt

@[expose] public section

set_option maxRecDepth 16384

noncomputable section

namespace Cert.InProj

open Idealize.ShloMosaic Idealize.ShloMosaic.TcCoe Idealize.SL Idealize.SL.Sem

theorem frame_kernel : Cert.quiescent_Kernel9 := fun m ρ _ => Cert.Kernel9.Gen.frame m ρ

theorem frame_ideal : Cert.quiescent_Kernel9Ideal := fun m ρ _ => Cert.Kernel9Ideal.Gen.frame m ρ

section
open Cert.Kernel9Ideal Cert.Kernel9Ideal.Gen

variable (m : (ℓ : Loc nD τ sig) → Buf (Elt Ideal) ℓ) (c : Dev nD)

/-- A row against a column. -/
def dot (f g : Fin 1024 → EReal) : EReal := ∑ k : Fin 1024, f k * g k

theorem dot_congr {f f' g g' : Fin 1024 → EReal} (hf : ∀ k, f k = f' k) (hg : ∀ k, g k = g' k) : dot f g = dot f' g' := by
  obtain rfl := funext hf
  obtain rfl := funext hg
  rfl

/-- The projection. -/
def G (h : S8320x1024.Idx → EReal) (w : S1024x3840.Idx → EReal) : S8320x3840.Idx → EReal := fun y =>
  dot (fun k => h (ix2 (y 0) k)) (fun k => w (ix2 k (y 1)))

/-- Its last 256 columns. -/
def G' (h : S8320x1024.Idx → EReal) (w : S1024x3840.Idx → EReal) : S8320x256.Idx → EReal := fun y =>
  dot (fun k => h (ix2 (y 0) k)) (fun k => w (ix2 k ⟨3584 + (y 1).val, by have : (y 1).val < 256 := (y 1).isLt; omega⟩))

theorem pay3_apply (a : Vec Ideal S416x1024 .bf16) (w : Vec Ideal S1024x3840 .bf16) (i : Fin 416) (j : Fin 3840) :
    k0_pay3 a w (ix2 i j) = dot (fun k => a (ix2 i k)) (fun k => w (ix2 k j)) := by
  unfold dot
  pointwise [k0_pay3, k0_pay1]

theorem pay2_apply (a : Vec Ideal S416x1024 .bf16) (w : Vec Ideal S1024x3840 .bf16) (i : Fin 416) (j : Fin 256) :
    k0_pay2 a w (ix2 i j) = dot (fun k => a (ix2 i k)) (fun k => w (ix2 k ⟨3584 + j.val, by omega⟩)) := by
  unfold dot
  pointwise [k0_pay2, k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem lt_points (t : Fin cfg0.N) : t.val < 20 := lt_of_lt_of_eq t.isLt N_0

theorem blk0 (t : Fin cfg0.N) (i : Fin 416) (k : Fin 1024) :
    iblk m c 0 t (ix2 i k) = m ((c : Thread nD τ).loc main_arg0) (ix2 ⟨t.val * 416 + i.val, by have := lt_points t; omega⟩ k) := by
  rw [← V_main_arg0 m c]
  blk_simp [iblk]
  congr 1
  blk_ext [idx0]

theorem blk1 (t : Fin cfg0.N) (k : Fin 1024) (j : Fin 3840) :
    iblk m c 1 t (ix2 k j) = m ((c : Thread nD τ).loc main_arg1) (ix2 k j) := by
  rw [← V_main_arg1 m c]
  blk_simp [iblk]
  congr 1
  blk_ext [idx1]

theorem emb2 (t : Fin cfg0.N) (i : Fin 416) (j : Fin 3840) : (win0_2.blk t).view.emb (ix2 i j)
    = ix2 (⟨t.val * 416 + i.val, by have := lt_points t; omega⟩ : Fin 8320) j := by
  blk_ext [idx2]

theorem emb3 (t : Fin cfg0.N) (i : Fin 416) (j : Fin 256) : (win0_3.blk t).view.emb (ix2 i j)
    = ix2 (⟨t.val * 416 + i.val, by have := lt_points t; omega⟩ : Fin 8320) j := by
  blk_ext [idx3]

theorem arr2 : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ (i : Fin 416) (j : Fin 3840), y = ix2 i j := ⟨y 0, y 1, eq_ix2 y⟩
  refine (pay3_apply _ _ i j).trans ?_
  refine dot_congr (fun k => ?_) (fun k => ?_)
  · rw [blk0]
    rw [emb2]
    rfl
  · rw [blk1]
    rw [emb2]
    rfl

theorem arr3 : (dats m 0 c).arrAt 3 cfg0.N
    = G' (m ((c : Thread nD τ).loc main_arg0)) (m ((c : Thread nD τ).loc main_arg1)) := by
  refine (dats m 0 c).arrAt_eq_of_covers 3 _ (by decide +kernel) fun t hf y => ?_
  blk_simp
  rw [after0_3]
  frame_out
  obtain ⟨i, j, rfl⟩ : ∃ (i : Fin 416) (j : Fin 256), y = ix2 i j := ⟨y 0, y 1, eq_ix2 y⟩
  refine (pay2_apply _ _ i j).trans ?_
  refine dot_congr (fun k => ?_) (fun k => ?_)
  · rw [blk0]
    rw [emb3]
    rfl
  · rw [blk1]
    rw [emb3]
    rfl

theorem ref_apply (h : FVec Ideal S8320x1024 .bf16) (w : FVec Ideal S1024x3840 .bf16) :
    truncf .bf16 (Host.dotGeneral Cert.Reference9Ideal.dot_S8320x1024_S1024x3840_S8320x3840_1_0_0_1_n_n none
      (extf .f32 h Cert.Reference9Ideal.Facts₀.bitsLt_bf16_f32) (extf .f32 w Cert.Reference9Ideal.Facts₀.bitsLt_bf16_f32))
      Cert.Reference9Ideal.Facts₀.bitsLt_bf16_f32 = G h w := by
  funext y
  obtain ⟨i, j, rfl⟩ : ∃ (i : Fin 8320) (j : Fin 3840), y = ix2 i j := ⟨y 0, y 1, eq_ix2 y⟩
  unfold G dot
  pointwise

theorem ref_apply' (h : FVec Ideal S8320x1024 .bf16) (w : FVec Ideal S1024x3840 .bf16) :
    extractStridedSlice Cert.Reference9Ideal.S8320x256 ![0, 3584]
      (Host.dotGeneral Cert.Reference9Ideal.dot_S8320x1024_S1024x3840_S8320x3840_1_0_0_1_n_n none
      (extf .f32 h Cert.Reference9Ideal.Facts₀.bitsLt_bf16_f32) (extf .f32 w Cert.Reference9Ideal.Facts₀.bitsLt_bf16_f32))
      Cert.Reference9Ideal.Facts₀.slices_S8320x3840_S8320x256_0_3584 = G' h w := by
  funext y
  obtain ⟨i, j, rfl⟩ : ∃ (i : Fin 8320) (j : Fin 256), y = ix2 i j := ⟨y 0, y 1, eq_ix2 y⟩
  unfold G' dot
  pointwise

end

theorem frame_reference : Cert.quiescent_Reference9Ideal := fun m ρ _ =>
  (θ_run Cert.Reference9Ideal.defs _ _).mono
    (fun r h => ⟨fun c => (h c).2.2, sem_eq_zero_of_no_sems (by decide) r.2⟩)
    (Cert.Reference9Ideal.Value.run m ρ)

theorem algebraic : Cert.algebraic_Kernel9Ideal_Reference9Ideal := by
  intro m ρ m' ρ' _ hagree
  refine ⟨(fun c => G (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))), (fun c => G' (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1))), ?_, ?_⟩
  · refine (θ_run Cert.Kernel9Ideal.defs _ _).mono (fun r h c => ?_) (Cert.Kernel9Ideal.Value.run_blocks m ρ)
    obtain ⟨h0, h1, hk⟩ := h c
    exact ⟨h0.trans (arr2 m c), h1.trans (arr3 m c), hk⟩
  · refine (θ_run Cert.Reference9Ideal.defs _ _).mono (fun r h c => ?_) (Cert.Reference9Ideal.Value.run m' ρ')
    obtain ⟨h0, h1, hk⟩ := h c
    obtain ⟨e0, e1⟩ := hagree c
    refine ⟨h0.trans ?_, h1.trans ?_, hk⟩
    · rw [e0, e1]
      exact ref_apply _ _
    · rw [e0, e1]
      exact ref_apply' _ _

end Cert.InProj
-- ==== Proof.WInGradLo.lean ====
/- The gradient of the input projection, first columns: five row blocks, each point adding one block's product. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.StableHlo.ReadAt

@[expose] public section

set_option maxRecDepth 16384

noncomputable section

namespace Cert.WInGradLo

open Idealize.ShloMosaic Idealize.ShloMosaic.TcCoe Idealize.SL Idealize.SL.Sem

theorem frame_kernel : Cert.quiescent_Kernel10 := fun m ρ _ => Cert.Kernel10.Gen.frame m ρ

theorem frame_ideal : Cert.quiescent_Kernel10Ideal := fun m ρ _ => Cert.Kernel10Ideal.Gen.frame m ρ

section
open Cert.Kernel10Ideal Cert.Kernel10Ideal.Gen

variable (m : (ℓ : Loc nD τ sig) → Buf (Elt Ideal) ℓ) (c : Dev nD)

/-- Column `j` of the sections side by side. -/
def side (p0 : S8320x1536.Idx → EReal) (p1 : S8320x512.Idx → EReal) (r : Fin 8320) (j : Fin 2048) : EReal :=
  if h0 : j.val < 1536 then p0 (ix2 r ⟨j.val, by omega⟩)
  else p1 (ix2 r ⟨j.val - 1536, by omega⟩)

/-- The same of one row block. -/
def sideB (p0 : S1664x1536.Idx → EReal) (p1 : S1664x512.Idx → EReal) (r : Fin 1664) (j : Fin 2048) : EReal :=
  if h0 : j.val < 1536 then p0 (ix2 r ⟨j.val, by omega⟩)
  else p1 (ix2 r ⟨j.val - 1536, by omega⟩)

/-- The gradient: the normalised rows' columns against the sections' gradients, over every row. -/
def G (h : S8320x1024.Idx → EReal) (p0 : S8320x1536.Idx → EReal) (p1 : S8320x512.Idx → EReal) : S1024x2048.Idx → EReal := fun y =>
  ∑ r : Fin 8320, h (ix2 r (y 0)) * side p0 p1 r (y 1)

/-- One point's product at an index. -/
theorem pay_apply (p0 : Vec Ideal S1664x1536 .bf16) (p1 : Vec Ideal S1664x512 .bf16) (h : Vec Ideal S1664x1024 .bf16) (i : Fin 1024) (j : Fin 2048) :
    k0_pay1 p0 p1 h (ix2 i j) = ∑ r : Fin 1664, h (ix2 r i) * sideB p0 p1 r j := by
  unfold sideB
  pointwise [k0_pay1]

theorem pay2_apply (p0 : Vec Ideal S1664x1536 .bf16) (p1 : Vec Ideal S1664x512 .bf16) (h : Vec Ideal S1664x1024 .bf16) (s : Vec Ideal S1024x2048 .f32)
    (y : S1024x2048.Idx) : k0_pay2 p0 p1 h s y = s y + k0_pay1 p0 p1 h y := by
  obtain ⟨i, j, rfl⟩ : ∃ (i : Fin 1024) (j : Fin 2048), y = ix2 i j := ⟨y 0, y 1, eq_ix2 y⟩
  pointwise [k0_pay2]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

theorem lt_points (t : Fin cfg0.N) : t.val < 5 := lt_of_lt_of_eq t.isLt N_0

theorem blk0 (t : Fin cfg0.N) (r : Fin 1664) (j : Fin 1024) :
    iblk m c 0 t (ix2 r j) = m ((c : Thread nD τ).loc main_arg0) (ix2 ⟨t.val * 1664 + r.val, by have := lt_points t; omega⟩ j) := by
  rw [← V_main_arg0 m c]
  blk_simp [iblk]
  congr 1
  blk_ext [idx0]

theorem blk1 (t : Fin cfg0.N) (r : Fin 1664) (j : Fin 1536) :
    iblk m c 1 t (ix2 r j) = m ((c : Thread nD τ).loc main_arg1) (ix2 ⟨t.val * 1664 + r.val, by have := lt_points t; omega⟩ j) := by
  rw [← V_main_arg1 m c]
  blk_simp [iblk]
  congr 1
  blk_ext [idx1]

theorem blk2 (t : Fin cfg0.N) (r : Fin 1664) (j : Fin 512) :
    iblk m c 2 t (ix2 r j) = m ((c : Thread nD τ).loc main_arg2) (ix2 ⟨t.val * 1664 + r.val, by have := lt_points t; omega⟩ j) := by
  rw [← V_main_arg2 m c]
  blk_simp [iblk]
  congr 1
  blk_ext [idx2]

theorem side_blk (p : Fin cfg0.N) (r : Fin 1664) (j : Fin 2048) : sideB (iblk m c 1 p) (iblk m c 2 p) r j
    = side (m ((c : Thread nD τ).loc main_arg1)) (m ((c : Thread nD τ).loc main_arg2)) ⟨p.val * 1664 + r.val, by have := lt_points p; omega⟩ j := by
  unfold side sideB
  simp only [blk1, blk2]

theorem arr : (dats m 0 c).arrAt 3 cfg0.N
    = G (m ((c : Thread nD τ).loc main_arg0)) (m ((c : Thread nD τ).loc main_arg1)) (m ((c : Thread nD τ).loc main_arg2)) := by
  refine (dats m 0 c).arrAt_eq_of_after_last 3 t0_4 (by decide +kernel) _ fun y => ?_
  blk_simp
  rw [after0_3]
  rw [Pipeline.eq_sum_fin_of_reset_step_apply_last (fun n h => outsAt0 m c n h) 5 (fun _ => 0)
    (fun p y => k0_pay1 (iblk m c 1 p) (iblk m c 2 p) (iblk m c 0 p) y)
    (fun t h j => by rw [outsAt0_A m c t h (by have := lt_points t; omega)]; frame_out; rw [zero_add])
    (fun t h j => by rw [outsAt0_B m c t h (by omega)]; frame_out; rw [pay2_apply]) (le_of_eq N_0) t0_4 rfl y, zero_add]
  obtain ⟨i, j, rfl⟩ : ∃ (i : Fin 1024) (j : Fin 2048), y = ix2 i j := ⟨y 0, y 1, eq_ix2 y⟩
  simp only [pay_apply, blk0, side_blk]
  unfold G
  exact Fin.sum_mul_add_congr fun s r hl => rfl

theorem ref_apply (h : FVec Ideal S8320x1024 .bf16) (p0 : FVec Ideal S8320x1536 .bf16) (p1 : FVec Ideal S8320x512 .bf16) :
    concatenate Cert.Reference10Ideal.S1024x2048 1
      [⟨Cert.Reference10Ideal.S1024x1536, (transpose Cert.Reference10Ideal.S1024x1536 [1, 0] (Host.dotGeneral Cert.Reference10Ideal.dot_S8320x1536_S8320x1024_S1536x1024_0_0_1_1_n_n none
        (extf .f32 p0 Cert.Reference10Ideal.Facts₀.bitsLt_bf16_f32) (extf .f32 h Cert.Reference10Ideal.Facts₀.bitsLt_bf16_f32)) Cert.Reference10Ideal.Facts₀.transposes_S1536x1024_S1024x1536_1_0)⟩,
      ⟨Cert.Reference10Ideal.S1024x512, (transpose Cert.Reference10Ideal.S1024x512 [1, 0] (Host.dotGeneral Cert.Reference10Ideal.dot_S8320x512_S8320x1024_S512x1024_0_0_1_1_n_n none
        (extf .f32 p1 Cert.Reference10Ideal.Facts₀.bitsLt_bf16_f32) (extf .f32 h Cert.Reference10Ideal.Facts₀.bitsLt_bf16_f32)) Cert.Reference10Ideal.Facts₀.transposes_S512x1024_S1024x512_1_0)⟩]
      Cert.Reference10Ideal.Facts₀.concatenates_S1024x1536_S1024x512_S1024x2048_d1 = G h p0 p1 := by
  funext y
  obtain ⟨i, j, rfl⟩ : ∃ (i : Fin 1024) (j : Fin 2048), y = ix2 i j := ⟨y 0, y 1, eq_ix2 y⟩
  unfold G side
  pointwise
  split_ifs <;> exact Finset.sum_congr rfl fun r _ => mul_comm _ _

end

theorem frame_reference : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run m ρ)

theorem algebraic : Cert.algebraic_Kernel10Ideal_Reference10Ideal := by
  intro m ρ m' ρ' _ hagree
  refine ⟨(fun c => G (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg2))), ?_, ?_⟩
  · refine (θ_run Cert.Kernel10Ideal.defs _ _).mono (fun r h c => ?_) (Cert.Kernel10Ideal.Value.run_blocks m ρ)
    obtain ⟨h0, hk⟩ := h c
    exact ⟨h0.trans (arr m c), hk⟩
  · refine (θ_run Cert.Reference10Ideal.defs _ _).mono (fun r h c => ?_) (Cert.Reference10Ideal.Value.run m' ρ')
    obtain ⟨h0, hk⟩ := h c
    obtain ⟨e0, e1, e2⟩ := hagree c
    refine ⟨h0.trans ?_, hk⟩
    · rw [e0, e1, e2]
      exact ref_apply _ _ _

end Cert.WInGradLo
-- ==== Proof.WInGradHi.lean ====
/- The gradient of the input projection, last columns: five row blocks, each point adding one block's product. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.StableHlo.ReadAt

@[expose] public section

set_option maxRecDepth 16384

noncomputable section

namespace Cert.WInGradHi

open Idealize.ShloMosaic Idealize.ShloMosaic.TcCoe Idealize.SL Idealize.SL.Sem

theorem frame_kernel : Cert.quiescent_Kernel11 := fun m ρ _ => Cert.Kernel11.Gen.frame m ρ

theorem frame_ideal : Cert.quiescent_Kernel11Ideal := fun m ρ _ => Cert.Kernel11Ideal.Gen.frame m ρ

section
open Cert.Kernel11Ideal Cert.Kernel11Ideal.Gen

variable (m : (ℓ : Loc nD τ sig) → Buf (Elt Ideal) ℓ) (c : Dev nD)

/-- Column `j` of the sections side by side. -/
def side (p0 : S8320x512.Idx → EReal) (p1 : S8320x512.Idx → EReal) (p2 : S8320x512.Idx → EReal) (p3 : S8320x128.Idx → EReal) (p4 : S8320x128.Idx → EReal) (r : Fin 8320) (j : Fin 1792) : EReal :=
  if h0 : j.val < 512 then p0 (ix2 r ⟨j.val, by omega⟩)
  else if h1 : j.val < 1024 then p1 (ix2 r ⟨j.val - 512, by omega⟩)
  else if h2 : j.val < 1536 then p2 (ix2 r ⟨j.val - 1024, by omega⟩)
  else if h3 : j.val < 1664 then p3 (ix2 r ⟨j.val - 1536, by omega⟩)
  else p4 (ix2 r ⟨j.val - 1664, by omega⟩)

/-- The same of one row block. -/
def sideB (p0 : S1664x512.Idx → EReal) (p1 : S1664x512.Idx → EReal) (p2 : S1664x512.Idx → EReal) (p3 : S1664x128.Idx → EReal) (p4 : S1664x128.Idx → EReal) (r : Fin 1664) (j : Fin 1792) : EReal :=
  if h0 : j.val < 512 then p0 (ix2 r ⟨j.val, by omega⟩)
  else if h1 : j.val < 1024 then p1 (ix2 r ⟨j.val - 512, by omega⟩)
  else if h2 : j.val < 1536 then p2 (ix2 r ⟨j.val - 1024, by omega⟩)
  else if h3 : j.val < 1664 then p3 (ix2 r ⟨j.val - 1536, by omega⟩)
  else p4 (ix2 r ⟨j.val - 1664, by omega⟩)

/-- The gradient: the normalised rows' columns against the sections' gradients, over every row. -/
def G (h : S8320x1024.Idx → EReal) (p0 : S8320x512.Idx → EReal) (p1 : S8320x512.Idx → EReal) (p2 : S8320x512.Idx → EReal) (p3 : S8320x128.Idx → EReal) (p4 : S8320x128.Idx → EReal) : S1024x1792.Idx → EReal := fun y =>
  ∑ r : Fin 8320, h (ix2 r (y 0)) * side p0 p1 p2 p3 p4 r (y 1)

/-- One point's product at an index. -/
theorem pay_apply (p0 : Vec Ideal S1664x512 .bf16) (p1 : Vec Ideal S1664x512 .bf16) (p2 : Vec Ideal S1664x512 .bf16) (p3 : Vec Ideal S1664x128 .bf16) (p4 : Vec Ideal S1664x128 .bf16) (h : Vec Ideal S1664x1024 .bf16) (i : Fin 1024) (j : Fin 1792) :
    k0_pay1 p0 p1 p2 p3 p4 h (ix2 i j) = ∑ r : Fin 1664, h (ix2 r i) * sideB p0 p1 p2 p3 p4 r j := by
  unfold sideB
  pointwise [k0_pay1]
  refine Finset.sum_congr rfl fun r _ => congrArg _ ?_
  simp only [Nat.sub_sub, Nat.reduceAdd]
  by_cases h0 : j.val < 512
  · rw [dif_pos h0, dif_pos h0]
  rw [dif_neg h0, dif_neg h0]
  by_cases h1 : j.val < 1024
  · rw [dif_pos h1, dif_pos (show j.val - 512 < 512 by omega)]
  rw [dif_neg h1, dif_neg (show ¬j.val - 512 < 512 by omega)]
  by_cases h2 : j.val < 1536
  · rw [dif_pos h2, dif_pos (show j.val - 1024 < 512 by omega)]
  rw [dif_neg h2, dif_neg (show ¬j.val - 1024 < 512 by omega)]
  by_cases h3 : j.val < 1664
  · rw [dif_pos h3, dif_pos (show j.val - 1536 < 128 by omega)]
  rw [dif_neg h3, dif_neg (show ¬j.val - 1536 < 128 by omega)]

theorem pay2_apply (p0 : Vec Ideal S1664x512 .bf16) (p1 : Vec Ideal S1664x512 .bf16) (p2 : Vec Ideal S1664x512 .bf16) (p3 : Vec Ideal S1664x128 .bf16) (p4 : Vec Ideal S1664x128 .bf16) (h : Vec Ideal S1664x1024 .bf16) (s : Vec Ideal S1024x1792 .f32)
    (y : S1024x1792.Idx) : k0_pay2 p0 p1 p2 p3 p4 h s y = s y + k0_pay1 p0 p1 p2 p3 p4 h y := by
  obtain ⟨i, j, rfl⟩ : ∃ (i : Fin 1024) (j : Fin 1792), y = ix2 i j := ⟨y 0, y 1, eq_ix2 y⟩
  pointwise [k0_pay2]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem lt_points (t : Fin cfg0.N) : t.val < 5 := lt_of_lt_of_eq t.isLt N_0

theorem blk0 (t : Fin cfg0.N) (r : Fin 1664) (j : Fin 1024) :
    iblk m c 0 t (ix2 r j) = m ((c : Thread nD τ).loc main_arg0) (ix2 ⟨t.val * 1664 + r.val, by have := lt_points t; omega⟩ j) := by
  rw [← V_main_arg0 m c]
  blk_simp [iblk]
  congr 1
  blk_ext [idx0]

theorem blk1 (t : Fin cfg0.N) (r : Fin 1664) (j : Fin 512) :
    iblk m c 1 t (ix2 r j) = m ((c : Thread nD τ).loc main_arg1) (ix2 ⟨t.val * 1664 + r.val, by have := lt_points t; omega⟩ j) := by
  rw [← V_main_arg1 m c]
  blk_simp [iblk]
  congr 1
  blk_ext [idx1]

theorem blk2 (t : Fin cfg0.N) (r : Fin 1664) (j : Fin 512) :
    iblk m c 2 t (ix2 r j) = m ((c : Thread nD τ).loc main_arg2) (ix2 ⟨t.val * 1664 + r.val, by have := lt_points t; omega⟩ j) := by
  rw [← V_main_arg2 m c]
  blk_simp [iblk]
  congr 1
  blk_ext [idx2]

theorem blk3 (t : Fin cfg0.N) (r : Fin 1664) (j : Fin 512) :
    iblk m c 3 t (ix2 r j) = m ((c : Thread nD τ).loc main_arg3) (ix2 ⟨t.val * 1664 + r.val, by have := lt_points t; omega⟩ j) := by
  rw [← V_main_arg3 m c]
  blk_simp [iblk]
  congr 1
  blk_ext [idx3]

theorem blk4 (t : Fin cfg0.N) (r : Fin 1664) (j : Fin 128) :
    iblk m c 4 t (ix2 r j) = m ((c : Thread nD τ).loc main_arg4) (ix2 ⟨t.val * 1664 + r.val, by have := lt_points t; omega⟩ j) := by
  rw [← V_main_arg4 m c]
  blk_simp [iblk]
  congr 1
  blk_ext [idx4]

theorem blk5 (t : Fin cfg0.N) (r : Fin 1664) (j : Fin 128) :
    iblk m c 5 t (ix2 r j) = m ((c : Thread nD τ).loc main_arg5) (ix2 ⟨t.val * 1664 + r.val, by have := lt_points t; omega⟩ j) := by
  rw [← V_main_arg5 m c]
  blk_simp [iblk]
  congr 1
  blk_ext [idx5]

theorem side_blk (p : Fin cfg0.N) (r : Fin 1664) (j : Fin 1792) : sideB (iblk m c 1 p) (iblk m c 2 p) (iblk m c 3 p) (iblk m c 4 p) (iblk m c 5 p) r j
    = side (m ((c : Thread nD τ).loc main_arg1)) (m ((c : Thread nD τ).loc main_arg2)) (m ((c : Thread nD τ).loc main_arg3)) (m ((c : Thread nD τ).loc main_arg4)) (m ((c : Thread nD τ).loc main_arg5)) ⟨p.val * 1664 + r.val, by have := lt_points p; omega⟩ j := by
  unfold side sideB
  simp only [blk1, blk2, blk3, blk4, blk5]

theorem arr : (dats m 0 c).arrAt 6 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 6 t0_4 (by decide +kernel) _ fun y => ?_
  blk_simp
  rw [after0_6]
  rw [Pipeline.eq_sum_fin_of_reset_step_apply_last (fun n h => outsAt0 m c n h) 5 (fun _ => 0)
    (fun p y => k0_pay1 (iblk m c 1 p) (iblk m c 2 p) (iblk m c 3 p) (iblk m c 4 p) (iblk m c 5 p) (iblk m c 0 p) y)
    (fun t h j => by rw [outsAt0_A m c t h (by have := lt_points t; omega)]; frame_out; rw [zero_add])
    (fun t h j => by rw [outsAt0_B m c t h (by omega)]; frame_out; rw [pay2_apply]) (le_of_eq N_0) t0_4 rfl y, zero_add]
  obtain ⟨i, j, rfl⟩ : ∃ (i : Fin 1024) (j : Fin 1792), y = ix2 i j := ⟨y 0, y 1, eq_ix2 y⟩
  simp only [pay_apply, blk0, side_blk]
  unfold G
  exact Fin.sum_mul_add_congr fun s r hl => rfl

theorem ref_apply (h : FVec Ideal S8320x1024 .bf16) (p0 : FVec Ideal S8320x512 .bf16) (p1 : FVec Ideal S8320x512 .bf16) (p2 : FVec Ideal S8320x512 .bf16) (p3 : FVec Ideal S8320x128 .bf16) (p4 : FVec Ideal S8320x128 .bf16) :
    concatenate Cert.Reference11Ideal.S1024x1792 1
      [⟨Cert.Reference11Ideal.S1024x512, (transpose Cert.Reference11Ideal.S1024x512 [1, 0] (Host.dotGeneral Cert.Reference11Ideal.dot_S8320x512_S8320x1024_S512x1024_0_0_1_1_n_n none
        (extf .f32 p0 Cert.Reference11Ideal.Facts₀.bitsLt_bf16_f32) (extf .f32 h Cert.Reference11Ideal.Facts₀.bitsLt_bf16_f32)) Cert.Reference11Ideal.Facts₀.transposes_S512x1024_S1024x512_1_0 : (⟨Cert.Reference11Ideal.S1024x512, .f32⟩ : BufTy).Contents (Elt Ideal))⟩,
      ⟨Cert.Reference11Ideal.S1024x512, (transpose Cert.Reference11Ideal.S1024x512 [1, 0] (Host.dotGeneral Cert.Reference11Ideal.dot_S8320x512_S8320x1024_S512x1024_0_0_1_1_n_n none
        (extf .f32 p1 Cert.Reference11Ideal.Facts₀.bitsLt_bf16_f32) (extf .f32 h Cert.Reference11Ideal.Facts₀.bitsLt_bf16_f32)) Cert.Reference11Ideal.Facts₀.transposes_S512x1024_S1024x512_1_0 : (⟨Cert.Reference11Ideal.S1024x512, .f32⟩ : BufTy).Contents (Elt Ideal))⟩,
      ⟨Cert.Reference11Ideal.S1024x512, (transpose Cert.Reference11Ideal.S1024x512 [1, 0] (Host.dotGeneral Cert.Reference11Ideal.dot_S8320x512_S8320x1024_S512x1024_0_0_1_1_n_n none
        (extf .f32 p2 Cert.Reference11Ideal.Facts₀.bitsLt_bf16_f32) (extf .f32 h Cert.Reference11Ideal.Facts₀.bitsLt_bf16_f32)) Cert.Reference11Ideal.Facts₀.transposes_S512x1024_S1024x512_1_0 : (⟨Cert.Reference11Ideal.S1024x512, .f32⟩ : BufTy).Contents (Elt Ideal))⟩,
      ⟨Cert.Reference11Ideal.S1024x128, (transpose Cert.Reference11Ideal.S1024x128 [1, 0] (Host.dotGeneral Cert.Reference11Ideal.dot_S8320x128_S8320x1024_S128x1024_0_0_1_1_n_n none
        (extf .f32 p3 Cert.Reference11Ideal.Facts₀.bitsLt_bf16_f32) (extf .f32 h Cert.Reference11Ideal.Facts₀.bitsLt_bf16_f32)) Cert.Reference11Ideal.Facts₀.transposes_S128x1024_S1024x128_1_0 : (⟨Cert.Reference11Ideal.S1024x128, .f32⟩ : BufTy).Contents (Elt Ideal))⟩,
      ⟨Cert.Reference11Ideal.S1024x128, (transpose Cert.Reference11Ideal.S1024x128 [1, 0] (Host.dotGeneral Cert.Reference11Ideal.dot_S8320x128_S8320x1024_S128x1024_0_0_1_1_n_n none
        (extf .f32 p4 Cert.Reference11Ideal.Facts₀.bitsLt_bf16_f32) (extf .f32 h Cert.Reference11Ideal.Facts₀.bitsLt_bf16_f32)) Cert.Reference11Ideal.Facts₀.transposes_S128x1024_S1024x128_1_0 : (⟨Cert.Reference11Ideal.S1024x128, .f32⟩ : BufTy).Contents (Elt Ideal))⟩]
      Cert.Reference11Ideal.Facts₀.concatenates_S1024x512_S1024x512_S1024x512_S1024x128_S1024x128_S1024x1792_d1 = G h p0 p1 p2 p3 p4 := by
  funext y
  obtain ⟨i, j, rfl⟩ : ∃ (i : Fin 1024) (j : Fin 1792), y = ix2 i j := ⟨y 0, y 1, eq_ix2 y⟩
  unfold G side
  pointwise
  simp only [Nat.sub_sub, Nat.reduceAdd]
  by_cases h0 : j.val < 512
  · simp only [dif_pos h0]
    exact Finset.sum_congr rfl fun r _ => mul_comm _ _
  by_cases h1 : j.val < 1024
  · simp only [dif_neg h0, dif_pos h1, dif_pos (show j.val - 512 < 512 by omega)]
    exact Finset.sum_congr rfl fun r _ => mul_comm _ _
  by_cases h2 : j.val < 1536
  · simp only [dif_neg h0, dif_neg h1, dif_neg (show ¬j.val - 512 < 512 by omega), dif_pos h2,
      dif_pos (show j.val - 1024 < 512 by omega)]
    exact Finset.sum_congr rfl fun r _ => mul_comm _ _
  by_cases h3 : j.val < 1664
  · simp only [dif_neg h0, dif_neg h1, dif_neg (show ¬j.val - 512 < 512 by omega), dif_neg h2,
      dif_neg (show ¬j.val - 1024 < 512 by omega), dif_pos h3, dif_pos (show j.val - 1536 < 128 by omega)]
    exact Finset.sum_congr rfl fun r _ => mul_comm _ _
  simp only [dif_neg h0, dif_neg h1, dif_neg (show ¬j.val - 512 < 512 by omega), dif_neg h2,
    dif_neg (show ¬j.val - 1024 < 512 by omega), dif_neg h3, dif_neg (show ¬j.val - 1536 < 128 by omega)]
  exact Finset.sum_congr rfl fun r _ => mul_comm _ _

end

theorem frame_reference : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run m ρ)

theorem algebraic : Cert.algebraic_Kernel11Ideal_Reference11Ideal := by
  intro m ρ m' ρ' _ hagree
  refine ⟨(fun c => G (m ((c : Thread Cert.Kernel11Ideal.nD Cert.Kernel11Ideal.τ).loc Cert.Kernel11Ideal.main_arg0)) (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg2)) (m ((c : Thread Cert.Kernel11Ideal.nD Cert.Kernel11Ideal.τ).loc Cert.Kernel11Ideal.main_arg3)) (m ((c : Thread Cert.Kernel11Ideal.nD Cert.Kernel11Ideal.τ).loc Cert.Kernel11Ideal.main_arg4)) (m ((c : Thread Cert.Kernel11Ideal.nD Cert.Kernel11Ideal.τ).loc Cert.Kernel11Ideal.main_arg5))), ?_, ?_⟩
  · refine (θ_run Cert.Kernel11Ideal.defs _ _).mono (fun r h c => ?_) (Cert.Kernel11Ideal.Value.run_blocks m ρ)
    obtain ⟨h0, hk⟩ := h c
    exact ⟨h0.trans (arr m c), hk⟩
  · refine (θ_run Cert.Reference11Ideal.defs _ _).mono (fun r h c => ?_) (Cert.Reference11Ideal.Value.run m' ρ')
    obtain ⟨h0, hk⟩ := h c
    obtain ⟨e0, e1, e2, e3, e4, e5⟩ := hagree c
    refine ⟨h0.trans ?_, hk⟩
    · rw [e0, e1, e2, e3, e4, e5]
      exact ref_apply _ _ _ _ _ _

end Cert.WInGradHi
-- ==== Proof.OutProjNorm.lean ====
/- The mixers' projection added to the stream, and its rows normalised. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Lib.StableHlo.ReadAt

@[expose] public section

set_option maxRecDepth 16384

noncomputable section

namespace Cert.OutProjNorm

open Idealize.ShloMosaic Idealize.ShloMosaic.TcCoe Idealize.SL Idealize.SL.Sem

theorem frame_kernel : Cert.quiescent_Kernel13 := fun m ρ _ => Cert.Kernel13.Gen.frame m ρ

theorem frame_ideal : Cert.quiescent_Kernel13Ideal := fun m ρ _ => Cert.Kernel13Ideal.Gen.frame m ρ

section
open Cert.Kernel13Ideal Cert.Kernel13Ideal.Gen

variable (m : (ℓ : Loc nD τ sig) → Buf (Elt Ideal) ℓ) (c : Dev nD)

/-- A row against a column. -/
def dot (f g : Fin 1024 → EReal) : EReal := ∑ k : Fin 1024, f k * g k

/-- A row divided by its root mean square, scaled by one gain. -/
def norm (x : Fin 1024 → EReal) (g : EReal) (j : Fin 1024) : EReal :=
  x j * Ideal.rsqrt (Ideal.div (∑ k : Fin 1024, x k * x k) (Ideal.ofBits .f32 0x44800000#32) + Ideal.ofBits .f32 0x358637BD#32) * g

/-- The stream after the projection. -/
def G (a : S8320x1024.Idx → EReal) (w : S1024x1024.Idx → EReal) (h : S8320x1024.Idx → EReal) : S8320x1024.Idx → EReal := fun y =>
  h y + dot (fun k => a (ix2 (y 0) k)) (fun k => w (ix2 k (y 1)))

/-- Its rows normalised. -/
def G' (a : S8320x1024.Idx → EReal) (w : S1024x1024.Idx → EReal) (h : S8320x1024.Idx → EReal) (g : S1x1024.Idx → EReal) :
    S8320x1024.Idx → EReal := fun y => norm (fun k => G a w h (ix2 (y 0) k)) (g (ix2 0 (y 1))) (y 1)

theorem pay1_apply (a : Vec Ideal S832x1024 .bf16) (w : Vec Ideal S1024x1024 .bf16) (h : Vec Ideal S832x1024 .f32) (i : Fin 832) (j : Fin 1024) :
    k0_pay1 a w h (ix2 i j) = h (ix2 i j) + dot (fun k => a (ix2 i k)) (fun k => w (ix2 k j)) := by
  unfold dot
  pointwise [k0_pay1]

theorem pay2_apply (a : Vec Ideal S832x1024 .bf16) (w : Vec Ideal S1024x1024 .bf16) (h : Vec Ideal S832x1024 .f32) (g : Vec Ideal S1x1024 .f32) (i : Fin 832) (j : Fin 1024) :
    k0_pay2 a w h g (ix2 i j) = norm (fun k => k0_pay1 a w h (ix2 i k)) (g (ix2 0 j)) j := by
  unfold norm
  pointwise [k0_pay2]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem lt_points (t : Fin cfg0.N) : t.val < 10 := lt_of_lt_of_eq t.isLt N_0

theorem blk0 (t : Fin cfg0.N) (i : Fin 832) (k : Fin 1024) :
    iblk m c 0 t (ix2 i k) = m ((c : Thread nD τ).loc main_arg0) (ix2 ⟨t.val * 832 + i.val, by have := lt_points t; omega⟩ k) := by
  rw [← V_main_arg0 m c]
  blk_simp [iblk]
  congr 1
  blk_ext [idx0]

theorem blk1 (t : Fin cfg0.N) (i : Fin 1024) (k : Fin 1024) :
    iblk m c 1 t (ix2 i k) = m ((c : Thread nD τ).loc main_arg1) (ix2 i k) := by
  rw [← V_main_arg1 m c]
  blk_simp [iblk]
  congr 1
  blk_ext [idx1]

theorem blk2 (t : Fin cfg0.N) (i : Fin 832) (k : Fin 1024) :
    iblk m c 2 t (ix2 i k) = m ((c : Thread nD τ).loc main_arg2) (ix2 ⟨t.val * 832 + i.val, by have := lt_points t; omega⟩ k) := by
  rw [← V_main_arg2 m c]
  blk_simp [iblk]
  congr 1
  blk_ext [idx2]

theorem blk3 (t : Fin cfg0.N) (i : Fin 1) (k : Fin 1024) :
    iblk m c 3 t (ix2 i k) = m ((c : Thread nD τ).loc main_arg3) (ix2 i k) := by
  rw [← V_main_arg3 m c]
  blk_simp [iblk]
  congr 1
  blk_ext [idx3]

theorem emb4 (t : Fin cfg0.N) (i : Fin 832) (j : Fin 1024) : (win0_4.blk t).view.emb (ix2 i j)
    = ix2 (⟨t.val * 832 + i.val, by have := lt_points t; omega⟩ : Fin 8320) j := by
  blk_ext [idx4]

theorem emb5 (t : Fin cfg0.N) (i : Fin 832) (j : Fin 1024) : (win0_5.blk t).view.emb (ix2 i j)
    = ix2 (⟨t.val * 832 + i.val, by have := lt_points t; omega⟩ : Fin 8320) j := by
  blk_ext [idx5]

/-- One point's rows are the array's. -/
theorem pay1_blk (t : Fin cfg0.N) (i : Fin 832) (j : Fin 1024) :
    k0_pay1 (iblk m c 0 t) (iblk m c 1 t) (iblk m c 2 t) (ix2 i j)
      = G (m ((c : Thread nD τ).loc main_arg0)) (m ((c : Thread nD τ).loc main_arg1)) (m ((c : Thread nD τ).loc main_arg2))
          (ix2 ⟨t.val * 832 + i.val, by have := lt_points t; omega⟩ j) := by
  refine (pay1_apply _ _ _ i j).trans ?_
  simp only [blk0, blk1, blk2]
  rfl

theorem arr4 : (dats m 0 c).arrAt 4 cfg0.N
    = G (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨i, j, rfl⟩ : ∃ (i : Fin 832) (j : Fin 1024), y = ix2 i j := ⟨y 0, y 1, eq_ix2 y⟩
  rw [emb4]
  exact pay1_blk m c t i j

theorem arr5 : (dats m 0 c).arrAt 5 cfg0.N
    = G' (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  frame_out
  obtain ⟨i, j, rfl⟩ : ∃ (i : Fin 832) (j : Fin 1024), y = ix2 i j := ⟨y 0, y 1, eq_ix2 y⟩
  rw [emb5]
  refine (pay2_apply _ _ _ _ i j).trans ?_
  simp only [pay1_blk, blk3]
  rfl

theorem ref_apply (a : FVec Ideal S8320x1024 .bf16) (w : FVec Ideal S1024x1024 .bf16) (h : FVec Ideal S8320x1024 .f32) :
    addf h (Host.dotGeneral Cert.Reference13Ideal.dot_S8320x1024_S1024x1024_S8320x1024_1_0_0_1_n_n none (extf .f32 a Cert.Reference13Ideal.Facts₀.bitsLt_bf16_f32) (extf .f32 w Cert.Reference13Ideal.Facts₀.bitsLt_bf16_f32)) = G a w h := by
  funext y
  obtain ⟨i, j, rfl⟩ : ∃ (i : Fin 8320) (j : Fin 1024), y = ix2 i j := ⟨y 0, y 1, eq_ix2 y⟩
  unfold G dot
  pointwise

theorem ref_apply' (a : FVec Ideal S8320x1024 .bf16) (w : FVec Ideal S1024x1024 .bf16) (h : FVec Ideal S8320x1024 .f32)
    (g : FVec Ideal S1x1024 .f32) :
    truncf .bf16 (mulf (mulf (addf h (Host.dotGeneral Cert.Reference13Ideal.dot_S8320x1024_S1024x1024_S8320x1024_1_0_0_1_n_n none (extf .f32 a Cert.Reference13Ideal.Facts₀.bitsLt_bf16_f32) (extf .f32 w Cert.Reference13Ideal.Facts₀.bitsLt_bf16_f32))) (broadcastInDim Cert.Reference13Ideal.S8320x1024 ![0, 1] Cert.Reference13Ideal.Facts₀.bcast_S8320x1_S8320x1024_0_1 (Host.rsqrt (addf (Host.divf (broadcastInDim Cert.Reference13Ideal.S8320x1 ![0] Cert.Reference13Ideal.Facts₀.bcast_S8320_S8320x1_0 (Host.reduceAdd (mulf (addf h (Host.dotGeneral Cert.Reference13Ideal.dot_S8320x1024_S1024x1024_S8320x1024_1_0_0_1_n_n none (extf .f32 a Cert.Reference13Ideal.Facts₀.bitsLt_bf16_f32) (extf .f32 w Cert.Reference13Ideal.Facts₀.bitsLt_bf16_f32))) (addf h (Host.dotGeneral Cert.Reference13Ideal.dot_S8320x1024_S1024x1024_S8320x1024_1_0_0_1_n_n none (extf .f32 a Cert.Reference13Ideal.Facts₀.bitsLt_bf16_f32) (extf .f32 w Cert.Reference13Ideal.Facts₀.bitsLt_bf16_f32)))) (constant Cert.Reference13Ideal.S_ .f32 0x00000000#32) Cert.Reference13Ideal.Facts₀.reducesTo_S8320x1024_S8320_d1 Cert.Reference13Ideal.Facts₀.h_S_)) (broadcastInDim Cert.Reference13Ideal.S8320x1 ![] Cert.Reference13Ideal.Facts₀.bcast_S_S8320x1 (constant Cert.Reference13Ideal.S_ .f32 0x44800000#32))) (broadcastInDim Cert.Reference13Ideal.S8320x1 ![] Cert.Reference13Ideal.Facts₀.bcast_S_S8320x1 (constant Cert.Reference13Ideal.S_ .f32 0x358637BD#32)))))) (broadcastInDim Cert.Reference13Ideal.S8320x1024 ![0, 1] Cert.Reference13Ideal.Facts₀.bcast_S1x1024_S8320x1024_0_1 (broadcastInDim Cert.Reference13Ideal.S1x1024 ![1] Cert.Reference13Ideal.Facts₀.bcast_S1024_S1x1024_1 (shapeCast _ g Cert.Reference13Ideal.Facts₀.shapeCasts_S1x1024_S1024)))) Cert.Reference13Ideal.Facts₀.bitsLt_bf16_f32 = G' a w h g := by
  rw [ref_apply]
  funext y
  obtain ⟨i, j, rfl⟩ : ∃ (i : Fin 8320) (j : Fin 1024), y = ix2 i j := ⟨y 0, y 1, eq_ix2 y⟩
  unfold G' norm
  pointwise

end

theorem frame_reference : Cert.quiescent_Reference13Ideal := fun m ρ _ =>
  (θ_run Cert.Reference13Ideal.defs _ _).mono
    (fun r h => ⟨fun c => (h c).2.2, sem_eq_zero_of_no_sems (by decide) r.2⟩)
    (Cert.Reference13Ideal.Value.run m ρ)

theorem algebraic : Cert.algebraic_Kernel13Ideal_Reference13Ideal := by
  intro m ρ m' ρ' _ hagree
  refine ⟨(fun c => G (m ((c : Thread Cert.Kernel13Ideal.nD Cert.Kernel13Ideal.τ).loc Cert.Kernel13Ideal.main_arg0)) (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg2))), (fun c => G' (m ((c : Thread Cert.Kernel13Ideal.nD Cert.Kernel13Ideal.τ).loc Cert.Kernel13Ideal.main_arg0)) (m ((c : Thread Cert.Kernel13Ideal.nD Cert.Kernel13Ideal.τ).loc Cert.Kernel13Ideal.main_arg1)) (m ((c : Thread Cert.Kernel13Ideal.nD Cert.Kernel13Ideal.τ).loc Cert.Kernel13Ideal.main_arg2)) (m ((c : Thread Cert.Kernel13Ideal.nD Cert.Kernel13Ideal.τ).loc Cert.Kernel13Ideal.main_arg3))), ?_, ?_⟩
  · refine (θ_run Cert.Kernel13Ideal.defs _ _).mono (fun r h c => ?_) (Cert.Kernel13Ideal.Value.run_blocks m ρ)
    obtain ⟨h0, h1, hk⟩ := h c
    exact ⟨h0.trans (arr4 m c), h1.trans (arr5 m c), hk⟩
  · refine (θ_run Cert.Reference13Ideal.defs _ _).mono (fun r h c => ?_) (Cert.Reference13Ideal.Value.run m' ρ')
    obtain ⟨h0, h1, hk⟩ := h c
    obtain ⟨e0, e1, e2, e3⟩ := hagree c
    refine ⟨h0.trans ?_, h1.trans ?_, hk⟩
    · rw [e0, e1, e2]
      exact ref_apply _ _ _
    · rw [e0, e1, e2, e3]
      exact ref_apply' _ _ _ _

end Cert.OutProjNorm
-- ==== Proof.OutProjBwd.lean ====
/- The gradient through the output projection: each grid point takes one block of rows. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit
public import Idealize.ShloMosaic.Lib.StableHlo.ReadAt

@[expose] public section

set_option maxRecDepth 16384

noncomputable section

namespace Cert.OutProjBwd

open Idealize.ShloMosaic Idealize.ShloMosaic.TcCoe Idealize.SL Idealize.SL.Sem

theorem frame_kernel : Cert.quiescent_Kernel14 := fun m ρ _ => Cert.Kernel14.Gen.frame m ρ

theorem frame_ideal : Cert.quiescent_Kernel14Ideal := fun m ρ _ => Cert.Kernel14Ideal.Gen.frame m ρ

section
open Cert.Kernel14Ideal Cert.Kernel14Ideal.Gen

variable (m : (ℓ : Loc nD τ sig) → Buf (Elt Ideal) ℓ) (c : Dev nD)

/-- A row against a column. -/
def dot (f g : Fin 1024 → EReal) : EReal := ∑ k : Fin 1024, f k * g k

theorem dot_congr {f f' g g' : Fin 1024 → EReal} (hf : ∀ k, f k = f' k) (hg : ∀ k, g k = g' k) : dot f g = dot f' g' := by
  obtain rfl := funext hf
  obtain rfl := funext hg
  rfl

/-- The mixers' gradient: each row of the incoming gradient against the projection's rows. -/
def G (a : S8320x1024.Idx → EReal) (w : S1024x1024.Idx → EReal) : S8320x1024.Idx → EReal := fun y =>
  dot (fun k => a (ix2 (y 0) k)) (fun k => w (ix2 (y 1) k))

theorem pay_apply (a : Vec Ideal S832x1024 .bf16) (w : Vec Ideal S1024x1024 .bf16) (i : Fin 832) (j : Fin 1024) :
    k0_pay1 a w (ix2 i j) = dot (fun k => a (ix2 i k)) (fun k => w (ix2 j k)) := by
  unfold dot
  pointwise [k0_pay1]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem lt_points (t : Fin cfg0.N) : t.val < 10 := lt_of_lt_of_eq t.isLt N_0

theorem blk0 (t : Fin cfg0.N) (i : Fin 832) (k : Fin 1024) :
    iblk m c 0 t (ix2 i k) = m ((c : Thread nD τ).loc main_arg0) (ix2 ⟨t.val * 832 + i.val, by have := lt_points t; omega⟩ k) := by
  rw [← V_main_arg0 m c]
  blk_simp [iblk]
  congr 1
  blk_ext [idx0]

theorem blk1 (t : Fin cfg0.N) (i : Fin 1024) (k : Fin 1024) :
    iblk m c 1 t (ix2 i k) = m ((c : Thread nD τ).loc main_arg1) (ix2 i k) := by
  rw [← V_main_arg1 m c]
  blk_simp [iblk]
  congr 1
  blk_ext [idx1]

theorem emb2 (t : Fin cfg0.N) (i : Fin 832) (j : Fin 1024) : (win0_2.blk t).view.emb (ix2 i j)
    = ix2 (⟨t.val * 832 + i.val, by have := lt_points t; omega⟩ : Fin 8320) j := by
  blk_ext [idx2]

theorem arr : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨i, j, rfl⟩ : ∃ (i : Fin 832) (j : Fin 1024), y = ix2 i j := ⟨y 0, y 1, eq_ix2 y⟩
  refine (pay_apply _ _ i j).trans ?_
  refine dot_congr (fun k => ?_) (fun k => ?_)
  · rw [blk0]
    rw [emb2]
    rfl
  · rw [blk1]
    rw [emb2]
    rfl

theorem ref_apply (a : FVec Ideal S8320x1024 .bf16) (w : FVec Ideal S1024x1024 .bf16) :
    truncf .bf16 (Host.dotGeneral Cert.Reference14Ideal.dot_S8320x1024_S1024x1024_S8320x1024_1_1_0_0_n_n none
      (extf .f32 a Cert.Reference14Ideal.Facts₀.bitsLt_bf16_f32) (extf .f32 w Cert.Reference14Ideal.Facts₀.bitsLt_bf16_f32))
      Cert.Reference14Ideal.Facts₀.bitsLt_bf16_f32 = G a w := by
  funext y
  obtain ⟨i, j, rfl⟩ : ∃ (i : Fin 8320) (j : Fin 1024), y = ix2 i j := ⟨y 0, y 1, eq_ix2 y⟩
  unfold G dot
  pointwise

end

theorem frame_reference : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run m ρ)

theorem algebraic : Cert.algebraic_Kernel14Ideal_Reference14Ideal := by
  intro m ρ m' ρ' _ hagree
  refine ⟨(fun c => G (m ((c : Thread Cert.Kernel14Ideal.nD Cert.Kernel14Ideal.τ).loc Cert.Kernel14Ideal.main_arg0)) (m ((c : Thread Cert.Kernel14Ideal.nD Cert.Kernel14Ideal.τ).loc Cert.Kernel14Ideal.main_arg1))), ?_, ?_⟩
  · refine (θ_run Cert.Kernel14Ideal.defs _ _).mono (fun r h c => ?_) (Cert.Kernel14Ideal.Value.run_blocks m ρ)
    obtain ⟨h0, hk⟩ := h c
    exact ⟨h0.trans (arr m c), hk⟩
  · refine (θ_run Cert.Reference14Ideal.defs _ _).mono (fun r h c => ?_) (Cert.Reference14Ideal.Value.run m' ρ')
    obtain ⟨h0, hk⟩ := h c
    obtain ⟨e0, e1⟩ := hagree c
    refine ⟨h0.trans ?_, hk⟩
    · rw [e0, e1]
      exact ref_apply _ _

end Cert.OutProjBwd
-- ==== Proof.WOutGrad.lean ====
/- The gradient of the output projection: ten row blocks, each point adding one block's product. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import Idealize.ShloMosaic.Lib.StableHlo.ReadAt

@[expose] public section

set_option maxRecDepth 16384

noncomputable section

namespace Cert.WOutGrad

open Idealize.ShloMosaic Idealize.ShloMosaic.TcCoe Idealize.SL Idealize.SL.Sem

theorem frame_kernel : Cert.quiescent_Kernel15 := fun m ρ _ => Cert.Kernel15.Gen.frame m ρ

theorem frame_ideal : Cert.quiescent_Kernel15Ideal := fun m ρ _ => Cert.Kernel15Ideal.Gen.frame m ρ

section
open Cert.Kernel15Ideal Cert.Kernel15Ideal.Gen

variable (m : (ℓ : Loc nD τ sig) → Buf (Elt Ideal) ℓ) (c : Dev nD)

/-- The gradient: the mixers' columns against the incoming gradient's, over every row. -/
def G (a : S8320x1024.Idx → EReal) (b : S8320x1024.Idx → EReal) : S1024x1024.Idx → EReal := fun y =>
  ∑ r : Fin 8320, a (ix2 r (y 0)) * b (ix2 r (y 1))

/-- One point's product at an index. -/
theorem pay_apply (a b : Vec Ideal S832x1024 .bf16) (i j : Fin 1024) :
    k0_pay1 a b (ix2 i j) = ∑ r : Fin 832, a (ix2 r i) * b (ix2 r j) := by
  pointwise [k0_pay1]

theorem pay2_apply (a b : Vec Ideal S832x1024 .bf16) (s : Vec Ideal S1024x1024 .f32) (y : S1024x1024.Idx) :
    k0_pay2 a b s y = s y + k0_pay1 a b y := by
  obtain ⟨i, j, rfl⟩ : ∃ (i j : Fin 1024), y = ix2 i j := ⟨y 0, y 1, eq_ix2 y⟩
  pointwise [k0_pay2]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

theorem lt_points (t : Fin cfg0.N) : t.val < 10 := lt_of_lt_of_eq t.isLt N_0

theorem blk0 (t : Fin cfg0.N) (r : Fin 832) (i : Fin 1024) :
    iblk m c 0 t (ix2 r i) = m ((c : Thread nD τ).loc main_arg0) (ix2 ⟨t.val * 832 + r.val, by have := lt_points t; omega⟩ i) := by
  rw [← V_main_arg0 m c]
  blk_simp [iblk]
  congr 1
  blk_ext [idx0]

theorem blk1 (t : Fin cfg0.N) (r : Fin 832) (i : Fin 1024) :
    iblk m c 1 t (ix2 r i) = m ((c : Thread nD τ).loc main_arg1) (ix2 ⟨t.val * 832 + r.val, by have := lt_points t; omega⟩ i) := by
  rw [← V_main_arg1 m c]
  blk_simp [iblk]
  congr 1
  blk_ext [idx1]

theorem arr : (dats m 0 c).arrAt 2 cfg0.N
    = G (m ((c : Thread nD τ).loc main_arg0)) (m ((c : Thread nD τ).loc main_arg1)) := by
  refine (dats m 0 c).arrAt_eq_of_after_last 2 t0_9 (by decide +kernel) _ fun y => ?_
  blk_simp
  rw [after0_2]
  rw [Pipeline.eq_sum_fin_of_reset_step_apply_last (fun n h => outsAt0 m c n h) 10 (fun _ => 0)
    (fun p y => k0_pay1 (iblk m c 0 p) (iblk m c 1 p) y)
    (fun t h j => by rw [outsAt0_A m c t h (by have := lt_points t; omega)]; frame_out; rw [zero_add])
    (fun t h j => by rw [outsAt0_B m c t h (by omega)]; frame_out; rw [pay2_apply]) (le_of_eq N_0) t0_9 rfl y, zero_add]
  obtain ⟨i, j, rfl⟩ : ∃ (i j : Fin 1024), y = ix2 i j := ⟨y 0, y 1, eq_ix2 y⟩
  simp only [pay_apply, blk0, blk1]
  unfold G
  exact Fin.sum_mul_add_congr fun s r hl => rfl

theorem ref_apply (a : FVec Ideal S8320x1024 .bf16) (b : FVec Ideal S8320x1024 .bf16) :
    transpose Cert.Reference15Ideal.S1024x1024 [1, 0]
      (Host.dotGeneral Cert.Reference15Ideal.dot_S8320x1024_S8320x1024_S1024x1024_0_0_1_1_n_n none
        (extf .f32 b Cert.Reference15Ideal.Facts₀.bitsLt_bf16_f32) (extf .f32 a Cert.Reference15Ideal.Facts₀.bitsLt_bf16_f32))
      Cert.Reference15Ideal.Facts₀.transposes_S1024x1024_S1024x1024_1_0 = G a b := by
  funext y
  obtain ⟨i, j, rfl⟩ : ∃ (i j : Fin 1024), y = ix2 i j := ⟨y 0, y 1, eq_ix2 y⟩
  unfold G
  pointwise
  exact Finset.sum_congr rfl fun r _ => mul_comm _ _

end

theorem frame_reference : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run m ρ)

theorem algebraic : Cert.algebraic_Kernel15Ideal_Reference15Ideal := by
  intro m ρ m' ρ' _ hagree
  refine ⟨(fun c => G (m ((c : Thread Cert.Kernel15Ideal.nD Cert.Kernel15Ideal.τ).loc Cert.Kernel15Ideal.main_arg0)) (m ((c : Thread Cert.Kernel15Ideal.nD Cert.Kernel15Ideal.τ).loc Cert.Kernel15Ideal.main_arg1))), ?_, ?_⟩
  · refine (θ_run Cert.Kernel15Ideal.defs _ _).mono (fun r h c => ?_) (Cert.Kernel15Ideal.Value.run_blocks m ρ)
    obtain ⟨h0, hk⟩ := h c
    exact ⟨h0.trans (arr m c), hk⟩
  · refine (θ_run Cert.Reference15Ideal.defs _ _).mono (fun r h c => ?_) (Cert.Reference15Ideal.Value.run m' ρ')
    obtain ⟨h0, hk⟩ := h c
    obtain ⟨e0, e1⟩ := hagree c
    refine ⟨h0.trans ?_, hk⟩
    · rw [e0, e1]
      exact ref_apply _ _

end Cert.WOutGrad
-- ==== Proof.Adam.lean ====
/- One step of the optimiser for one entry of an array, over the extended reals. -/
module

public import Idealize.ShloMosaic.PureOps.Ideal.Laws

@[expose] public section

noncomputable section

namespace Cert.Adam

open Idealize.ShloMosaic

/-- The running mean of the gradient, from its last value `m` and the gradient `g`. -/
def mean (m g : EReal) : EReal := Ideal.ofBits .f32 0x3F666666#32 * m + Ideal.ofBits .f32 0x3DCCCCCD#32 * g

/-- The running mean of the gradient's square, from its last value `v`. -/
def square (v g : EReal) : EReal := Ideal.ofBits .f32 0x3F7FBE77#32 * v + Ideal.ofBits .f32 0x3A83126F#32 * (g * g)

/-- The weight's change: both means divided by what they lack after ten steps, one over the other's root, and the decay
    towards zero. -/
def change (w g m v : EReal) : EReal :=
  Ideal.ofBits .f32 0xBA83126F#32
    * (Ideal.div (Ideal.div (mean m g) (Ideal.ofBits .f32 0x3F26BD02#32))
        (Ideal.sqrt (Ideal.div (square v g) (Ideal.ofBits .f32 0x3C231ACC#32)) + Ideal.ofBits .f32 0x322BCC77#32)
      + Ideal.ofBits .f32 0x3C23D70A#32 * w)

end Cert.Adam
-- ==== Proof.AdamMeta.lean ====
/- The optimiser's step for the meta tokens. -/
module

public import proofs.«01_k».proof.Defs
public import proofs.«01_k».proof.Proof.Adam
public import proofs.«01_k».proof.Proof.Gen.Kernel16.Frame
public import proofs.«01_k».proof.Proof.Gen.Kernel16Ideal.Value
public import proofs.«01_k».proof.Proof.Gen.Reference16Ideal.Run
public import Idealize.ShloMosaic.Lib.Pointwise

@[expose] public section

set_option maxRecDepth 16384

noncomputable section

namespace Cert.AdamMeta

open Idealize.ShloMosaic Idealize.ShloMosaic.TcCoe Idealize.SL Idealize.SL.Sem Cert.Adam

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := fun m ρ _ =>
  (θ_run Cert.Reference16Ideal.defs _ _).mono
    (fun r h => ⟨fun c => (h c).2.2.2, sem_eq_zero_of_no_sems (by decide) r.2⟩)
    (Cert.Reference16Ideal.Value.run m ρ)

open Cert.Kernel16Ideal in
/-- Every entry of the three results is the step for that entry. -/
theorem algebraic : Cert.algebraic_Kernel16Ideal_Reference16Ideal := by
  intro m ρ m' ρ' _ hagree
  refine ⟨fun c => fun y => change (m ((c : Thread nD τ).loc main_arg0) y) (m ((c : Thread nD τ).loc main_arg1) y)
      (m ((c : Thread nD τ).loc main_arg2) y) (m ((c : Thread nD τ).loc main_arg3) y),
    fun c => fun y => mean (m ((c : Thread nD τ).loc main_arg2) y) (m ((c : Thread nD τ).loc main_arg1) y),
    fun c => fun y => square (m ((c : Thread nD τ).loc main_arg3) y) (m ((c : Thread nD τ).loc main_arg1) y), ?_, ?_⟩
  · refine (θ_run defs _ _).mono (fun r h c => ?_) (Value.run m ρ)
    obtain ⟨h0, h1, h2, hk⟩ := h c
    refine ⟨h0.trans ?_, h1.trans ?_, h2.trans ?_, hk⟩ <;> funext y
    all_goals rfl
  · refine (θ_run Cert.Reference16Ideal.defs _ _).mono (fun r h c => ?_) (Cert.Reference16Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      rfl
    · rw [e1, e2]
      rfl
    · rw [e1, e3]
      rfl

end Cert.AdamMeta
-- ==== Proof.AdamGain.lean ====
/- The optimiser's step for the norms' gains. -/
module

public import proofs.«01_k».proof.Defs
public import proofs.«01_k».proof.Proof.Adam
public import proofs.«01_k».proof.Proof.Gen.Kernel17.Frame
public import proofs.«01_k».proof.Proof.Gen.Kernel17Ideal.Value
public import proofs.«01_k».proof.Proof.Gen.Reference17Ideal.Run
public import Idealize.ShloMosaic.Lib.Pointwise

@[expose] public section

set_option maxRecDepth 16384

noncomputable section

namespace Cert.AdamGain

open Idealize.ShloMosaic Idealize.ShloMosaic.TcCoe Idealize.SL Idealize.SL.Sem Cert.Adam

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := fun m ρ _ =>
  (θ_run Cert.Reference17Ideal.defs _ _).mono
    (fun r h => ⟨fun c => (h c).2.2.2, sem_eq_zero_of_no_sems (by decide) r.2⟩)
    (Cert.Reference17Ideal.Value.run m ρ)

open Cert.Kernel17Ideal in
/-- Every entry of the three results is the step for that entry. -/
theorem algebraic : Cert.algebraic_Kernel17Ideal_Reference17Ideal := by
  intro m ρ m' ρ' _ hagree
  refine ⟨fun c => fun y => change (m ((c : Thread nD τ).loc main_arg0) y) (m ((c : Thread nD τ).loc main_arg1) y)
      (m ((c : Thread nD τ).loc main_arg2) y) (m ((c : Thread nD τ).loc main_arg3) y),
    fun c => fun y => mean (m ((c : Thread nD τ).loc main_arg2) y) (m ((c : Thread nD τ).loc main_arg1) y),
    fun c => fun y => square (m ((c : Thread nD τ).loc main_arg3) y) (m ((c : Thread nD τ).loc main_arg1) y), ?_, ?_⟩
  · refine (θ_run defs _ _).mono (fun r h c => ?_) (Value.run m ρ)
    obtain ⟨h0, h1, h2, hk⟩ := h c
    refine ⟨h0.trans ?_, h1.trans ?_, h2.trans ?_, hk⟩ <;> funext y
    all_goals rfl
  · refine (θ_run Cert.Reference17Ideal.defs _ _).mono (fun r h c => ?_) (Cert.Reference17Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      rfl
    · rw [e1, e2]
      rfl
    · rw [e1, e3]
      rfl

end Cert.AdamGain
-- ==== Proof.AdamWIn.lean ====
/- The optimiser's step for w_in, whose columns the call takes as rows: each grid point takes 82 of the 902. -/
module

public import proofs.«01_k».proof.Defs
public import proofs.«01_k».proof.Proof.Adam
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit
public import Idealize.ShloMosaic.Lib.StableHlo.ReadAt

@[expose] public section

set_option maxRecDepth 16384

noncomputable section

namespace Cert.AdamWIn

open Idealize.ShloMosaic Idealize.ShloMosaic.TcCoe Idealize.SL Idealize.SL.Sem Cert.Adam

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := fun m ρ _ =>
  (θ_run Cert.Reference18Ideal.defs _ _).mono
    (fun r h => ⟨fun c => (h c).2.2.2, sem_eq_zero_of_no_sems (by decide) r.2⟩)
    (Cert.Reference18Ideal.Value.run m ρ)

section
open Cert.Kernel18Ideal Cert.Kernel18Ideal.Gen

variable (m : (ℓ : Loc nD τ sig) → Buf (Elt Ideal) ℓ) (c : Dev nD)

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)

theorem lt_points (t : Fin cfg0.N) : t.val < 11 := lt_of_lt_of_eq t.isLt N_0

/-- A point's row in the array. -/
def row (t : Fin cfg0.N) (i : Fin 82) : Fin 902 := ⟨t.val * 82 + i.val, by have := lt_points t; omega⟩

theorem blk0 (t : Fin cfg0.N) (i : Fin 82) (o : Fin 1) (k : Fin 1024) :
    iblk m c 0 t (ix3 i o k) = m ((c : Thread nD τ).loc main_arg0) (ix3 (row t i) o k) := by
  unfold row
  rw [← V_main_arg0 m c]
  blk_simp [iblk]
  congr 1
  blk_ext [idx0]

theorem blk1 (t : Fin cfg0.N) (i : Fin 82) (o : Fin 1) (k : Fin 1024) :
    iblk m c 1 t (ix3 i o k) = m ((c : Thread nD τ).loc main_arg1) (ix3 (row t i) o k) := by
  unfold row
  rw [← V_main_arg1 m c]
  blk_simp [iblk]
  congr 1
  blk_ext [idx1]

theorem blk2 (t : Fin cfg0.N) (i : Fin 82) (o : Fin 1) (k : Fin 1024) :
    iblk m c 2 t (ix3 i o k) = m ((c : Thread nD τ).loc main_arg2) (ix3 (row t i) o k) := by
  unfold row
  rw [← V_main_arg2 m c]
  blk_simp [iblk]
  congr 1
  blk_ext [idx2]

theorem blk3 (t : Fin cfg0.N) (i : Fin 82) (o : Fin 1) (k : Fin 1024) :
    iblk m c 3 t (ix3 i o k) = m ((c : Thread nD τ).loc main_arg3) (ix3 (row t i) o k) := by
  unfold row
  rw [← V_main_arg3 m c]
  blk_simp [iblk]
  congr 1
  blk_ext [idx3]

theorem emb4 (t : Fin cfg0.N) (i : Fin 82) (o : Fin 1) (k : Fin 1024) :
    (win0_4.blk t).view.emb (ix3 i o k) = ix3 (row t i) o k := by
  unfold row
  blk_ext [idx4]

theorem emb5 (t : Fin cfg0.N) (i : Fin 82) (o : Fin 1) (k : Fin 1024) :
    (win0_5.blk t).view.emb (ix3 i o k) = ix3 (row t i) o k := by
  unfold row
  blk_ext [idx5]

theorem emb6 (t : Fin cfg0.N) (i : Fin 82) (o : Fin 1) (k : Fin 1024) :
    (win0_6.blk t).view.emb (ix3 i o k) = ix3 (row t i) o k := by
  unfold row
  blk_ext [idx6]

theorem pay1_apply (g a : Vec Ideal S82x1x1024 .f32) (y : S82x1x1024.Idx) : k0_pay1 g a y = mean (a y) (g y) := rfl

theorem pay2_apply (g v : Vec Ideal S82x1x1024 .f32) (y : S82x1x1024.Idx) : k0_pay2 g v y = square (v y) (g y) := rfl

theorem pay3_apply (g a v w : Vec Ideal S82x1x1024 .f32) (y : S82x1x1024.Idx) :
    k0_pay3 g a v w y = change (w y) (g y) (a y) (v y) := rfl

/-- The weight's change after the run, entry by entry. -/
theorem arr4 : (dats m 0 c).arrAt 4 cfg0.N = fun y => change (m ((c : Thread nD τ).loc main_arg0) y)
    (m ((c : Thread nD τ).loc main_arg1) y) (m ((c : Thread nD τ).loc main_arg2) y) (m ((c : Thread nD τ).loc main_arg3) y) := by
  refine (dats m 0 c).arrAt_eq_of_covers 4 _ (by decide +kernel) fun t hf y => ?_
  blk_simp
  rw [after0_4]
  frame_out
  obtain ⟨i, o, k, rfl⟩ : ∃ (i : Fin 82) (o : Fin 1) (k : Fin 1024), y = ix3 i o k := ⟨y 0, y 1, y 2, eq_ix3 y⟩
  rw [emb4]
  refine (pay3_apply _ _ _ _ _).trans ?_
  rw [blk0, blk1, blk2, blk3]

/-- The gradient's mean after the run. -/
theorem arr5 : (dats m 0 c).arrAt 5 cfg0.N = fun y => mean (m ((c : Thread nD τ).loc main_arg2) y)
    (m ((c : Thread nD τ).loc main_arg1) y) := by
  refine (dats m 0 c).arrAt_eq_of_covers 5 _ (by decide +kernel) fun t hf y => ?_
  blk_simp
  rw [after0_5]
  frame_out
  obtain ⟨i, o, k, rfl⟩ : ∃ (i : Fin 82) (o : Fin 1) (k : Fin 1024), y = ix3 i o k := ⟨y 0, y 1, y 2, eq_ix3 y⟩
  rw [emb5]
  refine (pay1_apply _ _ _).trans ?_
  rw [blk1, blk2]

/-- The mean of its square after the run. -/
theorem arr6 : (dats m 0 c).arrAt 6 cfg0.N = fun y => square (m ((c : Thread nD τ).loc main_arg3) y)
    (m ((c : Thread nD τ).loc main_arg1) y) := by
  refine (dats m 0 c).arrAt_eq_of_covers 6 _ (by decide +kernel) fun t hf y => ?_
  blk_simp
  rw [after0_6]
  frame_out
  obtain ⟨i, o, k, rfl⟩ : ∃ (i : Fin 82) (o : Fin 1) (k : Fin 1024), y = ix3 i o k := ⟨y 0, y 1, y 2, eq_ix3 y⟩
  rw [emb6]
  refine (pay2_apply _ _ _).trans ?_
  rw [blk1, blk3]

end

open Cert.Kernel18Ideal in
/-- Every entry of the three results is the step for that entry. -/
theorem algebraic : Cert.algebraic_Kernel18Ideal_Reference18Ideal := by
  intro m ρ m' ρ' _ hagree
  refine ⟨fun c => fun y => change (m ((c : Thread nD τ).loc main_arg0) y) (m ((c : Thread nD τ).loc main_arg1) y)
      (m ((c : Thread nD τ).loc main_arg2) y) (m ((c : Thread nD τ).loc main_arg3) y),
    fun c => fun y => mean (m ((c : Thread nD τ).loc main_arg2) y) (m ((c : Thread nD τ).loc main_arg1) y),
    fun c => fun y => square (m ((c : Thread nD τ).loc main_arg3) y) (m ((c : Thread nD τ).loc main_arg1) y), ?_, ?_⟩
  · refine (θ_run defs _ _).mono (fun r h c => ?_) (Value.run_blocks m ρ)
    obtain ⟨h0, h1, h2, _, hk⟩ := h c
    exact ⟨h0.trans (arr4 m c), h1.trans (arr5 m c), h2.trans (arr6 m c), hk⟩
  · refine (θ_run Cert.Reference18Ideal.defs _ _).mono (fun r h c => ?_) (Cert.Reference18Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      rfl
    · rw [e1, e2]
      rfl
    · rw [e1, e3]
      rfl

end Cert.AdamWIn
-- ==== Proof.AdamConv.lean ====
/- The optimiser's step for the convolution's taps. -/
module

public import proofs.«01_k».proof.Defs
public import proofs.«01_k».proof.Proof.Adam
public import proofs.«01_k».proof.Proof.Gen.Kernel19.Frame
public import proofs.«01_k».proof.Proof.Gen.Kernel19Ideal.Value
public import proofs.«01_k».proof.Proof.Gen.Reference19Ideal.Run
public import Idealize.ShloMosaic.Lib.Pointwise

@[expose] public section

set_option maxRecDepth 16384

noncomputable section

namespace Cert.AdamConv

open Idealize.ShloMosaic Idealize.ShloMosaic.TcCoe Idealize.SL Idealize.SL.Sem Cert.Adam

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_reference : Cert.quiescent_Reference19Ideal := fun m ρ _ =>
  (θ_run Cert.Reference19Ideal.defs _ _).mono
    (fun r h => ⟨fun c => (h c).2.2.2, sem_eq_zero_of_no_sems (by decide) r.2⟩)
    (Cert.Reference19Ideal.Value.run m ρ)

/-- A leading axis of length one adds nothing to an index. -/
theorem cast_apply (g : FVec Ideal Cert.Reference19Ideal.S4x384 .f32) (y : Cert.Reference19Ideal.S1x4x384.Idx) :
    shapeCast Cert.Reference19Ideal.S1x4x384 g Cert.Reference19Ideal.Facts₀.shapeCasts_S4x384_S1x4x384 y = g (ix2 (y 1) (y 2)) := by
  obtain ⟨o, i, j, rfl⟩ : ∃ (o : Fin 1) (i : Fin 4) (j : Fin 384), y = ix3 o i j := ⟨y 0, y 1, y 2, eq_ix3 y⟩
  pointwise

set_option maxHeartbeats 400000 in
open Cert.Kernel19Ideal in
/-- Every entry of the three results is the step for that entry. -/
theorem algebraic : Cert.algebraic_Kernel19Ideal_Reference19Ideal := by
  intro m ρ m' ρ' _ hagree
  refine ⟨fun c => fun y => change (m ((c : Thread nD τ).loc main_arg0) y) (m ((c : Thread nD τ).loc main_arg1) (ix2 (y 1) (y 2)))
      (m ((c : Thread nD τ).loc main_arg2) y) (m ((c : Thread nD τ).loc main_arg3) y),
    fun c => fun y => mean (m ((c : Thread nD τ).loc main_arg2) y) (m ((c : Thread nD τ).loc main_arg1) (ix2 (y 1) (y 2))),
    fun c => fun y => square (m ((c : Thread nD τ).loc main_arg3) y) (m ((c : Thread nD τ).loc main_arg1) (ix2 (y 1) (y 2))), ?_, ?_⟩
  · refine (θ_run defs _ _).mono (fun r h c => ?_) (Value.run m ρ)
    obtain ⟨h0, h1, h2, hk⟩ := h c
    refine ⟨h0.trans ?_, h1.trans ?_, h2.trans ?_, hk⟩ <;> funext y
    all_goals obtain ⟨o, i, j, rfl⟩ : ∃ (o : Fin 1) (i : Fin 4) (j : Fin 384), y = ix3 o i j := ⟨y 0, y 1, y 2, eq_ix3 y⟩
    all_goals obtain rfl : o = 0 := Subsingleton.elim _ _
    · unfold change mean square
      pointwise [Value.G4, Gen.k0_pay5, Gen.k0_pay3, Gen.k0_pay4]
    · unfold mean
      pointwise [Value.G5, Gen.k0_pay1, Gen.k0_pay3]
    · unfold square
      pointwise [Value.G6, Gen.k0_pay2, Gen.k0_pay4]
  · refine (θ_run Cert.Reference19Ideal.defs _ _).mono (fun r h c => ?_) (Cert.Reference19Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      exact congrArg (fun z => change (m ((c : Thread nD τ).loc main_arg0) y) z (m ((c : Thread nD τ).loc main_arg2) y)
        (m ((c : Thread nD τ).loc main_arg3) y)) (cast_apply (m ((c : Thread nD τ).loc main_arg1)) y)
    · rw [e1, e2]
      exact congrArg (fun z => mean (m ((c : Thread nD τ).loc main_arg2) y) z) (cast_apply (m ((c : Thread nD τ).loc main_arg1)) y)
    · rw [e1, e3]
      exact congrArg (fun z => square (m ((c : Thread nD τ).loc main_arg3) y) z) (cast_apply (m ((c : Thread nD τ).loc main_arg1)) y)

end Cert.AdamConv
-- ==== Proof.AdamDecay.lean ====
/- The optimiser's step for the decays and their offsets, one per head. -/
module

public import proofs.«01_k».proof.Defs
public import proofs.«01_k».proof.Proof.Adam
public import proofs.«01_k».proof.Proof.Gen.Kernel20.Frame
public import proofs.«01_k».proof.Proof.Gen.Kernel20Ideal.Value
public import proofs.«01_k».proof.Proof.Gen.Reference20Ideal.Run
public import Idealize.ShloMosaic.Lib.Pointwise

@[expose] public section

set_option maxRecDepth 16384

noncomputable section

namespace Cert.AdamDecay

open Idealize.ShloMosaic Idealize.ShloMosaic.TcCoe Idealize.SL Idealize.SL.Sem Cert.Adam

theorem frame_kernel : Cert.quiescent_Kernel20 := fun m ρ _ => Cert.Kernel20.Gen.frame m ρ

theorem frame_ideal : Cert.quiescent_Kernel20Ideal := fun m ρ _ => Cert.Kernel20Ideal.Gen.frame m ρ

theorem frame_reference : Cert.quiescent_Reference20Ideal := fun m ρ _ =>
  (θ_run Cert.Reference20Ideal.defs _ _).mono
    (fun r h => ⟨fun c => (h c).2.2.2, sem_eq_zero_of_no_sems (by decide) r.2⟩)
    (Cert.Reference20Ideal.Value.run m ρ)

open Cert.Kernel20Ideal in
/-- Every entry of the three results is the step for that entry. -/
theorem algebraic : Cert.algebraic_Kernel20Ideal_Reference20Ideal := by
  intro m ρ m' ρ' _ hagree
  refine ⟨fun c => fun y => change (m ((c : Thread nD τ).loc main_arg0) y) (m ((c : Thread nD τ).loc main_arg1) y)
      (m ((c : Thread nD τ).loc main_arg2) y) (m ((c : Thread nD τ).loc main_arg3) y),
    fun c => fun y => mean (m ((c : Thread nD τ).loc main_arg2) y) (m ((c : Thread nD τ).loc main_arg1) y),
    fun c => fun y => square (m ((c : Thread nD τ).loc main_arg3) y) (m ((c : Thread nD τ).loc main_arg1) y), ?_, ?_⟩
  · refine (θ_run defs _ _).mono (fun r h c => ?_) (Value.run m ρ)
    obtain ⟨h0, h1, h2, hk⟩ := h c
    refine ⟨h0.trans ?_, h1.trans ?_, h2.trans ?_, hk⟩ <;> funext y
    all_goals rfl
  · refine (θ_run Cert.Reference20Ideal.defs _ _).mono (fun r h c => ?_) (Cert.Reference20Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      rfl
    · rw [e1, e2]
      rfl
    · rw [e1, e3]
      rfl

end Cert.AdamDecay
-- ==== Proof.AdamHeadGain.lean ====
/- The optimiser's step for the gains of the heads' norms. -/
module

public import proofs.«01_k».proof.Defs
public import proofs.«01_k».proof.Proof.Adam
public import proofs.«01_k».proof.Proof.Gen.Kernel21.Frame
public import proofs.«01_k».proof.Proof.Gen.Kernel21Ideal.Value
public import proofs.«01_k».proof.Proof.Gen.Reference21Ideal.Run
public import Idealize.ShloMosaic.Lib.Pointwise

@[expose] public section

set_option maxRecDepth 16384

noncomputable section

namespace Cert.AdamHeadGain

open Idealize.ShloMosaic Idealize.ShloMosaic.TcCoe Idealize.SL Idealize.SL.Sem Cert.Adam

theorem frame_kernel : Cert.quiescent_Kernel21 := fun m ρ _ => Cert.Kernel21.Gen.frame m ρ

theorem frame_ideal : Cert.quiescent_Kernel21Ideal := fun m ρ _ => Cert.Kernel21Ideal.Gen.frame m ρ

theorem frame_reference : Cert.quiescent_Reference21Ideal := fun m ρ _ =>
  (θ_run Cert.Reference21Ideal.defs _ _).mono
    (fun r h => ⟨fun c => (h c).2.2.2, sem_eq_zero_of_no_sems (by decide) r.2⟩)
    (Cert.Reference21Ideal.Value.run m ρ)

open Cert.Kernel21Ideal in
/-- Every entry of the three results is the step for that entry. -/
theorem algebraic : Cert.algebraic_Kernel21Ideal_Reference21Ideal := by
  intro m ρ m' ρ' _ hagree
  refine ⟨fun c => fun y => change (m ((c : Thread nD τ).loc main_arg0) y) (m ((c : Thread nD τ).loc main_arg1) y)
      (m ((c : Thread nD τ).loc main_arg2) y) (m ((c : Thread nD τ).loc main_arg3) y),
    fun c => fun y => mean (m ((c : Thread nD τ).loc main_arg2) y) (m ((c : Thread nD τ).loc main_arg1) y),
    fun c => fun y => square (m ((c : Thread nD τ).loc main_arg3) y) (m ((c : Thread nD τ).loc main_arg1) y), ?_, ?_⟩
  · refine (θ_run defs _ _).mono (fun r h c => ?_) (Value.run m ρ)
    obtain ⟨h0, h1, h2, hk⟩ := h c
    refine ⟨h0.trans ?_, h1.trans ?_, h2.trans ?_, hk⟩ <;> funext y
    all_goals rfl
  · refine (θ_run Cert.Reference21Ideal.defs _ _).mono (fun r h c => ?_) (Cert.Reference21Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      rfl
    · rw [e1, e2]
      rfl
    · rw [e1, e3]
      rfl

end Cert.AdamHeadGain
-- ==== Proof.AdamGate.lean ====
/- The optimiser's step for the gates' low-rank factor. -/
module

public import proofs.«01_k».proof.Defs
public import proofs.«01_k».proof.Proof.Adam
public import proofs.«01_k».proof.Proof.Gen.Kernel22.Frame
public import proofs.«01_k».proof.Proof.Gen.Kernel22Ideal.Value
public import proofs.«01_k».proof.Proof.Gen.Reference22Ideal.Run
public import Idealize.ShloMosaic.Lib.Pointwise

@[expose] public section

set_option maxRecDepth 16384

noncomputable section

namespace Cert.AdamGate

open Idealize.ShloMosaic Idealize.ShloMosaic.TcCoe Idealize.SL Idealize.SL.Sem Cert.Adam

theorem frame_kernel : Cert.quiescent_Kernel22 := fun m ρ _ => Cert.Kernel22.Gen.frame m ρ

theorem frame_ideal : Cert.quiescent_Kernel22Ideal := fun m ρ _ => Cert.Kernel22Ideal.Gen.frame m ρ

theorem frame_reference : Cert.quiescent_Reference22Ideal := fun m ρ _ =>
  (θ_run Cert.Reference22Ideal.defs _ _).mono
    (fun r h => ⟨fun c => (h c).2.2.2, sem_eq_zero_of_no_sems (by decide) r.2⟩)
    (Cert.Reference22Ideal.Value.run m ρ)

/-- A leading axis of length one adds nothing to an index. -/
theorem cast_apply (g : FVec Ideal Cert.Reference22Ideal.S16x64 .f32) (y : Cert.Reference22Ideal.S1x16x64.Idx) :
    shapeCast Cert.Reference22Ideal.S1x16x64 g Cert.Reference22Ideal.Facts₀.shapeCasts_S16x64_S1x16x64 y = g (ix2 (y 1) (y 2)) := by
  obtain ⟨o, i, j, rfl⟩ : ∃ (o : Fin 1) (i : Fin 16) (j : Fin 64), y = ix3 o i j := ⟨y 0, y 1, y 2, eq_ix3 y⟩
  pointwise

set_option maxHeartbeats 400000 in
open Cert.Kernel22Ideal in
/-- Every entry of the three results is the step for that entry. -/
theorem algebraic : Cert.algebraic_Kernel22Ideal_Reference22Ideal := by
  intro m ρ m' ρ' _ hagree
  refine ⟨fun c => fun y => change (m ((c : Thread nD τ).loc main_arg0) y) (m ((c : Thread nD τ).loc main_arg1) (ix2 (y 1) (y 2)))
      (m ((c : Thread nD τ).loc main_arg2) y) (m ((c : Thread nD τ).loc main_arg3) y),
    fun c => fun y => mean (m ((c : Thread nD τ).loc main_arg2) y) (m ((c : Thread nD τ).loc main_arg1) (ix2 (y 1) (y 2))),
    fun c => fun y => square (m ((c : Thread nD τ).loc main_arg3) y) (m ((c : Thread nD τ).loc main_arg1) (ix2 (y 1) (y 2))), ?_, ?_⟩
  · refine (θ_run defs _ _).mono (fun r h c => ?_) (Value.run m ρ)
    obtain ⟨h0, h1, h2, hk⟩ := h c
    refine ⟨h0.trans ?_, h1.trans ?_, h2.trans ?_, hk⟩ <;> funext y
    all_goals obtain ⟨o, i, j, rfl⟩ : ∃ (o : Fin 1) (i : Fin 16) (j : Fin 64), y = ix3 o i j := ⟨y 0, y 1, y 2, eq_ix3 y⟩
    all_goals obtain rfl : o = 0 := Subsingleton.elim _ _
    · unfold change mean square
      pointwise [Value.G4, Gen.k0_pay5, Gen.k0_pay3, Gen.k0_pay4]
    · unfold mean
      pointwise [Value.G5, Gen.k0_pay1, Gen.k0_pay3]
    · unfold square
      pointwise [Value.G6, Gen.k0_pay2, Gen.k0_pay4]
  · refine (θ_run Cert.Reference22Ideal.defs _ _).mono (fun r h c => ?_) (Cert.Reference22Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      exact congrArg (fun z => change (m ((c : Thread nD τ).loc main_arg0) y) z (m ((c : Thread nD τ).loc main_arg2) y)
        (m ((c : Thread nD τ).loc main_arg3) y)) (cast_apply (m ((c : Thread nD τ).loc main_arg1)) y)
    · rw [e1, e2]
      exact congrArg (fun z => mean (m ((c : Thread nD τ).loc main_arg2) y) z) (cast_apply (m ((c : Thread nD τ).loc main_arg1)) y)
    · rw [e1, e3]
      exact congrArg (fun z => square (m ((c : Thread nD τ).loc main_arg3) y) z) (cast_apply (m ((c : Thread nD τ).loc main_arg1)) y)

end Cert.AdamGate
-- ==== Proof.AdamBias.lean ====
/- The optimiser's step for the gates' offset. -/
module

public import proofs.«01_k».proof.Defs
public import proofs.«01_k».proof.Proof.Adam
public import proofs.«01_k».proof.Proof.Gen.Kernel23.Frame
public import proofs.«01_k».proof.Proof.Gen.Kernel23Ideal.Value
public import proofs.«01_k».proof.Proof.Gen.Reference23Ideal.Run
public import Idealize.ShloMosaic.Lib.Pointwise

@[expose] public section

set_option maxRecDepth 16384

noncomputable section

namespace Cert.AdamBias

open Idealize.ShloMosaic Idealize.ShloMosaic.TcCoe Idealize.SL Idealize.SL.Sem Cert.Adam

theorem frame_kernel : Cert.quiescent_Kernel23 := fun m ρ _ => Cert.Kernel23.Gen.frame m ρ

theorem frame_ideal : Cert.quiescent_Kernel23Ideal := fun m ρ _ => Cert.Kernel23Ideal.Gen.frame m ρ

theorem frame_reference : Cert.quiescent_Reference23Ideal := fun m ρ _ =>
  (θ_run Cert.Reference23Ideal.defs _ _).mono
    (fun r h => ⟨fun c => (h c).2.2.2, sem_eq_zero_of_no_sems (by decide) r.2⟩)
    (Cert.Reference23Ideal.Value.run m ρ)

open Cert.Kernel23Ideal in
/-- Every entry of the three results is the step for that entry. -/
theorem algebraic : Cert.algebraic_Kernel23Ideal_Reference23Ideal := by
  intro m ρ m' ρ' _ hagree
  refine ⟨fun c => fun y => change (m ((c : Thread nD τ).loc main_arg0) y) (m ((c : Thread nD τ).loc main_arg1) y)
      (m ((c : Thread nD τ).loc main_arg2) y) (m ((c : Thread nD τ).loc main_arg3) y),
    fun c => fun y => mean (m ((c : Thread nD τ).loc main_arg2) y) (m ((c : Thread nD τ).loc main_arg1) y),
    fun c => fun y => square (m ((c : Thread nD τ).loc main_arg3) y) (m ((c : Thread nD τ).loc main_arg1) y), ?_, ?_⟩
  · refine (θ_run defs _ _).mono (fun r h c => ?_) (Value.run m ρ)
    obtain ⟨h0, h1, h2, hk⟩ := h c
    refine ⟨h0.trans ?_, h1.trans ?_, h2.trans ?_, hk⟩ <;> funext y
    all_goals rfl
  · refine (θ_run Cert.Reference23Ideal.defs _ _).mono (fun r h c => ?_) (Cert.Reference23Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      rfl
    · rw [e1, e2]
      rfl
    · rw [e1, e3]
      rfl

end Cert.AdamBias
-- ==== Proof.AdamWOut.lean ====
/- The optimiser's step for the mixers' projection. -/
module

public import proofs.«01_k».proof.Defs
public import proofs.«01_k».proof.Proof.Adam
public import proofs.«01_k».proof.Proof.Gen.Kernel24.Frame
public import proofs.«01_k».proof.Proof.Gen.Kernel24Ideal.Value
public import proofs.«01_k».proof.Proof.Gen.Reference24Ideal.Run
public import Idealize.ShloMosaic.Lib.Pointwise

@[expose] public section

set_option maxRecDepth 16384

noncomputable section

namespace Cert.AdamWOut

open Idealize.ShloMosaic Idealize.ShloMosaic.TcCoe Idealize.SL Idealize.SL.Sem Cert.Adam

theorem frame_kernel : Cert.quiescent_Kernel24 := fun m ρ _ => Cert.Kernel24.Gen.frame m ρ

theorem frame_ideal : Cert.quiescent_Kernel24Ideal := fun m ρ _ => Cert.Kernel24Ideal.Gen.frame m ρ

theorem frame_reference : Cert.quiescent_Reference24Ideal := fun m ρ _ =>
  (θ_run Cert.Reference24Ideal.defs _ _).mono
    (fun r h => ⟨fun c => (h c).2.2.2, sem_eq_zero_of_no_sems (by decide) r.2⟩)
    (Cert.Reference24Ideal.Value.run m ρ)

/-- A leading axis of length one adds nothing to an index. -/
theorem cast_apply (g : FVec Ideal Cert.Reference24Ideal.S256x1024 .f32) (y : Cert.Reference24Ideal.S1x256x1024.Idx) :
    shapeCast Cert.Reference24Ideal.S1x256x1024 g Cert.Reference24Ideal.Facts₀.shapeCasts_S256x1024_S1x256x1024 y = g (ix2 (y 1) (y 2)) := by
  obtain ⟨o, i, j, rfl⟩ : ∃ (o : Fin 1) (i : Fin 256) (j : Fin 1024), y = ix3 o i j := ⟨y 0, y 1, y 2, eq_ix3 y⟩
  pointwise

set_option maxHeartbeats 400000 in
open Cert.Kernel24Ideal in
/-- Every entry of the three results is the step for that entry. -/
theorem algebraic : Cert.algebraic_Kernel24Ideal_Reference24Ideal := by
  intro m ρ m' ρ' _ hagree
  refine ⟨fun c => fun y => change (m ((c : Thread nD τ).loc main_arg0) y) (m ((c : Thread nD τ).loc main_arg1) (ix2 (y 1) (y 2)))
      (m ((c : Thread nD τ).loc main_arg2) y) (m ((c : Thread nD τ).loc main_arg3) y),
    fun c => fun y => mean (m ((c : Thread nD τ).loc main_arg2) y) (m ((c : Thread nD τ).loc main_arg1) (ix2 (y 1) (y 2))),
    fun c => fun y => square (m ((c : Thread nD τ).loc main_arg3) y) (m ((c : Thread nD τ).loc main_arg1) (ix2 (y 1) (y 2))), ?_, ?_⟩
  · refine (θ_run defs _ _).mono (fun r h c => ?_) (Value.run m ρ)
    obtain ⟨h0, h1, h2, hk⟩ := h c
    refine ⟨h0.trans ?_, h1.trans ?_, h2.trans ?_, hk⟩ <;> funext y
    all_goals obtain ⟨o, i, j, rfl⟩ : ∃ (o : Fin 1) (i : Fin 256) (j : Fin 1024), y = ix3 o i j := ⟨y 0, y 1, y 2, eq_ix3 y⟩
    all_goals obtain rfl : o = 0 := Subsingleton.elim _ _
    · unfold change mean square
      pointwise [Value.G4, Gen.k0_pay5, Gen.k0_pay3, Gen.k0_pay4]
    · unfold mean
      pointwise [Value.G5, Gen.k0_pay1, Gen.k0_pay3]
    · unfold square
      pointwise [Value.G6, Gen.k0_pay2, Gen.k0_pay4]
  · refine (θ_run Cert.Reference24Ideal.defs _ _).mono (fun r h c => ?_) (Cert.Reference24Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      exact congrArg (fun z => change (m ((c : Thread nD τ).loc main_arg0) y) z (m ((c : Thread nD τ).loc main_arg2) y)
        (m ((c : Thread nD τ).loc main_arg3) y)) (cast_apply (m ((c : Thread nD τ).loc main_arg1)) y)
    · rw [e1, e2]
      exact congrArg (fun z => mean (m ((c : Thread nD τ).loc main_arg2) y) z) (cast_apply (m ((c : Thread nD τ).loc main_arg1)) y)
    · rw [e1, e3]
      exact congrArg (fun z => square (m ((c : Thread nD τ).loc main_arg3) y) z) (cast_apply (m ((c : Thread nD τ).loc main_arg1)) y)

end Cert.AdamWOut
-- ==== Proof.AdamMlp.lean ====
/- The optimiser's step for the hidden layer's matrices: each grid point takes 256 of the 1024 rows. -/
module

public import proofs.«01_k».proof.Defs
public import proofs.«01_k».proof.Proof.Adam
public import proofs.«01_k».proof.Proof.Gen.Kernel25.Frame
public import proofs.«01_k».proof.Proof.Gen.Kernel25Ideal.Value
public import proofs.«01_k».proof.Proof.Gen.Reference25Ideal.Run
public import Idealize.ShloMosaic.Lib.Pipeline.ValueKit
public import Idealize.ShloMosaic.Lib.StableHlo.ReadAt

@[expose] public section

set_option maxRecDepth 16384

noncomputable section

namespace Cert.AdamMlp

open Idealize.ShloMosaic Idealize.ShloMosaic.TcCoe Idealize.SL Idealize.SL.Sem Cert.Adam

theorem frame_kernel : Cert.quiescent_Kernel25 := fun m ρ _ => Cert.Kernel25.Gen.frame m ρ

theorem frame_ideal : Cert.quiescent_Kernel25Ideal := fun m ρ _ => Cert.Kernel25Ideal.Gen.frame m ρ

theorem frame_reference : Cert.quiescent_Reference25Ideal := fun m ρ _ =>
  (θ_run Cert.Reference25Ideal.defs _ _).mono
    (fun r h => ⟨fun c => (h c).2.2.2, sem_eq_zero_of_no_sems (by decide) r.2⟩)
    (Cert.Reference25Ideal.Value.run m ρ)

section
open Cert.Kernel25Ideal Cert.Kernel25Ideal.Gen

variable (m : (ℓ : Loc nD τ sig) → Buf (Elt Ideal) ℓ) (c : Dev nD)

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)

theorem lt_points (t : Fin cfg0.N) : t.val < 4 := lt_of_lt_of_eq t.isLt N_0

/-- A point's row in the array. -/
def row (t : Fin cfg0.N) (i : Fin 256) : Fin 1024 := ⟨t.val * 256 + i.val, by have := lt_points t; omega⟩

theorem blk0 (t : Fin cfg0.N) (o : Fin 1) (i : Fin 256) (k : Fin 1024) :
    iblk m c 0 t (ix3 o i k) = m ((c : Thread nD τ).loc main_arg0) (ix3 o (row t i) k) := by
  unfold row
  rw [← V_main_arg0 m c]
  blk_simp [iblk]
  congr 1
  blk_ext [idx0]

theorem blk1 (t : Fin cfg0.N) (i : Fin 256) (k : Fin 1024) :
    iblk m c 1 t (ix2 i k) = m ((c : Thread nD τ).loc main_arg1) (ix2 (row t i) k) := by
  unfold row
  rw [← V_main_arg1 m c]
  blk_simp [iblk]
  congr 1
  blk_ext [idx1]

theorem blk2 (t : Fin cfg0.N) (o : Fin 1) (i : Fin 256) (k : Fin 1024) :
    iblk m c 2 t (ix3 o i k) = m ((c : Thread nD τ).loc main_arg2) (ix3 o (row t i) k) := by
  unfold row
  rw [← V_main_arg2 m c]
  blk_simp [iblk]
  congr 1
  blk_ext [idx2]

theorem blk3 (t : Fin cfg0.N) (o : Fin 1) (i : Fin 256) (k : Fin 1024) :
    iblk m c 3 t (ix3 o i k) = m ((c : Thread nD τ).loc main_arg3) (ix3 o (row t i) k) := by
  unfold row
  rw [← V_main_arg3 m c]
  blk_simp [iblk]
  congr 1
  blk_ext [idx3]

theorem emb4 (t : Fin cfg0.N) (o : Fin 1) (i : Fin 256) (k : Fin 1024) :
    (win0_4.blk t).view.emb (ix3 o i k) = ix3 o (row t i) k := by
  unfold row
  blk_ext [idx4]

theorem emb5 (t : Fin cfg0.N) (o : Fin 1) (i : Fin 256) (k : Fin 1024) :
    (win0_5.blk t).view.emb (ix3 o i k) = ix3 o (row t i) k := by
  unfold row
  blk_ext [idx5]

theorem emb6 (t : Fin cfg0.N) (o : Fin 1) (i : Fin 256) (k : Fin 1024) :
    (win0_6.blk t).view.emb (ix3 o i k) = ix3 o (row t i) k := by
  unfold row
  blk_ext [idx6]

theorem pay1_apply (g : Vec Ideal S256x1024 .f32) (a : Vec Ideal S1x256x1024 .f32) (o : Fin 1) (i : Fin 256) (k : Fin 1024) :
    k0_pay1 (k0_pay3 g a) (ix3 o i k) = mean (a (ix3 o i k)) (g (ix2 i k)) := by
  obtain rfl : o = 0 := Subsingleton.elim _ _
  unfold mean
  pointwise [k0_pay1, k0_pay3]

theorem pay2_apply (g : Vec Ideal S256x1024 .f32) (v : Vec Ideal S1x256x1024 .f32) (o : Fin 1) (i : Fin 256) (k : Fin 1024) :
    k0_pay2 (k0_pay4 g v) (ix3 o i k) = square (v (ix3 o i k)) (g (ix2 i k)) := by
  obtain rfl : o = 0 := Subsingleton.elim _ _
  unfold square
  pointwise [k0_pay2, k0_pay4]

set_option maxHeartbeats 400000 in
theorem pay5_apply (g : Vec Ideal S256x1024 .f32) (a v w : Vec Ideal S1x256x1024 .f32) (o : Fin 1) (i : Fin 256) (k : Fin 1024) :
    k0_pay5 g a v w (ix3 o i k) = change (w (ix3 o i k)) (g (ix2 i k)) (a (ix3 o i k)) (v (ix3 o i k)) := by
  obtain rfl : o = 0 := Subsingleton.elim _ _
  unfold change mean square
  pointwise [k0_pay5, k0_pay3, k0_pay4]

/-- The weight's change after the run, entry by entry. -/
theorem arr4 : (dats m 0 c).arrAt 4 cfg0.N = fun y => change (m ((c : Thread nD τ).loc main_arg0) y)
    (m ((c : Thread nD τ).loc main_arg1) (ix2 (y 1) (y 2))) (m ((c : Thread nD τ).loc main_arg2) y) (m ((c : Thread nD τ).loc main_arg3) y) := by
  refine (dats m 0 c).arrAt_eq_of_covers 4 _ (by decide +kernel) fun t hf y => ?_
  blk_simp
  rw [after0_4]
  frame_out
  obtain ⟨o, i, k, rfl⟩ : ∃ (o : Fin 1) (i : Fin 256) (k : Fin 1024), y = ix3 o i k := ⟨y 0, y 1, y 2, eq_ix3 y⟩
  rw [emb4]
  refine (pay5_apply _ _ _ _ _ _ _).trans ?_
  rw [blk0, blk1, blk2, blk3]
  rfl

/-- The gradient's mean after the run. -/
theorem arr5 : (dats m 0 c).arrAt 5 cfg0.N = fun y => mean (m ((c : Thread nD τ).loc main_arg2) y)
    (m ((c : Thread nD τ).loc main_arg1) (ix2 (y 1) (y 2))) := by
  refine (dats m 0 c).arrAt_eq_of_covers 5 _ (by decide +kernel) fun t hf y => ?_
  blk_simp
  rw [after0_5]
  frame_out
  obtain ⟨o, i, k, rfl⟩ : ∃ (o : Fin 1) (i : Fin 256) (k : Fin 1024), y = ix3 o i k := ⟨y 0, y 1, y 2, eq_ix3 y⟩
  rw [emb5]
  refine (pay1_apply _ _ _ _ _).trans ?_
  rw [blk1, blk2]
  rfl

/-- The mean of its square after the run. -/
theorem arr6 : (dats m 0 c).arrAt 6 cfg0.N = fun y => square (m ((c : Thread nD τ).loc main_arg3) y)
    (m ((c : Thread nD τ).loc main_arg1) (ix2 (y 1) (y 2))) := by
  refine (dats m 0 c).arrAt_eq_of_covers 6 _ (by decide +kernel) fun t hf y => ?_
  blk_simp
  rw [after0_6]
  frame_out
  obtain ⟨o, i, k, rfl⟩ : ∃ (o : Fin 1) (i : Fin 256) (k : Fin 1024), y = ix3 o i k := ⟨y 0, y 1, y 2, eq_ix3 y⟩
  rw [emb6]
  refine (pay2_apply _ _ _ _ _).trans ?_
  rw [blk1, blk3]
  rfl

end

/-- A leading axis of length one adds nothing to an index. -/
theorem cast_apply (g : FVec Ideal Cert.Reference25Ideal.S1024x1024 .f32) (y : Cert.Reference25Ideal.S1x1024x1024.Idx) :
    shapeCast Cert.Reference25Ideal.S1x1024x1024 g Cert.Reference25Ideal.Facts₀.shapeCasts_S1024x1024_S1x1024x1024 y = g (ix2 (y 1) (y 2)) := by
  obtain ⟨o, i, j, rfl⟩ : ∃ (o : Fin 1) (i : Fin 1024) (j : Fin 1024), y = ix3 o i j := ⟨y 0, y 1, y 2, eq_ix3 y⟩
  pointwise

open Cert.Kernel25Ideal in
/-- Every entry of the three results is the step for that entry. -/
theorem algebraic : Cert.algebraic_Kernel25Ideal_Reference25Ideal := by
  intro m ρ m' ρ' _ hagree
  refine ⟨fun c => fun y => change (m ((c : Thread nD τ).loc main_arg0) y) (m ((c : Thread nD τ).loc main_arg1) (ix2 (y 1) (y 2)))
      (m ((c : Thread nD τ).loc main_arg2) y) (m ((c : Thread nD τ).loc main_arg3) y),
    fun c => fun y => mean (m ((c : Thread nD τ).loc main_arg2) y) (m ((c : Thread nD τ).loc main_arg1) (ix2 (y 1) (y 2))),
    fun c => fun y => square (m ((c : Thread nD τ).loc main_arg3) y) (m ((c : Thread nD τ).loc main_arg1) (ix2 (y 1) (y 2))), ?_, ?_⟩
  · refine (θ_run defs _ _).mono (fun r h c => ?_) (Value.run_blocks m ρ)
    obtain ⟨h0, h1, h2, hk⟩ := h c
    exact ⟨h0.trans (arr4 m c), h1.trans (arr5 m c), h2.trans (arr6 m c), hk⟩
  · refine (θ_run Cert.Reference25Ideal.defs _ _).mono (fun r h c => ?_) (Cert.Reference25Ideal.Value.run m' ρ')
    obtain ⟨h0, h1, h2, hk⟩ := h c
    obtain ⟨e0, e1, e2, e3⟩ := hagree c
    refine ⟨h0.trans ?_, h1.trans ?_, h2.trans ?_, hk⟩ <;> funext y
    · rw [e0, e1, e2, e3]
      exact congrArg (fun z => change (m ((c : Thread nD τ).loc main_arg0) y) z (m ((c : Thread nD τ).loc main_arg2) y)
        (m ((c : Thread nD τ).loc main_arg3) y)) (cast_apply (m ((c : Thread nD τ).loc main_arg1)) y)
    · rw [e1, e2]
      exact congrArg (fun z => mean (m ((c : Thread nD τ).loc main_arg2) y) z) (cast_apply (m ((c : Thread nD τ).loc main_arg1)) y)
    · rw [e1, e3]
      exact congrArg (fun z => square (m ((c : Thread nD τ).loc main_arg3) y) z) (cast_apply (m ((c : Thread nD τ).loc main_arg1)) y)

end Cert.AdamMlp
-- ==== Proof.GatedNormGain.lean ====
/- The gradients of the two gated norms: ten row blocks, four heads to a group. A point writes its rows' gradients of the
mixers' outputs and of the gates, and adds its rows' and its heads' share onto the one row of each gain. -/
module

public import proofs.«01_k».proof.Defs
public import proofs.«01_k».proof.Proof.MlpDownLoss
public import proofs.«01_k».proof.Proof.Gen.Kernel26.Frame
public import proofs.«01_k».proof.Proof.Gen.Kernel26Ideal.Value
public import proofs.«01_k».proof.Proof.Gen.Reference26Ideal.Run
public import Idealize.ShloMosaic.Lib.Pipeline.ValueKit
public import Idealize.ShloMosaic.Lib.StableHlo.ReadAt

@[expose] public section

set_option maxRecDepth 16384

noncomputable section

namespace Cert.GatedNormGain

open Idealize.ShloMosaic Idealize.ShloMosaic.TcCoe Idealize.SL Idealize.SL.Sem

theorem frame_kernel : Cert.quiescent_Kernel26 := fun m ρ _ => Cert.Kernel26.Gen.frame m ρ

theorem frame_ideal : Cert.quiescent_Kernel26Ideal := fun m ρ _ => Cert.Kernel26Ideal.Gen.frame m ρ

/-- A head's row against its root mean square. -/
def rr (o : Fin 128 → EReal) : EReal :=
  Ideal.rsqrt (Ideal.div (∑ k : Fin 128, o k * o k) (Ideal.ofBits .f32 0x43000000#32) + Ideal.ofBits .f32 0x358637BD#32)

/-- One row's share of one head, from the gradient, the gate and the row. -/
def part (d z : EReal) (o : Fin 128 → EReal) (j : Fin 128) : EReal := d * (z * Ideal.logistic z) * (o j * rr o)

/-- The column of head `h` at `j`, from column `n` on. -/
def at4 (N n : ℕ) (hn : n + 512 ≤ N) (h : Fin 4) (j : Fin 128) : Fin N := ⟨n + (h.val * 128 + j.val), by omega⟩

/-- A row's share of a gain's gradient at `j`: over heads, the gradient's columns from `n` on, the gates' from `g` on. -/
def R (n g : ℕ) (hn : n + 512 ≤ 1024) (hg : g + 512 ≤ 3840) (d : (⟨2, ![8320, 1024]⟩ : Shape).Idx → EReal)
    (o : (⟨2, ![8320, 512]⟩ : Shape).Idx → EReal) (p : (⟨2, ![8320, 3840]⟩ : Shape).Idx → EReal) (j : Fin 128) (i : Fin 8320) : EReal :=
  ∑ h : Fin 4, part (d (ix2 i (at4 1024 n hn h j))) (p (ix2 i (at4 3840 g hg h j)))
    (fun k => o (ix2 i (at4 512 0 (by omega) h k))) j

/-- A gain's gradient. -/
def G (n g : ℕ) (hn : n + 512 ≤ 1024) (hg : g + 512 ≤ 3840) (d : (⟨2, ![8320, 1024]⟩ : Shape).Idx → EReal)
    (o : (⟨2, ![8320, 512]⟩ : Shape).Idx → EReal) (p : (⟨2, ![8320, 3840]⟩ : Shape).Idx → EReal) : (⟨2, ![1, 128]⟩ : Shape).Idx → EReal :=
  fun y => ∑ i : Fin 8320, R n g hn hg d o p (y 1) i

/-- A row's gradient of the head's entry `j`, from the gain and the rows of the gradient, of the gate and of the head. -/
def DX (g d z o : Fin 128 → EReal) (j : Fin 128) : EReal :=
  rr o * (d j * (z j * Ideal.logistic (z j)) * g j
    - o j * rr o * Ideal.div (∑ k : Fin 128, o k * rr o * (d k * (z k * Ideal.logistic (z k)) * g k)) (Ideal.ofBits .f32 0x43000000#32))

/-- A row's gradient of the gate's entry `j`. -/
def DZ (g d z o : Fin 128 → EReal) (j : Fin 128) : EReal :=
  d j * (o j * rr o * g j) * (Ideal.logistic (z j)
    * (Ideal.ofBits .f32 0x3F800000#32 + z j * (Ideal.ofBits .f32 0x3F800000#32 - Ideal.logistic (z j))))

/-- The head of a column, and its place there. -/
def headOf (q : Fin 512) : Fin 4 := ⟨q.val / 128, by omega⟩
def colOf (q : Fin 512) : Fin 128 := ⟨q.val % 128, by omega⟩

/-- The array of `F` over a group's rows and columns. -/
def W (F : (g d z o : Fin 128 → EReal) → Fin 128 → EReal) (n g : ℕ) (hn : n + 512 ≤ 1024) (hg : g + 512 ≤ 3840)
    (d : (⟨2, ![8320, 1024]⟩ : Shape).Idx → EReal) (o : (⟨2, ![8320, 512]⟩ : Shape).Idx → EReal)
    (p : (⟨2, ![8320, 3840]⟩ : Shape).Idx → EReal) (w : (⟨2, ![1, 128]⟩ : Shape).Idx → EReal) : (⟨2, ![8320, 512]⟩ : Shape).Idx → EReal :=
  fun y => F (fun k => w (ix2 0 k)) (fun k => d (ix2 (y 0) (at4 1024 n hn (headOf (y 1)) k)))
    (fun k => p (ix2 (y 0) (at4 3840 g hg (headOf (y 1)) k))) (fun k => o (ix2 (y 0) (at4 512 0 (by omega) (headOf (y 1)) k))) (colOf (y 1))

theorem one_eq : Ideal.ofBits .f32 0x3F800000#32 = ((1 : ℝ) : EReal) := by
  simp [Ideal.ofBits, Ideal.ieee, -EReal.coe_mul]; norm_num

/-- The slope of the gate's `z` times its logistic: the kernel's form and the one differentiation gives. -/
theorem slope_eq (z : EReal) :
    Ideal.ofBits .f32 0x3F800000#32 * Ideal.logistic z + z * Ideal.ofBits .f32 0x3F800000#32
        * (Ideal.logistic z * (Ideal.ofBits .f32 0x3F800000#32 - Ideal.logistic z))
      = Ideal.logistic z * (Ideal.ofBits .f32 0x3F800000#32 + z * (Ideal.ofBits .f32 0x3F800000#32 - Ideal.logistic z)) := by
  rw [one_eq]
  induction z with
  | bot => rw [Ideal.logistic_bot]; simp
  | top =>
    rw [Ideal.logistic_top, EReal.coe_one]
    have e : (1 : EReal) - 1 = 0 := by
      show ((1 : ℝ) : EReal) - ((1 : ℝ) : EReal) = 0
      rw [← EReal.coe_sub, sub_self, EReal.coe_zero]
    rw [e]; simp
  | coe r =>
    rw [Ideal.logistic_coe]
    norm_cast
    ring_nf

theorem half_eq : Ideal.ofBits .f32 0x3F000000#32 = ((1 / 2 : ℝ) : EReal) := by
  simp [Ideal.ofBits, Ideal.ieee, -EReal.coe_mul]; norm_num

/-- The kernel's form of the logistic function. -/
theorem logistic_eq (x : EReal) :
    Ideal.ofBits .f32 0x3F000000#32 * Ideal.tanh (Ideal.ofBits .f32 0x3F000000#32 * x) + Ideal.ofBits .f32 0x3F000000#32
      = Ideal.logistic x := by
  rw [half_eq]
  induction x with
  | bot =>
    rw [EReal.coe_mul_bot_of_pos (by norm_num), Ideal.logistic_bot]
    show ((1 / 2 : ℝ) : EReal) * ((-1 : ℝ) : EReal) + _ = 0
    rw [← EReal.coe_mul, ← EReal.coe_add]
    norm_num
  | top =>
    rw [EReal.coe_mul_top_of_pos (by norm_num), Ideal.logistic_top]
    show ((1 / 2 : ℝ) : EReal) * 1 + _ = 1
    norm_cast; norm_num
  | coe r =>
    rw [Ideal.logistic_coe, ← EReal.coe_mul]
    show ((1 / 2 : ℝ) : EReal) * ((Real.tanh (1 / 2 * r) : ℝ) : EReal) + _ = _
    rw [← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; ring_nf
    have e' : Real.exp (1 / 2 * r) * Real.exp (-(1 / 2 * r)) = 1 := by rw [← Real.exp_add]; simp
    have h := Real.exp_pos (-(1 / 2 * r))
    have h' := Real.exp_pos (1 / 2 * r)
    rw [e]
    generalize Real.exp (-(1 / 2 * r)) = a at *
    generalize Real.exp (1 / 2 * r) = b at *
    obtain rfl : b = a⁻¹ := eq_inv_of_mul_eq_one_left e'
    field_simp
    ring

section
open Cert.Kernel26Ideal Cert.Kernel26Ideal.Gen

variable (m : (ℓ : Loc nD τ sig) → Buf (Elt Ideal) ℓ) (c : Dev nD)

/-- One head's share of one point, added onto `s`. -/
def step (s : FVec Ideal S1x128 .f32) (o z d : Vec Ideal S832x128 .bf16) : FVec Ideal S1x128 .f32 :=
  k0_pay12 s (k0_pay7 o) (k0_pay9 z d)

theorem pay6_apply (o : Vec Ideal S832x128 .bf16) (i : Fin 832) : k0_pay6 o (ix2 i 0) = rr (fun k => o (ix2 i k)) := by
  unfold rr
  pointwise [k0_pay6, k0_pay3]

theorem step_apply (s : FVec Ideal S1x128 .f32) (o z d : Vec Ideal S832x128 .bf16) (j : Fin 128) :
    step s o z d (ix2 0 j) = s (ix2 0 j) + ∑ i : Fin 832, part (d (ix2 i j)) (z (ix2 i j)) (fun k => o (ix2 i k)) j := by
  unfold step part
  simp only [← logistic_eq, ← pay6_apply]
  pointwise [k0_pay12, k0_pay7, k0_pay9, k0_pay8, k0_pay5, k0_pay4, k0_pay3]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 3] := (by decide +kernel : ∀ t : Fin grid0.N, _)
theorem idx4 : ∀ t : Fin cfg0.N, win0_4.index t = ![t.val, 6] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

theorem lt_points (t : Fin cfg0.N) : t.val < 10 := lt_of_lt_of_eq t.isLt N_0

/-- The row of the array that is row `i` of block `t`. -/
def rowAt (t : Fin cfg0.N) (i : Fin 832) : Fin 8320 := ⟨t.val * 832 + i.val, by have := lt_points t; omega⟩

theorem blk0 (t : Fin cfg0.N) (i : Fin 832) (k : Fin 1024) :
    iblk m c 0 t (ix2 i k) = m ((c : Thread nD τ).loc main_arg0) (ix2 (rowAt t i) k) := by
  rw [← V_main_arg0 m c]
  blk_simp [iblk]
  congr 1
  blk_ext [idx0, rowAt]

theorem blk1 (t : Fin cfg0.N) (i : Fin 832) (k : Fin 512) :
    iblk m c 1 t (ix2 i k) = m ((c : Thread nD τ).loc main_arg1) (ix2 (rowAt t i) k) := by
  rw [← V_main_arg1 m c]
  blk_simp [iblk]
  congr 1
  blk_ext [idx1, rowAt]

theorem blk2 (t : Fin cfg0.N) (i : Fin 832) (k : Fin 512) :
    iblk m c 2 t (ix2 i k) = m ((c : Thread nD τ).loc main_arg2) (ix2 (rowAt t i) k) := by
  rw [← V_main_arg2 m c]
  blk_simp [iblk]
  congr 1
  blk_ext [idx2, rowAt]

theorem blk3 (t : Fin cfg0.N) (i : Fin 832) (k : Fin 512) :
    X0_3 m c t (ix2 i k) = m ((c : Thread nD τ).loc main_arg3) (ix2 (rowAt t i) ⟨1536 + k.val, by omega⟩) := by
  rw [← V_main_arg3 m c]
  unfold X0_3 Pipeline.Window.fill
  rw [dif_pos (moved0_3 t _)]
  blk_simp [iblk]
  congr 1
  blk_ext [idx3, rowAt]

theorem blk4 (t : Fin cfg0.N) (i : Fin 832) (k : Fin 512) :
    X0_4 m c t (ix2 i k) = m ((c : Thread nD τ).loc main_arg3) (ix2 (rowAt t i) ⟨3072 + k.val, by omega⟩) := by
  rw [← V_main_arg3 m c]
  unfold X0_4 Pipeline.Window.fill
  rw [dif_pos (moved0_4 t _)]
  blk_simp [iblk]
  congr 1
  blk_ext [idx4, rowAt]

theorem emb11 (t : Fin cfg0.N) (i : Fin 1) (j : Fin 128) : (win0_11.blk t).view.emb (ix2 i j) = ix2 i j := by
  blk_ext [idx11]

theorem emb12 (t : Fin cfg0.N) (i : Fin 1) (j : Fin 128) : (win0_12.blk t).view.emb (ix2 i j) = ix2 i j := by
  blk_ext [idx12]

/-- The columns of head `h`, from column `n` on. -/
def cols (N n : ℕ) (hn : n + 512 ≤ N) (x : (⟨2, ![832, N]⟩ : Shape).Idx → EReal) (h : Fin 4) : Vec Ideal S832x128 .bf16 :=
  View.ld x (Rect.unit (s := ⟨2, ![832, N]⟩) ![0, n + h.val * 128] S832x128.size (by
    intro a
    fin_cases a
    · exact le_refl 832
    · show n + h.val * 128 + 128 ≤ N
      omega))

theorem cols_apply (N n : ℕ) (hn : n + 512 ≤ N) (x : (⟨2, ![832, N]⟩ : Shape).Idx → EReal) (h : Fin 4) (i : Fin 832) (j : Fin 128) :
    cols N n hn x h (ix2 i j) = x (ix2 i (at4 N n hn h j)) := by
  unfold cols
  refine View.ld_unit_apply_of _ _ _ _ _ _ fun a => ?_
  fin_cases a
  · exact (Nat.zero_add _).symm
  · exact (Nat.add_assoc _ _ _).symm

/-- Four heads' shares of one point. -/
def four (o z d : Fin 4 → Vec Ideal S832x128 .bf16) : FVec Ideal S1x128 .f32 :=
  step (step (step (step k0_pay2 (o 0) (z 0) (d 0)) (o 1) (z 1) (d 1)) (o 2) (z 2) (d 2)) (o 3) (z 3) (d 3)

theorem zero_apply (y : S1x128.Idx) : k0_pay2 (F := Ideal) y = 0 := by
  obtain ⟨i, j, rfl⟩ : ∃ (i : Fin 1) (j : Fin 128), y = ix2 i j := ⟨y 0, y 1, eq_ix2 y⟩
  pointwise [k0_pay2]

theorem four_apply (o z d : Fin 4 → Vec Ideal S832x128 .bf16) (j : Fin 128) :
    four o z d (ix2 0 j)
      = ∑ i : Fin 832, ∑ h : Fin 4, part (d h (ix2 i j)) (z h (ix2 i j)) (fun k => o h (ix2 i k)) j := by
  unfold four
  rw [step_apply, step_apply, step_apply, step_apply, zero_apply, zero_add, ← Finset.sum_add_distrib, ← Finset.sum_add_distrib,
    ← Finset.sum_add_distrib]
  exact Finset.sum_congr rfl fun i _ =>
    (Fin.sum_univ_four fun h => part (d h (ix2 i j)) (z h (ix2 i j)) (fun k => o h (ix2 i k)) j).symm

/-- One point's four heads of the first group. -/
def fourD (t : Fin cfg0.N) : FVec Ideal S1x128 .f32 :=
  four (cols 512 0 (by omega) (iblk m c 1 t)) (cols 512 0 (by omega) (X0_3 m c t)) (cols 1024 0 (by omega) (iblk m c 0 t))

/-- One point's four heads of the second group. -/
def fourG (t : Fin cfg0.N) : FVec Ideal S1x128 .f32 :=
  four (cols 512 0 (by omega) (iblk m c 2 t)) (cols 512 0 (by omega) (X0_4 m c t)) (cols 1024 512 (by omega) (iblk m c 0 t))

theorem fourD_apply (t : Fin cfg0.N) (y : S1x128.Idx) :
    fourD m c t y = ∑ i : Fin 832, R 0 1536 (by omega) (by omega) (m ((c : Thread nD τ).loc main_arg0)) (m ((c : Thread nD τ).loc main_arg1))
      (m ((c : Thread nD τ).loc main_arg3)) (y 1) (rowAt t i) := by
  obtain ⟨i, j, rfl⟩ : ∃ (i : Fin 1) (j : Fin 128), y = ix2 i j := ⟨y 0, y 1, eq_ix2 y⟩
  obtain rfl : i = 0 := Subsingleton.elim _ _
  refine (four_apply _ _ _ j).trans ?_
  refine Finset.sum_congr rfl fun i _ => Finset.sum_congr rfl fun h _ => ?_
  simp only [cols_apply, blk0, blk1, blk3]
  refine congrArg (fun q => part _ (m ((c : Thread nD τ).loc main_arg3) (ix2 (rowAt t i) q)) _ j) (Fin.ext ?_)
  show 1536 + (0 + (h.val * 128 + j.val)) = 1536 + (h.val * 128 + j.val)
  omega

theorem fourG_apply (t : Fin cfg0.N) (y : S1x128.Idx) :
    fourG m c t y = ∑ i : Fin 832, R 512 3072 (by omega) (by omega) (m ((c : Thread nD τ).loc main_arg0)) (m ((c : Thread nD τ).loc main_arg2))
      (m ((c : Thread nD τ).loc main_arg3)) (y 1) (rowAt t i) := by
  obtain ⟨i, j, rfl⟩ : ∃ (i : Fin 1) (j : Fin 128), y = ix2 i j := ⟨y 0, y 1, eq_ix2 y⟩
  obtain rfl : i = 0 := Subsingleton.elim _ _
  refine (four_apply _ _ _ j).trans ?_
  refine Finset.sum_congr rfl fun i _ => Finset.sum_congr rfl fun h _ => ?_
  simp only [cols_apply, blk0, blk2, blk4]
  refine congrArg (fun q => part _ (m ((c : Thread nD τ).loc main_arg3) (ix2 (rowAt t i) q)) _ j) (Fin.ext ?_)
  show 3072 + (0 + (h.val * 128 + j.val)) = 3072 + (h.val * 128 + j.val)
  omega

theorem acc_apply (a b : FVec Ideal S1x128 .f32) (y : S1x128.Idx) : k0_pay1 b a y = a y + b y := by
  obtain ⟨i, j, rfl⟩ : ∃ (i : Fin 1) (j : Fin 128), y = ix2 i j := ⟨y 0, y 1, eq_ix2 y⟩
  obtain rfl : i = 0 := Subsingleton.elim _ _
  pointwise [k0_pay1]

theorem last11 : ∀ t : Fin cfg0.N, (cfg0.win 11).flush t = true → t.val % 10 = 9 := (by decide +kernel : ∀ t : Fin grid0.N, _)
theorem last12 : ∀ t : Fin cfg0.N, (cfg0.win 12).flush t = true → t.val % 10 = 9 := (by decide +kernel : ∀ t : Fin grid0.N, _)

theorem row_eq (t : Fin cfg0.N) (s : Fin 10) (r : Fin 832) (hl : s.val * 832 + r.val < 8320) :
    rowAt ⟨10 * (t.val / 10) + s.val, by have := s.isLt; have := lt_points t; refine lt_of_lt_of_eq ?_ N_0.symm; omega⟩ r
      = ⟨s.val * 832 + r.val, hl⟩ := by
  have := lt_points t
  refine Fin.ext ?_
  show (10 * (t.val / 10) + s.val) * 832 + r.val = s.val * 832 + r.val
  omega

theorem arr11 : (dats m 0 c).arrAt 11 cfg0.N = G 0 1536 (by omega) (by omega) (m ((c : Thread nD τ).loc main_arg0))
      (m ((c : Thread nD τ).loc main_arg1)) (m ((c : Thread nD τ).loc main_arg3)) := by
  refine (dats m 0 c).arrAt_eq_of_covers 11 _ (by decide +kernel) fun t hf y => ?_
  obtain ⟨i, j, rfl⟩ : ∃ (i : Fin 1) (j : Fin 128), y = ix2 i j := ⟨y 0, y 1, eq_ix2 y⟩
  blk_simp
  rw [emb11, after0_11]
  rw [Pipeline.eq_sum_fin_of_reset_step_apply_of_flush (fun n h => (outsAt0 m c n h).2.2.2.2.1) 10 (fun _ => 0)
    (fun p y => ∑ i : Fin 832, R 0 1536 (by omega) (by omega) (m ((c : Thread nD τ).loc main_arg0))
      (m ((c : Thread nD τ).loc main_arg1)) (m ((c : Thread nD τ).loc main_arg3)) (y 1) (rowAt p i))
    (fun t h j => by
      rw [outsAt0_A m c t h (by have := lt_points t; omega) h (by have := lt_points t; omega)]; frame_out
      rw [zero_add, ← fourD_apply]; rfl)
    (fun t h j => by
      rw [outsAt0_B m c t h (by have := lt_points t; omega) h (by have := lt_points t; omega)]; frame_out
      rw [← fourD_apply]; exact acc_apply _ _ _) t (last11 t hf) (ix2 i j), zero_add]
  refine Fin.sum_mul_add_congr fun s r hl => ?_
  exact congrArg _ (row_eq t s r hl)

theorem arr12 : (dats m 0 c).arrAt 12 cfg0.N = G 512 3072 (by omega) (by omega) (m ((c : Thread nD τ).loc main_arg0))
      (m ((c : Thread nD τ).loc main_arg2)) (m ((c : Thread nD τ).loc main_arg3)) := by
  refine (dats m 0 c).arrAt_eq_of_covers 12 _ (by decide +kernel) fun t hf y => ?_
  obtain ⟨i, j, rfl⟩ : ∃ (i : Fin 1) (j : Fin 128), y = ix2 i j := ⟨y 0, y 1, eq_ix2 y⟩
  blk_simp
  rw [emb12, after0_12]
  rw [Pipeline.eq_sum_fin_of_reset_step_apply_of_flush (fun n h => (outsAt0 m c n h).2.2.2.2.2) 10 (fun _ => 0)
    (fun p y => ∑ i : Fin 832, R 512 3072 (by omega) (by omega) (m ((c : Thread nD τ).loc main_arg0))
      (m ((c : Thread nD τ).loc main_arg2)) (m ((c : Thread nD τ).loc main_arg3)) (y 1) (rowAt p i))
    (fun t h j => by
      rw [outsAt0_A m c t h (by have := lt_points t; omega) h (by have := lt_points t; omega)]; frame_out
      rw [zero_add, ← fourG_apply]; rfl)
    (fun t h j => by
      rw [outsAt0_B m c t h (by have := lt_points t; omega) h (by have := lt_points t; omega)]; frame_out
      rw [← fourG_apply]; exact acc_apply _ _ _) t (last12 t hf) (ix2 i j), zero_add]
  refine Fin.sum_mul_add_congr fun s r hl => ?_
  exact congrArg _ (row_eq t s r hl)

/-- One head's gradient of the gate over one point's rows. -/
def dzTile (w : Vec Ideal S1x128 .f32) (o z d : Vec Ideal S832x128 .bf16) : FVec Ideal S832x128 .bf16 := k0_pay10 w o z d

theorem dzTile_apply (w : Vec Ideal S1x128 .f32) (o z d : Vec Ideal S832x128 .bf16) (i : Fin 832) (j : Fin 128) :
    dzTile w o z d (ix2 i j)
      = DZ (fun k => w (ix2 0 k)) (fun k => d (ix2 i k)) (fun k => z (ix2 i k)) (fun k => o (ix2 i k)) j := by
  unfold DZ dzTile
  simp only [← logistic_eq, ← pay6_apply]
  pointwise [k0_pay10, k0_pay7, k0_pay8, k0_pay5, k0_pay4, k0_pay3]

/-- One head's gradient of one point's rows. -/
def dxTile (w : Vec Ideal S1x128 .f32) (o z d : Vec Ideal S832x128 .bf16) : FVec Ideal S832x128 .bf16 :=
  k0_pay11 w (k0_pay6 o) (k0_pay7 o) (k0_pay9 z d)

theorem dxTile_apply (w : Vec Ideal S1x128 .f32) (o z d : Vec Ideal S832x128 .bf16) (i : Fin 832) (j : Fin 128) :
    dxTile w o z d (ix2 i j)
      = DX (fun k => w (ix2 0 k)) (fun k => d (ix2 i k)) (fun k => z (ix2 i k)) (fun k => o (ix2 i k)) j := by
  unfold DX dxTile
  simp only [← logistic_eq, ← pay6_apply]
  pointwise [k0_pay11, k0_pay9, k0_pay7, k0_pay8, k0_pay5, k0_pay4, k0_pay3]

theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem blk5 (t : Fin cfg0.N) (k : Fin 128) : iblk m c 5 t (ix2 0 k) = m ((c : Thread nD τ).loc main_arg4) (ix2 0 k) := by
  rw [← V_main_arg4 m c]
  blk_simp [iblk]
  congr 1
  blk_ext [idx5]

theorem blk6 (t : Fin cfg0.N) (k : Fin 128) : iblk m c 6 t (ix2 0 k) = m ((c : Thread nD τ).loc main_arg5) (ix2 0 k) := by
  rw [← V_main_arg5 m c]
  blk_simp [iblk]
  congr 1
  blk_ext [idx6]

theorem emb7 (t : Fin cfg0.N) (i : Fin 832) (q : Fin 512) : (win0_7.blk t).view.emb (ix2 i q) = ix2 (rowAt t i) q := by
  blk_ext [idx7, rowAt]
theorem emb8 (t : Fin cfg0.N) (i : Fin 832) (q : Fin 512) : (win0_8.blk t).view.emb (ix2 i q) = ix2 (rowAt t i) q := by
  blk_ext [idx8, rowAt]
theorem emb9 (t : Fin cfg0.N) (i : Fin 832) (q : Fin 512) : (win0_9.blk t).view.emb (ix2 i q) = ix2 (rowAt t i) q := by
  blk_ext [idx9, rowAt]
theorem emb10 (t : Fin cfg0.N) (i : Fin 832) (q : Fin 512) : (win0_10.blk t).view.emb (ix2 i q) = ix2 (rowAt t i) q := by
  blk_ext [idx10, rowAt]

theorem headOf_eq {q : Fin 512} {h : Fin 4} {j : Fin 128} (e : q.val = h.val * 128 + j.val) : headOf q = h ∧ colOf q = j :=
  ⟨Fin.ext (by show q.val / 128 = h.val; omega), Fin.ext (by show q.val % 128 = j.val; omega)⟩

/-- The array of the first group. -/
def WD (F : (g d z o : Fin 128 → EReal) → Fin 128 → EReal) : (⟨2, ![8320, 512]⟩ : Shape).Idx → EReal :=
  W F 0 1536 (by omega) (by omega) (m ((c : Thread nD τ).loc main_arg0)) (m ((c : Thread nD τ).loc main_arg1))
    (m ((c : Thread nD τ).loc main_arg3)) (m ((c : Thread nD τ).loc main_arg4))

/-- The array of the second group. -/
def WG (F : (g d z o : Fin 128 → EReal) → Fin 128 → EReal) : (⟨2, ![8320, 512]⟩ : Shape).Idx → EReal :=
  W F 512 3072 (by omega) (by omega) (m ((c : Thread nD τ).loc main_arg0)) (m ((c : Thread nD τ).loc main_arg2))
    (m ((c : Thread nD τ).loc main_arg3)) (m ((c : Thread nD τ).loc main_arg5))

/-- A head's tile of the first group, from what its payload is at an index. -/
theorem tileD (F : (g d z o : Fin 128 → EReal) → Fin 128 → EReal)
    (P : Vec Ideal S1x128 .f32 → Vec Ideal S832x128 .bf16 → Vec Ideal S832x128 .bf16 → Vec Ideal S832x128 .bf16 → FVec Ideal S832x128 .bf16)
    (hP : ∀ w o z d i j, P w o z d (ix2 i j)
      = F (fun k => w (ix2 0 k)) (fun k => d (ix2 i k)) (fun k => z (ix2 i k)) (fun k => o (ix2 i k)) j)
    (t : Fin cfg0.N) (i : Fin 832) (q : Fin 512) (h : Fin 4) (j : Fin 128) (e : q.val = h.val * 128 + j.val) :
    P (iblk m c 5 t) (cols 512 0 (by omega) (iblk m c 1 t) h) (cols 512 0 (by omega) (X0_3 m c t) h) (cols 1024 0 (by omega) (iblk m c 0 t) h)
      (ix2 i j) = WD m c F (ix2 (rowAt t i) q) := by
  have ez : ∀ k, (⟨1536 + (at4 512 0 (by omega) h k).val, by omega⟩ : Fin 3840) = at4 3840 1536 (by omega) h k :=
    fun k => Fin.ext (by show 1536 + (0 + _) = 1536 + _; omega)
  obtain ⟨rfl, rfl⟩ := headOf_eq e
  rw [hP]
  simp only [cols_apply, blk0, blk1, blk3, blk5, ez]
  rfl

theorem tileG (F : (g d z o : Fin 128 → EReal) → Fin 128 → EReal)
    (P : Vec Ideal S1x128 .f32 → Vec Ideal S832x128 .bf16 → Vec Ideal S832x128 .bf16 → Vec Ideal S832x128 .bf16 → FVec Ideal S832x128 .bf16)
    (hP : ∀ w o z d i j, P w o z d (ix2 i j)
      = F (fun k => w (ix2 0 k)) (fun k => d (ix2 i k)) (fun k => z (ix2 i k)) (fun k => o (ix2 i k)) j)
    (t : Fin cfg0.N) (i : Fin 832) (q : Fin 512) (h : Fin 4) (j : Fin 128) (e : q.val = h.val * 128 + j.val) :
    P (iblk m c 6 t) (cols 512 0 (by omega) (iblk m c 2 t) h) (cols 512 0 (by omega) (X0_4 m c t) h) (cols 1024 512 (by omega) (iblk m c 0 t) h)
      (ix2 i j) = WG m c F (ix2 (rowAt t i) q) := by
  have ez : ∀ k, (⟨3072 + (at4 512 0 (by omega) h k).val, by omega⟩ : Fin 3840) = at4 3840 3072 (by omega) h k :=
    fun k => Fin.ext (by show 3072 + (0 + _) = 3072 + _; omega)
  obtain ⟨rfl, rfl⟩ := headOf_eq e
  rw [hP]
  simp only [cols_apply, blk0, blk2, blk4, blk6, ez]
  rfl

theorem arr7 : (dats m 0 c).arrAt 7 cfg0.N = WD m c DX := by
  refine (dats m 0 c).arrAt_eq_of_covers 7 _ (by decide +kernel) fun t hf y => ?_
  obtain ⟨a, q, rfl⟩ : ∃ (a : Fin 832) (q : Fin 512), y = ix2 a q := ⟨y 0, y 1, eq_ix2 y⟩
  blk_simp
  rw [emb7, after0_7]
  have ht := lt_points t
  have T := fun h j e => tileD m c DX dxTile dxTile_apply t a q h j e
  by_cases hc : t.val % 10 = 0
  · rw [outsAt0_A m c t hc (by omega) hc (by omega)]; frame_out
    canon_tiles x h
    all_goals
      obtain ⟨i, j, rfl⟩ : ∃ (i : Fin 832) (j : Fin 128), x = ix2 i j := ⟨x 0, x 1, eq_ix2 x⟩
      obtain rfl : a = i := Fin.ext h0
    exacts [T 3 j h1, T 2 j h1, T 1 j h1, T 0 j (h1.trans (Nat.zero_add _).symm)]
  · rw [outsAt0_B m c t hc (by omega) hc (by omega)]; frame_out
    canon_tiles x h
    all_goals
      obtain ⟨i, j, rfl⟩ : ∃ (i : Fin 832) (j : Fin 128), x = ix2 i j := ⟨x 0, x 1, eq_ix2 x⟩
      obtain rfl : a = i := Fin.ext h0
    exacts [T 3 j h1, T 2 j h1, T 1 j h1, T 0 j (h1.trans (Nat.zero_add _).symm)]

theorem arr8 : (dats m 0 c).arrAt 8 cfg0.N = WD m c DZ := by
  refine (dats m 0 c).arrAt_eq_of_covers 8 _ (by decide +kernel) fun t hf y => ?_
  obtain ⟨a, q, rfl⟩ : ∃ (a : Fin 832) (q : Fin 512), y = ix2 a q := ⟨y 0, y 1, eq_ix2 y⟩
  blk_simp
  rw [emb8, after0_8]
  have ht := lt_points t
  have T := fun h j e => tileD m c DZ dzTile dzTile_apply t a q h j e
  by_cases hc : t.val % 10 = 0
  · rw [outsAt0_A m c t hc (by omega) hc (by omega)]; frame_out
    canon_tiles x h
    all_goals
      obtain ⟨i, j, rfl⟩ : ∃ (i : Fin 832) (j : Fin 128), x = ix2 i j := ⟨x 0, x 1, eq_ix2 x⟩
      obtain rfl : a = i := Fin.ext h0
    exacts [T 3 j h1, T 2 j h1, T 1 j h1, T 0 j (h1.trans (Nat.zero_add _).symm)]
  · rw [outsAt0_B m c t hc (by omega) hc (by omega)]; frame_out
    canon_tiles x h
    all_goals
      obtain ⟨i, j, rfl⟩ : ∃ (i : Fin 832) (j : Fin 128), x = ix2 i j := ⟨x 0, x 1, eq_ix2 x⟩
      obtain rfl : a = i := Fin.ext h0
    exacts [T 3 j h1, T 2 j h1, T 1 j h1, T 0 j (h1.trans (Nat.zero_add _).symm)]

theorem arr9 : (dats m 0 c).arrAt 9 cfg0.N = WG m c DX := by
  refine (dats m 0 c).arrAt_eq_of_covers 9 _ (by decide +kernel) fun t hf y => ?_
  obtain ⟨a, q, rfl⟩ : ∃ (a : Fin 832) (q : Fin 512), y = ix2 a q := ⟨y 0, y 1, eq_ix2 y⟩
  blk_simp
  rw [emb9, after0_9]
  have ht := lt_points t
  have T := fun h j e => tileG m c DX dxTile dxTile_apply t a q h j e
  by_cases hc : t.val % 10 = 0
  · rw [outsAt0_A m c t hc (by omega) hc (by omega)]; frame_out
    canon_tiles x h
    all_goals
      obtain ⟨i, j, rfl⟩ : ∃ (i : Fin 832) (j : Fin 128), x = ix2 i j := ⟨x 0, x 1, eq_ix2 x⟩
      obtain rfl : a = i := Fin.ext h0
    exacts [T 3 j h1, T 2 j h1, T 1 j h1, T 0 j (h1.trans (Nat.zero_add _).symm)]
  · rw [outsAt0_B m c t hc (by omega) hc (by omega)]; frame_out
    canon_tiles x h
    all_goals
      obtain ⟨i, j, rfl⟩ : ∃ (i : Fin 832) (j : Fin 128), x = ix2 i j := ⟨x 0, x 1, eq_ix2 x⟩
      obtain rfl : a = i := Fin.ext h0
    exacts [T 3 j h1, T 2 j h1, T 1 j h1, T 0 j (h1.trans (Nat.zero_add _).symm)]

theorem arr10 : (dats m 0 c).arrAt 10 cfg0.N = WG m c DZ := by
  refine (dats m 0 c).arrAt_eq_of_covers 10 _ (by decide +kernel) fun t hf y => ?_
  obtain ⟨a, q, rfl⟩ : ∃ (a : Fin 832) (q : Fin 512), y = ix2 a q := ⟨y 0, y 1, eq_ix2 y⟩
  blk_simp
  rw [emb10, after0_10]
  have ht := lt_points t
  have T := fun h j e => tileG m c DZ dzTile dzTile_apply t a q h j e
  by_cases hc : t.val % 10 = 0
  · rw [outsAt0_A m c t hc (by omega) hc (by omega)]; frame_out
    canon_tiles x h
    all_goals
      obtain ⟨i, j, rfl⟩ : ∃ (i : Fin 832) (j : Fin 128), x = ix2 i j := ⟨x 0, x 1, eq_ix2 x⟩
      obtain rfl : a = i := Fin.ext h0
    exacts [T 3 j h1, T 2 j h1, T 1 j h1, T 0 j (h1.trans (Nat.zero_add _).symm)]
  · rw [outsAt0_B m c t hc (by omega) hc (by omega)]; frame_out
    canon_tiles x h
    all_goals
      obtain ⟨i, j, rfl⟩ : ∃ (i : Fin 832) (j : Fin 128), x = ix2 i j := ⟨x 0, x 1, eq_ix2 x⟩
      obtain rfl : a = i := Fin.ext h0
    exacts [T 3 j h1, T 2 j h1, T 1 j h1, T 0 j (h1.trans (Nat.zero_add _).symm)]

end

section

open Cert.Reference26Ideal Cert.Reference26Ideal.Facts₀

/-- A group's four heads apart. -/
def headsR (x : FVec Ideal S8320x512 .f32) : FVec Ideal S8320x4x128 .f32 := shapeCast S8320x4x128 x shapeCasts_S8320x512_S8320x4x128

/-- The gates' branch of the reference. -/
def gateR (d z : FVec Ideal S8320x512 .f32) : FVec Ideal S8320x4x128 .f32 :=
  mulf (headsR d) (mulf (headsR z)
    (Host.divf (broadcastInDim S8320x4x128 ![] bcast_S_S8320x4x128 (constant S_ .f32 0x3F800000#32))
      (addf (broadcastInDim S8320x4x128 ![] bcast_S_S8320x4x128 (constant S_ .f32 0x3F800000#32)) (Host.exp (Host.negf (headsR z))))))

theorem gate_apply (d z : FVec Ideal S8320x512 .f32) (i : Fin 8320) (h : Fin 4) (j : Fin 128) :
    gateR d z (ix3 i h j)
      = d (ix2 i ⟨h.val * 128 + j.val, by omega⟩) * (z (ix2 i ⟨h.val * 128 + j.val, by omega⟩)
        * Ideal.logistic (z (ix2 i ⟨h.val * 128 + j.val, by omega⟩))) := by
  pointwise [gateR, headsR]
  rfl

/-- A head's mean square, and what is added to it. -/
def msR (o : FVec Ideal S8320x512 .f32) : FVec Ideal S8320x4x1 .f32 :=
  addf (Host.divf (broadcastInDim S8320x4x1 ![0, 1] bcast_S8320x4_S8320x4x1_0_1 (Host.reduceAdd (mulf (headsR o) (headsR o))
      (constant S_ .f32 0x00000000#32) reducesTo_S8320x4x128_S8320x4_d2 h_S_))
    (broadcastInDim S8320x4x1 ![] bcast_S_S8320x4x1 (constant S_ .f32 0x43000000#32)))
    (broadcastInDim S8320x4x1 ![] bcast_S_S8320x4x1 (constant S_ .f32 0x358637BD#32))

/-- The norm's branch of the reference. -/
def normR (o : FVec Ideal S8320x512 .f32) : FVec Ideal S8320x4x128 .f32 :=
  mulf (headsR o) (broadcastInDim S8320x4x128 ![0, 1, 2] bcast_S8320x4x1_S8320x4x128_0_1_2 (Host.rsqrt (msR o)))

theorem norm_apply (o : FVec Ideal S8320x512 .f32) (i : Fin 8320) (h : Fin 4) (j : Fin 128) :
    normR o (ix3 i h j)
      = o (ix2 i ⟨h.val * 128 + j.val, by omega⟩) * rr (fun k => o (ix2 i ⟨h.val * 128 + k.val, by omega⟩)) := by
  unfold rr
  pointwise [normR, msR, headsR]

/-- The gain at every row and head. -/
def gainR (w : FVec Ideal S1x128 .f32) : FVec Ideal S8320x4x128 .f32 :=
  broadcastInDim S8320x4x128 ![0, 1, 2] bcast_S1x1x128_S8320x4x128_0_1_2
    (broadcastInDim S1x1x128 ![2] bcast_S128_S1x1x128_2 (shapeCast S128 w shapeCasts_S1x128_S128))

theorem gain_apply (w : FVec Ideal S1x128 .f32) (i : Fin 8320) (h : Fin 4) (j : Fin 128) : gainR w (ix3 i h j) = w (ix2 0 j) := by
  pointwise [gainR]

/-- What differentiating the mean square passes back, halved. -/
def coefR (o : FVec Ideal S8320x512 .f32) (x : FVec Ideal S8320x4x128 .f32) : FVec Ideal S8320x4x128 .f32 :=
  broadcastInDim S8320x4x128 ![0, 1] bcast_S8320x4_S8320x4x128_0_1 (Host.reduceAdd (Host.divf (mulf
    (shapeCast S8320x4x1 (Host.reduceAdd (mulf (headsR o) x) (constant S_ .f32 0x00000000#32) reducesTo_S8320x4x128_S8320x4_d2 h_S_)
      shapeCasts_S8320x4_S8320x4x1)
    (mulf (broadcastInDim S8320x4x1 ![] bcast_S_S8320x4x1 (constant S_ .f32 0xBF000000#32)) (Host.divf (Host.rsqrt (msR o)) (msR o))))
    (broadcastInDim S8320x4x1 ![] bcast_S_S8320x4x1 (constant S_ .f32 0x43000000#32)))
    (constant S_ .f32 0x00000000#32) reducesTo_S8320x4x1_S8320x4_d2 h_S_)

theorem len_eq : Ideal.ofBits .f32 0x43000000#32 = ((128 : ℝ) : EReal) := by
  simp [Ideal.ofBits, Ideal.ieee, -EReal.coe_mul]; norm_num

/-- The norm's gradient, from that of the normalised rows. -/
def dnormR (o : FVec Ideal S8320x512 .f32) (x : FVec Ideal S8320x4x128 .f32) : FVec Ideal S8320x4x128 .f32 :=
  addf (addf (mulf x (broadcastInDim S8320x4x128 ![0, 1, 2] bcast_S8320x4x1_S8320x4x128_0_1_2 (Host.rsqrt (msR o))))
    (mulf (headsR o) (coefR o x))) (mulf (coefR o x) (headsR o))

theorem dnorm_apply (o : FVec Ideal S8320x512 .f32) (x : FVec Ideal S8320x4x128 .f32) (i : Fin 8320) (h : Fin 4) (j : Fin 128) :
    dnormR o x (ix3 i h j) = NormGrad.dxOf (Ideal.ofBits .f32 0x43000000#32)
      (fun k => o (ix2 i ⟨h.val * 128 + k.val, by omega⟩)) (fun k => x (ix3 i h k)) j := by
  rw [← NormGrad.dx_eqOf (l := 128) (by norm_num) _ len_eq]
  unfold NormGrad.coefOf NormGrad.rrOf NormGrad.msOf NormGrad.eps NormGrad.mhalf
  pointwise [dnormR, coefR, msR, headsR]
  simp only [Fin.sum_univ_one]

theorem flat_apply (x : FVec Ideal S8320x4x128 .f32) (i : Fin 8320) (q : Fin 512) :
    shapeCast S8320x512 x shapeCasts_S8320x4x128_S8320x512 (ix2 i q) = x (ix3 i (headOf q) (colOf q)) := by
  obtain ⟨h, j, e⟩ : ∃ (h : Fin 4) (j : Fin 128), q = ⟨h.val * 128 + j.val, by omega⟩ :=
    ⟨headOf q, colOf q, Fin.ext (by show q.val = q.val / 128 * 128 + q.val % 128; omega)⟩
  rw [(headOf_eq (congrArg Fin.val e)).1, (headOf_eq (congrArg Fin.val e)).2, e]
  pointwise

/-- Ones, and the logistic function of every entry. -/
def oneR : FVec Ideal S8320x512 .f32 := broadcastInDim S8320x512 ![] bcast_S_S8320x512 (constant S_ .f32 0x3F800000#32)
def sigR (z : FVec Ideal S8320x512 .f32) : FVec Ideal S8320x512 .f32 := Host.divf oneR (addf oneR (Host.exp (Host.negf z)))

theorem one_apply (y : S8320x512.Idx) : oneR y = Ideal.ofBits .f32 0x3F800000#32 := by
  obtain ⟨i, q, rfl⟩ : ∃ (i : Fin 8320) (q : Fin 512), y = ix2 i q := ⟨y 0, y 1, eq_ix2 y⟩
  pointwise [oneR]

theorem sig_apply (z : FVec Ideal S8320x512 .f32) (i : Fin 8320) (q : Fin 512) : sigR z (ix2 i q) = Ideal.logistic (z (ix2 i q)) := by
  pointwise [sigR, oneR]
  rfl

/-- One group's gradient of the gate. -/
def dgateR (o d z : FVec Ideal S8320x512 .f32) (w : FVec Ideal S1x128 .f32) : FVec Ideal S8320x512 .f32 :=
  mulf (mulf d (shapeCast S8320x512 (mulf (normR o) (gainR w)) shapeCasts_S8320x4x128_S8320x512))
    (addf (mulf (oneR) (sigR z)) (mulf (mulf z oneR) (mulf (sigR z) (subf oneR (sigR z)))))

theorem dgate_apply (o d z : FVec Ideal S8320x512 .f32) (w : FVec Ideal S1x128 .f32) (i : Fin 8320) (q : Fin 512) :
    dgateR o d z w (ix2 i q) = d (ix2 i q) * (normR o (ix3 i (headOf q) (colOf q)) * gainR w (ix3 i (headOf q) (colOf q)))
      * (Ideal.logistic (z (ix2 i q)) * (Ideal.ofBits .f32 0x3F800000#32
        + z (ix2 i q) * (Ideal.ofBits .f32 0x3F800000#32 - Ideal.logistic (z (ix2 i q))))) := by
  rw [← slope_eq, ← sig_apply z, ← one_apply (ix2 i q)]
  exact congrArg (fun v => d (ix2 i q) * v * _) (flat_apply _ i q)

/-- The sum over rows and heads. -/
theorem sum_apply (x : FVec Ideal S8320x4x128 .f32) (j : Fin 128) :
    broadcastInDim S1x128 ![1] bcast_S128_S1x128_1 (Host.reduceAdd (shapeCast S1x1x128 (Host.reduceAdd x
      (constant S_ .f32 0x00000000#32) reducesTo_S8320x4x128_S128_d0_1 h_S_) shapeCasts_S128_S1x1x128)
      (constant S_ .f32 0x00000000#32) reducesTo_S1x1x128_S128_d0_1 h_S_) (ix2 0 j)
      = ∑ i : Fin 8320, ∑ h : Fin 4, x (ix3 i h j) := by
  pointwise
  refine (Cert.MlpDownLoss.sum_lead _ _ j).trans ?_
  simp only [Fin.sum_univ_one]
  pointwise
  exact Cert.MlpDownLoss.sum_lead _ _ j

/-- One group's reference. -/
def ref (o d z : FVec Ideal S8320x512 .f32) : FVec Ideal S1x128 .f32 :=
  broadcastInDim S1x128 ![1] bcast_S128_S1x128_1 (Host.reduceAdd (shapeCast S1x1x128 (Host.reduceAdd (mulf (normR o) (gateR d z))
    (constant S_ .f32 0x00000000#32) reducesTo_S8320x4x128_S128_d0_1 h_S_) shapeCasts_S128_S1x1x128)
    (constant S_ .f32 0x00000000#32) reducesTo_S1x1x128_S128_d0_1 h_S_)

theorem slice_ct (n : ℕ) (hn : n + 512 ≤ 1024) (d : FVec Ideal S8320x1024 .f32) (hs : S8320x1024.Slices ![0, n] S8320x512)
    (i : Fin 8320) (k : Fin 512) :
    extractStridedSlice S8320x512 ![0, n] d hs (ix2 i k) = d (ix2 i ⟨n + k.val, by omega⟩) := by
  pointwise

theorem slice_gate (g : ℕ) (hg : g + 512 ≤ 3840) (p : FVec Ideal S8320x3840 .bf16) (hs : S8320x3840.Slices ![0, g] S8320x512)
    (i : Fin 8320) (k : Fin 512) :
    extractStridedSlice S8320x512 ![0, g] p hs (ix2 i k) = p (ix2 i ⟨g + k.val, by omega⟩) := by
  pointwise

theorem ref_eq (n g : ℕ) (hn : n + 512 ≤ 1024) (hg : g + 512 ≤ 3840) (d : FVec Ideal S8320x1024 .bf16) (o : FVec Ideal S8320x512 .bf16)
    (p : FVec Ideal S8320x3840 .bf16) (hs : S8320x1024.Slices ![0, n] S8320x512) (hs' : S8320x3840.Slices ![0, g] S8320x512) :
    ref (extf .f32 o bitsLt_bf16_f32) (extractStridedSlice S8320x512 ![0, n] (extf .f32 d bitsLt_bf16_f32) hs)
      (extf .f32 (extractStridedSlice S8320x512 ![0, g] p hs') bitsLt_bf16_f32) = G n g hn hg d o p := by
  funext y
  obtain ⟨i, j, rfl⟩ : ∃ (i : Fin 1) (j : Fin 128), y = ix2 i j := ⟨y 0, y 1, eq_ix2 y⟩
  obtain rfl : i = 0 := Subsingleton.elim _ _
  refine (sum_apply _ j).trans (Finset.sum_congr rfl fun i _ => Finset.sum_congr rfl fun h _ => ?_)
  refine (congrArg₂ (· * ·) (norm_apply _ i h j) (gate_apply _ _ i h j)).trans ((mul_comm _ _).trans ?_)
  have ez : ∀ k, (extf .f32 (extractStridedSlice S8320x512 ![0, g] p hs') bitsLt_bf16_f32 : FVec Ideal S8320x512 .f32) (ix2 i k)
      = p (ix2 i ⟨g + k.val, by omega⟩) := slice_gate g hg p hs' i
  have eo : ∀ h' k, (⟨h'.val * 128 + k.val, by omega⟩ : Fin 512) = at4 512 0 (by omega) h' k :=
    fun h' k => Fin.ext (Nat.zero_add _).symm
  rw [slice_ct n hn, ez]
  simp only [eo]
  rfl

theorem ref_dx (n g : ℕ) (hn : n + 512 ≤ 1024) (hg : g + 512 ≤ 3840) (d : FVec Ideal S8320x1024 .bf16) (o : FVec Ideal S8320x512 .bf16)
    (p : FVec Ideal S8320x3840 .bf16) (w : FVec Ideal S1x128 .f32)
    (hs : S8320x1024.Slices ![0, n] S8320x512) (hs' : S8320x3840.Slices ![0, g] S8320x512) :
    truncf .bf16 (shapeCast S8320x512 (dnormR (extf .f32 o bitsLt_bf16_f32) (mulf (gateR
      (extractStridedSlice S8320x512 ![0, n] (extf .f32 d bitsLt_bf16_f32) hs)
      (extf .f32 (extractStridedSlice S8320x512 ![0, g] p hs') bitsLt_bf16_f32)) (gainR w))) shapeCasts_S8320x4x128_S8320x512) bitsLt_bf16_f32
      = W DX n g hn hg d o p w := by
  funext y
  obtain ⟨i, q, rfl⟩ : ∃ (i : Fin 8320) (q : Fin 512), y = ix2 i q := ⟨y 0, y 1, eq_ix2 y⟩
  refine (flat_apply _ i q).trans ((dnorm_apply _ _ i _ _).trans ?_)
  have ez : ∀ k, (extf .f32 (extractStridedSlice S8320x512 ![0, g] p hs') bitsLt_bf16_f32 : FVec Ideal S8320x512 .f32) (ix2 i k)
      = p (ix2 i ⟨g + k.val, by omega⟩) := slice_gate g hg p hs' i
  have eo : ∀ h' k, (⟨h'.val * 128 + k.val, by omega⟩ : Fin 512) = at4 512 0 (by omega) h' k :=
    fun h' k => Fin.ext (Nat.zero_add _).symm
  have ed : ∀ k, mulf (gateR (extractStridedSlice S8320x512 ![0, n] (extf .f32 d bitsLt_bf16_f32) hs)
      (extf .f32 (extractStridedSlice S8320x512 ![0, g] p hs') bitsLt_bf16_f32)) (gainR w) (ix3 i (headOf q) k)
      = d (ix2 i (at4 1024 n hn (headOf q) k)) * (p (ix2 i (at4 3840 g hg (headOf q) k))
        * Ideal.logistic (p (ix2 i (at4 3840 g hg (headOf q) k)))) * w (ix2 0 k) := fun k => by
    refine (congrArg₂ (· * ·) (gate_apply _ _ i _ k) (gain_apply w i _ k)).trans ?_
    rw [slice_ct n hn, ez]
    rfl
  simp only [ed, eo]
  rfl

theorem ref_dz (n g : ℕ) (hn : n + 512 ≤ 1024) (hg : g + 512 ≤ 3840) (d : FVec Ideal S8320x1024 .bf16) (o : FVec Ideal S8320x512 .bf16)
    (p : FVec Ideal S8320x3840 .bf16) (w : FVec Ideal S1x128 .f32)
    (hs : S8320x1024.Slices ![0, n] S8320x512) (hs' : S8320x3840.Slices ![0, g] S8320x512) :
    truncf .bf16 (dgateR (extf .f32 o bitsLt_bf16_f32) (extractStridedSlice S8320x512 ![0, n] (extf .f32 d bitsLt_bf16_f32) hs)
      (extf .f32 (extractStridedSlice S8320x512 ![0, g] p hs') bitsLt_bf16_f32) w) bitsLt_bf16_f32
      = W DZ n g hn hg d o p w := by
  funext y
  obtain ⟨i, q, rfl⟩ : ∃ (i : Fin 8320) (q : Fin 512), y = ix2 i q := ⟨y 0, y 1, eq_ix2 y⟩
  refine (dgate_apply _ _ _ w i q).trans ?_
  have ez : ∀ k, (extf .f32 (extractStridedSlice S8320x512 ![0, g] p hs') bitsLt_bf16_f32 : FVec Ideal S8320x512 .f32) (ix2 i k)
      = p (ix2 i ⟨g + k.val, by omega⟩) := slice_gate g hg p hs' i
  have eo : ∀ h' k, (⟨h'.val * 128 + k.val, by omega⟩ : Fin 512) = at4 512 0 (by omega) h' k :=
    fun h' k => Fin.ext (Nat.zero_add _).symm
  have e4 : ∀ N n (hn : n + 512 ≤ N), (⟨n + q.val, by omega⟩ : Fin N) = at4 N n hn (headOf q) (colOf q) := fun N n hn =>
    Fin.ext (by show n + q.val = n + (q.val / 128 * 128 + q.val % 128); omega)
  rw [slice_ct n hn, ez, norm_apply, gain_apply, e4 3840 g hg, e4 1024 n hn]
  simp only [eo]
  rfl

end

theorem frame_reference : Cert.quiescent_Reference26Ideal := fun m ρ _ =>
  (θ_run Cert.Reference26Ideal.defs _ _).mono
    (fun r h => ⟨fun c => (h c).2.2.2.2.2.2, sem_eq_zero_of_no_sems (by decide) r.2⟩)
    (Cert.Reference26Ideal.Value.run m ρ)

theorem algebraic : Cert.algebraic_Kernel26Ideal_Reference26Ideal := by
  intro m ρ m' ρ' _ hagree
  refine ⟨fun c => WD m c DX, fun c => WD m c DZ, fun c => WG m c DX, fun c => WG m c DZ,
    fun c => G 0 1536 (by omega) (by omega) (m ((c : Thread Cert.Kernel26Ideal.nD Cert.Kernel26Ideal.τ).loc Cert.Kernel26Ideal.main_arg0))
      (m ((c : Thread Cert.Kernel26Ideal.nD Cert.Kernel26Ideal.τ).loc Cert.Kernel26Ideal.main_arg1))
      (m ((c : Thread Cert.Kernel26Ideal.nD Cert.Kernel26Ideal.τ).loc Cert.Kernel26Ideal.main_arg3)),
    fun c => G 512 3072 (by omega) (by omega) (m ((c : Thread Cert.Kernel26Ideal.nD Cert.Kernel26Ideal.τ).loc Cert.Kernel26Ideal.main_arg0))
      (m ((c : Thread Cert.Kernel26Ideal.nD Cert.Kernel26Ideal.τ).loc Cert.Kernel26Ideal.main_arg2))
      (m ((c : Thread Cert.Kernel26Ideal.nD Cert.Kernel26Ideal.τ).loc Cert.Kernel26Ideal.main_arg3)), ?_, ?_⟩
  · refine (θ_run Cert.Kernel26Ideal.defs _ _).mono (fun r h c => ?_) (Cert.Kernel26Ideal.Value.run_blocks m ρ)
    obtain ⟨h0, h1, h2, h3, h4, h5, hk⟩ := h c
    exact ⟨h0.trans (arr7 m c), h1.trans (arr8 m c), h2.trans (arr9 m c), h3.trans (arr10 m c), h4.trans (arr11 m c),
      h5.trans (arr12 m c), hk⟩
  · refine (θ_run Cert.Reference26Ideal.defs _ _).mono (fun r h c => ?_) (Cert.Reference26Ideal.Value.run m' ρ')
    obtain ⟨h0, h1, h2, h3, h4, h5, hk⟩ := h c
    obtain ⟨e0, e1, e2, e3, e4, e5⟩ := hagree c
    refine ⟨h0.trans ?_, h1.trans ?_, h2.trans ?_, h3.trans ?_, h4.trans ?_, h5.trans ?_, hk⟩
    · beta_reduce
      unfold WD
      rw [← e0, ← e1, ← e3, ← e4]
      exact ref_dx 0 1536 (by omega) (by omega) (m' ((c : Thread Cert.Reference26Ideal.nD Cert.Reference26Ideal.τ).loc Cert.Reference26Ideal.main_arg0))
        (m' ((c : Thread Cert.Reference26Ideal.nD Cert.Reference26Ideal.τ).loc Cert.Reference26Ideal.main_arg1))
        (m' ((c : Thread Cert.Reference26Ideal.nD Cert.Reference26Ideal.τ).loc Cert.Reference26Ideal.main_arg3))
        (m' ((c : Thread Cert.Reference26Ideal.nD Cert.Reference26Ideal.τ).loc Cert.Reference26Ideal.main_arg4)) _ _
    · beta_reduce
      unfold WD
      rw [← e0, ← e1, ← e3, ← e4]
      exact ref_dz 0 1536 (by omega) (by omega) (m' ((c : Thread Cert.Reference26Ideal.nD Cert.Reference26Ideal.τ).loc Cert.Reference26Ideal.main_arg0))
        (m' ((c : Thread Cert.Reference26Ideal.nD Cert.Reference26Ideal.τ).loc Cert.Reference26Ideal.main_arg1))
        (m' ((c : Thread Cert.Reference26Ideal.nD Cert.Reference26Ideal.τ).loc Cert.Reference26Ideal.main_arg3))
        (m' ((c : Thread Cert.Reference26Ideal.nD Cert.Reference26Ideal.τ).loc Cert.Reference26Ideal.main_arg4)) _ _
    · beta_reduce
      unfold WG
      rw [← e0, ← e2, ← e3, ← e5]
      exact ref_dx 512 3072 (by omega) (by omega) (m' ((c : Thread Cert.Reference26Ideal.nD Cert.Reference26Ideal.τ).loc Cert.Reference26Ideal.main_arg0))
        (m' ((c : Thread Cert.Reference26Ideal.nD Cert.Reference26Ideal.τ).loc Cert.Reference26Ideal.main_arg2))
        (m' ((c : Thread Cert.Reference26Ideal.nD Cert.Reference26Ideal.τ).loc Cert.Reference26Ideal.main_arg3))
        (m' ((c : Thread Cert.Reference26Ideal.nD Cert.Reference26Ideal.τ).loc Cert.Reference26Ideal.main_arg5)) _ _
    · beta_reduce
      unfold WG
      rw [← e0, ← e2, ← e3, ← e5]
      exact ref_dz 512 3072 (by omega) (by omega) (m' ((c : Thread Cert.Reference26Ideal.nD Cert.Reference26Ideal.τ).loc Cert.Reference26Ideal.main_arg0))
        (m' ((c : Thread Cert.Reference26Ideal.nD Cert.Reference26Ideal.τ).loc Cert.Reference26Ideal.main_arg2))
        (m' ((c : Thread Cert.Reference26Ideal.nD Cert.Reference26Ideal.τ).loc Cert.Reference26Ideal.main_arg3))
        (m' ((c : Thread Cert.Reference26Ideal.nD Cert.Reference26Ideal.τ).loc Cert.Reference26Ideal.main_arg5)) _ _
    · beta_reduce
      rw [← e0, ← e1, ← e3]
      exact ref_eq 0 1536 (by omega) (by omega) (m' ((c : Thread Cert.Reference26Ideal.nD Cert.Reference26Ideal.τ).loc Cert.Reference26Ideal.main_arg0))
        (m' ((c : Thread Cert.Reference26Ideal.nD Cert.Reference26Ideal.τ).loc Cert.Reference26Ideal.main_arg1))
        (m' ((c : Thread Cert.Reference26Ideal.nD Cert.Reference26Ideal.τ).loc Cert.Reference26Ideal.main_arg3)) _ _
    · beta_reduce
      rw [← e0, ← e2, ← e3]
      exact ref_eq 512 3072 (by omega) (by omega) (m' ((c : Thread Cert.Reference26Ideal.nD Cert.Reference26Ideal.τ).loc Cert.Reference26Ideal.main_arg0))
        (m' ((c : Thread Cert.Reference26Ideal.nD Cert.Reference26Ideal.τ).loc Cert.Reference26Ideal.main_arg2))
        (m' ((c : Thread Cert.Reference26Ideal.nD Cert.Reference26Ideal.τ).loc Cert.Reference26Ideal.main_arg3)) _ _

end Cert.GatedNormGain
-- ==== Proof.lean ====
module

public import proofs.«01_k».proof.Defs
public import proofs.«01_k».proof.Proof.Claims
public import proofs.«01_k».proof.Proof.WUpGrad
public import proofs.«01_k».proof.Proof.WDownGrad
public import proofs.«01_k».proof.Proof.MlpUp
public import proofs.«01_k».proof.Proof.MlpDownBwd
public import proofs.«01_k».proof.Proof.MlpUpBwd
public import proofs.«01_k».proof.Proof.MlpDownLoss
public import proofs.«01_k».proof.Proof.InProj
public import proofs.«01_k».proof.Proof.WInGradLo
public import proofs.«01_k».proof.Proof.WInGradHi
public import proofs.«01_k».proof.Proof.OutProjNorm
public import proofs.«01_k».proof.Proof.OutProjBwd
public import proofs.«01_k».proof.Proof.WOutGrad
public import proofs.«01_k».proof.Proof.AdamMeta
public import proofs.«01_k».proof.Proof.AdamGain
public import proofs.«01_k».proof.Proof.AdamWIn
public import proofs.«01_k».proof.Proof.AdamConv
public import proofs.«01_k».proof.Proof.AdamDecay
public import proofs.«01_k».proof.Proof.AdamHeadGain
public import proofs.«01_k».proof.Proof.AdamGate
public import proofs.«01_k».proof.Proof.AdamBias
public import proofs.«01_k».proof.Proof.AdamWOut
public import proofs.«01_k».proof.Proof.AdamMlp
public import proofs.«01_k».proof.Proof.GatedNormGain

@[expose] public section

noncomputable section

namespace Cert.Proof

theorem claim : Cert.Claim := ⟨
  Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Pre_squares_are_normal.Gen.facts,
  Cert.GlaBwd.frame_kernel, Cert.GlaBwd.frame_ideal, Cert.GlaBwd.frame_reference,
  Cert.WUpGrad.frame_kernel, Cert.WUpGrad.frame_ideal, Cert.WUpGrad.frame_reference,
  Cert.WDownGrad.frame_kernel, Cert.WDownGrad.frame_ideal, Cert.WDownGrad.frame_reference,
  Cert.MlpUp.frame_kernel, Cert.MlpUp.frame_ideal, Cert.MlpUp.frame_reference,
  Cert.MlpDownBwd.frame_kernel, Cert.MlpDownBwd.frame_ideal, Cert.MlpDownBwd.frame_ideal_pre,
  Cert.MlpDownBwd.frame_reference, Cert.MlpDownBwd.frame_reference_pre, Cert.MlpUpBwd.frame_kernel,
  Cert.MlpUpBwd.frame_ideal, Cert.MlpUpBwd.frame_reference, Cert.MlpDownLoss.frame_kernel,
  Cert.MlpDownLoss.frame_ideal, Cert.MlpDownLoss.frame_reference, Cert.InProj.frame_kernel,
  Cert.InProj.frame_ideal, Cert.InProj.frame_reference, Cert.WInGradLo.frame_kernel,
  Cert.WInGradLo.frame_ideal, Cert.WInGradLo.frame_reference, Cert.WInGradHi.frame_kernel,
  Cert.WInGradHi.frame_ideal, Cert.WInGradHi.frame_reference, Cert.OutProjNorm.frame_kernel,
  Cert.OutProjNorm.frame_ideal, Cert.OutProjNorm.frame_reference, Cert.OutProjBwd.frame_kernel,
  Cert.OutProjBwd.frame_ideal, Cert.OutProjBwd.frame_reference, Cert.WOutGrad.frame_kernel,
  Cert.WOutGrad.frame_ideal, Cert.WOutGrad.frame_reference, Cert.AdamMeta.frame_kernel,
  Cert.AdamMeta.frame_ideal, Cert.AdamMeta.frame_reference, Cert.AdamGain.frame_kernel,
  Cert.AdamGain.frame_ideal, Cert.AdamGain.frame_reference, Cert.AdamWIn.frame_kernel,
  Cert.AdamWIn.frame_ideal, Cert.AdamWIn.frame_reference, Cert.AdamConv.frame_kernel,
  Cert.AdamConv.frame_ideal, Cert.AdamConv.frame_reference, Cert.AdamDecay.frame_kernel,
  Cert.AdamDecay.frame_ideal, Cert.AdamDecay.frame_reference, Cert.AdamHeadGain.frame_kernel,
  Cert.AdamHeadGain.frame_ideal, Cert.AdamHeadGain.frame_reference, Cert.AdamGate.frame_kernel,
  Cert.AdamGate.frame_ideal, Cert.AdamGate.frame_reference, Cert.AdamBias.frame_kernel,
  Cert.AdamBias.frame_ideal, Cert.AdamBias.frame_reference, Cert.AdamWOut.frame_kernel,
  Cert.AdamWOut.frame_ideal, Cert.AdamWOut.frame_reference, Cert.AdamMlp.frame_kernel,
  Cert.AdamMlp.frame_ideal, Cert.AdamMlp.frame_reference, Cert.GatedNormGain.frame_kernel,
  Cert.GatedNormGain.frame_ideal, Cert.GatedNormGain.frame_reference,
  trivial, Cert.GlaBwd.algebraic, trivial,
  Cert.WUpGrad.algebraic, trivial, Cert.WDownGrad.algebraic,
  trivial, Cert.MlpUp.algebraic, trivial,
  Cert.MlpDownBwd.algebraic, trivial, Cert.MlpUpBwd.algebraic,
  trivial, Cert.MlpDownLoss.algebraic, trivial,
  Cert.InProj.algebraic, trivial, Cert.WInGradLo.algebraic,
  trivial, Cert.WInGradHi.algebraic, trivial,
  Cert.OutProjNorm.algebraic, trivial, Cert.OutProjBwd.algebraic,
  trivial, Cert.WOutGrad.algebraic, trivial,
  Cert.AdamMeta.algebraic, trivial, Cert.AdamGain.algebraic,
  trivial, Cert.AdamWIn.algebraic, trivial,
  Cert.AdamConv.algebraic, trivial, Cert.AdamDecay.algebraic,
  trivial, Cert.AdamHeadGain.algebraic, trivial,
  Cert.AdamGate.algebraic, trivial, Cert.AdamBias.algebraic,
  trivial, Cert.AdamWOut.algebraic, trivial,
  Cert.AdamMlp.algebraic, trivial, Cert.GatedNormGain.algebraic⟩

end Cert.Proof

end
